-- ==== Defs.lean ====
def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_KernelBIdeal_finite_b [hPre_finite_b : Cert.Pre_finite_b.Facts] (m : (ℓ : Loc Cert.KernelBIdeal.nD Cert.KernelBIdeal.τ Cert.KernelBIdeal.sig) → Buf (Elt Ideal) ℓ) : Prop :=
  ∀ c : Dev Cert.KernelBIdeal.nD,
    (Cert.Pre_finite_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7)) (m ((c.tc : Thread Cert.KernelBIdeal.nD Cert.KernelBIdeal.τ).loc Cert.KernelBIdeal.main_arg8)) (m ((c.tc : Thread Cert.KernelBIdeal.nD Cert.KernelBIdeal.τ).loc Cert.KernelBIdeal.main_arg9))) = (fun _ => 1#1)

def Pre_ReferenceBIdeal (m : (ℓ : Loc Cert.ReferenceBIdeal.nD Cert.ReferenceBIdeal.τ Cert.ReferenceBIdeal.sig) → Buf (Elt Ideal) ℓ) : Prop :=
  True

def Pre_ReferenceBIdeal_finite_b [hPre_finite_b : Cert.Pre_finite_b.Facts] (m : (ℓ : Loc Cert.ReferenceBIdeal.nD Cert.ReferenceBIdeal.τ Cert.ReferenceBIdeal.sig) → Buf (Elt Ideal) ℓ) : Prop :=
  ∀ c : Dev Cert.ReferenceBIdeal.nD,
    (Cert.Pre_finite_b.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6)) (m ((c.tc : Thread Cert.ReferenceBIdeal.nD Cert.ReferenceBIdeal.τ).loc Cert.ReferenceBIdeal.main_arg7)) (m ((c.tc : Thread Cert.ReferenceBIdeal.nD Cert.ReferenceBIdeal.τ).loc Cert.ReferenceBIdeal.main_arg8)) (m ((c.tc : Thread Cert.ReferenceBIdeal.nD Cert.ReferenceBIdeal.τ).loc Cert.ReferenceBIdeal.main_arg9))) = (fun _ => 1#1)

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_KernelAIdeal_finite_a [hPre_finite_a : Cert.Pre_finite_a.Facts] (m : (ℓ : Loc Cert.KernelAIdeal.nD Cert.KernelAIdeal.τ Cert.KernelAIdeal.sig) → Buf (Elt Ideal) ℓ) : Prop :=
  ∀ c : Dev Cert.KernelAIdeal.nD,
    (Cert.Pre_finite_a.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4))) = (fun _ => 1#1)

def Pre_ReferenceAIdeal (m : (ℓ : Loc Cert.ReferenceAIdeal.nD Cert.ReferenceAIdeal.τ Cert.ReferenceAIdeal.sig) → Buf (Elt Ideal) ℓ) : Prop :=
  True

def Pre_ReferenceAIdeal_finite_a [hPre_finite_a : Cert.Pre_finite_a.Facts] (m : (ℓ : Loc Cert.ReferenceAIdeal.nD Cert.ReferenceAIdeal.τ Cert.ReferenceAIdeal.sig) → Buf (Elt Ideal) ℓ) : Prop :=
  ∀ c : Dev Cert.ReferenceAIdeal.nD,
    (Cert.Pre_finite_a.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4))) = (fun _ => 1#1)

def Pre_KernelM (m : (ℓ : Loc Cert.KernelM.nD Cert.KernelM.τ Cert.KernelM.sig) → Buf (Elt Bits) ℓ) : Prop :=
  True

def Pre_KernelMIdeal (m : (ℓ : Loc Cert.KernelMIdeal.nD Cert.KernelMIdeal.τ Cert.KernelMIdeal.sig) → Buf (Elt Ideal) ℓ) : Prop :=
  True

def Pre_ReferenceMIdeal (m : (ℓ : Loc Cert.ReferenceMIdeal.nD Cert.ReferenceMIdeal.τ Cert.ReferenceMIdeal.sig) → Buf (Elt Ideal) ℓ) : Prop :=
  True

def Pre_KernelF (m : (ℓ : Loc Cert.KernelF.nD Cert.KernelF.τ Cert.KernelF.sig) → Buf (Elt Bits) ℓ) : Prop :=
  True

def Pre_KernelFIdeal (m : (ℓ : Loc Cert.KernelFIdeal.nD Cert.KernelFIdeal.τ Cert.KernelFIdeal.sig) → Buf (Elt Ideal) ℓ) : Prop :=
  True

def Pre_KernelFIdeal_finite_f [hPre_finite_f : Cert.Pre_finite_f.Facts] (m : (ℓ : Loc Cert.KernelFIdeal.nD Cert.KernelFIdeal.τ Cert.KernelFIdeal.sig) → Buf (Elt Ideal) ℓ) : Prop :=
  ∀ c : Dev Cert.KernelFIdeal.nD,
    (Cert.Pre_finite_f.fn (F := Ideal) (m ((c.tc : Thread Cert.KernelFIdeal.nD Cert.KernelFIdeal.τ).loc Cert.KernelFIdeal.main_arg0)) (m ((c.tc : Thread Cert.KernelFIdeal.nD Cert.KernelFIdeal.τ).loc Cert.KernelFIdeal.main_arg1)) (m ((c.tc : Thread Cert.KernelFIdeal.nD Cert.KernelFIdeal.τ).loc Cert.KernelFIdeal.main_arg2)) (m ((c.tc : Thread Cert.KernelFIdeal.nD Cert.KernelFIdeal.τ).loc Cert.KernelFIdeal.main_arg3)) (m ((c.tc : Thread Cert.KernelFIdeal.nD Cert.KernelFIdeal.τ).loc Cert.KernelFIdeal.main_arg4)) (m ((c.tc : Thread Cert.KernelFIdeal.nD Cert.KernelFIdeal.τ).loc Cert.KernelFIdeal.main_arg5)) (m ((c.tc : Thread Cert.KernelFIdeal.nD Cert.KernelFIdeal.τ).loc Cert.KernelFIdeal.main_arg6)) (m ((c.tc : Thread Cert.KernelFIdeal.nD Cert.KernelFIdeal.τ).loc Cert.KernelFIdeal.main_arg7)) (m ((c.tc : Thread Cert.KernelFIdeal.nD Cert.KernelFIdeal.τ).loc Cert.KernelFIdeal.main_arg8))) = (fun _ => 1#1)

def Pre_ReferenceFIdeal (m : (ℓ : Loc Cert.ReferenceFIdeal.nD Cert.ReferenceFIdeal.τ Cert.ReferenceFIdeal.sig) → Buf (Elt Ideal) ℓ) : Prop :=
  True

def Pre_ReferenceFIdeal_finite_f [hPre_finite_f : Cert.Pre_finite_f.Facts] (m : (ℓ : Loc Cert.ReferenceFIdeal.nD Cert.ReferenceFIdeal.τ Cert.ReferenceFIdeal.sig) → Buf (Elt Ideal) ℓ) : Prop :=
  ∀ c : Dev Cert.ReferenceFIdeal.nD,
    (Cert.Pre_finite_f.fn (F := Ideal) (m ((c.tc : Thread Cert.ReferenceFIdeal.nD Cert.ReferenceFIdeal.τ).loc Cert.ReferenceFIdeal.main_arg0)) (m ((c.tc : Thread Cert.ReferenceFIdeal.nD Cert.ReferenceFIdeal.τ).loc Cert.ReferenceFIdeal.main_arg1)) (m ((c.tc : Thread Cert.ReferenceFIdeal.nD Cert.ReferenceFIdeal.τ).loc Cert.ReferenceFIdeal.main_arg2)) (m ((c.tc : Thread Cert.ReferenceFIdeal.nD Cert.ReferenceFIdeal.τ).loc Cert.ReferenceFIdeal.main_arg3)) (m ((c.tc : Thread Cert.ReferenceFIdeal.nD Cert.ReferenceFIdeal.τ).loc Cert.ReferenceFIdeal.main_arg4)) (m ((c.tc : Thread Cert.ReferenceFIdeal.nD Cert.ReferenceFIdeal.τ).loc Cert.ReferenceFIdeal.main_arg5)) (m ((c.tc : Thread Cert.ReferenceFIdeal.nD Cert.ReferenceFIdeal.τ).loc Cert.ReferenceFIdeal.main_arg6)) (m ((c.tc : Thread Cert.ReferenceFIdeal.nD Cert.ReferenceFIdeal.τ).loc Cert.ReferenceFIdeal.main_arg7)) (m ((c.tc : Thread Cert.ReferenceFIdeal.nD Cert.ReferenceFIdeal.τ).loc Cert.ReferenceFIdeal.main_arg8))) = (fun _ => 1#1)

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelE (m : (ℓ : Loc Cert.KernelE.nD Cert.KernelE.τ Cert.KernelE.sig) → Buf (Elt Bits) ℓ) : Prop :=
  True

def Pre_KernelEIdeal (m : (ℓ : Loc Cert.KernelEIdeal.nD Cert.KernelEIdeal.τ Cert.KernelEIdeal.sig) → Buf (Elt Ideal) ℓ) : Prop :=
  True

def Pre_ReferenceEIdeal (m : (ℓ : Loc Cert.ReferenceEIdeal.nD Cert.ReferenceEIdeal.τ Cert.ReferenceEIdeal.sig) → Buf (Elt Ideal) ℓ) : Prop :=
  True

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2)
      ∧ r.2.mem ((c.tc : Thread Cert.KernelB.nD Cert.KernelB.τ).loc Cert.KernelB.main_arg3) = m ((c.tc : Thread Cert.KernelB.nD Cert.KernelB.τ).loc Cert.KernelB.main_arg3)
      ∧ r.2.mem ((c.tc : Thread Cert.KernelB.nD Cert.KernelB.τ).loc Cert.KernelB.main_arg4) = m ((c.tc : Thread Cert.KernelB.nD Cert.KernelB.τ).loc Cert.KernelB.main_arg4)
      ∧ r.2.mem ((c.tc : Thread Cert.KernelB.nD Cert.KernelB.τ).loc Cert.KernelB.main_arg5) = m ((c.tc : Thread Cert.KernelB.nD Cert.KernelB.τ).loc Cert.KernelB.main_arg5)
      ∧ r.2.mem ((c.tc : Thread Cert.KernelB.nD Cert.KernelB.τ).loc Cert.KernelB.main_arg6) = m ((c.tc : Thread Cert.KernelB.nD Cert.KernelB.τ).loc Cert.KernelB.main_arg6)
      ∧ r.2.mem ((c.tc : Thread Cert.KernelB.nD Cert.KernelB.τ).loc Cert.KernelB.main_arg7) = m ((c.tc : Thread Cert.KernelB.nD Cert.KernelB.τ).loc Cert.KernelB.main_arg7)
      ∧ r.2.mem ((c.tc : Thread Cert.KernelB.nD Cert.KernelB.τ).loc Cert.KernelB.main_arg8) = m ((c.tc : Thread Cert.KernelB.nD Cert.KernelB.τ).loc Cert.KernelB.main_arg8)
      ∧ r.2.mem ((c.tc : Thread Cert.KernelB.nD Cert.KernelB.τ).loc Cert.KernelB.main_arg9) = m ((c.tc : Thread Cert.KernelB.nD Cert.KernelB.τ).loc Cert.KernelB.main_arg9))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
      ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
      ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
      ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7)
      ∧ r.2.mem ((c.tc : Thread Cert.KernelBIdeal.nD Cert.KernelBIdeal.τ).loc Cert.KernelBIdeal.main_arg8) = m ((c.tc : Thread Cert.KernelBIdeal.nD Cert.KernelBIdeal.τ).loc Cert.KernelBIdeal.main_arg8)
      ∧ r.2.mem ((c.tc : Thread Cert.KernelBIdeal.nD Cert.KernelBIdeal.τ).loc Cert.KernelBIdeal.main_arg9) = m ((c.tc : Thread Cert.KernelBIdeal.nD Cert.KernelBIdeal.τ).loc Cert.KernelBIdeal.main_arg9))
      ∧ r.2.sem = fun _ => 0)

def quiescent_KernelBIdeal_pre_finite_b [hKernelBIdeal : Cert.KernelBIdeal.Facts] [hPre_finite_b : Cert.Pre_finite_b.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal_finite_b m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
      ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
      ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
      ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7)
      ∧ r.2.mem ((c.tc : Thread Cert.KernelBIdeal.nD Cert.KernelBIdeal.τ).loc Cert.KernelBIdeal.main_arg8) = m ((c.tc : Thread Cert.KernelBIdeal.nD Cert.KernelBIdeal.τ).loc Cert.KernelBIdeal.main_arg8)
      ∧ r.2.mem ((c.tc : Thread Cert.KernelBIdeal.nD Cert.KernelBIdeal.τ).loc Cert.KernelBIdeal.main_arg9) = m ((c.tc : Thread Cert.KernelBIdeal.nD Cert.KernelBIdeal.τ).loc Cert.KernelBIdeal.main_arg9))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3)
      ∧ r.2.mem ((c.tc : Thread Cert.ReferenceBIdeal.nD Cert.ReferenceBIdeal.τ).loc Cert.ReferenceBIdeal.main_arg4) = m ((c.tc : Thread Cert.ReferenceBIdeal.nD Cert.ReferenceBIdeal.τ).loc Cert.ReferenceBIdeal.main_arg4)
      ∧ r.2.mem ((c.tc : Thread Cert.ReferenceBIdeal.nD Cert.ReferenceBIdeal.τ).loc Cert.ReferenceBIdeal.main_arg5) = m ((c.tc : Thread Cert.ReferenceBIdeal.nD Cert.ReferenceBIdeal.τ).loc Cert.ReferenceBIdeal.main_arg5)
      ∧ r.2.mem ((c.tc : Thread Cert.ReferenceBIdeal.nD Cert.ReferenceBIdeal.τ).loc Cert.ReferenceBIdeal.main_arg6) = m ((c.tc : Thread Cert.ReferenceBIdeal.nD Cert.ReferenceBIdeal.τ).loc Cert.ReferenceBIdeal.main_arg6)
      ∧ r.2.mem ((c.tc : Thread Cert.ReferenceBIdeal.nD Cert.ReferenceBIdeal.τ).loc Cert.ReferenceBIdeal.main_arg7) = m ((c.tc : Thread Cert.ReferenceBIdeal.nD Cert.ReferenceBIdeal.τ).loc Cert.ReferenceBIdeal.main_arg7)
      ∧ r.2.mem ((c.tc : Thread Cert.ReferenceBIdeal.nD Cert.ReferenceBIdeal.τ).loc Cert.ReferenceBIdeal.main_arg8) = m ((c.tc : Thread Cert.ReferenceBIdeal.nD Cert.ReferenceBIdeal.τ).loc Cert.ReferenceBIdeal.main_arg8)
      ∧ r.2.mem ((c.tc : Thread Cert.ReferenceBIdeal.nD Cert.ReferenceBIdeal.τ).loc Cert.ReferenceBIdeal.main_arg9) = m ((c.tc : Thread Cert.ReferenceBIdeal.nD Cert.ReferenceBIdeal.τ).loc Cert.ReferenceBIdeal.main_arg9))
      ∧ r.2.sem = fun _ => 0)

def quiescent_ReferenceBIdeal_pre_finite_b [hReferenceBIdeal : Cert.ReferenceBIdeal.Facts] [hPre_finite_b : Cert.Pre_finite_b.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal_finite_b m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3)
      ∧ r.2.mem ((c.tc : Thread Cert.ReferenceBIdeal.nD Cert.ReferenceBIdeal.τ).loc Cert.ReferenceBIdeal.main_arg4) = m ((c.tc : Thread Cert.ReferenceBIdeal.nD Cert.ReferenceBIdeal.τ).loc Cert.ReferenceBIdeal.main_arg4)
      ∧ r.2.mem ((c.tc : Thread Cert.ReferenceBIdeal.nD Cert.ReferenceBIdeal.τ).loc Cert.ReferenceBIdeal.main_arg5) = m ((c.tc : Thread Cert.ReferenceBIdeal.nD Cert.ReferenceBIdeal.τ).loc Cert.ReferenceBIdeal.main_arg5)
      ∧ r.2.mem ((c.tc : Thread Cert.ReferenceBIdeal.nD Cert.ReferenceBIdeal.τ).loc Cert.ReferenceBIdeal.main_arg6) = m ((c.tc : Thread Cert.ReferenceBIdeal.nD Cert.ReferenceBIdeal.τ).loc Cert.ReferenceBIdeal.main_arg6)
      ∧ r.2.mem ((c.tc : Thread Cert.ReferenceBIdeal.nD Cert.ReferenceBIdeal.τ).loc Cert.ReferenceBIdeal.main_arg7) = m ((c.tc : Thread Cert.ReferenceBIdeal.nD Cert.ReferenceBIdeal.τ).loc Cert.ReferenceBIdeal.main_arg7)
      ∧ r.2.mem ((c.tc : Thread Cert.ReferenceBIdeal.nD Cert.ReferenceBIdeal.τ).loc Cert.ReferenceBIdeal.main_arg8) = m ((c.tc : Thread Cert.ReferenceBIdeal.nD Cert.ReferenceBIdeal.τ).loc Cert.ReferenceBIdeal.main_arg8)
      ∧ r.2.mem ((c.tc : Thread Cert.ReferenceBIdeal.nD Cert.ReferenceBIdeal.τ).loc Cert.ReferenceBIdeal.main_arg9) = m ((c.tc : Thread Cert.ReferenceBIdeal.nD Cert.ReferenceBIdeal.τ).loc Cert.ReferenceBIdeal.main_arg9))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2)
      ∧ r.2.mem ((c.tc : Thread Cert.KernelA.nD Cert.KernelA.τ).loc Cert.KernelA.main_arg3) = m ((c.tc : Thread Cert.KernelA.nD Cert.KernelA.τ).loc Cert.KernelA.main_arg3)
      ∧ r.2.mem ((c.tc : Thread Cert.KernelA.nD Cert.KernelA.τ).loc Cert.KernelA.main_arg4) = m ((c.tc : Thread Cert.KernelA.nD Cert.KernelA.τ).loc Cert.KernelA.main_arg4))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
      ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4))
      ∧ r.2.sem = fun _ => 0)

def quiescent_KernelAIdeal_pre_finite_a [hKernelAIdeal : Cert.KernelAIdeal.Facts] [hPre_finite_a : Cert.Pre_finite_a.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal_finite_a m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
      ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3)
      ∧ r.2.mem ((c.tc : Thread Cert.ReferenceAIdeal.nD Cert.ReferenceAIdeal.τ).loc Cert.ReferenceAIdeal.main_arg4) = m ((c.tc : Thread Cert.ReferenceAIdeal.nD Cert.ReferenceAIdeal.τ).loc Cert.ReferenceAIdeal.main_arg4))
      ∧ r.2.sem = fun _ => 0)

def quiescent_ReferenceAIdeal_pre_finite_a [hReferenceAIdeal : Cert.ReferenceAIdeal.Facts] [hPre_finite_a : Cert.Pre_finite_a.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal_finite_a m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3)
      ∧ r.2.mem ((c.tc : Thread Cert.ReferenceAIdeal.nD Cert.ReferenceAIdeal.τ).loc Cert.ReferenceAIdeal.main_arg4) = m ((c.tc : Thread Cert.ReferenceAIdeal.nD Cert.ReferenceAIdeal.τ).loc Cert.ReferenceAIdeal.main_arg4))
      ∧ r.2.sem = fun _ => 0)

def quiescent_KernelM [hKernelM : Cert.KernelM.Facts] : Prop :=
  ∀ (m : (ℓ : Loc Cert.KernelM.nD Cert.KernelM.τ Cert.KernelM.sig) → Buf (Elt Bits) ℓ) (g : Dev Cert.KernelM.nD → PrngReg), Pre_KernelM m →
    θ_run (Cert.KernelM.defs (F := Bits)) (onTc (τ := Cert.KernelM.τ) (Cert.KernelM.main (F := Bits))) ⟨m, fun _ => 0, g⟩ (fun r => (∀ c : Dev Cert.KernelM.nD,
      r.2.mem ((c.tc : Thread Cert.KernelM.nD Cert.KernelM.τ).loc Cert.KernelM.main_arg0) = m ((c.tc : Thread Cert.KernelM.nD Cert.KernelM.τ).loc Cert.KernelM.main_arg0)
      ∧ r.2.mem ((c.tc : Thread Cert.KernelM.nD Cert.KernelM.τ).loc Cert.KernelM.main_arg1) = m ((c.tc : Thread Cert.KernelM.nD Cert.KernelM.τ).loc Cert.KernelM.main_arg1)
      ∧ r.2.mem ((c.tc : Thread Cert.KernelM.nD Cert.KernelM.τ).loc Cert.KernelM.main_arg2) = m ((c.tc : Thread Cert.KernelM.nD Cert.KernelM.τ).loc Cert.KernelM.main_arg2)
      ∧ r.2.mem ((c.tc : Thread Cert.KernelM.nD Cert.KernelM.τ).loc Cert.KernelM.main_arg3) = m ((c.tc : Thread Cert.KernelM.nD Cert.KernelM.τ).loc Cert.KernelM.main_arg3)
      ∧ r.2.mem ((c.tc : Thread Cert.KernelM.nD Cert.KernelM.τ).loc Cert.KernelM.main_arg4) = m ((c.tc : Thread Cert.KernelM.nD Cert.KernelM.τ).loc Cert.KernelM.main_arg4)
      ∧ r.2.mem ((c.tc : Thread Cert.KernelM.nD Cert.KernelM.τ).loc Cert.KernelM.main_arg5) = m ((c.tc : Thread Cert.KernelM.nD Cert.KernelM.τ).loc Cert.KernelM.main_arg5)
      ∧ r.2.mem ((c.tc : Thread Cert.KernelM.nD Cert.KernelM.τ).loc Cert.KernelM.main_arg6) = m ((c.tc : Thread Cert.KernelM.nD Cert.KernelM.τ).loc Cert.KernelM.main_arg6)
      ∧ r.2.mem ((c.tc : Thread Cert.KernelM.nD Cert.KernelM.τ).loc Cert.KernelM.main_arg7) = m ((c.tc : Thread Cert.KernelM.nD Cert.KernelM.τ).loc Cert.KernelM.main_arg7))
      ∧ r.2.sem = fun _ => 0)

def quiescent_KernelMIdeal [hKernelMIdeal : Cert.KernelMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg), Pre_KernelMIdeal m →
    θ_run (Cert.KernelMIdeal.defs (F := Ideal)) (onTc (τ := Cert.KernelMIdeal.τ) (Cert.KernelMIdeal.main (F := Ideal))) ⟨m, fun _ => 0, g⟩ (fun r => (∀ c : Dev Cert.KernelMIdeal.nD,
      r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
      ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
      ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
      ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
      ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4)
      ∧ r.2.mem ((c.tc : Thread Cert.KernelMIdeal.nD Cert.KernelMIdeal.τ).loc Cert.KernelMIdeal.main_arg5) = m ((c.tc : Thread Cert.KernelMIdeal.nD Cert.KernelMIdeal.τ).loc Cert.KernelMIdeal.main_arg5)
      ∧ r.2.mem ((c.tc : Thread Cert.KernelMIdeal.nD Cert.KernelMIdeal.τ).loc Cert.KernelMIdeal.main_arg6) = m ((c.tc : Thread Cert.KernelMIdeal.nD Cert.KernelMIdeal.τ).loc Cert.KernelMIdeal.main_arg6)
      ∧ r.2.mem ((c.tc : Thread Cert.KernelMIdeal.nD Cert.KernelMIdeal.τ).loc Cert.KernelMIdeal.main_arg7) = m ((c.tc : Thread Cert.KernelMIdeal.nD Cert.KernelMIdeal.τ).loc Cert.KernelMIdeal.main_arg7))
      ∧ r.2.sem = fun _ => 0)

def quiescent_ReferenceMIdeal [hReferenceMIdeal : Cert.ReferenceMIdeal.Facts] : Prop :=
  ∀ (m : (ℓ : Loc Cert.ReferenceMIdeal.nD Cert.ReferenceMIdeal.τ Cert.ReferenceMIdeal.sig) → Buf (Elt Ideal) ℓ) (g : Dev Cert.ReferenceMIdeal.nD → PrngReg), Pre_ReferenceMIdeal m →
    θ_run (Cert.ReferenceMIdeal.defs (F := Ideal)) (onTc (τ := Cert.ReferenceMIdeal.τ) (Cert.ReferenceMIdeal.main (F := Ideal))) ⟨m, fun _ => 0, g⟩ (fun r => (∀ c : Dev Cert.ReferenceMIdeal.nD,
      r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0)
      ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1)
      ∧ r.2.mem ((c.tc : Thread Cert.ReferenceMIdeal.nD Cert.ReferenceMIdeal.τ).loc Cert.ReferenceMIdeal.main_arg2) = m ((c.tc : Thread Cert.ReferenceMIdeal.nD Cert.ReferenceMIdeal.τ).loc Cert.ReferenceMIdeal.main_arg2)
      ∧ r.2.mem ((c.tc : Thread Cert.ReferenceMIdeal.nD Cert.ReferenceMIdeal.τ).loc Cert.ReferenceMIdeal.main_arg3) = m ((c.tc : Thread Cert.ReferenceMIdeal.nD Cert.ReferenceMIdeal.τ).loc Cert.ReferenceMIdeal.main_arg3)
      ∧ r.2.mem ((c.tc : Thread Cert.ReferenceMIdeal.nD Cert.ReferenceMIdeal.τ).loc Cert.ReferenceMIdeal.main_arg4) = m ((c.tc : Thread Cert.ReferenceMIdeal.nD Cert.ReferenceMIdeal.τ).loc Cert.ReferenceMIdeal.main_arg4)
      ∧ r.2.mem ((c.tc : Thread Cert.ReferenceMIdeal.nD Cert.ReferenceMIdeal.τ).loc Cert.ReferenceMIdeal.main_arg5) = m ((c.tc : Thread Cert.ReferenceMIdeal.nD Cert.ReferenceMIdeal.τ).loc Cert.ReferenceMIdeal.main_arg5)
      ∧ r.2.mem ((c.tc : Thread Cert.ReferenceMIdeal.nD Cert.ReferenceMIdeal.τ).loc Cert.ReferenceMIdeal.main_arg6) = m ((c.tc : Thread Cert.ReferenceMIdeal.nD Cert.ReferenceMIdeal.τ).loc Cert.ReferenceMIdeal.main_arg6)
      ∧ r.2.mem ((c.tc : Thread Cert.ReferenceMIdeal.nD Cert.ReferenceMIdeal.τ).loc Cert.ReferenceMIdeal.main_arg7) = m ((c.tc : Thread Cert.ReferenceMIdeal.nD Cert.ReferenceMIdeal.τ).loc Cert.ReferenceMIdeal.main_arg7))
      ∧ r.2.sem = fun _ => 0)

def quiescent_KernelF [hKernelF : Cert.KernelF.Facts] : Prop :=
  ∀ (m : (ℓ : Loc Cert.KernelF.nD Cert.KernelF.τ Cert.KernelF.sig) → Buf (Elt Bits) ℓ) (g : Dev Cert.KernelF.nD → PrngReg), Pre_KernelF m →
    θ_run (Cert.KernelF.defs (F := Bits)) (onTc (τ := Cert.KernelF.τ) (Cert.KernelF.main (F := Bits))) ⟨m, fun _ => 0, g⟩ (fun r => (∀ c : Dev Cert.KernelF.nD,
      r.2.mem ((c.tc : Thread Cert.KernelF.nD Cert.KernelF.τ).loc Cert.KernelF.main_arg0) = m ((c.tc : Thread Cert.KernelF.nD Cert.KernelF.τ).loc Cert.KernelF.main_arg0)
      ∧ r.2.mem ((c.tc : Thread Cert.KernelF.nD Cert.KernelF.τ).loc Cert.KernelF.main_arg1) = m ((c.tc : Thread Cert.KernelF.nD Cert.KernelF.τ).loc Cert.KernelF.main_arg1)
      ∧ r.2.mem ((c.tc : Thread Cert.KernelF.nD Cert.KernelF.τ).loc Cert.KernelF.main_arg2) = m ((c.tc : Thread Cert.KernelF.nD Cert.KernelF.τ).loc Cert.KernelF.main_arg2)
      ∧ r.2.mem ((c.tc : Thread Cert.KernelF.nD Cert.KernelF.τ).loc Cert.KernelF.main_arg3) = m ((c.tc : Thread Cert.KernelF.nD Cert.KernelF.τ).loc Cert.KernelF.main_arg3)
      ∧ r.2.mem ((c.tc : Thread Cert.KernelF.nD Cert.KernelF.τ).loc Cert.KernelF.main_arg4) = m ((c.tc : Thread Cert.KernelF.nD Cert.KernelF.τ).loc Cert.KernelF.main_arg4)
      ∧ r.2.mem ((c.tc : Thread Cert.KernelF.nD Cert.KernelF.τ).loc Cert.KernelF.main_arg5) = m ((c.tc : Thread Cert.KernelF.nD Cert.KernelF.τ).loc Cert.KernelF.main_arg5)
      ∧ r.2.mem ((c.tc : Thread Cert.KernelF.nD Cert.KernelF.τ).loc Cert.KernelF.main_arg6) = m ((c.tc : Thread Cert.KernelF.nD Cert.KernelF.τ).loc Cert.KernelF.main_arg6)
      ∧ r.2.mem ((c.tc : Thread Cert.KernelF.nD Cert.KernelF.τ).loc Cert.KernelF.main_arg7) = m ((c.tc : Thread Cert.KernelF.nD Cert.KernelF.τ).loc Cert.KernelF.main_arg7)
      ∧ r.2.mem ((c.tc : Thread Cert.KernelF.nD Cert.KernelF.τ).loc Cert.KernelF.main_arg8) = m ((c.tc : Thread Cert.KernelF.nD Cert.KernelF.τ).loc Cert.KernelF.main_arg8))
      ∧ r.2.sem = fun _ => 0)

def quiescent_KernelFIdeal [hKernelFIdeal : Cert.KernelFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
      ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3)
      ∧ r.2.mem ((c.tc : Thread Cert.KernelFIdeal.nD Cert.KernelFIdeal.τ).loc Cert.KernelFIdeal.main_arg4) = m ((c.tc : Thread Cert.KernelFIdeal.nD Cert.KernelFIdeal.τ).loc Cert.KernelFIdeal.main_arg4)
      ∧ r.2.mem ((c.tc : Thread Cert.KernelFIdeal.nD Cert.KernelFIdeal.τ).loc Cert.KernelFIdeal.main_arg5) = m ((c.tc : Thread Cert.KernelFIdeal.nD Cert.KernelFIdeal.τ).loc Cert.KernelFIdeal.main_arg5)
      ∧ r.2.mem ((c.tc : Thread Cert.KernelFIdeal.nD Cert.KernelFIdeal.τ).loc Cert.KernelFIdeal.main_arg6) = m ((c.tc : Thread Cert.KernelFIdeal.nD Cert.KernelFIdeal.τ).loc Cert.KernelFIdeal.main_arg6)
      ∧ r.2.mem ((c.tc : Thread Cert.KernelFIdeal.nD Cert.KernelFIdeal.τ).loc Cert.KernelFIdeal.main_arg7) = m ((c.tc : Thread Cert.KernelFIdeal.nD Cert.KernelFIdeal.τ).loc Cert.KernelFIdeal.main_arg7)
      ∧ r.2.mem ((c.tc : Thread Cert.KernelFIdeal.nD Cert.KernelFIdeal.τ).loc Cert.KernelFIdeal.main_arg8) = m ((c.tc : Thread Cert.KernelFIdeal.nD Cert.KernelFIdeal.τ).loc Cert.KernelFIdeal.main_arg8))
      ∧ r.2.sem = fun _ => 0)

def quiescent_KernelFIdeal_pre_finite_f [hKernelFIdeal : Cert.KernelFIdeal.Facts] [hPre_finite_f : Cert.Pre_finite_f.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal_finite_f m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
      ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3)
      ∧ r.2.mem ((c.tc : Thread Cert.KernelFIdeal.nD Cert.KernelFIdeal.τ).loc Cert.KernelFIdeal.main_arg4) = m ((c.tc : Thread Cert.KernelFIdeal.nD Cert.KernelFIdeal.τ).loc Cert.KernelFIdeal.main_arg4)
      ∧ r.2.mem ((c.tc : Thread Cert.KernelFIdeal.nD Cert.KernelFIdeal.τ).loc Cert.KernelFIdeal.main_arg5) = m ((c.tc : Thread Cert.KernelFIdeal.nD Cert.KernelFIdeal.τ).loc Cert.KernelFIdeal.main_arg5)
      ∧ r.2.mem ((c.tc : Thread Cert.KernelFIdeal.nD Cert.KernelFIdeal.τ).loc Cert.KernelFIdeal.main_arg6) = m ((c.tc : Thread Cert.KernelFIdeal.nD Cert.KernelFIdeal.τ).loc Cert.KernelFIdeal.main_arg6)
      ∧ r.2.mem ((c.tc : Thread Cert.KernelFIdeal.nD Cert.KernelFIdeal.τ).loc Cert.KernelFIdeal.main_arg7) = m ((c.tc : Thread Cert.KernelFIdeal.nD Cert.KernelFIdeal.τ).loc Cert.KernelFIdeal.main_arg7)
      ∧ r.2.mem ((c.tc : Thread Cert.KernelFIdeal.nD Cert.KernelFIdeal.τ).loc Cert.KernelFIdeal.main_arg8) = m ((c.tc : Thread Cert.KernelFIdeal.nD Cert.KernelFIdeal.τ).loc Cert.KernelFIdeal.main_arg8))
      ∧ r.2.sem = fun _ => 0)

def quiescent_ReferenceFIdeal [hReferenceFIdeal : Cert.ReferenceFIdeal.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2)
      ∧ r.2.mem ((c.tc : Thread Cert.ReferenceFIdeal.nD Cert.ReferenceFIdeal.τ).loc Cert.ReferenceFIdeal.main_arg3) = m ((c.tc : Thread Cert.ReferenceFIdeal.nD Cert.ReferenceFIdeal.τ).loc Cert.ReferenceFIdeal.main_arg3)
      ∧ r.2.mem ((c.tc : Thread Cert.ReferenceFIdeal.nD Cert.ReferenceFIdeal.τ).loc Cert.ReferenceFIdeal.main_arg4) = m ((c.tc : Thread Cert.ReferenceFIdeal.nD Cert.ReferenceFIdeal.τ).loc Cert.ReferenceFIdeal.main_arg4)
      ∧ r.2.mem ((c.tc : Thread Cert.ReferenceFIdeal.nD Cert.ReferenceFIdeal.τ).loc Cert.ReferenceFIdeal.main_arg5) = m ((c.tc : Thread Cert.ReferenceFIdeal.nD Cert.ReferenceFIdeal.τ).loc Cert.ReferenceFIdeal.main_arg5)
      ∧ r.2.mem ((c.tc : Thread Cert.ReferenceFIdeal.nD Cert.ReferenceFIdeal.τ).loc Cert.ReferenceFIdeal.main_arg6) = m ((c.tc : Thread Cert.ReferenceFIdeal.nD Cert.ReferenceFIdeal.τ).loc Cert.ReferenceFIdeal.main_arg6)
      ∧ r.2.mem ((c.tc : Thread Cert.ReferenceFIdeal.nD Cert.ReferenceFIdeal.τ).loc Cert.ReferenceFIdeal.main_arg7) = m ((c.tc : Thread Cert.ReferenceFIdeal.nD Cert.ReferenceFIdeal.τ).loc Cert.ReferenceFIdeal.main_arg7)
      ∧ r.2.mem ((c.tc : Thread Cert.ReferenceFIdeal.nD Cert.ReferenceFIdeal.τ).loc Cert.ReferenceFIdeal.main_arg8) = m ((c.tc : Thread Cert.ReferenceFIdeal.nD Cert.ReferenceFIdeal.τ).loc Cert.ReferenceFIdeal.main_arg8))
      ∧ r.2.sem = fun _ => 0)

def quiescent_ReferenceFIdeal_pre_finite_f [hReferenceFIdeal : Cert.ReferenceFIdeal.Facts] [hPre_finite_f : Cert.Pre_finite_f.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal_finite_f m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2)
      ∧ r.2.mem ((c.tc : Thread Cert.ReferenceFIdeal.nD Cert.ReferenceFIdeal.τ).loc Cert.ReferenceFIdeal.main_arg3) = m ((c.tc : Thread Cert.ReferenceFIdeal.nD Cert.ReferenceFIdeal.τ).loc Cert.ReferenceFIdeal.main_arg3)
      ∧ r.2.mem ((c.tc : Thread Cert.ReferenceFIdeal.nD Cert.ReferenceFIdeal.τ).loc Cert.ReferenceFIdeal.main_arg4) = m ((c.tc : Thread Cert.ReferenceFIdeal.nD Cert.ReferenceFIdeal.τ).loc Cert.ReferenceFIdeal.main_arg4)
      ∧ r.2.mem ((c.tc : Thread Cert.ReferenceFIdeal.nD Cert.ReferenceFIdeal.τ).loc Cert.ReferenceFIdeal.main_arg5) = m ((c.tc : Thread Cert.ReferenceFIdeal.nD Cert.ReferenceFIdeal.τ).loc Cert.ReferenceFIdeal.main_arg5)
      ∧ r.2.mem ((c.tc : Thread Cert.ReferenceFIdeal.nD Cert.ReferenceFIdeal.τ).loc Cert.ReferenceFIdeal.main_arg6) = m ((c.tc : Thread Cert.ReferenceFIdeal.nD Cert.ReferenceFIdeal.τ).loc Cert.ReferenceFIdeal.main_arg6)
      ∧ r.2.mem ((c.tc : Thread Cert.ReferenceFIdeal.nD Cert.ReferenceFIdeal.τ).loc Cert.ReferenceFIdeal.main_arg7) = m ((c.tc : Thread Cert.ReferenceFIdeal.nD Cert.ReferenceFIdeal.τ).loc Cert.ReferenceFIdeal.main_arg7)
      ∧ r.2.mem ((c.tc : Thread Cert.ReferenceFIdeal.nD Cert.ReferenceFIdeal.τ).loc Cert.ReferenceFIdeal.main_arg8) = m ((c.tc : Thread Cert.ReferenceFIdeal.nD Cert.ReferenceFIdeal.τ).loc Cert.ReferenceFIdeal.main_arg8))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2)
      ∧ r.2.mem ((c.tc : Thread Cert.KernelO.nD Cert.KernelO.τ).loc Cert.KernelO.main_arg3) = m ((c.tc : Thread Cert.KernelO.nD Cert.KernelO.τ).loc Cert.KernelO.main_arg3))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2)
      ∧ r.2.mem ((c.tc : Thread Cert.ReferenceOIdeal.nD Cert.ReferenceOIdeal.τ).loc Cert.ReferenceOIdeal.main_arg3) = m ((c.tc : Thread Cert.ReferenceOIdeal.nD Cert.ReferenceOIdeal.τ).loc Cert.ReferenceOIdeal.main_arg3))
      ∧ r.2.sem = fun _ => 0)

def quiescent_KernelE [hKernelE : Cert.KernelE.Facts] : Prop :=
  ∀ (m : (ℓ : Loc Cert.KernelE.nD Cert.KernelE.τ Cert.KernelE.sig) → Buf (Elt Bits) ℓ) (g : Dev Cert.KernelE.nD → PrngReg), Pre_KernelE m →
    θ_run (Cert.KernelE.defs (F := Bits)) (onTc (τ := Cert.KernelE.τ) (Cert.KernelE.main (F := Bits))) ⟨m, fun _ => 0, g⟩ (fun r => (∀ c : Dev Cert.KernelE.nD,
      r.2.mem ((c.tc : Thread Cert.KernelE.nD Cert.KernelE.τ).loc Cert.KernelE.main_arg0) = m ((c.tc : Thread Cert.KernelE.nD Cert.KernelE.τ).loc Cert.KernelE.main_arg0)
      ∧ r.2.mem ((c.tc : Thread Cert.KernelE.nD Cert.KernelE.τ).loc Cert.KernelE.main_arg1) = m ((c.tc : Thread Cert.KernelE.nD Cert.KernelE.τ).loc Cert.KernelE.main_arg1)
      ∧ r.2.mem ((c.tc : Thread Cert.KernelE.nD Cert.KernelE.τ).loc Cert.KernelE.main_arg2) = m ((c.tc : Thread Cert.KernelE.nD Cert.KernelE.τ).loc Cert.KernelE.main_arg2)
      ∧ r.2.mem ((c.tc : Thread Cert.KernelE.nD Cert.KernelE.τ).loc Cert.KernelE.main_arg3) = m ((c.tc : Thread Cert.KernelE.nD Cert.KernelE.τ).loc Cert.KernelE.main_arg3)
      ∧ r.2.mem ((c.tc : Thread Cert.KernelE.nD Cert.KernelE.τ).loc Cert.KernelE.main_arg4) = m ((c.tc : Thread Cert.KernelE.nD Cert.KernelE.τ).loc Cert.KernelE.main_arg4))
      ∧ r.2.sem = fun _ => 0)

def quiescent_KernelEIdeal [hKernelEIdeal : Cert.KernelEIdeal.Facts] : Prop :=
  ∀ (m : (ℓ : Loc Cert.KernelEIdeal.nD Cert.KernelEIdeal.τ Cert.KernelEIdeal.sig) → Buf (Elt Ideal) ℓ) (g : Dev Cert.KernelEIdeal.nD → PrngReg), Pre_KernelEIdeal m →
    θ_run (Cert.KernelEIdeal.defs (F := Ideal)) (onTc (τ := Cert.KernelEIdeal.τ) (Cert.KernelEIdeal.main (F := Ideal))) ⟨m, fun _ => 0, g⟩ (fun r => (∀ c : Dev Cert.KernelEIdeal.nD,
      r.2.mem ((c.tc : Thread Cert.KernelEIdeal.nD Cert.KernelEIdeal.τ).loc Cert.KernelEIdeal.main_arg0) = m ((c.tc : Thread Cert.KernelEIdeal.nD Cert.KernelEIdeal.τ).loc Cert.KernelEIdeal.main_arg0)
      ∧ r.2.mem ((c.tc : Thread Cert.KernelEIdeal.nD Cert.KernelEIdeal.τ).loc Cert.KernelEIdeal.main_arg1) = m ((c.tc : Thread Cert.KernelEIdeal.nD Cert.KernelEIdeal.τ).loc Cert.KernelEIdeal.main_arg1)
      ∧ r.2.mem ((c.tc : Thread Cert.KernelEIdeal.nD Cert.KernelEIdeal.τ).loc Cert.KernelEIdeal.main_arg2) = m ((c.tc : Thread Cert.KernelEIdeal.nD Cert.KernelEIdeal.τ).loc Cert.KernelEIdeal.main_arg2)
      ∧ r.2.mem ((c.tc : Thread Cert.KernelEIdeal.nD Cert.KernelEIdeal.τ).loc Cert.KernelEIdeal.main_arg3) = m ((c.tc : Thread Cert.KernelEIdeal.nD Cert.KernelEIdeal.τ).loc Cert.KernelEIdeal.main_arg3)
      ∧ r.2.mem ((c.tc : Thread Cert.KernelEIdeal.nD Cert.KernelEIdeal.τ).loc Cert.KernelEIdeal.main_arg4) = m ((c.tc : Thread Cert.KernelEIdeal.nD Cert.KernelEIdeal.τ).loc Cert.KernelEIdeal.main_arg4))
      ∧ r.2.sem = fun _ => 0)

def quiescent_ReferenceEIdeal [hReferenceEIdeal : Cert.ReferenceEIdeal.Facts] : Prop :=
  ∀ (m : (ℓ : Loc Cert.ReferenceEIdeal.nD Cert.ReferenceEIdeal.τ Cert.ReferenceEIdeal.sig) → Buf (Elt Ideal) ℓ) (g : Dev Cert.ReferenceEIdeal.nD → PrngReg), Pre_ReferenceEIdeal m →
    θ_run (Cert.ReferenceEIdeal.defs (F := Ideal)) (onTc (τ := Cert.ReferenceEIdeal.τ) (Cert.ReferenceEIdeal.main (F := Ideal))) ⟨m, fun _ => 0, g⟩ (fun r => (∀ c : Dev Cert.ReferenceEIdeal.nD,
      r.2.mem ((c.tc : Thread Cert.ReferenceEIdeal.nD Cert.ReferenceEIdeal.τ).loc Cert.ReferenceEIdeal.main_arg0) = m ((c.tc : Thread Cert.ReferenceEIdeal.nD Cert.ReferenceEIdeal.τ).loc Cert.ReferenceEIdeal.main_arg0)
      ∧ r.2.mem ((c.tc : Thread Cert.ReferenceEIdeal.nD Cert.ReferenceEIdeal.τ).loc Cert.ReferenceEIdeal.main_arg1) = m ((c.tc : Thread Cert.ReferenceEIdeal.nD Cert.ReferenceEIdeal.τ).loc Cert.ReferenceEIdeal.main_arg1)
      ∧ r.2.mem ((c.tc : Thread Cert.ReferenceEIdeal.nD Cert.ReferenceEIdeal.τ).loc Cert.ReferenceEIdeal.main_arg2) = m ((c.tc : Thread Cert.ReferenceEIdeal.nD Cert.ReferenceEIdeal.τ).loc Cert.ReferenceEIdeal.main_arg2)
      ∧ r.2.mem ((c.tc : Thread Cert.ReferenceEIdeal.nD Cert.ReferenceEIdeal.τ).loc Cert.ReferenceEIdeal.main_arg3) = m ((c.tc : Thread Cert.ReferenceEIdeal.nD Cert.ReferenceEIdeal.τ).loc Cert.ReferenceEIdeal.main_arg3)
      ∧ r.2.mem ((c.tc : Thread Cert.ReferenceEIdeal.nD Cert.ReferenceEIdeal.τ).loc Cert.ReferenceEIdeal.main_arg4) = m ((c.tc : Thread Cert.ReferenceEIdeal.nD Cert.ReferenceEIdeal.τ).loc Cert.ReferenceEIdeal.main_arg4))
      ∧ r.2.sem = fun _ => 0)

def preserves_KernelUp_KernelUpIdeal : Prop :=
  True

def preserves_KernelDown_KernelDownIdeal : Prop :=
  True

def preserves_KernelIn_KernelInIdeal : Prop :=
  True

def preserves_KernelOut_KernelOutIdeal : Prop :=
  True

def preserves_KernelB_KernelBIdeal : Prop :=
  True

def preserves_KernelA_KernelAIdeal : Prop :=
  IdealRules.named_const.Statement Cert.KernelAIdeal.κ "gate_cubic" .f32 0x3D922279#32 ((80338380498831 / 1125899906842624 : ℝ) : EReal)
  ∧ IdealRules.named_const.Statement Cert.KernelAIdeal.κ "gate_slope" .f32 0x3E5B33B6#32 ((241015141496493 / 1125899906842624 : ℝ) : EReal)

def preserves_KernelM_KernelMIdeal : Prop :=
  True

def preserves_KernelF_KernelFIdeal : Prop :=
  True

def preserves_KernelO_KernelOIdeal : Prop :=
  True

def preserves_KernelE_KernelEIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v6) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v4) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v6) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v4) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def algebraic_KernelBIdeal_ReferenceBIdeal_pre_finite_b [hKernelBIdeal : Cert.KernelBIdeal.Facts] [hReferenceBIdeal : Cert.ReferenceBIdeal.Facts] [hPre_finite_b : Cert.Pre_finite_b.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal_finite_b m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)
      ∧ m' ((c.tc : Thread Cert.ReferenceBIdeal.nD Cert.ReferenceBIdeal.τ).loc Cert.ReferenceBIdeal.main_arg3) = m ((c.tc : Thread Cert.KernelBIdeal.nD Cert.KernelBIdeal.τ).loc Cert.KernelBIdeal.main_arg3)
      ∧ m' ((c.tc : Thread Cert.ReferenceBIdeal.nD Cert.ReferenceBIdeal.τ).loc Cert.ReferenceBIdeal.main_arg4) = m ((c.tc : Thread Cert.KernelBIdeal.nD Cert.KernelBIdeal.τ).loc Cert.KernelBIdeal.main_arg4)
      ∧ m' ((c.tc : Thread Cert.ReferenceBIdeal.nD Cert.ReferenceBIdeal.τ).loc Cert.ReferenceBIdeal.main_arg5) = m ((c.tc : Thread Cert.KernelBIdeal.nD Cert.KernelBIdeal.τ).loc Cert.KernelBIdeal.main_arg5)
      ∧ m' ((c.tc : Thread Cert.ReferenceBIdeal.nD Cert.ReferenceBIdeal.τ).loc Cert.ReferenceBIdeal.main_arg6) = m ((c.tc : Thread Cert.KernelBIdeal.nD Cert.KernelBIdeal.τ).loc Cert.KernelBIdeal.main_arg6)
      ∧ m' ((c.tc : Thread Cert.ReferenceBIdeal.nD Cert.ReferenceBIdeal.τ).loc Cert.ReferenceBIdeal.main_arg7) = m ((c.tc : Thread Cert.KernelBIdeal.nD Cert.KernelBIdeal.τ).loc Cert.KernelBIdeal.main_arg7)
      ∧ m' ((c.tc : Thread Cert.ReferenceBIdeal.nD Cert.ReferenceBIdeal.τ).loc Cert.ReferenceBIdeal.main_arg8) = m ((c.tc : Thread Cert.KernelBIdeal.nD Cert.KernelBIdeal.τ).loc Cert.KernelBIdeal.main_arg8)
      ∧ m' ((c.tc : Thread Cert.ReferenceBIdeal.nD Cert.ReferenceBIdeal.τ).loc Cert.ReferenceBIdeal.main_arg9) = m ((c.tc : Thread Cert.KernelBIdeal.nD Cert.KernelBIdeal.τ).loc Cert.KernelBIdeal.main_arg9)) →
    ∃ (v0 : (c : Dev Cert.KernelBIdeal.nD) → Buf (Elt Ideal) ((c.tc : Thread Cert.KernelBIdeal.nD Cert.KernelBIdeal.τ).loc Cert.KernelBIdeal.main_v26_0)) (v1 : (c : Dev Cert.KernelBIdeal.nD) → Buf (Elt Ideal) ((c.tc : Thread Cert.KernelBIdeal.nD Cert.KernelBIdeal.τ).loc Cert.KernelBIdeal.main_v26_1)) (v2 : (c : Dev Cert.KernelBIdeal.nD) → Buf (Elt Ideal) ((c.tc : Thread Cert.KernelBIdeal.nD Cert.KernelBIdeal.τ).loc Cert.KernelBIdeal.main_v26_2)) (v3 : (c : Dev Cert.KernelBIdeal.nD) → Buf (Elt Ideal) ((c.tc : Thread Cert.KernelBIdeal.nD Cert.KernelBIdeal.τ).loc Cert.KernelBIdeal.main_v26_3)) (v4 : (c : Dev Cert.KernelBIdeal.nD) → Buf (Elt Ideal) ((c.tc : Thread Cert.KernelBIdeal.nD Cert.KernelBIdeal.τ).loc Cert.KernelBIdeal.main_v26_4)) (v5 : (c : Dev Cert.KernelBIdeal.nD) → Buf (Elt Ideal) ((c.tc : Thread Cert.KernelBIdeal.nD Cert.KernelBIdeal.τ).loc Cert.KernelBIdeal.main_v26_5)) (v6 : (c : Dev Cert.KernelBIdeal.nD) → Buf (Elt Ideal) ((c.tc : Thread Cert.KernelBIdeal.nD Cert.KernelBIdeal.τ).loc Cert.KernelBIdeal.main_v26_6)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v26_0) = v0 c
          ∧ r.2.mem ((c.tc : Thread Cert.KernelBIdeal.nD Cert.KernelBIdeal.τ).loc Cert.KernelBIdeal.main_v26_1) = v1 c
          ∧ r.2.mem ((c.tc : Thread Cert.KernelBIdeal.nD Cert.KernelBIdeal.τ).loc Cert.KernelBIdeal.main_v26_2) = v2 c
          ∧ r.2.mem ((c.tc : Thread Cert.KernelBIdeal.nD Cert.KernelBIdeal.τ).loc Cert.KernelBIdeal.main_v26_3) = v3 c
          ∧ r.2.mem ((c.tc : Thread Cert.KernelBIdeal.nD Cert.KernelBIdeal.τ).loc Cert.KernelBIdeal.main_v26_4) = v4 c
          ∧ r.2.mem ((c.tc : Thread Cert.KernelBIdeal.nD Cert.KernelBIdeal.τ).loc Cert.KernelBIdeal.main_v26_5) = v5 c
          ∧ r.2.mem ((c.tc : Thread Cert.KernelBIdeal.nD Cert.KernelBIdeal.τ).loc Cert.KernelBIdeal.main_v26_6) = v6 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
          ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
          ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
          ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
          ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
          ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7)
          ∧ r.2.mem ((c.tc : Thread Cert.KernelBIdeal.nD Cert.KernelBIdeal.τ).loc Cert.KernelBIdeal.main_arg8) = m ((c.tc : Thread Cert.KernelBIdeal.nD Cert.KernelBIdeal.τ).loc Cert.KernelBIdeal.main_arg8)
          ∧ r.2.mem ((c.tc : Thread Cert.KernelBIdeal.nD Cert.KernelBIdeal.τ).loc Cert.KernelBIdeal.main_arg9) = m ((c.tc : Thread Cert.KernelBIdeal.nD Cert.KernelBIdeal.τ).loc Cert.KernelBIdeal.main_arg9))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v75) = v0 c
          ∧ r.2.mem ((c.tc : Thread Cert.ReferenceBIdeal.nD Cert.ReferenceBIdeal.τ).loc Cert.ReferenceBIdeal.main_v103) = v1 c
          ∧ r.2.mem ((c.tc : Thread Cert.ReferenceBIdeal.nD Cert.ReferenceBIdeal.τ).loc Cert.ReferenceBIdeal.main_v104) = v2 c
          ∧ r.2.mem ((c.tc : Thread Cert.ReferenceBIdeal.nD Cert.ReferenceBIdeal.τ).loc Cert.ReferenceBIdeal.main_v105) = v3 c
          ∧ r.2.mem ((c.tc : Thread Cert.ReferenceBIdeal.nD Cert.ReferenceBIdeal.τ).loc Cert.ReferenceBIdeal.main_v106) = v4 c
          ∧ r.2.mem ((c.tc : Thread Cert.ReferenceBIdeal.nD Cert.ReferenceBIdeal.τ).loc Cert.ReferenceBIdeal.main_v107) = v5 c
          ∧ r.2.mem ((c.tc : Thread Cert.ReferenceBIdeal.nD Cert.ReferenceBIdeal.τ).loc Cert.ReferenceBIdeal.main_v108) = v6 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2)
          ∧ r.2.mem ((c.tc : Thread Cert.ReferenceBIdeal.nD Cert.ReferenceBIdeal.τ).loc Cert.ReferenceBIdeal.main_arg3) = m' ((c.tc : Thread Cert.ReferenceBIdeal.nD Cert.ReferenceBIdeal.τ).loc Cert.ReferenceBIdeal.main_arg3)
          ∧ r.2.mem ((c.tc : Thread Cert.ReferenceBIdeal.nD Cert.ReferenceBIdeal.τ).loc Cert.ReferenceBIdeal.main_arg4) = m' ((c.tc : Thread Cert.ReferenceBIdeal.nD Cert.ReferenceBIdeal.τ).loc Cert.ReferenceBIdeal.main_arg4)
          ∧ r.2.mem ((c.tc : Thread Cert.ReferenceBIdeal.nD Cert.ReferenceBIdeal.τ).loc Cert.ReferenceBIdeal.main_arg5) = m' ((c.tc : Thread Cert.ReferenceBIdeal.nD Cert.ReferenceBIdeal.τ).loc Cert.ReferenceBIdeal.main_arg5)
          ∧ r.2.mem ((c.tc : Thread Cert.ReferenceBIdeal.nD Cert.ReferenceBIdeal.τ).loc Cert.ReferenceBIdeal.main_arg6) = m' ((c.tc : Thread Cert.ReferenceBIdeal.nD Cert.ReferenceBIdeal.τ).loc Cert.ReferenceBIdeal.main_arg6)
          ∧ r.2.mem ((c.tc : Thread Cert.ReferenceBIdeal.nD Cert.ReferenceBIdeal.τ).loc Cert.ReferenceBIdeal.main_arg7) = m' ((c.tc : Thread Cert.ReferenceBIdeal.nD Cert.ReferenceBIdeal.τ).loc Cert.ReferenceBIdeal.main_arg7)
          ∧ r.2.mem ((c.tc : Thread Cert.ReferenceBIdeal.nD Cert.ReferenceBIdeal.τ).loc Cert.ReferenceBIdeal.main_arg8) = m' ((c.tc : Thread Cert.ReferenceBIdeal.nD Cert.ReferenceBIdeal.τ).loc Cert.ReferenceBIdeal.main_arg8)
          ∧ r.2.mem ((c.tc : Thread Cert.ReferenceBIdeal.nD Cert.ReferenceBIdeal.τ).loc Cert.ReferenceBIdeal.main_arg9) = m' ((c.tc : Thread Cert.ReferenceBIdeal.nD Cert.ReferenceBIdeal.τ).loc Cert.ReferenceBIdeal.main_arg9))

def algebraic_KernelAIdeal_ReferenceAIdeal_pre_finite_a [hKernelAIdeal : Cert.KernelAIdeal.Facts] [hReferenceAIdeal : Cert.ReferenceAIdeal.Facts] [hPre_finite_a : Cert.Pre_finite_a.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal_finite_a m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)
      ∧ m' ((c.tc : Thread Cert.ReferenceAIdeal.nD Cert.ReferenceAIdeal.τ).loc Cert.ReferenceAIdeal.main_arg3) = m ((c.tc : Thread Cert.KernelAIdeal.nD Cert.KernelAIdeal.τ).loc Cert.KernelAIdeal.main_arg3)
      ∧ m' ((c.tc : Thread Cert.ReferenceAIdeal.nD Cert.ReferenceAIdeal.τ).loc Cert.ReferenceAIdeal.main_arg4) = m ((c.tc : Thread Cert.KernelAIdeal.nD Cert.KernelAIdeal.τ).loc Cert.KernelAIdeal.main_arg4)) →
    ∃ (v0 : (c : Dev Cert.KernelAIdeal.nD) → Buf (Elt Ideal) ((c.tc : Thread Cert.KernelAIdeal.nD Cert.KernelAIdeal.τ).loc Cert.KernelAIdeal.main_v44_0)) (v1 : (c : Dev Cert.KernelAIdeal.nD) → Buf (Elt Ideal) ((c.tc : Thread Cert.KernelAIdeal.nD Cert.KernelAIdeal.τ).loc Cert.KernelAIdeal.main_v44_1)) (v2 : (c : Dev Cert.KernelAIdeal.nD) → Buf (Elt Ideal) ((c.tc : Thread Cert.KernelAIdeal.nD Cert.KernelAIdeal.τ).loc Cert.KernelAIdeal.main_v44_2)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v44_0) = v0 c
          ∧ r.2.mem ((c.tc : Thread Cert.KernelAIdeal.nD Cert.KernelAIdeal.τ).loc Cert.KernelAIdeal.main_v44_1) = v1 c
          ∧ r.2.mem ((c.tc : Thread Cert.KernelAIdeal.nD Cert.KernelAIdeal.τ).loc Cert.KernelAIdeal.main_v44_2) = v2 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
          ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
          ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v103) = v0 c
          ∧ r.2.mem ((c.tc : Thread Cert.ReferenceAIdeal.nD Cert.ReferenceAIdeal.τ).loc Cert.ReferenceAIdeal.main_v98) = v1 c
          ∧ r.2.mem ((c.tc : Thread Cert.ReferenceAIdeal.nD Cert.ReferenceAIdeal.τ).loc Cert.ReferenceAIdeal.main_v104) = v2 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2)
          ∧ r.2.mem ((c.tc : Thread Cert.ReferenceAIdeal.nD Cert.ReferenceAIdeal.τ).loc Cert.ReferenceAIdeal.main_arg3) = m' ((c.tc : Thread Cert.ReferenceAIdeal.nD Cert.ReferenceAIdeal.τ).loc Cert.ReferenceAIdeal.main_arg3)
          ∧ r.2.mem ((c.tc : Thread Cert.ReferenceAIdeal.nD Cert.ReferenceAIdeal.τ).loc Cert.ReferenceAIdeal.main_arg4) = m' ((c.tc : Thread Cert.ReferenceAIdeal.nD Cert.ReferenceAIdeal.τ).loc Cert.ReferenceAIdeal.main_arg4))

def algebraic_KernelMIdeal_ReferenceMIdeal [hKernelMIdeal : Cert.KernelMIdeal.Facts] [hReferenceMIdeal : Cert.ReferenceMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg)
    (m' : (ℓ : Loc Cert.ReferenceMIdeal.nD Cert.ReferenceMIdeal.τ Cert.ReferenceMIdeal.sig) → Buf (Elt Ideal) ℓ) (g' : Dev Cert.ReferenceMIdeal.nD → PrngReg), Pre_KernelMIdeal m →
    (∀ c : Dev Cert.KernelMIdeal.nD,
      m' ((c.tc : Thread Cert.ReferenceMIdeal.nD Cert.ReferenceMIdeal.τ).loc Cert.ReferenceMIdeal.main_arg0) = m ((c.tc : Thread Cert.KernelMIdeal.nD Cert.KernelMIdeal.τ).loc Cert.KernelMIdeal.main_arg0)
      ∧ m' ((c.tc : Thread Cert.ReferenceMIdeal.nD Cert.ReferenceMIdeal.τ).loc Cert.ReferenceMIdeal.main_arg1) = m ((c.tc : Thread Cert.KernelMIdeal.nD Cert.KernelMIdeal.τ).loc Cert.KernelMIdeal.main_arg1)
      ∧ m' ((c.tc : Thread Cert.ReferenceMIdeal.nD Cert.ReferenceMIdeal.τ).loc Cert.ReferenceMIdeal.main_arg2) = m ((c.tc : Thread Cert.KernelMIdeal.nD Cert.KernelMIdeal.τ).loc Cert.KernelMIdeal.main_arg2)
      ∧ m' ((c.tc : Thread Cert.ReferenceMIdeal.nD Cert.ReferenceMIdeal.τ).loc Cert.ReferenceMIdeal.main_arg3) = m ((c.tc : Thread Cert.KernelMIdeal.nD Cert.KernelMIdeal.τ).loc Cert.KernelMIdeal.main_arg3)
      ∧ m' ((c.tc : Thread Cert.ReferenceMIdeal.nD Cert.ReferenceMIdeal.τ).loc Cert.ReferenceMIdeal.main_arg4) = m ((c.tc : Thread Cert.KernelMIdeal.nD Cert.KernelMIdeal.τ).loc Cert.KernelMIdeal.main_arg4)
      ∧ m' ((c.tc : Thread Cert.ReferenceMIdeal.nD Cert.ReferenceMIdeal.τ).loc Cert.ReferenceMIdeal.main_arg5) = m ((c.tc : Thread Cert.KernelMIdeal.nD Cert.KernelMIdeal.τ).loc Cert.KernelMIdeal.main_arg5)
      ∧ m' ((c.tc : Thread Cert.ReferenceMIdeal.nD Cert.ReferenceMIdeal.τ).loc Cert.ReferenceMIdeal.main_arg6) = m ((c.tc : Thread Cert.KernelMIdeal.nD Cert.KernelMIdeal.τ).loc Cert.KernelMIdeal.main_arg6)
      ∧ m' ((c.tc : Thread Cert.ReferenceMIdeal.nD Cert.ReferenceMIdeal.τ).loc Cert.ReferenceMIdeal.main_arg7) = m ((c.tc : Thread Cert.KernelMIdeal.nD Cert.KernelMIdeal.τ).loc Cert.KernelMIdeal.main_arg7)) →
    ∃ (v0 : (c : Dev Cert.KernelMIdeal.nD) → Buf (Elt Ideal) ((c.tc : Thread Cert.KernelMIdeal.nD Cert.KernelMIdeal.τ).loc Cert.KernelMIdeal.main_v7_0)) (v1 : (c : Dev Cert.KernelMIdeal.nD) → Buf (Elt Ideal) ((c.tc : Thread Cert.KernelMIdeal.nD Cert.KernelMIdeal.τ).loc Cert.KernelMIdeal.main_v7_1)) (v2 : (c : Dev Cert.KernelMIdeal.nD) → Buf (Elt Ideal) ((c.tc : Thread Cert.KernelMIdeal.nD Cert.KernelMIdeal.τ).loc Cert.KernelMIdeal.main_v7_2)),
      θ_run (Cert.KernelMIdeal.defs (F := Ideal)) (onTc (τ := Cert.KernelMIdeal.τ) (Cert.KernelMIdeal.main (F := Ideal))) ⟨m, fun _ => 0, g⟩ (fun r => ∀ c : Dev Cert.KernelMIdeal.nD,
          r.2.mem ((c.tc : Thread Cert.KernelMIdeal.nD Cert.KernelMIdeal.τ).loc Cert.KernelMIdeal.main_v7_0) = v0 c
          ∧ r.2.mem ((c.tc : Thread Cert.KernelMIdeal.nD Cert.KernelMIdeal.τ).loc Cert.KernelMIdeal.main_v7_1) = v1 c
          ∧ r.2.mem ((c.tc : Thread Cert.KernelMIdeal.nD Cert.KernelMIdeal.τ).loc Cert.KernelMIdeal.main_v7_2) = v2 c
          ∧ r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
          ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
          ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
          ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
          ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4)
          ∧ r.2.mem ((c.tc : Thread Cert.KernelMIdeal.nD Cert.KernelMIdeal.τ).loc Cert.KernelMIdeal.main_arg5) = m ((c.tc : Thread Cert.KernelMIdeal.nD Cert.KernelMIdeal.τ).loc Cert.KernelMIdeal.main_arg5)
          ∧ r.2.mem ((c.tc : Thread Cert.KernelMIdeal.nD Cert.KernelMIdeal.τ).loc Cert.KernelMIdeal.main_arg6) = m ((c.tc : Thread Cert.KernelMIdeal.nD Cert.KernelMIdeal.τ).loc Cert.KernelMIdeal.main_arg6)
          ∧ r.2.mem ((c.tc : Thread Cert.KernelMIdeal.nD Cert.KernelMIdeal.τ).loc Cert.KernelMIdeal.main_arg7) = m ((c.tc : Thread Cert.KernelMIdeal.nD Cert.KernelMIdeal.τ).loc Cert.KernelMIdeal.main_arg7))
      ∧ θ_run (Cert.ReferenceMIdeal.defs (F := Ideal)) (onTc (τ := Cert.ReferenceMIdeal.τ) (Cert.ReferenceMIdeal.main (F := Ideal))) ⟨m', fun _ => 0, g'⟩ (fun r => ∀ c : Dev Cert.ReferenceMIdeal.nD,
          r.2.mem ((c.tc : Thread Cert.ReferenceMIdeal.nD Cert.ReferenceMIdeal.τ).loc Cert.ReferenceMIdeal.main_v0) = v0 c
          ∧ r.2.mem ((c.tc : Thread Cert.ReferenceMIdeal.nD Cert.ReferenceMIdeal.τ).loc Cert.ReferenceMIdeal.main_v17) = v1 c
          ∧ r.2.mem ((c.tc : Thread Cert.ReferenceMIdeal.nD Cert.ReferenceMIdeal.τ).loc Cert.ReferenceMIdeal.main_v39) = v2 c
          ∧ r.2.mem ((c.tc : Thread Cert.ReferenceMIdeal.nD Cert.ReferenceMIdeal.τ).loc Cert.ReferenceMIdeal.main_arg0) = m' ((c.tc : Thread Cert.ReferenceMIdeal.nD Cert.ReferenceMIdeal.τ).loc Cert.ReferenceMIdeal.main_arg0)
          ∧ r.2.mem ((c.tc : Thread Cert.ReferenceMIdeal.nD Cert.ReferenceMIdeal.τ).loc Cert.ReferenceMIdeal.main_arg1) = m' ((c.tc : Thread Cert.ReferenceMIdeal.nD Cert.ReferenceMIdeal.τ).loc Cert.ReferenceMIdeal.main_arg1)
          ∧ r.2.mem ((c.tc : Thread Cert.ReferenceMIdeal.nD Cert.ReferenceMIdeal.τ).loc Cert.ReferenceMIdeal.main_arg2) = m' ((c.tc : Thread Cert.ReferenceMIdeal.nD Cert.ReferenceMIdeal.τ).loc Cert.ReferenceMIdeal.main_arg2)
          ∧ r.2.mem ((c.tc : Thread Cert.ReferenceMIdeal.nD Cert.ReferenceMIdeal.τ).loc Cert.ReferenceMIdeal.main_arg3) = m' ((c.tc : Thread Cert.ReferenceMIdeal.nD Cert.ReferenceMIdeal.τ).loc Cert.ReferenceMIdeal.main_arg3)
          ∧ r.2.mem ((c.tc : Thread Cert.ReferenceMIdeal.nD Cert.ReferenceMIdeal.τ).loc Cert.ReferenceMIdeal.main_arg4) = m' ((c.tc : Thread Cert.ReferenceMIdeal.nD Cert.ReferenceMIdeal.τ).loc Cert.ReferenceMIdeal.main_arg4)
          ∧ r.2.mem ((c.tc : Thread Cert.ReferenceMIdeal.nD Cert.ReferenceMIdeal.τ).loc Cert.ReferenceMIdeal.main_arg5) = m' ((c.tc : Thread Cert.ReferenceMIdeal.nD Cert.ReferenceMIdeal.τ).loc Cert.ReferenceMIdeal.main_arg5)
          ∧ r.2.mem ((c.tc : Thread Cert.ReferenceMIdeal.nD Cert.ReferenceMIdeal.τ).loc Cert.ReferenceMIdeal.main_arg6) = m' ((c.tc : Thread Cert.ReferenceMIdeal.nD Cert.ReferenceMIdeal.τ).loc Cert.ReferenceMIdeal.main_arg6)
          ∧ r.2.mem ((c.tc : Thread Cert.ReferenceMIdeal.nD Cert.ReferenceMIdeal.τ).loc Cert.ReferenceMIdeal.main_arg7) = m' ((c.tc : Thread Cert.ReferenceMIdeal.nD Cert.ReferenceMIdeal.τ).loc Cert.ReferenceMIdeal.main_arg7))

def algebraic_KernelFIdeal_ReferenceFIdeal_pre_finite_f [hKernelFIdeal : Cert.KernelFIdeal.Facts] [hReferenceFIdeal : Cert.ReferenceFIdeal.Facts] [hPre_finite_f : Cert.Pre_finite_f.Facts] : Prop :=
  ∀ (m : (ℓ : Loc Cert.KernelFIdeal.nD Cert.KernelFIdeal.τ Cert.KernelFIdeal.sig) → Buf (Elt Ideal) ℓ) (g : Dev Cert.KernelFIdeal.nD → PrngReg)
    (m' : (ℓ : Loc Cert.ReferenceFIdeal.nD Cert.ReferenceFIdeal.τ Cert.ReferenceFIdeal.sig) → Buf (Elt Ideal) ℓ) (g' : Dev Cert.ReferenceFIdeal.nD → PrngReg), Pre_KernelFIdeal_finite_f m →
    (∀ c : Dev Cert.KernelFIdeal.nD,
      m' ((c.tc : Thread Cert.ReferenceFIdeal.nD Cert.ReferenceFIdeal.τ).loc Cert.ReferenceFIdeal.main_arg0) = m ((c.tc : Thread Cert.KernelFIdeal.nD Cert.KernelFIdeal.τ).loc Cert.KernelFIdeal.main_arg0)
      ∧ m' ((c.tc : Thread Cert.ReferenceFIdeal.nD Cert.ReferenceFIdeal.τ).loc Cert.ReferenceFIdeal.main_arg1) = m ((c.tc : Thread Cert.KernelFIdeal.nD Cert.KernelFIdeal.τ).loc Cert.KernelFIdeal.main_arg1)
      ∧ m' ((c.tc : Thread Cert.ReferenceFIdeal.nD Cert.ReferenceFIdeal.τ).loc Cert.ReferenceFIdeal.main_arg2) = m ((c.tc : Thread Cert.KernelFIdeal.nD Cert.KernelFIdeal.τ).loc Cert.KernelFIdeal.main_arg2)
      ∧ m' ((c.tc : Thread Cert.ReferenceFIdeal.nD Cert.ReferenceFIdeal.τ).loc Cert.ReferenceFIdeal.main_arg3) = m ((c.tc : Thread Cert.KernelFIdeal.nD Cert.KernelFIdeal.τ).loc Cert.KernelFIdeal.main_arg3)
      ∧ m' ((c.tc : Thread Cert.ReferenceFIdeal.nD Cert.ReferenceFIdeal.τ).loc Cert.ReferenceFIdeal.main_arg4) = m ((c.tc : Thread Cert.KernelFIdeal.nD Cert.KernelFIdeal.τ).loc Cert.KernelFIdeal.main_arg4)
      ∧ m' ((c.tc : Thread Cert.ReferenceFIdeal.nD Cert.ReferenceFIdeal.τ).loc Cert.ReferenceFIdeal.main_arg5) = m ((c.tc : Thread Cert.KernelFIdeal.nD Cert.KernelFIdeal.τ).loc Cert.KernelFIdeal.main_arg5)
      ∧ m' ((c.tc : Thread Cert.ReferenceFIdeal.nD Cert.ReferenceFIdeal.τ).loc Cert.ReferenceFIdeal.main_arg6) = m ((c.tc : Thread Cert.KernelFIdeal.nD Cert.KernelFIdeal.τ).loc Cert.KernelFIdeal.main_arg6)
      ∧ m' ((c.tc : Thread Cert.ReferenceFIdeal.nD Cert.ReferenceFIdeal.τ).loc Cert.ReferenceFIdeal.main_arg7) = m ((c.tc : Thread Cert.KernelFIdeal.nD Cert.KernelFIdeal.τ).loc Cert.KernelFIdeal.main_arg7)
      ∧ m' ((c.tc : Thread Cert.ReferenceFIdeal.nD Cert.ReferenceFIdeal.τ).loc Cert.ReferenceFIdeal.main_arg8) = m ((c.tc : Thread Cert.KernelFIdeal.nD Cert.KernelFIdeal.τ).loc Cert.KernelFIdeal.main_arg8)) →
    ∃ (v0 : (c : Dev Cert.KernelFIdeal.nD) → Buf (Elt Ideal) ((c.tc : Thread Cert.KernelFIdeal.nD Cert.KernelFIdeal.τ).loc Cert.KernelFIdeal.main_v8_0)) (v1 : (c : Dev Cert.KernelFIdeal.nD) → Buf (Elt Ideal) ((c.tc : Thread Cert.KernelFIdeal.nD Cert.KernelFIdeal.τ).loc Cert.KernelFIdeal.main_v8_1)) (v2 : (c : Dev Cert.KernelFIdeal.nD) → Buf (Elt Ideal) ((c.tc : Thread Cert.KernelFIdeal.nD Cert.KernelFIdeal.τ).loc Cert.KernelFIdeal.main_v8_2)) (v3 : (c : Dev Cert.KernelFIdeal.nD) → Buf (Elt Ideal) ((c.tc : Thread Cert.KernelFIdeal.nD Cert.KernelFIdeal.τ).loc Cert.KernelFIdeal.main_v8_3)) (v4 : (c : Dev Cert.KernelFIdeal.nD) → Buf (Elt Ideal) ((c.tc : Thread Cert.KernelFIdeal.nD Cert.KernelFIdeal.τ).loc Cert.KernelFIdeal.main_v8_4)) (v5 : (c : Dev Cert.KernelFIdeal.nD) → Buf (Elt Ideal) ((c.tc : Thread Cert.KernelFIdeal.nD Cert.KernelFIdeal.τ).loc Cert.KernelFIdeal.main_v8_5)) (v6 : (c : Dev Cert.KernelFIdeal.nD) → Buf (Elt Ideal) ((c.tc : Thread Cert.KernelFIdeal.nD Cert.KernelFIdeal.τ).loc Cert.KernelFIdeal.main_v8_6)) (v7 : (c : Dev Cert.KernelFIdeal.nD) → Buf (Elt Ideal) ((c.tc : Thread Cert.KernelFIdeal.nD Cert.KernelFIdeal.τ).loc Cert.KernelFIdeal.main_v8_7)),
      θ_run (Cert.KernelFIdeal.defs (F := Ideal)) (onTc (τ := Cert.KernelFIdeal.τ) (Cert.KernelFIdeal.main (F := Ideal))) ⟨m, fun _ => 0, g⟩ (fun r => ∀ c : Dev Cert.KernelFIdeal.nD,
          r.2.mem ((c.tc : Thread Cert.KernelFIdeal.nD Cert.KernelFIdeal.τ).loc Cert.KernelFIdeal.main_v8_0) = v0 c
          ∧ r.2.mem ((c.tc : Thread Cert.KernelFIdeal.nD Cert.KernelFIdeal.τ).loc Cert.KernelFIdeal.main_v8_1) = v1 c
          ∧ r.2.mem ((c.tc : Thread Cert.KernelFIdeal.nD Cert.KernelFIdeal.τ).loc Cert.KernelFIdeal.main_v8_2) = v2 c
          ∧ r.2.mem ((c.tc : Thread Cert.KernelFIdeal.nD Cert.KernelFIdeal.τ).loc Cert.KernelFIdeal.main_v8_3) = v3 c
          ∧ r.2.mem ((c.tc : Thread Cert.KernelFIdeal.nD Cert.KernelFIdeal.τ).loc Cert.KernelFIdeal.main_v8_4) = v4 c
          ∧ r.2.mem ((c.tc : Thread Cert.KernelFIdeal.nD Cert.KernelFIdeal.τ).loc Cert.KernelFIdeal.main_v8_5) = v5 c
          ∧ r.2.mem ((c.tc : Thread Cert.KernelFIdeal.nD Cert.KernelFIdeal.τ).loc Cert.KernelFIdeal.main_v8_6) = v6 c
          ∧ r.2.mem ((c.tc : Thread Cert.KernelFIdeal.nD Cert.KernelFIdeal.τ).loc Cert.KernelFIdeal.main_v8_7) = v7 c
          ∧ r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
          ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
          ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
          ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3)
          ∧ r.2.mem ((c.tc : Thread Cert.KernelFIdeal.nD Cert.KernelFIdeal.τ).loc Cert.KernelFIdeal.main_arg4) = m ((c.tc : Thread Cert.KernelFIdeal.nD Cert.KernelFIdeal.τ).loc Cert.KernelFIdeal.main_arg4)
          ∧ r.2.mem ((c.tc : Thread Cert.KernelFIdeal.nD Cert.KernelFIdeal.τ).loc Cert.KernelFIdeal.main_arg5) = m ((c.tc : Thread Cert.KernelFIdeal.nD Cert.KernelFIdeal.τ).loc Cert.KernelFIdeal.main_arg5)
          ∧ r.2.mem ((c.tc : Thread Cert.KernelFIdeal.nD Cert.KernelFIdeal.τ).loc Cert.KernelFIdeal.main_arg6) = m ((c.tc : Thread Cert.KernelFIdeal.nD Cert.KernelFIdeal.τ).loc Cert.KernelFIdeal.main_arg6)
          ∧ r.2.mem ((c.tc : Thread Cert.KernelFIdeal.nD Cert.KernelFIdeal.τ).loc Cert.KernelFIdeal.main_arg7) = m ((c.tc : Thread Cert.KernelFIdeal.nD Cert.KernelFIdeal.τ).loc Cert.KernelFIdeal.main_arg7)
          ∧ r.2.mem ((c.tc : Thread Cert.KernelFIdeal.nD Cert.KernelFIdeal.τ).loc Cert.KernelFIdeal.main_arg8) = m ((c.tc : Thread Cert.KernelFIdeal.nD Cert.KernelFIdeal.τ).loc Cert.KernelFIdeal.main_arg8))
      ∧ θ_run (Cert.ReferenceFIdeal.defs (F := Ideal)) (onTc (τ := Cert.ReferenceFIdeal.τ) (Cert.ReferenceFIdeal.main (F := Ideal))) ⟨m', fun _ => 0, g'⟩ (fun r => ∀ c : Dev Cert.ReferenceFIdeal.nD,
          r.2.mem ((c.tc : Thread Cert.ReferenceFIdeal.nD Cert.ReferenceFIdeal.τ).loc Cert.ReferenceFIdeal.main_v104) = v0 c
          ∧ r.2.mem ((c.tc : Thread Cert.ReferenceFIdeal.nD Cert.ReferenceFIdeal.τ).loc Cert.ReferenceFIdeal.main_v105) = v1 c
          ∧ r.2.mem ((c.tc : Thread Cert.ReferenceFIdeal.nD Cert.ReferenceFIdeal.τ).loc Cert.ReferenceFIdeal.main_v106) = v2 c
          ∧ r.2.mem ((c.tc : Thread Cert.ReferenceFIdeal.nD Cert.ReferenceFIdeal.τ).loc Cert.ReferenceFIdeal.main_v107) = v3 c
          ∧ r.2.mem ((c.tc : Thread Cert.ReferenceFIdeal.nD Cert.ReferenceFIdeal.τ).loc Cert.ReferenceFIdeal.main_v77) = v4 c
          ∧ r.2.mem ((c.tc : Thread Cert.ReferenceFIdeal.nD Cert.ReferenceFIdeal.τ).loc Cert.ReferenceFIdeal.main_v108) = v5 c
          ∧ r.2.mem ((c.tc : Thread Cert.ReferenceFIdeal.nD Cert.ReferenceFIdeal.τ).loc Cert.ReferenceFIdeal.main_v109) = v6 c
          ∧ r.2.mem ((c.tc : Thread Cert.ReferenceFIdeal.nD Cert.ReferenceFIdeal.τ).loc Cert.ReferenceFIdeal.main_v110) = v7 c
          ∧ r.2.mem ((c.tc : Thread Cert.ReferenceFIdeal.nD Cert.ReferenceFIdeal.τ).loc Cert.ReferenceFIdeal.main_arg0) = m' ((c.tc : Thread Cert.ReferenceFIdeal.nD Cert.ReferenceFIdeal.τ).loc Cert.ReferenceFIdeal.main_arg0)
          ∧ r.2.mem ((c.tc : Thread Cert.ReferenceFIdeal.nD Cert.ReferenceFIdeal.τ).loc Cert.ReferenceFIdeal.main_arg1) = m' ((c.tc : Thread Cert.ReferenceFIdeal.nD Cert.ReferenceFIdeal.τ).loc Cert.ReferenceFIdeal.main_arg1)
          ∧ r.2.mem ((c.tc : Thread Cert.ReferenceFIdeal.nD Cert.ReferenceFIdeal.τ).loc Cert.ReferenceFIdeal.main_arg2) = m' ((c.tc : Thread Cert.ReferenceFIdeal.nD Cert.ReferenceFIdeal.τ).loc Cert.ReferenceFIdeal.main_arg2)
          ∧ r.2.mem ((c.tc : Thread Cert.ReferenceFIdeal.nD Cert.ReferenceFIdeal.τ).loc Cert.ReferenceFIdeal.main_arg3) = m' ((c.tc : Thread Cert.ReferenceFIdeal.nD Cert.ReferenceFIdeal.τ).loc Cert.ReferenceFIdeal.main_arg3)
          ∧ r.2.mem ((c.tc : Thread Cert.ReferenceFIdeal.nD Cert.ReferenceFIdeal.τ).loc Cert.ReferenceFIdeal.main_arg4) = m' ((c.tc : Thread Cert.ReferenceFIdeal.nD Cert.ReferenceFIdeal.τ).loc Cert.ReferenceFIdeal.main_arg4)
          ∧ r.2.mem ((c.tc : Thread Cert.ReferenceFIdeal.nD Cert.ReferenceFIdeal.τ).loc Cert.ReferenceFIdeal.main_arg5) = m' ((c.tc : Thread Cert.ReferenceFIdeal.nD Cert.ReferenceFIdeal.τ).loc Cert.ReferenceFIdeal.main_arg5)
          ∧ r.2.mem ((c.tc : Thread Cert.ReferenceFIdeal.nD Cert.ReferenceFIdeal.τ).loc Cert.ReferenceFIdeal.main_arg6) = m' ((c.tc : Thread Cert.ReferenceFIdeal.nD Cert.ReferenceFIdeal.τ).loc Cert.ReferenceFIdeal.main_arg6)
          ∧ r.2.mem ((c.tc : Thread Cert.ReferenceFIdeal.nD Cert.ReferenceFIdeal.τ).loc Cert.ReferenceFIdeal.main_arg7) = m' ((c.tc : Thread Cert.ReferenceFIdeal.nD Cert.ReferenceFIdeal.τ).loc Cert.ReferenceFIdeal.main_arg7)
          ∧ r.2.mem ((c.tc : Thread Cert.ReferenceFIdeal.nD Cert.ReferenceFIdeal.τ).loc Cert.ReferenceFIdeal.main_arg8) = m' ((c.tc : Thread Cert.ReferenceFIdeal.nD Cert.ReferenceFIdeal.τ).loc Cert.ReferenceFIdeal.main_arg8))

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)
      ∧ m' ((c.tc : Thread Cert.ReferenceOIdeal.nD Cert.ReferenceOIdeal.τ).loc Cert.ReferenceOIdeal.main_arg3) = m ((c.tc : Thread Cert.KernelOIdeal.nD Cert.KernelOIdeal.τ).loc Cert.KernelOIdeal.main_arg3)) →
    ∃ (v0 : (c : Dev Cert.KernelOIdeal.nD) → Buf (Elt Ideal) ((c.tc : Thread Cert.KernelOIdeal.nD Cert.KernelOIdeal.τ).loc Cert.KernelOIdeal.main_v0_0)) (v1 : (c : Dev Cert.KernelOIdeal.nD) → Buf (Elt Ideal) ((c.tc : Thread Cert.KernelOIdeal.nD Cert.KernelOIdeal.τ).loc Cert.KernelOIdeal.main_v0_1)) (v2 : (c : Dev Cert.KernelOIdeal.nD) → Buf (Elt Ideal) ((c.tc : Thread Cert.KernelOIdeal.nD Cert.KernelOIdeal.τ).loc Cert.KernelOIdeal.main_v0_2)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v0_0) = v0 c
          ∧ r.2.mem ((c.tc : Thread Cert.KernelOIdeal.nD Cert.KernelOIdeal.τ).loc Cert.KernelOIdeal.main_v0_1) = v1 c
          ∧ r.2.mem ((c.tc : Thread Cert.KernelOIdeal.nD Cert.KernelOIdeal.τ).loc Cert.KernelOIdeal.main_v0_2) = v2 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
          ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v23) = v0 c
          ∧ r.2.mem ((c.tc : Thread Cert.ReferenceOIdeal.nD Cert.ReferenceOIdeal.τ).loc Cert.ReferenceOIdeal.main_v4) = v1 c
          ∧ r.2.mem ((c.tc : Thread Cert.ReferenceOIdeal.nD Cert.ReferenceOIdeal.τ).loc Cert.ReferenceOIdeal.main_v10) = v2 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2)
          ∧ r.2.mem ((c.tc : Thread Cert.ReferenceOIdeal.nD Cert.ReferenceOIdeal.τ).loc Cert.ReferenceOIdeal.main_arg3) = m' ((c.tc : Thread Cert.ReferenceOIdeal.nD Cert.ReferenceOIdeal.τ).loc Cert.ReferenceOIdeal.main_arg3))

def algebraic_KernelEIdeal_ReferenceEIdeal [hKernelEIdeal : Cert.KernelEIdeal.Facts] [hReferenceEIdeal : Cert.ReferenceEIdeal.Facts] : Prop :=
  ∀ (m : (ℓ : Loc Cert.KernelEIdeal.nD Cert.KernelEIdeal.τ Cert.KernelEIdeal.sig) → Buf (Elt Ideal) ℓ) (g : Dev Cert.KernelEIdeal.nD → PrngReg)
    (m' : (ℓ : Loc Cert.ReferenceEIdeal.nD Cert.ReferenceEIdeal.τ Cert.ReferenceEIdeal.sig) → Buf (Elt Ideal) ℓ) (g' : Dev Cert.ReferenceEIdeal.nD → PrngReg), Pre_KernelEIdeal m →
    (∀ c : Dev Cert.KernelEIdeal.nD,
      m' ((c.tc : Thread Cert.ReferenceEIdeal.nD Cert.ReferenceEIdeal.τ).loc Cert.ReferenceEIdeal.main_arg0) = m ((c.tc : Thread Cert.KernelEIdeal.nD Cert.KernelEIdeal.τ).loc Cert.KernelEIdeal.main_arg0)
      ∧ m' ((c.tc : Thread Cert.ReferenceEIdeal.nD Cert.ReferenceEIdeal.τ).loc Cert.ReferenceEIdeal.main_arg1) = m ((c.tc : Thread Cert.KernelEIdeal.nD Cert.KernelEIdeal.τ).loc Cert.KernelEIdeal.main_arg1)
      ∧ m' ((c.tc : Thread Cert.ReferenceEIdeal.nD Cert.ReferenceEIdeal.τ).loc Cert.ReferenceEIdeal.main_arg2) = m ((c.tc : Thread Cert.KernelEIdeal.nD Cert.KernelEIdeal.τ).loc Cert.KernelEIdeal.main_arg2)
      ∧ m' ((c.tc : Thread Cert.ReferenceEIdeal.nD Cert.ReferenceEIdeal.τ).loc Cert.ReferenceEIdeal.main_arg3) = m ((c.tc : Thread Cert.KernelEIdeal.nD Cert.KernelEIdeal.τ).loc Cert.KernelEIdeal.main_arg3)
      ∧ m' ((c.tc : Thread Cert.ReferenceEIdeal.nD Cert.ReferenceEIdeal.τ).loc Cert.ReferenceEIdeal.main_arg4) = m ((c.tc : Thread Cert.KernelEIdeal.nD Cert.KernelEIdeal.τ).loc Cert.KernelEIdeal.main_arg4)) →
    ∃ (v0 : (c : Dev Cert.KernelEIdeal.nD) → Buf (Elt Ideal) ((c.tc : Thread Cert.KernelEIdeal.nD Cert.KernelEIdeal.τ).loc Cert.KernelEIdeal.main_v1_0)) (v1 : (c : Dev Cert.KernelEIdeal.nD) → Buf (Elt Ideal) ((c.tc : Thread Cert.KernelEIdeal.nD Cert.KernelEIdeal.τ).loc Cert.KernelEIdeal.main_v1_1)) (v2 : (c : Dev Cert.KernelEIdeal.nD) → Buf (Elt Ideal) ((c.tc : Thread Cert.KernelEIdeal.nD Cert.KernelEIdeal.τ).loc Cert.KernelEIdeal.main_v1_2)) (v3 : (c : Dev Cert.KernelEIdeal.nD) → Buf (Elt Ideal) ((c.tc : Thread Cert.KernelEIdeal.nD Cert.KernelEIdeal.τ).loc Cert.KernelEIdeal.main_v1_3)) (v4 : (c : Dev Cert.KernelEIdeal.nD) → Buf (Elt Ideal) ((c.tc : Thread Cert.KernelEIdeal.nD Cert.KernelEIdeal.τ).loc Cert.KernelEIdeal.main_v1_4)),
      θ_run (Cert.KernelEIdeal.defs (F := Ideal)) (onTc (τ := Cert.KernelEIdeal.τ) (Cert.KernelEIdeal.main (F := Ideal))) ⟨m, fun _ => 0, g⟩ (fun r => ∀ c : Dev Cert.KernelEIdeal.nD,
          r.2.mem ((c.tc : Thread Cert.KernelEIdeal.nD Cert.KernelEIdeal.τ).loc Cert.KernelEIdeal.main_v1_0) = v0 c
          ∧ r.2.mem ((c.tc : Thread Cert.KernelEIdeal.nD Cert.KernelEIdeal.τ).loc Cert.KernelEIdeal.main_v1_1) = v1 c
          ∧ r.2.mem ((c.tc : Thread Cert.KernelEIdeal.nD Cert.KernelEIdeal.τ).loc Cert.KernelEIdeal.main_v1_2) = v2 c
          ∧ r.2.mem ((c.tc : Thread Cert.KernelEIdeal.nD Cert.KernelEIdeal.τ).loc Cert.KernelEIdeal.main_v1_3) = v3 c
          ∧ r.2.mem ((c.tc : Thread Cert.KernelEIdeal.nD Cert.KernelEIdeal.τ).loc Cert.KernelEIdeal.main_v1_4) = v4 c
          ∧ r.2.mem ((c.tc : Thread Cert.KernelEIdeal.nD Cert.KernelEIdeal.τ).loc Cert.KernelEIdeal.main_arg0) = m ((c.tc : Thread Cert.KernelEIdeal.nD Cert.KernelEIdeal.τ).loc Cert.KernelEIdeal.main_arg0)
          ∧ r.2.mem ((c.tc : Thread Cert.KernelEIdeal.nD Cert.KernelEIdeal.τ).loc Cert.KernelEIdeal.main_arg1) = m ((c.tc : Thread Cert.KernelEIdeal.nD Cert.KernelEIdeal.τ).loc Cert.KernelEIdeal.main_arg1)
          ∧ r.2.mem ((c.tc : Thread Cert.KernelEIdeal.nD Cert.KernelEIdeal.τ).loc Cert.KernelEIdeal.main_arg2) = m ((c.tc : Thread Cert.KernelEIdeal.nD Cert.KernelEIdeal.τ).loc Cert.KernelEIdeal.main_arg2)
          ∧ r.2.mem ((c.tc : Thread Cert.KernelEIdeal.nD Cert.KernelEIdeal.τ).loc Cert.KernelEIdeal.main_arg3) = m ((c.tc : Thread Cert.KernelEIdeal.nD Cert.KernelEIdeal.τ).loc Cert.KernelEIdeal.main_arg3)
          ∧ r.2.mem ((c.tc : Thread Cert.KernelEIdeal.nD Cert.KernelEIdeal.τ).loc Cert.KernelEIdeal.main_arg4) = m ((c.tc : Thread Cert.KernelEIdeal.nD Cert.KernelEIdeal.τ).loc Cert.KernelEIdeal.main_arg4))
      ∧ θ_run (Cert.ReferenceEIdeal.defs (F := Ideal)) (onTc (τ := Cert.ReferenceEIdeal.τ) (Cert.ReferenceEIdeal.main (F := Ideal))) ⟨m', fun _ => 0, g'⟩ (fun r => ∀ c : Dev Cert.ReferenceEIdeal.nD,
          r.2.mem ((c.tc : Thread Cert.ReferenceEIdeal.nD Cert.ReferenceEIdeal.τ).loc Cert.ReferenceEIdeal.main_v8) = v0 c
          ∧ r.2.mem ((c.tc : Thread Cert.ReferenceEIdeal.nD Cert.ReferenceEIdeal.τ).loc Cert.ReferenceEIdeal.main_v32) = v1 c
          ∧ r.2.mem ((c.tc : Thread Cert.ReferenceEIdeal.nD Cert.ReferenceEIdeal.τ).loc Cert.ReferenceEIdeal.main_v13) = v2 c
          ∧ r.2.mem ((c.tc : Thread Cert.ReferenceEIdeal.nD Cert.ReferenceEIdeal.τ).loc Cert.ReferenceEIdeal.main_v19) = v3 c
          ∧ r.2.mem ((c.tc : Thread Cert.ReferenceEIdeal.nD Cert.ReferenceEIdeal.τ).loc Cert.ReferenceEIdeal.main_v6) = v4 c
          ∧ r.2.mem ((c.tc : Thread Cert.ReferenceEIdeal.nD Cert.ReferenceEIdeal.τ).loc Cert.ReferenceEIdeal.main_arg0) = m' ((c.tc : Thread Cert.ReferenceEIdeal.nD Cert.ReferenceEIdeal.τ).loc Cert.ReferenceEIdeal.main_arg0)
          ∧ r.2.mem ((c.tc : Thread Cert.ReferenceEIdeal.nD Cert.ReferenceEIdeal.τ).loc Cert.ReferenceEIdeal.main_arg1) = m' ((c.tc : Thread Cert.ReferenceEIdeal.nD Cert.ReferenceEIdeal.τ).loc Cert.ReferenceEIdeal.main_arg1)
          ∧ r.2.mem ((c.tc : Thread Cert.ReferenceEIdeal.nD Cert.ReferenceEIdeal.τ).loc Cert.ReferenceEIdeal.main_arg2) = m' ((c.tc : Thread Cert.ReferenceEIdeal.nD Cert.ReferenceEIdeal.τ).loc Cert.ReferenceEIdeal.main_arg2)
          ∧ r.2.mem ((c.tc : Thread Cert.ReferenceEIdeal.nD Cert.ReferenceEIdeal.τ).loc Cert.ReferenceEIdeal.main_arg3) = m' ((c.tc : Thread Cert.ReferenceEIdeal.nD Cert.ReferenceEIdeal.τ).loc Cert.ReferenceEIdeal.main_arg3)
          ∧ r.2.mem ((c.tc : Thread Cert.ReferenceEIdeal.nD Cert.ReferenceEIdeal.τ).loc Cert.ReferenceEIdeal.main_arg4) = m' ((c.tc : Thread Cert.ReferenceEIdeal.nD Cert.ReferenceEIdeal.τ).loc Cert.ReferenceEIdeal.main_arg4))

def Claim : Prop :=
  ∃ (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelB : Cert.KernelB.Facts) (hKernelBIdeal : Cert.KernelBIdeal.Facts) (hReferenceBIdeal : Cert.ReferenceBIdeal.Facts) (hKernelA : Cert.KernelA.Facts) (hKernelAIdeal : Cert.KernelAIdeal.Facts) (hReferenceAIdeal : Cert.ReferenceAIdeal.Facts) (hKernelM : Cert.KernelM.Facts) (hKernelMIdeal : Cert.KernelMIdeal.Facts) (hReferenceMIdeal : Cert.ReferenceMIdeal.Facts) (hKernelF : Cert.KernelF.Facts) (hKernelFIdeal : Cert.KernelFIdeal.Facts) (hReferenceFIdeal : Cert.ReferenceFIdeal.Facts) (hKernelO : Cert.KernelO.Facts) (hKernelOIdeal : Cert.KernelOIdeal.Facts) (hReferenceOIdeal : Cert.ReferenceOIdeal.Facts) (hKernelE : Cert.KernelE.Facts) (hKernelEIdeal : Cert.KernelEIdeal.Facts) (hReferenceEIdeal : Cert.ReferenceEIdeal.Facts) (hPre_finite_b : Cert.Pre_finite_b.Facts) (hPre_finite_a : Cert.Pre_finite_a.Facts) (hPre_finite_f : Cert.Pre_finite_f.Facts),
    quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelB (hKernelB := hKernelB)
    ∧ quiescent_KernelBIdeal (hKernelBIdeal := hKernelBIdeal)
    ∧ quiescent_KernelBIdeal_pre_finite_b (hKernelBIdeal := hKernelBIdeal) (hPre_finite_b := hPre_finite_b)
    ∧ quiescent_ReferenceBIdeal (hReferenceBIdeal := hReferenceBIdeal)
    ∧ quiescent_ReferenceBIdeal_pre_finite_b (hReferenceBIdeal := hReferenceBIdeal) (hPre_finite_b := hPre_finite_b)
    ∧ quiescent_KernelA (hKernelA := hKernelA)
    ∧ quiescent_KernelAIdeal (hKernelAIdeal := hKernelAIdeal)
    ∧ quiescent_KernelAIdeal_pre_finite_a (hKernelAIdeal := hKernelAIdeal) (hPre_finite_a := hPre_finite_a)
    ∧ quiescent_ReferenceAIdeal (hReferenceAIdeal := hReferenceAIdeal)
    ∧ quiescent_ReferenceAIdeal_pre_finite_a (hReferenceAIdeal := hReferenceAIdeal) (hPre_finite_a := hPre_finite_a)
    ∧ quiescent_KernelM (hKernelM := hKernelM)
    ∧ quiescent_KernelMIdeal (hKernelMIdeal := hKernelMIdeal)
    ∧ quiescent_ReferenceMIdeal (hReferenceMIdeal := hReferenceMIdeal)
    ∧ quiescent_KernelF (hKernelF := hKernelF)
    ∧ quiescent_KernelFIdeal (hKernelFIdeal := hKernelFIdeal)
    ∧ quiescent_KernelFIdeal_pre_finite_f (hKernelFIdeal := hKernelFIdeal) (hPre_finite_f := hPre_finite_f)
    ∧ quiescent_ReferenceFIdeal (hReferenceFIdeal := hReferenceFIdeal)
    ∧ quiescent_ReferenceFIdeal_pre_finite_f (hReferenceFIdeal := hReferenceFIdeal) (hPre_finite_f := hPre_finite_f)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelE (hKernelE := hKernelE)
    ∧ quiescent_KernelEIdeal (hKernelEIdeal := hKernelEIdeal)
    ∧ quiescent_ReferenceEIdeal (hReferenceEIdeal := hReferenceEIdeal)
    ∧ preserves_KernelUp_KernelUpIdeal
    ∧ preserves_KernelDown_KernelDownIdeal
    ∧ preserves_KernelIn_KernelInIdeal
    ∧ preserves_KernelOut_KernelOutIdeal
    ∧ preserves_KernelB_KernelBIdeal
    ∧ preserves_KernelA_KernelAIdeal
    ∧ preserves_KernelM_KernelMIdeal
    ∧ preserves_KernelF_KernelFIdeal
    ∧ preserves_KernelO_KernelOIdeal
    ∧ preserves_KernelE_KernelEIdeal
    ∧ algebraic_KernelUpIdeal_ReferenceUpIdeal (hKernelUpIdeal := hKernelUpIdeal) (hReferenceUpIdeal := hReferenceUpIdeal)
    ∧ algebraic_KernelDownIdeal_ReferenceDownIdeal (hKernelDownIdeal := hKernelDownIdeal) (hReferenceDownIdeal := hReferenceDownIdeal)
    ∧ algebraic_KernelInIdeal_ReferenceInIdeal (hKernelInIdeal := hKernelInIdeal) (hReferenceInIdeal := hReferenceInIdeal)
    ∧ algebraic_KernelOutIdeal_ReferenceOutIdeal (hKernelOutIdeal := hKernelOutIdeal) (hReferenceOutIdeal := hReferenceOutIdeal)
    ∧ algebraic_KernelBIdeal_ReferenceBIdeal_pre_finite_b (hKernelBIdeal := hKernelBIdeal) (hReferenceBIdeal := hReferenceBIdeal) (hPre_finite_b := hPre_finite_b)
    ∧ algebraic_KernelAIdeal_ReferenceAIdeal_pre_finite_a (hKernelAIdeal := hKernelAIdeal) (hReferenceAIdeal := hReferenceAIdeal) (hPre_finite_a := hPre_finite_a)
    ∧ algebraic_KernelMIdeal_ReferenceMIdeal (hKernelMIdeal := hKernelMIdeal) (hReferenceMIdeal := hReferenceMIdeal)
    ∧ algebraic_KernelFIdeal_ReferenceFIdeal_pre_finite_f (hKernelFIdeal := hKernelFIdeal) (hReferenceFIdeal := hReferenceFIdeal) (hPre_finite_f := hPre_finite_f)
    ∧ algebraic_KernelOIdeal_ReferenceOIdeal (hKernelOIdeal := hKernelOIdeal) (hReferenceOIdeal := hReferenceOIdeal)
    ∧ algebraic_KernelEIdeal_ReferenceEIdeal (hKernelEIdeal := hKernelEIdeal) (hReferenceEIdeal := hReferenceEIdeal)
-- ==== Pre_finite_a.lean ====
abbrev S4096x6144 : Shape := ⟨2, ![4096, 6144]⟩
abbrev S3x6144 : Shape := ⟨2, ![3, 6144]⟩
abbrev S6144 : Shape := ⟨1, ![6144]⟩
abbrev S3072x1024 : Shape := ⟨2, ![3072, 1024]⟩
abbrev S4096x1024 : Shape := ⟨2, ![4096, 1024]⟩
abbrev S_ : Shape := ⟨0, ![]⟩

class Facts : Prop where
  bcast_S_S4096x6144 : S_.BroadcastsInDim S4096x6144 (![] : Fin 0 → Fin S4096x6144.rank)
  reducesTo_S4096x6144_S_d0_1 : S4096x6144.ReducesTo [0, 1] S_
  h_S_ : 0 < S_.numel
  bcast_S_S3x6144 : S_.BroadcastsInDim S3x6144 (![] : Fin 0 → Fin S3x6144.rank)
  reducesTo_S3x6144_S_d0_1 : S3x6144.ReducesTo [0, 1] S_
  bcast_S_S6144 : S_.BroadcastsInDim S6144 (![] : Fin 0 → Fin S6144.rank)
  reducesTo_S6144_S_d0 : S6144.ReducesTo [0] S_
  bcast_S_S3072x1024 : S_.BroadcastsInDim S3072x1024 (![] : Fin 0 → Fin S3072x1024.rank)
  reducesTo_S3072x1024_S_d0_1 : S3072x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v14 : IVec S_ 1) (main_v15 : FVec F S3072x1024 .f32) (main_cst_5 : FVec F S_ .f32) : IVec S_ 1 :=
  let main_v16 : FVec F S3072x1024 .f32 := broadcastInDim S3072x1024 ![] bcast_S_S3072x1024 main_cst_5
  let main_v17 : IVec S3072x1024 1 := cmpf .olt main_v15 main_v16
  let main_c_6 : IVec S_ 1 := constantI S_ 1 1#1
  let main_v18 : IVec S_ 1 := (fun x v => Host.reduce IntOp.andi x v reducesTo_S3072x1024_S_d0_1 h_S_) main_v17 main_c_6
  let main_v19 : IVec S_ 1 := andi main_v14 main_v18
  let main_v20 : FVec F S4096x1024 .f32 := Host.absf main_arg4
  let main_cst_7 : FVec F S_ .f32 := constant S_ .f32 0x7F800000#32
  let main_v21 : FVec F S4096x1024 .f32 := broadcastInDim S4096x1024 ![] bcast_S_S4096x1024 main_cst_7
  let main_v22 : IVec S4096x1024 1 := cmpf .olt main_v20 main_v21
  let main_c_8 : IVec S_ 1 := constantI S_ 1 1#1
  let main_v23 : IVec S_ 1 := (fun x v => Host.reduce IntOp.andi x v reducesTo_S4096x1024_S_d0_1 h_S_) main_v22 main_c_8
  let main_v24 : IVec S_ 1 := andi main_v19 main_v23
  main_v24

def fn {F : FTy → Type} [FloatOps F] (main_arg0 : FVec F S4096x6144 .f32) (main_arg1 : FVec F S3x6144 .f32) (main_arg2 : FVec F S6144 .f32) (main_arg3 : FVec F S3072x1024 .f32) (main_arg4 : FVec F S4096x1024 .f32) : IVec S_ 1 :=
  let main_v0 : FVec F S4096x6144 .f32 := Host.absf main_arg0
  let main_cst : FVec F S_ .f32 := constant S_ .f32 0x7F800000#32
  let main_v1 : FVec F S4096x6144 .f32 := broadcastInDim S4096x6144 ![] bcast_S_S4096x6144 main_cst
  let main_v2 : IVec S4096x6144 1 := cmpf .olt main_v0 main_v1
  let main_c : IVec S_ 1 := constantI S_ 1 1#1
  let main_v3 : IVec S_ 1 := (fun x v => Host.reduce IntOp.andi x v reducesTo_S4096x6144_S_d0_1 h_S_) main_v2 main_c
  let main_c_0 : IVec S_ 1 := constantI S_ 1 1#1
  let main_v4 : IVec S_ 1 := andi main_c_0 main_v3
  let main_v5 : FVec F S3x6144 .f32 := Host.absf main_arg1
  let main_cst_1 : FVec F S_ .f32 := constant S_ .f32 0x7F800000#32
  let main_v6 : FVec F S3x6144 .f32 := broadcastInDim S3x6144 ![] bcast_S_S3x6144 main_cst_1
  let main_v7 : IVec S3x6144 1 := cmpf .olt main_v5 main_v6
  let main_c_2 : IVec S_ 1 := constantI S_ 1 1#1
  let main_v8 : IVec S_ 1 := (fun x v => Host.reduce IntOp.andi x v reducesTo_S3x6144_S_d0_1 h_S_) main_v7 main_c_2
  let main_v9 : IVec S_ 1 := andi main_v4 main_v8
  let main_v10 : FVec F S6144 .f32 := Host.absf main_arg2
  let main_cst_3 : FVec F S_ .f32 := constant S_ .f32 0x7F800000#32
  let main_v11 : FVec F S6144 .f32 := broadcastInDim S6144 ![] bcast_S_S6144 main_cst_3
  let main_v12 : IVec S6144 1 := cmpf .olt main_v10 main_v11
  let main_c_4 : IVec S_ 1 := constantI S_ 1 1#1
  let main_v13 : IVec S_ 1 := (fun x v => Host.reduce IntOp.andi x v reducesTo_S6144_S_d0 h_S_) main_v12 main_c_4
  let main_v14 : IVec S_ 1 := andi main_v9 main_v13
  let main_v15 : FVec F S3072x1024 .f32 := Host.absf main_arg3
  let main_cst_5 : FVec F S_ .f32 := constant S_ .f32 0x7F800000#32
  fn_part1 (F := F) main_arg4 main_v14 main_v15 main_cst_5
-- ==== Pre_finite_b.lean ====
abbrev S4096x1024 : Shape := ⟨2, ![4096, 1024]⟩
abbrev S4096x6144 : Shape := ⟨2, ![4096, 6144]⟩
abbrev S1024x6144 : Shape := ⟨2, ![1024, 6144]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x6144 : S_.BroadcastsInDim S4096x6144 (![] : Fin 0 → Fin S4096x6144.rank)
  reducesTo_S4096x6144_S_d0_1 : S4096x6144.ReducesTo [0, 1] S_
  bcast_S_S1024x6144 : S_.BroadcastsInDim S1024x6144 (![] : Fin 0 → Fin S1024x6144.rank)
  reducesTo_S1024x6144_S_d0_1 : S1024x6144.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_arg9 : FVec F S1024 .f32) (main_v29 : IVec S_ 1) (main_v32 : IVec S1024 1) (main_c_12 : IVec S_ 1) : IVec S_ 1 :=
  let main_v33 : IVec S_ 1 := (fun x v => Host.reduce IntOp.andi x v reducesTo_S1024_S_d0 h_S_) main_v32 main_c_12
  let main_v34 : IVec S_ 1 := andi main_v29 main_v33
  let main_v35 : FVec F S1024 .f32 := Host.absf main_arg7
  let main_cst_13 : FVec F S_ .f32 := constant S_ .f32 0x7F800000#32
  let main_v36 : FVec F S1024 .f32 := broadcastInDim S1024 ![] bcast_S_S1024 main_cst_13
  let main_v37 : IVec S1024 1 := cmpf .olt main_v35 main_v36
  let main_c_14 : IVec S_ 1 := constantI S_ 1 1#1
  let main_v38 : IVec S_ 1 := (fun x v => Host.reduce IntOp.andi x v reducesTo_S1024_S_d0 h_S_) main_v37 main_c_14
  let main_v39 : IVec S_ 1 := andi main_v34 main_v38
  let main_v40 : FVec F S1024 .f32 := Host.absf main_arg8
  let main_cst_15 : FVec F S_ .f32 := constant S_ .f32 0x7F800000#32
  let main_v41 : FVec F S1024 .f32 := broadcastInDim S1024 ![] bcast_S_S1024 main_cst_15
  let main_v42 : IVec S1024 1 := cmpf .olt main_v40 main_v41
  let main_c_16 : IVec S_ 1 := constantI S_ 1 1#1
  let main_v43 : IVec S_ 1 := (fun x v => Host.reduce IntOp.andi x v reducesTo_S1024_S_d0 h_S_) main_v42 main_c_16
  let main_v44 : IVec S_ 1 := andi main_v39 main_v43
  let main_v45 : FVec F S1024 .f32 := Host.absf main_arg9
  let main_cst_17 : FVec F S_ .f32 := constant S_ .f32 0x7F800000#32
  let main_v46 : FVec F S1024 .f32 := broadcastInDim S1024 ![] bcast_S_S1024 main_cst_17
  let main_v47 : IVec S1024 1 := cmpf .olt main_v45 main_v46
  let main_c_18 : IVec S_ 1 := constantI S_ 1 1#1
  let main_v48 : IVec S_ 1 := (fun x v => Host.reduce IntOp.andi x v reducesTo_S1024_S_d0 h_S_) main_v47 main_c_18
  let main_v49 : IVec S_ 1 := andi main_v44 main_v48
  main_v49

def fn_part1 {F : FTy → Type} [FloatOps F] (main_arg4 : FVec F S1024x6144 .f32) (main_arg5 : FVec F S1024 .f32) (main_arg6 : FVec F S1024 .f32) (main_arg7 : FVec F S1024 .f32) (main_arg8 : FVec F S1024 .f32) (main_arg9 : FVec F S1024 .f32) (main_v14 : IVec S_ 1) (main_v15 : FVec F S4096x6144 .f32) (main_cst_5 : FVec F S_ .f32) : IVec S_ 1 :=
  let main_v16 : FVec F S4096x6144 .f32 := broadcastInDim S4096x6144 ![] bcast_S_S4096x6144 main_cst_5
  let main_v17 : IVec S4096x6144 1 := cmpf .olt main_v15 main_v16
  let main_c_6 : IVec S_ 1 := constantI S_ 1 1#1
  let main_v18 : IVec S_ 1 := (fun x v => Host.reduce IntOp.andi x v reducesTo_S4096x6144_S_d0_1 h_S_) main_v17 main_c_6
  let main_v19 : IVec S_ 1 := andi main_v14 main_v18
  let main_v20 : FVec F S1024x6144 .f32 := Host.absf main_arg4
  let main_cst_7 : FVec F S_ .f32 := constant S_ .f32 0x7F800000#32
  let main_v21 : FVec F S1024x6144 .f32 := broadcastInDim S1024x6144 ![] bcast_S_S1024x6144 main_cst_7
  let main_v22 : IVec S1024x6144 1 := cmpf .olt main_v20 main_v21
  let main_c_8 : IVec S_ 1 := constantI S_ 1 1#1
  let main_v23 : IVec S_ 1 := (fun x v => Host.reduce IntOp.andi x v reducesTo_S1024x6144_S_d0_1 h_S_) main_v22 main_c_8
  let main_v24 : IVec S_ 1 := andi main_v19 main_v23
  let main_v25 : FVec F S1024 .f32 := Host.absf main_arg5
  let main_cst_9 : FVec F S_ .f32 := constant S_ .f32 0x7F800000#32
  let main_v26 : FVec F S1024 .f32 := broadcastInDim S1024 ![] bcast_S_S1024 main_cst_9
  let main_v27 : IVec S1024 1 := cmpf .olt main_v25 main_v26
  let main_c_10 : IVec S_ 1 := constantI S_ 1 1#1
  let main_v28 : IVec S_ 1 := (fun x v => Host.reduce IntOp.andi x v reducesTo_S1024_S_d0 h_S_) main_v27 main_c_10
  let main_v29 : IVec S_ 1 := andi main_v24 main_v28
  let main_v30 : FVec F S1024 .f32 := Host.absf main_arg6
  let main_cst_11 : FVec F S_ .f32 := constant S_ .f32 0x7F800000#32
  let main_v31 : FVec F S1024 .f32 := broadcastInDim S1024 ![] bcast_S_S1024 main_cst_11
  let main_v32 : IVec S1024 1 := cmpf .olt main_v30 main_v31
  let main_c_12 : IVec S_ 1 := constantI S_ 1 1#1
  fn_part2 (F := F) main_arg7 main_arg8 main_arg9 main_v29 main_v32 main_c_12

def fn {F : FTy → Type} [FloatOps F] (main_arg0 : FVec F S4096x1024 .f32) (main_arg1 : FVec F S4096x1024 .f32) (main_arg2 : FVec F S4096x1024 .f32) (main_arg3 : FVec F S4096x6144 .f32) (main_arg4 : FVec F S1024x6144 .f32) (main_arg5 : FVec F S1024 .f32) (main_arg6 : FVec F S1024 .f32) (main_arg7 : FVec F S1024 .f32) (main_arg8 : FVec F S1024 .f32) (main_arg9 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S4096x1024 .f32 := Host.absf main_arg1
  let main_cst_1 : FVec F S_ .f32 := constant S_ .f32 0x7F800000#32
  let main_v6 : FVec F S4096x1024 .f32 := broadcastInDim S4096x1024 ![] bcast_S_S4096x1024 main_cst_1
  let main_v7 : IVec S4096x1024 1 := cmpf .olt main_v5 main_v6
  let main_c_2 : IVec S_ 1 := constantI S_ 1 1#1
  let main_v8 : IVec S_ 1 := (fun x v => Host.reduce IntOp.andi x v reducesTo_S4096x1024_S_d0_1 h_S_) main_v7 main_c_2
  let main_v9 : IVec S_ 1 := andi main_v4 main_v8
  let main_v10 : FVec F S4096x1024 .f32 := Host.absf main_arg2
  let main_cst_3 : FVec F S_ .f32 := constant S_ .f32 0x7F800000#32
  let main_v11 : FVec F S4096x1024 .f32 := broadcastInDim S4096x1024 ![] bcast_S_S4096x1024 main_cst_3
  let main_v12 : IVec S4096x1024 1 := cmpf .olt main_v10 main_v11
  let main_c_4 : IVec S_ 1 := constantI S_ 1 1#1
  let main_v13 : IVec S_ 1 := (fun x v => Host.reduce IntOp.andi x v reducesTo_S4096x1024_S_d0_1 h_S_) main_v12 main_c_4
  let main_v14 : IVec S_ 1 := andi main_v9 main_v13
  let main_v15 : FVec F S4096x6144 .f32 := Host.absf main_arg3
  let main_cst_5 : FVec F S_ .f32 := constant S_ .f32 0x7F800000#32
  fn_part1 (F := F) main_arg4 main_arg5 main_arg6 main_arg7 main_arg8 main_arg9 main_v14 main_v15 main_cst_5
-- ==== Pre_finite_f.lean ====
abbrev S4096x1024 : Shape := ⟨2, ![4096, 1024]⟩
abbrev S1024x6144 : Shape := ⟨2, ![1024, 6144]⟩
abbrev S3072x1024 : Shape := ⟨2, ![3072, 1024]⟩
abbrev S3x6144 : Shape := ⟨2, ![3, 6144]⟩
abbrev S6144 : Shape := ⟨1, ![6144]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x6144 : S_.BroadcastsInDim S1024x6144 (![] : Fin 0 → Fin S1024x6144.rank)
  reducesTo_S1024x6144_S_d0_1 : S1024x6144.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3x6144 : S_.BroadcastsInDim S3x6144 (![] : Fin 0 → Fin S3x6144.rank)
  reducesTo_S3x6144_S_d0_1 : S3x6144.ReducesTo [0, 1] S_
  bcast_S_S6144 : S_.BroadcastsInDim S6144 (![] : Fin 0 → Fin S6144.rank)
  reducesTo_S6144_S_d0 : S6144.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_v29 : IVec S_ 1) (main_v32 : IVec S6144 1) (main_c_12 : IVec S_ 1) : IVec S_ 1 :=
  let main_v33 : IVec S_ 1 := (fun x v => Host.reduce IntOp.andi x v reducesTo_S6144_S_d0 h_S_) main_v32 main_c_12
  let main_v34 : IVec S_ 1 := andi main_v29 main_v33
  let main_v35 : FVec F S1024 .f32 := Host.absf main_arg7
  let main_cst_13 : FVec F S_ .f32 := constant S_ .f32 0x7F800000#32
  let main_v36 : FVec F S1024 .f32 := broadcastInDim S1024 ![] bcast_S_S1024 main_cst_13
  let main_v37 : IVec S1024 1 := cmpf .olt main_v35 main_v36
  let main_c_14 : IVec S_ 1 := constantI S_ 1 1#1
  let main_v38 : IVec S_ 1 := (fun x v => Host.reduce IntOp.andi x v reducesTo_S1024_S_d0 h_S_) main_v37 main_c_14
  let main_v39 : IVec S_ 1 := andi main_v34 main_v38
  let main_v40 : FVec F S1024 .f32 := Host.absf main_arg8
  let main_cst_15 : FVec F S_ .f32 := constant S_ .f32 0x7F800000#32
  let main_v41 : FVec F S1024 .f32 := broadcastInDim S1024 ![] bcast_S_S1024 main_cst_15
  let main_v42 : IVec S1024 1 := cmpf .olt main_v40 main_v41
  let main_c_16 : IVec S_ 1 := constantI S_ 1 1#1
  let main_v43 : IVec S_ 1 := (fun x v => Host.reduce IntOp.andi x v reducesTo_S1024_S_d0 h_S_) main_v42 main_c_16
  let main_v44 : IVec S_ 1 := andi main_v39 main_v43
  main_v44

def fn_part1 {F : FTy → Type} [FloatOps F] (main_arg4 : FVec F S3072x1024 .f32) (main_arg5 : FVec F S3x6144 .f32) (main_arg6 : FVec F S6144 .f32) (main_arg7 : FVec F S1024 .f32) (main_arg8 : FVec F S1024 .f32) (main_v14 : IVec S_ 1) (main_v15 : FVec F S1024x6144 .f32) (main_cst_5 : FVec F S_ .f32) : IVec S_ 1 :=
  let main_v16 : FVec F S1024x6144 .f32 := broadcastInDim S1024x6144 ![] bcast_S_S1024x6144 main_cst_5
  let main_v17 : IVec S1024x6144 1 := cmpf .olt main_v15 main_v16
  let main_c_6 : IVec S_ 1 := constantI S_ 1 1#1
  let main_v18 : IVec S_ 1 := (fun x v => Host.reduce IntOp.andi x v reducesTo_S1024x6144_S_d0_1 h_S_) main_v17 main_c_6
  let main_v19 : IVec S_ 1 := andi main_v14 main_v18
  let main_v20 : FVec F S3072x1024 .f32 := Host.absf main_arg4
  let main_cst_7 : FVec F S_ .f32 := constant S_ .f32 0x7F800000#32
  let main_v21 : FVec F S3072x1024 .f32 := broadcastInDim S3072x1024 ![] bcast_S_S3072x1024 main_cst_7
  let main_v22 : IVec S3072x1024 1 := cmpf .olt main_v20 main_v21
  let main_c_8 : IVec S_ 1 := constantI S_ 1 1#1
  let main_v23 : IVec S_ 1 := (fun x v => Host.reduce IntOp.andi x v reducesTo_S3072x1024_S_d0_1 h_S_) main_v22 main_c_8
  let main_v24 : IVec S_ 1 := andi main_v19 main_v23
  let main_v25 : FVec F S3x6144 .f32 := Host.absf main_arg5
  let main_cst_9 : FVec F S_ .f32 := constant S_ .f32 0x7F800000#32
  let main_v26 : FVec F S3x6144 .f32 := broadcastInDim S3x6144 ![] bcast_S_S3x6144 main_cst_9
  let main_v27 : IVec S3x6144 1 := cmpf .olt main_v25 main_v26
  let main_c_10 : IVec S_ 1 := constantI S_ 1 1#1
  let main_v28 : IVec S_ 1 := (fun x v => Host.reduce IntOp.andi x v reducesTo_S3x6144_S_d0_1 h_S_) main_v27 main_c_10
  let main_v29 : IVec S_ 1 := andi main_v24 main_v28
  let main_v30 : FVec F S6144 .f32 := Host.absf main_arg6
  let main_cst_11 : FVec F S_ .f32 := constant S_ .f32 0x7F800000#32
  let main_v31 : FVec F S6144 .f32 := broadcastInDim S6144 ![] bcast_S_S6144 main_cst_11
  let main_v32 : IVec S6144 1 := cmpf .olt main_v30 main_v31
  let main_c_12 : IVec S_ 1 := constantI S_ 1 1#1
  fn_part2 (F := F) main_arg7 main_arg8 main_v29 main_v32 main_c_12

def fn {F : FTy → Type} [FloatOps F] (main_arg0 : FVec F S4096x1024 .f32) (main_arg1 : FVec F S4096x1024 .f32) (main_arg2 : FVec F S4096x1024 .f32) (main_arg3 : FVec F S1024x6144 .f32) (main_arg4 : FVec F S3072x1024 .f32) (main_arg5 : FVec F S3x6144 .f32) (main_arg6 : FVec F S6144 .f32) (main_arg7 : FVec F S1024 .f32) (main_arg8 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S4096x1024 .f32 := Host.absf main_arg1
  let main_cst_1 : FVec F S_ .f32 := constant S_ .f32 0x7F800000#32
  let main_v6 : FVec F S4096x1024 .f32 := broadcastInDim S4096x1024 ![] bcast_S_S4096x1024 main_cst_1
  let main_v7 : IVec S4096x1024 1 := cmpf .olt main_v5 main_v6
  let main_c_2 : IVec S_ 1 := constantI S_ 1 1#1
  let main_v8 : IVec S_ 1 := (fun x v => Host.reduce IntOp.andi x v reducesTo_S4096x1024_S_d0_1 h_S_) main_v7 main_c_2
  let main_v9 : IVec S_ 1 := andi main_v4 main_v8
  let main_v10 : FVec F S4096x1024 .f32 := Host.absf main_arg2
  let main_cst_3 : FVec F S_ .f32 := constant S_ .f32 0x7F800000#32
  let main_v11 : FVec F S4096x1024 .f32 := broadcastInDim S4096x1024 ![] bcast_S_S4096x1024 main_cst_3
  let main_v12 : IVec S4096x1024 1 := cmpf .olt main_v10 main_v11
  let main_c_4 : IVec S_ 1 := constantI S_ 1 1#1
  let main_v13 : IVec S_ 1 := (fun x v => Host.reduce IntOp.andi x v reducesTo_S4096x1024_S_d0_1 h_S_) main_v12 main_c_4
  let main_v14 : IVec S_ 1 := andi main_v9 main_v13
  let main_v15 : FVec F S1024x6144 .f32 := Host.absf main_arg3
  let main_cst_5 : FVec F S_ .f32 := constant S_ .f32 0x7F800000#32
  fn_part1 (F := F) main_arg4 main_arg5 main_arg6 main_arg7 main_arg8 main_v14 main_v15 main_cst_5
-- ==== KernelUp.lean ====
abbrev S4096x1024 : Shape := ⟨2, ![4096, 1024]⟩
abbrev S4096x6144 : Shape := ⟨2, ![4096, 6144]⟩
abbrev S4x1024x1536 : Shape := ⟨3, ![4, 1024, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S4x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceUpIdeal.lean ====
abbrev S4096x1024 : Shape := ⟨2, ![4096, 1024]⟩
abbrev S4096x6144 : Shape := ⟨2, ![4096, 6144]⟩
abbrev S6144x1024 : Shape := ⟨2, ![6144, 1024]⟩
abbrev S1024x6144 : Shape := ⟨2, ![1024, 6144]⟩
abbrev S1024x4x1536 : Shape := ⟨3, ![1024, 4, 1536]⟩
abbrev S4x1024x1536 : Shape := ⟨3, ![4, 1024, 1536]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S4096x1024, .f32⟩
  | .hbm, ⟨3, _⟩ => ⟨S4096x6144, .f32⟩
  | .hbm, ⟨4, _⟩ => ⟨S6144x1024, .f32⟩
  | .hbm, ⟨5, _⟩ => ⟨S1024x6144, .f32⟩
  | .hbm, ⟨6, _⟩ => ⟨S1024x4x1536, .f32⟩
  | .hbm, ⟨7, _⟩ => ⟨S4x1024x1536, .f32⟩
  | .hbm, ⟨8, _⟩ => ⟨S4x1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== KernelDown.lean ====
abbrev S4096x3072 : Shape := ⟨2, ![4096, 3072]⟩
abbrev S4096x1024 : Shape := ⟨2, ![4096, 1024]⟩
abbrev S3072x1024 : Shape := ⟨2, ![3072, 1024]⟩
abbrev S2048x3072 : Shape := ⟨2, ![2048, 3072]⟩
abbrev S2048x512 : Shape := ⟨2, ![2048, 512]⟩
abbrev S3072x512 : Shape := ⟨2, ![3072, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3072x1024, .bf16⟩
  | .local _ .vmem, ⟨0, _⟩ => ⟨S2048x3072, .bf16⟩
  | .local _ .vmem, ⟨1, _⟩ => ⟨S2048x3072, .bf16⟩
  | .local _ .vmem, ⟨2, _⟩ => ⟨S2048x512, .bf16⟩
  | .local _ .vmem, ⟨3, _⟩ => ⟨S2048x512, .bf16⟩
  | .local _ .vmem, ⟨4, _⟩ => ⟨S3072x512, .bf16⟩
  | .local _ .vmem, ⟨5, _⟩ => ⟨S3072x512, .bf16⟩
  | .local _ .vmem, ⟨6, _⟩ => ⟨S3072x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3072x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDownIdeal.lean ====
abbrev S4096x3072 : Shape := ⟨2, ![4096, 3072]⟩
abbrev S4096x1024 : Shape := ⟨2, ![4096, 1024]⟩
abbrev S1024x3072 : Shape := ⟨2, ![1024, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x3072, .f32⟩
  | .hbm, ⟨3, _⟩ => ⟨S4096x1024, .f32⟩
  | .hbm, ⟨4, _⟩ => ⟨S1024x3072, .f32⟩
  | .hbm, ⟨5, _⟩ => ⟨S3072x1024, .f32⟩
  | .hbm, ⟨6, _⟩ => ⟨S3072x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelIn.lean ====
abbrev S4096x1024 : Shape := ⟨2, ![4096, 1024]⟩
abbrev S4096x2048 : Shape := ⟨2, ![4096, 2048]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceInIdeal.lean ====
abbrev S4096x1024 : Shape := ⟨2, ![4096, 1024]⟩
abbrev S4096x2048 : Shape := ⟨2, ![4096, 2048]⟩
abbrev S2048x1024 : Shape := ⟨2, ![2048, 1024]⟩
abbrev S1024x2048 : Shape := ⟨2, ![1024, 2048]⟩
abbrev S1024x4x512 : Shape := ⟨3, ![1024, 4, 512]⟩
abbrev S4x1024x512 : Shape := ⟨3, ![4, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S1024x2048, .f32⟩
  | .hbm, ⟨6, _⟩ => ⟨S1024x4x512, .f32⟩
  | .hbm, ⟨7, _⟩ => ⟨S4x1024x512, .f32⟩
  | .hbm, ⟨8, _⟩ => ⟨S4x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== KernelOut.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceOutIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelB.lean ====
abbrev S4096x1024 : Shape := ⟨2, ![4096, 1024]⟩
abbrev S4096x6144 : Shape := ⟨2, ![4096, 6144]⟩
abbrev S1024x6144 : Shape := ⟨2, ![1024, 6144]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4x1536 : Shape := ⟨3, ![1024, 4, 1536]⟩
abbrev S4x1024x1536 : Shape := ⟨3, ![4, 1024, 1536]⟩
abbrev S512x6144 : Shape := ⟨2, ![512, 6144]⟩
abbrev S512x1024 : Shape := ⟨2, ![512, 1024]⟩
abbrev S256x1024 : Shape := ⟨2, ![256, 1024]⟩
abbrev S256x1536 : Shape := ⟨2, ![256, 1536]⟩
abbrev S1x1024x1536 : Shape := ⟨3, ![1, 1024, 1536]⟩
abbrev S1024x1536 : Shape := ⟨2, ![1024, 1536]⟩
abbrev S256 : Shape := ⟨1, ![256]⟩
abbrev S256x1 : Shape := ⟨2, ![256, 1]⟩

abbrev nBuf : Space → Nat
  | .hbm => 46
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x6144, .f32⟩
  | .hbm, ⟨4, _⟩ => ⟨S1024x6144, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x6144, .bf16⟩
  | .hbm, ⟨31, _⟩ => ⟨S1024x4x1536, .f32⟩
  | .hbm, ⟨32, _⟩ => ⟨S4x1024x1536, .f32⟩
  | .hbm, ⟨33, _⟩ => ⟨S4x1024x1536, .bf16⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S4096x1024, .f32⟩
  | .hbm, ⟨40, _⟩ => ⟨S4096x1024, .bf16⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S4x1024x1536, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev main_v26_2 : Ref sig .tc := ⟨.hbm, 41, rfl⟩
abbrev main_v26_3 : Ref sig .tc := ⟨.hbm, 42, rfl⟩
abbrev main_v26_4 : Ref sig .tc := ⟨.hbm, 43, rfl⟩
abbrev main_v26_5 : Ref sig .tc := ⟨.hbm, 44, rfl⟩
abbrev main_v26_6 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceBIdeal.lean ====
abbrev S4096x1024 : Shape := ⟨2, ![4096, 1024]⟩
abbrev S4096x6144 : Shape := ⟨2, ![4096, 6144]⟩
abbrev S1024x6144 : Shape := ⟨2, ![1024, 6144]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 144
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x6144, .f32⟩
  | 4 => ⟨S1024x6144, .f32⟩
  | 5 => ⟨S1024, .f32⟩
  | 6 => ⟨S1024, .f32⟩
  | 7 => ⟨S1024, .f32⟩
  | 8 => ⟨S1024, .f32⟩
  | 9 => ⟨S1024, .f32⟩
  | 10 => ⟨S4096x1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1024, .f32⟩
  | 26 => ⟨S4096x1024, .f32⟩
  | 27 => ⟨S1x1024, .f32⟩
  | 28 => ⟨S4096x1024, .f32⟩
  | 29 => ⟨S4096x1024, .f32⟩
  | 30 => ⟨S1x1024, .f32⟩
  | 31 => ⟨S4096x1024, .f32⟩
  | 32 => ⟨S4096x1024, .f32⟩
  | 33 => ⟨S4096x1024, .f32⟩
  | 34 => ⟨S4096x1024, .f32⟩
  | 35 => ⟨S_, .f32⟩
  | 36 => ⟨S4096, .f32⟩
  | 37 => ⟨S4096x1, .f32⟩
  | 38 => ⟨S_, .f32⟩
  | 39 => ⟨S4096x1, .f32⟩
  | 40 => ⟨S4096x1, .f32⟩
  | 41 => ⟨S_, .f32⟩
  | 42 => ⟨S4096x1, .f32⟩
  | 43 => ⟨S4096x1, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x1024, .f32⟩
  | 50 => ⟨S4096x1024, .f32⟩
  | 51 => ⟨S1x1024, .f32⟩
  | 52 => ⟨S4096x1024, .f32⟩
  | 53 => ⟨S4096x1024, .f32⟩
  | 54 => ⟨S_, .f32⟩
  | 55 => ⟨S1024, .f32⟩
  | 56 => ⟨S1024, .f32⟩
  | 57 => ⟨S1x1024, .f32⟩
  | 58 => ⟨S4096x1024, .f32⟩
  | 59 => ⟨S4096x1024, .f32⟩
  | 60 => ⟨S1x1024, .f32⟩
  | 61 => ⟨S4096x1024, .f32⟩
  | 62 => ⟨S4096x1024, .f32⟩
  | 63 => ⟨S4096x6144, .f32⟩
  | 64 => ⟨S4096x1024, .f32⟩
  | 65 => ⟨S_, .f32⟩
  | 66 => ⟨S1024, .f32⟩
  | 67 => ⟨S1x1024, .f32⟩
  | 68 => ⟨S_, .f32⟩
  | 69 => ⟨S1024, .f32⟩
  | 70 => ⟨S4096x1024, .f32⟩
  | 71 => ⟨S_, .f32⟩
  | 72 => ⟨S1024, .f32⟩
  | 73 => ⟨S1x1024, .f32⟩
  | 74 => ⟨S4096x1024, .f32⟩
  | 75 => ⟨S4096x1024, .f32⟩
  | 76 => ⟨S_, .f32⟩
  | 77 => ⟨S1024, .f32⟩
  | 78 => ⟨S4096x1024, .f32⟩
  | 79 => ⟨S_, .f32⟩
  | 80 => ⟨S1024, .f32⟩
  | 81 => ⟨S1x1024, .f32⟩
  | 82 => ⟨S4096x1024, .f32⟩
  | 83 => ⟨S4096x1024, .f32⟩
  | 84 => ⟨S_, .f32⟩
  | 85 => ⟨S1024, .f32⟩
  | 86 => ⟨S4096x1024, .f32⟩
  | 87 => ⟨S_, .f32⟩
  | 88 => ⟨S4096, .f32⟩
  | 89 => ⟨S4096x1, .f32⟩
  | 90 => ⟨S4096x1024, .f32⟩
  | 91 => ⟨S4096x1024, .f32⟩
  | 92 => ⟨S4096x1024, .f32⟩
  | 93 => ⟨S4096x1, .f32⟩
  | 94 => ⟨S_, .f32⟩
  | 95 => ⟨S4096x1, .f32⟩
  | 96 => ⟨S4096x1, .f32⟩
  | 97 => ⟨S_, .f32⟩
  | 98 => ⟨S4096, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S_, .f32⟩
  | 109 => ⟨S1024, .f32⟩
  | 110 => ⟨S1x1024, .f32⟩
  | 111 => ⟨S_, .f32⟩
  | 112 => ⟨S1024, .f32⟩
  | 113 => ⟨S4096x1024, .f32⟩
  | 114 => ⟨S_, .f32⟩
  | 115 => ⟨S1024, .f32⟩
  | 116 => ⟨S1x1024, .f32⟩
  | 117 => ⟨S4096x1024, .f32⟩
  | 118 => ⟨S4096x1024, .f32⟩
  | 119 => ⟨S_, .f32⟩
  | 120 => ⟨S1024, .f32⟩
  | 121 => ⟨S4096x1024, .f32⟩
  | 122 => ⟨S_, .f32⟩
  | 123 => ⟨S4096, .f32⟩
  | 124 => ⟨S4096x1, .f32⟩
  | 125 => ⟨S4096x1024, .f32⟩
  | 126 => ⟨S4096x1024, .f32⟩
  | 127 => ⟨S4096x1, .f32⟩
  | _ => ⟨S4096x1024, .f32⟩

abbrev hbmTy0_1 (i : Nat) : BufTy := match i % 128 with
  | 0 => ⟨S_, .f32⟩
  | 1 => ⟨S4096x1, .f32⟩
  | 2 => ⟨S4096x1, .f32⟩
  | 3 => ⟨S_, .f32⟩
  | 4 => ⟨S4096, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S4096x1024, .bf16⟩
  | 11 => ⟨S1x1024, .f32⟩
  | 12 => ⟨S1x1024, .f32⟩
  | 13 => ⟨S1x1024, .f32⟩
  | 14 => ⟨S1x1024, .f32⟩
  | 15 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_15 : Ref sig .tc := ⟨.hbm, 94, rfl⟩
abbrev main_v68 : Ref sig .tc := ⟨.hbm, 95, rfl⟩
abbrev main_v69 : Ref sig .tc := ⟨.hbm, 96, rfl⟩
abbrev main_cst_16 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_17 : Ref sig .tc := ⟨.hbm, 108, rfl⟩
abbrev main_v80 : Ref sig .tc := ⟨.hbm, 109, rfl⟩
abbrev main_v81 : Ref sig .tc := ⟨.hbm, 110, rfl⟩
abbrev main_cst_18 : Ref sig .tc := ⟨.hbm, 111, rfl⟩
abbrev main_v82 : Ref sig .tc := ⟨.hbm, 112, rfl⟩
abbrev main_v83 : Ref sig .tc := ⟨.hbm, 113, rfl⟩
abbrev main_cst_19 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_20 : Ref sig .tc := ⟨.hbm, 119, rfl⟩
abbrev main_v88 : Ref sig .tc := ⟨.hbm, 120, rfl⟩
abbrev main_v89 : Ref sig .tc := ⟨.hbm, 121, rfl⟩
abbrev main_cst_21 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_22 : Ref sig .tc := ⟨.hbm, 128, rfl⟩
abbrev main_v95 : Ref sig .tc := ⟨.hbm, 129, rfl⟩
abbrev main_v96 : Ref sig .tc := ⟨.hbm, 130, rfl⟩
abbrev main_cst_23 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩

abbrev nD : Nat := 1
abbrev τ : Topo := Topo.v7x

variable {F : FTy → Type} [FloatOps F]
-- ==== KernelA.lean ====
abbrev S4096x6144 : Shape := ⟨2, ![4096, 6144]⟩
abbrev S3x6144 : Shape := ⟨2, ![3, 6144]⟩
abbrev S6144 : Shape := ⟨1, ![6144]⟩
abbrev S3072x1024 : Shape := ⟨2, ![3072, 1024]⟩
abbrev S4096x1024 : Shape := ⟨2, ![4096, 1024]⟩
abbrev S_ : Shape := ⟨0, ![]⟩
abbrev S2x6144 : Shape := ⟨2, ![2, 6144]⟩
abbrev S4098x6144 : Shape := ⟨2, ![4098, 6144]⟩
abbrev S1x6144 : Shape := ⟨2, ![1, 6144]⟩
abbrev S256x256 : Shape := ⟨2, ![256, 256]⟩
abbrev S1x256x256 : Shape := ⟨3, ![1, 256, 256]⟩
abbrev S2x256x256 : Shape := ⟨3, ![2, 256, 256]⟩
abbrev S256x1024 : Shape := ⟨2, ![256, 1024]⟩
abbrev S256x6144 : Shape := ⟨2, ![256, 6144]⟩
abbrev S8x6144 : Shape := ⟨2, ![8, 6144]⟩
abbrev S768x1024 : Shape := ⟨2, ![768, 1024]⟩
abbrev S256x768 : Shape := ⟨2, ![256, 768]⟩
abbrev S8x768 : Shape := ⟨2, ![8, 768]⟩
abbrev S248x768 : Shape := ⟨2, ![248, 768]⟩
abbrev S1x768 : Shape := ⟨2, ![1, 768]⟩
abbrev S768 : Shape := ⟨1, ![768]⟩

abbrev nBuf : Space → Nat
  | .hbm => 55
  | .vmem => 14
  | .smem => 0
  | _ => 0

abbrev bufTy : (tb : Table) → Fin (tcTables nBuf tb) → BufTy
  | .hbm, ⟨0, _⟩ => ⟨S4096x6144, .f32⟩
  | .hbm, ⟨1, _⟩ => ⟨S3x6144, .f32⟩
  | .hbm, ⟨2, _⟩ => ⟨S6144, .f32⟩
  | .hbm, ⟨3, _⟩ => ⟨S3072x1024, .f32⟩
  | .hbm, ⟨4, _⟩ => ⟨S4096x1024, .f32⟩
  | .hbm, ⟨5, _⟩ => ⟨S_, .f32⟩
  | .hbm, ⟨6, _⟩ => ⟨S2x6144, .f32⟩
  | .hbm, ⟨7, _⟩ => ⟨S4098x6144, .f32⟩
  | .hbm, ⟨8, _⟩ => ⟨S4096x6144, .f32⟩
  | .hbm, ⟨9, _⟩ => ⟨S1x6144, .f32⟩
  | .hbm, ⟨10, _⟩ => ⟨S6144, .f32⟩
  | .hbm, ⟨11, _⟩ => ⟨S1x6144, .f32⟩
  | .hbm, ⟨12, _⟩ => ⟨S4096x6144, .f32⟩
  | .hbm, ⟨13, _⟩ => ⟨S4096x6144, .f32⟩
  | .hbm, ⟨14, _⟩ => ⟨S4096x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S4096x6144, .f32⟩
  | .hbm, ⟨19, _⟩ => ⟨S4096x6144, .f32⟩
  | .hbm, ⟨20, _⟩ => ⟨S4096x6144, .f32⟩
  | .hbm, ⟨21, _⟩ => ⟨S4096x6144, .f32⟩
  | .hbm, ⟨22, _⟩ => ⟨S1x6144, .f32⟩
  | .hbm, ⟨23, _⟩ => ⟨S6144, .f32⟩
  | .hbm, ⟨24, _⟩ => ⟨S1x6144, .f32⟩
  | .hbm, ⟨25, _⟩ => ⟨S4096x6144, .f32⟩
  | .hbm, ⟨26, _⟩ => ⟨S4096x6144, .f32⟩
  | .hbm, ⟨27, _⟩ => ⟨S4096x6144, .f32⟩
  | .hbm, ⟨28, _⟩ => ⟨S1x6144, .f32⟩
  | .hbm, ⟨29, _⟩ => ⟨S4096x6144, .f32⟩
  | .hbm, ⟨30, _⟩ => ⟨S4096x6144, .f32⟩
  | .hbm, ⟨31, _⟩ => ⟨S4096x1024, .bf16⟩
  | .hbm, ⟨32, _⟩ => ⟨S4096x6144, .bf16⟩
  | .hbm, ⟨33, _⟩ => ⟨S4096x6144, .bf16⟩
  | .hbm, ⟨34, _⟩ => ⟨S3072x1024, .bf16⟩
  | .hbm, ⟨35, _⟩ => ⟨S256x256, .i32⟩
  | .hbm, ⟨36, _⟩ => ⟨S256x256, .i32⟩
  | .hbm, ⟨37, _⟩ => ⟨S_, .i32⟩
  | .hbm, ⟨38, _⟩ => ⟨S256x256, .i32⟩
  | .hbm, ⟨39, _⟩ => ⟨S256x256, .i32⟩
  | .hbm, ⟨40, _⟩ => ⟨S256x256, .i1⟩
  | .hbm, ⟨41, _⟩ => ⟨S256x256, .bf16⟩
  | .hbm, ⟨42, _⟩ => ⟨S256x256, .i32⟩
  | .hbm, ⟨43, _⟩ => ⟨S256x256, .i32⟩
  | .hbm, ⟨44, _⟩ => ⟨S_, .i32⟩
  | .hbm, ⟨45, _⟩ => ⟨S256x256, .i32⟩
  | .hbm, ⟨46, _⟩ => ⟨S256x256, .i32⟩
  | .hbm, ⟨47, _⟩ => ⟨S256x256, .i1⟩
  | .hbm, ⟨48, _⟩ => ⟨S256x256, .bf16⟩
  | .hbm, ⟨49, _⟩ => ⟨S1x256x256, .bf16⟩
  | .hbm, ⟨50, _⟩ => ⟨S1x256x256, .bf16⟩
  | .hbm, ⟨51, _⟩ => ⟨S2x256x256, .bf16⟩
  | .hbm, ⟨52, _⟩ => ⟨S4096x6144, .bf16⟩
  | .hbm, ⟨53, _⟩ => ⟨S3x6144, .f32⟩
  | .hbm, ⟨54, _⟩ => ⟨S1x6144, .f32⟩
  | .local _ .vmem, ⟨0, _⟩ => ⟨S256x1024, .bf16⟩
  | .local _ .vmem, ⟨1, _⟩ => ⟨S256x1024, .bf16⟩
  | .local _ .vmem, ⟨2, _⟩ => ⟨S256x6144, .bf16⟩
  | .local _ .vmem, ⟨3, _⟩ => ⟨S256x6144, .bf16⟩
  | .local _ .vmem, ⟨4, _⟩ => ⟨S256x6144, .bf16⟩
  | .local _ .vmem, ⟨5, _⟩ => ⟨S256x6144, .bf16⟩
  | .local _ .vmem, ⟨6, _⟩ => ⟨S3072x1024, .bf16⟩
  | .local _ .vmem, ⟨7, _⟩ => ⟨S3x6144, .f32⟩
  | .local _ .vmem, ⟨8, _⟩ => ⟨S2x256x256, .bf16⟩
  | .local _ .vmem, ⟨9, _⟩ => ⟨S256x6144, .bf16⟩
  | .local _ .vmem, ⟨10, _⟩ => ⟨S256x6144, .bf16⟩
  | .local _ .vmem, ⟨11, _⟩ => ⟨S3x6144, .f32⟩
  | .local _ .vmem, ⟨12, _⟩ => ⟨S1x6144, .f32⟩
  | .local _ .vmem, ⟨13, _⟩ => ⟨S8x6144, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_0 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44_0 : Ref sig .tc := ⟨.hbm, 52, rfl⟩
abbrev main_v44_1 : Ref sig .tc := ⟨.hbm, 53, rfl⟩
abbrev main_v44_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelAIdeal.lean ====
variable {F : FTy → Type} [FloatOps F] [Named F]
def κ : String → Option EReal := fun
  | "gate_cubic" => some ((80338380498831 / 1125899906842624 : ℝ) : EReal)
  | "gate_slope" => some ((241015141496493 / 1125899906842624 : ℝ) : EReal)
  | _ => none
-- ==== ReferenceAIdeal.lean ====
abbrev S4096x6144 : Shape := ⟨2, ![4096, 6144]⟩
abbrev S3x6144 : Shape := ⟨2, ![3, 6144]⟩
abbrev S6144 : Shape := ⟨1, ![6144]⟩
abbrev S3072x1024 : Shape := ⟨2, ![3072, 1024]⟩
abbrev S4096x1024 : Shape := ⟨2, ![4096, 1024]⟩
abbrev S_ : Shape := ⟨0, ![]⟩
abbrev S2x6144 : Shape := ⟨2, ![2, 6144]⟩
abbrev S4098x6144 : Shape := ⟨2, ![4098, 6144]⟩
abbrev S1x6144 : Shape := ⟨2, ![1, 6144]⟩
abbrev S4096x3072 : Shape := ⟨2, ![4096, 3072]⟩

abbrev nBuf : Space → Nat
  | .hbm => 136
  | .vmem => 0
  | .smem => 0
  | _ => 0

abbrev hbmTy0_0 (i : Nat) : BufTy := match i % 128 with
  | 0 => ⟨S4096x6144, .f32⟩
  | 1 => ⟨S3x6144, .f32⟩
  | 2 => ⟨S6144, .f32⟩
  | 3 => ⟨S3072x1024, .f32⟩
  | 4 => ⟨S4096x1024, .f32⟩
  | 5 => ⟨S_, .f32⟩
  | 6 => ⟨S2x6144, .f32⟩
  | 7 => ⟨S4098x6144, .f32⟩
  | 8 => ⟨S_, .f32⟩
  | 9 => ⟨S2x6144, .f32⟩
  | 10 => ⟨S4096x6144, .f32⟩
  | 11 => ⟨S1x6144, .f32⟩
  | 12 => ⟨S6144, .f32⟩
  | 13 => ⟨S1x6144, .f32⟩
  | 14 => ⟨S4096x6144, .f32⟩
  | 15 => ⟨S4096x6144, .f32⟩
  | 16 => ⟨S4096x6144, .f32⟩
  | 17 => ⟨S1x6144, .f32⟩
  | 18 => ⟨S6144, .f32⟩
  | 19 => ⟨S1x6144, .f32⟩
  | 20 => ⟨S4096x6144, .f32⟩
  | 21 => ⟨S4096x6144, .f32⟩
  | 22 => ⟨S4096x6144, .f32⟩
  | 23 => ⟨S4096x6144, .f32⟩
  | 24 => ⟨S1x6144, .f32⟩
  | 25 => ⟨S6144, .f32⟩
  | 26 => ⟨S1x6144, .f32⟩
  | 27 => ⟨S4096x6144, .f32⟩
  | 28 => ⟨S4096x6144, .f32⟩
  | 29 => ⟨S4096x6144, .f32⟩
  | 30 => ⟨S1x6144, .f32⟩
  | 31 => ⟨S4096x6144, .f32⟩
  | 32 => ⟨S4096x6144, .f32⟩
  | 33 => ⟨S4096x3072, .f32⟩
  | 34 => ⟨S4096x3072, .f32⟩
  | 35 => ⟨S4096x3072, .f32⟩
  | 36 => ⟨S4096x3072, .f32⟩
  | 37 => ⟨S4096x3072, .f32⟩
  | 38 => ⟨S_, .f32⟩
  | 39 => ⟨S4096x3072, .f32⟩
  | 40 => ⟨S4096x3072, .f32⟩
  | 41 => ⟨S_, .f32⟩
  | 42 => ⟨S4096x3072, .f32⟩
  | 43 => ⟨S4096x3072, .f32⟩
  | 44 => ⟨S4096x3072, .f32⟩
  | 45 => ⟨S_, .f32⟩
  | 46 => ⟨S4096x3072, .f32⟩
  | 47 => ⟨S4096x3072, .f32⟩
  | 48 => ⟨S4096x3072, .f32⟩
  | 49 => ⟨S_, .f32⟩
  | 50 => ⟨S4096x3072, .f32⟩
  | 51 => ⟨S4096x3072, .f32⟩
  | 52 => ⟨S_, .f32⟩
  | 53 => ⟨S4096x3072, .f32⟩
  | 54 => ⟨S4096x3072, .f32⟩
  | 55 => ⟨S4096x3072, .f32⟩
  | 56 => ⟨S_, .f32⟩
  | 57 => ⟨S4096x3072, .f32⟩
  | 58 => ⟨S4096x3072, .f32⟩
  | 59 => ⟨S_, .f32⟩
  | 60 => ⟨S4096x3072, .f32⟩
  | 61 => ⟨S4096x3072, .f32⟩
  | 62 => ⟨S4096x3072, .f32⟩
  | 63 => ⟨S4096x3072, .f32⟩
  | 64 => ⟨S4096x1024, .f32⟩
  | 65 => ⟨S4096x3072, .f32⟩
  | 66 => ⟨S4096x3072, .f32⟩
  | 67 => ⟨S4096x3072, .f32⟩
  | 68 => ⟨S4096x3072, .f32⟩
  | 69 => ⟨S4096x3072, .f32⟩
  | 70 => ⟨S_, .f32⟩
  | 71 => ⟨S4096x3072, .f32⟩
  | 72 => ⟨S4096x3072, .f32⟩
  | 73 => ⟨S4096x3072, .f32⟩
  | 74 => ⟨S_, .f32⟩
  | 75 => ⟨S4096x3072, .f32⟩
  | 76 => ⟨S4096x3072, .f32⟩
  | 77 => ⟨S4096x3072, .f32⟩
  | 78 => ⟨S_, .f32⟩
  | 79 => ⟨S4096x3072, .f32⟩
  | 80 => ⟨S4096x3072, .f32⟩
  | 81 => ⟨S4096x3072, .f32⟩
  | 82 => ⟨S4096x3072, .f32⟩
  | 83 => ⟨S4096x6144, .f32⟩
  | 84 => ⟨S_, .f32⟩
  | 85 => ⟨S6144, .f32⟩
  | 86 => ⟨S1x6144, .f32⟩
  | 87 => ⟨S_, .f32⟩
  | 88 => ⟨S6144, .f32⟩
  | 89 => ⟨S4096x6144, .f32⟩
  | 90 => ⟨S_, .f32⟩
  | 91 => ⟨S6144, .f32⟩
  | 92 => ⟨S1x6144, .f32⟩
  | 93 => ⟨S4096x6144, .f32⟩
  | 94 => ⟨S4096x6144, .f32⟩
  | 95 => ⟨S_, .f32⟩
  | 96 => ⟨S6144, .f32⟩
  | 97 => ⟨S1x6144, .f32⟩
  | 98 => ⟨S_, .f32⟩
  | 99 => ⟨S3x6144, .f32⟩
  | 100 => ⟨S_, .f32⟩
  | 101 => ⟨S4098x6144, .f32⟩
  | 102 => ⟨S4096x6144, .f32⟩
  | 103 => ⟨S_, .f32⟩
  | 104 => ⟨S6144, .f32⟩
  | 105 => ⟨S1x6144, .f32⟩
  | 106 => ⟨S4096x6144, .f32⟩
  | 107 => ⟨S4096x6144, .f32⟩
  | 108 => ⟨S_, .f32⟩
  | 109 => ⟨S6144, .f32⟩
  | 110 => ⟨S1x6144, .f32⟩
  | 111 => ⟨S_, .f32⟩
  | 112 => ⟨S3x6144, .f32⟩
  | 113 => ⟨S3x6144, .f32⟩
  | 114 => ⟨S_, .f32⟩
  | 115 => ⟨S4098x6144, .f32⟩
  | 116 => ⟨S4098x6144, .f32⟩
  | 117 => ⟨S4096x6144, .f32⟩
  | 118 => ⟨S_, .f32⟩
  | 119 => ⟨S6144, .f32⟩
  | 120 => ⟨S1x6144, .f32⟩
  | 121 => ⟨S4096x6144, .f32⟩
  | 122 => ⟨S4096x6144, .f32⟩
  | 123 => ⟨S_, .f32⟩
  | 124 => ⟨S6144, .f32⟩
  | 125 => ⟨S1x6144, .f32⟩
  | 126 => ⟨S_, .f32⟩
  | 127 => ⟨S3x6144, .f32⟩
  | _ => ⟨S4096x6144, .f32⟩

abbrev hbmTy0_1 (i : Nat) : BufTy := match i % 128 with
  | 0 => ⟨S3x6144, .f32⟩
  | 1 => ⟨S_, .f32⟩
  | 2 => ⟨S4098x6144, .f32⟩
  | 3 => ⟨S4098x6144, .f32⟩
  | 4 => ⟨S2x6144, .f32⟩
  | 5 => ⟨S4096x6144, .f32⟩
  | 6 => ⟨S4096x6144, .bf16⟩
  | 7 => ⟨S1x6144, .f32⟩
  | _ => ⟨S4096x6144, .f32⟩

abbrev hbmTy (i : Nat) : BufTy := match i / 128 with
  | 0 => hbmTy0_0 i
  | 1 => hbmTy0_1 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_8 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_11 : Ref sig .tc := ⟨.hbm, 84, rfl⟩
abbrev main_v67 : Ref sig .tc := ⟨.hbm, 85, rfl⟩
abbrev main_v68 : Ref sig .tc := ⟨.hbm, 86, rfl⟩
abbrev main_cst_12 : Ref sig .tc := ⟨.hbm, 87, rfl⟩
abbrev main_v69 : Ref sig .tc := ⟨.hbm, 88, rfl⟩
abbrev main_v70 : Ref sig .tc := ⟨.hbm, 89, rfl⟩
abbrev main_cst_13 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_14 : Ref sig .tc := ⟨.hbm, 95, rfl⟩
abbrev main_v75 : Ref sig .tc := ⟨.hbm, 96, rfl⟩
abbrev main_v76 : Ref sig .tc := ⟨.hbm, 97, rfl⟩
abbrev main_cst_15 : Ref sig .tc := ⟨.hbm, 98, rfl⟩
abbrev main_v77 : Ref sig .tc := ⟨.hbm, 99, rfl⟩
abbrev main_cst_16 : Ref sig .tc := ⟨.hbm, 100, rfl⟩
abbrev main_v78 : Ref sig .tc := ⟨.hbm, 101, rfl⟩
abbrev main_v79 : Ref sig .tc := ⟨.hbm, 102, rfl⟩
abbrev main_cst_17 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_18 : Ref sig .tc := ⟨.hbm, 108, rfl⟩
abbrev main_v84 : Ref sig .tc := ⟨.hbm, 109, rfl⟩
abbrev main_v85 : Ref sig .tc := ⟨.hbm, 110, rfl⟩
abbrev main_cst_19 : Ref sig .tc := ⟨.hbm, 111, rfl⟩
abbrev main_v86 : Ref sig .tc := ⟨.hbm, 112, rfl⟩
abbrev main_v87 : Ref sig .tc := ⟨.hbm, 113, rfl⟩
abbrev main_cst_20 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_21 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_22 : Ref sig .tc := ⟨.hbm, 123, rfl⟩
abbrev main_v95 : Ref sig .tc := ⟨.hbm, 124, rfl⟩
abbrev main_v96 : Ref sig .tc := ⟨.hbm, 125, rfl⟩
abbrev main_cst_23 : Ref sig .tc := ⟨.hbm, 126, rfl⟩
abbrev main_v97 : Ref sig .tc := ⟨.hbm, 127, rfl⟩
abbrev main_v98 : Ref sig .tc := ⟨.hbm, 128, rfl⟩
abbrev main_cst_24 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩

abbrev nD : Nat := 1
abbrev τ : Topo := Topo.v7x

variable {F : FTy → Type} [FloatOps F]
-- ==== KernelM.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 18
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S4096x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceMIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== KernelF.lean ====
abbrev S4096x1024 : Shape := ⟨2, ![4096, 1024]⟩
abbrev S1024x6144 : Shape := ⟨2, ![1024, 6144]⟩
abbrev S3072x1024 : Shape := ⟨2, ![3072, 1024]⟩
abbrev S3x6144 : Shape := ⟨2, ![3, 6144]⟩
abbrev S6144 : Shape := ⟨1, ![6144]⟩
abbrev S1024 : Shape := ⟨1, ![1024]⟩
abbrev S1024x4x1536 : Shape := ⟨3, ![1024, 4, 1536]⟩
abbrev S4x1024x1536 : Shape := ⟨3, ![4, 1024, 1536]⟩
abbrev S1x6144 : Shape := ⟨2, ![1, 6144]⟩
abbrev S1x1024 : Shape := ⟨2, ![1, 1024]⟩
abbrev S4096x6144 : Shape := ⟨2, ![4096, 6144]⟩
abbrev S4096x3072 : Shape := ⟨2, ![4096, 3072]⟩
abbrev S1x128 : Shape := ⟨2, ![1, 128]⟩
abbrev S256x1024 : Shape := ⟨2, ![256, 1024]⟩
abbrev S256x6144 : Shape := ⟨2, ![256, 6144]⟩
abbrev S256x3072 : Shape := ⟨2, ![256, 3072]⟩
abbrev S8x6144 : Shape := ⟨2, ![8, 6144]⟩
abbrev S1x1024x768 : Shape := ⟨3, ![1, 1024, 768]⟩
abbrev S1024x768 : Shape := ⟨2, ![1024, 768]⟩
abbrev S256x768 : Shape := ⟨2, ![256, 768]⟩
abbrev S8x768 : Shape := ⟨2, ![8, 768]⟩
abbrev S1x768 : Shape := ⟨2, ![1, 768]⟩
abbrev S248x768 : Shape := ⟨2, ![248, 768]⟩
abbrev S768x1024 : Shape := ⟨2, ![768, 1024]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 25
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x6144, .f32⟩
  | .hbm, ⟨4, _⟩ => ⟨S3072x1024, .f32⟩
  | .hbm, ⟨5, _⟩ => ⟨S3x6144, .f32⟩
  | .hbm, ⟨6, _⟩ => ⟨S6144, .f32⟩
  | .hbm, ⟨7, _⟩ => ⟨S1024, .f32⟩
  | .hbm, ⟨8, _⟩ => ⟨S1024, .f32⟩
  | .hbm, ⟨9, _⟩ => ⟨S4096x1024, .bf16⟩
  | .hbm, ⟨10, _⟩ => ⟨S1024x4x1536, .f32⟩
  | .hbm, ⟨11, _⟩ => ⟨S4x1024x1536, .f32⟩
  | .hbm, ⟨12, _⟩ => ⟨S4x1024x1536, .bf16⟩
  | .hbm, ⟨13, _⟩ => ⟨S3072x1024, .bf16⟩
  | .hbm, ⟨14, _⟩ => ⟨S1x6144, .f32⟩
  | .hbm, ⟨15, _⟩ => ⟨S1x1024, .f32⟩
  | .hbm, ⟨16, _⟩ => ⟨S1x1024, .f32⟩
  | .hbm, ⟨17, _⟩ => ⟨S4096x6144, .bf16⟩
  | .hbm, ⟨18, _⟩ => ⟨S4096x6144, .bf16⟩
  | .hbm, ⟨19, _⟩ => ⟨S4096x3072, .bf16⟩
  | .hbm, ⟨20, _⟩ => ⟨S4096x1024, .bf16⟩
  | .hbm, ⟨21, _⟩ => ⟨S4096x1024, .f32⟩
  | .hbm, ⟨22, _⟩ => ⟨S1x128, .f32⟩
  | .hbm, ⟨23, _⟩ => ⟨S1x1024, .f32⟩
  | .hbm, ⟨24, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x1024x1536, .bf16⟩
  | .local _ .vmem, ⟨7, _⟩ => ⟨S3072x1024, .bf16⟩
  | .local _ .vmem, ⟨8, _⟩ => ⟨S3x6144, .f32⟩
  | .local _ .vmem, ⟨9, _⟩ => ⟨S1x6144, .f32⟩
  | .local _ .vmem, ⟨10, _⟩ => ⟨S1x1024, .f32⟩
  | .local _ .vmem, ⟨11, _⟩ => ⟨S1x1024, .f32⟩
  | .local _ .vmem, ⟨12, _⟩ => ⟨S256x6144, .bf16⟩
  | .local _ .vmem, ⟨13, _⟩ => ⟨S256x6144, .bf16⟩
  | .local _ .vmem, ⟨14, _⟩ => ⟨S256x6144, .bf16⟩
  | .local _ .vmem, ⟨15, _⟩ => ⟨S256x6144, .bf16⟩
  | .local _ .vmem, ⟨16, _⟩ => ⟨S256x3072, .bf16⟩
  | .local _ .vmem, ⟨17, _⟩ => ⟨S256x3072, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S1x128, .f32⟩
  | .local _ .vmem, ⟨23, _⟩ => ⟨S1x1024, .f32⟩
  | .local _ .vmem, ⟨24, _⟩ => ⟨S1x1024, .f32⟩
  | .local _ .vmem, ⟨25, _⟩ => ⟨S8x6144, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_v8_6 : Ref sig .tc := ⟨.hbm, 23, rfl⟩
abbrev main_v8_7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x6144 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x6144 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceFIdeal.lean ====
abbrev S4096x1024 : Shape := ⟨2, ![4096, 1024]⟩
abbrev S1024x6144 : Shape := ⟨2, ![1024, 6144]⟩
abbrev S3072x1024 : Shape := ⟨2, ![3072, 1024]⟩
abbrev S3x6144 : Shape := ⟨2, ![3, 6144]⟩
abbrev S6144 : Shape := ⟨1, ![6144]⟩
abbrev S1024 : Shape := ⟨1, ![1024]⟩
abbrev S4096x6144 : Shape := ⟨2, ![4096, 6144]⟩
abbrev S_ : Shape := ⟨0, ![]⟩
abbrev S2x6144 : Shape := ⟨2, ![2, 6144]⟩
abbrev S4098x6144 : Shape := ⟨2, ![4098, 6144]⟩
abbrev S1x6144 : Shape := ⟨2, ![1, 6144]⟩
abbrev S4096x3072 : Shape := ⟨2, ![4096, 3072]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 144
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S1024x6144, .f32⟩
  | 4 => ⟨S3072x1024, .f32⟩
  | 5 => ⟨S3x6144, .f32⟩
  | 6 => ⟨S6144, .f32⟩
  | 7 => ⟨S1024, .f32⟩
  | 8 => ⟨S1024, .f32⟩
  | 9 => ⟨S4096x6144, .f32⟩
  | 10 => ⟨S_, .f32⟩
  | 11 => ⟨S2x6144, .f32⟩
  | 12 => ⟨S4098x6144, .f32⟩
  | 13 => ⟨S4096x6144, .f32⟩
  | 14 => ⟨S1x6144, .f32⟩
  | 15 => ⟨S6144, .f32⟩
  | 16 => ⟨S1x6144, .f32⟩
  | 17 => ⟨S4096x6144, .f32⟩
  | 18 => ⟨S4096x6144, .f32⟩
  | 19 => ⟨S4096x6144, .f32⟩
  | 20 => ⟨S1x6144, .f32⟩
  | 21 => ⟨S6144, .f32⟩
  | 22 => ⟨S1x6144, .f32⟩
  | 23 => ⟨S4096x6144, .f32⟩
  | 24 => ⟨S4096x6144, .f32⟩
  | 25 => ⟨S4096x6144, .f32⟩
  | 26 => ⟨S4096x6144, .f32⟩
  | 27 => ⟨S1x6144, .f32⟩
  | 28 => ⟨S6144, .f32⟩
  | 29 => ⟨S1x6144, .f32⟩
  | 30 => ⟨S4096x6144, .f32⟩
  | 31 => ⟨S4096x6144, .f32⟩
  | 32 => ⟨S4096x6144, .f32⟩
  | 33 => ⟨S1x6144, .f32⟩
  | 34 => ⟨S4096x6144, .f32⟩
  | 35 => ⟨S4096x6144, .f32⟩
  | 36 => ⟨S4096x3072, .f32⟩
  | 37 => ⟨S4096x3072, .f32⟩
  | 38 => ⟨S4096x3072, .f32⟩
  | 39 => ⟨S4096x3072, .f32⟩
  | 40 => ⟨S_, .f32⟩
  | 41 => ⟨S4096x3072, .f32⟩
  | 42 => ⟨S4096x3072, .f32⟩
  | 43 => ⟨S4096x3072, .f32⟩
  | 44 => ⟨S_, .f32⟩
  | 45 => ⟨S4096x3072, .f32⟩
  | 46 => ⟨S4096x3072, .f32⟩
  | 47 => ⟨S4096x3072, .f32⟩
  | 48 => ⟨S_, .f32⟩
  | 49 => ⟨S4096x3072, .f32⟩
  | 50 => ⟨S4096x3072, .f32⟩
  | 51 => ⟨S_, .f32⟩
  | 52 => ⟨S4096x3072, .f32⟩
  | 53 => ⟨S4096x3072, .f32⟩
  | 54 => ⟨S4096x3072, .f32⟩
  | 55 => ⟨S4096x3072, .f32⟩
  | 56 => ⟨S4096x1024, .f32⟩
  | 57 => ⟨S4096x1024, .f32⟩
  | 58 => ⟨S_, .f32⟩
  | 59 => ⟨S4096, .f32⟩
  | 60 => ⟨S4096x1, .f32⟩
  | 61 => ⟨S_, .f32⟩
  | 62 => ⟨S4096x1, .f32⟩
  | 63 => ⟨S4096x1, .f32⟩
  | 64 => ⟨S_, .f32⟩
  | 65 => ⟨S4096x1, .f32⟩
  | 66 => ⟨S4096x1, .f32⟩
  | 67 => ⟨S4096x1, .f32⟩
  | 68 => ⟨S4096x1, .f32⟩
  | 69 => ⟨S_, .f32⟩
  | 70 => ⟨S4096x1, .f32⟩
  | 71 => ⟨S4096x1, .f32⟩
  | 72 => ⟨S4096x1024, .f32⟩
  | 73 => ⟨S4096x1024, .f32⟩
  | 74 => ⟨S1x1024, .f32⟩
  | 75 => ⟨S4096x1024, .f32⟩
  | 76 => ⟨S4096x1024, .f32⟩
  | 77 => ⟨S1x1024, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S_, .f32⟩
  | 84 => ⟨S4096x1024, .f32⟩
  | 85 => ⟨S4096x1024, .f32⟩
  | 86 => ⟨S_, .f32⟩
  | 87 => ⟨S4096, .f32⟩
  | 88 => ⟨S_, .f32⟩
  | 89 => ⟨S4096, .f32⟩
  | 90 => ⟨S4096, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S4096, .f32⟩
  | 99 => ⟨S_, .f32⟩
  | 100 => ⟨S4096, .f32⟩
  | 101 => ⟨S4096, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S_, .f32⟩
  | 108 => ⟨S1024, .f32⟩
  | 109 => ⟨S1x1024, .f32⟩
  | 110 => ⟨S_, .f32⟩
  | 111 => ⟨S1024, .f32⟩
  | 112 => ⟨S4096x1024, .f32⟩
  | 113 => ⟨S_, .f32⟩
  | 114 => ⟨S1024, .f32⟩
  | 115 => ⟨S1x1024, .f32⟩
  | 116 => ⟨S4096x1024, .f32⟩
  | 117 => ⟨S4096x1024, .f32⟩
  | 118 => ⟨S_, .f32⟩
  | 119 => ⟨S1024, .f32⟩
  | 120 => ⟨S4096x1024, .f32⟩
  | 121 => ⟨S_, .f32⟩
  | 122 => ⟨S4096, .f32⟩
  | 123 => ⟨S4096x1, .f32⟩
  | 124 => ⟨S4096x1024, .f32⟩
  | 125 => ⟨S4096x1024, .f32⟩
  | 126 => ⟨S4096x1, .f32⟩
  | 127 => ⟨S_, .f32⟩
  | _ => ⟨S4096x1024, .f32⟩

abbrev hbmTy0_1 (i : Nat) : BufTy := match i % 128 with
  | 0 => ⟨S4096x1, .f32⟩
  | 1 => ⟨S4096x1, .f32⟩
  | 2 => ⟨S_, .f32⟩
  | 3 => ⟨S4096, .f32⟩
  | 4 => ⟨S4096x1024, .f32⟩
  | 5 => ⟨S4096x1024, .f32⟩
  | 6 => ⟨S4096x1024, .f32⟩
  | 7 => ⟨S4096x1024, .f32⟩
  | 8 => ⟨S4096x1024, .f32⟩
  | 9 => ⟨S4096x6144, .bf16⟩
  | 10 => ⟨S4096x6144, .bf16⟩
  | 11 => ⟨S4096x3072, .bf16⟩
  | 12 => ⟨S4096x1024, .bf16⟩
  | 13 => ⟨S1x128, .f32⟩
  | 14 => ⟨S1x1024, .f32⟩
  | 15 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_8 : Ref sig .tc := ⟨.hbm, 83, rfl⟩
abbrev main_v65 : Ref sig .tc := ⟨.hbm, 84, rfl⟩
abbrev main_v66 : Ref sig .tc := ⟨.hbm, 85, rfl⟩
abbrev main_cst_9 : Ref sig .tc := ⟨.hbm, 86, rfl⟩
abbrev main_v67 : Ref sig .tc := ⟨.hbm, 87, rfl⟩
abbrev main_cst_10 : Ref sig .tc := ⟨.hbm, 88, rfl⟩
abbrev main_v68 : Ref sig .tc := ⟨.hbm, 89, rfl⟩
abbrev main_v69 : Ref sig .tc := ⟨.hbm, 90, rfl⟩
abbrev main_cst_11 : Ref sig .tc := ⟨.hbm, 91, rfl⟩
abbrev main_v70 : Ref sig .tc := ⟨.hbm, 92, rfl⟩
abbrev main_cst_12 : Ref sig .tc := ⟨.hbm, 93, rfl⟩
abbrev main_v71 : Ref sig .tc := ⟨.hbm, 94, rfl⟩
abbrev main_cst_13 : Ref sig .tc := ⟨.hbm, 95, rfl⟩
abbrev main_cst_14 : Ref sig .tc := ⟨.hbm, 96, rfl⟩
abbrev main_v72 : Ref sig .tc := ⟨.hbm, 97, rfl⟩
abbrev main_v73 : Ref sig .tc := ⟨.hbm, 98, rfl⟩
abbrev main_cst_15 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_16 : Ref sig .tc := ⟨.hbm, 107, rfl⟩
abbrev main_v81 : Ref sig .tc := ⟨.hbm, 108, rfl⟩
abbrev main_v82 : Ref sig .tc := ⟨.hbm, 109, rfl⟩
abbrev main_cst_17 : Ref sig .tc := ⟨.hbm, 110, rfl⟩
abbrev main_v83 : Ref sig .tc := ⟨.hbm, 111, rfl⟩
abbrev main_v84 : Ref sig .tc := ⟨.hbm, 112, rfl⟩
abbrev main_cst_18 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_19 : Ref sig .tc := ⟨.hbm, 118, rfl⟩
abbrev main_v89 : Ref sig .tc := ⟨.hbm, 119, rfl⟩
abbrev main_v90 : Ref sig .tc := ⟨.hbm, 120, rfl⟩
abbrev main_cst_20 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_21 : Ref sig .tc := ⟨.hbm, 127, rfl⟩
abbrev main_v96 : Ref sig .tc := ⟨.hbm, 128, rfl⟩
abbrev main_v97 : Ref sig .tc := ⟨.hbm, 129, rfl⟩
abbrev main_cst_22 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩

abbrev nD : Nat := 1
abbrev τ : Topo := Topo.v7x

variable {F : FTy → Type} [FloatOps F]
-- ==== KernelO.lean ====
abbrev S1x6144 : Shape := ⟨2, ![1, 6144]⟩

abbrev nBuf : Space → Nat
  | .hbm => 7
  | .vmem => 7
  | .smem => 0
  | _ => 0

abbrev bufTy : (tb : Table) → Fin (tcTables nBuf tb) → BufTy
  | .hbm, ⟨0, _⟩ => ⟨S1x6144, .f32⟩
  | .hbm, ⟨1, _⟩ => ⟨S1x6144, .f32⟩
  | .hbm, ⟨2, _⟩ => ⟨S1x6144, .f32⟩
  | .hbm, ⟨3, _⟩ => ⟨S1x6144, .f32⟩
  | .hbm, ⟨4, _⟩ => ⟨S1x6144, .f32⟩
  | .hbm, ⟨5, _⟩ => ⟨S1x6144, .f32⟩
  | .hbm, ⟨6, _⟩ => ⟨S1x6144, .f32⟩
  | .local _ .vmem, ⟨0, _⟩ => ⟨S1x6144, .f32⟩
  | .local _ .vmem, ⟨1, _⟩ => ⟨S1x6144, .f32⟩
  | .local _ .vmem, ⟨2, _⟩ => ⟨S1x6144, .f32⟩
  | .local _ .vmem, ⟨3, _⟩ => ⟨S1x6144, .f32⟩
  | .local _ .vmem, ⟨4, _⟩ => ⟨S1x6144, .f32⟩
  | .local _ .vmem, ⟨5, _⟩ => ⟨S1x6144, .f32⟩
  | .local _ .vmem, ⟨6, _⟩ => ⟨S1x6144, .f32⟩
  | _, _ => ⟨S1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceOIdeal.lean ====
abbrev S1x6144 : Shape := ⟨2, ![1, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x6144, .f32⟩
  | .hbm, ⟨1, _⟩ => ⟨S1x6144, .f32⟩
  | .hbm, ⟨2, _⟩ => ⟨S1x6144, .f32⟩
  | .hbm, ⟨3, _⟩ => ⟨S1x6144, .f32⟩
  | .hbm, ⟨4, _⟩ => ⟨S_, .f32⟩
  | .hbm, ⟨5, _⟩ => ⟨S1x6144, .f32⟩
  | .hbm, ⟨6, _⟩ => ⟨S1x6144, .f32⟩
  | .hbm, ⟨7, _⟩ => ⟨S_, .f32⟩
  | .hbm, ⟨8, _⟩ => ⟨S1x6144, .f32⟩
  | .hbm, ⟨9, _⟩ => ⟨S1x6144, .f32⟩
  | .hbm, ⟨10, _⟩ => ⟨S1x6144, .f32⟩
  | .hbm, ⟨11, _⟩ => ⟨S_, .f32⟩
  | .hbm, ⟨12, _⟩ => ⟨S1x6144, .f32⟩
  | .hbm, ⟨13, _⟩ => ⟨S1x6144, .f32⟩
  | .hbm, ⟨14, _⟩ => ⟨S1x6144, .f32⟩
  | .hbm, ⟨15, _⟩ => ⟨S_, .f32⟩
  | .hbm, ⟨16, _⟩ => ⟨S1x6144, .f32⟩
  | .hbm, ⟨17, _⟩ => ⟨S1x6144, .f32⟩
  | .hbm, ⟨18, _⟩ => ⟨S1x6144, .f32⟩
  | .hbm, ⟨19, _⟩ => ⟨S_, .f32⟩
  | .hbm, ⟨20, _⟩ => ⟨S1x6144, .f32⟩
  | .hbm, ⟨21, _⟩ => ⟨S1x6144, .f32⟩
  | .hbm, ⟨22, _⟩ => ⟨S_, .f32⟩
  | .hbm, ⟨23, _⟩ => ⟨S1x6144, .f32⟩
  | .hbm, ⟨24, _⟩ => ⟨S1x6144, .f32⟩
  | .hbm, ⟨25, _⟩ => ⟨S1x6144, .f32⟩
  | .hbm, ⟨26, _⟩ => ⟨S_, .f32⟩
  | .hbm, ⟨27, _⟩ => ⟨S1x6144, .f32⟩
  | .hbm, ⟨28, _⟩ => ⟨S1x6144, .f32⟩
  | .hbm, ⟨29, _⟩ => ⟨S1x6144, .f32⟩
  | .hbm, ⟨30, _⟩ => ⟨S_, .f32⟩
  | .hbm, ⟨31, _⟩ => ⟨S1x6144, .f32⟩
  | .hbm, ⟨32, _⟩ => ⟨S1x6144, .f32⟩
  | .hbm, ⟨33, _⟩ => ⟨S1x6144, .f32⟩
  | .hbm, ⟨34, _⟩ => ⟨S_, .f32⟩
  | .hbm, ⟨35, _⟩ => ⟨S1x6144, .f32⟩
  | .hbm, ⟨36, _⟩ => ⟨S1x6144, .f32⟩
  | _, _ => ⟨S1x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelE.lean ====
abbrev S8x1024 : Shape := ⟨2, ![8, 1024]⟩
abbrev S8x6144 : Shape := ⟨2, ![8, 6144]⟩
abbrev S1024x1536 : Shape := ⟨2, ![1024, 1536]⟩
abbrev S_ : Shape := ⟨0, ![]⟩
abbrev S1 : Shape := ⟨1, ![1]⟩
abbrev S1x6144 : Shape := ⟨2, ![1, 6144]⟩
abbrev S8x512 : Shape := ⟨2, ![8, 512]⟩
abbrev S8x1536 : Shape := ⟨2, ![8, 1536]⟩
abbrev S512x1536 : Shape := ⟨2, ![512, 1536]⟩

abbrev nBuf : Space → Nat
  | .hbm => 11
  | .vmem => 19
  | .smem => 1
  | _ => 0

abbrev bufTy : (tb : Table) → Fin (tcTables nBuf tb) → BufTy
  | .hbm, ⟨0, _⟩ => ⟨S8x1024, .f32⟩
  | .hbm, ⟨1, _⟩ => ⟨S8x6144, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S_, .i32⟩
  | .hbm, ⟨6, _⟩ => ⟨S1024x1536, .f32⟩
  | .hbm, ⟨7, _⟩ => ⟨S1024x1536, .f32⟩
  | .hbm, ⟨8, _⟩ => ⟨S1024x1536, .f32⟩
  | .hbm, ⟨9, _⟩ => ⟨S1024x1536, .f32⟩
  | .hbm, ⟨10, _⟩ => ⟨S1x6144, .f32⟩
  | .local _ .vmem, ⟨0, _⟩ => ⟨S8x512, .f32⟩
  | .local _ .vmem, ⟨1, _⟩ => ⟨S8x512, .f32⟩
  | .local _ .vmem, ⟨2, _⟩ => ⟨S8x1536, .f32⟩
  | .local _ .vmem, ⟨3, _⟩ => ⟨S8x6144, .f32⟩
  | .local _ .vmem, ⟨4, _⟩ => ⟨S512x1536, .f32⟩
  | .local _ .vmem, ⟨5, _⟩ => ⟨S512x1536, .f32⟩
  | .local _ .vmem, ⟨6, _⟩ => ⟨S512x1536, .f32⟩
  | .local _ .vmem, ⟨7, _⟩ => ⟨S512x1536, .f32⟩
  | .local _ .vmem, ⟨8, _⟩ => ⟨S512x1536, .f32⟩
  | .local _ .vmem, ⟨9, _⟩ => ⟨S512x1536, .f32⟩
  | .local _ .vmem, ⟨10, _⟩ => ⟨S512x1536, .f32⟩
  | .local _ .vmem, ⟨11, _⟩ => ⟨S512x1536, .f32⟩
  | .local _ .vmem, ⟨12, _⟩ => ⟨S512x1536, .f32⟩
  | .local _ .vmem, ⟨13, _⟩ => ⟨S512x1536, .f32⟩
  | .local _ .vmem, ⟨14, _⟩ => ⟨S512x1536, .f32⟩
  | .local _ .vmem, ⟨15, _⟩ => ⟨S512x1536, .f32⟩
  | .local _ .vmem, ⟨16, _⟩ => ⟨S512x1536, .f32⟩
  | .local _ .vmem, ⟨17, _⟩ => ⟨S512x1536, .f32⟩
  | .local _ .vmem, ⟨18, _⟩ => ⟨S1x6144, .f32⟩
  | .local _ .smem, ⟨0, _⟩ => ⟨S1, .i32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x6144 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceEIdeal.lean ====
abbrev S8x1024 : Shape := ⟨2, ![8, 1024]⟩
abbrev S8x6144 : Shape := ⟨2, ![8, 6144]⟩
abbrev S1024x1536 : Shape := ⟨2, ![1024, 1536]⟩
abbrev S_ : Shape := ⟨0, ![]⟩
abbrev S1x6144 : Shape := ⟨2, ![1, 6144]⟩
abbrev S8x1536 : Shape := ⟨2, ![8, 1536]⟩
abbrev S6144 : Shape := ⟨1, ![6144]⟩
abbrev S1536x1024 : Shape := ⟨2, ![1536, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x6144, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S_, .f32⟩
  | .hbm, ⟨6, _⟩ => ⟨S1x6144, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1536, .f32⟩
  | .hbm, ⟨17, _⟩ => ⟨S8x6144, .f32⟩
  | .hbm, ⟨18, _⟩ => ⟨S8x1536, .f32⟩
  | .hbm, ⟨19, _⟩ => ⟨S_, .f32⟩
  | .hbm, ⟨20, _⟩ => ⟨S6144, .f32⟩
  | .hbm, ⟨21, _⟩ => ⟨S1x6144, .f32⟩
  | .hbm, ⟨22, _⟩ => ⟨S1536x1024, .f32⟩
  | .hbm, ⟨23, _⟩ => ⟨S1024x1536, .f32⟩
  | .hbm, ⟨24, _⟩ => ⟨S_, .f32⟩
  | .hbm, ⟨25, _⟩ => ⟨S1024x1536, .f32⟩
  | .hbm, ⟨26, _⟩ => ⟨S1024x1536, .f32⟩
  | .hbm, ⟨27, _⟩ => ⟨S_, .f32⟩
  | .hbm, ⟨28, _⟩ => ⟨S1024x1536, .f32⟩
  | .hbm, ⟨29, _⟩ => ⟨S1024x1536, .f32⟩
  | .hbm, ⟨30, _⟩ => ⟨S1024x1536, .f32⟩
  | .hbm, ⟨31, _⟩ => ⟨S_, .f32⟩
  | .hbm, ⟨32, _⟩ => ⟨S1024x1536, .f32⟩
  | .hbm, ⟨33, _⟩ => ⟨S1024x1536, .f32⟩
  | .hbm, ⟨34, _⟩ => ⟨S1024x1536, .f32⟩
  | .hbm, ⟨35, _⟩ => ⟨S_, .f32⟩
  | .hbm, ⟨36, _⟩ => ⟨S1024x1536, .f32⟩
  | .hbm, ⟨37, _⟩ => ⟨S1024x1536, .f32⟩
  | .hbm, ⟨38, _⟩ => ⟨S1024x1536, .f32⟩
  | .hbm, ⟨39, _⟩ => ⟨S_, .f32⟩
  | .hbm, ⟨40, _⟩ => ⟨S1024x1536, .f32⟩
  | .hbm, ⟨41, _⟩ => ⟨S1024x1536, .f32⟩
  | .hbm, ⟨42, _⟩ => ⟨S_, .f32⟩
  | .hbm, ⟨43, _⟩ => ⟨S1024x1536, .f32⟩
  | .hbm, ⟨44, _⟩ => ⟨S1024x1536, .f32⟩
  | .hbm, ⟨45, _⟩ => ⟨S1024x1536, .f32⟩
  | .hbm, ⟨46, _⟩ => ⟨S_, .f32⟩
  | .hbm, ⟨47, _⟩ => ⟨S1024x1536, .f32⟩
  | .hbm, ⟨48, _⟩ => ⟨S1024x1536, .f32⟩
  | .hbm, ⟨49, _⟩ => ⟨S1024x1536, .f32⟩
  | .hbm, ⟨50, _⟩ => ⟨S_, .f32⟩
  | .hbm, ⟨51, _⟩ => ⟨S1024x1536, .f32⟩
  | .hbm, ⟨52, _⟩ => ⟨S1024x1536, .f32⟩
  | .hbm, ⟨53, _⟩ => ⟨S1024x1536, .f32⟩
  | .hbm, ⟨54, _⟩ => ⟨S_, .f32⟩
  | .hbm, ⟨55, _⟩ => ⟨S1024x1536, .f32⟩
  | .hbm, ⟨56, _⟩ => ⟨S1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_7 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_8 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_9 : Ref sig .tc := ⟨.hbm, 54, rfl⟩
abbrev main_v31 : Ref sig .tc := ⟨.hbm, 55, rfl⟩
abbrev main_v32 : Ref sig .tc := ⟨.hbm, 56, rfl⟩

abbrev nD : Nat := 1
abbrev τ : Topo := Topo.v7x

variable {F : FTy → Type} [FloatOps F]
-- ==== Proof.WgradUp.lean ====
/- The weight gradient `wgrad_up`: what the kernel leaves in its result is the product `h2ᵀ dup0`, element by
   element a sum over the 4096 positions, which the kernel takes as two sums of 2048 over its grid's second axis. -/
module

public import proofs.«01_k».proof.Proof.Gen.KernelUpIdeal.Value
public import proofs.«01_k».proof.Proof.Gen.ReferenceUpIdeal.Read
public import Idealize.ShloMosaic.Lib.Pointwise

@[expose] public section

noncomputable section

namespace Cert.Proof.Up

open Cert.KernelUpIdeal Cert.KernelUpIdeal.Gen Cert.KernelUpIdeal.Value Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section Body
variable {F : FTy → Type} [FloatOps F]

/-- The first half of a chunk: the scratch is cleared, then the block's product is added. -/
theorem scratch_first (c : Dev nD) (i : grid0.Coords) (a2 : Memref sig .tc .vmem S2048x1024 .bf16) (h2 : a2.IsWhole)
    (a3 : Memref sig .tc .vmem S2048x1536 .bf16) (h3 : a3.IsWhole) (a4 : Memref sig .tc .vmem S1x1024x1536 .bf16) (h4 : a4.IsWhole)
    (a5 : Memref sig .tc .vmem S1024x1536 .f32) (h5 : a5.IsWhole) (p : cond0_0 i) (q : ¬cond0_1 i) (x : Vec F S2048x1024 .bf16) (y : Vec F S2048x1536 .bf16) :
    sout0_A_0 c i a2 h2 a3 h3 a4 h4 a5 h5 p q x y = k0_pay2 k0_pay1 x y := by
  unfold sout0_A_0
  rw [View.read_writes_eq_canon _ _ _ (scover0_A_0 c i a2 h2 a3 h3 a4 h4 a5 h5 p q x y)]
  unfold kernelRun0_A
  dsimp only
  sl_unfold_words
  rw [View.canon_cons_unit_zero (S := S1024x1536) hz2, View.readCov_unit_zero (S := S1024x1536) _ hz2]
  simp only [View.readAt_eq_ld, h2.read_unread, h3.read_unread, View.ld_unit_zero (S := S2048x1024) hz2,
    View.ld_unit_zero (S := S2048x1536) hz2]

/-- The second half: its product is added to the scratch, which is rounded into the result block. -/
theorem block_last (c : Dev nD) (i : grid0.Coords) (a2 : Memref sig .tc .vmem S2048x1024 .bf16) (h2 : a2.IsWhole)
    (a3 : Memref sig .tc .vmem S2048x1536 .bf16) (h3 : a3.IsWhole) (a4 : Memref sig .tc .vmem S1x1024x1536 .bf16) (h4 : a4.IsWhole)
    (a5 : Memref sig .tc .vmem S1024x1536 .f32) (h5 : a5.IsWhole) (p : ¬cond0_0 i) (q : cond0_1 i) (x : Vec F S2048x1024 .bf16) (y : Vec F S2048x1536 .bf16)
    (s : Vec F S1024x1536 .f32) :
    out0_B_2 c i a2 h2 a3 h3 a4 h4 a5 h5 p q x y s = k0_pay3 (k0_pay2 s x y) := by
  unfold out0_B_2
  rw [View.read_writes_eq_canon _ _ _ (cover0_B_2 c i a2 h2 a3 h3 a4 h4 a5 h5 p q x y s)]
  unfold kernelRun0_B
  dsimp only
  sl_unfold_words
  rw [View.canon_unit_zero hz3, View.readCov_unit_zero (S := S1024x1536) _ hz2]
  simp only [View.readAt_eq_ld, h2.read_unread, h3.read_unread, h5.read_unread, View.ld_unit_zero (S := S2048x1024) hz2,
    View.ld_unit_zero (S := S2048x1536) hz2, View.ld_unit_zero (S := S1024x1536) hz2]

end Body

variable (m : (ℓ : Loc nD τ sig) → Buf (Elt Ideal) ℓ)

/-- What a chunk's last point leaves in the result block. -/
theorem last_eq (c : Dev nD) (n : ℕ) (h : n + 1 < cfg0.N) (e : n % 2 = 0) :
    (outsAt0 m c (n + 1) h).1 = k0_pay3 (k0_pay2 (k0_pay2 k0_pay1 (iblk m c 0 ⟨n, Nat.lt_of_succ_lt h⟩)
      (iblk m c 1 ⟨n, Nat.lt_of_succ_lt h⟩)) (iblk m c 0 ⟨n + 1, h⟩) (iblk m c 1 ⟨n + 1, h⟩)) := by
  have b0 : ¬(n + 1) % 2 = 0 := by omega
  have b1 : (n + 1) % 2 = 1 := by omega
  have a1 : ¬n % 2 = 1 := by omega
  rw [outsAt0_B m c ⟨n + 1, h⟩ b0 b1]
  dsimp only
  rw [block_last]
  congr 2
  show (outsAt0 m c n _).2 = _
  rw [outsAt0_A m c ⟨n, Nat.lt_of_succ_lt h⟩ e a1]
  dsimp only
  rw [scratch_first]

/-- Which blocks of the operands a point reads. -/
theorem idx_in : ∀ t : Fin cfg0.N, win0_0.index t (0 : Fin 2) = t.val % 2 ∧ win0_0.index t (1 : Fin 2) = 0
    ∧ win0_1.index t (0 : Fin 2) = t.val % 2 ∧ win0_1.index t (1 : Fin 2) = t.val / 2 :=
  (by decide +kernel : ∀ t : Fin grid0.N, _)

theorem left_apply (c : Dev nD) (t : Fin cfg0.N) (k : Fin 2048) (r : Fin 1024) (k' : Fin 4096)
    (e : k'.val = t.val % 2 * 2048 + k.val) :
    (iblk m c 0 t : Vec Ideal S2048x1024 .bf16) (ix2 k r) = m ((c : Thread nD τ).loc main_arg0) (ix2 k' r) := by
  obtain ⟨e0, e1, -, -⟩ := idx_in t
  unfold iblk
  rw [View.read_apply]
  show V m c main_arg0 _ = _
  rw [V_main_arg0]
  congr 1
  funext a
  apply Fin.ext
  match a with
  | ⟨0, _⟩ => show win0_0.index t 0 * 2048 + 1 * k.val = k'.val; rw [e0]; omega
  | ⟨1, _⟩ => show win0_0.index t 1 * 1024 + 1 * r.val = r.val; rw [e1]; omega

theorem right_apply (c : Dev nD) (t : Fin cfg0.N) (k : Fin 2048) (j : Fin 1536) (k' : Fin 4096) (j' : Fin 6144)
    (e : k'.val = t.val % 2 * 2048 + k.val) (e' : j'.val = t.val / 2 * 1536 + j.val) :
    (iblk m c 1 t : Vec Ideal S2048x1536 .bf16) (ix2 k j) = m ((c : Thread nD τ).loc main_arg1) (ix2 k' j') := by
  obtain ⟨-, -, e2, e3⟩ := idx_in t
  unfold iblk
  rw [View.read_apply]
  show V m c main_arg1 _ = _
  rw [V_main_arg1]
  congr 1
  funext a
  apply Fin.ext
  match a with
  | ⟨0, _⟩ => show win0_1.index t 0 * 2048 + 1 * k.val = k'.val; rw [e2]; omega
  | ⟨1, _⟩ => show win0_1.index t 1 * 1536 + 1 * j.val = j'.val; rw [e3]; omega

/-- The product's element over the argument arrays. -/
def dot (a : S4096x1024.Idx → EReal) (b : S4096x6144.Idx → EReal) (r : Fin 1024) (j : Fin 6144) : EReal :=
  ∑ k : Fin 4096, a (ix2 k r) * b (ix2 k j)

set_option maxRecDepth 16384 in
theorem payload_apply (x x' : Vec Ideal S2048x1024 .bf16) (y y' : Vec Ideal S2048x1536 .bf16) (u : Fin 1) (r : Fin 1024) (j : Fin 1536) :
    (k0_pay3 (F := Ideal) (k0_pay2 (F := Ideal) (k0_pay2 (F := Ideal) (k0_pay1 (F := Ideal)) x y) x' y') : Vec Ideal S1x1024x1536 .bf16) (ix3 u r j)
      = (∑ k : Fin 2048, (x (ix2 k r) : EReal) * y (ix2 k j)) + ∑ k : Fin 2048, x' (ix2 k r) * y' (ix2 k j) := by
  pointwise [k0_pay1, k0_pay2, k0_pay3]

theorem result_apply (c : Dev nD) (ch : Fin 4) (r : Fin 1024) (j : Fin 1536) (j' : Fin 6144) (e : j'.val = ch.val * 1536 + j.val) :
    G2 m c (ix3 ch r j) = dot (m ((c : Thread nD τ).loc main_arg0)) (m ((c : Thread nD τ).loc main_arg1)) r j' := by
  have hr := r.isLt
  have hj := j.isLt
  have hc := ch.isLt
  have hp : pt2Of (ix3 ch r j) = 2 * ch.val + 1 := by
    show 2 * (1 * (ch.val / 1 - 0) + 1 * (r.val / 1024 - 0) + 1 * (j.val / 1536 - 0)) + 1 = _
    omega
  have hN : cfg0.N = 8 := N_0
  have hlt : 2 * ch.val + 1 < cfg0.N := by omega
  unfold G2
  rw [dif_pos (by rw [hp]; exact hlt), fold0_congr m c _ _ _ (by omega) hp, ← outsAt0_sweep m c _ hlt, last_eq m c _ hlt (by omega)]
  have hl : loc2Of (ix3 ch r j) = ix3 0 r j := by
    funext a; apply Fin.ext
    match a with
    | ⟨0, _⟩ => show ch.val % 1 = 0; omega
    | ⟨1, _⟩ => show r.val % 1024 = r.val; omega
    | ⟨2, _⟩ => show j.val % 1536 = j.val; omega
  rw [hl, payload_apply]
  unfold dot
  rw [Fin.sum_univ_two_halves 2048 2048 rfl]
  have hch : 2 * ch.val / 2 = ch.val := by omega
  congr 1
  · refine Finset.sum_congr rfl fun k _ => ?_
    rw [left_apply m c _ k r ⟨k.val, by omega⟩ (by dsimp only; omega), right_apply m c _ k _ ⟨k.val, by omega⟩ j' (by dsimp only; omega) (by dsimp only; omega)]
  · refine Finset.sum_congr rfl fun k _ => ?_
    rw [left_apply m c _ k r ⟨2048 + k.val, by omega⟩ (by dsimp only; omega), right_apply m c _ k _ ⟨2048 + k.val, by omega⟩ j' (by dsimp only; omega) (by dsimp only; omega)]

open Cert.ReferenceUpIdeal.Read in
/-- The reference's element is the same sum. -/
theorem ref_apply (a : S4096x1024.Idx → EReal) (b : S4096x6144.Idx → EReal) (ch : Fin 4) (r : Fin 1024) (j : Fin 1536) (j' : Fin 6144) (e : j'.val = ch.val * 1536 + j.val) :
    (val_main_v6 (F := Ideal) a b : S4x1024x1536.Idx → EReal) (ix3 ch r j) = dot a b r j' := by
  have hr := r.isLt
  have hj := j.isLt
  have hc := ch.isLt
  rw [val_main_v6_apply, val_main_v5_apply, val_main_v4_apply]
  show val_main_v3 (F := Ideal) a b _ = _
  rw [val_main_v3_apply, val_main_v2_apply]
  unfold dot
  refine Finset.sum_congr rfl fun k _ => ?_
  show b _ * a _ = _
  rw [mul_comm]
  refine congrArg₂ (· * ·) (congrArg a ?_) (congrArg b ?_)
  · funext d; apply Fin.ext
    match d with
    | ⟨0, _⟩ => rfl
    | ⟨1, _⟩ => show ((r.val * 4 + ch.val) * 1536 + j.val) / 6144 = r.val; omega
  · funext d; apply Fin.ext
    match d with
    | ⟨0, _⟩ => rfl
    | ⟨1, _⟩ => show ((r.val * 4 + ch.val) * 1536 + j.val) % 6144 = j'.val; omega

/-- Kernel and reference leave the same array. -/
theorem value_eq (c : Dev nD) (a : S4096x1024.Idx → EReal) (b : S4096x6144.Idx → EReal)
    (ha : a = m ((c : Thread nD τ).loc main_arg0)) (hb : b = m ((c : Thread nD τ).loc main_arg1)) :
    (Cert.ReferenceUpIdeal.Read.val_main_v6 (F := Ideal) a b : S4x1024x1536.Idx → EReal) = G2 m c := by
  funext i
  subst ha hb
  obtain ⟨ch, r, j, rfl⟩ : ∃ (ch : Fin 4) (r : Fin 1024) (j : Fin 1536), i = ix3 ch r j := ⟨i 0, i 1, i 2, eq_ix3 i⟩
  have e : (⟨ch.val * 1536 + j.val, by omega⟩ : Fin 6144).val = ch.val * 1536 + j.val := rfl
  rw [ref_apply _ _ ch r j _ e, result_apply m c ch r j _ e]

end Cert.Proof.Up

end
-- ==== Proof.WgradIn.lean ====
/- The weight gradient `wgrad_in`: what the kernel leaves in its result is the product `hᵀ dz`, element by
   element a sum over the 4096 positions, which the kernel takes as two sums of 2048 over its grid's second axis. -/
module

public import proofs.«01_k».proof.Proof.Gen.KernelInIdeal.Value
public import proofs.«01_k».proof.Proof.Gen.ReferenceInIdeal.Read
public import Idealize.ShloMosaic.Lib.Pointwise

@[expose] public section

noncomputable section

namespace Cert.Proof.In

open Cert.KernelInIdeal Cert.KernelInIdeal.Gen Cert.KernelInIdeal.Value Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section Body
variable {F : FTy → Type} [FloatOps F]

/-- The first half of a chunk: the scratch is cleared, then the block's product is added. -/
theorem scratch_first (c : Dev nD) (i : grid0.Coords) (a2 : Memref sig .tc .vmem S2048x1024 .bf16) (h2 : a2.IsWhole)
    (a3 : Memref sig .tc .vmem S2048x512 .bf16) (h3 : a3.IsWhole) (a4 : Memref sig .tc .vmem S1x1024x512 .bf16) (h4 : a4.IsWhole)
    (a5 : Memref sig .tc .vmem S1024x512 .f32) (h5 : a5.IsWhole) (p : cond0_0 i) (q : ¬cond0_1 i) (x : Vec F S2048x1024 .bf16) (y : Vec F S2048x512 .bf16) :
    sout0_A_0 c i a2 h2 a3 h3 a4 h4 a5 h5 p q x y = k0_pay2 k0_pay1 x y := by
  unfold sout0_A_0
  rw [View.read_writes_eq_canon _ _ _ (scover0_A_0 c i a2 h2 a3 h3 a4 h4 a5 h5 p q x y)]
  unfold kernelRun0_A
  dsimp only
  sl_unfold_words
  rw [View.canon_cons_unit_zero (S := S1024x512) hz2, View.readCov_unit_zero (S := S1024x512) _ hz2]
  simp only [View.readAt_eq_ld, h2.read_unread, h3.read_unread, View.ld_unit_zero (S := S2048x1024) hz2,
    View.ld_unit_zero (S := S2048x512) hz2]

/-- The second half: its product is added to the scratch, which is rounded into the result block. -/
theorem block_last (c : Dev nD) (i : grid0.Coords) (a2 : Memref sig .tc .vmem S2048x1024 .bf16) (h2 : a2.IsWhole)
    (a3 : Memref sig .tc .vmem S2048x512 .bf16) (h3 : a3.IsWhole) (a4 : Memref sig .tc .vmem S1x1024x512 .bf16) (h4 : a4.IsWhole)
    (a5 : Memref sig .tc .vmem S1024x512 .f32) (h5 : a5.IsWhole) (p : ¬cond0_0 i) (q : cond0_1 i) (x : Vec F S2048x1024 .bf16) (y : Vec F S2048x512 .bf16)
    (s : Vec F S1024x512 .f32) :
    out0_B_2 c i a2 h2 a3 h3 a4 h4 a5 h5 p q x y s = k0_pay3 (k0_pay2 s x y) := by
  unfold out0_B_2
  rw [View.read_writes_eq_canon _ _ _ (cover0_B_2 c i a2 h2 a3 h3 a4 h4 a5 h5 p q x y s)]
  unfold kernelRun0_B
  dsimp only
  sl_unfold_words
  rw [View.canon_unit_zero hz3, View.readCov_unit_zero (S := S1024x512) _ hz2]
  simp only [View.readAt_eq_ld, h2.read_unread, h3.read_unread, h5.read_unread, View.ld_unit_zero (S := S2048x1024) hz2,
    View.ld_unit_zero (S := S2048x512) hz2, View.ld_unit_zero (S := S1024x512) hz2]

end Body

variable (m : (ℓ : Loc nD τ sig) → Buf (Elt Ideal) ℓ)

/-- What a chunk's last point leaves in the result block. -/
theorem last_eq (c : Dev nD) (n : ℕ) (h : n + 1 < cfg0.N) (e : n % 2 = 0) :
    (outsAt0 m c (n + 1) h).1 = k0_pay3 (k0_pay2 (k0_pay2 k0_pay1 (iblk m c 0 ⟨n, Nat.lt_of_succ_lt h⟩)
      (iblk m c 1 ⟨n, Nat.lt_of_succ_lt h⟩)) (iblk m c 0 ⟨n + 1, h⟩) (iblk m c 1 ⟨n + 1, h⟩)) := by
  have b0 : ¬(n + 1) % 2 = 0 := by omega
  have b1 : (n + 1) % 2 = 1 := by omega
  have a1 : ¬n % 2 = 1 := by omega
  rw [outsAt0_B m c ⟨n + 1, h⟩ b0 b1]
  dsimp only
  rw [block_last]
  congr 2
  show (outsAt0 m c n _).2 = _
  rw [outsAt0_A m c ⟨n, Nat.lt_of_succ_lt h⟩ e a1]
  dsimp only
  rw [scratch_first]

/-- Which blocks of the operands a point reads. -/
theorem idx_in : ∀ t : Fin cfg0.N, win0_0.index t (0 : Fin 2) = t.val % 2 ∧ win0_0.index t (1 : Fin 2) = 0
    ∧ win0_1.index t (0 : Fin 2) = t.val % 2 ∧ win0_1.index t (1 : Fin 2) = t.val / 2 :=
  (by decide +kernel : ∀ t : Fin grid0.N, _)

theorem left_apply (c : Dev nD) (t : Fin cfg0.N) (k : Fin 2048) (r : Fin 1024) (k' : Fin 4096)
    (e : k'.val = t.val % 2 * 2048 + k.val) :
    (iblk m c 0 t : Vec Ideal S2048x1024 .bf16) (ix2 k r) = m ((c : Thread nD τ).loc main_arg0) (ix2 k' r) := by
  obtain ⟨e0, e1, -, -⟩ := idx_in t
  unfold iblk
  rw [View.read_apply]
  show V m c main_arg0 _ = _
  rw [V_main_arg0]
  congr 1
  funext a
  apply Fin.ext
  match a with
  | ⟨0, _⟩ => show win0_0.index t 0 * 2048 + 1 * k.val = k'.val; rw [e0]; omega
  | ⟨1, _⟩ => show win0_0.index t 1 * 1024 + 1 * r.val = r.val; rw [e1]; omega

theorem right_apply (c : Dev nD) (t : Fin cfg0.N) (k : Fin 2048) (j : Fin 512) (k' : Fin 4096) (j' : Fin 2048)
    (e : k'.val = t.val % 2 * 2048 + k.val) (e' : j'.val = t.val / 2 * 512 + j.val) :
    (iblk m c 1 t : Vec Ideal S2048x512 .bf16) (ix2 k j) = m ((c : Thread nD τ).loc main_arg1) (ix2 k' j') := by
  obtain ⟨-, -, e2, e3⟩ := idx_in t
  unfold iblk
  rw [View.read_apply]
  show V m c main_arg1 _ = _
  rw [V_main_arg1]
  congr 1
  funext a
  apply Fin.ext
  match a with
  | ⟨0, _⟩ => show win0_1.index t 0 * 2048 + 1 * k.val = k'.val; rw [e2]; omega
  | ⟨1, _⟩ => show win0_1.index t 1 * 512 + 1 * j.val = j'.val; rw [e3]; omega

/-- The product's element over the argument arrays. -/
def dot (a : S4096x1024.Idx → EReal) (b : S4096x2048.Idx → EReal) (r : Fin 1024) (j : Fin 2048) : EReal :=
  ∑ k : Fin 4096, a (ix2 k r) * b (ix2 k j)

set_option maxRecDepth 16384 in
theorem payload_apply (x x' : Vec Ideal S2048x1024 .bf16) (y y' : Vec Ideal S2048x512 .bf16) (u : Fin 1) (r : Fin 1024) (j : Fin 512) :
    (k0_pay3 (F := Ideal) (k0_pay2 (F := Ideal) (k0_pay2 (F := Ideal) (k0_pay1 (F := Ideal)) x y) x' y') : Vec Ideal S1x1024x512 .bf16) (ix3 u r j)
      = (∑ k : Fin 2048, (x (ix2 k r) : EReal) * y (ix2 k j)) + ∑ k : Fin 2048, x' (ix2 k r) * y' (ix2 k j) := by
  pointwise [k0_pay1, k0_pay2, k0_pay3]

theorem result_apply (c : Dev nD) (ch : Fin 4) (r : Fin 1024) (j : Fin 512) (j' : Fin 2048) (e : j'.val = ch.val * 512 + j.val) :
    G2 m c (ix3 ch r j) = dot (m ((c : Thread nD τ).loc main_arg0)) (m ((c : Thread nD τ).loc main_arg1)) r j' := by
  have hr := r.isLt
  have hj := j.isLt
  have hc := ch.isLt
  have hp : pt2Of (ix3 ch r j) = 2 * ch.val + 1 := by
    show 2 * (1 * (ch.val / 1 - 0) + 1 * (r.val / 1024 - 0) + 1 * (j.val / 512 - 0)) + 1 = _
    omega
  have hN : cfg0.N = 8 := N_0
  have hlt : 2 * ch.val + 1 < cfg0.N := by omega
  unfold G2
  rw [dif_pos (by rw [hp]; exact hlt), fold0_congr m c _ _ _ (by omega) hp, ← outsAt0_sweep m c _ hlt, last_eq m c _ hlt (by omega)]
  have hl : loc2Of (ix3 ch r j) = ix3 0 r j := by
    funext a; apply Fin.ext
    match a with
    | ⟨0, _⟩ => show ch.val % 1 = 0; omega
    | ⟨1, _⟩ => show r.val % 1024 = r.val; omega
    | ⟨2, _⟩ => show j.val % 512 = j.val; omega
  rw [hl, payload_apply]
  unfold dot
  rw [Fin.sum_univ_two_halves 2048 2048 rfl]
  have hch : 2 * ch.val / 2 = ch.val := by omega
  congr 1
  · refine Finset.sum_congr rfl fun k _ => ?_
    rw [left_apply m c _ k r ⟨k.val, by omega⟩ (by dsimp only; omega), right_apply m c _ k _ ⟨k.val, by omega⟩ j' (by dsimp only; omega) (by dsimp only; omega)]
  · refine Finset.sum_congr rfl fun k _ => ?_
    rw [left_apply m c _ k r ⟨2048 + k.val, by omega⟩ (by dsimp only; omega), right_apply m c _ k _ ⟨2048 + k.val, by omega⟩ j' (by dsimp only; omega) (by dsimp only; omega)]

open Cert.ReferenceInIdeal.Read in
/-- The reference's element is the same sum. -/
theorem ref_apply (a : S4096x1024.Idx → EReal) (b : S4096x2048.Idx → EReal) (ch : Fin 4) (r : Fin 1024) (j : Fin 512) (j' : Fin 2048) (e : j'.val = ch.val * 512 + j.val) :
    (val_main_v6 (F := Ideal) a b : S4x1024x512.Idx → EReal) (ix3 ch r j) = dot a b r j' := by
  have hr := r.isLt
  have hj := j.isLt
  have hc := ch.isLt
  rw [val_main_v6_apply, val_main_v5_apply, val_main_v4_apply]
  show val_main_v3 (F := Ideal) a b _ = _
  rw [val_main_v3_apply, val_main_v2_apply]
  unfold dot
  refine Finset.sum_congr rfl fun k _ => ?_
  show b _ * a _ = _
  rw [mul_comm]
  refine congrArg₂ (· * ·) (congrArg a ?_) (congrArg b ?_)
  · funext d; apply Fin.ext
    match d with
    | ⟨0, _⟩ => rfl
    | ⟨1, _⟩ => show ((r.val * 4 + ch.val) * 512 + j.val) / 2048 = r.val; omega
  · funext d; apply Fin.ext
    match d with
    | ⟨0, _⟩ => rfl
    | ⟨1, _⟩ => show ((r.val * 4 + ch.val) * 512 + j.val) % 2048 = j'.val; omega

/-- Kernel and reference leave the same array. -/
theorem value_eq (c : Dev nD) (a : S4096x1024.Idx → EReal) (b : S4096x2048.Idx → EReal)
    (ha : a = m ((c : Thread nD τ).loc main_arg0)) (hb : b = m ((c : Thread nD τ).loc main_arg1)) :
    (Cert.ReferenceInIdeal.Read.val_main_v6 (F := Ideal) a b : S4x1024x512.Idx → EReal) = G2 m c := by
  funext i
  subst ha hb
  obtain ⟨ch, r, j, rfl⟩ : ∃ (ch : Fin 4) (r : Fin 1024) (j : Fin 512), i = ix3 ch r j := ⟨i 0, i 1, i 2, eq_ix3 i⟩
  have e : (⟨ch.val * 512 + j.val, by omega⟩ : Fin 2048).val = ch.val * 512 + j.val := rfl
  rw [ref_apply _ _ ch r j _ e, result_apply m c ch r j _ e]

end Cert.Proof.In

end
-- ==== Proof.WgradDown.lean ====
/- The weight gradient `wgrad_down`: what the kernel leaves in its result is the product `actᵀ dy2`, element by
   element a sum over the 4096 positions, which the kernel takes as two sums of 2048 over its grid's second axis. -/
module

public import proofs.«01_k».proof.Proof.Gen.KernelDownIdeal.Value
public import proofs.«01_k».proof.Proof.Gen.ReferenceDownIdeal.Read
public import Idealize.ShloMosaic.Lib.Pointwise

@[expose] public section

noncomputable section

namespace Cert.Proof.Down

open Cert.KernelDownIdeal Cert.KernelDownIdeal.Gen Cert.KernelDownIdeal.Value Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section Body
variable {F : FTy → Type} [FloatOps F]

/-- The first half of a chunk: the scratch is cleared, then the block's product is added. -/
theorem scratch_first (c : Dev nD) (i : grid0.Coords) (a2 : Memref sig .tc .vmem S2048x3072 .bf16) (h2 : a2.IsWhole)
    (a3 : Memref sig .tc .vmem S2048x512 .bf16) (h3 : a3.IsWhole) (a4 : Memref sig .tc .vmem S3072x512 .bf16) (h4 : a4.IsWhole)
    (a5 : Memref sig .tc .vmem S3072x512 .f32) (h5 : a5.IsWhole) (p : cond0_0 i) (q : ¬cond0_1 i) (x : Vec F S2048x3072 .bf16) (y : Vec F S2048x512 .bf16) :
    sout0_A_0 c i a2 h2 a3 h3 a4 h4 a5 h5 p q x y = k0_pay2 k0_pay1 x y := by
  unfold sout0_A_0
  rw [View.read_writes_eq_canon _ _ _ (scover0_A_0 c i a2 h2 a3 h3 a4 h4 a5 h5 p q x y)]
  unfold kernelRun0_A
  dsimp only
  sl_unfold_words
  rw [View.canon_cons_unit_zero (S := S3072x512) hz2, View.readCov_unit_zero (S := S3072x512) _ hz2]
  simp only [View.readAt_eq_ld, h2.read_unread, h3.read_unread, View.ld_unit_zero (S := S2048x3072) hz2,
    View.ld_unit_zero (S := S2048x512) hz2]

/-- The second half: its product is added to the scratch, which is rounded into the result block. -/
theorem block_last (c : Dev nD) (i : grid0.Coords) (a2 : Memref sig .tc .vmem S2048x3072 .bf16) (h2 : a2.IsWhole)
    (a3 : Memref sig .tc .vmem S2048x512 .bf16) (h3 : a3.IsWhole) (a4 : Memref sig .tc .vmem S3072x512 .bf16) (h4 : a4.IsWhole)
    (a5 : Memref sig .tc .vmem S3072x512 .f32) (h5 : a5.IsWhole) (p : ¬cond0_0 i) (q : cond0_1 i) (x : Vec F S2048x3072 .bf16) (y : Vec F S2048x512 .bf16)
    (s : Vec F S3072x512 .f32) :
    out0_B_2 c i a2 h2 a3 h3 a4 h4 a5 h5 p q x y s = k0_pay3 (k0_pay2 s x y) := by
  unfold out0_B_2
  rw [View.read_writes_eq_canon _ _ _ (cover0_B_2 c i a2 h2 a3 h3 a4 h4 a5 h5 p q x y s)]
  unfold kernelRun0_B
  dsimp only
  sl_unfold_words
  rw [View.canon_unit_zero hz2, View.readCov_unit_zero (S := S3072x512) _ hz2]
  simp only [View.readAt_eq_ld, h2.read_unread, h3.read_unread, h5.read_unread, View.ld_unit_zero (S := S2048x3072) hz2,
    View.ld_unit_zero (S := S2048x512) hz2, View.ld_unit_zero (S := S3072x512) hz2]

end Body

variable (m : (ℓ : Loc nD τ sig) → Buf (Elt Ideal) ℓ)

/-- What a chunk's last point leaves in the result block. -/
theorem last_eq (c : Dev nD) (n : ℕ) (h : n + 1 < cfg0.N) (e : n % 2 = 0) :
    (outsAt0 m c (n + 1) h).1 = k0_pay3 (k0_pay2 (k0_pay2 k0_pay1 (iblk m c 0 ⟨n, Nat.lt_of_succ_lt h⟩)
      (iblk m c 1 ⟨n, Nat.lt_of_succ_lt h⟩)) (iblk m c 0 ⟨n + 1, h⟩) (iblk m c 1 ⟨n + 1, h⟩)) := by
  have b0 : ¬(n + 1) % 2 = 0 := by omega
  have b1 : (n + 1) % 2 = 1 := by omega
  have a1 : ¬n % 2 = 1 := by omega
  rw [outsAt0_B m c ⟨n + 1, h⟩ b0 b1]
  dsimp only
  rw [block_last]
  congr 2
  show (outsAt0 m c n _).2 = _
  rw [outsAt0_A m c ⟨n, Nat.lt_of_succ_lt h⟩ e a1]
  dsimp only
  rw [scratch_first]

/-- Which blocks of the operands a point reads. -/
theorem idx_in : ∀ t : Fin cfg0.N, win0_0.index t (0 : Fin 2) = t.val % 2 ∧ win0_0.index t (1 : Fin 2) = 0
    ∧ win0_1.index t (0 : Fin 2) = t.val % 2 ∧ win0_1.index t (1 : Fin 2) = t.val / 2 :=
  (by decide +kernel : ∀ t : Fin grid0.N, _)

theorem left_apply (c : Dev nD) (t : Fin cfg0.N) (k : Fin 2048) (r : Fin 3072) (k' : Fin 4096)
    (e : k'.val = t.val % 2 * 2048 + k.val) :
    (iblk m c 0 t : Vec Ideal S2048x3072 .bf16) (ix2 k r) = m ((c : Thread nD τ).loc main_arg0) (ix2 k' r) := by
  obtain ⟨e0, e1, -, -⟩ := idx_in t
  unfold iblk
  rw [View.read_apply]
  show V m c main_arg0 _ = _
  rw [V_main_arg0]
  congr 1
  funext a
  apply Fin.ext
  match a with
  | ⟨0, _⟩ => show win0_0.index t 0 * 2048 + 1 * k.val = k'.val; rw [e0]; omega
  | ⟨1, _⟩ => show win0_0.index t 1 * 3072 + 1 * r.val = r.val; rw [e1]; omega

theorem right_apply (c : Dev nD) (t : Fin cfg0.N) (k : Fin 2048) (j : Fin 512) (k' : Fin 4096) (j' : Fin 1024)
    (e : k'.val = t.val % 2 * 2048 + k.val) (e' : j'.val = t.val / 2 * 512 + j.val) :
    (iblk m c 1 t : Vec Ideal S2048x512 .bf16) (ix2 k j) = m ((c : Thread nD τ).loc main_arg1) (ix2 k' j') := by
  obtain ⟨-, -, e2, e3⟩ := idx_in t
  unfold iblk
  rw [View.read_apply]
  show V m c main_arg1 _ = _
  rw [V_main_arg1]
  congr 1
  funext a
  apply Fin.ext
  match a with
  | ⟨0, _⟩ => show win0_1.index t 0 * 2048 + 1 * k.val = k'.val; rw [e2]; omega
  | ⟨1, _⟩ => show win0_1.index t 1 * 512 + 1 * j.val = j'.val; rw [e3]; omega

/-- The product's element over the argument arrays. -/
def dot (a : S4096x3072.Idx → EReal) (b : S4096x1024.Idx → EReal) (r : Fin 3072) (j : Fin 1024) : EReal :=
  ∑ k : Fin 4096, a (ix2 k r) * b (ix2 k j)

set_option maxRecDepth 16384 in
theorem payload_apply (x x' : Vec Ideal S2048x3072 .bf16) (y y' : Vec Ideal S2048x512 .bf16) (r : Fin 3072) (j : Fin 512) :
    (k0_pay3 (F := Ideal) (k0_pay2 (F := Ideal) (k0_pay2 (F := Ideal) (k0_pay1 (F := Ideal)) x y) x' y') : Vec Ideal S3072x512 .bf16) (ix2 r j)
      = (∑ k : Fin 2048, (x (ix2 k r) : EReal) * y (ix2 k j)) + ∑ k : Fin 2048, x' (ix2 k r) * y' (ix2 k j) := by
  pointwise [k0_pay1, k0_pay2, k0_pay3]

theorem result_apply (c : Dev nD) (r : Fin 3072) (j : Fin 1024) :
    G2 m c (ix2 r j) = dot (m ((c : Thread nD τ).loc main_arg0)) (m ((c : Thread nD τ).loc main_arg1)) r j := by
  have hr := r.isLt
  have hj := j.isLt

  have hp : pt2Of (ix2 r j) = 2 * (j.val / 512) + 1 := by
    show 2 * (2 * (r.val / 3072 - 0) + 1 * (j.val / 512 - 0)) + 1 = _
    omega
  have hN : cfg0.N = 4 := N_0
  have hlt : 2 * (j.val / 512) + 1 < cfg0.N := by omega
  unfold G2
  rw [dif_pos (by rw [hp]; exact hlt), fold0_congr m c _ _ _ (by omega) hp, ← outsAt0_sweep m c _ hlt, last_eq m c _ hlt (by omega)]
  have hl : loc2Of (ix2 r j) = ix2 r ⟨j.val % 512, Nat.mod_lt _ (by decide)⟩ := by
    funext a; apply Fin.ext
    match a with
    | ⟨0, _⟩ => show r.val % 3072 = r.val; omega
    | ⟨1, _⟩ => rfl
  rw [hl, payload_apply]
  unfold dot
  rw [Fin.sum_univ_two_halves 2048 2048 rfl]
  have hch : 2 * (j.val / 512) / 2 = j.val / 512 := by omega
  congr 1
  · refine Finset.sum_congr rfl fun k _ => ?_
    rw [left_apply m c _ k r ⟨k.val, by omega⟩ (by dsimp only; omega), right_apply m c _ k _ ⟨k.val, by omega⟩ j (by dsimp only; omega) (by dsimp only; omega)]
  · refine Finset.sum_congr rfl fun k _ => ?_
    rw [left_apply m c _ k r ⟨2048 + k.val, by omega⟩ (by dsimp only; omega), right_apply m c _ k _ ⟨2048 + k.val, by omega⟩ j (by dsimp only; omega) (by dsimp only; omega)]

open Cert.ReferenceDownIdeal.Read in
/-- The reference's element is the same sum. -/
theorem ref_apply (a : S4096x3072.Idx → EReal) (b : S4096x1024.Idx → EReal) (r : Fin 3072) (j : Fin 1024) :
    (val_main_v4 (F := Ideal) a b : S3072x1024.Idx → EReal) (ix2 r j) = dot a b r j := by
  have hr := r.isLt
  have hj := j.isLt

  rw [val_main_v4_apply]
  show (val_main_v3 (F := Ideal) a b : S3072x1024.Idx → EReal) _ = _
  rw [val_main_v3_apply, val_main_v2_apply]
  unfold dot
  refine Finset.sum_congr rfl fun k _ => ?_
  show b _ * a _ = _
  rw [mul_comm]
  refine congrArg₂ (· * ·) (congrArg a ?_) (congrArg b ?_)
  · funext d; apply Fin.ext
    match d with
    | ⟨0, _⟩ => rfl
    | ⟨1, _⟩ => rfl
  · funext d; apply Fin.ext
    match d with
    | ⟨0, _⟩ => rfl
    | ⟨1, _⟩ => rfl

/-- Kernel and reference leave the same array. -/
theorem value_eq (c : Dev nD) (a : S4096x3072.Idx → EReal) (b : S4096x1024.Idx → EReal)
    (ha : a = m ((c : Thread nD τ).loc main_arg0)) (hb : b = m ((c : Thread nD τ).loc main_arg1)) :
    (Cert.ReferenceDownIdeal.Read.val_main_v4 (F := Ideal) a b : S3072x1024.Idx → EReal) = G2 m c := by
  funext i
  subst ha hb
  obtain ⟨r, j, rfl⟩ : ∃ (r : Fin 3072) (j : Fin 1024), i = ix2 r j := ⟨i 0, i 1, eq_ix2 i⟩
  rw [ref_apply _ _ r j, result_apply m c r j]

end Cert.Proof.Down

end
-- ==== Proof.WgradOut.lean ====
/- The weight gradient `wgrad_out`: what the kernel leaves in its result is the product `ycatᵀ dy`, element by
   element a sum over the 4096 positions, which the kernel takes as two sums of 2048 over its grid's second axis. -/
module

public import proofs.«01_k».proof.Proof.Gen.KernelOutIdeal.Value
public import proofs.«01_k».proof.Proof.Gen.ReferenceOutIdeal.Read
public import Idealize.ShloMosaic.Lib.Pointwise

@[expose] public section

noncomputable section

namespace Cert.Proof.Out

open Cert.KernelOutIdeal Cert.KernelOutIdeal.Gen Cert.KernelOutIdeal.Value Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section Body
variable {F : FTy → Type} [FloatOps F]

/-- The first half of a chunk: the scratch is cleared, then the block's product is added. -/
theorem scratch_first (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1024x1024 .bf16) (h4 : a4.IsWhole)
    (a5 : Memref sig .tc .vmem S1024x1024 .f32) (h5 : a5.IsWhole) (p : cond0_0 i) (q : ¬cond0_1 i) (x : Vec F S2048x1024 .bf16) (y : Vec F S2048x1024 .bf16) :
    sout0_A_0 c i a2 h2 a3 h3 a4 h4 a5 h5 p q x y = k0_pay2 k0_pay1 x y := by
  unfold sout0_A_0
  rw [View.read_writes_eq_canon _ _ _ (scover0_A_0 c i a2 h2 a3 h3 a4 h4 a5 h5 p q x y)]
  unfold kernelRun0_A
  dsimp only
  sl_unfold_words
  rw [View.canon_cons_unit_zero (S := S1024x1024) hz2, View.readCov_unit_zero (S := S1024x1024) _ hz2]
  simp only [View.readAt_eq_ld, h2.read_unread, h3.read_unread, View.ld_unit_zero (S := S2048x1024) hz2,
    View.ld_unit_zero (S := S2048x1024) hz2]

/-- The second half: its product is added to the scratch, which is rounded into the result block. -/
theorem block_last (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1024x1024 .bf16) (h4 : a4.IsWhole)
    (a5 : Memref sig .tc .vmem S1024x1024 .f32) (h5 : a5.IsWhole) (p : ¬cond0_0 i) (q : cond0_1 i) (x : Vec F S2048x1024 .bf16) (y : Vec F S2048x1024 .bf16)
    (s : Vec F S1024x1024 .f32) :
    out0_B_2 c i a2 h2 a3 h3 a4 h4 a5 h5 p q x y s = k0_pay3 (k0_pay2 s x y) := by
  unfold out0_B_2
  rw [View.read_writes_eq_canon _ _ _ (cover0_B_2 c i a2 h2 a3 h3 a4 h4 a5 h5 p q x y s)]
  unfold kernelRun0_B
  dsimp only
  sl_unfold_words
  rw [View.canon_unit_zero hz2, View.readCov_unit_zero (S := S1024x1024) _ hz2]
  simp only [View.readAt_eq_ld, h2.read_unread, h3.read_unread, h5.read_unread, View.ld_unit_zero (S := S2048x1024) hz2,
    View.ld_unit_zero (S := S2048x1024) hz2, View.ld_unit_zero (S := S1024x1024) hz2]

end Body

variable (m : (ℓ : Loc nD τ sig) → Buf (Elt Ideal) ℓ)

/-- What a chunk's last point leaves in the result block. -/
theorem last_eq (c : Dev nD) (n : ℕ) (h : n + 1 < cfg0.N) (e : n % 2 = 0) :
    (outsAt0 m c (n + 1) h).1 = k0_pay3 (k0_pay2 (k0_pay2 k0_pay1 (iblk m c 0 ⟨n, Nat.lt_of_succ_lt h⟩)
      (iblk m c 1 ⟨n, Nat.lt_of_succ_lt h⟩)) (iblk m c 0 ⟨n + 1, h⟩) (iblk m c 1 ⟨n + 1, h⟩)) := by
  have b0 : ¬(n + 1) % 2 = 0 := by omega
  have b1 : (n + 1) % 2 = 1 := by omega
  have a1 : ¬n % 2 = 1 := by omega
  rw [outsAt0_B m c ⟨n + 1, h⟩ b0 b1]
  dsimp only
  rw [block_last]
  congr 2
  show (outsAt0 m c n _).2 = _
  rw [outsAt0_A m c ⟨n, Nat.lt_of_succ_lt h⟩ e a1]
  dsimp only
  rw [scratch_first]

/-- Which blocks of the operands a point reads. -/
theorem idx_in : ∀ t : Fin cfg0.N, win0_0.index t (0 : Fin 2) = t.val % 2 ∧ win0_0.index t (1 : Fin 2) = 0
    ∧ win0_1.index t (0 : Fin 2) = t.val % 2 ∧ win0_1.index t (1 : Fin 2) = t.val / 2 :=
  (by decide +kernel : ∀ t : Fin grid0.N, _)

theorem left_apply (c : Dev nD) (t : Fin cfg0.N) (k : Fin 2048) (r : Fin 1024) (k' : Fin 4096)
    (e : k'.val = t.val % 2 * 2048 + k.val) :
    (iblk m c 0 t : Vec Ideal S2048x1024 .bf16) (ix2 k r) = m ((c : Thread nD τ).loc main_arg0) (ix2 k' r) := by
  obtain ⟨e0, e1, -, -⟩ := idx_in t
  unfold iblk
  rw [View.read_apply]
  show V m c main_arg0 _ = _
  rw [V_main_arg0]
  congr 1
  funext a
  apply Fin.ext
  match a with
  | ⟨0, _⟩ => show win0_0.index t 0 * 2048 + 1 * k.val = k'.val; rw [e0]; omega
  | ⟨1, _⟩ => show win0_0.index t 1 * 1024 + 1 * r.val = r.val; rw [e1]; omega

theorem right_apply (c : Dev nD) (t : Fin cfg0.N) (k : Fin 2048) (j : Fin 1024) (k' : Fin 4096) (j' : Fin 1024)
    (e : k'.val = t.val % 2 * 2048 + k.val) (e' : j'.val = t.val / 2 * 1024 + j.val) :
    (iblk m c 1 t : Vec Ideal S2048x1024 .bf16) (ix2 k j) = m ((c : Thread nD τ).loc main_arg1) (ix2 k' j') := by
  obtain ⟨-, -, e2, e3⟩ := idx_in t
  unfold iblk
  rw [View.read_apply]
  show V m c main_arg1 _ = _
  rw [V_main_arg1]
  congr 1
  funext a
  apply Fin.ext
  match a with
  | ⟨0, _⟩ => show win0_1.index t 0 * 2048 + 1 * k.val = k'.val; rw [e2]; omega
  | ⟨1, _⟩ => show win0_1.index t 1 * 1024 + 1 * j.val = j'.val; rw [e3]; omega

/-- The product's element over the argument arrays. -/
def dot (a : S4096x1024.Idx → EReal) (b : S4096x1024.Idx → EReal) (r : Fin 1024) (j : Fin 1024) : EReal :=
  ∑ k : Fin 4096, a (ix2 k r) * b (ix2 k j)

set_option maxRecDepth 16384 in
theorem payload_apply (x x' : Vec Ideal S2048x1024 .bf16) (y y' : Vec Ideal S2048x1024 .bf16) (r : Fin 1024) (j : Fin 1024) :
    (k0_pay3 (F := Ideal) (k0_pay2 (F := Ideal) (k0_pay2 (F := Ideal) (k0_pay1 (F := Ideal)) x y) x' y') : Vec Ideal S1024x1024 .bf16) (ix2 r j)
      = (∑ k : Fin 2048, (x (ix2 k r) : EReal) * y (ix2 k j)) + ∑ k : Fin 2048, x' (ix2 k r) * y' (ix2 k j) := by
  pointwise [k0_pay1, k0_pay2, k0_pay3]

theorem result_apply (c : Dev nD) (r : Fin 1024) (j : Fin 1024) :
    G2 m c (ix2 r j) = dot (m ((c : Thread nD τ).loc main_arg0)) (m ((c : Thread nD τ).loc main_arg1)) r j := by
  have hr := r.isLt
  have hj := j.isLt

  have hp : pt2Of (ix2 r j) = 2 * (j.val / 1024) + 1 := by
    show 2 * (1 * (r.val / 1024 - 0) + 1 * (j.val / 1024 - 0)) + 1 = _
    omega
  have hN : cfg0.N = 2 := N_0
  have hlt : 2 * (j.val / 1024) + 1 < cfg0.N := by omega
  unfold G2
  rw [dif_pos (by rw [hp]; exact hlt), fold0_congr m c _ _ _ (by omega) hp, ← outsAt0_sweep m c _ hlt, last_eq m c _ hlt (by omega)]
  have hl : loc2Of (ix2 r j) = ix2 r ⟨j.val % 1024, Nat.mod_lt _ (by decide)⟩ := by
    funext a; apply Fin.ext
    match a with
    | ⟨0, _⟩ => show r.val % 1024 = r.val; omega
    | ⟨1, _⟩ => rfl
  rw [hl, payload_apply]
  unfold dot
  rw [Fin.sum_univ_two_halves 2048 2048 rfl]
  have hch : 2 * (j.val / 1024) / 2 = j.val / 1024 := by omega
  congr 1
  · refine Finset.sum_congr rfl fun k _ => ?_
    rw [left_apply m c _ k r ⟨k.val, by omega⟩ (by dsimp only; omega), right_apply m c _ k _ ⟨k.val, by omega⟩ j (by dsimp only; omega) (by dsimp only; omega)]
  · refine Finset.sum_congr rfl fun k _ => ?_
    rw [left_apply m c _ k r ⟨2048 + k.val, by omega⟩ (by dsimp only; omega), right_apply m c _ k _ ⟨2048 + k.val, by omega⟩ j (by dsimp only; omega) (by dsimp only; omega)]

open Cert.ReferenceOutIdeal.Read in
/-- The reference's element is the same sum. -/
theorem ref_apply (a : S4096x1024.Idx → EReal) (b : S4096x1024.Idx → EReal) (r : Fin 1024) (j : Fin 1024) :
    (val_main_v4 (F := Ideal) a b : S1024x1024.Idx → EReal) (ix2 r j) = dot a b r j := by
  have hr := r.isLt
  have hj := j.isLt

  rw [val_main_v4_apply]
  show (val_main_v3 (F := Ideal) a b : S1024x1024.Idx → EReal) _ = _
  rw [val_main_v3_apply, val_main_v2_apply]
  unfold dot
  refine Finset.sum_congr rfl fun k _ => ?_
  show b _ * a _ = _
  rw [mul_comm]
  refine congrArg₂ (· * ·) (congrArg a ?_) (congrArg b ?_)
  · funext d; apply Fin.ext
    match d with
    | ⟨0, _⟩ => rfl
    | ⟨1, _⟩ => rfl
  · funext d; apply Fin.ext
    match d with
    | ⟨0, _⟩ => rfl
    | ⟨1, _⟩ => rfl

/-- Kernel and reference leave the same array. -/
theorem value_eq (c : Dev nD) (a : S4096x1024.Idx → EReal) (b : S4096x1024.Idx → EReal)
    (ha : a = m ((c : Thread nD τ).loc main_arg0)) (hb : b = m ((c : Thread nD τ).loc main_arg1)) :
    (Cert.ReferenceOutIdeal.Read.val_main_v4 (F := Ideal) a b : S1024x1024.Idx → EReal) = G2 m c := by
  funext i
  subst ha hb
  obtain ⟨r, j, rfl⟩ : ∃ (r : Fin 1024) (j : Fin 1024), i = ix2 r j := ⟨i 0, i 1, eq_ix2 i⟩
  rw [ref_apply _ _ r j, result_apply m c r j]

end Cert.Proof.Out

end
-- ==== Proof.Finite.lean ====
/- The preconditions say of every argument that its elements are smaller in absolute value than infinity: each is then
   the embedding of a real number. -/
module

public import Idealize.ShloMosaic.Lib.ReduceAll
public import Idealize.ShloMosaic.Lib.Pointwise
public import Idealize.ShloMosaic.Lib.IdealHost
public import Idealize.ShloMosaic.PureOps.Ideal.Laws

@[expose] public section

namespace Cert.Proof.Finite

open Idealize.ShloMosaic

theorem ofBits_inf : Ideal.ofBits .f32 0x7F800000#32 = (⊤ : EReal) := by
  simp [Ideal.ofBits, Ideal.ieee]

/-- Below infinity in absolute value is real. -/
theorem real_of_lt (x : EReal) (h : max x (-x) < ⊤) : x = ((x.toReal : ℝ) : EReal) := by
  refine (EReal.coe_toReal ?_ ?_).symm
  · rintro rfl; simp at h
  · rintro rfl; simp at h

/-- One argument's part of a precondition, read at an index. -/
theorem real_of_all {s t : Shape} {axes : List (Fin s.rank)} [Subsingleton t.Idx] (x : FVec Ideal s .f32) (p : IVec s 1) (init : IVec t 1)
    (h : s.ReducesTo axes t) (hu : 0 < t.numel) (j : t.Idx) (e : Host.reduce IntOp.andi p init h hu j = 1#1)
    (hp : ∀ i, p i = Ideal.cmp .olt (max (x i : EReal) (-(x i : EReal))) (Ideal.ofBits .f32 0x7F800000#32)) (i : s.Idx) :
    (x i : EReal) = (((x i : EReal).toReal : ℝ) : EReal) := by
  have := Host.reduce_andi_all p init h hu j e i
  rw [hp, ofBits_inf] at this
  exact real_of_lt _ ((Ideal.cmp_olt_eq_one _ _).1 this)

theorem and_one {s : Shape} (a b : IVec s 1) (j : s.Idx) (h : andi a b j = 1#1) : a j = 1#1 ∧ b j = 1#1 := by
  have h' : (a j) &&& (b j) = 1#1 := h
  revert h'
  generalize a j = u; generalize b j = v
  revert u v; decide

end Cert.Proof.Finite
-- ==== Proof.Lift.lean ====
/- On finite arguments every operation of the two programs stays finite. The lemmas below push the embedding of the
   reals through sums, divisions and roots, so that two programs' terms can be compared as real expressions. -/
module

public import Idealize.ShloMosaic.Lib.Pointwise
public import Idealize.ShloMosaic.Lib.IdealHost
public import Idealize.ShloMosaic.PureOps.Ideal.Laws

@[expose] public section

namespace Cert.Proof.Lift

open Idealize.ShloMosaic

/-- A finite sum of embedded reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Division by a nonzero real. -/
theorem div_coe {y : ℝ} (h : y ≠ 0) (x : ℝ) : Ideal.div (x : EReal) (y : EReal) = ((x / y : ℝ) : EReal) := by
  rw [Ideal.div_coe h, ← EReal.coe_mul, mul_one_div]

/-- The reciprocal root of a positive real. -/
theorem rsqrt_coe {y : ℝ} (h : 0 < y) : Ideal.rsqrt (y : EReal) = (((√y)⁻¹ : ℝ) : EReal) := by
  rw [Ideal.rsqrt_coe, if_neg (not_lt.2 h.le), if_neg h.ne']

/-- The small constant under the root of the norms. -/
noncomputable def eps : ℝ := 8796093 * (2 : ℝ) ^ (-43 : ℤ)

theorem eps_pos : 0 < eps := by unfold eps; positivity

theorem ofBits_eps : Ideal.ofBits .f32 0x358637BD#32 = (eps : EReal) := by
  unfold eps
  simp [Ideal.ofBits, Ideal.ieee]

theorem ofBits_1024 : Ideal.ofBits .f32 0x44800000#32 = ((1024 : ℝ) : EReal) := by
  simp [Ideal.ofBits, Ideal.ieee]
  rw [← EReal.coe_mul]
  norm_num

theorem ofBits_one : Ideal.ofBits .f32 0x3F800000#32 = ((1 : ℝ) : EReal) := by
  simp

theorem ofBits_neghalf : Ideal.ofBits .f32 0xBF000000#32 = ((-(1 / 2) : ℝ) : EReal) := by
  simp [Ideal.ofBits, Ideal.ieee]
  rw [← EReal.coe_mul]
  norm_num

theorem ofBits_zero : Ideal.ofBits .f32 0x00000000#32 = ((0 : ℝ) : EReal) := by
  simp

/-- Mean square of a row of 1024 numbers, plus the small constant. -/
noncomputable def msq (v : Fin 1024 → ℝ) : ℝ := (∑ k, v k * v k) / 1024 + eps

/-- Reciprocal root of the mean square. -/
noncomputable def rinv (v : Fin 1024 → ℝ) : ℝ := (√(msq v))⁻¹

theorem msq_pos (v : Fin 1024 → ℝ) : 0 < msq v := by
  have h : 0 ≤ ∑ k, v k * v k := Finset.sum_nonneg fun k _ => mul_self_nonneg _
  have := eps_pos
  unfold msq
  positivity

theorem div_msq (x : ℝ) (v : Fin 1024 → ℝ) : Ideal.div (x : EReal) ((msq v : ℝ) : EReal) = ((x / msq v : ℝ) : EReal) :=
  div_coe (msq_pos v).ne' x

theorem div_1024 (x : ℝ) : Ideal.div (x : EReal) ((1024 : ℝ) : EReal) = ((x / 1024 : ℝ) : EReal) :=
  div_coe (by norm_num) x

theorem rsqrt_msq (v : Fin 1024 → ℝ) : Ideal.rsqrt ((msq v : ℝ) : EReal) = ((rinv v : ℝ) : EReal) := rsqrt_coe (msq_pos v)

theorem rinv_sq (v : Fin 1024 → ℝ) : rinv v * rinv v = (msq v)⁻¹ := by
  unfold rinv
  rw [← mul_inv, Real.mul_self_sqrt (msq_pos v).le]

end Cert.Proof.Lift
-- ==== Proof.FfnBModel.lean ====
/- The second half of the feed-forward block's backward pass over the real numbers: what both programs compute on finite
   arguments. Rows are the 4096 positions, columns the 1024 channels. -/
module

public import proofs.«01_k».proof.Proof.Lift

@[expose] public section

noncomputable section

namespace Cert.Proof.FfnB

open Cert.Proof.Lift

/-- The arguments, all finite: the block's input and mixer output, the gradient that arrives at the block's input, the
    gradient at the first product, that product's weights, and the vectors of the two norms and of the modulation. -/
structure Data where
  x : Fin 4096 → Fin 1024 → ℝ
  y : Fin 4096 → Fin 1024 → ℝ
  dx2 : Fin 4096 → Fin 1024 → ℝ
  up : Fin 4096 → Fin 6144 → ℝ
  w : Fin 1024 → Fin 6144 → ℝ
  g : Fin 1024 → ℝ
  sc : Fin 1024 → ℝ
  gt : Fin 1024 → ℝ
  gp : Fin 1024 → ℝ

/-- The gradient of a norm: `r` is the reciprocal root, `n` the normalised row, `g` the gradient that arrives. -/
def back (r : ℝ) (n g : Fin 1024 → ℝ) (d : Fin 1024) : ℝ := r * (g d - n d * ((∑ k, g k * n k) / 1024))

/-- One row's gradients from the row's elements: at the block's input, and at the mixer's output. -/
def rowDx1 (x d2 h sc g : Fin 1024 → ℝ) (d : Fin 1024) : ℝ :=
  d2 d + back (rinv x) (fun k => x k * rinv x) (fun k => h k * (1 + sc k) * g k) d
def rowDy (y dx gt gp : Fin 1024 → ℝ) (d : Fin 1024) : ℝ :=
  back (rinv y) (fun k => y k * rinv y) (fun k => dx k * gt k * gp k) d

namespace Data
variable (A : Data)

/-- The mixer's output, normalised. -/
def yn (s : Fin 4096) (d : Fin 1024) : ℝ := A.y s d * rinv (A.y s)
/-- The block's input. -/
def x1 (s : Fin 4096) (d : Fin 1024) : ℝ := A.x s d + A.gt d * (A.yn s d * A.gp d)
/-- The block's input, normalised. -/
def xn (s : Fin 4096) (d : Fin 1024) : ℝ := A.x1 s d * rinv (A.x1 s)
/-- The gradient at the modulated norm. -/
def dh (s : Fin 4096) (d : Fin 1024) : ℝ := ∑ k, A.up s k * A.w d k
/-- The gradient at the norm's output. -/
def dhn (s : Fin 4096) (d : Fin 1024) : ℝ := A.dh s d * (1 + A.sc d)
/-- The gradient at the block's input. -/
def dx1 (s : Fin 4096) (d : Fin 1024) : ℝ :=
  A.dx2 s d + back (rinv (A.x1 s)) (A.xn s) (fun k => A.dhn s k * A.g k) d
/-- The gradient at the gated norm of the mixer's output. -/
def dyn (s : Fin 4096) (d : Fin 1024) : ℝ := A.dx1 s d * A.gt d
/-- The gradient at the mixer's output. -/
def dy (s : Fin 4096) (d : Fin 1024) : ℝ := back (rinv (A.y s)) (A.yn s) (fun k => A.dyn s k * A.gp k) d
/-- The five vectors' gradients, column sums over the positions. -/
def dsh (d : Fin 1024) : ℝ := ∑ s, A.dh s d
def dsc (d : Fin 1024) : ℝ := ∑ s, A.dh s d * (A.xn s d * A.g d)
def dg (d : Fin 1024) : ℝ := ∑ s, A.dhn s d * A.xn s d
def dgt (d : Fin 1024) : ℝ := ∑ s, A.dx1 s d * (A.yn s d * A.gp d)
def dgp (d : Fin 1024) : ℝ := ∑ s, A.dyn s d * A.yn s d

end Data

end Cert.Proof.FfnB
-- ==== Proof.FfnBPay.lean ====
/- What the feed-forward block's second half stores, on finite blocks: each stored value is the embedding of a real
   expression in the block's elements. -/
module

public import proofs.«01_k».proof.Proof.Gen.KernelBIdeal.Skeleton
public import proofs.«01_k».proof.Proof.FfnBModel
public import Idealize.ShloMosaic.Lib.Pointwise

@[expose] public section

noncomputable section

namespace Cert.Proof.FfnB

open Cert.KernelBIdeal Cert.KernelBIdeal.Gen Idealize.ShloMosaic Cert.Proof.Lift

/-- A sum over 6144 columns is the sum of its four chunks of 1536. -/
theorem sum_quarters (f : Fin 6144 → ℝ) : ∑ k, f k = ∑ q : Fin 1536, f ⟨q.val, by omega⟩ + ∑ q : Fin 1536, f ⟨1536 + q.val, by omega⟩
    + ∑ q : Fin 1536, f ⟨3072 + q.val, by omega⟩ + ∑ q : Fin 1536, f ⟨4608 + q.val, by omega⟩ := by
  rw [Fin.sum_univ_add (a := 4608) (b := 1536) f, Fin.sum_univ_add (a := 3072) (b := 1536), Fin.sum_univ_add (a := 1536) (b := 1536)]
  rfl

variable {x y d2 h : Vec Ideal S256x1024 .f32} {X Y D H : Fin 256 → Fin 1024 → ℝ} {g sc gt gp acc : Vec Ideal S1x1024 .f32}
  {G SC GT GP ACC : Fin 1024 → ℝ}
  (hx : ∀ r d, x (ix2 r d) = ((X r d : ℝ) : EReal)) (hy : ∀ r d, y (ix2 r d) = ((Y r d : ℝ) : EReal))
  (hd : ∀ r d, d2 (ix2 r d) = ((D r d : ℝ) : EReal)) (hh : ∀ r d, h (ix2 r d) = ((H r d : ℝ) : EReal))
  (hg : ∀ d, g (ix2 0 d) = ((G d : ℝ) : EReal)) (hs : ∀ d, sc (ix2 0 d) = ((SC d : ℝ) : EReal))
  (ht : ∀ d, gt (ix2 0 d) = ((GT d : ℝ) : EReal)) (hp : ∀ d, gp (ix2 0 d) = ((GP d : ℝ) : EReal))
  (ha : ∀ d, acc (ix2 0 d) = ((ACC d : ℝ) : EReal))

include hx in
set_option maxRecDepth 16384 in
/-- The reciprocal root of a row's mean square. -/
theorem pay10 (r : Fin 256) : k0_pay10 (F := Ideal) x (ix2 r 0) = ((rinv (X r) : ℝ) : EReal) := by
  pointwise [k0_pay10, k0_pay9]
  simp only [hx, ofBits_1024, ofBits_eps, ofBits_one, ← EReal.coe_mul, ← EReal.coe_add, ← EReal.coe_sub, sum_coe, div_1024]
  exact rsqrt_msq (X r)

include hy in
set_option maxRecDepth 16384 in
/-- The same of the mixer's output. -/
theorem pay19 (r : Fin 256) : k0_pay19 (F := Ideal) y (ix2 r 0) = ((rinv (Y r) : ℝ) : EReal) := by
  pointwise [k0_pay19]
  simp only [hy, ofBits_1024, ofBits_eps, ofBits_one, ← EReal.coe_mul, ← EReal.coe_add, ← EReal.coe_sub, sum_coe, div_1024]
  exact rsqrt_msq (Y r)

include hx in
set_option maxRecDepth 16384 in
/-- A normalised element. -/
theorem pay11 (r : Fin 256) (d : Fin 1024) : k0_pay11 (F := Ideal) x (ix2 r d) = ((X r d * rinv (X r) : ℝ) : EReal) := by
  pointwise [k0_pay11, k0_pay9]
  simp only [hx, pay10 hx, ofBits_1024, ofBits_eps, ofBits_one, ← EReal.coe_mul, ← EReal.coe_add, ← EReal.coe_sub, sum_coe, div_1024]

include hy in
set_option maxRecDepth 16384 in
/-- The same of the mixer's output. -/
theorem pay20 (r : Fin 256) (d : Fin 1024) : k0_pay20 (F := Ideal) y (ix2 r d) = ((Y r d * rinv (Y r) : ℝ) : EReal) := by
  pointwise [k0_pay20]
  simp only [hy, pay19 hy, ofBits_1024, ofBits_eps, ofBits_one, ← EReal.coe_mul, ← EReal.coe_add, ← EReal.coe_sub, sum_coe, div_1024]

include hh ha in
set_option maxRecDepth 16384 in
/-- The shift's gradient after one more block. -/
theorem pay12 (d : Fin 1024) : k0_pay12 (F := Ideal) h acc (ix2 0 d) = ((ACC d + ∑ r, H r d : ℝ) : EReal) := by
  pointwise [k0_pay12]
  simp only [hh, ha, ofBits_1024, ofBits_eps, ofBits_one, ← EReal.coe_mul, ← EReal.coe_add, ← EReal.coe_sub, sum_coe, div_1024]

include hx hh hg ha in
set_option maxRecDepth 16384 in
/-- The scale's gradient after one more block. -/
theorem pay13 (d : Fin 1024) : k0_pay13 (F := Ideal) h x g acc (ix2 0 d) = ((ACC d + ∑ r, H r d * (X r d * rinv (X r) * G d) : ℝ) : EReal) := by
  pointwise [k0_pay13]
  simp only [hx, hh, hg, ha, pay11 hx, ofBits_1024, ofBits_eps, ofBits_one, ← EReal.coe_mul, ← EReal.coe_add, ← EReal.coe_sub, sum_coe, div_1024]

include hh hs in
set_option maxRecDepth 16384 in
/-- The gradient at the norm's output. -/
theorem pay14 (r : Fin 256) (d : Fin 1024) : k0_pay14 (F := Ideal) h sc (ix2 r d) = ((H r d * (1 + SC d) : ℝ) : EReal) := by
  pointwise [k0_pay14]
  simp only [hh, hs, ofBits_1024, ofBits_eps, ofBits_one, ← EReal.coe_one, ← EReal.coe_mul, ← EReal.coe_add, ← EReal.coe_sub, sum_coe, div_1024]

include hx hh hs ha in
set_option maxRecDepth 16384 in
/-- The norm's gradient after one more block. -/
theorem pay17 (d : Fin 1024) : k0_pay17 (F := Ideal) (k0_pay15 acc) (k0_pay16 h x sc) (ix2 0 d) = ((ACC d + ∑ r, H r d * (1 + SC d) * (X r d * rinv (X r)) : ℝ) : EReal) := by
  pointwise [k0_pay17, k0_pay15, k0_pay16]
  simp only [ha, pay14 hh hs, pay11 hx, ofBits_1024, ofBits_eps, ofBits_one, ← EReal.coe_mul, ← EReal.coe_add, ← EReal.coe_sub, sum_coe, div_1024]

include hx hd hh hg hs in
set_option maxRecDepth 16384 in
/-- The gradient at the block's input. -/
theorem pay18 (r : Fin 256) (d : Fin 1024) :
    k0_pay18 (F := Ideal) (k0_pay10 x) (k0_pay11 x) (k0_pay14 h sc) d2 g (ix2 r d) = ((rowDx1 (X r) (D r) (H r) SC G d : ℝ) : EReal) := by
  pointwise [k0_pay18]
  simp only [hd, hg, pay10 hx, pay11 hx, pay14 hh hs, ofBits_1024, ofBits_eps, ofBits_one, ← EReal.coe_mul, ← EReal.coe_add, ← EReal.coe_sub, sum_coe, div_1024]
  rfl

include hx hy hd hh hg hs hp ha in
set_option maxRecDepth 16384 in
/-- The gate's gradient after one more block. -/
theorem pay23 (d : Fin 1024) :
    k0_pay23 (F := Ideal) (k0_pay21 acc) (k0_pay22 (k0_pay10 x) (k0_pay11 x) (k0_pay14 h sc) d2 g y gp) (ix2 0 d)
      = ((ACC d + ∑ r, rowDx1 (X r) (D r) (H r) SC G d * (Y r d * rinv (Y r) * GP d) : ℝ) : EReal) := by
  pointwise [k0_pay23, k0_pay21, k0_pay22]
  simp only [ha, hp, pay18 hx hd hh hg hs, pay20 hy, ofBits_1024, ofBits_eps, ofBits_one, ← EReal.coe_mul, ← EReal.coe_add, ← EReal.coe_sub, sum_coe, div_1024]

include hx hy ht ha in
set_option maxRecDepth 16384 in
/-- The gated norm's gradient after one more block. -/
theorem pay25 (d : Fin 1024) :
    k0_pay25 (F := Ideal) x (k0_pay20 y) gt acc (ix2 0 d) = ((ACC d + ∑ r, X r d * GT d * (Y r d * rinv (Y r)) : ℝ) : EReal) := by
  pointwise [k0_pay25, k0_pay24]
  simp only [ha, ht, hx, pay20 hy, ofBits_1024, ofBits_eps, ofBits_one, ← EReal.coe_mul, ← EReal.coe_add, ← EReal.coe_sub, sum_coe, div_1024]

include hx hy ht hp in
set_option maxRecDepth 16384 in
/-- The gradient at the mixer's output. -/
theorem pay26 (r : Fin 256) (d : Fin 1024) :
    k0_pay26 (F := Ideal) x (k0_pay19 y) (k0_pay20 y) gt gp (ix2 r d) = ((rowDy (Y r) (X r) GT GP d : ℝ) : EReal) := by
  pointwise [k0_pay26, k0_pay24]
  simp only [ht, hp, hx, pay19 hy, pay20 hy, ofBits_1024, ofBits_eps, ofBits_one, ← EReal.coe_mul, ← EReal.coe_add, ← EReal.coe_sub, sum_coe, div_1024]
  rfl

set_option maxRecDepth 16384 in
/-- The gradient at the modulated norm: the product with the four column chunks of the weights. -/
theorem pay8 {a0 a1 a2 a3 : Vec Ideal S256x1536 .bf16} {w0 w1 w2 w3 : Vec Ideal S1x1024x1536 .bf16} {U : Fin 256 → Fin 6144 → ℝ}
    {W : Fin 1024 → Fin 6144 → ℝ}
    (e0 : ∀ r q, a0 (ix2 r q) = ((U r ⟨q.val, by omega⟩ : ℝ) : EReal)) (e1 : ∀ r q, a1 (ix2 r q) = ((U r ⟨1536 + q.val, by omega⟩ : ℝ) : EReal))
    (e2 : ∀ r q, a2 (ix2 r q) = ((U r ⟨3072 + q.val, by omega⟩ : ℝ) : EReal)) (e3 : ∀ r q, a3 (ix2 r q) = ((U r ⟨4608 + q.val, by omega⟩ : ℝ) : EReal))
    (f0 : ∀ d q, w0 (ix3 0 d q) = ((W d ⟨q.val, by omega⟩ : ℝ) : EReal)) (f1 : ∀ d q, w1 (ix3 0 d q) = ((W d ⟨1536 + q.val, by omega⟩ : ℝ) : EReal))
    (f2 : ∀ d q, w2 (ix3 0 d q) = ((W d ⟨3072 + q.val, by omega⟩ : ℝ) : EReal)) (f3 : ∀ d q, w3 (ix3 0 d q) = ((W d ⟨4608 + q.val, by omega⟩ : ℝ) : EReal))
    (r : Fin 256) (d : Fin 1024) : k0_pay8 (F := Ideal) a0 w0 a1 w1 a2 w2 a3 w3 (ix2 r d) = ((∑ k, U r k * W d k : ℝ) : EReal) := by
  pointwise [k0_pay8]
  simp only [e0, e1, e2, e3, f0, f1, f2, f3, ← EReal.coe_mul, ← EReal.coe_add, sum_coe]
  rw [sum_quarters]

end Cert.Proof.FfnB
-- ==== Proof.FfnBTile.lean ====
/- One grid point of the feed-forward block's second half: 512 rows taken as two tiles of 256. -/
module

public import proofs.«01_k».proof.Proof.FfnBPay
public import Idealize.ShloMosaic.Lib.Pipeline.FrameBody
public import Idealize.ShloMosaic.Lib.Pipeline.Value
public import Idealize.ShloMosaic.Lib.Pipeline.ValueKit.Tiles

@[expose] public section

noncomputable section

namespace Cert.Proof.FfnB

open Cert.KernelBIdeal Cert.KernelBIdeal.Gen Idealize.ShloMosaic Cert.Proof.Lift

/-- Row `r` of the first tile, and of the second. -/
def lo (r : Fin 256) : Fin 512 := ⟨0 + r.val, by omega⟩
def hi (r : Fin 256) : Fin 512 := ⟨256 + r.val, by omega⟩

/-- A sum over the 512 rows is the sum over the two tiles. -/
theorem sum_tiles (a : ℝ) (f : Fin 512 → ℝ) : a + ∑ r, f (lo r) + ∑ r, f (hi r) = a + ∑ r, f r := by
  rw [Fin.sum_univ_add (a := 256) (b := 256) f, add_assoc]
  refine congrArg (a + ·) (congrArg₂ (· + ·) (Finset.sum_congr rfl fun r _ => congrArg f ?_) rfl)
  exact Fin.ext (Nat.zero_add _)

section Loads

/-- A load of 256 rows, at an element. -/
theorem ld_row {x : Vec Ideal S512x1024 .f32} {X : Fin 512 → Fin 1024 → ℝ} (hx : ∀ r d, x (ix2 r d) = ((X r d : ℝ) : EReal)) (o : ℕ) (ho : o + 256 ≤ 512)
    (inb) (r : Fin 256) (d : Fin 1024) :
    (View.ld x (Rect.unit (s := S512x1024) ![o, 0] ![256, 1024] inb) : Vec Ideal S256x1024 .f32) (ix2 r d) = ((X ⟨o + r.val, by omega⟩ d : ℝ) : EReal) :=
  (View.ld_unit_apply_of x ![o, 0] ![256, 1024] inb (ix2 r d) (ix2 ⟨o + r.val, by omega⟩ d) (fun a => match a with
    | ⟨0, _⟩ => rfl
    | ⟨1, _⟩ => (Nat.zero_add _).symm)).trans (hx _ _)

/-- A load of 256 rows and one column chunk of the gradient at the product. -/
theorem ld_up {x : Vec Ideal S512x6144 .bf16} {U : Fin 512 → Fin 6144 → ℝ} (hx : ∀ r d, x (ix2 r d) = ((U r d : ℝ) : EReal)) (o p : ℕ) (ho : o + 256 ≤ 512)
    (hp : p + 1536 ≤ 6144) (inb) (r : Fin 256) (q : Fin 1536) :
    (View.ld x (Rect.unit (s := S512x6144) ![o, p] ![256, 1536] inb) : Vec Ideal S256x1536 .bf16) (ix2 r q)
      = ((U ⟨o + r.val, by omega⟩ ⟨p + q.val, by omega⟩ : ℝ) : EReal) :=
  (View.ld_unit_apply_of x ![o, p] ![256, 1536] inb (ix2 r q) (ix2 ⟨o + r.val, by omega⟩ ⟨p + q.val, by omega⟩) (fun a => match a with
    | ⟨0, _⟩ => rfl
    | ⟨1, _⟩ => rfl)).trans (hx _ _)

/-- A load of one chunk of the weights. -/
theorem ld_w {x : Vec Ideal S4x1024x1536 .bf16} {W : Fin 1024 → Fin 6144 → ℝ}
    (hx : ∀ (k : Fin 4) d (q : Fin 1536), x (ix3 k d q) = ((W d ⟨k.val * 1536 + q.val, by omega⟩ : ℝ) : EReal)) (k : ℕ) (hk : k < 4) (inb)
    (d : Fin 1024) (q : Fin 1536) :
    (View.ld x (Rect.unit (s := S4x1024x1536) ![k, 0, 0] ![1, 1024, 1536] inb) : Vec Ideal S1x1024x1536 .bf16) (ix3 0 d q)
      = ((W d ⟨k * 1536 + q.val, by omega⟩ : ℝ) : EReal) :=
  (View.ld_unit_apply_of x ![k, 0, 0] ![1, 1024, 1536] inb (ix3 0 d q) (ix3 ⟨k, hk⟩ d q) (fun a => match a with
    | ⟨0, _⟩ => rfl
    | ⟨1, _⟩ => (Nat.zero_add _).symm
    | ⟨2, _⟩ => (Nat.zero_add _).symm)).trans (hx _ _ _)

end Loads

/-- A load through the whole-shape rectangle reads what the last store through it left. -/
theorem readCov_last {S : Shape} {Val : EltTy → Type} [∀ e, Nonempty (Val e)] {e : EltTy} {sig : RefSig} {κ : Kind} {sp : Space} (v : View sig κ sp S e)
    {off : Fin S.rank → Nat} (h : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩), View.canon_cons_unit_zero h,
    View.ld_unit_zero h]

/-! The second tile's stored values are the first tile's functions of the second tile's loads. -/
section Same

variable (x y d2 h : Vec Ideal S256x1024 .f32) (g sc gt gp acc : Vec Ideal S1x1024 .f32)

theorem same33 : k0_pay33 h acc = k0_pay12 h acc := rfl
theorem same34 : k0_pay34 h (k0_pay32 x) g acc = k0_pay13 h x g acc := rfl
theorem same36 : k0_pay36 h (k0_pay32 x) sc acc = k0_pay17 (k0_pay15 acc) (k0_pay16 h x sc) := rfl
theorem same39 : k0_pay39 (k0_pay31 x) (k0_pay32 x) d2 (k0_pay37 h sc g) (k0_pay38 h (k0_pay32 x) sc g)
    = k0_pay18 (k0_pay10 x) (k0_pay11 x) (k0_pay14 h sc) d2 g := rfl
theorem same42 : k0_pay42 (k0_pay31 x) (k0_pay32 x) d2 (k0_pay37 h sc g) (k0_pay38 h (k0_pay32 x) sc g) y acc gp
    = k0_pay23 (k0_pay21 acc) (k0_pay22 (k0_pay10 x) (k0_pay11 x) (k0_pay14 h sc) d2 g y gp) := rfl
theorem same1 : k0_pay1 (k0_pay41 y) (k0_pay43 (k0_pay31 x) (k0_pay32 x) d2 (k0_pay37 h sc g) (k0_pay38 h (k0_pay32 x) sc g) gt) acc
    = k0_pay25 (k0_pay18 (k0_pay10 x) (k0_pay11 x) (k0_pay14 h sc) d2 g) (k0_pay20 y) gt acc := rfl
theorem same2 : k0_pay2 (k0_pay40 y) (k0_pay41 y) (k0_pay43 (k0_pay31 x) (k0_pay32 x) d2 (k0_pay37 h sc g) (k0_pay38 h (k0_pay32 x) sc g) gt) gp
    = k0_pay26 (k0_pay18 (k0_pay10 x) (k0_pay11 x) (k0_pay14 h sc) d2 g) (k0_pay19 y) (k0_pay20 y) gt gp := rfl
theorem same29 (a0 a1 a2 a3 : Vec Ideal S256x1536 .bf16) (w0 w1 w2 w3 : Vec Ideal S1x1024x1536 .bf16) :
    k0_pay29 k0_pay27 (k0_pay28 a0) w0 a1 w1 a2 w2 a3 w3 = k0_pay8 a0 w0 a1 w1 a2 w2 a3 w3 := rfl

end Same

section Tile

variable {xl xh yl yh dl dh hl hh : Vec Ideal S256x1024 .f32} {g sc gt gp acc : Vec Ideal S1x1024 .f32}
  {X Y D H : Fin 512 → Fin 1024 → ℝ} {G SC GT GP ACC : Fin 1024 → ℝ}
  (exl : ∀ r d, xl (ix2 r d) = ((X (lo r) d : ℝ) : EReal)) (exh : ∀ r d, xh (ix2 r d) = ((X (hi r) d : ℝ) : EReal))
  (eyl : ∀ r d, yl (ix2 r d) = ((Y (lo r) d : ℝ) : EReal)) (eyh : ∀ r d, yh (ix2 r d) = ((Y (hi r) d : ℝ) : EReal))
  (edl : ∀ r d, dl (ix2 r d) = ((D (lo r) d : ℝ) : EReal)) (edh : ∀ r d, dh (ix2 r d) = ((D (hi r) d : ℝ) : EReal))
  (ehl : ∀ r d, hl (ix2 r d) = ((H (lo r) d : ℝ) : EReal)) (ehh : ∀ r d, hh (ix2 r d) = ((H (hi r) d : ℝ) : EReal))
  (hg : ∀ d, g (ix2 0 d) = ((G d : ℝ) : EReal)) (hs : ∀ d, sc (ix2 0 d) = ((SC d : ℝ) : EReal))
  (ht : ∀ d, gt (ix2 0 d) = ((GT d : ℝ) : EReal)) (hp : ∀ d, gp (ix2 0 d) = ((GP d : ℝ) : EReal))
  (ha : ∀ d, acc (ix2 0 d) = ((ACC d : ℝ) : EReal))

include ehl ehh ha in
theorem two12 (d : Fin 1024) : k0_pay33 (F := Ideal) hh (k0_pay12 hl acc) (ix2 0 d) = ((ACC d + ∑ r, H r d : ℝ) : EReal) :=
  (congrFun (same33 _ _) _).trans ((pay12 ehh (pay12 ehl ha) d).trans
    (congrArg (fun r : ℝ => (r : EReal)) (sum_tiles (ACC d) (fun r => H r d))))

include exl exh ehl ehh hg ha in
theorem two13 (d : Fin 1024) : k0_pay34 (F := Ideal) hh (k0_pay32 xh) g (k0_pay13 hl xl g acc) (ix2 0 d)
    = ((ACC d + ∑ r, H r d * (X r d * rinv (X r) * G d) : ℝ) : EReal) :=
  (congrFun (same34 _ _ _ _) _).trans ((pay13 exh ehh hg (pay13 exl ehl hg ha) d).trans
    (congrArg (fun r : ℝ => (r : EReal)) (sum_tiles (ACC d) (fun r => H r d * (X r d * rinv (X r) * G d)))))

include exl exh ehl ehh hs ha in
theorem two14 (d : Fin 1024) : k0_pay36 (F := Ideal) hh (k0_pay32 xh) sc (k0_pay17 (k0_pay15 acc) (k0_pay16 hl xl sc)) (ix2 0 d)
    = ((ACC d + ∑ r, H r d * (1 + SC d) * (X r d * rinv (X r)) : ℝ) : EReal) :=
  (congrFun (same36 _ _ _ _) _).trans ((pay17 exh ehh hs (pay17 exl ehl hs ha) d).trans
    (congrArg (fun r : ℝ => (r : EReal)) (sum_tiles (ACC d) (fun r => H r d * (1 + SC d) * (X r d * rinv (X r))))))

include exl exh eyl eyh edl edh ehl ehh hg hs hp ha in
theorem two15 (d : Fin 1024) : k0_pay42 (F := Ideal) (k0_pay31 xh) (k0_pay32 xh) dh (k0_pay37 hh sc g) (k0_pay38 hh (k0_pay32 xh) sc g) yh
      (k0_pay23 (k0_pay21 acc) (k0_pay22 (k0_pay10 xl) (k0_pay11 xl) (k0_pay14 hl sc) dl g yl gp)) gp (ix2 0 d)
    = ((ACC d + ∑ r, rowDx1 (X r) (D r) (H r) SC G d * (Y r d * rinv (Y r) * GP d) : ℝ) : EReal) :=
  (congrFun (same42 _ _ _ _ _ _ _ _) _).trans ((pay23 exh eyh edh ehh hg hs hp (pay23 exl eyl edl ehl hg hs hp ha) d).trans
    (congrArg (fun r : ℝ => (r : EReal)) (sum_tiles (ACC d) (fun r => rowDx1 (X r) (D r) (H r) SC G d * (Y r d * rinv (Y r) * GP d)))))

include exl exh eyl eyh edl edh ehl ehh hg hs ht ha in
theorem two16 (d : Fin 1024) : k0_pay1 (F := Ideal) (k0_pay41 yh) (k0_pay43 (k0_pay31 xh) (k0_pay32 xh) dh (k0_pay37 hh sc g) (k0_pay38 hh (k0_pay32 xh) sc g) gt)
      (k0_pay25 (k0_pay18 (k0_pay10 xl) (k0_pay11 xl) (k0_pay14 hl sc) dl g) (k0_pay20 yl) gt acc) (ix2 0 d)
    = ((ACC d + ∑ r, rowDx1 (X r) (D r) (H r) SC G d * GT d * (Y r d * rinv (Y r)) : ℝ) : EReal) :=
  (congrFun (same1 _ _ _ _ _ _ _ _) _).trans ((pay25 (pay18 exh edh ehh hg hs) eyh ht (pay25 (pay18 exl edl ehl hg hs) eyl ht ha) d).trans
    (congrArg (fun r : ℝ => (r : EReal)) (sum_tiles (ACC d) (fun r => rowDx1 (X r) (D r) (H r) SC G d * GT d * (Y r d * rinv (Y r))))))

end Tile

/-- A tile's gradient at the modulated norm. -/
theorem dh_tile {x : Vec Ideal S512x6144 .bf16} {U : Fin 512 → Fin 6144 → ℝ} (hx : ∀ r d, x (ix2 r d) = ((U r d : ℝ) : EReal))
    {w : Vec Ideal S4x1024x1536 .bf16} {W : Fin 1024 → Fin 6144 → ℝ}
    (hw : ∀ (k : Fin 4) d (q : Fin 1536), w (ix3 k d q) = ((W d ⟨k.val * 1536 + q.val, by omega⟩ : ℝ) : EReal)) (o : ℕ) (ho : o + 256 ≤ 512)
    (a b c e a' b' c' e') (r : Fin 256) (d : Fin 1024) :
    k0_pay8 (F := Ideal) (View.ld x (Rect.unit (s := S512x6144) ![o, 0] ![256, 1536] a)) (View.ld w (Rect.unit (s := S4x1024x1536) ![0, 0, 0] ![1, 1024, 1536] a'))
      (View.ld x (Rect.unit (s := S512x6144) ![o, 1536] ![256, 1536] b)) (View.ld w (Rect.unit (s := S4x1024x1536) ![1, 0, 0] ![1, 1024, 1536] b'))
      (View.ld x (Rect.unit (s := S512x6144) ![o, 3072] ![256, 1536] c)) (View.ld w (Rect.unit (s := S4x1024x1536) ![2, 0, 0] ![1, 1024, 1536] c'))
      (View.ld x (Rect.unit (s := S512x6144) ![o, 4608] ![256, 1536] e)) (View.ld w (Rect.unit (s := S4x1024x1536) ![3, 0, 0] ![1, 1024, 1536] e')) (ix2 r d)
      = ((∑ k, U ⟨o + r.val, by omega⟩ k * W d k : ℝ) : EReal) :=
  pay8 (U := fun r k => U ⟨o + r.val, by omega⟩ k) (W := W)
    (fun r q => (ld_up hx o 0 ho (by omega) a r q).trans (by congr 4; omega)) (fun r q => ld_up hx o 1536 ho (by omega) b r q)
    (fun r q => ld_up hx o 3072 ho (by omega) c r q) (fun r q => ld_up hx o 4608 ho (by omega) e r q)
    (fun d q => (ld_w hw 0 (by omega) a' d q).trans (by congr 3; omega))
    (fun d q => (ld_w hw 1 (by omega) b' d q).trans (by congr 3)) (fun d q => ld_w hw 2 (by omega) c' d q) (fun d q => ld_w hw 3 (by omega) e' d q) r d

end Cert.Proof.FfnB
-- ==== Proof.FfnBBlock.lean ====
/- What a grid point of the feed-forward block's second half leaves in its output blocks, on finite blocks. Case A is the
   first point, which starts the column sums at zero; case B is every other point, which adds to what the point before left. -/
module

public import proofs.«01_k».proof.Proof.Gen.KernelBIdeal.Frame
public import proofs.«01_k».proof.Proof.FfnBTile

@[expose] public section

noncomputable section

namespace Cert.Proof.FfnB

open Cert.KernelBIdeal Cert.KernelBIdeal.Gen Idealize.ShloMosaic Idealize.ShloMosaic.TcCoe Idealize.SL.Sem Cert.Proof.Lift

theorem hz2 : (![0, 0] : Fin 2 → Nat) = fun _ => 0 := funext fun a => by fin_cases a <;> rfl

/-- The starting value of a column sum. -/
theorem zeros (f : Vec Ideal S1x1024 .f32) (hf : f = broadcast S1x1024 (Scalar.ofBits (F := Ideal) .f32 0x00000000#32)) (d : Fin 1024) :
    f (ix2 0 d) = ((((fun _ => 0 : Fin 1024 → ℝ) d : ℝ)) : EReal) := by
  subst hf; exact ofBits_zero

/-- A row's product with the weights. -/
def prod {n : ℕ} (U : Fin n → Fin 6144 → ℝ) (W : Fin 1024 → Fin 6144 → ℝ) (r : Fin n) (d : Fin 1024) : ℝ := ∑ k, U r k * W d k

/-- Element `(r, d)` of the tile at row 0 sits at row `0 + r` of the block. -/
theorem place0 (f : Fin 512 → Fin 1024 → ℝ) (r : Fin 256) (d : Fin 1024) (inb) :
    ((f ⟨0 + r.val, by omega⟩ d : ℝ) : EReal) = ((f ((Rect.unit (s := S512x1024) ![0, 0] ![256, 1024] inb).emb (ix2 r d) 0) ((Rect.unit (s := S512x1024) ![0, 0] ![256, 1024] inb).emb (ix2 r d) 1) : ℝ) : EReal) := by
  have e0 : (⟨0 + r.val, by omega⟩ : Fin 512) = (Rect.unit (s := S512x1024) ![0, 0] ![256, 1024] inb).emb (ix2 r d) 0 :=
    Fin.ext (show 0 + r.val = 0 + 1 * r.val by omega)
  have e1 : d = (Rect.unit (s := S512x1024) ![0, 0] ![256, 1024] inb).emb (ix2 r d) 1 :=
    Fin.ext (show d.val = 0 + 1 * d.val by omega)
  rw [← e0, ← e1]

/-- Element `(r, d)` of the tile at row 256 sits at row `256 + r` of the block. -/
theorem place256 (f : Fin 512 → Fin 1024 → ℝ) (r : Fin 256) (d : Fin 1024) (inb) :
    ((f ⟨256 + r.val, by omega⟩ d : ℝ) : EReal) = ((f ((Rect.unit (s := S512x1024) ![256, 0] ![256, 1024] inb).emb (ix2 r d) 0) ((Rect.unit (s := S512x1024) ![256, 0] ![256, 1024] inb).emb (ix2 r d) 1) : ℝ) : EReal) := by
  have e0 : (⟨256 + r.val, by omega⟩ : Fin 512) = (Rect.unit (s := S512x1024) ![256, 0] ![256, 1024] inb).emb (ix2 r d) 0 :=
    Fin.ext (show 256 + r.val = 256 + 1 * r.val by omega)
  have e1 : d = (Rect.unit (s := S512x1024) ![256, 0] ![256, 1024] inb).emb (ix2 r d) 1 :=
    Fin.ext (show d.val = 0 + 1 * d.val by omega)
  rw [← e0, ← e1]

variable {U : Fin 512 → Fin 6144 → ℝ} {X Y D : Fin 512 → Fin 1024 → ℝ} {W : Fin 1024 → Fin 6144 → ℝ} {G SC GT GP ACC : Fin 1024 → ℝ}

section
variable (c : Dev nD) (i : grid0.Coords) (a1 : Memref sig .tc .vmem S512x6144 .bf16) (h1 : a1.IsWhole) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S4x1024x1536 .bf16) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole) (a11 : Memref sig .tc .vmem S512x1024 .f32) (h11 : a11.IsWhole) (a12 : Memref sig .tc .vmem S512x1024 .bf16) (h12 : a12.IsWhole) (a13 : Memref sig .tc .vmem S1x1024 .f32) (h13 : a13.IsWhole) (a14 : Memref sig .tc .vmem S1x1024 .f32) (h14 : a14.IsWhole) (a15 : Memref sig .tc .vmem S1x1024 .f32) (h15 : a15.IsWhole) (a16 : Memref sig .tc .vmem S1x1024 .f32) (h16 : a16.IsWhole) (a17 : Memref sig .tc .vmem S1x1024 .f32) (h17 : a17.IsWhole)

theorem oA10 (hc0 : cond0_0 i) (x0 : Vec Ideal S512x6144 .bf16) (x1 : Vec Ideal S512x1024 .f32) (x2 : Vec Ideal S512x1024 .f32) (x3 : Vec Ideal S512x1024 .f32) (x4 : Vec Ideal S4x1024x1536 .bf16) (x5 : Vec Ideal S1x1024 .f32) (x6 : Vec Ideal S1x1024 .f32) (x7 : Vec Ideal S1x1024 .f32) (x8 : Vec Ideal S1x1024 .f32) (x9 : Vec Ideal S1x1024 .f32) (e0 : ∀ r d, x0 (ix2 r d) = ((U r d : ℝ) : EReal)) (e1 : ∀ r d, x1 (ix2 r d) = ((X r d : ℝ) : EReal)) (e3 : ∀ r d, x3 (ix2 r d) = ((D r d : ℝ) : EReal)) (e4 : ∀ (k : Fin 4) d (q : Fin 1536), x4 (ix3 k d q) = ((W d ⟨k.val * 1536 + q.val, by omega⟩ : ℝ) : EReal)) (e5 : ∀ d, x5 (ix2 0 d) = ((G d : ℝ) : EReal)) (e6 : ∀ d, x6 (ix2 0 d) = ((SC d : ℝ) : EReal)) (j : S512x1024.Idx) :
    out0_A_10 (F := Ideal) c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 j = ((rowDx1 (X (j 0)) (D (j 0)) (prod U W (j 0)) SC G (j 1) : ℝ) : EReal) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9)]
  refine View.canon_apply_of_pieces (fun j : S512x1024.Idx => ((rowDx1 (X (j 0)) (D (j 0)) (prod U W (j 0)) SC G (j 1) : ℝ) : EReal)) _ ?_ j (cover0_A_10 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 j)
  unfold kernelRun0_A
  dsimp only
  sl_unfold_words
  simp only [View.readAt_eq_ld, View.canon_cons_unit_zero (S := S1x1024) hz2, readCov_last (S := S1x1024) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S1x1024) hz2]
  intro p hp x
  rcases List.mem_cons.mp hp with rfl | hp
  · obtain ⟨r, d, rfl⟩ : ∃ (r : Fin 256) (d : Fin 1024), (x : S256x1024.Idx) = ix2 r d := ⟨x 0, x 1, eq_ix2 x⟩
    exact ((congrFun (same39 _ _ _ _ _) _).trans ((pay18 (X := fun r => X ⟨256 + r.val, by omega⟩) (D := fun r => D ⟨256 + r.val, by omega⟩) (H := fun r => prod U W ⟨256 + r.val, by omega⟩) (fun r d => ld_row e1 256 (by omega) _ r d) (fun r d => ld_row e3 256 (by omega) _ r d) (fun r d => (congrFun (same29 _ _ _ _ _ _ _ _) _).trans (dh_tile e0 e4 256 (by omega) _ _ _ _ _ _ _ _ r d)) e5 e6) r d)).trans (place256 (fun r d => rowDx1 (X r) (D r) (prod U W r) SC G d) r d inb_S512x1024_S256x1024_256_0)
  · obtain rfl := List.mem_singleton.mp hp
    obtain ⟨r, d, rfl⟩ : ∃ (r : Fin 256) (d : Fin 1024), (x : S256x1024.Idx) = ix2 r d := ⟨x 0, x 1, eq_ix2 x⟩
    exact ((pay18 (X := fun r => X ⟨0 + r.val, by omega⟩) (D := fun r => D ⟨0 + r.val, by omega⟩) (H := fun r => prod U W ⟨0 + r.val, by omega⟩) (fun r d => ld_row e1 0 (by omega) _ r d) (fun r d => ld_row e3 0 (by omega) _ r d) (fun r d => dh_tile e0 e4 0 (by omega) _ _ _ _ _ _ _ _ r d) e5 e6) r d).trans (place0 (fun r d => rowDx1 (X r) (D r) (prod U W r) SC G d) r d inb_S512x1024_S256x1024_0_0)

theorem oB10 (hc0 : ¬cond0_0 i) (x0 : Vec Ideal S512x6144 .bf16) (x1 : Vec Ideal S512x1024 .f32) (x2 : Vec Ideal S512x1024 .f32) (x3 : Vec Ideal S512x1024 .f32) (x4 : Vec Ideal S4x1024x1536 .bf16) (x5 : Vec Ideal S1x1024 .f32) (x6 : Vec Ideal S1x1024 .f32) (x7 : Vec Ideal S1x1024 .f32) (x8 : Vec Ideal S1x1024 .f32) (x9 : Vec Ideal S1x1024 .f32) (xo12 : Vec Ideal S1x1024 .f32) (xo13 : Vec Ideal S1x1024 .f32) (xo14 : Vec Ideal S1x1024 .f32) (xo15 : Vec Ideal S1x1024 .f32) (xo16 : Vec Ideal S1x1024 .f32) (e0 : ∀ r d, x0 (ix2 r d) = ((U r d : ℝ) : EReal)) (e1 : ∀ r d, x1 (ix2 r d) = ((X r d : ℝ) : EReal)) (e3 : ∀ r d, x3 (ix2 r d) = ((D r d : ℝ) : EReal)) (e4 : ∀ (k : Fin 4) d (q : Fin 1536), x4 (ix3 k d q) = ((W d ⟨k.val * 1536 + q.val, by omega⟩ : ℝ) : EReal)) (e5 : ∀ d, x5 (ix2 0 d) = ((G d : ℝ) : EReal)) (e6 : ∀ d, x6 (ix2 0 d) = ((SC d : ℝ) : EReal)) (j : S512x1024.Idx) :
    out0_B_10 (F := Ideal) c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xo12 xo13 xo14 xo15 xo16 j = ((rowDx1 (X (j 0)) (D (j 0)) (prod U W (j 0)) SC G (j 1) : ℝ) : EReal) := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xo12 xo13 xo14 xo15 xo16)]
  refine View.canon_apply_of_pieces (fun j : S512x1024.Idx => ((rowDx1 (X (j 0)) (D (j 0)) (prod U W (j 0)) SC G (j 1) : ℝ) : EReal)) _ ?_ j (cover0_B_10 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xo12 xo13 xo14 xo15 xo16 j)
  unfold kernelRun0_B
  dsimp only
  sl_unfold_words
  simp only [View.readAt_eq_ld, View.canon_cons_unit_zero (S := S1x1024) hz2, readCov_last (S := S1x1024) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S1x1024) hz2]
  intro p hp x
  rcases List.mem_cons.mp hp with rfl | hp
  · obtain ⟨r, d, rfl⟩ : ∃ (r : Fin 256) (d : Fin 1024), (x : S256x1024.Idx) = ix2 r d := ⟨x 0, x 1, eq_ix2 x⟩
    exact ((congrFun (same39 _ _ _ _ _) _).trans ((pay18 (X := fun r => X ⟨256 + r.val, by omega⟩) (D := fun r => D ⟨256 + r.val, by omega⟩) (H := fun r => prod U W ⟨256 + r.val, by omega⟩) (fun r d => ld_row e1 256 (by omega) _ r d) (fun r d => ld_row e3 256 (by omega) _ r d) (fun r d => (congrFun (same29 _ _ _ _ _ _ _ _) _).trans (dh_tile e0 e4 256 (by omega) _ _ _ _ _ _ _ _ r d)) e5 e6) r d)).trans (place256 (fun r d => rowDx1 (X r) (D r) (prod U W r) SC G d) r d inb_S512x1024_S256x1024_256_0)
  · obtain rfl := List.mem_singleton.mp hp
    obtain ⟨r, d, rfl⟩ : ∃ (r : Fin 256) (d : Fin 1024), (x : S256x1024.Idx) = ix2 r d := ⟨x 0, x 1, eq_ix2 x⟩
    exact ((pay18 (X := fun r => X ⟨0 + r.val, by omega⟩) (D := fun r => D ⟨0 + r.val, by omega⟩) (H := fun r => prod U W ⟨0 + r.val, by omega⟩) (fun r d => ld_row e1 0 (by omega) _ r d) (fun r d => ld_row e3 0 (by omega) _ r d) (fun r d => dh_tile e0 e4 0 (by omega) _ _ _ _ _ _ _ _ r d) e5 e6) r d).trans (place0 (fun r d => rowDx1 (X r) (D r) (prod U W r) SC G d) r d inb_S512x1024_S256x1024_0_0)

theorem oA11 (hc0 : cond0_0 i) (x0 : Vec Ideal S512x6144 .bf16) (x1 : Vec Ideal S512x1024 .f32) (x2 : Vec Ideal S512x1024 .f32) (x3 : Vec Ideal S512x1024 .f32) (x4 : Vec Ideal S4x1024x1536 .bf16) (x5 : Vec Ideal S1x1024 .f32) (x6 : Vec Ideal S1x1024 .f32) (x7 : Vec Ideal S1x1024 .f32) (x8 : Vec Ideal S1x1024 .f32) (x9 : Vec Ideal S1x1024 .f32) (e0 : ∀ r d, x0 (ix2 r d) = ((U r d : ℝ) : EReal)) (e1 : ∀ r d, x1 (ix2 r d) = ((X r d : ℝ) : EReal)) (e2 : ∀ r d, x2 (ix2 r d) = ((Y r d : ℝ) : EReal)) (e3 : ∀ r d, x3 (ix2 r d) = ((D r d : ℝ) : EReal)) (e4 : ∀ (k : Fin 4) d (q : Fin 1536), x4 (ix3 k d q) = ((W d ⟨k.val * 1536 + q.val, by omega⟩ : ℝ) : EReal)) (e5 : ∀ d, x5 (ix2 0 d) = ((G d : ℝ) : EReal)) (e6 : ∀ d, x6 (ix2 0 d) = ((SC d : ℝ) : EReal)) (e8 : ∀ d, x8 (ix2 0 d) = ((GT d : ℝ) : EReal)) (e9 : ∀ d, x9 (ix2 0 d) = ((GP d : ℝ) : EReal)) (j : S512x1024.Idx) :
    out0_A_11 (F := Ideal) c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 j = ((rowDy (Y (j 0)) (rowDx1 (X (j 0)) (D (j 0)) (prod U W (j 0)) SC G) GT GP (j 1) : ℝ) : EReal) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9)]
  refine View.canon_apply_of_pieces (fun j : S512x1024.Idx => ((rowDy (Y (j 0)) (rowDx1 (X (j 0)) (D (j 0)) (prod U W (j 0)) SC G) GT GP (j 1) : ℝ) : EReal)) _ ?_ j (cover0_A_11 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 j)
  unfold kernelRun0_A
  dsimp only
  sl_unfold_words
  simp only [View.readAt_eq_ld, View.canon_cons_unit_zero (S := S1x1024) hz2, readCov_last (S := S1x1024) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S1x1024) hz2]
  intro p hp x
  rcases List.mem_cons.mp hp with rfl | hp
  · obtain ⟨r, d, rfl⟩ : ∃ (r : Fin 256) (d : Fin 1024), (x : S256x1024.Idx) = ix2 r d := ⟨x 0, x 1, eq_ix2 x⟩
    exact ((congrFun (same2 _ _ _ _ _ _ _ _) _).trans (pay26 (Y := fun r => Y ⟨256 + r.val, by omega⟩) (pay18 (X := fun r => X ⟨256 + r.val, by omega⟩) (D := fun r => D ⟨256 + r.val, by omega⟩) (H := fun r => prod U W ⟨256 + r.val, by omega⟩) (fun r d => ld_row e1 256 (by omega) _ r d) (fun r d => ld_row e3 256 (by omega) _ r d) (fun r d => (congrFun (same29 _ _ _ _ _ _ _ _) _).trans (dh_tile e0 e4 256 (by omega) _ _ _ _ _ _ _ _ r d)) e5 e6) (fun r d => ld_row e2 256 (by omega) _ r d) e8 e9 r d)).trans (place256 (fun r d => rowDy (Y r) (rowDx1 (X r) (D r) (prod U W r) SC G) GT GP d) r d inb_S512x1024_S256x1024_256_0)
  · obtain rfl := List.mem_singleton.mp hp
    obtain ⟨r, d, rfl⟩ : ∃ (r : Fin 256) (d : Fin 1024), (x : S256x1024.Idx) = ix2 r d := ⟨x 0, x 1, eq_ix2 x⟩
    exact (pay26 (Y := fun r => Y ⟨0 + r.val, by omega⟩) (pay18 (X := fun r => X ⟨0 + r.val, by omega⟩) (D := fun r => D ⟨0 + r.val, by omega⟩) (H := fun r => prod U W ⟨0 + r.val, by omega⟩) (fun r d => ld_row e1 0 (by omega) _ r d) (fun r d => ld_row e3 0 (by omega) _ r d) (fun r d => dh_tile e0 e4 0 (by omega) _ _ _ _ _ _ _ _ r d) e5 e6) (fun r d => ld_row e2 0 (by omega) _ r d) e8 e9 r d).trans (place0 (fun r d => rowDy (Y r) (rowDx1 (X r) (D r) (prod U W r) SC G) GT GP d) r d inb_S512x1024_S256x1024_0_0)

theorem oB11 (hc0 : ¬cond0_0 i) (x0 : Vec Ideal S512x6144 .bf16) (x1 : Vec Ideal S512x1024 .f32) (x2 : Vec Ideal S512x1024 .f32) (x3 : Vec Ideal S512x1024 .f32) (x4 : Vec Ideal S4x1024x1536 .bf16) (x5 : Vec Ideal S1x1024 .f32) (x6 : Vec Ideal S1x1024 .f32) (x7 : Vec Ideal S1x1024 .f32) (x8 : Vec Ideal S1x1024 .f32) (x9 : Vec Ideal S1x1024 .f32) (xo12 : Vec Ideal S1x1024 .f32) (xo13 : Vec Ideal S1x1024 .f32) (xo14 : Vec Ideal S1x1024 .f32) (xo15 : Vec Ideal S1x1024 .f32) (xo16 : Vec Ideal S1x1024 .f32) (e0 : ∀ r d, x0 (ix2 r d) = ((U r d : ℝ) : EReal)) (e1 : ∀ r d, x1 (ix2 r d) = ((X r d : ℝ) : EReal)) (e2 : ∀ r d, x2 (ix2 r d) = ((Y r d : ℝ) : EReal)) (e3 : ∀ r d, x3 (ix2 r d) = ((D r d : ℝ) : EReal)) (e4 : ∀ (k : Fin 4) d (q : Fin 1536), x4 (ix3 k d q) = ((W d ⟨k.val * 1536 + q.val, by omega⟩ : ℝ) : EReal)) (e5 : ∀ d, x5 (ix2 0 d) = ((G d : ℝ) : EReal)) (e6 : ∀ d, x6 (ix2 0 d) = ((SC d : ℝ) : EReal)) (e8 : ∀ d, x8 (ix2 0 d) = ((GT d : ℝ) : EReal)) (e9 : ∀ d, x9 (ix2 0 d) = ((GP d : ℝ) : EReal)) (j : S512x1024.Idx) :
    out0_B_11 (F := Ideal) c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xo12 xo13 xo14 xo15 xo16 j = ((rowDy (Y (j 0)) (rowDx1 (X (j 0)) (D (j 0)) (prod U W (j 0)) SC G) GT GP (j 1) : ℝ) : EReal) := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xo12 xo13 xo14 xo15 xo16)]
  refine View.canon_apply_of_pieces (fun j : S512x1024.Idx => ((rowDy (Y (j 0)) (rowDx1 (X (j 0)) (D (j 0)) (prod U W (j 0)) SC G) GT GP (j 1) : ℝ) : EReal)) _ ?_ j (cover0_B_11 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xo12 xo13 xo14 xo15 xo16 j)
  unfold kernelRun0_B
  dsimp only
  sl_unfold_words
  simp only [View.readAt_eq_ld, View.canon_cons_unit_zero (S := S1x1024) hz2, readCov_last (S := S1x1024) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S1x1024) hz2]
  intro p hp x
  rcases List.mem_cons.mp hp with rfl | hp
  · obtain ⟨r, d, rfl⟩ : ∃ (r : Fin 256) (d : Fin 1024), (x : S256x1024.Idx) = ix2 r d := ⟨x 0, x 1, eq_ix2 x⟩
    exact ((congrFun (same2 _ _ _ _ _ _ _ _) _).trans (pay26 (Y := fun r => Y ⟨256 + r.val, by omega⟩) (pay18 (X := fun r => X ⟨256 + r.val, by omega⟩) (D := fun r => D ⟨256 + r.val, by omega⟩) (H := fun r => prod U W ⟨256 + r.val, by omega⟩) (fun r d => ld_row e1 256 (by omega) _ r d) (fun r d => ld_row e3 256 (by omega) _ r d) (fun r d => (congrFun (same29 _ _ _ _ _ _ _ _) _).trans (dh_tile e0 e4 256 (by omega) _ _ _ _ _ _ _ _ r d)) e5 e6) (fun r d => ld_row e2 256 (by omega) _ r d) e8 e9 r d)).trans (place256 (fun r d => rowDy (Y r) (rowDx1 (X r) (D r) (prod U W r) SC G) GT GP d) r d inb_S512x1024_S256x1024_256_0)
  · obtain rfl := List.mem_singleton.mp hp
    obtain ⟨r, d, rfl⟩ : ∃ (r : Fin 256) (d : Fin 1024), (x : S256x1024.Idx) = ix2 r d := ⟨x 0, x 1, eq_ix2 x⟩
    exact (pay26 (Y := fun r => Y ⟨0 + r.val, by omega⟩) (pay18 (X := fun r => X ⟨0 + r.val, by omega⟩) (D := fun r => D ⟨0 + r.val, by omega⟩) (H := fun r => prod U W ⟨0 + r.val, by omega⟩) (fun r d => ld_row e1 0 (by omega) _ r d) (fun r d => ld_row e3 0 (by omega) _ r d) (fun r d => dh_tile e0 e4 0 (by omega) _ _ _ _ _ _ _ _ r d) e5 e6) (fun r d => ld_row e2 0 (by omega) _ r d) e8 e9 r d).trans (place0 (fun r d => rowDy (Y r) (rowDx1 (X r) (D r) (prod U W r) SC G) GT GP d) r d inb_S512x1024_S256x1024_0_0)

theorem oA12 (hc0 : cond0_0 i) (x0 : Vec Ideal S512x6144 .bf16) (x1 : Vec Ideal S512x1024 .f32) (x2 : Vec Ideal S512x1024 .f32) (x3 : Vec Ideal S512x1024 .f32) (x4 : Vec Ideal S4x1024x1536 .bf16) (x5 : Vec Ideal S1x1024 .f32) (x6 : Vec Ideal S1x1024 .f32) (x7 : Vec Ideal S1x1024 .f32) (x8 : Vec Ideal S1x1024 .f32) (x9 : Vec Ideal S1x1024 .f32) (e0 : ∀ r d, x0 (ix2 r d) = ((U r d : ℝ) : EReal)) (e4 : ∀ (k : Fin 4) d (q : Fin 1536), x4 (ix3 k d q) = ((W d ⟨k.val * 1536 + q.val, by omega⟩ : ℝ) : EReal))  (d : Fin 1024) :
    out0_A_12 (F := Ideal) c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 (ix2 0 d) = ((∑ r, prod U W r d : ℝ) : EReal) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9)]
  unfold kernelRun0_A
  dsimp only
  sl_unfold_words
  simp only [View.readAt_eq_ld, View.canon_cons_unit_zero (S := S1x1024) hz2, readCov_last (S := S1x1024) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S1x1024) hz2]
  exact (two12 (H := prod U W) (fun r d => dh_tile e0 e4 0 (by omega) _ _ _ _ _ _ _ _ r d) (fun r d => (congrFun (same29 _ _ _ _ _ _ _ _) _).trans (dh_tile e0 e4 256 (by omega) _ _ _ _ _ _ _ _ r d)) (zeros _ rfl) d).trans (by rw [zero_add])

theorem oB12 (hc0 : ¬cond0_0 i) (x0 : Vec Ideal S512x6144 .bf16) (x1 : Vec Ideal S512x1024 .f32) (x2 : Vec Ideal S512x1024 .f32) (x3 : Vec Ideal S512x1024 .f32) (x4 : Vec Ideal S4x1024x1536 .bf16) (x5 : Vec Ideal S1x1024 .f32) (x6 : Vec Ideal S1x1024 .f32) (x7 : Vec Ideal S1x1024 .f32) (x8 : Vec Ideal S1x1024 .f32) (x9 : Vec Ideal S1x1024 .f32) (xo12 : Vec Ideal S1x1024 .f32) (xo13 : Vec Ideal S1x1024 .f32) (xo14 : Vec Ideal S1x1024 .f32) (xo15 : Vec Ideal S1x1024 .f32) (xo16 : Vec Ideal S1x1024 .f32) (e0 : ∀ r d, x0 (ix2 r d) = ((U r d : ℝ) : EReal)) (e4 : ∀ (k : Fin 4) d (q : Fin 1536), x4 (ix3 k d q) = ((W d ⟨k.val * 1536 + q.val, by omega⟩ : ℝ) : EReal)) (ha : ∀ d, xo12 (ix2 0 d) = ((ACC d : ℝ) : EReal)) (d : Fin 1024) :
    out0_B_12 (F := Ideal) c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xo12 xo13 xo14 xo15 xo16 (ix2 0 d) = ((ACC d + ∑ r, prod U W r d : ℝ) : EReal) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xo12 xo13 xo14 xo15 xo16)]
  unfold kernelRun0_B
  dsimp only
  sl_unfold_words
  simp only [View.readAt_eq_ld, View.canon_cons_unit_zero (S := S1x1024) hz2, readCov_last (S := S1x1024) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S1x1024) hz2]
  exact two12 (H := prod U W) (fun r d => dh_tile e0 e4 0 (by omega) _ _ _ _ _ _ _ _ r d) (fun r d => (congrFun (same29 _ _ _ _ _ _ _ _) _).trans (dh_tile e0 e4 256 (by omega) _ _ _ _ _ _ _ _ r d)) ha d

theorem oA13 (hc0 : cond0_0 i) (x0 : Vec Ideal S512x6144 .bf16) (x1 : Vec Ideal S512x1024 .f32) (x2 : Vec Ideal S512x1024 .f32) (x3 : Vec Ideal S512x1024 .f32) (x4 : Vec Ideal S4x1024x1536 .bf16) (x5 : Vec Ideal S1x1024 .f32) (x6 : Vec Ideal S1x1024 .f32) (x7 : Vec Ideal S1x1024 .f32) (x8 : Vec Ideal S1x1024 .f32) (x9 : Vec Ideal S1x1024 .f32) (e0 : ∀ r d, x0 (ix2 r d) = ((U r d : ℝ) : EReal)) (e1 : ∀ r d, x1 (ix2 r d) = ((X r d : ℝ) : EReal)) (e4 : ∀ (k : Fin 4) d (q : Fin 1536), x4 (ix3 k d q) = ((W d ⟨k.val * 1536 + q.val, by omega⟩ : ℝ) : EReal)) (e5 : ∀ d, x5 (ix2 0 d) = ((G d : ℝ) : EReal))  (d : Fin 1024) :
    out0_A_13 (F := Ideal) c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 (ix2 0 d) = ((∑ r, prod U W r d * (X r d * rinv (X r) * G d) : ℝ) : EReal) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9)]
  unfold kernelRun0_A
  dsimp only
  sl_unfold_words
  simp only [View.readAt_eq_ld, View.canon_cons_unit_zero (S := S1x1024) hz2, readCov_last (S := S1x1024) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S1x1024) hz2]
  exact (two13 (H := prod U W) (fun r d => ld_row e1 0 (by omega) _ r d) (fun r d => ld_row e1 256 (by omega) _ r d) (fun r d => dh_tile e0 e4 0 (by omega) _ _ _ _ _ _ _ _ r d) (fun r d => (congrFun (same29 _ _ _ _ _ _ _ _) _).trans (dh_tile e0 e4 256 (by omega) _ _ _ _ _ _ _ _ r d)) e5 (zeros _ rfl) d).trans (by rw [zero_add])

theorem oB13 (hc0 : ¬cond0_0 i) (x0 : Vec Ideal S512x6144 .bf16) (x1 : Vec Ideal S512x1024 .f32) (x2 : Vec Ideal S512x1024 .f32) (x3 : Vec Ideal S512x1024 .f32) (x4 : Vec Ideal S4x1024x1536 .bf16) (x5 : Vec Ideal S1x1024 .f32) (x6 : Vec Ideal S1x1024 .f32) (x7 : Vec Ideal S1x1024 .f32) (x8 : Vec Ideal S1x1024 .f32) (x9 : Vec Ideal S1x1024 .f32) (xo12 : Vec Ideal S1x1024 .f32) (xo13 : Vec Ideal S1x1024 .f32) (xo14 : Vec Ideal S1x1024 .f32) (xo15 : Vec Ideal S1x1024 .f32) (xo16 : Vec Ideal S1x1024 .f32) (e0 : ∀ r d, x0 (ix2 r d) = ((U r d : ℝ) : EReal)) (e1 : ∀ r d, x1 (ix2 r d) = ((X r d : ℝ) : EReal)) (e4 : ∀ (k : Fin 4) d (q : Fin 1536), x4 (ix3 k d q) = ((W d ⟨k.val * 1536 + q.val, by omega⟩ : ℝ) : EReal)) (e5 : ∀ d, x5 (ix2 0 d) = ((G d : ℝ) : EReal)) (ha : ∀ d, xo13 (ix2 0 d) = ((ACC d : ℝ) : EReal)) (d : Fin 1024) :
    out0_B_13 (F := Ideal) c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xo12 xo13 xo14 xo15 xo16 (ix2 0 d) = ((ACC d + ∑ r, prod U W r d * (X r d * rinv (X r) * G d) : ℝ) : EReal) := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xo12 xo13 xo14 xo15 xo16)]
  unfold kernelRun0_B
  dsimp only
  sl_unfold_words
  simp only [View.readAt_eq_ld, View.canon_cons_unit_zero (S := S1x1024) hz2, readCov_last (S := S1x1024) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S1x1024) hz2]
  exact two13 (H := prod U W) (fun r d => ld_row e1 0 (by omega) _ r d) (fun r d => ld_row e1 256 (by omega) _ r d) (fun r d => dh_tile e0 e4 0 (by omega) _ _ _ _ _ _ _ _ r d) (fun r d => (congrFun (same29 _ _ _ _ _ _ _ _) _).trans (dh_tile e0 e4 256 (by omega) _ _ _ _ _ _ _ _ r d)) e5 ha d

theorem oA14 (hc0 : cond0_0 i) (x0 : Vec Ideal S512x6144 .bf16) (x1 : Vec Ideal S512x1024 .f32) (x2 : Vec Ideal S512x1024 .f32) (x3 : Vec Ideal S512x1024 .f32) (x4 : Vec Ideal S4x1024x1536 .bf16) (x5 : Vec Ideal S1x1024 .f32) (x6 : Vec Ideal S1x1024 .f32) (x7 : Vec Ideal S1x1024 .f32) (x8 : Vec Ideal S1x1024 .f32) (x9 : Vec Ideal S1x1024 .f32) (e0 : ∀ r d, x0 (ix2 r d) = ((U r d : ℝ) : EReal)) (e1 : ∀ r d, x1 (ix2 r d) = ((X r d : ℝ) : EReal)) (e4 : ∀ (k : Fin 4) d (q : Fin 1536), x4 (ix3 k d q) = ((W d ⟨k.val * 1536 + q.val, by omega⟩ : ℝ) : EReal)) (e6 : ∀ d, x6 (ix2 0 d) = ((SC d : ℝ) : EReal))  (d : Fin 1024) :
    out0_A_14 (F := Ideal) c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 (ix2 0 d) = ((∑ r, prod U W r d * (1 + SC d) * (X r d * rinv (X r)) : ℝ) : EReal) := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9)]
  unfold kernelRun0_A
  dsimp only
  sl_unfold_words
  simp only [View.readAt_eq_ld, View.canon_cons_unit_zero (S := S1x1024) hz2, readCov_last (S := S1x1024) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S1x1024) hz2]
  exact (two14 (H := prod U W) (fun r d => ld_row e1 0 (by omega) _ r d) (fun r d => ld_row e1 256 (by omega) _ r d) (fun r d => dh_tile e0 e4 0 (by omega) _ _ _ _ _ _ _ _ r d) (fun r d => (congrFun (same29 _ _ _ _ _ _ _ _) _).trans (dh_tile e0 e4 256 (by omega) _ _ _ _ _ _ _ _ r d)) e6 (zeros _ rfl) d).trans (by rw [zero_add])

theorem oB14 (hc0 : ¬cond0_0 i) (x0 : Vec Ideal S512x6144 .bf16) (x1 : Vec Ideal S512x1024 .f32) (x2 : Vec Ideal S512x1024 .f32) (x3 : Vec Ideal S512x1024 .f32) (x4 : Vec Ideal S4x1024x1536 .bf16) (x5 : Vec Ideal S1x1024 .f32) (x6 : Vec Ideal S1x1024 .f32) (x7 : Vec Ideal S1x1024 .f32) (x8 : Vec Ideal S1x1024 .f32) (x9 : Vec Ideal S1x1024 .f32) (xo12 : Vec Ideal S1x1024 .f32) (xo13 : Vec Ideal S1x1024 .f32) (xo14 : Vec Ideal S1x1024 .f32) (xo15 : Vec Ideal S1x1024 .f32) (xo16 : Vec Ideal S1x1024 .f32) (e0 : ∀ r d, x0 (ix2 r d) = ((U r d : ℝ) : EReal)) (e1 : ∀ r d, x1 (ix2 r d) = ((X r d : ℝ) : EReal)) (e4 : ∀ (k : Fin 4) d (q : Fin 1536), x4 (ix3 k d q) = ((W d ⟨k.val * 1536 + q.val, by omega⟩ : ℝ) : EReal)) (e6 : ∀ d, x6 (ix2 0 d) = ((SC d : ℝ) : EReal)) (ha : ∀ d, xo14 (ix2 0 d) = ((ACC d : ℝ) : EReal)) (d : Fin 1024) :
    out0_B_14 (F := Ideal) c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xo12 xo13 xo14 xo15 xo16 (ix2 0 d) = ((ACC d + ∑ r, prod U W r d * (1 + SC d) * (X r d * rinv (X r)) : ℝ) : EReal) := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xo12 xo13 xo14 xo15 xo16)]
  unfold kernelRun0_B
  dsimp only
  sl_unfold_words
  simp only [View.readAt_eq_ld, View.canon_cons_unit_zero (S := S1x1024) hz2, readCov_last (S := S1x1024) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S1x1024) hz2]
  exact two14 (H := prod U W) (fun r d => ld_row e1 0 (by omega) _ r d) (fun r d => ld_row e1 256 (by omega) _ r d) (fun r d => dh_tile e0 e4 0 (by omega) _ _ _ _ _ _ _ _ r d) (fun r d => (congrFun (same29 _ _ _ _ _ _ _ _) _).trans (dh_tile e0 e4 256 (by omega) _ _ _ _ _ _ _ _ r d)) e6 ha d

theorem oA15 (hc0 : cond0_0 i) (x0 : Vec Ideal S512x6144 .bf16) (x1 : Vec Ideal S512x1024 .f32) (x2 : Vec Ideal S512x1024 .f32) (x3 : Vec Ideal S512x1024 .f32) (x4 : Vec Ideal S4x1024x1536 .bf16) (x5 : Vec Ideal S1x1024 .f32) (x6 : Vec Ideal S1x1024 .f32) (x7 : Vec Ideal S1x1024 .f32) (x8 : Vec Ideal S1x1024 .f32) (x9 : Vec Ideal S1x1024 .f32) (e0 : ∀ r d, x0 (ix2 r d) = ((U r d : ℝ) : EReal)) (e1 : ∀ r d, x1 (ix2 r d) = ((X r d : ℝ) : EReal)) (e2 : ∀ r d, x2 (ix2 r d) = ((Y r d : ℝ) : EReal)) (e3 : ∀ r d, x3 (ix2 r d) = ((D r d : ℝ) : EReal)) (e4 : ∀ (k : Fin 4) d (q : Fin 1536), x4 (ix3 k d q) = ((W d ⟨k.val * 1536 + q.val, by omega⟩ : ℝ) : EReal)) (e5 : ∀ d, x5 (ix2 0 d) = ((G d : ℝ) : EReal)) (e6 : ∀ d, x6 (ix2 0 d) = ((SC d : ℝ) : EReal)) (e9 : ∀ d, x9 (ix2 0 d) = ((GP d : ℝ) : EReal))  (d : Fin 1024) :
    out0_A_15 (F := Ideal) c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 (ix2 0 d) = ((∑ r, rowDx1 (X r) (D r) (prod U W r) SC G d * (Y r d * rinv (Y r) * GP d) : ℝ) : EReal) := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9)]
  unfold kernelRun0_A
  dsimp only
  sl_unfold_words
  simp only [View.readAt_eq_ld, View.canon_cons_unit_zero (S := S1x1024) hz2, readCov_last (S := S1x1024) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S1x1024) hz2]
  exact (two15 (H := prod U W) (fun r d => ld_row e1 0 (by omega) _ r d) (fun r d => ld_row e1 256 (by omega) _ r d) (fun r d => ld_row e2 0 (by omega) _ r d) (fun r d => ld_row e2 256 (by omega) _ r d) (fun r d => ld_row e3 0 (by omega) _ r d) (fun r d => ld_row e3 256 (by omega) _ r d) (fun r d => dh_tile e0 e4 0 (by omega) _ _ _ _ _ _ _ _ r d) (fun r d => (congrFun (same29 _ _ _ _ _ _ _ _) _).trans (dh_tile e0 e4 256 (by omega) _ _ _ _ _ _ _ _ r d)) e5 e6 e9 (zeros _ rfl) d).trans (by rw [zero_add])

theorem oB15 (hc0 : ¬cond0_0 i) (x0 : Vec Ideal S512x6144 .bf16) (x1 : Vec Ideal S512x1024 .f32) (x2 : Vec Ideal S512x1024 .f32) (x3 : Vec Ideal S512x1024 .f32) (x4 : Vec Ideal S4x1024x1536 .bf16) (x5 : Vec Ideal S1x1024 .f32) (x6 : Vec Ideal S1x1024 .f32) (x7 : Vec Ideal S1x1024 .f32) (x8 : Vec Ideal S1x1024 .f32) (x9 : Vec Ideal S1x1024 .f32) (xo12 : Vec Ideal S1x1024 .f32) (xo13 : Vec Ideal S1x1024 .f32) (xo14 : Vec Ideal S1x1024 .f32) (xo15 : Vec Ideal S1x1024 .f32) (xo16 : Vec Ideal S1x1024 .f32) (e0 : ∀ r d, x0 (ix2 r d) = ((U r d : ℝ) : EReal)) (e1 : ∀ r d, x1 (ix2 r d) = ((X r d : ℝ) : EReal)) (e2 : ∀ r d, x2 (ix2 r d) = ((Y r d : ℝ) : EReal)) (e3 : ∀ r d, x3 (ix2 r d) = ((D r d : ℝ) : EReal)) (e4 : ∀ (k : Fin 4) d (q : Fin 1536), x4 (ix3 k d q) = ((W d ⟨k.val * 1536 + q.val, by omega⟩ : ℝ) : EReal)) (e5 : ∀ d, x5 (ix2 0 d) = ((G d : ℝ) : EReal)) (e6 : ∀ d, x6 (ix2 0 d) = ((SC d : ℝ) : EReal)) (e9 : ∀ d, x9 (ix2 0 d) = ((GP d : ℝ) : EReal)) (ha : ∀ d, xo15 (ix2 0 d) = ((ACC d : ℝ) : EReal)) (d : Fin 1024) :
    out0_B_15 (F := Ideal) c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xo12 xo13 xo14 xo15 xo16 (ix2 0 d) = ((ACC d + ∑ r, rowDx1 (X r) (D r) (prod U W r) SC G d * (Y r d * rinv (Y r) * GP d) : ℝ) : EReal) := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xo12 xo13 xo14 xo15 xo16)]
  unfold kernelRun0_B
  dsimp only
  sl_unfold_words
  simp only [View.readAt_eq_ld, View.canon_cons_unit_zero (S := S1x1024) hz2, readCov_last (S := S1x1024) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S1x1024) hz2]
  exact two15 (H := prod U W) (fun r d => ld_row e1 0 (by omega) _ r d) (fun r d => ld_row e1 256 (by omega) _ r d) (fun r d => ld_row e2 0 (by omega) _ r d) (fun r d => ld_row e2 256 (by omega) _ r d) (fun r d => ld_row e3 0 (by omega) _ r d) (fun r d => ld_row e3 256 (by omega) _ r d) (fun r d => dh_tile e0 e4 0 (by omega) _ _ _ _ _ _ _ _ r d) (fun r d => (congrFun (same29 _ _ _ _ _ _ _ _) _).trans (dh_tile e0 e4 256 (by omega) _ _ _ _ _ _ _ _ r d)) e5 e6 e9 ha d

theorem oA16 (hc0 : cond0_0 i) (x0 : Vec Ideal S512x6144 .bf16) (x1 : Vec Ideal S512x1024 .f32) (x2 : Vec Ideal S512x1024 .f32) (x3 : Vec Ideal S512x1024 .f32) (x4 : Vec Ideal S4x1024x1536 .bf16) (x5 : Vec Ideal S1x1024 .f32) (x6 : Vec Ideal S1x1024 .f32) (x7 : Vec Ideal S1x1024 .f32) (x8 : Vec Ideal S1x1024 .f32) (x9 : Vec Ideal S1x1024 .f32) (e0 : ∀ r d, x0 (ix2 r d) = ((U r d : ℝ) : EReal)) (e1 : ∀ r d, x1 (ix2 r d) = ((X r d : ℝ) : EReal)) (e2 : ∀ r d, x2 (ix2 r d) = ((Y r d : ℝ) : EReal)) (e3 : ∀ r d, x3 (ix2 r d) = ((D r d : ℝ) : EReal)) (e4 : ∀ (k : Fin 4) d (q : Fin 1536), x4 (ix3 k d q) = ((W d ⟨k.val * 1536 + q.val, by omega⟩ : ℝ) : EReal)) (e5 : ∀ d, x5 (ix2 0 d) = ((G d : ℝ) : EReal)) (e6 : ∀ d, x6 (ix2 0 d) = ((SC d : ℝ) : EReal)) (e8 : ∀ d, x8 (ix2 0 d) = ((GT d : ℝ) : EReal))  (d : Fin 1024) :
    out0_A_16 (F := Ideal) c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 (ix2 0 d) = ((∑ r, rowDx1 (X r) (D r) (prod U W r) SC G d * GT d * (Y r d * rinv (Y r)) : ℝ) : EReal) := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9)]
  unfold kernelRun0_A
  dsimp only
  sl_unfold_words
  simp only [View.readAt_eq_ld, View.canon_cons_unit_zero (S := S1x1024) hz2, readCov_last (S := S1x1024) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S1x1024) hz2]
  exact (two16 (H := prod U W) (fun r d => ld_row e1 0 (by omega) _ r d) (fun r d => ld_row e1 256 (by omega) _ r d) (fun r d => ld_row e2 0 (by omega) _ r d) (fun r d => ld_row e2 256 (by omega) _ r d) (fun r d => ld_row e3 0 (by omega) _ r d) (fun r d => ld_row e3 256 (by omega) _ r d) (fun r d => dh_tile e0 e4 0 (by omega) _ _ _ _ _ _ _ _ r d) (fun r d => (congrFun (same29 _ _ _ _ _ _ _ _) _).trans (dh_tile e0 e4 256 (by omega) _ _ _ _ _ _ _ _ r d)) e5 e6 e8 (zeros _ rfl) d).trans (by rw [zero_add])

theorem oB16 (hc0 : ¬cond0_0 i) (x0 : Vec Ideal S512x6144 .bf16) (x1 : Vec Ideal S512x1024 .f32) (x2 : Vec Ideal S512x1024 .f32) (x3 : Vec Ideal S512x1024 .f32) (x4 : Vec Ideal S4x1024x1536 .bf16) (x5 : Vec Ideal S1x1024 .f32) (x6 : Vec Ideal S1x1024 .f32) (x7 : Vec Ideal S1x1024 .f32) (x8 : Vec Ideal S1x1024 .f32) (x9 : Vec Ideal S1x1024 .f32) (xo12 : Vec Ideal S1x1024 .f32) (xo13 : Vec Ideal S1x1024 .f32) (xo14 : Vec Ideal S1x1024 .f32) (xo15 : Vec Ideal S1x1024 .f32) (xo16 : Vec Ideal S1x1024 .f32) (e0 : ∀ r d, x0 (ix2 r d) = ((U r d : ℝ) : EReal)) (e1 : ∀ r d, x1 (ix2 r d) = ((X r d : ℝ) : EReal)) (e2 : ∀ r d, x2 (ix2 r d) = ((Y r d : ℝ) : EReal)) (e3 : ∀ r d, x3 (ix2 r d) = ((D r d : ℝ) : EReal)) (e4 : ∀ (k : Fin 4) d (q : Fin 1536), x4 (ix3 k d q) = ((W d ⟨k.val * 1536 + q.val, by omega⟩ : ℝ) : EReal)) (e5 : ∀ d, x5 (ix2 0 d) = ((G d : ℝ) : EReal)) (e6 : ∀ d, x6 (ix2 0 d) = ((SC d : ℝ) : EReal)) (e8 : ∀ d, x8 (ix2 0 d) = ((GT d : ℝ) : EReal)) (ha : ∀ d, xo16 (ix2 0 d) = ((ACC d : ℝ) : EReal)) (d : Fin 1024) :
    out0_B_16 (F := Ideal) c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xo12 xo13 xo14 xo15 xo16 (ix2 0 d) = ((ACC d + ∑ r, rowDx1 (X r) (D r) (prod U W r) SC G d * GT d * (Y r d * rinv (Y r)) : ℝ) : EReal) := by
  unfold out0_B_16
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xo12 xo13 xo14 xo15 xo16)]
  unfold kernelRun0_B
  dsimp only
  sl_unfold_words
  simp only [View.readAt_eq_ld, View.canon_cons_unit_zero (S := S1x1024) hz2, readCov_last (S := S1x1024) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S1x1024) hz2]
  exact two16 (H := prod U W) (fun r d => ld_row e1 0 (by omega) _ r d) (fun r d => ld_row e1 256 (by omega) _ r d) (fun r d => ld_row e2 0 (by omega) _ r d) (fun r d => ld_row e2 256 (by omega) _ r d) (fun r d => ld_row e3 0 (by omega) _ r d) (fun r d => ld_row e3 256 (by omega) _ r d) (fun r d => dh_tile e0 e4 0 (by omega) _ _ _ _ _ _ _ _ r d) (fun r d => (congrFun (same29 _ _ _ _ _ _ _ _) _).trans (dh_tile e0 e4 256 (by omega) _ _ _ _ _ _ _ _ r d)) e5 e6 e8 ha d

end

end Cert.Proof.FfnB
-- ==== Proof.FfnBRef.lean ====
/- The reference of the feed-forward block's second half, read at an index on finite arguments: each stage of the chain
   rule that jax wrote is the embedding of a real expression. -/
module

public import proofs.«01_k».proof.Proof.Gen.ReferenceBIdeal.Read
public import proofs.«01_k».proof.Proof.FfnBModel

@[expose] public section

noncomputable section

namespace Cert.Proof.FfnB

open Cert.ReferenceBIdeal Cert.ReferenceBIdeal.Read Idealize.ShloMosaic Cert.Proof.Lift

/-- A one-row array's index names its column, a one-column array's its row. -/
abbrev col (i : S1x1024.Idx) : S1024.Idx := fun a => match a with | ⟨0, _⟩ => ⟨(i 1).val, (i 1).isLt⟩
abbrev row (i : S4096x1.Idx) : S4096.Idx := fun a => match a with | ⟨0, _⟩ => ⟨(i 0).val, (i 0).isLt⟩

theorem col_eq (i : S1x1024.Idx) (f : S1024.Idx) (h : (f 0).val = (i 0).val * 1024 + (i 1).val) : f = col i := by
  funext a
  match a with
  | ⟨0, _⟩ =>
    have h0 : (i 0).val < 1 := (i 0).isLt
    exact Fin.ext (h.trans (by show (i 0).val * 1024 + (i 1).val = (i 1).val; omega))

theorem row_eq (i : S4096x1.Idx) (f : S4096.Idx) (h : (f 0).val = (i 0).val * 1 + (i 1).val) : f = row i := by
  funext a
  match a with
  | ⟨0, _⟩ =>
    have h1 : (i 1).val < 1 := (i 1).isLt
    exact Fin.ext (h.trans (by show (i 0).val * 1 + (i 1).val = (i 0).val; omega))

theorem col47 (i) : idx_main_v47 i = col i := col_eq i _ rfl
theorem col51 (i) : idx_main_v51 i = col i := col_eq i _ rfl
theorem col57 (i) : idx_main_v57 i = col i := col_eq i _ rfl
theorem col81 (i) : idx_main_v81 i = col i := col_eq i _ rfl
theorem col85 (i) : idx_main_v85 i = col i := col_eq i _ rfl
theorem col104 (i) : idx_main_v104 i = col i := col_eq i _ rfl
theorem col105 (i) : idx_main_v105 i = col i := col_eq i _ rfl
theorem col106 (i) : idx_main_v106 i = col i := col_eq i _ rfl
theorem col107 (i) : idx_main_v107 i = col i := col_eq i _ rfl
theorem col108 (i) : idx_main_v108 i = col i := col_eq i _ rfl
theorem row63 (i) : idx_main_v63 i = row i := row_eq i _ rfl
theorem row91 (i) : idx_main_v91 i = row i := row_eq i _ rfl
theorem id76 (i) : idx_main_v76 i = i := by
  funext a
  have h1 : (i 1).val < 1024 := (i 1).isLt
  match a with
  | ⟨0, _⟩ => exact Fin.ext (by show ((i 0).val * 1024 + (i 1).val) / 1024 = (i 0).val; omega)
  | ⟨1, _⟩ => exact Fin.ext (by show ((i 0).val * 1024 + (i 1).val) % 1024 = (i 1).val; omega)

variable (A : Data) {x0 x1 x2 : (⟨S4096x1024, .f32⟩ : BufTy).Contents (Elt Ideal)} {x3 : (⟨S4096x6144, .f32⟩ : BufTy).Contents (Elt Ideal)}
  {x4 : (⟨S1024x6144, .f32⟩ : BufTy).Contents (Elt Ideal)} {x5 x6 x8 x9 : (⟨S1024, .f32⟩ : BufTy).Contents (Elt Ideal)}
  (h0 : ∀ i, x0 i = ((A.x (i 0) (i 1) : ℝ) : EReal)) (h1 : ∀ i, x1 i = ((A.y (i 0) (i 1) : ℝ) : EReal))
  (h2 : ∀ i, x2 i = ((A.dx2 (i 0) (i 1) : ℝ) : EReal)) (h3 : ∀ i, x3 i = ((A.up (i 0) (i 1) : ℝ) : EReal))
  (h4 : ∀ i, x4 i = ((A.w (i 0) (i 1) : ℝ) : EReal)) (h5 : ∀ i, x5 i = ((A.g (i 0) : ℝ) : EReal))
  (h6 : ∀ i, x6 i = ((A.sc (i 0) : ℝ) : EReal)) (h8 : ∀ i, x8 i = ((A.gt (i 0) : ℝ) : EReal))
  (h9 : ∀ i, x9 i = ((A.gp (i 0) : ℝ) : EReal))

include h1 in
/-- The mixer output's mean square. -/
theorem ref6 (i) : val_main_v6 (F := Ideal) x1 i = ((msq (A.y (i 0)) : ℝ) : EReal) := by
  simp only [val_main_v6_apply, val_main_v5_apply, val_main_v4_apply, val_main_v3_apply, val_main_v2_apply, val_main_v1_apply, val_main_v0_apply, val_main_cst, val_main_cst_0, val_main_cst_1, h1,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]
  rfl

include h1 in
theorem ref7 (i) : val_main_v7 (F := Ideal) x1 i = ((rinv (A.y (i 0)) : ℝ) : EReal) := by
  simp only [val_main_v7_apply, ref6 A h1, h1,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]

include h1 in
theorem ref10 (i) : val_main_v10 (F := Ideal) x1 i = ((-(1 / 2) * (rinv (A.y (i 0)) / msq (A.y (i 0))) : ℝ) : EReal) := by
  simp only [val_main_v10_apply, val_main_v9_apply, val_main_v8_apply, val_main_cst_2, ref6 A h1, ref7 A h1, h1,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]

include h1 in
/-- The mixer's output, normalised. -/
theorem ref12 (i) : val_main_v12 (F := Ideal) x1 i = ((A.yn (i 0) (i 1) : ℝ) : EReal) := by
  simp only [val_main_v12_apply, val_main_v11_apply, ref7 A h1, h1,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]
  rfl

include h1 h9 in
theorem ref15 (i) : val_main_v15 (F := Ideal) x1 x9 i = ((A.yn (i 0) (i 1) * A.gp (i 1) : ℝ) : EReal) := by
  simp only [val_main_v15_apply, val_main_v14_apply, val_main_v13_apply, ref12 A h1, h1, h9,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]
  rfl

include h0 h1 h8 h9 in
/-- The block's input. -/
theorem ref19 (i) : val_main_v19 (F := Ideal) x0 x1 x8 x9 i = ((A.x1 (i 0) (i 1) : ℝ) : EReal) := by
  simp only [val_main_v19_apply, val_main_v18_apply, val_main_v17_apply, val_main_v16_apply, ref15 A h1 h9, h0, h1, h8, h9,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]
  rfl

include h0 h1 h8 h9 in
theorem ref26 (i) : val_main_v26 (F := Ideal) x0 x1 x8 x9 i = ((msq (A.x1 (i 0)) : ℝ) : EReal) := by
  simp only [val_main_v26_apply, val_main_v25_apply, val_main_v24_apply, val_main_v23_apply, val_main_v22_apply, val_main_v21_apply, val_main_v20_apply, val_main_cst_3, val_main_cst_4, val_main_cst_5, ref19 A h0 h1 h8 h9, h0, h1, h8, h9,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]
  rfl

include h0 h1 h8 h9 in
theorem ref27 (i) : val_main_v27 (F := Ideal) x0 x1 x8 x9 i = ((rinv (A.x1 (i 0)) : ℝ) : EReal) := by
  simp only [val_main_v27_apply, ref26 A h0 h1 h8 h9, h0, h1, h8, h9,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]

include h0 h1 h8 h9 in
theorem ref30 (i) : val_main_v30 (F := Ideal) x0 x1 x8 x9 i = ((-(1 / 2) * (rinv (A.x1 (i 0)) / msq (A.x1 (i 0))) : ℝ) : EReal) := by
  simp only [val_main_v30_apply, val_main_v29_apply, val_main_v28_apply, val_main_cst_6, ref26 A h0 h1 h8 h9, ref27 A h0 h1 h8 h9, h0, h1, h8, h9,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]

include h0 h1 h8 h9 in
/-- The block's input, normalised. -/
theorem ref32 (i) : val_main_v32 (F := Ideal) x0 x1 x8 x9 i = ((A.xn (i 0) (i 1) : ℝ) : EReal) := by
  simp only [val_main_v32_apply, val_main_v31_apply, ref19 A h0 h1 h8 h9, ref27 A h0 h1 h8 h9, h0, h1, h8, h9,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]
  rfl

include h0 h1 h5 h8 h9 in
theorem ref35 (i) : val_main_v35 (F := Ideal) x0 x1 x5 x8 x9 i = ((A.xn (i 0) (i 1) * A.g (i 1) : ℝ) : EReal) := by
  simp only [val_main_v35_apply, val_main_v34_apply, val_main_v33_apply, ref32 A h0 h1 h8 h9, h0, h1, h5, h8, h9,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]
  rfl

include h3 h4 in
/-- The gradient at the modulated norm. -/
theorem ref45 (i) : val_main_v45 (F := Ideal) x3 x4 i = ((A.dh (i 0) (i 1) : ℝ) : EReal) := by
  simp only [val_main_v45_apply, h3, h4,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]
  rfl

include h3 h4 h6 in
/-- The gradient at the norm's output. -/
theorem ref53 (i) : val_main_v53 (F := Ideal) x3 x4 x6 i = ((A.dhn (i 0) (i 1) : ℝ) : EReal) := by
  simp only [val_main_v53_apply, val_main_v52_apply, val_main_v38_apply, val_main_v37_apply, val_main_v36_apply, val_main_cst_7, ref45 A h3 h4, h3, h4, h6,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]
  rfl

include h3 h4 h5 h6 in
theorem ref59 (i) : val_main_v59 (F := Ideal) x3 x4 x5 x6 i = ((A.dhn (i 0) (i 1) * A.g (i 1) : ℝ) : EReal) := by
  simp only [val_main_v59_apply, val_main_v58_apply, val_main_v33_apply, ref53 A h3 h4 h6, h3, h4, h5, h6,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]
  rfl

include h0 h1 h3 h4 h5 h6 h8 h9 in
/-- The mean square's share of the gradient. -/
theorem ref71 (i) : val_main_v71 (F := Ideal) x0 x1 x3 x4 x5 x6 x8 x9 i = (((∑ k, A.x1 (i 0) k * (A.dhn (i 0) k * A.g k)) * (-(1 / 2) * (rinv (A.x1 (i 0)) / msq (A.x1 (i 0)))) / 1024 : ℝ) : EReal) := by
  simp only [val_main_v71_apply, val_main_v70_apply, val_main_v69_apply, val_main_v68_apply, val_main_v67_apply, val_main_v63_apply, row63, val_main_v62_apply, val_main_v61_apply, val_main_cst_14, val_main_cst_15, val_main_cst_16, ref19 A h0 h1 h8 h9, ref30 A h0 h1 h8 h9, ref59 A h3 h4 h5 h6, h0, h1, h3, h4, h5, h6, h8, h9,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]
  rfl

/-- The chain rule through the mean square, summed up over a row. -/
theorem back_eq (v g : Fin 1024 → ℝ) (d : Fin 1024) :
    g d * rinv v + v d * ((∑ k, v k * g k) * (-(1 / 2) * (rinv v / msq v)) / 1024)
      + (∑ k, v k * g k) * (-(1 / 2) * (rinv v / msq v)) / 1024 * v d = back (rinv v) (fun k => v k * rinv v) g d := by
  have e : ∑ k, g k * (v k * rinv v) = (∑ k, v k * g k) * rinv v := by
    rw [Finset.sum_mul]
    exact Finset.sum_congr rfl fun k _ => by ring
  rw [back, e, div_eq_mul_inv (rinv v) (msq v), ← rinv_sq]
  ring

include h0 h1 h2 h3 h4 h5 h6 h8 h9 in
/-- The gradient at the block's input. -/
theorem ref76 (i) : val_main_v76 (F := Ideal) x0 x1 x2 x3 x4 x5 x6 x8 x9 i = ((A.dx1 (i 0) (i 1) : ℝ) : EReal) := by
  simp only [val_main_v76_apply, id76, val_main_v75_apply, val_main_v74_apply, val_main_v73_apply, val_main_v72_apply, val_main_v66_apply, val_main_v65_apply, val_main_v64_apply, ref19 A h0 h1 h8 h9, ref27 A h0 h1 h8 h9, ref59 A h3 h4 h5 h6, ref71 A h0 h1 h3 h4 h5 h6 h8 h9, h0, h1, h2, h3, h4, h5, h6, h8, h9,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]
  refine congrArg (fun r : ℝ => (r : EReal)) ?_
  rw [add_assoc, add_assoc]
  exact congrArg _ ((add_assoc _ _ _).symm.trans (back_eq (A.x1 (i 0)) (fun k => A.dhn (i 0) k * A.g k) (i 1)))

include h0 h1 h2 h3 h4 h5 h6 h8 h9 in
/-- The gradient at the block's input, as the result. -/
theorem ref75 (i) : val_main_v75 (F := Ideal) x0 x1 x2 x3 x4 x5 x6 x8 x9 i = ((A.dx1 (i 0) (i 1) : ℝ) : EReal) := by
  have h := ref76 A h0 h1 h2 h3 h4 h5 h6 h8 h9 i
  rwa [val_main_v76_apply, id76] at h

include h0 h1 h2 h3 h4 h5 h6 h8 h9 in
/-- The gradient at the gated norm. -/
theorem ref78 (i) : val_main_v78 (F := Ideal) x0 x1 x2 x3 x4 x5 x6 x8 x9 i = ((A.dyn (i 0) (i 1) : ℝ) : EReal) := by
  simp only [val_main_v78_apply, val_main_v77_apply, val_main_v16_apply, ref76 A h0 h1 h2 h3 h4 h5 h6 h8 h9, h0, h1, h2, h3, h4, h5, h6, h8, h9,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]
  rw [mul_comm]
  rfl

include h0 h1 h2 h3 h4 h5 h6 h8 h9 in
theorem ref87 (i) : val_main_v87 (F := Ideal) x0 x1 x2 x3 x4 x5 x6 x8 x9 i = ((A.dyn (i 0) (i 1) * A.gp (i 1) : ℝ) : EReal) := by
  simp only [val_main_v87_apply, val_main_v86_apply, val_main_v13_apply, ref78 A h0 h1 h2 h3 h4 h5 h6 h8 h9, h0, h1, h2, h3, h4, h5, h6, h8, h9,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]
  rfl

include h0 h1 h2 h3 h4 h5 h6 h8 h9 in
theorem ref98 (i) : val_main_v98 (F := Ideal) x0 x1 x2 x3 x4 x5 x6 x8 x9 i = (((∑ k, A.y (i 0) k * (A.dyn (i 0) k * A.gp k)) * (-(1 / 2) * (rinv (A.y (i 0)) / msq (A.y (i 0)))) / 1024 : ℝ) : EReal) := by
  simp only [val_main_v98_apply, val_main_v97_apply, val_main_v96_apply, val_main_v95_apply, val_main_v94_apply, val_main_v91_apply, row91, val_main_v90_apply, val_main_v89_apply, val_main_cst_21, val_main_cst_22, val_main_cst_23, ref10 A h1, ref87 A h0 h1 h2 h3 h4 h5 h6 h8 h9, h0, h1, h2, h3, h4, h5, h6, h8, h9,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]
  rfl

include h0 h1 h2 h3 h4 h5 h6 h8 h9 in
/-- The gradient at the mixer's output. -/
theorem ref103 (i) : val_main_v103 (F := Ideal) x0 x1 x2 x3 x4 x5 x6 x8 x9 i = ((A.dy (i 0) (i 1) : ℝ) : EReal) := by
  simp only [val_main_v103_apply, val_main_v102_apply, val_main_v101_apply, val_main_v100_apply, val_main_v99_apply, val_main_v93_apply, val_main_v92_apply, ref7 A h1, ref87 A h0 h1 h2 h3 h4 h5 h6 h8 h9, ref98 A h0 h1 h2 h3 h4 h5 h6 h8 h9, h0, h1, h2, h3, h4, h5, h6, h8, h9,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]
  exact congrArg (fun r : ℝ => (r : EReal)) (back_eq (A.y (i 0)) (fun k => A.dyn (i 0) k * A.gp k) (i 1))

include h3 h4 in
/-- The shift's gradient. -/
theorem ref104 (i) : val_main_v104 (F := Ideal) x3 x4 i = ((A.dsh (i 1) : ℝ) : EReal) := by
  simp only [val_main_v104_apply, col104, val_main_v48_apply, val_main_v47_apply, col47, val_main_v46_apply, val_main_cst_8, val_main_cst_9, ref45 A h3 h4, h3, h4,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]
  rfl

include h0 h1 h3 h4 h5 h8 h9 in
/-- The scale's gradient. -/
theorem ref105 (i) : val_main_v105 (F := Ideal) x0 x1 x3 x4 x5 x8 x9 i = ((A.dsc (i 1) : ℝ) : EReal) := by
  simp only [val_main_v105_apply, col105, val_main_v54_apply, val_main_v51_apply, col51, val_main_v50_apply, val_main_v49_apply, val_main_cst_10, val_main_cst_11, ref35 A h0 h1 h5 h8 h9, ref45 A h3 h4, h0, h1, h3, h4, h5, h8, h9,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]
  exact congrArg _ (Finset.sum_congr rfl fun s _ => mul_comm _ _)

include h0 h1 h3 h4 h6 h8 h9 in
/-- The norm's gradient. -/
theorem ref106 (i) : val_main_v106 (F := Ideal) x0 x1 x3 x4 x6 x8 x9 i = ((A.dg (i 1) : ℝ) : EReal) := by
  simp only [val_main_v106_apply, col106, val_main_v60_apply, val_main_v57_apply, col57, val_main_v56_apply, val_main_v55_apply, val_main_cst_12, val_main_cst_13, ref32 A h0 h1 h8 h9, ref53 A h3 h4 h6, h0, h1, h3, h4, h6, h8, h9,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]
  exact congrArg _ (Finset.sum_congr rfl fun s _ => mul_comm _ _)

include h0 h1 h2 h3 h4 h5 h6 h8 h9 in
/-- The gate's gradient. -/
theorem ref107 (i) : val_main_v107 (F := Ideal) x0 x1 x2 x3 x4 x5 x6 x8 x9 i = ((A.dgt (i 1) : ℝ) : EReal) := by
  simp only [val_main_v107_apply, col107, val_main_v82_apply, val_main_v81_apply, col81, val_main_v80_apply, val_main_v79_apply, val_main_cst_17, val_main_cst_18, ref15 A h1 h9, ref76 A h0 h1 h2 h3 h4 h5 h6 h8 h9, h0, h1, h2, h3, h4, h5, h6, h8, h9,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]
  rfl

include h0 h1 h2 h3 h4 h5 h6 h8 h9 in
/-- The gated norm's gradient. -/
theorem ref108 (i) : val_main_v108 (F := Ideal) x0 x1 x2 x3 x4 x5 x6 x8 x9 i = ((A.dgp (i 1) : ℝ) : EReal) := by
  simp only [val_main_v108_apply, col108, val_main_v88_apply, val_main_v85_apply, col85, val_main_v84_apply, val_main_v83_apply, val_main_cst_19, val_main_cst_20, ref12 A h1, ref78 A h0 h1 h2 h3 h4 h5 h6 h8 h9, h0, h1, h2, h3, h4, h5, h6, h8, h9,
    constant, Ideal.ofBits_def, Ideal.addf_def, Ideal.mulf_def, Ideal.hostDivf_def, Ideal.hostUnary_rsqrt_def, Ideal.hostConvertf_def, ofBits_zero, ofBits_one, ofBits_1024, ofBits_eps, ofBits_neghalf, ← EReal.coe_mul, ← EReal.coe_add, sum_coe, zero_add, div_1024, div_msq, rsqrt_msq, Fin.sum_univ_one, Finset.univ_unique, Finset.sum_singleton]
  exact congrArg _ (Finset.sum_congr rfl fun s _ => mul_comm _ _)

end Cert.Proof.FfnB
-- ==== Proof.FfnBEntry.lean ====
/- What the kernel of the feed-forward block's second half finds in its input blocks, on finite arguments: the block's
   input, which the host recomputes, the gradients, the weights in four groups of 1536 columns, and the vectors. -/
module

public import proofs.«01_k».proof.Proof.Gen.KernelBIdeal.Frame
public import proofs.«01_k».proof.Proof.FfnBRef
public import proofs.«01_k».proof.Proof.FfnBTile

@[expose] public section

noncomputable section

namespace Cert.Proof.FfnB

open Cert.KernelBIdeal Cert.KernelBIdeal.Gen Idealize.ShloMosaic Idealize.ShloMosaic.TcCoe Idealize.SL.Sem Cert.Proof.Lift

/-- The argument arrays hold the data. -/
structure Holds (A : Data) (x0 x1 x2 : (⟨S4096x1024, .f32⟩ : BufTy).Contents (Elt Ideal)) (x3 : (⟨S4096x6144, .f32⟩ : BufTy).Contents (Elt Ideal))
    (x4 : (⟨S1024x6144, .f32⟩ : BufTy).Contents (Elt Ideal)) (x5 x6 x8 x9 : (⟨S1024, .f32⟩ : BufTy).Contents (Elt Ideal)) : Prop where
  h0 : ∀ i, x0 i = ((A.x (i 0) (i 1) : ℝ) : EReal)
  h1 : ∀ i, x1 i = ((A.y (i 0) (i 1) : ℝ) : EReal)
  h2 : ∀ i, x2 i = ((A.dx2 (i 0) (i 1) : ℝ) : EReal)
  h3 : ∀ i, x3 i = ((A.up (i 0) (i 1) : ℝ) : EReal)
  h4 : ∀ i, x4 i = ((A.w (i 0) (i 1) : ℝ) : EReal)
  h5 : ∀ i, x5 i = ((A.g (i 0) : ℝ) : EReal)
  h6 : ∀ i, x6 i = ((A.sc (i 0) : ℝ) : EReal)
  h8 : ∀ i, x8 i = ((A.gt (i 0) : ℝ) : EReal)
  h9 : ∀ i, x9 i = ((A.gp (i 0) : ℝ) : EReal)

/-- A vector laid out as one row. -/
theorem vec_cast {x : S1024.Idx → EReal} {f : Fin 1024 → ℝ} (hx : ∀ i, x i = ((f (i 0) : ℝ) : EReal)) (d : Fin 1024) :
    shapeCast S1x1024 x shapeCasts_S1024_S1x1024 (ix2 0 d) = ((f d : ℝ) : EReal) :=
  (shapeCast_apply x _ (ix2 0 d) (ix1 d : S1024.Idx) (by rewrite [Shape.rowMajor_val_one, Shape.rowMajor_val_two]; show d.val = 0 * 1024 + d.val; omega)).trans (hx _)

/-- The weights laid out in four groups of 1536 columns. -/
theorem w_cast {x : S1024x6144.Idx → EReal} {f : Fin 1024 → Fin 6144 → ℝ} (hx : ∀ i, x i = ((f (i 0) (i 1) : ℝ) : EReal)) (k : Fin 4) (d : Fin 1024) (q : Fin 1536) :
    transpose S4x1024x1536 [1, 0, 2] (shapeCast S1024x4x1536 x shapeCasts_S1024x6144_S1024x4x1536) transposes_S1024x4x1536_S4x1024x1536_1_0_2 (ix3 k d q)
      = ((f d ⟨k.val * 1536 + q.val, by omega⟩ : ℝ) : EReal) :=
  (transpose_apply [1, 0, 2] _ transposes_S1024x4x1536_S4x1024x1536_1_0_2 (ix3 k d q) (ix3 d k q) (fun b => match b with
    | ⟨0, _⟩ => rfl
    | ⟨1, _⟩ => rfl
    | ⟨2, _⟩ => rfl)).trans
    ((shapeCast_apply x _ (ix3 d k q) (ix2 d ⟨k.val * 1536 + q.val, by omega⟩ : S1024x6144.Idx) (by
      rewrite [Shape.rowMajor_val_two, Shape.rowMajor_val_three]
      show d.val * 6144 + (k.val * 1536 + q.val) = (d.val * 4 + k.val) * 1536 + q.val
      omega)).trans (hx _))

/-- Which block of each operand a point reads: the rows' operands move with the point, the others stay. -/
theorem idx_in : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0) ∧ (win0_6.index t (0 : Fin 2) = 0 ∧ win0_6.index t (1 : Fin 2) = 0)
    ∧ (win0_8.index t (0 : Fin 2) = 0 ∧ win0_8.index t (1 : Fin 2) = 0) ∧ (win0_9.index t (0 : Fin 2) = 0 ∧ win0_9.index t (1 : Fin 2) = 0) :=
  (by decide +kernel : ∀ t : Fin grid0.N, _)

/-- The position that row `r` of point `t`'s blocks is. -/
def at_ (t : Fin cfg0.N) (r : Fin 512) : Fin 4096 :=
  ⟨t.val * 512 + r.val, by have := lt_of_lt_of_eq t.isLt (show cfg0.N = 8 from N_0); omega⟩

variable (m : (ℓ : Loc nD τ sig) → Buf (Elt Ideal) ℓ) (c : Dev nD) (A : Data)

/-- … on device `c`. -/
abbrev HoldsAt : Prop := Holds A (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg8)) (m ((c : Thread nD τ).loc main_arg9))

variable {m c A} (H : HoldsAt m c A)
include H

theorem entry16 (i : S4096x1024.Idx) : (V m c main_v16 : S4096x1024.Idx → EReal) i = ((A.x1 (i 0) (i 1) : ℝ) : EReal) := by
  have e : (V m c main_v16 : S4096x1024.Idx → EReal) = Cert.ReferenceBIdeal.Read.val_main_v19 (F := Ideal) (m ((c : Thread nD τ).loc main_arg0)) (m ((c : Thread nD τ).loc main_arg1))
      (m ((c : Thread nD τ).loc main_arg8)) (m ((c : Thread nD τ).loc main_arg9)) := by
    unfold_abbrev_sides
    after_results
    rfl
  rw [e]
  exact ref19 A H.h0 H.h1 H.h8 H.h9 i

theorem entry17 (i : S4096x6144.Idx) : (V m c main_v17 : S4096x6144.Idx → EReal) i = ((A.up (i 0) (i 1) : ℝ) : EReal) := by
  have e : (V m c main_v17 : S4096x6144.Idx → EReal) = m ((c : Thread nD τ).loc main_arg3) := by
    unfold_abbrev_sides
    after_results
    rfl
  rw [e]
  exact H.h3 i

theorem entry20 (k : Fin 4) (d : Fin 1024) (q : Fin 1536) :
    (V m c main_v20 : S4x1024x1536.Idx → EReal) (ix3 k d q) = ((A.w d ⟨k.val * 1536 + q.val, by omega⟩ : ℝ) : EReal) := by
  have e : (V m c main_v20 : S4x1024x1536.Idx → EReal) = transpose S4x1024x1536 [1, 0, 2] (shapeCast S1024x4x1536
      (m ((c : Thread nD τ).loc main_arg4) : S1024x6144.Idx → EReal) shapeCasts_S1024x6144_S1024x4x1536) transposes_S1024x4x1536_S4x1024x1536_1_0_2 := by
    unfold_abbrev_sides
    after_results
    rfl
  rw [e]
  exact w_cast H.h4 k d q

theorem entry21 (d : Fin 1024) : (V m c main_v21 : S1x1024.Idx → EReal) (ix2 0 d) = ((A.g d : ℝ) : EReal) := by
  have e : (V m c main_v21 : S1x1024.Idx → EReal) = shapeCast S1x1024 (m ((c : Thread nD τ).loc main_arg5) : S1024.Idx → EReal) shapeCasts_S1024_S1x1024 := by
    unfold_abbrev_sides
    after_results
    rfl
  rw [e]
  exact vec_cast H.h5 d

theorem entry22 (d : Fin 1024) : (V m c main_v22 : S1x1024.Idx → EReal) (ix2 0 d) = ((A.sc d : ℝ) : EReal) := by
  have e : (V m c main_v22 : S1x1024.Idx → EReal) = shapeCast S1x1024 (m ((c : Thread nD τ).loc main_arg6) : S1024.Idx → EReal) shapeCasts_S1024_S1x1024 := by
    unfold_abbrev_sides
    after_results
    rfl
  rw [e]
  exact vec_cast H.h6 d

theorem entry24 (d : Fin 1024) : (V m c main_v24 : S1x1024.Idx → EReal) (ix2 0 d) = ((A.gt d : ℝ) : EReal) := by
  have e : (V m c main_v24 : S1x1024.Idx → EReal) = shapeCast S1x1024 (m ((c : Thread nD τ).loc main_arg8) : S1024.Idx → EReal) shapeCasts_S1024_S1x1024 := by
    unfold_abbrev_sides
    after_results
    rfl
  rw [e]
  exact vec_cast H.h8 d

theorem entry25 (d : Fin 1024) : (V m c main_v25 : S1x1024.Idx → EReal) (ix2 0 d) = ((A.gp d : ℝ) : EReal) := by
  have e : (V m c main_v25 : S1x1024.Idx → EReal) = shapeCast S1x1024 (m ((c : Thread nD τ).loc main_arg9) : S1024.Idx → EReal) shapeCasts_S1024_S1x1024 := by
    unfold_abbrev_sides
    after_results
    rfl
  rw [e]
  exact vec_cast H.h9 d

theorem blk0 (t : Fin cfg0.N) (r : Fin 512) (d : Fin 6144) : (iblk m c 0 t : Vec Ideal S512x6144 .bf16) (ix2 r d) = ((A.up (at_ t r) d : ℝ) : EReal) := by
  obtain ⟨a0, a1⟩ := (idx_in t).1
  unfold iblk
  rw [View.read_apply]
  show (V m c main_v17 : S4096x6144.Idx → EReal) _ = _
  refine Eq.trans (congrArg _ (?_ : _ = (ix2 (at_ t r) d : S4096x6144.Idx))) (entry17 H _)
  funext a
  apply Fin.ext
  match a with
  | ⟨0, _⟩ => show win0_0.index t 0 * 512 + 1 * r.val = t.val * 512 + r.val; rw [a0]; omega
  | ⟨1, _⟩ => show win0_0.index t 1 * 6144 + 1 * d.val = d.val; rw [a1]; omega

theorem blk1 (t : Fin cfg0.N) (r : Fin 512) (d : Fin 1024) : (iblk m c 1 t : Vec Ideal S512x1024 .f32) (ix2 r d) = ((A.x1 (at_ t r) d : ℝ) : EReal) := by
  obtain ⟨a0, a1⟩ := (idx_in t).2.1
  unfold iblk
  rw [View.read_apply]
  show (V m c main_v16 : S4096x1024.Idx → EReal) _ = _
  refine Eq.trans (congrArg _ (?_ : _ = (ix2 (at_ t r) d : S4096x1024.Idx))) (entry16 H _)
  funext a
  apply Fin.ext
  match a with
  | ⟨0, _⟩ => show win0_1.index t 0 * 512 + 1 * r.val = t.val * 512 + r.val; rw [a0]; omega
  | ⟨1, _⟩ => show win0_1.index t 1 * 1024 + 1 * d.val = d.val; rw [a1]; omega

theorem blk2 (t : Fin cfg0.N) (r : Fin 512) (d : Fin 1024) : (iblk m c 2 t : Vec Ideal S512x1024 .f32) (ix2 r d) = ((A.y (at_ t r) d : ℝ) : EReal) := by
  obtain ⟨a0, a1⟩ := (idx_in t).2.2.1
  unfold iblk
  rw [View.read_apply]
  show (V m c main_arg1 : S4096x1024.Idx → EReal) _ = _
  refine Eq.trans (congrArg _ (?_ : _ = (ix2 (at_ t r) d : S4096x1024.Idx))) ((congrFun (V_main_arg1 m c) _).trans (H.h1 _))
  funext a
  apply Fin.ext
  match a with
  | ⟨0, _⟩ => show win0_2.index t 0 * 512 + 1 * r.val = t.val * 512 + r.val; rw [a0]; omega
  | ⟨1, _⟩ => show win0_2.index t 1 * 1024 + 1 * d.val = d.val; rw [a1]; omega

theorem blk3 (t : Fin cfg0.N) (r : Fin 512) (d : Fin 1024) : (iblk m c 3 t : Vec Ideal S512x1024 .f32) (ix2 r d) = ((A.dx2 (at_ t r) d : ℝ) : EReal) := by
  obtain ⟨a0, a1⟩ := (idx_in t).2.2.2.1
  unfold iblk
  rw [View.read_apply]
  show (V m c main_arg2 : S4096x1024.Idx → EReal) _ = _
  refine Eq.trans (congrArg _ (?_ : _ = (ix2 (at_ t r) d : S4096x1024.Idx))) ((congrFun (V_main_arg2 m c) _).trans (H.h2 _))
  funext a
  apply Fin.ext
  match a with
  | ⟨0, _⟩ => show win0_3.index t 0 * 512 + 1 * r.val = t.val * 512 + r.val; rw [a0]; omega
  | ⟨1, _⟩ => show win0_3.index t 1 * 1024 + 1 * d.val = d.val; rw [a1]; omega

theorem blk4 (t : Fin cfg0.N) (k : Fin 4) (d : Fin 1024) (q : Fin 1536) :
    (iblk m c 4 t : Vec Ideal S4x1024x1536 .bf16) (ix3 k d q) = ((A.w d ⟨k.val * 1536 + q.val, by omega⟩ : ℝ) : EReal) := by
  obtain ⟨a0, a1, a2⟩ := (idx_in t).2.2.2.2.1
  unfold iblk
  rw [View.read_apply]
  show (V m c main_v20 : S4x1024x1536.Idx → EReal) _ = _
  refine Eq.trans (congrArg _ (?_ : _ = (ix3 k d q : S4x1024x1536.Idx))) (entry20 H k d q)
  funext a
  apply Fin.ext
  match a with
  | ⟨0, _⟩ => show win0_4.index t 0 * 4 + 1 * k.val = k.val; rw [a0]; omega
  | ⟨1, _⟩ => show win0_4.index t 1 * 1024 + 1 * d.val = d.val; rw [a1]; omega
  | ⟨2, _⟩ => show win0_4.index t 2 * 1536 + 1 * q.val = q.val; rw [a2]; omega

theorem blk5 (t : Fin cfg0.N) (d : Fin 1024) : (iblk m c 5 t : Vec Ideal S1x1024 .f32) (ix2 0 d) = ((A.g d : ℝ) : EReal) := by
  obtain ⟨a0, a1⟩ := (idx_in t).2.2.2.2.2.1
  unfold iblk
  rw [View.read_apply]
  show (V m c main_v21 : S1x1024.Idx → EReal) _ = _
  refine Eq.trans (congrArg _ (?_ : _ = (ix2 0 d : S1x1024.Idx))) (entry21 H d)
  funext a
  apply Fin.ext
  match a with
  | ⟨0, _⟩ => show win0_5.index t 0 * 1 + 1 * 0 = 0; rw [a0]
  | ⟨1, _⟩ => show win0_5.index t 1 * 1024 + 1 * d.val = d.val; rw [a1]; omega

theorem blk6 (t : Fin cfg0.N) (d : Fin 1024) : (iblk m c 6 t : Vec Ideal S1x1024 .f32) (ix2 0 d) = ((A.sc d : ℝ) : EReal) := by
  obtain ⟨a0, a1⟩ := (idx_in t).2.2.2.2.2.2.1
  unfold iblk
  rw [View.read_apply]
  show (V m c main_v22 : S1x1024.Idx → EReal) _ = _
  refine Eq.trans (congrArg _ (?_ : _ = (ix2 0 d : S1x1024.Idx))) (entry22 H d)
  funext a
  apply Fin.ext
  match a with
  | ⟨0, _⟩ => show win0_6.index t 0 * 1 + 1 * 0 = 0; rw [a0]
  | ⟨1, _⟩ => show win0_6.index t 1 * 1024 + 1 * d.val = d.val; rw [a1]; omega

theorem blk8 (t : Fin cfg0.N) (d : Fin 1024) : (iblk m c 8 t : Vec Ideal S1x1024 .f32) (ix2 0 d) = ((A.gt d : ℝ) : EReal) := by
  obtain ⟨a0, a1⟩ := (idx_in t).2.2.2.2.2.2.2.1
  unfold iblk
  rw [View.read_apply]
  show (V m c main_v24 : S1x1024.Idx → EReal) _ = _
  refine Eq.trans (congrArg _ (?_ : _ = (ix2 0 d : S1x1024.Idx))) (entry24 H d)
  funext a
  apply Fin.ext
  match a with
  | ⟨0, _⟩ => show win0_8.index t 0 * 1 + 1 * 0 = 0; rw [a0]
  | ⟨1, _⟩ => show win0_8.index t 1 * 1024 + 1 * d.val = d.val; rw [a1]; omega

theorem blk9 (t : Fin cfg0.N) (d : Fin 1024) : (iblk m c 9 t : Vec Ideal S1x1024 .f32) (ix2 0 d) = ((A.gp d : ℝ) : EReal) := by
  obtain ⟨a0, a1⟩ := (idx_in t).2.2.2.2.2.2.2.2
  unfold iblk
  rw [View.read_apply]
  show (V m c main_v25 : S1x1024.Idx → EReal) _ = _
  refine Eq.trans (congrArg _ (?_ : _ = (ix2 0 d : S1x1024.Idx))) (entry25 H d)
  funext a
  apply Fin.ext
  match a with
  | ⟨0, _⟩ => show win0_9.index t 0 * 1 + 1 * 0 = 0; rw [a0]
  | ⟨1, _⟩ => show win0_9.index t 1 * 1024 + 1 * d.val = d.val; rw [a1]; omega

end Cert.Proof.FfnB
-- ==== Proof.FfnBSum.lean ====
/- The column sums over the positions, accumulated over the grid: after point `n` each sum runs over the first
   `512 (n + 1)` positions. The other two results are the rows' gradients, a block of 512 rows at each point. -/
module

public import proofs.«01_k».proof.Proof.FfnBBlock
public import proofs.«01_k».proof.Proof.FfnBEntry

@[expose] public section

noncomputable section

namespace Cert.Proof.FfnB

open Cert.KernelBIdeal Cert.KernelBIdeal.Gen Idealize.ShloMosaic Idealize.ShloMosaic.TcCoe Idealize.SL.Sem Cert.Proof.Lift

/-- The sum over the first `512 n` positions. -/
def ext (f : Fin 4096 → ℝ) (i : ℕ) : ℝ := if h : i < 4096 then f ⟨i, h⟩ else 0
def upto (f : Fin 4096 → ℝ) (n : ℕ) : ℝ := ∑ i ∈ Finset.range (n * 512), ext f i

theorem upto_succ (f : Fin 4096 → ℝ) (t : Fin cfg0.N) : upto f (t.val + 1) = upto f t.val + ∑ r, f (at_ t r) := by
  have ht := lt_of_lt_of_eq t.isLt (show cfg0.N = 8 from N_0)
  unfold upto
  rw [show (t.val + 1) * 512 = t.val * 512 + 512 by omega, Finset.sum_range_add, Finset.sum_range (n := 512)]
  refine congrArg _ (Finset.sum_congr rfl fun r _ => ?_)
  have hr := r.isLt
  exact dif_pos (show t.val * 512 + r.val < 4096 by omega)

theorem upto_zero (f : Fin 4096 → ℝ) : upto f 0 = 0 := by simp [upto]

theorem upto_first (f : Fin 4096 → ℝ) (h : 0 < cfg0.N) : upto f 1 = ∑ r, f (at_ ⟨0, h⟩ r) :=
  (upto_succ f ⟨0, h⟩).trans (by rw [upto_zero, zero_add])

theorem upto_all (f : Fin 4096 → ℝ) : upto f 8 = ∑ s, f s := by
  unfold upto
  rw [show 8 * 512 = 4096 by norm_num, Finset.sum_range]
  exact Finset.sum_congr rfl fun s _ => dif_pos s.isLt

variable {m : (ℓ : Loc nD τ sig) → Buf (Elt Ideal) ℓ} {c : Dev nD} {A : Data} (H : HoldsAt m c A)
include H

theorem outs10 (t : Fin cfg0.N) (j : S512x1024.Idx) : (outsAt0 m c t.val t.isLt).1 j = ((A.dx1 (at_ t (j 0)) (j 1) : ℝ) : EReal) := by
  by_cases h0 : t.val % 8 = 0
  · rw [outsAt0_A m c t h0]
    dsimp only
    exact oA10 (U := fun r k => A.up (at_ t r) k) (X := fun r k => A.x1 (at_ t r) k) (D := fun r k => A.dx2 (at_ t r) k) (W := A.w) (G := A.g) (SC := A.sc) (e0 := blk0 H t) (e1 := blk1 H t) (e3 := blk3 H t) (e4 := blk4 H t) (e5 := blk5 H t) (e6 := blk6 H t) (j := j) ..
  · rw [outsAt0_B m c t h0]
    dsimp only
    exact oB10 (U := fun r k => A.up (at_ t r) k) (X := fun r k => A.x1 (at_ t r) k) (D := fun r k => A.dx2 (at_ t r) k) (W := A.w) (G := A.g) (SC := A.sc) (e0 := blk0 H t) (e1 := blk1 H t) (e3 := blk3 H t) (e4 := blk4 H t) (e5 := blk5 H t) (e6 := blk6 H t) (j := j) ..

theorem outs11 (t : Fin cfg0.N) (j : S512x1024.Idx) : (outsAt0 m c t.val t.isLt).2.1 j = ((A.dy (at_ t (j 0)) (j 1) : ℝ) : EReal) := by
  by_cases h0 : t.val % 8 = 0
  · rw [outsAt0_A m c t h0]
    dsimp only
    exact oA11 (U := fun r k => A.up (at_ t r) k) (X := fun r k => A.x1 (at_ t r) k) (Y := fun r k => A.y (at_ t r) k) (D := fun r k => A.dx2 (at_ t r) k) (W := A.w) (G := A.g) (SC := A.sc) (GT := A.gt) (GP := A.gp) (e0 := blk0 H t) (e1 := blk1 H t) (e2 := blk2 H t) (e3 := blk3 H t) (e4 := blk4 H t) (e5 := blk5 H t) (e6 := blk6 H t) (e8 := blk8 H t) (e9 := blk9 H t) (j := j) ..
  · rw [outsAt0_B m c t h0]
    dsimp only
    exact oB11 (U := fun r k => A.up (at_ t r) k) (X := fun r k => A.x1 (at_ t r) k) (Y := fun r k => A.y (at_ t r) k) (D := fun r k => A.dx2 (at_ t r) k) (W := A.w) (G := A.g) (SC := A.sc) (GT := A.gt) (GP := A.gp) (e0 := blk0 H t) (e1 := blk1 H t) (e2 := blk2 H t) (e3 := blk3 H t) (e4 := blk4 H t) (e5 := blk5 H t) (e6 := blk6 H t) (e8 := blk8 H t) (e9 := blk9 H t) (j := j) ..

theorem outs12 : ∀ (n : ℕ) (hn : n < cfg0.N) (d : Fin 1024),
    (outsAt0 m c n hn).2.2.1 (ix2 0 d) = ((upto (fun s => A.dh s d) (n + 1) : ℝ) : EReal)
  | 0, hn, d => by
    have hs := upto_first (fun s => A.dh s d) hn
    rw [outsAt0_A m c ⟨0, hn⟩ rfl]
    dsimp only
    exact Eq.trans (oA12 (U := fun r k => A.up (at_ ⟨0, hn⟩ r) k) (W := A.w) (e0 := blk0 H ⟨0, hn⟩) (e4 := blk4 H ⟨0, hn⟩) (d := d) ..) (congrArg (fun r : ℝ => (r : EReal)) hs.symm)
  | n + 1, hn, d => by
    have hb : ¬(n + 1) % 8 = 0 := by have := lt_of_lt_of_eq hn (show cfg0.N = 8 from N_0); omega
    have hs := upto_succ (fun s => A.dh s d) (⟨n + 1, hn⟩ : Fin cfg0.N)
    rw [outsAt0_B m c ⟨n + 1, hn⟩ hb]
    dsimp only
    exact Eq.trans (oB12 (U := fun r k => A.up (at_ ⟨n + 1, hn⟩ r) k) (W := A.w) (e0 := blk0 H ⟨n + 1, hn⟩) (e4 := blk4 H ⟨n + 1, hn⟩) (ACC := fun d => upto (fun s => A.dh s d) (n + 1)) (ha := outs12 n (Nat.lt_of_succ_lt hn)) (d := d) ..) (congrArg (fun r : ℝ => (r : EReal)) hs.symm)

theorem outs13 : ∀ (n : ℕ) (hn : n < cfg0.N) (d : Fin 1024),
    (outsAt0 m c n hn).2.2.2.1 (ix2 0 d) = ((upto (fun s => A.dh s d * (A.xn s d * A.g d)) (n + 1) : ℝ) : EReal)
  | 0, hn, d => by
    have hs := upto_first (fun s => A.dh s d * (A.xn s d * A.g d)) hn
    rw [outsAt0_A m c ⟨0, hn⟩ rfl]
    dsimp only
    exact Eq.trans (oA13 (U := fun r k => A.up (at_ ⟨0, hn⟩ r) k) (X := fun r k => A.x1 (at_ ⟨0, hn⟩ r) k) (W := A.w) (G := A.g) (e0 := blk0 H ⟨0, hn⟩) (e1 := blk1 H ⟨0, hn⟩) (e4 := blk4 H ⟨0, hn⟩) (e5 := blk5 H ⟨0, hn⟩) (d := d) ..) (congrArg (fun r : ℝ => (r : EReal)) hs.symm)
  | n + 1, hn, d => by
    have hb : ¬(n + 1) % 8 = 0 := by have := lt_of_lt_of_eq hn (show cfg0.N = 8 from N_0); omega
    have hs := upto_succ (fun s => A.dh s d * (A.xn s d * A.g d)) (⟨n + 1, hn⟩ : Fin cfg0.N)
    rw [outsAt0_B m c ⟨n + 1, hn⟩ hb]
    dsimp only
    exact Eq.trans (oB13 (U := fun r k => A.up (at_ ⟨n + 1, hn⟩ r) k) (X := fun r k => A.x1 (at_ ⟨n + 1, hn⟩ r) k) (W := A.w) (G := A.g) (e0 := blk0 H ⟨n + 1, hn⟩) (e1 := blk1 H ⟨n + 1, hn⟩) (e4 := blk4 H ⟨n + 1, hn⟩) (e5 := blk5 H ⟨n + 1, hn⟩) (ACC := fun d => upto (fun s => A.dh s d * (A.xn s d * A.g d)) (n + 1)) (ha := outs13 n (Nat.lt_of_succ_lt hn)) (d := d) ..) (congrArg (fun r : ℝ => (r : EReal)) hs.symm)

theorem outs14 : ∀ (n : ℕ) (hn : n < cfg0.N) (d : Fin 1024),
    (outsAt0 m c n hn).2.2.2.2.1 (ix2 0 d) = ((upto (fun s => A.dhn s d * A.xn s d) (n + 1) : ℝ) : EReal)
  | 0, hn, d => by
    have hs := upto_first (fun s => A.dhn s d * A.xn s d) hn
    rw [outsAt0_A m c ⟨0, hn⟩ rfl]
    dsimp only
    exact Eq.trans (oA14 (U := fun r k => A.up (at_ ⟨0, hn⟩ r) k) (X := fun r k => A.x1 (at_ ⟨0, hn⟩ r) k) (W := A.w) (SC := A.sc) (e0 := blk0 H ⟨0, hn⟩) (e1 := blk1 H ⟨0, hn⟩) (e4 := blk4 H ⟨0, hn⟩) (e6 := blk6 H ⟨0, hn⟩) (d := d) ..) (congrArg (fun r : ℝ => (r : EReal)) hs.symm)
  | n + 1, hn, d => by
    have hb : ¬(n + 1) % 8 = 0 := by have := lt_of_lt_of_eq hn (show cfg0.N = 8 from N_0); omega
    have hs := upto_succ (fun s => A.dhn s d * A.xn s d) (⟨n + 1, hn⟩ : Fin cfg0.N)
    rw [outsAt0_B m c ⟨n + 1, hn⟩ hb]
    dsimp only
    exact Eq.trans (oB14 (U := fun r k => A.up (at_ ⟨n + 1, hn⟩ r) k) (X := fun r k => A.x1 (at_ ⟨n + 1, hn⟩ r) k) (W := A.w) (SC := A.sc) (e0 := blk0 H ⟨n + 1, hn⟩) (e1 := blk1 H ⟨n + 1, hn⟩) (e4 := blk4 H ⟨n + 1, hn⟩) (e6 := blk6 H ⟨n + 1, hn⟩) (ACC := fun d => upto (fun s => A.dhn s d * A.xn s d) (n + 1)) (ha := outs14 n (Nat.lt_of_succ_lt hn)) (d := d) ..) (congrArg (fun r : ℝ => (r : EReal)) hs.symm)

theorem outs15 : ∀ (n : ℕ) (hn : n < cfg0.N) (d : Fin 1024),
    (outsAt0 m c n hn).2.2.2.2.2.1 (ix2 0 d) = ((upto (fun s => A.dx1 s d * (A.yn s d * A.gp d)) (n + 1) : ℝ) : EReal)
  | 0, hn, d => by
    have hs := upto_first (fun s => A.dx1 s d * (A.yn s d * A.gp d)) hn
    rw [outsAt0_A m c ⟨0, hn⟩ rfl]
    dsimp only
    exact Eq.trans (oA15 (U := fun r k => A.up (at_ ⟨0, hn⟩ r) k) (X := fun r k => A.x1 (at_ ⟨0, hn⟩ r) k) (Y := fun r k => A.y (at_ ⟨0, hn⟩ r) k) (D := fun r k => A.dx2 (at_ ⟨0, hn⟩ r) k) (W := A.w) (G := A.g) (SC := A.sc) (GP := A.gp) (e0 := blk0 H ⟨0, hn⟩) (e1 := blk1 H ⟨0, hn⟩) (e2 := blk2 H ⟨0, hn⟩) (e3 := blk3 H ⟨0, hn⟩) (e4 := blk4 H ⟨0, hn⟩) (e5 := blk5 H ⟨0, hn⟩) (e6 := blk6 H ⟨0, hn⟩) (e9 := blk9 H ⟨0, hn⟩) (d := d) ..) (congrArg (fun r : ℝ => (r : EReal)) hs.symm)
  | n + 1, hn, d => by
    have hb : ¬(n + 1) % 8 = 0 := by have := lt_of_lt_of_eq hn (show cfg0.N = 8 from N_0); omega
    have hs := upto_succ (fun s => A.dx1 s d * (A.yn s d * A.gp d)) (⟨n + 1, hn⟩ : Fin cfg0.N)
    rw [outsAt0_B m c ⟨n + 1, hn⟩ hb]
    dsimp only
    exact Eq.trans (oB15 (U := fun r k => A.up (at_ ⟨n + 1, hn⟩ r) k) (X := fun r k => A.x1 (at_ ⟨n + 1, hn⟩ r) k) (Y := fun r k => A.y (at_ ⟨n + 1, hn⟩ r) k) (D := fun r k => A.dx2 (at_ ⟨n + 1, hn⟩ r) k) (W := A.w) (G := A.g) (SC := A.sc) (GP := A.gp) (e0 := blk0 H ⟨n + 1, hn⟩) (e1 := blk1 H ⟨n + 1, hn⟩) (e2 := blk2 H ⟨n + 1, hn⟩) (e3 := blk3 H ⟨n + 1, hn⟩) (e4 := blk4 H ⟨n + 1, hn⟩) (e5 := blk5 H ⟨n + 1, hn⟩) (e6 := blk6 H ⟨n + 1, hn⟩) (e9 := blk9 H ⟨n + 1, hn⟩) (ACC := fun d => upto (fun s => A.dx1 s d * (A.yn s d * A.gp d)) (n + 1)) (ha := outs15 n (Nat.lt_of_succ_lt hn)) (d := d) ..) (congrArg (fun r : ℝ => (r : EReal)) hs.symm)

theorem outs16 : ∀ (n : ℕ) (hn : n < cfg0.N) (d : Fin 1024),
    (outsAt0 m c n hn).2.2.2.2.2.2 (ix2 0 d) = ((upto (fun s => A.dyn s d * A.yn s d) (n + 1) : ℝ) : EReal)
  | 0, hn, d => by
    have hs := upto_first (fun s => A.dyn s d * A.yn s d) hn
    rw [outsAt0_A m c ⟨0, hn⟩ rfl]
    dsimp only
    exact Eq.trans (oA16 (U := fun r k => A.up (at_ ⟨0, hn⟩ r) k) (X := fun r k => A.x1 (at_ ⟨0, hn⟩ r) k) (Y := fun r k => A.y (at_ ⟨0, hn⟩ r) k) (D := fun r k => A.dx2 (at_ ⟨0, hn⟩ r) k) (W := A.w) (G := A.g) (SC := A.sc) (GT := A.gt) (e0 := blk0 H ⟨0, hn⟩) (e1 := blk1 H ⟨0, hn⟩) (e2 := blk2 H ⟨0, hn⟩) (e3 := blk3 H ⟨0, hn⟩) (e4 := blk4 H ⟨0, hn⟩) (e5 := blk5 H ⟨0, hn⟩) (e6 := blk6 H ⟨0, hn⟩) (e8 := blk8 H ⟨0, hn⟩) (d := d) ..) (congrArg (fun r : ℝ => (r : EReal)) hs.symm)
  | n + 1, hn, d => by
    have hb : ¬(n + 1) % 8 = 0 := by have := lt_of_lt_of_eq hn (show cfg0.N = 8 from N_0); omega
    have hs := upto_succ (fun s => A.dyn s d * A.yn s d) (⟨n + 1, hn⟩ : Fin cfg0.N)
    rw [outsAt0_B m c ⟨n + 1, hn⟩ hb]
    dsimp only
    exact Eq.trans (oB16 (U := fun r k => A.up (at_ ⟨n + 1, hn⟩ r) k) (X := fun r k => A.x1 (at_ ⟨n + 1, hn⟩ r) k) (Y := fun r k => A.y (at_ ⟨n + 1, hn⟩ r) k) (D := fun r k => A.dx2 (at_ ⟨n + 1, hn⟩ r) k) (W := A.w) (G := A.g) (SC := A.sc) (GT := A.gt) (e0 := blk0 H ⟨n + 1, hn⟩) (e1 := blk1 H ⟨n + 1, hn⟩) (e2 := blk2 H ⟨n + 1, hn⟩) (e3 := blk3 H ⟨n + 1, hn⟩) (e4 := blk4 H ⟨n + 1, hn⟩) (e5 := blk5 H ⟨n + 1, hn⟩) (e6 := blk6 H ⟨n + 1, hn⟩) (e8 := blk8 H ⟨n + 1, hn⟩) (ACC := fun d => upto (fun s => A.dyn s d * A.yn s d) (n + 1)) (ha := outs16 n (Nat.lt_of_succ_lt hn)) (d := d) ..) (congrArg (fun r : ℝ => (r : EReal)) hs.symm)

end Cert.Proof.FfnB
-- ==== Proof.FfnBValue.lean ====
/- The feed-forward block's second half, closed: the arrays the kernel's run leaves are the reference's, on finite
   arguments. -/
module

public import proofs.«01_k».proof.Defs
public import proofs.«01_k».proof.Proof.Gen.KernelBIdeal.Value
public import proofs.«01_k».proof.Proof.Gen.Pre_finite_b
public import proofs.«01_k».proof.Proof.Gen.ReferenceBIdeal
public import proofs.«01_k».proof.Proof.Finite
public import proofs.«01_k».proof.Proof.FfnBSum

@[expose] public section

noncomputable section

namespace Cert.Proof.FfnB

open Cert.KernelBIdeal Cert.KernelBIdeal.Gen Cert.KernelBIdeal.Value Idealize.ShloMosaic Idealize.ShloMosaic.TcCoe Idealize.SL.Sem Cert.Proof.Lift Cert.Proof.Finite

section Arrays
variable {m : (ℓ : Loc nD τ sig) → Buf (Elt Ideal) ℓ} {c : Dev nD} {A : Data} (H : HoldsAt m c A)

theorem idx_out : ∀ t : Fin cfg0.N, (win0_10.index t (0 : Fin 2) = t.val ∧ win0_10.index t (1 : Fin 2) = 0)
    ∧ (win0_11.index t (0 : Fin 2) = t.val ∧ win0_11.index t (1 : Fin 2) = 0) ∧ win0_10.flush t = true ∧ win0_11.flush t = true :=
  (by decide +kernel : ∀ t : Fin grid0.N, _)

include H in
theorem arr10 : (dats m 0 c).arrAt 10 cfg0.N = fun i : S4096x1024.Idx => ((A.dx1 (i 0) (i 1) : ℝ) : EReal) := by
  refine (dats m 0 c).arrAt_eq_of_cover 10 _ (fun t hf => ?_) (fun i => ?_)
  · rw [flushed10]
    obtain ⟨a0, a1⟩ := (idx_out t).1
    funext y
    show (outsAt0 m c t.val t.isLt).1 ((cfg0.win 10).xinj (grid0.coords t) y) = _
    refine (outs10 H t _).trans (congrArg (fun r : ℝ => (r : EReal)) (congrArg₂ A.dx1 (Fin.ext ?_) (Fin.ext ?_)))
    · show t.val * 512 + (y 0).val = win0_10.index t 0 * 512 + 1 * (y 0).val
      rw [a0]; omega
    · show (y 1).val = win0_10.index t 1 * 1024 + 1 * (y 1).val
      rw [a1]; omega
  · have h0 : (i 0).val < 4096 := (i 0).isLt
    have h1 : (i 1).val < 1024 := (i 1).isLt
    let t : Fin cfg0.N := ⟨(i 0).val / 512, lt_of_lt_of_eq (by omega) N_0.symm⟩
    have ht : t.val = (i 0).val / 512 := rfl
    obtain ⟨a0, a1⟩ := (idx_out t).1
    refine ⟨t, (idx_out t).2.2.1, ?_⟩
    show i ∈ ((View.whole main_v26_0).slice (win0_10.rect t)).set
    rw [View.set_slice_whole, Rect.mem_set_unit]
    intro a
    match a with
    | ⟨0, _⟩ => show win0_10.index t 0 * 512 ≤ (i 0).val ∧ (i 0).val < win0_10.index t 0 * 512 + 512; rw [a0, ht]; omega
    | ⟨1, _⟩ => show win0_10.index t 1 * 1024 ≤ (i 1).val ∧ (i 1).val < win0_10.index t 1 * 1024 + 1024; rw [a1]; omega

include H in
theorem arr11 : (dats m 0 c).arrAt 11 cfg0.N = fun i : S4096x1024.Idx => ((A.dy (i 0) (i 1) : ℝ) : EReal) := by
  refine (dats m 0 c).arrAt_eq_of_cover 11 _ (fun t hf => ?_) (fun i => ?_)
  · rw [flushed11]
    obtain ⟨a0, a1⟩ := (idx_out t).2.1
    funext y
    show (outsAt0 m c t.val t.isLt).2.1 ((cfg0.win 11).xinj (grid0.coords t) y) = _
    refine (outs11 H t _).trans (congrArg (fun r : ℝ => (r : EReal)) (congrArg₂ A.dy (Fin.ext ?_) (Fin.ext ?_)))
    · show t.val * 512 + (y 0).val = win0_11.index t 0 * 512 + 1 * (y 0).val
      rw [a0]; omega
    · show (y 1).val = win0_11.index t 1 * 1024 + 1 * (y 1).val
      rw [a1]; omega
  · have h0 : (i 0).val < 4096 := (i 0).isLt
    have h1 : (i 1).val < 1024 := (i 1).isLt
    let t : Fin cfg0.N := ⟨(i 0).val / 512, lt_of_lt_of_eq (by omega) N_0.symm⟩
    have ht : t.val = (i 0).val / 512 := rfl
    obtain ⟨a0, a1⟩ := (idx_out t).2.1
    refine ⟨t, (idx_out t).2.2.2, ?_⟩
    show i ∈ ((View.whole main_v26_1).slice (win0_11.rect t)).set
    rw [View.set_slice_whole, Rect.mem_set_unit]
    intro a
    match a with
    | ⟨0, _⟩ => show win0_11.index t 0 * 512 ≤ (i 0).val ∧ (i 0).val < win0_11.index t 0 * 512 + 512; rw [a0, ht]; omega
    | ⟨1, _⟩ => show win0_11.index t 1 * 1024 ≤ (i 1).val ∧ (i 1).val < win0_11.index t 1 * 1024 + 1024; rw [a1]; omega

theorem idx12 : ∀ t : Fin cfg0.N, win0_12.index t (0 : Fin 2) = 0 ∧ win0_12.index t (1 : Fin 2) = 0 ∧ (win0_12.flush t = true ↔ t.val = 7) :=
  (by decide +kernel : ∀ t : Fin grid0.N, _)

include H in
theorem arr12 : (dats m 0 c).arrAt 12 cfg0.N = fun i : S1x1024.Idx => ((A.dsh (i 1) : ℝ) : EReal) := by
  refine (dats m 0 c).arrAt_eq_of_cover 12 _ (fun t hf => ?_) (fun i => ?_)
  · rw [flushed12]
    obtain ⟨a0, a1, a2⟩ := idx12 t
    have h7 : t.val = 7 := a2.1 hf
    funext y
    have hy : (y 0).val < 1 := (y 0).isLt
    show (outsAt0 m c t.val t.isLt).2.2.1 ((cfg0.win 12).xinj (grid0.coords t) y) = _
    have e : (cfg0.win 12).xinj (grid0.coords t) y = (ix2 0 (y 1) : S1x1024.Idx) := by
      funext a
      apply Fin.ext
      match a with
      | ⟨0, _⟩ => show (y 0).val = 0; omega
      | ⟨1, _⟩ => rfl
    refine (congrArg _ e).trans ((outs12 H t.val t.isLt _).trans (congrArg (fun r : ℝ => (r : EReal)) ?_))
    rw [show t.val + 1 = 8 by omega, upto_all]
    refine congrArg A.dsh (Fin.ext ?_)
    show (y 1).val = win0_12.index t 1 * 1024 + 1 * (y 1).val
    rw [a1]; omega
  · have h0 : (i 0).val < 1 := (i 0).isLt
    have h1 : (i 1).val < 1024 := (i 1).isLt
    let t : Fin cfg0.N := ⟨7, lt_of_lt_of_eq (by omega) N_0.symm⟩
    obtain ⟨a0, a1, a2⟩ := idx12 t
    refine ⟨t, a2.2 rfl, ?_⟩
    show i ∈ ((View.whole main_v26_2).slice (win0_12.rect t)).set
    rw [View.set_slice_whole, Rect.mem_set_unit]
    intro a
    match a with
    | ⟨0, _⟩ => show win0_12.index t 0 * 1 ≤ (i 0).val ∧ (i 0).val < win0_12.index t 0 * 1 + 1; rw [a0]; omega
    | ⟨1, _⟩ => show win0_12.index t 1 * 1024 ≤ (i 1).val ∧ (i 1).val < win0_12.index t 1 * 1024 + 1024; rw [a1]; omega

theorem idx13 : ∀ t : Fin cfg0.N, win0_13.index t (0 : Fin 2) = 0 ∧ win0_13.index t (1 : Fin 2) = 0 ∧ (win0_13.flush t = true ↔ t.val = 7) :=
  (by decide +kernel : ∀ t : Fin grid0.N, _)

include H in
theorem arr13 : (dats m 0 c).arrAt 13 cfg0.N = fun i : S1x1024.Idx => ((A.dsc (i 1) : ℝ) : EReal) := by
  refine (dats m 0 c).arrAt_eq_of_cover 13 _ (fun t hf => ?_) (fun i => ?_)
  · rw [flushed13]
    obtain ⟨a0, a1, a2⟩ := idx13 t
    have h7 : t.val = 7 := a2.1 hf
    funext y
    have hy : (y 0).val < 1 := (y 0).isLt
    show (outsAt0 m c t.val t.isLt).2.2.2.1 ((cfg0.win 13).xinj (grid0.coords t) y) = _
    have e : (cfg0.win 13).xinj (grid0.coords t) y = (ix2 0 (y 1) : S1x1024.Idx) := by
      funext a
      apply Fin.ext
      match a with
      | ⟨0, _⟩ => show (y 0).val = 0; omega
      | ⟨1, _⟩ => rfl
    refine (congrArg _ e).trans ((outs13 H t.val t.isLt _).trans (congrArg (fun r : ℝ => (r : EReal)) ?_))
    rw [show t.val + 1 = 8 by omega, upto_all]
    refine congrArg A.dsc (Fin.ext ?_)
    show (y 1).val = win0_13.index t 1 * 1024 + 1 * (y 1).val
    rw [a1]; omega
  · have h0 : (i 0).val < 1 := (i 0).isLt
    have h1 : (i 1).val < 1024 := (i 1).isLt
    let t : Fin cfg0.N := ⟨7, lt_of_lt_of_eq (by omega) N_0.symm⟩
    obtain ⟨a0, a1, a2⟩ := idx13 t
    refine ⟨t, a2.2 rfl, ?_⟩
    show i ∈ ((View.whole main_v26_3).slice (win0_13.rect t)).set
    rw [View.set_slice_whole, Rect.mem_set_unit]
    intro a
    match a with
    | ⟨0, _⟩ => show win0_13.index t 0 * 1 ≤ (i 0).val ∧ (i 0).val < win0_13.index t 0 * 1 + 1; rw [a0]; omega
    | ⟨1, _⟩ => show win0_13.index t 1 * 1024 ≤ (i 1).val ∧ (i 1).val < win0_13.index t 1 * 1024 + 1024; rw [a1]; omega

theorem idx14 : ∀ t : Fin cfg0.N, win0_14.index t (0 : Fin 2) = 0 ∧ win0_14.index t (1 : Fin 2) = 0 ∧ (win0_14.flush t = true ↔ t.val = 7) :=
  (by decide +kernel : ∀ t : Fin grid0.N, _)

include H in
theorem arr14 : (dats m 0 c).arrAt 14 cfg0.N = fun i : S1x1024.Idx => ((A.dg (i 1) : ℝ) : EReal) := by
  refine (dats m 0 c).arrAt_eq_of_cover 14 _ (fun t hf => ?_) (fun i => ?_)
  · rw [flushed14]
    obtain ⟨a0, a1, a2⟩ := idx14 t
    have h7 : t.val = 7 := a2.1 hf
    funext y
    have hy : (y 0).val < 1 := (y 0).isLt
    show (outsAt0 m c t.val t.isLt).2.2.2.2.1 ((cfg0.win 14).xinj (grid0.coords t) y) = _
    have e : (cfg0.win 14).xinj (grid0.coords t) y = (ix2 0 (y 1) : S1x1024.Idx) := by
      funext a
      apply Fin.ext
      match a with
      | ⟨0, _⟩ => show (y 0).val = 0; omega
      | ⟨1, _⟩ => rfl
    refine (congrArg _ e).trans ((outs14 H t.val t.isLt _).trans (congrArg (fun r : ℝ => (r : EReal)) ?_))
    rw [show t.val + 1 = 8 by omega, upto_all]
    refine congrArg A.dg (Fin.ext ?_)
    show (y 1).val = win0_14.index t 1 * 1024 + 1 * (y 1).val
    rw [a1]; omega
  · have h0 : (i 0).val < 1 := (i 0).isLt
    have h1 : (i 1).val < 1024 := (i 1).isLt
    let t : Fin cfg0.N := ⟨7, lt_of_lt_of_eq (by omega) N_0.symm⟩
    obtain ⟨a0, a1, a2⟩ := idx14 t
    refine ⟨t, a2.2 rfl, ?_⟩
    show i ∈ ((View.whole main_v26_4).slice (win0_14.rect t)).set
    rw [View.set_slice_whole, Rect.mem_set_unit]
    intro a
    match a with
    | ⟨0, _⟩ => show win0_14.index t 0 * 1 ≤ (i 0).val ∧ (i 0).val < win0_14.index t 0 * 1 + 1; rw [a0]; omega
    | ⟨1, _⟩ => show win0_14.index t 1 * 1024 ≤ (i 1).val ∧ (i 1).val < win0_14.index t 1 * 1024 + 1024; rw [a1]; omega

theorem idx15 : ∀ t : Fin cfg0.N, win0_15.index t (0 : Fin 2) = 0 ∧ win0_15.index t (1 : Fin 2) = 0 ∧ (win0_15.flush t = true ↔ t.val = 7) :=
  (by decide +kernel : ∀ t : Fin grid0.N, _)

include H in
theorem arr15 : (dats m 0 c).arrAt 15 cfg0.N = fun i : S1x1024.Idx => ((A.dgt (i 1) : ℝ) : EReal) := by
  refine (dats m 0 c).arrAt_eq_of_cover 15 _ (fun t hf => ?_) (fun i => ?_)
  · rw [flushed15]
    obtain ⟨a0, a1, a2⟩ := idx15 t
    have h7 : t.val = 7 := a2.1 hf
    funext y
    have hy : (y 0).val < 1 := (y 0).isLt
    show (outsAt0 m c t.val t.isLt).2.2.2.2.2.1 ((cfg0.win 15).xinj (grid0.coords t) y) = _
    have e : (cfg0.win 15).xinj (grid0.coords t) y = (ix2 0 (y 1) : S1x1024.Idx) := by
      funext a
      apply Fin.ext
      match a with
      | ⟨0, _⟩ => show (y 0).val = 0; omega
      | ⟨1, _⟩ => rfl
    refine (congrArg _ e).trans ((outs15 H t.val t.isLt _).trans (congrArg (fun r : ℝ => (r : EReal)) ?_))
    rw [show t.val + 1 = 8 by omega, upto_all]
    refine congrArg A.dgt (Fin.ext ?_)
    show (y 1).val = win0_15.index t 1 * 1024 + 1 * (y 1).val
    rw [a1]; omega
  · have h0 : (i 0).val < 1 := (i 0).isLt
    have h1 : (i 1).val < 1024 := (i 1).isLt
    let t : Fin cfg0.N := ⟨7, lt_of_lt_of_eq (by omega) N_0.symm⟩
    obtain ⟨a0, a1, a2⟩ := idx15 t
    refine ⟨t, a2.2 rfl, ?_⟩
    show i ∈ ((View.whole main_v26_5).slice (win0_15.rect t)).set
    rw [View.set_slice_whole, Rect.mem_set_unit]
    intro a
    match a with
    | ⟨0, _⟩ => show win0_15.index t 0 * 1 ≤ (i 0).val ∧ (i 0).val < win0_15.index t 0 * 1 + 1; rw [a0]; omega
    | ⟨1, _⟩ => show win0_15.index t 1 * 1024 ≤ (i 1).val ∧ (i 1).val < win0_15.index t 1 * 1024 + 1024; rw [a1]; omega

theorem idx16 : ∀ t : Fin cfg0.N, win0_16.index t (0 : Fin 2) = 0 ∧ win0_16.index t (1 : Fin 2) = 0 ∧ (win0_16.flush t = true ↔ t.val = 7) :=
  (by decide +kernel : ∀ t : Fin grid0.N, _)

include H in
theorem arr16 : (dats m 0 c).arrAt 16 cfg0.N = fun i : S1x1024.Idx => ((A.dgp (i 1) : ℝ) : EReal) := by
  refine (dats m 0 c).arrAt_eq_of_cover 16 _ (fun t hf => ?_) (fun i => ?_)
  · rw [flushed16]
    obtain ⟨a0, a1, a2⟩ := idx16 t
    have h7 : t.val = 7 := a2.1 hf
    funext y
    have hy : (y 0).val < 1 := (y 0).isLt
    show (outsAt0 m c t.val t.isLt).2.2.2.2.2.2 ((cfg0.win 16).xinj (grid0.coords t) y) = _
    have e : (cfg0.win 16).xinj (grid0.coords t) y = (ix2 0 (y 1) : S1x1024.Idx) := by
      funext a
      apply Fin.ext
      match a with
      | ⟨0, _⟩ => show (y 0).val = 0; omega
      | ⟨1, _⟩ => rfl
    refine (congrArg _ e).trans ((outs16 H t.val t.isLt _).trans (congrArg (fun r : ℝ => (r : EReal)) ?_))
    rw [show t.val + 1 = 8 by omega, upto_all]
    refine congrArg A.dgp (Fin.ext ?_)
    show (y 1).val = win0_16.index t 1 * 1024 + 1 * (y 1).val
    rw [a1]; omega
  · have h0 : (i 0).val < 1 := (i 0).isLt
    have h1 : (i 1).val < 1024 := (i 1).isLt
    let t : Fin cfg0.N := ⟨7, lt_of_lt_of_eq (by omega) N_0.symm⟩
    obtain ⟨a0, a1, a2⟩ := idx16 t
    refine ⟨t, a2.2 rfl, ?_⟩
    show i ∈ ((View.whole main_v26_6).slice (win0_16.rect t)).set
    rw [View.set_slice_whole, Rect.mem_set_unit]
    intro a
    match a with
    | ⟨0, _⟩ => show win0_16.index t 0 * 1 ≤ (i 0).val ∧ (i 0).val < win0_16.index t 0 * 1 + 1; rw [a0]; omega
    | ⟨1, _⟩ => show win0_16.index t 1 * 1024 ≤ (i 1).val ∧ (i 1).val < win0_16.index t 1 * 1024 + 1024; rw [a1]; omega

end Arrays

/-- The real numbers that the argument arrays hold on device `c`. -/
def dataOf (m : (ℓ : Loc nD τ sig) → Buf (Elt Ideal) ℓ) (c : Dev nD) : Data where
  x r d := ((m ((c : Thread nD τ).loc main_arg0) : S4096x1024.Idx → EReal) (ix2 r d)).toReal
  y r d := ((m ((c : Thread nD τ).loc main_arg1) : S4096x1024.Idx → EReal) (ix2 r d)).toReal
  dx2 r d := ((m ((c : Thread nD τ).loc main_arg2) : S4096x1024.Idx → EReal) (ix2 r d)).toReal
  up r d := ((m ((c : Thread nD τ).loc main_arg3) : S4096x6144.Idx → EReal) (ix2 r d)).toReal
  w r d := ((m ((c : Thread nD τ).loc main_arg4) : S1024x6144.Idx → EReal) (ix2 r d)).toReal
  g d := ((m ((c : Thread nD τ).loc main_arg5) : S1024.Idx → EReal) (ix1 d)).toReal
  sc d := ((m ((c : Thread nD τ).loc main_arg6) : S1024.Idx → EReal) (ix1 d)).toReal
  gt d := ((m ((c : Thread nD τ).loc main_arg8) : S1024.Idx → EReal) (ix1 d)).toReal
  gp d := ((m ((c : Thread nD τ).loc main_arg9) : S1024.Idx → EReal) (ix1 d)).toReal

instance : Subsingleton Cert.Pre_finite_b.S_.Idx := ⟨fun _ _ => funext fun x => x.elim0⟩

theorem eq_row (i : S1024.Idx) : i = ix1 (i 0) := by
  funext a
  match a with
  | ⟨0, _⟩ => rfl

/-- The precondition gives the data. -/
theorem holds (m : (ℓ : Loc nD τ sig) → Buf (Elt Ideal) ℓ) (h : Cert.Pre_KernelBIdeal_finite_b m) (c : Dev nD) : HoldsAt m c (dataOf m c) := by
  have e := congrFun (h c) (fun x => x.elim0)
  dsimp only [Cert.Pre_finite_b.fn, Cert.Pre_finite_b.fn_part1, Cert.Pre_finite_b.fn_part2] at e
  obtain ⟨e, e9⟩ := and_one _ _ _ e
  obtain ⟨e, e8⟩ := and_one _ _ _ e
  obtain ⟨e, e7⟩ := and_one _ _ _ e
  obtain ⟨e, e6⟩ := and_one _ _ _ e
  obtain ⟨e, e5⟩ := and_one _ _ _ e
  obtain ⟨e, e4⟩ := and_one _ _ _ e
  obtain ⟨e, e3⟩ := and_one _ _ _ e
  obtain ⟨e, e2⟩ := and_one _ _ _ e
  obtain ⟨e, e1⟩ := and_one _ _ _ e
  obtain ⟨e, e0⟩ := and_one _ _ _ e
  exact ⟨fun i => (real_of_all _ _ _ _ _ _ e0 (fun _ => rfl) i).trans (congrArg (fun j => ((((m ((c : Thread nD τ).loc main_arg0) : S4096x1024.Idx → EReal) j).toReal : ℝ) : EReal)) (eq_ix2 i)),
    fun i => (real_of_all _ _ _ _ _ _ e1 (fun _ => rfl) i).trans (congrArg (fun j => ((((m ((c : Thread nD τ).loc main_arg1) : S4096x1024.Idx → EReal) j).toReal : ℝ) : EReal)) (eq_ix2 i)),
    fun i => (real_of_all _ _ _ _ _ _ e2 (fun _ => rfl) i).trans (congrArg (fun j => ((((m ((c : Thread nD τ).loc main_arg2) : S4096x1024.Idx → EReal) j).toReal : ℝ) : EReal)) (eq_ix2 i)),
    fun i => (real_of_all _ _ _ _ _ _ e3 (fun _ => rfl) i).trans (congrArg (fun j => ((((m ((c : Thread nD τ).loc main_arg3) : S4096x6144.Idx → EReal) j).toReal : ℝ) : EReal)) (eq_ix2 i)),
    fun i => (real_of_all _ _ _ _ _ _ e4 (fun _ => rfl) i).trans (congrArg (fun j => ((((m ((c : Thread nD τ).loc main_arg4) : S1024x6144.Idx → EReal) j).toReal : ℝ) : EReal)) (eq_ix2 i)),
    fun i => (real_of_all _ _ _ _ _ _ e5 (fun _ => rfl) i).trans (congrArg (fun j => ((((m ((c : Thread nD τ).loc main_arg5) : S1024.Idx → EReal) j).toReal : ℝ) : EReal)) (eq_row i)),
    fun i => (real_of_all _ _ _ _ _ _ e6 (fun _ => rfl) i).trans (congrArg (fun j => ((((m ((c : Thread nD τ).loc main_arg6) : S1024.Idx → EReal) j).toReal : ℝ) : EReal)) (eq_row i)),
    fun i => (real_of_all _ _ _ _ _ _ e8 (fun _ => rfl) i).trans (congrArg (fun j => ((((m ((c : Thread nD τ).loc main_arg8) : S1024.Idx → EReal) j).toReal : ℝ) : EReal)) (eq_row i)),
    fun i => (real_of_all _ _ _ _ _ _ e9 (fun _ => rfl) i).trans (congrArg (fun j => ((((m ((c : Thread nD τ).loc main_arg9) : S1024.Idx → EReal) j).toReal : ℝ) : EReal)) (eq_row i))⟩

open Cert.ReferenceBIdeal.Read in
/-- The kernel's seven results and the reference's are the same arrays of real numbers. -/
theorem algebraic : Cert.algebraic_KernelBIdeal_ReferenceBIdeal_pre_finite_b (hKernelBIdeal := Cert.KernelBIdeal.Gen.facts)
    (hReferenceBIdeal := Cert.ReferenceBIdeal.Gen.facts) (hPre_finite_b := Cert.Pre_finite_b.Gen.facts) := by
  intro m g m' g' hpre hag
  refine ⟨fun c i => (((dataOf m c).dx1 (i 0) (i 1) : ℝ) : EReal), fun c i => (((dataOf m c).dy (i 0) (i 1) : ℝ) : EReal), fun c i => (((dataOf m c).dsh (i 1) : ℝ) : EReal),
    fun c i => (((dataOf m c).dsc (i 1) : ℝ) : EReal), fun c i => (((dataOf m c).dg (i 1) : ℝ) : EReal), fun c i => (((dataOf m c).dgt (i 1) : ℝ) : EReal),
    fun c i => (((dataOf m c).dgp (i 1) : ℝ) : EReal), ?_, ?_⟩
  · refine (θ_run Cert.KernelBIdeal.defs _ _).mono (fun r h c => ?_) (Cert.KernelBIdeal.Value.run_blocks (F := Ideal) m g)
    have H := holds m hpre c
    exact ⟨(h c).1.trans (arr10 H), (h c).2.1.trans (arr11 H), (h c).2.2.1.trans (arr12 H), (h c).2.2.2.1.trans (arr13 H), (h c).2.2.2.2.1.trans (arr14 H), (h c).2.2.2.2.2.1.trans (arr15 H), (h c).2.2.2.2.2.2.1.trans (arr16 H), (h c).2.2.2.2.2.2.2⟩
  · refine (θ_run Cert.ReferenceBIdeal.defs _ _).mono (fun r h c => ?_) (Cert.ReferenceBIdeal.Value.run (F := Ideal) m' g')
    have H := holds m hpre c
    have H' : Holds (dataOf m c) (m' ((c.tc : Thread Cert.ReferenceBIdeal.nD Cert.ReferenceBIdeal.τ).loc Cert.ReferenceBIdeal.main_arg0)) (m' ((c.tc : Thread Cert.ReferenceBIdeal.nD Cert.ReferenceBIdeal.τ).loc Cert.ReferenceBIdeal.main_arg1)) (m' ((c.tc : Thread Cert.ReferenceBIdeal.nD Cert.ReferenceBIdeal.τ).loc Cert.ReferenceBIdeal.main_arg2)) (m' ((c.tc : Thread Cert.ReferenceBIdeal.nD Cert.ReferenceBIdeal.τ).loc Cert.ReferenceBIdeal.main_arg3)) (m' ((c.tc : Thread Cert.ReferenceBIdeal.nD Cert.ReferenceBIdeal.τ).loc Cert.ReferenceBIdeal.main_arg4)) (m' ((c.tc : Thread Cert.ReferenceBIdeal.nD Cert.ReferenceBIdeal.τ).loc Cert.ReferenceBIdeal.main_arg5)) (m' ((c.tc : Thread Cert.ReferenceBIdeal.nD Cert.ReferenceBIdeal.τ).loc Cert.ReferenceBIdeal.main_arg6)) (m' ((c.tc : Thread Cert.ReferenceBIdeal.nD Cert.ReferenceBIdeal.τ).loc Cert.ReferenceBIdeal.main_arg8)) (m' ((c.tc : Thread Cert.ReferenceBIdeal.nD Cert.ReferenceBIdeal.τ).loc Cert.ReferenceBIdeal.main_arg9)) :=
      ⟨fun i => (congrFun ((hag c).1) i).trans (H.h0 i), fun i => (congrFun ((hag c).2.1) i).trans (H.h1 i), fun i => (congrFun ((hag c).2.2.1) i).trans (H.h2 i), fun i => (congrFun ((hag c).2.2.2.1) i).trans (H.h3 i), fun i => (congrFun ((hag c).2.2.2.2.1) i).trans (H.h4 i), fun i => (congrFun ((hag c).2.2.2.2.2.1) i).trans (H.h5 i), fun i => (congrFun ((hag c).2.2.2.2.2.2.1) i).trans (H.h6 i), fun i => (congrFun ((hag c).2.2.2.2.2.2.2.2.1) i).trans (H.h8 i), fun i => (congrFun ((hag c).2.2.2.2.2.2.2.2.2) i).trans (H.h9 i)⟩
    exact ⟨(h c).1.trans ((val_main_v75_eq (F := Ideal) m' c).trans (funext fun i => ref75 (dataOf m c) H'.h0 H'.h1 H'.h2 H'.h3 H'.h4 H'.h5 H'.h6 H'.h8 H'.h9 i)),
      (h c).2.1.trans ((val_main_v103_eq (F := Ideal) m' c).trans (funext fun i => ref103 (dataOf m c) H'.h0 H'.h1 H'.h2 H'.h3 H'.h4 H'.h5 H'.h6 H'.h8 H'.h9 i)),
      (h c).2.2.1.trans ((val_main_v104_eq (F := Ideal) _ _).trans (funext fun i => ref104 (dataOf m c) H'.h3 H'.h4 i)),
      (h c).2.2.2.1.trans ((val_main_v105_eq (F := Ideal) _ _ _ _ _ _ _).trans (funext fun i => ref105 (dataOf m c) H'.h0 H'.h1 H'.h3 H'.h4 H'.h5 H'.h8 H'.h9 i)),
      (h c).2.2.2.2.1.trans ((val_main_v106_eq (F := Ideal) _ _ _ _ _ _ _).trans (funext fun i => ref106 (dataOf m c) H'.h0 H'.h1 H'.h3 H'.h4 H'.h6 H'.h8 H'.h9 i)),
      (h c).2.2.2.2.2.1.trans ((val_main_v107_eq (F := Ideal) m' c).trans (funext fun i => ref107 (dataOf m c) H'.h0 H'.h1 H'.h2 H'.h3 H'.h4 H'.h5 H'.h6 H'.h8 H'.h9 i)),
      (h c).2.2.2.2.2.2.1.trans ((val_main_v108_eq (F := Ideal) m' c).trans (funext fun i => ref108 (dataOf m c) H'.h0 H'.h1 H'.h2 H'.h3 H'.h4 H'.h5 H'.h6 H'.h8 H'.h9 i)), (h c).2.2.2.2.2.2.2⟩

end Cert.Proof.FfnB
-- ==== Proof.FfnFModel.lean ====
/- The feed-forward block's forward pass and the gradient of the loss at its output, over the real numbers: what both
   programs compute on finite arguments. Rows are the 4096 positions. -/
module

public import proofs.«01_k».proof.Proof.Lift
public import Mathlib.Analysis.SpecialFunctions.Trigonometric.Basic

@[expose] public section

noncomputable section

namespace Cert.Proof.FfnF

open Cert.Proof.Lift Idealize.ShloMosaic

/-- The two constants of the gelu's formula, as the programs hold them. -/
def gc0 : ℝ := 13386282 * (2 : ℝ) ^ (-24 : ℤ)
def gc1 : ℝ := 12003091 * (2 : ℝ) ^ (-28 : ℤ)

theorem ofBits_gc0 : Ideal.ofBits .f32 0x3F4C422A#32 = (gc0 : EReal) := by
  unfold gc0
  simp [Ideal.ofBits, Ideal.ieee]

theorem ofBits_gc1 : Ideal.ofBits .f32 0x3D372713#32 = (gc1 : EReal) := by
  unfold gc1
  simp [Ideal.ofBits, Ideal.ieee]

theorem ofBits_half : Ideal.ofBits .f32 0x3F000000#32 = ((1 / 2 : ℝ) : EReal) := by
  simp [Ideal.ofBits, Ideal.ieee]
  rw [← EReal.coe_mul]
  norm_num

theorem ofBits_two : Ideal.ofBits .f32 0x40000000#32 = ((2 : ℝ) : EReal) := by
  simp [Ideal.ofBits, Ideal.ieee]
  rw [← EReal.coe_mul]
  norm_num

theorem ofBits_inv1024 : Ideal.ofBits .f32 0x3A800000#32 = ((1 / 1024 : ℝ) : EReal) := by
  simp [Ideal.ofBits, Ideal.ieee]
  rw [← EReal.coe_mul]
  norm_num

theorem ofBits_inv2048 : Ideal.ofBits .f32 0x3A000000#32 = ((1 / 2048 : ℝ) : EReal) := by
  simp [Ideal.ofBits, Ideal.ieee]
  rw [← EReal.coe_mul]
  norm_num

/-- The gelu, by its tanh formula. -/
def gelu (x : ℝ) : ℝ := 1 / 2 * x * (1 + Real.tanh (gc0 * (x + gc1 * x * x * x)))

theorem gelu_ref (x : ℝ) : x * (1 / 2 * (1 + Real.tanh (gc0 * (x + gc1 * (x * x * x))))) = gelu x := by
  unfold gelu
  rw [show gc1 * (x * x * x) = gc1 * x * x * x by ring]
  ring

/-- The gradient of a norm: `r` is the reciprocal root, `n` the normalised row, `g` the gradient that arrives. -/
def back (r : ℝ) (n g : Fin 1024 → ℝ) (d : Fin 1024) : ℝ := r * (g d - n d * ((∑ k, g k * n k) / 1024))

/-- Column `j` of the gate half, and of the value half. -/
def gcol (j : Fin 3072) : Fin 6144 := ⟨j.val, by omega⟩
def vcol (j : Fin 3072) : Fin 6144 := ⟨3072 + j.val, by omega⟩

/-- The arguments, all finite: the normed input, the block's input, the target, the two products' weights, the
    convolution's taps and bias, the gate and the last norm's scale. -/
structure Data where
  h : Fin 4096 → Fin 1024 → ℝ
  x1 : Fin 4096 → Fin 1024 → ℝ
  tg : Fin 4096 → Fin 1024 → ℝ
  wu : Fin 1024 → Fin 6144 → ℝ
  wd : Fin 3072 → Fin 1024 → ℝ
  fw : Fin 3 → Fin 6144 → ℝ
  fb : Fin 6144 → ℝ
  gt : Fin 1024 → ℝ
  gp : Fin 1024 → ℝ

namespace Data
variable (A : Data)

/-- The first product. -/
def up (s : Fin 4096) (c : Fin 6144) : ℝ := ∑ k, A.h s k * A.wu k c
/-- The first product `k` positions earlier, zero before the first position. -/
def sh (k : ℕ) (s : Fin 4096) (c : Fin 6144) : ℝ := if k ≤ s.val then A.up ⟨s.val - k, by omega⟩ c else 0
/-- The causal convolution of width three. -/
def pre (s : Fin 4096) (c : Fin 6144) : ℝ := A.fw 2 c * A.up s c + A.fw 1 c * A.sh 1 s c + A.fw 0 c * A.sh 2 s c + A.fb c
/-- The gated activation. -/
def act (s : Fin 4096) (j : Fin 3072) : ℝ := gelu (A.pre s (gcol j)) * A.pre s (vcol j)
/-- The second product, and its normed value. -/
def y (s : Fin 4096) (d : Fin 1024) : ℝ := ∑ j, A.act s j * A.wd j d
def yn (s : Fin 4096) (d : Fin 1024) : ℝ := A.y s d * rinv (A.y s)
/-- The difference to the target. -/
def e (s : Fin 4096) (d : Fin 1024) : ℝ := A.x1 s d + A.gt d * (A.yn s d * A.gp d) - A.tg s d
/-- The loss. -/
def loss : ℝ := ∑ s, (∑ d, A.e s d * A.e s d) * (1 / 2048)
/-- The gradient at the block's output. -/
def dx (s : Fin 4096) (d : Fin 1024) : ℝ := A.e s d * (1 / 1024)
/-- The gradient at the gated norm, and at the second product. -/
def dyn (s : Fin 4096) (d : Fin 1024) : ℝ := A.dx s d * A.gt d
def dy (s : Fin 4096) (d : Fin 1024) : ℝ := back (rinv (A.y s)) (A.yn s) (fun k => A.dyn s k * A.gp k) d
/-- The gate's and the norm's gradients. -/
def dgt (d : Fin 1024) : ℝ := ∑ s, A.dx s d * (A.yn s d * A.gp d)
def dgp (d : Fin 1024) : ℝ := ∑ s, A.dyn s d * A.yn s d

end Data

end Cert.Proof.FfnF
-- ==== Proof.FfnAModel.lean ====
/- The backward pass of the feed-forward block's gate and convolution, over the real numbers: what both programs compute on
   finite arguments. Rows are the 4096 positions. -/
module

public import proofs.«01_k».proof.Proof.FfnFModel
public import Mathlib.Analysis.SpecialFunctions.Trigonometric.DerivHyp

@[expose] public section

noncomputable section

namespace Cert.Proof.FfnA

open Cert.Proof.Lift Cert.Proof.FfnF Idealize.ShloMosaic

/-- The two constants of the kernel's gelu, exact products of the formula's two constants. -/
def kc : ℝ := 2 * gc0 * gc1
def ks : ℝ := 6 * gc0 * gc1

theorem ofBits_2gc0 : Ideal.ofBits .f32 0x3FCC422A#32 = ((2 * gc0 : ℝ) : EReal) := by
  rw [show 2 * gc0 = 13386282 * (2 : ℝ) ^ (-23 : ℤ) by unfold gc0; norm_num]
  simp [Ideal.ofBits, Ideal.ieee]

theorem ofBits_three : Ideal.ofBits .f32 0x40400000#32 = ((3 : ℝ) : EReal) := by
  simp [Ideal.ofBits, Ideal.ieee]
  rw [← EReal.coe_mul]
  norm_num

/-- The logistic weight of the gelu, and the gelu's derivative, as the kernel computes them. -/
def sg (x : ℝ) : ℝ := 1 / (1 + Real.exp (0 - x * (kc * (x * x) + 2 * gc0)))
def dgelu (x : ℝ) : ℝ := sg x + x * sg x * (1 - sg x) * (ks * (x * x) + 2 * gc0)

theorem sg_den (z : ℝ) : 1 + Real.exp z ≠ 0 := by have := Real.exp_pos z; positivity

/-- The logistic weight by the hyperbolic tangent of the gelu's formula. -/
theorem sg_tanh (x : ℝ) : sg x = 1 / 2 * (1 + Real.tanh (gc0 * (x + gc1 * (x * x * x)))) := by
  unfold sg kc
  rw [show 0 - x * (2 * gc0 * gc1 * (x * x) + 2 * gc0) = -(gc0 * (x + gc1 * (x * x * x))) + -(gc0 * (x + gc1 * (x * x * x))) by ring]
  generalize gc0 * (x + gc1 * (x * x * x)) = u
  rw [Real.exp_add, Real.tanh_eq_sinh_div_cosh, Real.sinh_eq, Real.cosh_eq, Real.exp_neg]
  have h := Real.exp_pos u
  field_simp
  ring

/-- The derivative as the reference's reverse pass computes it. -/
theorem dgelu_ref (d v x : ℝ) :
    d * v * (1 / 2 * (1 + Real.tanh (gc0 * (x + gc1 * (x * x * x)))))
      + gc0 * (1 / 2 * (x * (d * v)) * ((1 + Real.tanh (gc0 * (x + gc1 * (x * x * x)))) * (1 - Real.tanh (gc0 * (x + gc1 * (x * x * x))))))
      + gc1 * (gc0 * (1 / 2 * (x * (d * v)) * ((1 + Real.tanh (gc0 * (x + gc1 * (x * x * x)))) * (1 - Real.tanh (gc0 * (x + gc1 * (x * x * x)))))))
        * (3 * (x * x)) = d * v * dgelu x := by
  unfold dgelu ks
  rw [sg_tanh]
  ring

/-- The arguments, all finite: the up projection, the convolution's taps and bias, the down projection's weights and the
    gradient at its output. -/
structure Data where
  u : Fin 4096 → Fin 6144 → ℝ
  fw : Fin 3 → Fin 6144 → ℝ
  fb : Fin 6144 → ℝ
  wd : Fin 3072 → Fin 1024 → ℝ
  dy : Fin 4096 → Fin 1024 → ℝ

namespace Data
variable (A : Data)

/-- The up projection `k` positions earlier, zero before the first position. -/
def sh (k : ℕ) (s : Fin 4096) (c : Fin 6144) : ℝ := if k ≤ s.val then A.u ⟨s.val - k, by omega⟩ c else 0
/-- The causal convolution of width three. -/
def pre (s : Fin 4096) (c : Fin 6144) : ℝ := A.fw 2 c * A.u s c + A.fw 1 c * A.sh 1 s c + A.fw 0 c * A.sh 2 s c + A.fb c
/-- The gradient at the gated activation. -/
def dact (s : Fin 4096) (j : Fin 3072) : ℝ := ∑ d, A.dy s d * A.wd j d
/-- The gradient at the gate's half and at the value's half of the convolution. -/
def dg (s : Fin 4096) (j : Fin 3072) : ℝ := A.dact s j * A.pre s (vcol j) * dgelu (A.pre s (gcol j))
def dv (s : Fin 4096) (j : Fin 3072) : ℝ := A.dact s j * (A.pre s (gcol j) * sg (A.pre s (gcol j)))
def dp (s : Fin 4096) (c : Fin 6144) : ℝ := if h : c.val < 3072 then A.dg s ⟨c.val, h⟩ else A.dv s ⟨c.val - 3072, by omega⟩
/-- The same, `k` positions later, zero after the last position. -/
def su (k : ℕ) (s : Fin 4096) (c : Fin 6144) : ℝ := if h : s.val + k < 4096 then A.dp ⟨s.val + k, h⟩ c else 0
/-- The gradients of the convolution's input, taps and bias. -/
def dup (s : Fin 4096) (c : Fin 6144) : ℝ := A.fw 2 c * A.dp s c + A.fw 1 c * A.su 1 s c + A.fw 0 c * A.su 2 s c
def dfw (k : Fin 3) (c : Fin 6144) : ℝ := ∑ s, A.su (2 - k.val) s c * A.u s c
def dfb (c : Fin 6144) : ℝ := ∑ s, A.dp s c

theorem su_zero (s : Fin 4096) (c : Fin 6144) : A.su 0 s c = A.dp s c := dif_pos s.isLt

theorem dp_gate (s : Fin 4096) (j : Fin 3072) : A.dp s (gcol j) = A.dg s j := dif_pos j.isLt

theorem dp_value (s : Fin 4096) (j : Fin 3072) : A.dp s (vcol j) = A.dv s j := by
  unfold dp
  rw [dif_neg (show ¬(vcol j).val < 3072 from Nat.not_lt.2 (Nat.le_add_right _ _))]
  exact congrArg (A.dv s) (Fin.ext (Nat.add_sub_cancel_left _ _))

end Data

/-- Shifting one factor later is shifting the other earlier. -/
theorem shift_sum (k : ℕ) (f g : Fin 4096 → ℝ) :
    ∑ s : Fin 4096, (if k ≤ s.val then f ⟨s.val - k, by omega⟩ else 0) * g s
      = ∑ s : Fin 4096, (if h : s.val + k < 4096 then g ⟨s.val + k, h⟩ else 0) * f s := by
  have l : ∀ s : Fin 4096, (if k ≤ s.val then f ⟨s.val - k, by omega⟩ else 0) * g s = ∑ t : Fin 4096, if t.val + k = s.val then f t * g s else 0 := by
    intro s
    by_cases h : k ≤ s.val
    · rw [if_pos h, Finset.sum_eq_single (⟨s.val - k, by omega⟩ : Fin 4096) (fun t _ ht => if_neg fun e => ht (Fin.ext (by show t.val = s.val - k; omega)))
        (fun e => absurd (Finset.mem_univ _) e), if_pos (show s.val - k + k = s.val by omega)]
    · rw [if_neg h, zero_mul]
      exact (Finset.sum_eq_zero fun t _ => if_neg (by omega)).symm
  have r : ∀ t : Fin 4096, (if h : t.val + k < 4096 then g ⟨t.val + k, h⟩ else 0) * f t = ∑ s : Fin 4096, if t.val + k = s.val then f t * g s else 0 := by
    intro t
    by_cases h : t.val + k < 4096
    · rw [dif_pos h, Finset.sum_eq_single (⟨t.val + k, h⟩ : Fin 4096) (fun s _ hs => if_neg fun e => hs (Fin.ext e.symm))
        (fun e => absurd (Finset.mem_univ _) e), if_pos rfl, mul_comm]
    · rw [dif_neg h, zero_mul]
      exact (Finset.sum_eq_zero fun s _ => if_neg (by have := s.isLt; omega)).symm
  simp only [l, r]
  exact Finset.sum_comm

theorem dfw_eq (A : Data) (k : ℕ) (c : Fin 6144) : ∑ s, A.sh k s c * A.dp s c = ∑ s, A.su k s c * A.u s c :=
  shift_sum k (fun s => A.u s c) (fun s => A.dp s c)

end Cert.Proof.FfnA
-- ==== Proof.FfnAPay.lean ====
/- What the gate's backward call stores at a grid point, on finite arguments: each stored value is the embedding of the
   model's value at the point's rows. -/
module

public import proofs.«01_k».proof.Proof.Gen.KernelAIdeal.Skeleton
public import proofs.«01_k».proof.Proof.FfnAModel
public import Idealize.ShloMosaic.Lib.Pointwise

@[expose] public section

noncomputable section

namespace Cert.Proof.FfnA

open Cert.KernelAIdeal Cert.KernelAIdeal.Gen Idealize.ShloMosaic Cert.Proof.Lift Cert.Proof.FfnF

theorem ofBits_zero' : Ideal.ofBits .f32 0x00000000#32 = (0 : EReal) := ofBits_zero

theorem kappa_cubic : (Named.named κ "gate_cubic" (0x3D922279#32 : BitVec (FTy.bits .f32)) : Ideal .f32) = ((kc : ℝ) : EReal) := by
  show ((80338380498831 / 1125899906842624 : ℝ) : EReal) = _
  refine congrArg _ ?_
  unfold kc gc0 gc1
  norm_num

theorem kappa_slope : (Named.named κ "gate_slope" (0x3E5B33B6#32 : BitVec (FTy.bits .f32)) : Ideal .f32) = ((ks : ℝ) : EReal) := by
  show ((241015141496493 / 1125899906842624 : ℝ) : EReal) = _
  refine congrArg _ ?_
  unfold ks gc0 gc1
  norm_num

/-- Row `r` of block `n`. -/
def rw_ (n : Fin 16) (r : Fin 256) : Fin 4096 := ⟨n.val * 256 + r.val, by omega⟩

/-- The first eight rows of the gradient after block `n`: zero after the last position. -/
def Data.nx (A : Data) (n : Fin 16) (i : Fin 8) (c : Fin 6144) : ℝ :=
  if h : n.val = 15 then 0 else A.dp ⟨n.val * 256 + 256 + i.val, by omega⟩ c

/-- A row `k` positions later comes from the block's own rows, or from the eight rows after them. -/
theorem su_row (A : Data) (n : Fin 16) (k : ℕ) (r : Fin 256) (h : r.val + k < 256) (c : Fin 6144) :
    A.dp (rw_ n ⟨r.val + k, h⟩) c = A.su k (rw_ n r) c := by
  unfold Data.su rw_
  rw [dif_pos (show n.val * 256 + r.val + k < 4096 by omega)]
  exact congrArg (fun s => A.dp s c) (Fin.ext (show n.val * 256 + (r.val + k) = n.val * 256 + r.val + k by omega))

theorem su_next (A : Data) (n : Fin 16) (k : ℕ) (r : Fin 256) (h : 256 ≤ r.val + k) (hk : r.val + k - 256 < 8) (c : Fin 6144) :
    A.nx n ⟨r.val + k - 256, hk⟩ c = A.su k (rw_ n r) c := by
  unfold Data.nx Data.su rw_
  by_cases h15 : n.val = 15
  · rw [dif_pos h15, dif_neg (by simp only [h15]; omega)]
  · rw [dif_neg h15, dif_pos (show n.val * 256 + r.val + k < 4096 by omega)]
    exact congrArg (fun s => A.dp s c) (Fin.ext (show n.val * 256 + 256 + (r.val + k - 256) = n.val * 256 + r.val + k by omega))

/-- A sum against the matrix with ones `k` above the diagonal. -/
theorem eye_sum (k : ℕ) (r : Fin 256) (f : Fin 256 → ℝ) :
    ∑ b : Fin 256, (if r.val + k = b.val then (1 : ℝ) else 0) * f b = if h : r.val + k < 256 then f ⟨r.val + k, h⟩ else 0 := by
  by_cases h : r.val + k < 256
  · rw [dif_pos h, Finset.sum_eq_single (⟨r.val + k, h⟩ : Fin 256) (fun b _ hb => by rw [if_neg (fun e => hb (Fin.ext e.symm)), zero_mul])
      (fun e => absurd (Finset.mem_univ _) e), if_pos rfl, one_mul]
  · rw [dif_neg h]
    exact Finset.sum_eq_zero fun b _ => by rw [if_neg (by have := b.isLt; omega), zero_mul]

variable {A : Data} {n : Fin 16}

section Act
variable {dy : Vec Ideal S256x1024 .bf16} {w : Vec Ideal S768x1024 .bf16} {pg pv : Vec Ideal S256x768 .bf16} {jc : Fin 768 → Fin 3072}
  (hd : ∀ r d, dy (ix2 r d) = ((A.dy (rw_ n r) d : ℝ) : EReal)) (hw : ∀ q d, w (ix2 q d) = ((A.wd (jc q) d : ℝ) : EReal))
  (hg : ∀ r q, pg (ix2 r q) = ((A.pre (rw_ n r) (gcol (jc q)) : ℝ) : EReal)) (hv : ∀ r q, pv (ix2 r q) = ((A.pre (rw_ n r) (vcol (jc q)) : ℝ) : EReal))

include hd hw in
set_option maxRecDepth 16384 in
/-- A column chunk of the gradient at the gated activation. -/
theorem pay6 (r : Fin 256) (q : Fin 768) : k0_pay6 (F := Ideal) dy w (ix2 r q) = ((A.dact (rw_ n r) (jc q) : ℝ) : EReal) := by
  pointwise [k0_pay6, k0_pay5]
  simp only [hd, hw, ofBits_zero', ofBits_one, ofBits_2gc0, ← EReal.coe_one, ← EReal.coe_mul, ← EReal.coe_add, ← EReal.coe_sub, sum_coe]
  rfl

include hg in
theorem pay7 (r : Fin 256) (q : Fin 768) : k0_pay7 (F := Ideal) pg (ix2 r q) = ((A.pre (rw_ n r) (gcol (jc q)) : ℝ) : EReal) := by
  pointwise [k0_pay7]
  exact hg r q

include hg in
theorem pay8 (r : Fin 256) (q : Fin 768) : k0_pay8 (F := Ideal) pg (ix2 r q)
    = ((A.pre (rw_ n r) (gcol (jc q)) * A.pre (rw_ n r) (gcol (jc q)) : ℝ) : EReal) := by
  pointwise [k0_pay8]
  simp only [pay7 hg, ofBits_zero', ofBits_one, ofBits_2gc0, ← EReal.coe_one, ← EReal.coe_mul, ← EReal.coe_add, ← EReal.coe_sub, sum_coe]

include hg in
set_option maxRecDepth 16384 in
/-- The logistic weight. -/
theorem pay9 (r : Fin 256) (q : Fin 768) : k0_pay9 (F := Ideal) pg (ix2 r q) = ((sg (A.pre (rw_ n r) (gcol (jc q))) : ℝ) : EReal) := by
  pointwise [k0_pay9]
  simp only [kappa_cubic, pay7 hg, pay8 hg, ofBits_zero', ofBits_one, ofBits_2gc0, ← EReal.coe_one, ← EReal.coe_mul, ← EReal.coe_add, ← EReal.coe_sub, sum_coe, ← EReal.coe_zero, Ideal.subf_def, Ideal.exp_coe]
  rw [Ideal.div_coe (sg_den _), ← EReal.coe_mul, one_mul]
  rfl

include hg in
theorem pay10 (r : Fin 256) (q : Fin 768) : k0_pay10 (F := Ideal) pg (ix2 r q)
    = ((A.pre (rw_ n r) (gcol (jc q)) * sg (A.pre (rw_ n r) (gcol (jc q))) : ℝ) : EReal) := by
  pointwise [k0_pay10]
  simp only [pay7 hg, pay9 hg, ofBits_zero', ofBits_one, ofBits_2gc0, ← EReal.coe_one, ← EReal.coe_mul, ← EReal.coe_add, ← EReal.coe_sub, sum_coe]

include hd hw hg hv in
set_option maxRecDepth 16384 in
/-- A column chunk of the gradient at the gate. -/
theorem pay11 (r : Fin 256) (q : Fin 768) : k0_pay11 (F := Ideal) dy w pg pv (ix2 r q) = ((A.dp (rw_ n r) (gcol (jc q)) : ℝ) : EReal) := by
  rw [Data.dp_gate]
  pointwise [k0_pay11]
  simp only [kappa_slope, pay6 hd hw, pay8 hg, pay9 hg, pay10 hg, hv, ofBits_zero', ofBits_one, ofBits_2gc0, ← EReal.coe_one, ← EReal.coe_mul, ← EReal.coe_add, ← EReal.coe_sub, sum_coe, Ideal.subf_def]
  rfl

include hd hw hg in
/-- A column chunk of the gradient at the value. -/
theorem pay12 (r : Fin 256) (q : Fin 768) : k0_pay12 (F := Ideal) (k0_pay6 dy w) (k0_pay10 pg) (ix2 r q) = ((A.dp (rw_ n r) (vcol (jc q)) : ℝ) : EReal) := by
  rw [Data.dp_value]
  pointwise [k0_pay12]
  simp only [pay6 hd hw, pay10 hg, ofBits_zero', ofBits_one, ofBits_2gc0, ← EReal.coe_one, ← EReal.coe_mul, ← EReal.coe_add, ← EReal.coe_sub, sum_coe]
  rfl

end Act

section Conv
variable {p : FVec Ideal S256x768 .f32} {nx : Vec Ideal S8x768 .f32} {u1 u2 : Vec Ideal S1x256x256 .bf16} {u : Vec Ideal S256x768 .bf16}
  {f2 f1 f0 ac : Vec Ideal S1x768 .f32} {col : Fin 768 → Fin 6144} {C : Fin 768 → ℝ}
  (hp : ∀ r q, p (ix2 r q) = ((A.dp (rw_ n r) (col q) : ℝ) : EReal)) (hn : ∀ i q, nx (ix2 i q) = ((A.nx n i (col q) : ℝ) : EReal))
  (hu1 : ∀ a b, u1 (ix3 0 a b) = (((if a.val + 1 = b.val then 1 else 0 : ℝ)) : EReal)) (hu2 : ∀ a b, u2 (ix3 0 a b) = (((if a.val + 2 = b.val then 1 else 0 : ℝ)) : EReal))
  (hu : ∀ r q, u (ix2 r q) = ((A.u (rw_ n r) (col q) : ℝ) : EReal)) (hc : ∀ q, ac (ix2 0 q) = ((C q : ℝ) : EReal))
  (h2 : ∀ q, f2 (ix2 0 q) = ((A.fw 2 (col q) : ℝ) : EReal)) (h1 : ∀ q, f1 (ix2 0 q) = ((A.fw 1 (col q) : ℝ) : EReal))
  (h0 : ∀ q, f0 (ix2 0 q) = ((A.fw 0 (col q) : ℝ) : EReal))

include hp in
/-- The first eight rows of a column chunk, kept for the next grid point. -/
theorem pay14 (i : Fin 8) (q : Fin 768) : k0_pay14 (F := Ideal) p (ix2 i q) = ((A.dp (rw_ n ⟨i.val, by omega⟩) (col q) : ℝ) : EReal) := by
  pointwise [k0_pay14, k0_pay13]
  exact (congrArg (fun r => p (ix2 r q)) (Fin.ext (by first | rfl | exact Nat.zero_add _))).trans (hp _ q)

include hp hn hu1 in
set_option maxRecDepth 16384 in
/-- The shift by 1 rows: the rows after the block come from the kept eight. -/
theorem pay15 (r : Fin 256) (q : Fin 768) : k0_pay15 (F := Ideal) p nx u1 (ix2 r q) = ((A.su 1 (rw_ n r) (col q) : ℝ) : EReal) := by
  pointwise [k0_pay15, k0_pay13]
  have hs : ∀ i : Fin 8, IntOp.cmpi CmpIPredicate.sge (BitVec.ofNat 32 i.val) 7#32 = if 7 ≤ i.val then 1#1 else 0#1 := by decide
  by_cases h : r.val < 248
  · rw [dif_pos h]
    simp only [hu1, hp, ← EReal.coe_mul, sum_coe, eye_sum]
    rw [dif_pos (show r.val + 1 < 256 by omega), su_row]
  · rw [dif_neg h, hs ⟨r.val - 248, by omega⟩]
    have e : (⟨248 + (r.val - 248), by omega⟩ : Fin 256) = r := Fin.ext (by show 248 + (r.val - 248) = r.val; omega)
    simp only [e, hu1, hp, ← EReal.coe_mul, sum_coe, eye_sum]
    by_cases hk : r.val + 1 < 256
    · rw [dif_pos hk, if_neg (show ¬7 ≤ r.val - 248 by omega), su_row]
      exact add_zero _
    · rw [dif_neg hk, if_pos (show 7 ≤ r.val - 248 by omega), ← su_next A n 1 r (by omega) (by omega) (col q)]
      exact (congrArg (fun x => ((0 : ℝ) : EReal) + x) ((congrArg (fun i => nx (ix2 i q)) (Fin.ext (show (r.val - 248 + 8 - 7) % 8 = r.val + 1 - 256 by omega))).trans (hn _ q))).trans
        (by rw [← EReal.coe_add, zero_add])

include hp hn hu2 in
set_option maxRecDepth 16384 in
/-- The shift by 2 rows: the rows after the block come from the kept eight. -/
theorem pay16 (r : Fin 256) (q : Fin 768) : k0_pay16 (F := Ideal) p nx u2 (ix2 r q) = ((A.su 2 (rw_ n r) (col q) : ℝ) : EReal) := by
  pointwise [k0_pay16, k0_pay13]
  have hs : ∀ i : Fin 8, IntOp.cmpi CmpIPredicate.sge (BitVec.ofNat 32 i.val) 6#32 = if 6 ≤ i.val then 1#1 else 0#1 := by decide
  by_cases h : r.val < 248
  · rw [dif_pos h]
    simp only [hu2, hp, ← EReal.coe_mul, sum_coe, eye_sum]
    rw [dif_pos (show r.val + 2 < 256 by omega), su_row]
  · rw [dif_neg h, hs ⟨r.val - 248, by omega⟩]
    have e : (⟨248 + (r.val - 248), by omega⟩ : Fin 256) = r := Fin.ext (by show 248 + (r.val - 248) = r.val; omega)
    simp only [e, hu2, hp, ← EReal.coe_mul, sum_coe, eye_sum]
    by_cases hk : r.val + 2 < 256
    · rw [dif_pos hk, if_neg (show ¬6 ≤ r.val - 248 by omega), su_row]
      exact add_zero _
    · rw [dif_neg hk, if_pos (show 6 ≤ r.val - 248 by omega), ← su_next A n 2 r (by omega) (by omega) (col q)]
      exact (congrArg (fun x => ((0 : ℝ) : EReal) + x) ((congrArg (fun i => nx (ix2 i q)) (Fin.ext (show (r.val - 248 + 8 - 6) % 8 = r.val + 2 - 256 by omega))).trans (hn _ q))).trans
        (by rw [← EReal.coe_add, zero_add])

include hp hu hc in
set_option maxRecDepth 16384 in
/-- One more block of the last tap's gradient. -/
theorem pay19 (q : Fin 768) : k0_pay19 (F := Ideal) p (k0_pay17 u) ac (ix2 0 q) = ((C q + ∑ r, A.dp (rw_ n r) (col q) * A.u (rw_ n r) (col q) : ℝ) : EReal) := by
  pointwise [k0_pay19, k0_pay17]
  simp only [hp, hu, hc, ofBits_zero', ofBits_one, ofBits_2gc0, ← EReal.coe_one, ← EReal.coe_mul, ← EReal.coe_add, ← EReal.coe_sub, sum_coe]

include hp hc in
set_option maxRecDepth 16384 in
/-- One more block of the bias's gradient. -/
theorem pay18 (q : Fin 768) : k0_pay18 (F := Ideal) p ac (ix2 0 q) = ((C q + ∑ r, A.dp (rw_ n r) (col q) : ℝ) : EReal) := by
  pointwise [k0_pay18]
  simp only [hp, hc, ofBits_zero', ofBits_one, ofBits_2gc0, ← EReal.coe_one, ← EReal.coe_mul, ← EReal.coe_add, ← EReal.coe_sub, sum_coe]

include hp hn hu1 hu hc in
set_option maxRecDepth 16384 in
theorem pay20 (q : Fin 768) : k0_pay20 (F := Ideal) (k0_pay15 p nx u1) (k0_pay17 u) ac (ix2 0 q)
    = ((C q + ∑ r, A.su 1 (rw_ n r) (col q) * A.u (rw_ n r) (col q) : ℝ) : EReal) := by
  pointwise [k0_pay20, k0_pay17]
  simp only [pay15 hp hn hu1, hu, hc, ofBits_zero', ofBits_one, ofBits_2gc0, ← EReal.coe_one, ← EReal.coe_mul, ← EReal.coe_add, ← EReal.coe_sub, sum_coe]

include hp hn hu2 hu hc in
set_option maxRecDepth 16384 in
theorem pay21 (q : Fin 768) : k0_pay21 (F := Ideal) (k0_pay16 p nx u2) (k0_pay17 u) ac (ix2 0 q)
    = ((C q + ∑ r, A.su 2 (rw_ n r) (col q) * A.u (rw_ n r) (col q) : ℝ) : EReal) := by
  pointwise [k0_pay21, k0_pay17]
  simp only [pay16 hp hn hu2, hu, hc, ofBits_zero', ofBits_one, ofBits_2gc0, ← EReal.coe_one, ← EReal.coe_mul, ← EReal.coe_add, ← EReal.coe_sub, sum_coe]

include hp hn hu1 hu2 h2 h1 h0 in
set_option maxRecDepth 16384 in
/-- A column chunk of the gradient at the up projection. -/
theorem pay23 (r : Fin 256) (q : Fin 768) : k0_pay23 (F := Ideal) (k0_pay16 p nx u2) (k0_pay22 p (k0_pay15 p nx u1) f2 f1) f0 (ix2 r q)
    = ((A.dup (rw_ n r) (col q) : ℝ) : EReal) := by
  pointwise [k0_pay23, k0_pay22]
  simp only [hp, pay15 hp hn hu1, pay16 hp hn hu2, h2, h1, h0, ofBits_zero', ofBits_one, ofBits_2gc0, ← EReal.coe_one, ← EReal.coe_mul, ← EReal.coe_add, ← EReal.coe_sub, sum_coe]
  rfl

end Conv

end Cert.Proof.FfnA
-- ==== Proof.FfnATile.lean ====
/- The gate's backward call's tiles: each chunk of a grid point's blocks, on finite arguments, holds the model's values at the
   chunk's columns. -/
module

public import proofs.«01_k».proof.Proof.FfnAPay
public import Idealize.ShloMosaic.Lib.Pipeline.FrameBody
public import Idealize.ShloMosaic.Lib.Pipeline.ReadBack
public import Idealize.ShloMosaic.Lib.Pipeline.Value
public import Idealize.ShloMosaic.Lib.Pipeline.ValueKit.Tiles

@[expose] public section

noncomputable section

namespace Cert.Proof.FfnA

open Cert.KernelAIdeal Cert.KernelAIdeal.Gen Idealize.ShloMosaic Idealize.ShloMosaic.TcCoe Idealize.SL.Sem Cert.Proof.Lift Cert.Proof.FfnF

theorem hz2' : ∀ a, (![0, 0] : Fin 2 → Nat) a = 0 := fun a => by fin_cases a <;> rfl

theorem l0 : 0 + 768 ≤ 3072 := by decide
theorem l768 : 768 + 768 ≤ 3072 := by decide
theorem l1536 : 1536 + 768 ≤ 3072 := by decide
theorem l2304 : 2304 + 768 ≤ 3072 := by decide

/-- Column `q` of a chunk of the activation. -/
def jc (k : ℕ) (hk : k + 768 ≤ 3072) (q : Fin 768) : Fin 3072 := ⟨k + q.val, by omega⟩

/-- The columns of a chunk. -/
abbrev k0 (q : Fin 768) : Fin 6144 := gcol (jc 0 l0 q)
theorem hk0 (q : Fin 768) : (k0 q).val = 0 + q.val := rfl
abbrev k1 (q : Fin 768) : Fin 6144 := gcol (jc 768 l768 q)
theorem hk1 (q : Fin 768) : (k1 q).val = 768 + q.val := rfl
abbrev k2 (q : Fin 768) : Fin 6144 := gcol (jc 1536 l1536 q)
theorem hk2 (q : Fin 768) : (k2 q).val = 1536 + q.val := rfl
abbrev k3 (q : Fin 768) : Fin 6144 := gcol (jc 2304 l2304 q)
theorem hk3 (q : Fin 768) : (k3 q).val = 2304 + q.val := rfl
abbrev k4 (q : Fin 768) : Fin 6144 := vcol (jc 0 l0 q)
theorem hk4 (q : Fin 768) : (k4 q).val = 3072 + q.val := by show 3072 + (0 + q.val) = _; omega
abbrev k5 (q : Fin 768) : Fin 6144 := vcol (jc 768 l768 q)
theorem hk5 (q : Fin 768) : (k5 q).val = 3840 + q.val := by show 3072 + (768 + q.val) = _; omega
abbrev k6 (q : Fin 768) : Fin 6144 := vcol (jc 1536 l1536 q)
theorem hk6 (q : Fin 768) : (k6 q).val = 4608 + q.val := by show 3072 + (1536 + q.val) = _; omega
abbrev k7 (q : Fin 768) : Fin 6144 := vcol (jc 2304 l2304 q)
theorem hk7 (q : Fin 768) : (k7 q).val = 5376 + q.val := by show 3072 + (2304 + q.val) = _; omega
/-- One block's part of the gradient of a tap and of the bias. -/
def Data.dfwB (A : Data) (n : Fin 16) (k : Fin 3) (c : Fin 6144) : ℝ := ∑ r, A.su (2 - k.val) (rw_ n r) c * A.u (rw_ n r) c
def Data.dfbB (A : Data) (n : Fin 16) (c : Fin 6144) : ℝ := ∑ r, A.dp (rw_ n r) c

variable {A : Data} {n : Fin 16} {x0 : Vec Ideal S256x1024 .bf16} {x1 x2 : Vec Ideal S256x6144 .bf16} {x3 : Vec Ideal S3072x1024 .bf16}
  {x4 : Vec Ideal S3x6144 .f32} {x5 : Vec Ideal S2x256x256 .bf16} {xs : Vec Ideal S8x6144 .f32} {xo7 : Vec Ideal S3x6144 .f32} {xo8 : Vec Ideal S1x6144 .f32}
  {nx : Vec Ideal S8x768 .f32} {ac : Vec Ideal S1x768 .f32} {FW : Fin 3 → Fin 6144 → ℝ} {FB : Fin 6144 → ℝ} {C : Fin 768 → ℝ}
  (e0 : ∀ r d, x0 (ix2 r d) = ((A.dy (rw_ n r) d : ℝ) : EReal)) (e1 : ∀ r c, x1 (ix2 r c) = ((A.pre (rw_ n r) c : ℝ) : EReal))
  (e2 : ∀ r c, x2 (ix2 r c) = ((A.u (rw_ n r) c : ℝ) : EReal)) (e3 : ∀ j d, x3 (ix2 j d) = ((A.wd j d : ℝ) : EReal))
  (e4 : ∀ k c, x4 (ix2 k c) = ((A.fw k c : ℝ) : EReal))
  (e5 : ∀ (k : Fin 2) a b, x5 (ix3 k a b) = (((if a.val + (k.val + 1) = b.val then 1 else 0 : ℝ)) : EReal))
  (es : ∀ i c, xs (ix2 i c) = ((A.nx n i c : ℝ) : EReal))
  (e7 : ∀ k c, xo7 (ix2 k c) = ((FW k c : ℝ) : EReal)) (e8 : ∀ c, xo8 (ix2 0 c) = ((FB c : ℝ) : EReal))

include e0 in
theorem dyT (inb) (r : Fin 256) (d : Fin 1024) :
    (View.ld x0 (Rect.unit (s := S256x1024) ![0, 0] ![256, 1024] inb) : Vec Ideal S256x1024 .bf16) (ix2 r d) = ((A.dy (rw_ n r) d : ℝ) : EReal) :=
  (View.ld_unit_apply_of x0 ![0, 0] ![256, 1024] inb (ix2 r d) (ix2 r d) (fun a => match a with
    | ⟨0, _⟩ => (Nat.zero_add _).symm
    | ⟨1, _⟩ => (Nat.zero_add _).symm)).trans (e0 _ _)

include e3 in
theorem wdT {k : ℕ} (hk : k + 768 ≤ 3072) (inb) (q : Fin 768) (d : Fin 1024) :
    (View.ld x3 (Rect.unit (s := S3072x1024) ![k, 0] ![768, 1024] inb) : Vec Ideal S768x1024 .bf16) (ix2 q d) = ((A.wd (jc k hk q) d : ℝ) : EReal) :=
  (View.ld_unit_apply_of x3 ![k, 0] ![768, 1024] inb (ix2 q d) (ix2 (jc k hk q) d) (fun a => match a with
    | ⟨0, _⟩ => rfl
    | ⟨1, _⟩ => (Nat.zero_add _).symm)).trans (e3 _ _)

include e1 in
theorem preT {c : ℕ} {col : Fin 768 → Fin 6144} (hcol : ∀ q, (col q).val = c + q.val) (inb) (i : Fin 256) (q : Fin 768) :
    (View.ld x1 (Rect.unit (s := S256x6144) ![0, c] ![256, 768] inb) : Vec Ideal S256x768 .bf16) (ix2 i q) = (((fun r c => A.pre (rw_ n r) c) i (col q) : ℝ) : EReal) :=
  (View.ld_unit_apply_of x1 ![0, c] ![256, 768] inb (ix2 i q) (ix2 i (col q)) (fun a => match a with
    | ⟨0, _⟩ => (Nat.zero_add _).symm
    | ⟨1, _⟩ => hcol q)).trans (e1 _ _)

include e2 in
theorem uT {c : ℕ} {col : Fin 768 → Fin 6144} (hcol : ∀ q, (col q).val = c + q.val) (inb) (i : Fin 256) (q : Fin 768) :
    (View.ld x2 (Rect.unit (s := S256x6144) ![0, c] ![256, 768] inb) : Vec Ideal S256x768 .bf16) (ix2 i q) = (((fun r c => A.u (rw_ n r) c) i (col q) : ℝ) : EReal) :=
  (View.ld_unit_apply_of x2 ![0, c] ![256, 768] inb (ix2 i q) (ix2 i (col q)) (fun a => match a with
    | ⟨0, _⟩ => (Nat.zero_add _).symm
    | ⟨1, _⟩ => hcol q)).trans (e2 _ _)

include es in
theorem nxT {c : ℕ} {col : Fin 768 → Fin 6144} (hcol : ∀ q, (col q).val = c + q.val) (inb) (i : Fin 8) (q : Fin 768) :
    (View.ld xs (Rect.unit (s := S8x6144) ![0, c] ![8, 768] inb) : Vec Ideal S8x768 .f32) (ix2 i q) = (((fun i c => A.nx n i c) i (col q) : ℝ) : EReal) :=
  (View.ld_unit_apply_of xs ![0, c] ![8, 768] inb (ix2 i q) (ix2 i (col q)) (fun a => match a with
    | ⟨0, _⟩ => (Nat.zero_add _).symm
    | ⟨1, _⟩ => hcol q)).trans (es _ _)

include e4 in
theorem tapT {c : ℕ} (k : Fin 3) {col : Fin 768 → Fin 6144} (hcol : ∀ q, (col q).val = c + q.val) (inb) (q : Fin 768) :
    (View.ld x4 (Rect.unit (s := S3x6144) ![k.val, c] ![1, 768] inb) : Vec Ideal S1x768 .f32) (ix2 0 q) = ((A.fw k (col q) : ℝ) : EReal) :=
  (View.ld_unit_apply_of x4 ![k.val, c] ![1, 768] inb (ix2 0 q) (ix2 k (col q)) (fun a => match a with
    | ⟨0, _⟩ => rfl
    | ⟨1, _⟩ => hcol q)).trans (e4 _ _)

include e7 in
theorem acT {c : ℕ} (k : Fin 3) {col : Fin 768 → Fin 6144} (hcol : ∀ q, (col q).val = c + q.val) (inb) (q : Fin 768) :
    (View.ld xo7 (Rect.unit (s := S3x6144) ![k.val, c] ![1, 768] inb) : Vec Ideal S1x768 .f32) (ix2 0 q) = ((FW k (col q) : ℝ) : EReal) :=
  (View.ld_unit_apply_of xo7 ![k.val, c] ![1, 768] inb (ix2 0 q) (ix2 k (col q)) (fun a => match a with
    | ⟨0, _⟩ => rfl
    | ⟨1, _⟩ => hcol q)).trans (e7 _ _)

include e8 in
theorem abT {c : ℕ} {col : Fin 768 → Fin 6144} (hcol : ∀ q, (col q).val = c + q.val) (inb) (q : Fin 768) :
    (View.ld xo8 (Rect.unit (s := S1x6144) ![0, c] ![1, 768] inb) : Vec Ideal S1x768 .f32) (ix2 0 q) = ((FB (col q) : ℝ) : EReal) :=
  (View.ld_unit_apply_of xo8 ![0, c] ![1, 768] inb (ix2 0 q) (ix2 0 (col q)) (fun a => match a with
    | ⟨0, _⟩ => rfl
    | ⟨1, _⟩ => hcol q)).trans (e8 _)

/-- The zero fills. -/
theorem zeroNx (h15 : n.val = 15) (i : Fin 8) (c : Fin 6144) : (k0_pay2 (F := Ideal)) (ix2 i c) = ((A.nx n i c : ℝ) : EReal) := by
  unfold Data.nx
  rw [dif_pos h15]
  pointwise [k0_pay2]
  exact EReal.coe_zero.symm
theorem zeroFw (k : Fin 3) (c : Fin 6144) : (k0_pay3 (F := Ideal)) (ix2 k c) = (((fun _ _ => 0 : Fin 3 → Fin 6144 → ℝ) k c : ℝ) : EReal) := by
  pointwise [k0_pay3]
  exact EReal.coe_zero.symm
theorem zeroFb (c : Fin 6144) : (k0_pay4 (F := Ideal)) (ix2 0 c) = (((fun _ => 0 : Fin 6144 → ℝ) c : ℝ) : EReal) := by
  pointwise [k0_pay4]
  exact EReal.coe_zero.symm

/-- The two shift matrices. -/
abbrev um1 (x5 : Vec Ideal S2x256x256 .bf16) : Vec Ideal S1x256x256 .bf16 := View.ld x5 (Rect.unit (s := S2x256x256) ![0, 0, 0] ![1, 256, 256] inb_S2x256x256_S1x256x256_0_0_0)
abbrev um2 (x5 : Vec Ideal S2x256x256 .bf16) : Vec Ideal S1x256x256 .bf16 := View.ld x5 (Rect.unit (s := S2x256x256) ![1, 0, 0] ![1, 256, 256] inb_S2x256x256_S1x256x256_1_0_0)

include e5 in
theorem um1T (a b : Fin 256) : um1 x5 (ix3 0 a b) = (((if a.val + 1 = b.val then 1 else 0 : ℝ)) : EReal) :=
  (View.ld_unit_apply_of x5 ![0, 0, 0] ![1, 256, 256] inb_S2x256x256_S1x256x256_0_0_0 (ix3 0 a b) (ix3 0 a b) (fun a => match a with
    | ⟨0, _⟩ => rfl
    | ⟨1, _⟩ => (Nat.zero_add _).symm
    | ⟨2, _⟩ => (Nat.zero_add _).symm)).trans (e5 0 a b)
include e5 in
theorem um2T (a b : Fin 256) : um2 x5 (ix3 0 a b) = (((if a.val + 2 = b.val then 1 else 0 : ℝ)) : EReal) :=
  (View.ld_unit_apply_of x5 ![1, 0, 0] ![1, 256, 256] inb_S2x256x256_S1x256x256_1_0_0 (ix3 0 a b) (ix3 1 a b) (fun a => match a with
    | ⟨0, _⟩ => rfl
    | ⟨1, _⟩ => (Nat.zero_add _).symm
    | ⟨2, _⟩ => (Nat.zero_add _).symm)).trans (e5 1 a b)

/-! The chunks by name: the gradient at the convolution, its tap and bias sums, and the gradient at the up projection. -/
abbrev p0 (x0 : Vec Ideal S256x1024 .bf16) (x1 : Vec Ideal S256x6144 .bf16) (x3 : Vec Ideal S3072x1024 .bf16) := k0_pay11 (F := Ideal) (View.ld x0 (Rect.unit (s := S256x1024) ![0, 0] ![256, 1024] inb_S256x1024_S256x1024_0_0)) (View.ld x3 (Rect.unit (s := S3072x1024) ![0, 0] ![768, 1024] inb_S3072x1024_S768x1024_0_0)) (View.ld x1 (Rect.unit (s := S256x6144) ![0, 0] ![256, 768] inb_S256x6144_S256x768_0_0)) (View.ld x1 (Rect.unit (s := S256x6144) ![0, 3072] ![256, 768] inb_S256x6144_S256x768_0_3072))
include e0 e1 e3 in
theorem pT0 (r : Fin 256) (q : Fin 768) : (p0 x0 x1 x3) (ix2 r q) = ((A.dp (rw_ n r) (k0 q) : ℝ) : EReal) :=
  pay11 (dyT e0 _) (wdT e3 l0 _) (preT e1 hk0 _) (preT e1 hk4 _) r q
abbrev p1 (x0 : Vec Ideal S256x1024 .bf16) (x1 : Vec Ideal S256x6144 .bf16) (x3 : Vec Ideal S3072x1024 .bf16) := k0_pay11 (F := Ideal) (View.ld x0 (Rect.unit (s := S256x1024) ![0, 0] ![256, 1024] inb_S256x1024_S256x1024_0_0)) (View.ld x3 (Rect.unit (s := S3072x1024) ![768, 0] ![768, 1024] inb_S3072x1024_S768x1024_768_0)) (View.ld x1 (Rect.unit (s := S256x6144) ![0, 768] ![256, 768] inb_S256x6144_S256x768_0_768)) (View.ld x1 (Rect.unit (s := S256x6144) ![0, 3840] ![256, 768] inb_S256x6144_S256x768_0_3840))
include e0 e1 e3 in
theorem pT1 (r : Fin 256) (q : Fin 768) : (p1 x0 x1 x3) (ix2 r q) = ((A.dp (rw_ n r) (k1 q) : ℝ) : EReal) :=
  pay11 (dyT e0 _) (wdT e3 l768 _) (preT e1 hk1 _) (preT e1 hk5 _) r q
abbrev p2 (x0 : Vec Ideal S256x1024 .bf16) (x1 : Vec Ideal S256x6144 .bf16) (x3 : Vec Ideal S3072x1024 .bf16) := k0_pay11 (F := Ideal) (View.ld x0 (Rect.unit (s := S256x1024) ![0, 0] ![256, 1024] inb_S256x1024_S256x1024_0_0)) (View.ld x3 (Rect.unit (s := S3072x1024) ![1536, 0] ![768, 1024] inb_S3072x1024_S768x1024_1536_0)) (View.ld x1 (Rect.unit (s := S256x6144) ![0, 1536] ![256, 768] inb_S256x6144_S256x768_0_1536)) (View.ld x1 (Rect.unit (s := S256x6144) ![0, 4608] ![256, 768] inb_S256x6144_S256x768_0_4608))
include e0 e1 e3 in
theorem pT2 (r : Fin 256) (q : Fin 768) : (p2 x0 x1 x3) (ix2 r q) = ((A.dp (rw_ n r) (k2 q) : ℝ) : EReal) :=
  pay11 (dyT e0 _) (wdT e3 l1536 _) (preT e1 hk2 _) (preT e1 hk6 _) r q
abbrev p3 (x0 : Vec Ideal S256x1024 .bf16) (x1 : Vec Ideal S256x6144 .bf16) (x3 : Vec Ideal S3072x1024 .bf16) := k0_pay11 (F := Ideal) (View.ld x0 (Rect.unit (s := S256x1024) ![0, 0] ![256, 1024] inb_S256x1024_S256x1024_0_0)) (View.ld x3 (Rect.unit (s := S3072x1024) ![2304, 0] ![768, 1024] inb_S3072x1024_S768x1024_2304_0)) (View.ld x1 (Rect.unit (s := S256x6144) ![0, 2304] ![256, 768] inb_S256x6144_S256x768_0_2304)) (View.ld x1 (Rect.unit (s := S256x6144) ![0, 5376] ![256, 768] inb_S256x6144_S256x768_0_5376))
include e0 e1 e3 in
theorem pT3 (r : Fin 256) (q : Fin 768) : (p3 x0 x1 x3) (ix2 r q) = ((A.dp (rw_ n r) (k3 q) : ℝ) : EReal) :=
  pay11 (dyT e0 _) (wdT e3 l2304 _) (preT e1 hk3 _) (preT e1 hk7 _) r q
abbrev p4 (x0 : Vec Ideal S256x1024 .bf16) (x1 : Vec Ideal S256x6144 .bf16) (x3 : Vec Ideal S3072x1024 .bf16) := k0_pay12 (F := Ideal) (k0_pay6 (View.ld x0 (Rect.unit (s := S256x1024) ![0, 0] ![256, 1024] inb_S256x1024_S256x1024_0_0)) (View.ld x3 (Rect.unit (s := S3072x1024) ![0, 0] ![768, 1024] inb_S3072x1024_S768x1024_0_0))) (k0_pay10 (View.ld x1 (Rect.unit (s := S256x6144) ![0, 0] ![256, 768] inb_S256x6144_S256x768_0_0)))
include e0 e1 e3 in
theorem pT4 (r : Fin 256) (q : Fin 768) : (p4 x0 x1 x3) (ix2 r q) = ((A.dp (rw_ n r) (k4 q) : ℝ) : EReal) :=
  pay12 (dyT e0 _) (wdT e3 l0 _) (preT e1 hk0 _) r q
abbrev p5 (x0 : Vec Ideal S256x1024 .bf16) (x1 : Vec Ideal S256x6144 .bf16) (x3 : Vec Ideal S3072x1024 .bf16) := k0_pay12 (F := Ideal) (k0_pay6 (View.ld x0 (Rect.unit (s := S256x1024) ![0, 0] ![256, 1024] inb_S256x1024_S256x1024_0_0)) (View.ld x3 (Rect.unit (s := S3072x1024) ![768, 0] ![768, 1024] inb_S3072x1024_S768x1024_768_0))) (k0_pay10 (View.ld x1 (Rect.unit (s := S256x6144) ![0, 768] ![256, 768] inb_S256x6144_S256x768_0_768)))
include e0 e1 e3 in
theorem pT5 (r : Fin 256) (q : Fin 768) : (p5 x0 x1 x3) (ix2 r q) = ((A.dp (rw_ n r) (k5 q) : ℝ) : EReal) :=
  pay12 (dyT e0 _) (wdT e3 l768 _) (preT e1 hk1 _) r q
abbrev p6 (x0 : Vec Ideal S256x1024 .bf16) (x1 : Vec Ideal S256x6144 .bf16) (x3 : Vec Ideal S3072x1024 .bf16) := k0_pay12 (F := Ideal) (k0_pay6 (View.ld x0 (Rect.unit (s := S256x1024) ![0, 0] ![256, 1024] inb_S256x1024_S256x1024_0_0)) (View.ld x3 (Rect.unit (s := S3072x1024) ![1536, 0] ![768, 1024] inb_S3072x1024_S768x1024_1536_0))) (k0_pay10 (View.ld x1 (Rect.unit (s := S256x6144) ![0, 1536] ![256, 768] inb_S256x6144_S256x768_0_1536)))
include e0 e1 e3 in
theorem pT6 (r : Fin 256) (q : Fin 768) : (p6 x0 x1 x3) (ix2 r q) = ((A.dp (rw_ n r) (k6 q) : ℝ) : EReal) :=
  pay12 (dyT e0 _) (wdT e3 l1536 _) (preT e1 hk2 _) r q
abbrev p7 (x0 : Vec Ideal S256x1024 .bf16) (x1 : Vec Ideal S256x6144 .bf16) (x3 : Vec Ideal S3072x1024 .bf16) := k0_pay12 (F := Ideal) (k0_pay6 (View.ld x0 (Rect.unit (s := S256x1024) ![0, 0] ![256, 1024] inb_S256x1024_S256x1024_0_0)) (View.ld x3 (Rect.unit (s := S3072x1024) ![2304, 0] ![768, 1024] inb_S3072x1024_S768x1024_2304_0))) (k0_pay10 (View.ld x1 (Rect.unit (s := S256x6144) ![0, 2304] ![256, 768] inb_S256x6144_S256x768_0_2304)))
include e0 e1 e3 in
theorem pT7 (r : Fin 256) (q : Fin 768) : (p7 x0 x1 x3) (ix2 r q) = ((A.dp (rw_ n r) (k7 q) : ℝ) : EReal) :=
  pay12 (dyT e0 _) (wdT e3 l2304 _) (preT e1 hk3 _) r q

section Chunk
variable {c : ℕ} {col : Fin 768 → Fin 6144} (hcol : ∀ q, (col q).val = c + q.val) {p : FVec Ideal S256x768 .f32}
  (hp : ∀ r q, p (ix2 r q) = ((A.dp (rw_ n r) (col q) : ℝ) : EReal)) (hn : ∀ i q, nx (ix2 i q) = ((A.nx n i (col q) : ℝ) : EReal))
include hcol hp hn e4 e5 in
theorem dT (i2 i1 i0) (r : Fin 256) (q : Fin 768) : k0_pay23 (F := Ideal) (k0_pay16 p nx (um2 x5)) (k0_pay22 p (k0_pay15 p nx (um1 x5))
      (View.ld x4 (Rect.unit (s := S3x6144) ![2, c] ![1, 768] i2)) (View.ld x4 (Rect.unit (s := S3x6144) ![1, c] ![1, 768] i1)))
      (View.ld x4 (Rect.unit (s := S3x6144) ![0, c] ![1, 768] i0)) (ix2 r q) = ((A.dup (rw_ n r) (col q) : ℝ) : EReal) :=
  pay23 hp hn (um1T e5) (um2T e5) (tapT e4 2 hcol i2) (tapT e4 1 hcol i1) (tapT e4 0 hcol i0) r q
include hcol hp e2 in
theorem t2T (iu) (hc : ∀ q, ac (ix2 0 q) = ((FW 2 (col q) : ℝ) : EReal)) (q : Fin 768) :
    k0_pay19 (F := Ideal) p (k0_pay17 (View.ld x2 (Rect.unit (s := S256x6144) ![0, c] ![256, 768] iu))) ac (ix2 0 q)
      = ((FW 2 (col q) + A.dfwB n 2 (col q) : ℝ) : EReal) :=
  (pay19 (C := fun q => FW 2 (col q)) hp (uT e2 hcol iu) hc q).trans (congrArg (fun x : ℝ => ((FW 2 (col q) + x : ℝ) : EReal))
    (Finset.sum_congr rfl fun r _ => by rw [← Data.su_zero]; rfl))
include hcol hp hn e2 e5 in
theorem t1T (iu) (hc : ∀ q, ac (ix2 0 q) = ((FW 1 (col q) : ℝ) : EReal)) (q : Fin 768) :
    k0_pay20 (F := Ideal) (k0_pay15 p nx (um1 x5)) (k0_pay17 (View.ld x2 (Rect.unit (s := S256x6144) ![0, c] ![256, 768] iu))) ac (ix2 0 q)
      = ((FW 1 (col q) + A.dfwB n 1 (col q) : ℝ) : EReal) :=
  pay20 (C := fun q => FW 1 (col q)) hp hn (um1T e5) (uT e2 hcol iu) hc q
include hcol hp hn e2 e5 in
theorem t0T (iu) (hc : ∀ q, ac (ix2 0 q) = ((FW 0 (col q) : ℝ) : EReal)) (q : Fin 768) :
    k0_pay21 (F := Ideal) (k0_pay16 p nx (um2 x5)) (k0_pay17 (View.ld x2 (Rect.unit (s := S256x6144) ![0, c] ![256, 768] iu))) ac (ix2 0 q)
      = ((FW 0 (col q) + A.dfwB n 0 (col q) : ℝ) : EReal) :=
  pay21 (C := fun q => FW 0 (col q)) hp hn (um2T e5) (uT e2 hcol iu) hc q
end Chunk

/-- Element `(r, q)` of the tile at column `c` sits at column `c + q` of the block. -/
theorem placeS256x6144 (f : Fin 256 → Fin 6144 → EReal) {c : ℕ} {z : Fin 6144} (r : Fin 256) (q : Fin 768) (hz : z.val = c + q.val) (inb) :
    f r z = f ((Rect.unit (s := S256x6144) ![0, c] ![256, 768] inb).emb (ix2 r q) 0) ((Rect.unit (s := S256x6144) ![0, c] ![256, 768] inb).emb (ix2 r q) 1) := by
  have e0 : r = (Rect.unit (s := S256x6144) ![0, c] ![256, 768] inb).emb (ix2 r q) 0 := Fin.ext (show r.val = 0 + 1 * r.val by omega)
  have e1 : z = (Rect.unit (s := S256x6144) ![0, c] ![256, 768] inb).emb (ix2 r q) 1 := Fin.ext (show z.val = c + 1 * q.val by omega)
  rw [← e0, ← e1]

/-- Element `(r, q)` of the tile at column `c` sits at column `c + q` of the block. -/
theorem placeS8x6144 (f : Fin 8 → Fin 6144 → EReal) {c : ℕ} {z : Fin 6144} (r : Fin 8) (q : Fin 768) (hz : z.val = c + q.val) (inb) :
    f r z = f ((Rect.unit (s := S8x6144) ![0, c] ![8, 768] inb).emb (ix2 r q) 0) ((Rect.unit (s := S8x6144) ![0, c] ![8, 768] inb).emb (ix2 r q) 1) := by
  have e0 : r = (Rect.unit (s := S8x6144) ![0, c] ![8, 768] inb).emb (ix2 r q) 0 := Fin.ext (show r.val = 0 + 1 * r.val by omega)
  have e1 : z = (Rect.unit (s := S8x6144) ![0, c] ![8, 768] inb).emb (ix2 r q) 1 := Fin.ext (show z.val = c + 1 * q.val by omega)
  rw [← e0, ← e1]

/-- Element `q` of the tile at row `k` and column `c` sits at row `k` and column `c + q` of the block. -/
theorem placeS3x6144 (f : Fin 3 → Fin 6144 → EReal) {c : ℕ} (k : Fin 3) {z : Fin 6144} (q : Fin 768) (hz : z.val = c + q.val) (inb) :
    f k z = f ((Rect.unit (s := S3x6144) ![k.val, c] ![1, 768] inb).emb (ix2 0 q) 0) ((Rect.unit (s := S3x6144) ![k.val, c] ![1, 768] inb).emb (ix2 0 q) 1) := by
  have e0 : k = (Rect.unit (s := S3x6144) ![k.val, c] ![1, 768] inb).emb (ix2 0 q) 0 := Fin.ext (show k.val = k.val + 1 * 0 by omega)
  have e1 : z = (Rect.unit (s := S3x6144) ![k.val, c] ![1, 768] inb).emb (ix2 0 q) 1 := Fin.ext (show z.val = c + 1 * q.val by omega)
  rw [← e0, ← e1]

/-- Element `q` of the tile at row `k` and column `c` sits at row `k` and column `c + q` of the block. -/
theorem placeS1x6144 (f : Fin 1 → Fin 6144 → EReal) {c : ℕ} (k : Fin 1) {z : Fin 6144} (q : Fin 768) (hz : z.val = c + q.val) (inb) :
    f k z = f ((Rect.unit (s := S1x6144) ![k.val, c] ![1, 768] inb).emb (ix2 0 q) 0) ((Rect.unit (s := S1x6144) ![k.val, c] ![1, 768] inb).emb (ix2 0 q) 1) := by
  have e0 : k = (Rect.unit (s := S1x6144) ![k.val, c] ![1, 768] inb).emb (ix2 0 q) 0 := Fin.ext (show k.val = k.val + 1 * 0 by omega)
  have e1 : z = (Rect.unit (s := S1x6144) ![k.val, c] ![1, 768] inb).emb (ix2 0 q) 1 := Fin.ext (show z.val = c + 1 * q.val by omega)
  rw [← e0, ← e1]

theorem piece256 {g : Vec Ideal S256x768 .bf16} {f : Fin 256 → Fin 6144 → EReal} {c : ℕ} {col : Fin 768 → Fin 6144} (hcol : ∀ q, (col q).val = c + q.val) (inb)
    (h : ∀ r q, g (ix2 r q) = f r (col q)) (x : S256x768.Idx) : g x = (fun j : S256x6144.Idx => f (j 0) (j 1)) ((Rect.unit (s := S256x6144) ![0, c] ![256, 768] inb).emb x) := by
  obtain ⟨r, q, rfl⟩ : ∃ (r : Fin 256) (q : Fin 768), (x : S256x768.Idx) = ix2 r q := ⟨x 0, x 1, eq_ix2 x⟩
  exact (h r q).trans (placeS256x6144 f r q (hcol q) inb)

theorem piece8 {g : Vec Ideal S8x768 .f32} {f : Fin 8 → Fin 6144 → EReal} {c : ℕ} {col : Fin 768 → Fin 6144} (hcol : ∀ q, (col q).val = c + q.val) (inb)
    (h : ∀ r q, g (ix2 r q) = f r (col q)) (x : S8x768.Idx) : g x = (fun j : S8x6144.Idx => f (j 0) (j 1)) ((Rect.unit (s := S8x6144) ![0, c] ![8, 768] inb).emb x) := by
  obtain ⟨r, q, rfl⟩ : ∃ (r : Fin 8) (q : Fin 768), (x : S8x768.Idx) = ix2 r q := ⟨x 0, x 1, eq_ix2 x⟩
  exact (h r q).trans (placeS8x6144 f r q (hcol q) inb)

theorem piece3 {g : Vec Ideal S1x768 .f32} {f : Fin 3 → Fin 6144 → EReal} {c : ℕ} (k : Fin 3) {col : Fin 768 → Fin 6144} (hcol : ∀ q, (col q).val = c + q.val) (inb)
    (h : ∀ q, g (ix2 0 q) = f k (col q)) (x : S1x768.Idx) : g x = (fun j : S3x6144.Idx => f (j 0) (j 1)) ((Rect.unit (s := S3x6144) ![k.val, c] ![1, 768] inb).emb x) := by
  obtain ⟨z, q, rfl⟩ : ∃ (z : Fin 1) (q : Fin 768), (x : S1x768.Idx) = ix2 z q := ⟨x 0, x 1, eq_ix2 x⟩
  obtain rfl : z = 0 := Subsingleton.elim _ _
  exact (h q).trans (placeS3x6144 f k q (hcol q) inb)

theorem piece1 {g : Vec Ideal S1x768 .f32} {f : Fin 1 → Fin 6144 → EReal} {c : ℕ} (k : Fin 1) {col : Fin 768 → Fin 6144} (hcol : ∀ q, (col q).val = c + q.val) (inb)
    (h : ∀ q, g (ix2 0 q) = f k (col q)) (x : S1x768.Idx) : g x = (fun j : S1x6144.Idx => f (j 0) (j 1)) ((Rect.unit (s := S1x6144) ![k.val, c] ![1, 768] inb).emb x) := by
  obtain ⟨z, q, rfl⟩ : ∃ (z : Fin 1) (q : Fin 768), (x : S1x768.Idx) = ix2 z q := ⟨x 0, x 1, eq_ix2 x⟩
  obtain rfl : z = 0 := Subsingleton.elim _ _
  exact (h q).trans (placeS1x6144 f k q (hcol q) inb)

end Cert.Proof.FfnA
-- ==== Proof.FfnABlockA.lean ====
/- What a grid point of the gate's backward call leaves in its output blocks and in the carried rows at the first point, on finite blocks.
   Case A is the first point, which starts the sums and the carried rows at zero; case B is every other point. -/
module

public import proofs.«01_k».proof.Proof.Gen.KernelAIdeal.Frame
public import proofs.«01_k».proof.Proof.FfnATile

@[expose] public section

noncomputable section

namespace Cert.Proof.FfnA

open Cert.KernelAIdeal Cert.KernelAIdeal.Gen Idealize.ShloMosaic Idealize.ShloMosaic.TcCoe Idealize.SL.Sem Cert.Proof.Lift Cert.Proof.FfnF

variable {A : Data} {n : Fin 16} {FW : Fin 3 → Fin 6144 → ℝ} {FB : Fin 6144 → ℝ}

section CaseA
variable (c : Dev nD) (i : grid0.Coords) (a1 : Memref sig .tc .vmem S256x1024 .bf16) (h1 : a1.IsWhole) (a2 : Memref sig .tc .vmem S256x6144 .bf16) (h2 : a2.IsWhole) (a3 : Memref sig .tc .vmem S256x6144 .bf16) (h3 : a3.IsWhole) (a4 : Memref sig .tc .vmem S3072x1024 .bf16) (h4 : a4.IsWhole) (a5 : Memref sig .tc .vmem S3x6144 .f32) (h5 : a5.IsWhole) (a6 : Memref sig .tc .vmem S2x256x256 .bf16) (h6 : a6.IsWhole) (a7 : Memref sig .tc .vmem S256x6144 .bf16) (h7 : a7.IsWhole) (a8 : Memref sig .tc .vmem S3x6144 .f32) (h8 : a8.IsWhole) (a9 : Memref sig .tc .vmem S1x6144 .f32) (h9 : a9.IsWhole) (a10 : Memref sig .tc .vmem S8x6144 .f32) (h10 : a10.IsWhole) (hc0 : cond0_0 i)
  (x0 : Vec Ideal S256x1024 .bf16) (x1 : Vec Ideal S256x6144 .bf16) (x2 : Vec Ideal S256x6144 .bf16) (x3 : Vec Ideal S3072x1024 .bf16) (x4 : Vec Ideal S3x6144 .f32) (x5 : Vec Ideal S2x256x256 .bf16)

theorem oA6   (e0 : ∀ r d, x0 (ix2 r d) = ((A.dy (rw_ n r) d : ℝ) : EReal)) (e1 : ∀ r c, x1 (ix2 r c) = ((A.pre (rw_ n r) c : ℝ) : EReal)) (e3 : ∀ j d, x3 (ix2 j d) = ((A.wd j d : ℝ) : EReal)) (e4 : ∀ k c, x4 (ix2 k c) = ((A.fw k c : ℝ) : EReal)) (e5 : ∀ (k : Fin 2) a b, x5 (ix3 k a b) = (((if a.val + (k.val + 1) = b.val then 1 else 0 : ℝ)) : EReal)) (hn : n.val = 15) (i0 : Fin 256) (c0 : Fin 6144) : out0_A_6 (F := Ideal) c i a1 h1 a2 h2 a3 h3 a4 h4 a5 h5 a6 h6 a7 h7 a8 h8 a9 h9 a10 h10 hc0 x0 x1 x2 x3 x4 x5 (ix2 i0 c0) = (fun r c => ((A.dup (rw_ n r) c : ℝ) : EReal)) i0 c0 := by
  unfold out0_A_6
  rw [View.read_writes_eq_canon _ _ _ (cover0_A_6 c i a1 h1 a2 h2 a3 h3 a4 h4 a5 h5 a6 h6 a7 h7 a8 h8 a9 h9 a10 h10 hc0 x0 x1 x2 x3 x4 x5)]
  refine View.canon_apply_of_pieces (Val := Elt Ideal) (S := S256x6144) (e := .bf16) (fun j : S256x6144.Idx => (fun r c => ((A.dup (rw_ n r) c : ℝ) : EReal)) (j 0) (j 1)) _ ?_ _ (cover0_A_6 c i a1 h1 a2 h2 a3 h3 a4 h4 a5 h5 a6 h6 a7 h7 a8 h8 a9 h9 a10 h10 hc0 x0 x1 x2 x3 x4 x5 _)
  unfold kernelRun0_A
  dsimp only
  sl_unfold_words
  simp only [View.readAt_eq_ld]
  try rw [h1.read_unread]
  try rw [h2.read_unread]
  try rw [h3.read_unread]
  try rw [h4.read_unread]
  try rw [h5.read_unread]
  try rw [h6.read_unread]
  try rw [h7.read_unread]
  try rw [h8.read_unread]
  try rw [h9.read_unread]
  try rw [h10.read_unread]
  refine View.PiecesOf.mem (Val := Elt Ideal) (s := S256x6144) (e := .bf16) (G := (fun j : S256x6144.Idx => (fun r c => ((A.dup (rw_ n r) c : ℝ) : EReal)) (j 0) (j 1))) ⟨piece256 (f := (fun r c => ((A.dup (rw_ n r) c : ℝ) : EReal))) hk7 inb_S256x6144_S256x768_0_5376 (fun r q => dT e4 e5 hk7 (pT7 e0 e1 e3) (by
      intro i q; try simp (disch := first | exact hz2' | decide) only [↓View.readCov_skip, View.readCov_fill]
      exact nxT (zeroNx hn) hk7 inb_S8x6144_S8x768_0_5376 i q) inb_S3x6144_S1x768_2_5376 inb_S3x6144_S1x768_1_5376 inb_S3x6144_S1x768_0_5376 r q),
    piece256 (f := (fun r c => ((A.dup (rw_ n r) c : ℝ) : EReal))) hk3 inb_S256x6144_S256x768_0_2304 (fun r q => dT e4 e5 hk3 (pT3 e0 e1 e3) (by
      intro i q; try simp (disch := first | exact hz2' | decide) only [↓View.readCov_skip, View.readCov_fill]
      exact nxT (zeroNx hn) hk3 inb_S8x6144_S8x768_0_2304 i q) inb_S3x6144_S1x768_2_2304 inb_S3x6144_S1x768_1_2304 inb_S3x6144_S1x768_0_2304 r q),
    piece256 (f := (fun r c => ((A.dup (rw_ n r) c : ℝ) : EReal))) hk6 inb_S256x6144_S256x768_0_4608 (fun r q => dT e4 e5 hk6 (pT6 e0 e1 e3) (by
      intro i q; try simp (disch := first | exact hz2' | decide) only [↓View.readCov_skip, View.readCov_fill]
      exact nxT (zeroNx hn) hk6 inb_S8x6144_S8x768_0_4608 i q) inb_S3x6144_S1x768_2_4608 inb_S3x6144_S1x768_1_4608 inb_S3x6144_S1x768_0_4608 r q),
    piece256 (f := (fun r c => ((A.dup (rw_ n r) c : ℝ) : EReal))) hk2 inb_S256x6144_S256x768_0_1536 (fun r q => dT e4 e5 hk2 (pT2 e0 e1 e3) (by
      intro i q; try simp (disch := first | exact hz2' | decide) only [↓View.readCov_skip, View.readCov_fill]
      exact nxT (zeroNx hn) hk2 inb_S8x6144_S8x768_0_1536 i q) inb_S3x6144_S1x768_2_1536 inb_S3x6144_S1x768_1_1536 inb_S3x6144_S1x768_0_1536 r q),
    piece256 (f := (fun r c => ((A.dup (rw_ n r) c : ℝ) : EReal))) hk5 inb_S256x6144_S256x768_0_3840 (fun r q => dT e4 e5 hk5 (pT5 e0 e1 e3) (by
      intro i q; try simp (disch := first | exact hz2' | decide) only [↓View.readCov_skip, View.readCov_fill]
      exact nxT (zeroNx hn) hk5 inb_S8x6144_S8x768_0_3840 i q) inb_S3x6144_S1x768_2_3840 inb_S3x6144_S1x768_1_3840 inb_S3x6144_S1x768_0_3840 r q),
    piece256 (f := (fun r c => ((A.dup (rw_ n r) c : ℝ) : EReal))) hk1 inb_S256x6144_S256x768_0_768 (fun r q => dT e4 e5 hk1 (pT1 e0 e1 e3) (by
      intro i q; try simp (disch := first | exact hz2' | decide) only [↓View.readCov_skip, View.readCov_fill]
      exact nxT (zeroNx hn) hk1 inb_S8x6144_S8x768_0_768 i q) inb_S3x6144_S1x768_2_768 inb_S3x6144_S1x768_1_768 inb_S3x6144_S1x768_0_768 r q),
    piece256 (f := (fun r c => ((A.dup (rw_ n r) c : ℝ) : EReal))) hk4 inb_S256x6144_S256x768_0_3072 (fun r q => dT e4 e5 hk4 (pT4 e0 e1 e3) (by
      intro i q; try simp (disch := first | exact hz2' | decide) only [↓View.readCov_skip, View.readCov_fill]
      exact nxT (zeroNx hn) hk4 inb_S8x6144_S8x768_0_3072 i q) inb_S3x6144_S1x768_2_3072 inb_S3x6144_S1x768_1_3072 inb_S3x6144_S1x768_0_3072 r q),
    piece256 (f := (fun r c => ((A.dup (rw_ n r) c : ℝ) : EReal))) hk0 inb_S256x6144_S256x768_0_0 (fun r q => dT e4 e5 hk0 (pT0 e0 e1 e3) (by
      intro i q; try simp (disch := first | exact hz2' | decide) only [↓View.readCov_skip, View.readCov_fill]
      exact nxT (zeroNx hn) hk0 inb_S8x6144_S8x768_0_0 i q) inb_S3x6144_S1x768_2_0 inb_S3x6144_S1x768_1_0 inb_S3x6144_S1x768_0_0 r q), trivial⟩

theorem oA7   (e0 : ∀ r d, x0 (ix2 r d) = ((A.dy (rw_ n r) d : ℝ) : EReal)) (e1 : ∀ r c, x1 (ix2 r c) = ((A.pre (rw_ n r) c : ℝ) : EReal)) (e2 : ∀ r c, x2 (ix2 r c) = ((A.u (rw_ n r) c : ℝ) : EReal)) (e3 : ∀ j d, x3 (ix2 j d) = ((A.wd j d : ℝ) : EReal)) (e5 : ∀ (k : Fin 2) a b, x5 (ix3 k a b) = (((if a.val + (k.val + 1) = b.val then 1 else 0 : ℝ)) : EReal)) (hn : n.val = 15) (i0 : Fin 3) (c0 : Fin 6144) : out0_A_7 (F := Ideal) c i a1 h1 a2 h2 a3 h3 a4 h4 a5 h5 a6 h6 a7 h7 a8 h8 a9 h9 a10 h10 hc0 x0 x1 x2 x3 x4 x5 (ix2 i0 c0) = (fun k c => ((0 + A.dfwB n k c : ℝ) : EReal)) i0 c0 := by
  unfold out0_A_7
  rw [View.read_writes_eq_canon _ _ _ (cover0_A_7 c i a1 h1 a2 h2 a3 h3 a4 h4 a5 h5 a6 h6 a7 h7 a8 h8 a9 h9 a10 h10 hc0 x0 x1 x2 x3 x4 x5)]
  unfold kernelRun0_A
  dsimp only
  sl_unfold_words
  simp only [View.readAt_eq_ld]
  simp (disch := first | exact hz2' | decide) only [↓View.readCov_skip, View.readCov_fill]
  try rw [h1.read_unread]
  try rw [h2.read_unread]
  try rw [h3.read_unread]
  try rw [h4.read_unread]
  try rw [h5.read_unread]
  try rw [h6.read_unread]
  try rw [h7.read_unread]
  try rw [h8.read_unread]
  try rw [h9.read_unread]
  try rw [h10.read_unread]
  refine View.canon_append_of_piecesOf (Val := Elt Ideal) (s := S3x6144) (e := .f32) (fun j : S3x6144.Idx => (fun k c => ((0 + A.dfwB n k c : ℝ) : EReal)) (j 0) (j 1)) [_] [_, _, _, _, _, _, _, _, _, _, _, _, _, _, _, _, _, _, _, _, _, _, _, _] ⟨piece3 (f := (fun k c => ((0 + A.dfwB n k c : ℝ) : EReal))) 0 hk7 inb_S3x6144_S1x768_0_5376 (fun q => t0T (FW := fun _ _ => 0) e2 e5 hk7 (pT7 e0 e1 e3) (by
      intro i q; try simp (disch := first | exact hz2' | decide) only [↓View.readCov_skip, View.readCov_fill]
      exact nxT (zeroNx hn) hk7 inb_S8x6144_S8x768_0_5376 i q) inb_S256x6144_S256x768_0_5376 (acT zeroFw 0 hk7 inb_S3x6144_S1x768_0_5376) q),
    piece3 (f := (fun k c => ((0 + A.dfwB n k c : ℝ) : EReal))) 1 hk7 inb_S3x6144_S1x768_1_5376 (fun q => t1T (FW := fun _ _ => 0) e2 e5 hk7 (pT7 e0 e1 e3) (by
      intro i q; try simp (disch := first | exact hz2' | decide) only [↓View.readCov_skip, View.readCov_fill]
      exact nxT (zeroNx hn) hk7 inb_S8x6144_S8x768_0_5376 i q) inb_S256x6144_S256x768_0_5376 (acT zeroFw 1 hk7 inb_S3x6144_S1x768_1_5376) q),
    piece3 (f := (fun k c => ((0 + A.dfwB n k c : ℝ) : EReal))) 2 hk7 inb_S3x6144_S1x768_2_5376 (fun q => t2T (FW := fun _ _ => 0) e2 hk7 (pT7 e0 e1 e3)  inb_S256x6144_S256x768_0_5376 (acT zeroFw 2 hk7 inb_S3x6144_S1x768_2_5376) q),
    piece3 (f := (fun k c => ((0 + A.dfwB n k c : ℝ) : EReal))) 0 hk3 inb_S3x6144_S1x768_0_2304 (fun q => t0T (FW := fun _ _ => 0) e2 e5 hk3 (pT3 e0 e1 e3) (by
      intro i q; try simp (disch := first | exact hz2' | decide) only [↓View.readCov_skip, View.readCov_fill]
      exact nxT (zeroNx hn) hk3 inb_S8x6144_S8x768_0_2304 i q) inb_S256x6144_S256x768_0_2304 (acT zeroFw 0 hk3 inb_S3x6144_S1x768_0_2304) q),
    piece3 (f := (fun k c => ((0 + A.dfwB n k c : ℝ) : EReal))) 1 hk3 inb_S3x6144_S1x768_1_2304 (fun q => t1T (FW := fun _ _ => 0) e2 e5 hk3 (pT3 e0 e1 e3) (by
      intro i q; try simp (disch := first | exact hz2' | decide) only [↓View.readCov_skip, View.readCov_fill]
      exact nxT (zeroNx hn) hk3 inb_S8x6144_S8x768_0_2304 i q) inb_S256x6144_S256x768_0_2304 (acT zeroFw 1 hk3 inb_S3x6144_S1x768_1_2304) q),
    piece3 (f := (fun k c => ((0 + A.dfwB n k c : ℝ) : EReal))) 2 hk3 inb_S3x6144_S1x768_2_2304 (fun q => t2T (FW := fun _ _ => 0) e2 hk3 (pT3 e0 e1 e3)  inb_S256x6144_S256x768_0_2304 (acT zeroFw 2 hk3 inb_S3x6144_S1x768_2_2304) q),
    piece3 (f := (fun k c => ((0 + A.dfwB n k c : ℝ) : EReal))) 0 hk6 inb_S3x6144_S1x768_0_4608 (fun q => t0T (FW := fun _ _ => 0) e2 e5 hk6 (pT6 e0 e1 e3) (by
      intro i q; try simp (disch := first | exact hz2' | decide) only [↓View.readCov_skip, View.readCov_fill]
      exact nxT (zeroNx hn) hk6 inb_S8x6144_S8x768_0_4608 i q) inb_S256x6144_S256x768_0_4608 (acT zeroFw 0 hk6 inb_S3x6144_S1x768_0_4608) q),
    piece3 (f := (fun k c => ((0 + A.dfwB n k c : ℝ) : EReal))) 1 hk6 inb_S3x6144_S1x768_1_4608 (fun q => t1T (FW := fun _ _ => 0) e2 e5 hk6 (pT6 e0 e1 e3) (by
      intro i q; try simp (disch := first | exact hz2' | decide) only [↓View.readCov_skip, View.readCov_fill]
      exact nxT (zeroNx hn) hk6 inb_S8x6144_S8x768_0_4608 i q) inb_S256x6144_S256x768_0_4608 (acT zeroFw 1 hk6 inb_S3x6144_S1x768_1_4608) q),
    piece3 (f := (fun k c => ((0 + A.dfwB n k c : ℝ) : EReal))) 2 hk6 inb_S3x6144_S1x768_2_4608 (fun q => t2T (FW := fun _ _ => 0) e2 hk6 (pT6 e0 e1 e3)  inb_S256x6144_S256x768_0_4608 (acT zeroFw 2 hk6 inb_S3x6144_S1x768_2_4608) q),
    piece3 (f := (fun k c => ((0 + A.dfwB n k c : ℝ) : EReal))) 0 hk2 inb_S3x6144_S1x768_0_1536 (fun q => t0T (FW := fun _ _ => 0) e2 e5 hk2 (pT2 e0 e1 e3) (by
      intro i q; try simp (disch := first | exact hz2' | decide) only [↓View.readCov_skip, View.readCov_fill]
      exact nxT (zeroNx hn) hk2 inb_S8x6144_S8x768_0_1536 i q) inb_S256x6144_S256x768_0_1536 (acT zeroFw 0 hk2 inb_S3x6144_S1x768_0_1536) q),
    piece3 (f := (fun k c => ((0 + A.dfwB n k c : ℝ) : EReal))) 1 hk2 inb_S3x6144_S1x768_1_1536 (fun q => t1T (FW := fun _ _ => 0) e2 e5 hk2 (pT2 e0 e1 e3) (by
      intro i q; try simp (disch := first | exact hz2' | decide) only [↓View.readCov_skip, View.readCov_fill]
      exact nxT (zeroNx hn) hk2 inb_S8x6144_S8x768_0_1536 i q) inb_S256x6144_S256x768_0_1536 (acT zeroFw 1 hk2 inb_S3x6144_S1x768_1_1536) q),
    piece3 (f := (fun k c => ((0 + A.dfwB n k c : ℝ) : EReal))) 2 hk2 inb_S3x6144_S1x768_2_1536 (fun q => t2T (FW := fun _ _ => 0) e2 hk2 (pT2 e0 e1 e3)  inb_S256x6144_S256x768_0_1536 (acT zeroFw 2 hk2 inb_S3x6144_S1x768_2_1536) q),
    piece3 (f := (fun k c => ((0 + A.dfwB n k c : ℝ) : EReal))) 0 hk5 inb_S3x6144_S1x768_0_3840 (fun q => t0T (FW := fun _ _ => 0) e2 e5 hk5 (pT5 e0 e1 e3) (by
      intro i q; try simp (disch := first | exact hz2' | decide) only [↓View.readCov_skip, View.readCov_fill]
      exact nxT (zeroNx hn) hk5 inb_S8x6144_S8x768_0_3840 i q) inb_S256x6144_S256x768_0_3840 (acT zeroFw 0 hk5 inb_S3x6144_S1x768_0_3840) q),
    piece3 (f := (fun k c => ((0 + A.dfwB n k c : ℝ) : EReal))) 1 hk5 inb_S3x6144_S1x768_1_3840 (fun q => t1T (FW := fun _ _ => 0) e2 e5 hk5 (pT5 e0 e1 e3) (by
      intro i q; try simp (disch := first | exact hz2' | decide) only [↓View.readCov_skip, View.readCov_fill]
      exact nxT (zeroNx hn) hk5 inb_S8x6144_S8x768_0_3840 i q) inb_S256x6144_S256x768_0_3840 (acT zeroFw 1 hk5 inb_S3x6144_S1x768_1_3840) q),
    piece3 (f := (fun k c => ((0 + A.dfwB n k c : ℝ) : EReal))) 2 hk5 inb_S3x6144_S1x768_2_3840 (fun q => t2T (FW := fun _ _ => 0) e2 hk5 (pT5 e0 e1 e3)  inb_S256x6144_S256x768_0_3840 (acT zeroFw 2 hk5 inb_S3x6144_S1x768_2_3840) q),
    piece3 (f := (fun k c => ((0 + A.dfwB n k c : ℝ) : EReal))) 0 hk1 inb_S3x6144_S1x768_0_768 (fun q => t0T (FW := fun _ _ => 0) e2 e5 hk1 (pT1 e0 e1 e3) (by
      intro i q; try simp (disch := first | exact hz2' | decide) only [↓View.readCov_skip, View.readCov_fill]
      exact nxT (zeroNx hn) hk1 inb_S8x6144_S8x768_0_768 i q) inb_S256x6144_S256x768_0_768 (acT zeroFw 0 hk1 inb_S3x6144_S1x768_0_768) q),
    piece3 (f := (fun k c => ((0 + A.dfwB n k c : ℝ) : EReal))) 1 hk1 inb_S3x6144_S1x768_1_768 (fun q => t1T (FW := fun _ _ => 0) e2 e5 hk1 (pT1 e0 e1 e3) (by
      intro i q; try simp (disch := first | exact hz2' | decide) only [↓View.readCov_skip, View.readCov_fill]
      exact nxT (zeroNx hn) hk1 inb_S8x6144_S8x768_0_768 i q) inb_S256x6144_S256x768_0_768 (acT zeroFw 1 hk1 inb_S3x6144_S1x768_1_768) q),
    piece3 (f := (fun k c => ((0 + A.dfwB n k c : ℝ) : EReal))) 2 hk1 inb_S3x6144_S1x768_2_768 (fun q => t2T (FW := fun _ _ => 0) e2 hk1 (pT1 e0 e1 e3)  inb_S256x6144_S256x768_0_768 (acT zeroFw 2 hk1 inb_S3x6144_S1x768_2_768) q),
    piece3 (f := (fun k c => ((0 + A.dfwB n k c : ℝ) : EReal))) 0 hk4 inb_S3x6144_S1x768_0_3072 (fun q => t0T (FW := fun _ _ => 0) e2 e5 hk4 (pT4 e0 e1 e3) (by
      intro i q; try simp (disch := first | exact hz2' | decide) only [↓View.readCov_skip, View.readCov_fill]
      exact nxT (zeroNx hn) hk4 inb_S8x6144_S8x768_0_3072 i q) inb_S256x6144_S256x768_0_3072 (acT zeroFw 0 hk4 inb_S3x6144_S1x768_0_3072) q),
    piece3 (f := (fun k c => ((0 + A.dfwB n k c : ℝ) : EReal))) 1 hk4 inb_S3x6144_S1x768_1_3072 (fun q => t1T (FW := fun _ _ => 0) e2 e5 hk4 (pT4 e0 e1 e3) (by
      intro i q; try simp (disch := first | exact hz2' | decide) only [↓View.readCov_skip, View.readCov_fill]
      exact nxT (zeroNx hn) hk4 inb_S8x6144_S8x768_0_3072 i q) inb_S256x6144_S256x768_0_3072 (acT zeroFw 1 hk4 inb_S3x6144_S1x768_1_3072) q),
    piece3 (f := (fun k c => ((0 + A.dfwB n k c : ℝ) : EReal))) 2 hk4 inb_S3x6144_S1x768_2_3072 (fun q => t2T (FW := fun _ _ => 0) e2 hk4 (pT4 e0 e1 e3)  inb_S256x6144_S256x768_0_3072 (acT zeroFw 2 hk4 inb_S3x6144_S1x768_2_3072) q),
    piece3 (f := (fun k c => ((0 + A.dfwB n k c : ℝ) : EReal))) 0 hk0 inb_S3x6144_S1x768_0_0 (fun q => t0T (FW := fun _ _ => 0) e2 e5 hk0 (pT0 e0 e1 e3) (by
      intro i q; try simp (disch := first | exact hz2' | decide) only [↓View.readCov_skip, View.readCov_fill]
      exact nxT (zeroNx hn) hk0 inb_S8x6144_S8x768_0_0 i q) inb_S256x6144_S256x768_0_0 (acT zeroFw 0 hk0 inb_S3x6144_S1x768_0_0) q),
    piece3 (f := (fun k c => ((0 + A.dfwB n k c : ℝ) : EReal))) 1 hk0 inb_S3x6144_S1x768_1_0 (fun q => t1T (FW := fun _ _ => 0) e2 e5 hk0 (pT0 e0 e1 e3) (by
      intro i q; try simp (disch := first | exact hz2' | decide) only [↓View.readCov_skip, View.readCov_fill]
      exact nxT (zeroNx hn) hk0 inb_S8x6144_S8x768_0_0 i q) inb_S256x6144_S256x768_0_0 (acT zeroFw 1 hk0 inb_S3x6144_S1x768_1_0) q),
    piece3 (f := (fun k c => ((0 + A.dfwB n k c : ℝ) : EReal))) 2 hk0 inb_S3x6144_S1x768_2_0 (fun q => t2T (FW := fun _ _ => 0) e2 hk0 (pT0 e0 e1 e3)  inb_S256x6144_S256x768_0_0 (acT zeroFw 2 hk0 inb_S3x6144_S1x768_2_0) q), trivial⟩ _ ?_
  exact View.cover_of_tiledL (s := S3x6144) _ S1x768.size (by sl_kernel_rfl) _

theorem oA8   (e0 : ∀ r d, x0 (ix2 r d) = ((A.dy (rw_ n r) d : ℝ) : EReal)) (e1 : ∀ r c, x1 (ix2 r c) = ((A.pre (rw_ n r) c : ℝ) : EReal)) (e3 : ∀ j d, x3 (ix2 j d) = ((A.wd j d : ℝ) : EReal)) (i0 : Fin 1) (c0 : Fin 6144) : out0_A_8 (F := Ideal) c i a1 h1 a2 h2 a3 h3 a4 h4 a5 h5 a6 h6 a7 h7 a8 h8 a9 h9 a10 h10 hc0 x0 x1 x2 x3 x4 x5 (ix2 i0 c0) = (fun _ c => ((0 + A.dfbB n c : ℝ) : EReal)) i0 c0 := by
  unfold out0_A_8
  rw [View.read_writes_eq_canon _ _ _ (cover0_A_8 c i a1 h1 a2 h2 a3 h3 a4 h4 a5 h5 a6 h6 a7 h7 a8 h8 a9 h9 a10 h10 hc0 x0 x1 x2 x3 x4 x5)]
  unfold kernelRun0_A
  dsimp only
  sl_unfold_words
  simp only [View.readAt_eq_ld]
  simp (disch := first | exact hz2' | decide) only [↓View.readCov_skip, View.readCov_fill]
  try rw [h1.read_unread]
  try rw [h2.read_unread]
  try rw [h3.read_unread]
  try rw [h4.read_unread]
  try rw [h5.read_unread]
  try rw [h6.read_unread]
  try rw [h7.read_unread]
  try rw [h8.read_unread]
  try rw [h9.read_unread]
  try rw [h10.read_unread]
  refine View.canon_append_of_piecesOf (Val := Elt Ideal) (s := S1x6144) (e := .f32) (fun j : S1x6144.Idx => (fun _ c => ((0 + A.dfbB n c : ℝ) : EReal)) (j 0) (j 1)) [_] [_, _, _, _, _, _, _, _] ⟨piece1 (f := (fun _ c => ((0 + A.dfbB n c : ℝ) : EReal))) 0 hk7 inb_S1x6144_S1x768_0_5376 (fun q => pay18 (C := fun q => 0) (pT7 e0 e1 e3) (abT zeroFb hk7 inb_S1x6144_S1x768_0_5376) q),
    piece1 (f := (fun _ c => ((0 + A.dfbB n c : ℝ) : EReal))) 0 hk3 inb_S1x6144_S1x768_0_2304 (fun q => pay18 (C := fun q => 0) (pT3 e0 e1 e3) (abT zeroFb hk3 inb_S1x6144_S1x768_0_2304) q),
    piece1 (f := (fun _ c => ((0 + A.dfbB n c : ℝ) : EReal))) 0 hk6 inb_S1x6144_S1x768_0_4608 (fun q => pay18 (C := fun q => 0) (pT6 e0 e1 e3) (abT zeroFb hk6 inb_S1x6144_S1x768_0_4608) q),
    piece1 (f := (fun _ c => ((0 + A.dfbB n c : ℝ) : EReal))) 0 hk2 inb_S1x6144_S1x768_0_1536 (fun q => pay18 (C := fun q => 0) (pT2 e0 e1 e3) (abT zeroFb hk2 inb_S1x6144_S1x768_0_1536) q),
    piece1 (f := (fun _ c => ((0 + A.dfbB n c : ℝ) : EReal))) 0 hk5 inb_S1x6144_S1x768_0_3840 (fun q => pay18 (C := fun q => 0) (pT5 e0 e1 e3) (abT zeroFb hk5 inb_S1x6144_S1x768_0_3840) q),
    piece1 (f := (fun _ c => ((0 + A.dfbB n c : ℝ) : EReal))) 0 hk1 inb_S1x6144_S1x768_0_768 (fun q => pay18 (C := fun q => 0) (pT1 e0 e1 e3) (abT zeroFb hk1 inb_S1x6144_S1x768_0_768) q),
    piece1 (f := (fun _ c => ((0 + A.dfbB n c : ℝ) : EReal))) 0 hk4 inb_S1x6144_S1x768_0_3072 (fun q => pay18 (C := fun q => 0) (pT4 e0 e1 e3) (abT zeroFb hk4 inb_S1x6144_S1x768_0_3072) q),
    piece1 (f := (fun _ c => ((0 + A.dfbB n c : ℝ) : EReal))) 0 hk0 inb_S1x6144_S1x768_0_0 (fun q => pay18 (C := fun q => 0) (pT0 e0 e1 e3) (abT zeroFb hk0 inb_S1x6144_S1x768_0_0) q), trivial⟩ _ ?_
  exact View.cover_of_tiledL (s := S1x6144) _ S1x768.size (by sl_kernel_rfl) _

theorem oAs   (e0 : ∀ r d, x0 (ix2 r d) = ((A.dy (rw_ n r) d : ℝ) : EReal)) (e1 : ∀ r c, x1 (ix2 r c) = ((A.pre (rw_ n r) c : ℝ) : EReal)) (e3 : ∀ j d, x3 (ix2 j d) = ((A.wd j d : ℝ) : EReal)) (i0 : Fin 8) (c0 : Fin 6144) : sout0_A_0 (F := Ideal) c i a1 h1 a2 h2 a3 h3 a4 h4 a5 h5 a6 h6 a7 h7 a8 h8 a9 h9 a10 h10 hc0 x0 x1 x2 x3 x4 x5 (ix2 i0 c0) = (fun (i : Fin 8) (c : Fin 6144) => ((A.dp (rw_ n ⟨i.val, by omega⟩) c : ℝ) : EReal)) i0 c0 := by
  unfold sout0_A_0
  rw [View.read_writes_eq_canon _ _ _ (scover0_A_0 c i a1 h1 a2 h2 a3 h3 a4 h4 a5 h5 a6 h6 a7 h7 a8 h8 a9 h9 a10 h10 hc0 x0 x1 x2 x3 x4 x5)]
  unfold kernelRun0_A
  dsimp only
  sl_unfold_words
  simp only [View.readAt_eq_ld]
  try rw [h1.read_unread]
  try rw [h2.read_unread]
  try rw [h3.read_unread]
  try rw [h4.read_unread]
  try rw [h5.read_unread]
  try rw [h6.read_unread]
  try rw [h7.read_unread]
  try rw [h8.read_unread]
  try rw [h9.read_unread]
  try rw [h10.read_unread]
  refine View.canon_append_of_piecesOf (Val := Elt Ideal) (s := S8x6144) (e := .f32) (fun j : S8x6144.Idx => (fun (i : Fin 8) (c : Fin 6144) => ((A.dp (rw_ n ⟨i.val, by omega⟩) c : ℝ) : EReal)) (j 0) (j 1)) [_] [_, _, _, _, _, _, _, _] ⟨piece8 (f := (fun (i : Fin 8) (c : Fin 6144) => ((A.dp (rw_ n ⟨i.val, by omega⟩) c : ℝ) : EReal))) hk7 inb_S8x6144_S8x768_0_5376 (fun r q => pay14 (pT7 e0 e1 e3) r q),
    piece8 (f := (fun (i : Fin 8) (c : Fin 6144) => ((A.dp (rw_ n ⟨i.val, by omega⟩) c : ℝ) : EReal))) hk3 inb_S8x6144_S8x768_0_2304 (fun r q => pay14 (pT3 e0 e1 e3) r q),
    piece8 (f := (fun (i : Fin 8) (c : Fin 6144) => ((A.dp (rw_ n ⟨i.val, by omega⟩) c : ℝ) : EReal))) hk6 inb_S8x6144_S8x768_0_4608 (fun r q => pay14 (pT6 e0 e1 e3) r q),
    piece8 (f := (fun (i : Fin 8) (c : Fin 6144) => ((A.dp (rw_ n ⟨i.val, by omega⟩) c : ℝ) : EReal))) hk2 inb_S8x6144_S8x768_0_1536 (fun r q => pay14 (pT2 e0 e1 e3) r q),
    piece8 (f := (fun (i : Fin 8) (c : Fin 6144) => ((A.dp (rw_ n ⟨i.val, by omega⟩) c : ℝ) : EReal))) hk5 inb_S8x6144_S8x768_0_3840 (fun r q => pay14 (pT5 e0 e1 e3) r q),
    piece8 (f := (fun (i : Fin 8) (c : Fin 6144) => ((A.dp (rw_ n ⟨i.val, by omega⟩) c : ℝ) : EReal))) hk1 inb_S8x6144_S8x768_0_768 (fun r q => pay14 (pT1 e0 e1 e3) r q),
    piece8 (f := (fun (i : Fin 8) (c : Fin 6144) => ((A.dp (rw_ n ⟨i.val, by omega⟩) c : ℝ) : EReal))) hk4 inb_S8x6144_S8x768_0_3072 (fun r q => pay14 (pT4 e0 e1 e3) r q),
    piece8 (f := (fun (i : Fin 8) (c : Fin 6144) => ((A.dp (rw_ n ⟨i.val, by omega⟩) c : ℝ) : EReal))) hk0 inb_S8x6144_S8x768_0_0 (fun r q => pay14 (pT0 e0 e1 e3) r q), trivial⟩ _ ?_
  exact View.cover_of_tiledL (s := S8x6144) _ S8x768.size (by sl_kernel_rfl) _

end CaseA

end Cert.Proof.FfnA
-- ==== Proof.FfnABlockB.lean ====
/- What a grid point of the gate's backward call leaves in its output blocks and in the carried rows after the first point, on finite blocks.
   Case A is the first point, which starts the sums and the carried rows at zero; case B is every other point. -/
module

public import proofs.«01_k».proof.Proof.Gen.KernelAIdeal.Frame
public import proofs.«01_k».proof.Proof.FfnATile

@[expose] public section

noncomputable section

namespace Cert.Proof.FfnA

open Cert.KernelAIdeal Cert.KernelAIdeal.Gen Idealize.ShloMosaic Idealize.ShloMosaic.TcCoe Idealize.SL.Sem Cert.Proof.Lift Cert.Proof.FfnF

variable {A : Data} {n : Fin 16} {FW : Fin 3 → Fin 6144 → ℝ} {FB : Fin 6144 → ℝ}

section CaseB
variable (c : Dev nD) (i : grid0.Coords) (a1 : Memref sig .tc .vmem S256x1024 .bf16) (h1 : a1.IsWhole) (a2 : Memref sig .tc .vmem S256x6144 .bf16) (h2 : a2.IsWhole) (a3 : Memref sig .tc .vmem S256x6144 .bf16) (h3 : a3.IsWhole) (a4 : Memref sig .tc .vmem S3072x1024 .bf16) (h4 : a4.IsWhole) (a5 : Memref sig .tc .vmem S3x6144 .f32) (h5 : a5.IsWhole) (a6 : Memref sig .tc .vmem S2x256x256 .bf16) (h6 : a6.IsWhole) (a7 : Memref sig .tc .vmem S256x6144 .bf16) (h7 : a7.IsWhole) (a8 : Memref sig .tc .vmem S3x6144 .f32) (h8 : a8.IsWhole) (a9 : Memref sig .tc .vmem S1x6144 .f32) (h9 : a9.IsWhole) (a10 : Memref sig .tc .vmem S8x6144 .f32) (h10 : a10.IsWhole) (hc0 : ¬cond0_0 i)
  (x0 : Vec Ideal S256x1024 .bf16) (x1 : Vec Ideal S256x6144 .bf16) (x2 : Vec Ideal S256x6144 .bf16) (x3 : Vec Ideal S3072x1024 .bf16) (x4 : Vec Ideal S3x6144 .f32) (x5 : Vec Ideal S2x256x256 .bf16) (xo7 : Vec Ideal S3x6144 .f32) (xo8 : Vec Ideal S1x6144 .f32) (xs0 : Vec Ideal S8x6144 .f32)

theorem oB6   (e0 : ∀ r d, x0 (ix2 r d) = ((A.dy (rw_ n r) d : ℝ) : EReal)) (e1 : ∀ r c, x1 (ix2 r c) = ((A.pre (rw_ n r) c : ℝ) : EReal)) (e3 : ∀ j d, x3 (ix2 j d) = ((A.wd j d : ℝ) : EReal)) (e4 : ∀ k c, x4 (ix2 k c) = ((A.fw k c : ℝ) : EReal)) (e5 : ∀ (k : Fin 2) a b, x5 (ix3 k a b) = (((if a.val + (k.val + 1) = b.val then 1 else 0 : ℝ)) : EReal)) (es : ∀ i c, xs0 (ix2 i c) = ((A.nx n i c : ℝ) : EReal)) (i0 : Fin 256) (c0 : Fin 6144) : out0_B_6 (F := Ideal) c i a1 h1 a2 h2 a3 h3 a4 h4 a5 h5 a6 h6 a7 h7 a8 h8 a9 h9 a10 h10 hc0 x0 x1 x2 x3 x4 x5 xo7 xo8 xs0 (ix2 i0 c0) = (fun r c => ((A.dup (rw_ n r) c : ℝ) : EReal)) i0 c0 := by
  unfold out0_B_6
  rw [View.read_writes_eq_canon _ _ _ (cover0_B_6 c i a1 h1 a2 h2 a3 h3 a4 h4 a5 h5 a6 h6 a7 h7 a8 h8 a9 h9 a10 h10 hc0 x0 x1 x2 x3 x4 x5 xo7 xo8 xs0)]
  refine View.canon_apply_of_pieces (Val := Elt Ideal) (S := S256x6144) (e := .bf16) (fun j : S256x6144.Idx => (fun r c => ((A.dup (rw_ n r) c : ℝ) : EReal)) (j 0) (j 1)) _ ?_ _ (cover0_B_6 c i a1 h1 a2 h2 a3 h3 a4 h4 a5 h5 a6 h6 a7 h7 a8 h8 a9 h9 a10 h10 hc0 x0 x1 x2 x3 x4 x5 xo7 xo8 xs0 _)
  unfold kernelRun0_B
  dsimp only
  sl_unfold_words
  simp only [View.readAt_eq_ld]
  try rw [h1.read_unread]
  try rw [h2.read_unread]
  try rw [h3.read_unread]
  try rw [h4.read_unread]
  try rw [h5.read_unread]
  try rw [h6.read_unread]
  try rw [h7.read_unread]
  try rw [h8.read_unread]
  try rw [h9.read_unread]
  try rw [h10.read_unread]
  refine View.PiecesOf.mem (Val := Elt Ideal) (s := S256x6144) (e := .bf16) (G := (fun j : S256x6144.Idx => (fun r c => ((A.dup (rw_ n r) c : ℝ) : EReal)) (j 0) (j 1))) ⟨piece256 (f := (fun r c => ((A.dup (rw_ n r) c : ℝ) : EReal))) hk7 inb_S256x6144_S256x768_0_5376 (fun r q => dT e4 e5 hk7 (pT7 e0 e1 e3) (nxT es hk7 inb_S8x6144_S8x768_0_5376) inb_S3x6144_S1x768_2_5376 inb_S3x6144_S1x768_1_5376 inb_S3x6144_S1x768_0_5376 r q),
    piece256 (f := (fun r c => ((A.dup (rw_ n r) c : ℝ) : EReal))) hk3 inb_S256x6144_S256x768_0_2304 (fun r q => dT e4 e5 hk3 (pT3 e0 e1 e3) (nxT es hk3 inb_S8x6144_S8x768_0_2304) inb_S3x6144_S1x768_2_2304 inb_S3x6144_S1x768_1_2304 inb_S3x6144_S1x768_0_2304 r q),
    piece256 (f := (fun r c => ((A.dup (rw_ n r) c : ℝ) : EReal))) hk6 inb_S256x6144_S256x768_0_4608 (fun r q => dT e4 e5 hk6 (pT6 e0 e1 e3) (nxT es hk6 inb_S8x6144_S8x768_0_4608) inb_S3x6144_S1x768_2_4608 inb_S3x6144_S1x768_1_4608 inb_S3x6144_S1x768_0_4608 r q),
    piece256 (f := (fun r c => ((A.dup (rw_ n r) c : ℝ) : EReal))) hk2 inb_S256x6144_S256x768_0_1536 (fun r q => dT e4 e5 hk2 (pT2 e0 e1 e3) (nxT es hk2 inb_S8x6144_S8x768_0_1536) inb_S3x6144_S1x768_2_1536 inb_S3x6144_S1x768_1_1536 inb_S3x6144_S1x768_0_1536 r q),
    piece256 (f := (fun r c => ((A.dup (rw_ n r) c : ℝ) : EReal))) hk5 inb_S256x6144_S256x768_0_3840 (fun r q => dT e4 e5 hk5 (pT5 e0 e1 e3) (nxT es hk5 inb_S8x6144_S8x768_0_3840) inb_S3x6144_S1x768_2_3840 inb_S3x6144_S1x768_1_3840 inb_S3x6144_S1x768_0_3840 r q),
    piece256 (f := (fun r c => ((A.dup (rw_ n r) c : ℝ) : EReal))) hk1 inb_S256x6144_S256x768_0_768 (fun r q => dT e4 e5 hk1 (pT1 e0 e1 e3) (nxT es hk1 inb_S8x6144_S8x768_0_768) inb_S3x6144_S1x768_2_768 inb_S3x6144_S1x768_1_768 inb_S3x6144_S1x768_0_768 r q),
    piece256 (f := (fun r c => ((A.dup (rw_ n r) c : ℝ) : EReal))) hk4 inb_S256x6144_S256x768_0_3072 (fun r q => dT e4 e5 hk4 (pT4 e0 e1 e3) (nxT es hk4 inb_S8x6144_S8x768_0_3072) inb_S3x6144_S1x768_2_3072 inb_S3x6144_S1x768_1_3072 inb_S3x6144_S1x768_0_3072 r q),
    piece256 (f := (fun r c => ((A.dup (rw_ n r) c : ℝ) : EReal))) hk0 inb_S256x6144_S256x768_0_0 (fun r q => dT e4 e5 hk0 (pT0 e0 e1 e3) (nxT es hk0 inb_S8x6144_S8x768_0_0) inb_S3x6144_S1x768_2_0 inb_S3x6144_S1x768_1_0 inb_S3x6144_S1x768_0_0 r q), trivial⟩

theorem oB7   (e0 : ∀ r d, x0 (ix2 r d) = ((A.dy (rw_ n r) d : ℝ) : EReal)) (e1 : ∀ r c, x1 (ix2 r c) = ((A.pre (rw_ n r) c : ℝ) : EReal)) (e2 : ∀ r c, x2 (ix2 r c) = ((A.u (rw_ n r) c : ℝ) : EReal)) (e3 : ∀ j d, x3 (ix2 j d) = ((A.wd j d : ℝ) : EReal)) (e5 : ∀ (k : Fin 2) a b, x5 (ix3 k a b) = (((if a.val + (k.val + 1) = b.val then 1 else 0 : ℝ)) : EReal)) (es : ∀ i c, xs0 (ix2 i c) = ((A.nx n i c : ℝ) : EReal)) (e7 : ∀ k c, xo7 (ix2 k c) = ((FW k c : ℝ) : EReal)) (i0 : Fin 3) (c0 : Fin 6144) : out0_B_7 (F := Ideal) c i a1 h1 a2 h2 a3 h3 a4 h4 a5 h5 a6 h6 a7 h7 a8 h8 a9 h9 a10 h10 hc0 x0 x1 x2 x3 x4 x5 xo7 xo8 xs0 (ix2 i0 c0) = (fun k c => ((FW k c + A.dfwB n k c : ℝ) : EReal)) i0 c0 := by
  unfold out0_B_7
  rw [View.read_writes_eq_canon _ _ _ (cover0_B_7 c i a1 h1 a2 h2 a3 h3 a4 h4 a5 h5 a6 h6 a7 h7 a8 h8 a9 h9 a10 h10 hc0 x0 x1 x2 x3 x4 x5 xo7 xo8 xs0)]
  refine View.canon_apply_of_pieces (Val := Elt Ideal) (S := S3x6144) (e := .f32) (fun j : S3x6144.Idx => (fun k c => ((FW k c + A.dfwB n k c : ℝ) : EReal)) (j 0) (j 1)) _ ?_ _ (cover0_B_7 c i a1 h1 a2 h2 a3 h3 a4 h4 a5 h5 a6 h6 a7 h7 a8 h8 a9 h9 a10 h10 hc0 x0 x1 x2 x3 x4 x5 xo7 xo8 xs0 _)
  unfold kernelRun0_B
  dsimp only
  sl_unfold_words
  simp only [View.readAt_eq_ld]
  try rw [h1.read_unread]
  try rw [h2.read_unread]
  try rw [h3.read_unread]
  try rw [h4.read_unread]
  try rw [h5.read_unread]
  try rw [h6.read_unread]
  try rw [h7.read_unread]
  try rw [h8.read_unread]
  try rw [h9.read_unread]
  try rw [h10.read_unread]
  refine View.PiecesOf.mem (Val := Elt Ideal) (s := S3x6144) (e := .f32) (G := (fun j : S3x6144.Idx => (fun k c => ((FW k c + A.dfwB n k c : ℝ) : EReal)) (j 0) (j 1))) ⟨piece3 (f := (fun k c => ((FW k c + A.dfwB n k c : ℝ) : EReal))) 0 hk7 inb_S3x6144_S1x768_0_5376 (fun q => t0T (FW := FW) e2 e5 hk7 (pT7 e0 e1 e3) (nxT es hk7 inb_S8x6144_S8x768_0_5376) inb_S256x6144_S256x768_0_5376 (acT e7 0 hk7 inb_S3x6144_S1x768_0_5376) q),
    piece3 (f := (fun k c => ((FW k c + A.dfwB n k c : ℝ) : EReal))) 1 hk7 inb_S3x6144_S1x768_1_5376 (fun q => t1T (FW := FW) e2 e5 hk7 (pT7 e0 e1 e3) (nxT es hk7 inb_S8x6144_S8x768_0_5376) inb_S256x6144_S256x768_0_5376 (acT e7 1 hk7 inb_S3x6144_S1x768_1_5376) q),
    piece3 (f := (fun k c => ((FW k c + A.dfwB n k c : ℝ) : EReal))) 2 hk7 inb_S3x6144_S1x768_2_5376 (fun q => t2T (FW := FW) e2 hk7 (pT7 e0 e1 e3)  inb_S256x6144_S256x768_0_5376 (acT e7 2 hk7 inb_S3x6144_S1x768_2_5376) q),
    piece3 (f := (fun k c => ((FW k c + A.dfwB n k c : ℝ) : EReal))) 0 hk3 inb_S3x6144_S1x768_0_2304 (fun q => t0T (FW := FW) e2 e5 hk3 (pT3 e0 e1 e3) (nxT es hk3 inb_S8x6144_S8x768_0_2304) inb_S256x6144_S256x768_0_2304 (acT e7 0 hk3 inb_S3x6144_S1x768_0_2304) q),
    piece3 (f := (fun k c => ((FW k c + A.dfwB n k c : ℝ) : EReal))) 1 hk3 inb_S3x6144_S1x768_1_2304 (fun q => t1T (FW := FW) e2 e5 hk3 (pT3 e0 e1 e3) (nxT es hk3 inb_S8x6144_S8x768_0_2304) inb_S256x6144_S256x768_0_2304 (acT e7 1 hk3 inb_S3x6144_S1x768_1_2304) q),
    piece3 (f := (fun k c => ((FW k c + A.dfwB n k c : ℝ) : EReal))) 2 hk3 inb_S3x6144_S1x768_2_2304 (fun q => t2T (FW := FW) e2 hk3 (pT3 e0 e1 e3)  inb_S256x6144_S256x768_0_2304 (acT e7 2 hk3 inb_S3x6144_S1x768_2_2304) q),
    piece3 (f := (fun k c => ((FW k c + A.dfwB n k c : ℝ) : EReal))) 0 hk6 inb_S3x6144_S1x768_0_4608 (fun q => t0T (FW := FW) e2 e5 hk6 (pT6 e0 e1 e3) (nxT es hk6 inb_S8x6144_S8x768_0_4608) inb_S256x6144_S256x768_0_4608 (acT e7 0 hk6 inb_S3x6144_S1x768_0_4608) q),
    piece3 (f := (fun k c => ((FW k c + A.dfwB n k c : ℝ) : EReal))) 1 hk6 inb_S3x6144_S1x768_1_4608 (fun q => t1T (FW := FW) e2 e5 hk6 (pT6 e0 e1 e3) (nxT es hk6 inb_S8x6144_S8x768_0_4608) inb_S256x6144_S256x768_0_4608 (acT e7 1 hk6 inb_S3x6144_S1x768_1_4608) q),
    piece3 (f := (fun k c => ((FW k c + A.dfwB n k c : ℝ) : EReal))) 2 hk6 inb_S3x6144_S1x768_2_4608 (fun q => t2T (FW := FW) e2 hk6 (pT6 e0 e1 e3)  inb_S256x6144_S256x768_0_4608 (acT e7 2 hk6 inb_S3x6144_S1x768_2_4608) q),
    piece3 (f := (fun k c => ((FW k c + A.dfwB n k c : ℝ) : EReal))) 0 hk2 inb_S3x6144_S1x768_0_1536 (fun q => t0T (FW := FW) e2 e5 hk2 (pT2 e0 e1 e3) (nxT es hk2 inb_S8x6144_S8x768_0_1536) inb_S256x6144_S256x768_0_1536 (acT e7 0 hk2 inb_S3x6144_S1x768_0_1536) q),
    piece3 (f := (fun k c => ((FW k c + A.dfwB n k c : ℝ) : EReal))) 1 hk2 inb_S3x6144_S1x768_1_1536 (fun q => t1T (FW := FW) e2 e5 hk2 (pT2 e0 e1 e3) (nxT es hk2 inb_S8x6144_S8x768_0_1536) inb_S256x6144_S256x768_0_1536 (acT e7 1 hk2 inb_S3x6144_S1x768_1_1536) q),
    piece3 (f := (fun k c => ((FW k c + A.dfwB n k c : ℝ) : EReal))) 2 hk2 inb_S3x6144_S1x768_2_1536 (fun q => t2T (FW := FW) e2 hk2 (pT2 e0 e1 e3)  inb_S256x6144_S256x768_0_1536 (acT e7 2 hk2 inb_S3x6144_S1x768_2_1536) q),
    piece3 (f := (fun k c => ((FW k c + A.dfwB n k c : ℝ) : EReal))) 0 hk5 inb_S3x6144_S1x768_0_3840 (fun q => t0T (FW := FW) e2 e5 hk5 (pT5 e0 e1 e3) (nxT es hk5 inb_S8x6144_S8x768_0_3840) inb_S256x6144_S256x768_0_3840 (acT e7 0 hk5 inb_S3x6144_S1x768_0_3840) q),
    piece3 (f := (fun k c => ((FW k c + A.dfwB n k c : ℝ) : EReal))) 1 hk5 inb_S3x6144_S1x768_1_3840 (fun q => t1T (FW := FW) e2 e5 hk5 (pT5 e0 e1 e3) (nxT es hk5 inb_S8x6144_S8x768_0_3840) inb_S256x6144_S256x768_0_3840 (acT e7 1 hk5 inb_S3x6144_S1x768_1_3840) q),
    piece3 (f := (fun k c => ((FW k c + A.dfwB n k c : ℝ) : EReal))) 2 hk5 inb_S3x6144_S1x768_2_3840 (fun q => t2T (FW := FW) e2 hk5 (pT5 e0 e1 e3)  inb_S256x6144_S256x768_0_3840 (acT e7 2 hk5 inb_S3x6144_S1x768_2_3840) q),
    piece3 (f := (fun k c => ((FW k c + A.dfwB n k c : ℝ) : EReal))) 0 hk1 inb_S3x6144_S1x768_0_768 (fun q => t0T (FW := FW) e2 e5 hk1 (pT1 e0 e1 e3) (nxT es hk1 inb_S8x6144_S8x768_0_768) inb_S256x6144_S256x768_0_768 (acT e7 0 hk1 inb_S3x6144_S1x768_0_768) q),
    piece3 (f := (fun k c => ((FW k c + A.dfwB n k c : ℝ) : EReal))) 1 hk1 inb_S3x6144_S1x768_1_768 (fun q => t1T (FW := FW) e2 e5 hk1 (pT1 e0 e1 e3) (nxT es hk1 inb_S8x6144_S8x768_0_768) inb_S256x6144_S256x768_0_768 (acT e7 1 hk1 inb_S3x6144_S1x768_1_768) q),
    piece3 (f := (fun k c => ((FW k c + A.dfwB n k c : ℝ) : EReal))) 2 hk1 inb_S3x6144_S1x768_2_768 (fun q => t2T (FW := FW) e2 hk1 (pT1 e0 e1 e3)  inb_S256x6144_S256x768_0_768 (acT e7 2 hk1 inb_S3x6144_S1x768_2_768) q),
    piece3 (f := (fun k c => ((FW k c + A.dfwB n k c : ℝ) : EReal))) 0 hk4 inb_S3x6144_S1x768_0_3072 (fun q => t0T (FW := FW) e2 e5 hk4 (pT4 e0 e1 e3) (nxT es hk4 inb_S8x6144_S8x768_0_3072) inb_S256x6144_S256x768_0_3072 (acT e7 0 hk4 inb_S3x6144_S1x768_0_3072) q),
    piece3 (f := (fun k c => ((FW k c + A.dfwB n k c : ℝ) : EReal))) 1 hk4 inb_S3x6144_S1x768_1_3072 (fun q => t1T (FW := FW) e2 e5 hk4 (pT4 e0 e1 e3) (nxT es hk4 inb_S8x6144_S8x768_0_3072) inb_S256x6144_S256x768_0_3072 (acT e7 1 hk4 inb_S3x6144_S1x768_1_3072) q),
    piece3 (f := (fun k c => ((FW k c + A.dfwB n k c : ℝ) : EReal))) 2 hk4 inb_S3x6144_S1x768_2_3072 (fun q => t2T (FW := FW) e2 hk4 (pT4 e0 e1 e3)  inb_S256x6144_S256x768_0_3072 (acT e7 2 hk4 inb_S3x6144_S1x768_2_3072) q),
    piece3 (f := (fun k c => ((FW k c + A.dfwB n k c : ℝ) : EReal))) 0 hk0 inb_S3x6144_S1x768_0_0 (fun q => t0T (FW := FW) e2 e5 hk0 (pT0 e0 e1 e3) (nxT es hk0 inb_S8x6144_S8x768_0_0) inb_S256x6144_S256x768_0_0 (acT e7 0 hk0 inb_S3x6144_S1x768_0_0) q),
    piece3 (f := (fun k c => ((FW k c + A.dfwB n k c : ℝ) : EReal))) 1 hk0 inb_S3x6144_S1x768_1_0 (fun q => t1T (FW := FW) e2 e5 hk0 (pT0 e0 e1 e3) (nxT es hk0 inb_S8x6144_S8x768_0_0) inb_S256x6144_S256x768_0_0 (acT e7 1 hk0 inb_S3x6144_S1x768_1_0) q),
    piece3 (f := (fun k c => ((FW k c + A.dfwB n k c : ℝ) : EReal))) 2 hk0 inb_S3x6144_S1x768_2_0 (fun q => t2T (FW := FW) e2 hk0 (pT0 e0 e1 e3)  inb_S256x6144_S256x768_0_0 (acT e7 2 hk0 inb_S3x6144_S1x768_2_0) q), trivial⟩

theorem oB8   (e0 : ∀ r d, x0 (ix2 r d) = ((A.dy (rw_ n r) d : ℝ) : EReal)) (e1 : ∀ r c, x1 (ix2 r c) = ((A.pre (rw_ n r) c : ℝ) : EReal)) (e3 : ∀ j d, x3 (ix2 j d) = ((A.wd j d : ℝ) : EReal)) (e8 : ∀ c, xo8 (ix2 0 c) = ((FB c : ℝ) : EReal)) (i0 : Fin 1) (c0 : Fin 6144) : out0_B_8 (F := Ideal) c i a1 h1 a2 h2 a3 h3 a4 h4 a5 h5 a6 h6 a7 h7 a8 h8 a9 h9 a10 h10 hc0 x0 x1 x2 x3 x4 x5 xo7 xo8 xs0 (ix2 i0 c0) = (fun _ c => ((FB c + A.dfbB n c : ℝ) : EReal)) i0 c0 := by
  unfold out0_B_8
  rw [View.read_writes_eq_canon _ _ _ (cover0_B_8 c i a1 h1 a2 h2 a3 h3 a4 h4 a5 h5 a6 h6 a7 h7 a8 h8 a9 h9 a10 h10 hc0 x0 x1 x2 x3 x4 x5 xo7 xo8 xs0)]
  refine View.canon_apply_of_pieces (Val := Elt Ideal) (S := S1x6144) (e := .f32) (fun j : S1x6144.Idx => (fun _ c => ((FB c + A.dfbB n c : ℝ) : EReal)) (j 0) (j 1)) _ ?_ _ (cover0_B_8 c i a1 h1 a2 h2 a3 h3 a4 h4 a5 h5 a6 h6 a7 h7 a8 h8 a9 h9 a10 h10 hc0 x0 x1 x2 x3 x4 x5 xo7 xo8 xs0 _)
  unfold kernelRun0_B
  dsimp only
  sl_unfold_words
  simp only [View.readAt_eq_ld]
  try rw [h1.read_unread]
  try rw [h2.read_unread]
  try rw [h3.read_unread]
  try rw [h4.read_unread]
  try rw [h5.read_unread]
  try rw [h6.read_unread]
  try rw [h7.read_unread]
  try rw [h8.read_unread]
  try rw [h9.read_unread]
  try rw [h10.read_unread]
  refine View.PiecesOf.mem (Val := Elt Ideal) (s := S1x6144) (e := .f32) (G := (fun j : S1x6144.Idx => (fun _ c => ((FB c + A.dfbB n c : ℝ) : EReal)) (j 0) (j 1))) ⟨piece1 (f := (fun _ c => ((FB c + A.dfbB n c : ℝ) : EReal))) 0 hk7 inb_S1x6144_S1x768_0_5376 (fun q => pay18 (C := fun q => FB (k7 q)) (pT7 e0 e1 e3) (abT e8 hk7 inb_S1x6144_S1x768_0_5376) q),
    piece1 (f := (fun _ c => ((FB c + A.dfbB n c : ℝ) : EReal))) 0 hk3 inb_S1x6144_S1x768_0_2304 (fun q => pay18 (C := fun q => FB (k3 q)) (pT3 e0 e1 e3) (abT e8 hk3 inb_S1x6144_S1x768_0_2304) q),
    piece1 (f := (fun _ c => ((FB c + A.dfbB n c : ℝ) : EReal))) 0 hk6 inb_S1x6144_S1x768_0_4608 (fun q => pay18 (C := fun q => FB (k6 q)) (pT6 e0 e1 e3) (abT e8 hk6 inb_S1x6144_S1x768_0_4608) q),
    piece1 (f := (fun _ c => ((FB c + A.dfbB n c : ℝ) : EReal))) 0 hk2 inb_S1x6144_S1x768_0_1536 (fun q => pay18 (C := fun q => FB (k2 q)) (pT2 e0 e1 e3) (abT e8 hk2 inb_S1x6144_S1x768_0_1536) q),
    piece1 (f := (fun _ c => ((FB c + A.dfbB n c : ℝ) : EReal))) 0 hk5 inb_S1x6144_S1x768_0_3840 (fun q => pay18 (C := fun q => FB (k5 q)) (pT5 e0 e1 e3) (abT e8 hk5 inb_S1x6144_S1x768_0_3840) q),
    piece1 (f := (fun _ c => ((FB c + A.dfbB n c : ℝ) : EReal))) 0 hk1 inb_S1x6144_S1x768_0_768 (fun q => pay18 (C := fun q => FB (k1 q)) (pT1 e0 e1 e3) (abT e8 hk1 inb_S1x6144_S1x768_0_768) q),
    piece1 (f := (fun _ c => ((FB c + A.dfbB n c : ℝ) : EReal))) 0 hk4 inb_S1x6144_S1x768_0_3072 (fun q => pay18 (C := fun q => FB (k4 q)) (pT4 e0 e1 e3) (abT e8 hk4 inb_S1x6144_S1x768_0_3072) q),
    piece1 (f := (fun _ c => ((FB c + A.dfbB n c : ℝ) : EReal))) 0 hk0 inb_S1x6144_S1x768_0_0 (fun q => pay18 (C := fun q => FB (k0 q)) (pT0 e0 e1 e3) (abT e8 hk0 inb_S1x6144_S1x768_0_0) q), trivial⟩

theorem oBs   (e0 : ∀ r d, x0 (ix2 r d) = ((A.dy (rw_ n r) d : ℝ) : EReal)) (e1 : ∀ r c, x1 (ix2 r c) = ((A.pre (rw_ n r) c : ℝ) : EReal)) (e3 : ∀ j d, x3 (ix2 j d) = ((A.wd j d : ℝ) : EReal)) (i0 : Fin 8) (c0 : Fin 6144) : sout0_B_0 (F := Ideal) c i a1 h1 a2 h2 a3 h3 a4 h4 a5 h5 a6 h6 a7 h7 a8 h8 a9 h9 a10 h10 hc0 x0 x1 x2 x3 x4 x5 xo7 xo8 xs0 (ix2 i0 c0) = (fun (i : Fin 8) (c : Fin 6144) => ((A.dp (rw_ n ⟨i.val, by omega⟩) c : ℝ) : EReal)) i0 c0 := by
  unfold sout0_B_0
  rw [View.read_writes_eq_canon _ _ _ (scover0_B_0 c i a1 h1 a2 h2 a3 h3 a4 h4 a5 h5 a6 h6 a7 h7 a8 h8 a9 h9 a10 h10 hc0 x0 x1 x2 x3 x4 x5 xo7 xo8 xs0)]
  refine View.canon_apply_of_pieces (Val := Elt Ideal) (S := S8x6144) (e := .f32) (fun j : S8x6144.Idx => (fun (i : Fin 8) (c : Fin 6144) => ((A.dp (rw_ n ⟨i.val, by omega⟩) c : ℝ) : EReal)) (j 0) (j 1)) _ ?_ _ (scover0_B_0 c i a1 h1 a2 h2 a3 h3 a4 h4 a5 h5 a6 h6 a7 h7 a8 h8 a9 h9 a10 h10 hc0 x0 x1 x2 x3 x4 x5 xo7 xo8 xs0 _)
  unfold kernelRun0_B
  dsimp only
  sl_unfold_words
  simp only [View.readAt_eq_ld]
  try rw [h1.read_unread]
  try rw [h2.read_unread]
  try rw [h3.read_unread]
  try rw [h4.read_unread]
  try rw [h5.read_unread]
  try rw [h6.read_unread]
  try rw [h7.read_unread]
  try rw [h8.read_unread]
  try rw [h9.read_unread]
  try rw [h10.read_unread]
  refine View.PiecesOf.mem (Val := Elt Ideal) (s := S8x6144) (e := .f32) (G := (fun j : S8x6144.Idx => (fun (i : Fin 8) (c : Fin 6144) => ((A.dp (rw_ n ⟨i.val, by omega⟩) c : ℝ) : EReal)) (j 0) (j 1))) ⟨piece8 (f := (fun (i : Fin 8) (c : Fin 6144) => ((A.dp (rw_ n ⟨i.val, by omega⟩) c : ℝ) : EReal))) hk7 inb_S8x6144_S8x768_0_5376 (fun r q => pay14 (pT7 e0 e1 e3) r q),
    piece8 (f := (fun (i : Fin 8) (c : Fin 6144) => ((A.dp (rw_ n ⟨i.val, by omega⟩) c : ℝ) : EReal))) hk3 inb_S8x6144_S8x768_0_2304 (fun r q => pay14 (pT3 e0 e1 e3) r q),
    piece8 (f := (fun (i : Fin 8) (c : Fin 6144) => ((A.dp (rw_ n ⟨i.val, by omega⟩) c : ℝ) : EReal))) hk6 inb_S8x6144_S8x768_0_4608 (fun r q => pay14 (pT6 e0 e1 e3) r q),
    piece8 (f := (fun (i : Fin 8) (c : Fin 6144) => ((A.dp (rw_ n ⟨i.val, by omega⟩) c : ℝ) : EReal))) hk2 inb_S8x6144_S8x768_0_1536 (fun r q => pay14 (pT2 e0 e1 e3) r q),
    piece8 (f := (fun (i : Fin 8) (c : Fin 6144) => ((A.dp (rw_ n ⟨i.val, by omega⟩) c : ℝ) : EReal))) hk5 inb_S8x6144_S8x768_0_3840 (fun r q => pay14 (pT5 e0 e1 e3) r q),
    piece8 (f := (fun (i : Fin 8) (c : Fin 6144) => ((A.dp (rw_ n ⟨i.val, by omega⟩) c : ℝ) : EReal))) hk1 inb_S8x6144_S8x768_0_768 (fun r q => pay14 (pT1 e0 e1 e3) r q),
    piece8 (f := (fun (i : Fin 8) (c : Fin 6144) => ((A.dp (rw_ n ⟨i.val, by omega⟩) c : ℝ) : EReal))) hk4 inb_S8x6144_S8x768_0_3072 (fun r q => pay14 (pT4 e0 e1 e3) r q),
    piece8 (f := (fun (i : Fin 8) (c : Fin 6144) => ((A.dp (rw_ n ⟨i.val, by omega⟩) c : ℝ) : EReal))) hk0 inb_S8x6144_S8x768_0_0 (fun r q => pay14 (pT0 e0 e1 e3) r q), trivial⟩

end CaseB

end Cert.Proof.FfnA
-- ==== Proof.FfnARef.lean ====
/- The reference of the gate and convolution's backward pass, read at an index on finite arguments: each stage is the
   embedding of a real expression. -/
module

public import proofs.«01_k».proof.Proof.Gen.ReferenceAIdeal.Read
public import proofs.«01_k».proof.Proof.FfnAModel
public import Idealize.ShloMosaic.Lib.ValueIdxRank1
public import Idealize.ShloMosaic.Lib.KernelVsHost

@[expose] public section

noncomputable section

namespace Cert.Proof.FfnA

open Cert.ReferenceAIdeal Cert.ReferenceAIdeal.Read Idealize.ShloMosaic Cert.Proof.Lift Cert.Proof.FfnF

/-- A row of the convolution's taps as a vector: its place in the one-row slice; and a one-row array's column. -/
abbrev tap (i : S6144.Idx) : S1x6144.Idx := fun a => match a with | ⟨0, _⟩ => ⟨0, by show 0 < 1; decide⟩ | ⟨1, _⟩ => ⟨(i 0).val, (i 0).isLt⟩
abbrev colA (i : S1x6144.Idx) : S6144.Idx := fun a => match a with | ⟨0, _⟩ => ⟨(i 1).val, (i 1).isLt⟩
theorem tap5 (i) : idx_main_v5 i = tap i := by
  funext a
  have h : (i 0).val < 6144 := (i 0).isLt
  match a with
  | ⟨0, _⟩ => first | rfl | exact Fin.ext (by show (i 0).val / 6144 = 0; omega)
  | ⟨1, _⟩ => first | rfl | exact Fin.ext (by show (i 0).val % 6144 = (i 0).val; omega)
theorem tap11 (i) : idx_main_v11 i = tap i := by
  funext a
  have h : (i 0).val < 6144 := (i 0).isLt
  match a with
  | ⟨0, _⟩ => first | rfl | exact Fin.ext (by show (i 0).val / 6144 = 0; omega)
  | ⟨1, _⟩ => first | rfl | exact Fin.ext (by show (i 0).val % 6144 = (i 0).val; omega)
theorem tap18 (i) : idx_main_v18 i = tap i := by
  funext a
  have h : (i 0).val < 6144 := (i 0).isLt
  match a with
  | ⟨0, _⟩ => first | rfl | exact Fin.ext (by show (i 0).val / 6144 = 0; omega)
  | ⟨1, _⟩ => first | rfl | exact Fin.ext (by show (i 0).val % 6144 = (i 0).val; omega)
theorem colA68 (i) : idx_main_v68 i = colA i := by
  funext a
  have h0 : (i 0).val < 1 := (i 0).isLt
  match a with
  | ⟨0, _⟩ => exact Fin.ext (by show (i 0).val * 6144 + (i 1).val = (i 1).val; omega)
theorem colA72 (i) : idx_main_v72 i = colA i := by
  funext a
  have h0 : (i 0).val < 1 := (i 0).isLt
  match a with
  | ⟨0, _⟩ => exact Fin.ext (by show (i 0).val * 6144 + (i 1).val = (i 1).val; omega)
theorem colA81 (i) : idx_main_v81 i = colA i := by
  funext a
  have h0 : (i 0).val < 1 := (i 0).isLt
  match a with
  | ⟨0, _⟩ => exact Fin.ext (by show (i 0).val * 6144 + (i 1).val = (i 1).val; omega)
theorem colA92 (i) : idx_main_v92 i = colA i := by
  funext a
  have h0 : (i 0).val < 1 := (i 0).isLt
  match a with
  | ⟨0, _⟩ => exact Fin.ext (by show (i 0).val * 6144 + (i 1).val = (i 1).val; omega)
theorem colA104 (i) : idx_main_v104 i = colA i := by
  funext a
  have h0 : (i 0).val < 1 := (i 0).isLt
  match a with
  | ⟨0, _⟩ => exact Fin.ext (by show (i 0).val * 6144 + (i 1).val = (i 1).val; omega)

variable (A : Data) {x0 : (⟨S4096x6144, .f32⟩ : BufTy).Contents (Elt Ideal)} {x1 : (⟨S3x6144, .f32⟩ : BufTy).Contents (Elt Ideal)}
  {x2 : (⟨S6144, .f32⟩ : BufTy).Contents (Elt Ideal)} {x3 : (⟨S3072x1024, .f32⟩ : BufTy).Contents (Elt Ideal)} {x4 : (⟨S4096x1024, .f32⟩ : BufTy).Contents (Elt Ideal)}
  (h0 : ∀ i, x0 i = ((A.u (i 0) (i 1) : ℝ) : EReal)) (h1 : ∀ i, x1 i = ((A.fw (i 0) (i 1) : ℝ) : EReal))
  (h2 : ∀ i, x2 i = ((A.fb (i 0) : ℝ) : EReal)) (h3 : ∀ i, x3 i = ((A.wd (i 0) (i 1) : ℝ) : EReal))
  (h4 : ∀ i, x4 i = ((A.dy (i 0) (i 1) : ℝ) : EReal))

/-- The up projection behind two rows of zeros. -/
theorem ref1lo (i : S4098x6144.Idx) (h : (i 0).val < 2) : val_main_v1 (F := Ideal) x0 i = ((0 : ℝ) : EReal) := by
  have z : ∀ j, val_main_v0 (F := Ideal) j = ((0 : ℝ) : EReal) := fun j => by
    simp only [val_main_v0_apply, val_main_cst, constant, Ideal.ofBits_def, ofBits_zero]
  unfold val_main_v1
  rw [concatenate_pair_apply_left (s₁ := S2x6144) (s₂ := S4096x6144) 0 _ _ _ i rfl (fun b => match b with | ⟨0, _⟩ => ⟨(i 0).val, h⟩ | ⟨1, _⟩ => ⟨(i 1).val, (i 1).isLt⟩)
    (fun b => match b with | ⟨0, _⟩ => rfl | ⟨1, _⟩ => rfl)]
  exact z _

include h0 in
theorem ref1hi (i : S4098x6144.Idx) (s : Fin 4096) (c : Fin 6144) (h : s.val + 2 = (i 0).val) (hc : c.val = (i 1).val) :
    val_main_v1 (F := Ideal) x0 i = ((A.u s c : ℝ) : EReal) := by
  unfold val_main_v1
  rw [concatenate_pair_apply_right (s₁ := S2x6144) (s₂ := S4096x6144) 0 _ _ _ i rfl rfl (fun b => match b with | ⟨0, _⟩ => ⟨s.val, s.isLt⟩ | ⟨1, _⟩ => ⟨c.val, c.isLt⟩)
    (fun b hb => match b with | ⟨0, _⟩ => absurd rfl hb | ⟨1, _⟩ => hc) h]
  exact h0 _

include h0 in
theorem ref3 (i) : val_main_v3 (F := Ideal) x0 i = ((A.sh 2 (i 0) (i 1) : ℝ) : EReal) := by
  rw [val_main_v3_apply]
  unfold Data.sh
  by_cases hi : 2 ≤ (i 0).val
  · rw [if_pos hi, ref1hi A h0 _ ⟨(i 0).val - 2, by have h := (i 0).isLt; exact (Nat.sub_le _ _).trans_lt h⟩ (i 1) (show (i 0).val - 2 + 2 = (i 0).val by omega) rfl]
  · rw [if_neg hi, ref1lo _ (show (i 0).val < 2 by omega)]

include h0 in
theorem ref9 (i) : val_main_v9 (F := Ideal) x0 i = ((A.sh 1 (i 0) (i 1) : ℝ) : EReal) := by
  rw [val_main_v9_apply]
  unfold Data.sh
  by_cases hi : 1 ≤ (i 0).val
  · rw [if_pos hi, ref1hi A h0 _ ⟨(i 0).val - 1, by have h := (i 0).isLt; exact (Nat.sub_le _ _).trans_lt h⟩ (i 1) (show (i 0).val - 1 + 2 = 1 + (i 0).val by omega) rfl]
  · rw [if_neg hi, ref1lo _ (show 1 + (i 0).val < 2 by omega)]

include h0 in
theorem ref16 (i) : val_main_v16 (F := Ideal) x0 i = ((A.u (i 0) (i 1) : ℝ) : EReal) := by
  rw [val_main_v16_apply, ref1hi A h0 _ (i 0) (i 1) (Nat.add_comm _ _) rfl]

include h0 h1 h2 in
/-- The causal convolution. -/
theorem ref25 (i) : val_main_v25 (F := Ideal) x0 x1 x2 i = ((A.pre (i 0) (i 1) : ℝ) : EReal) := by
  simp only [val_main_v25_apply, val_main_v24_apply, val_main_v23_apply, val_main_v22_apply, val_main_v21_apply, val_main_v20_apply, val_main_v19_apply, val_main_v18_apply, val_main_v17_apply, val_main_v15_apply, val_main_v14_apply, val_main_v13_apply, val_main_v12_apply, val_main_v11_apply, val_main_v10_apply, val_main_v8_apply, val_main_v7_apply, val_main_v6_apply, val_main_v5_apply, val_main_v4_apply, tap5, tap11, tap18, ref3 A h0, ref9 A h0, ref16 A h0, h0, h1, h2,
    constant, Ideal.ofBits_def, Ideal.addf_def, Ideal.subf_def, Ideal.mulf_def, Ideal.hostUnary_tanh_def, Ideal.tanh_coe, Ideal.hostConvertf_def, ofBits_zero, ofBits_one, ofBits_half, ofBits_three, ofBits_gc0, ofBits_gc1, ← EReal.coe_mul, ← EReal.coe_add, ← EReal.coe_sub, sum_coe, zero_add, add_zero, Fin.sum_univ_one, Finset.univ_unique, Finset.sum_singleton]
  refine congrArg (fun r : ℝ => (r : EReal)) ?_
  show A.sh 2 (i 0) (i 1) * A.fw 0 (i 1) + A.sh 1 (i 0) (i 1) * A.fw 1 (i 1) + A.u (i 0) (i 1) * A.fw 2 (i 1) + A.fb (i 1) = _
  unfold Data.pre
  ring

include h0 h1 h2 in
theorem ref26 (i) : val_main_v26 (F := Ideal) x0 x1 x2 i = ((A.pre (i 0) (gcol (i 1)) : ℝ) : EReal) := by
  simp only [val_main_v26_apply, ref25 A h0 h1 h2, h0, h1, h2,
    constant, Ideal.ofBits_def, Ideal.addf_def, Ideal.subf_def, Ideal.mulf_def, Ideal.hostUnary_tanh_def, Ideal.tanh_coe, Ideal.hostConvertf_def, ofBits_zero, ofBits_one, ofBits_half, ofBits_three, ofBits_gc0, ofBits_gc1, ← EReal.coe_mul, ← EReal.coe_add, ← EReal.coe_sub, sum_coe, zero_add, add_zero, Fin.sum_univ_one, Finset.univ_unique, Finset.sum_singleton]
  rfl

include h0 h1 h2 in
theorem ref27 (i) : val_main_v27 (F := Ideal) x0 x1 x2 i = ((A.pre (i 0) (vcol (i 1)) : ℝ) : EReal) := by
  simp only [val_main_v27_apply, ref25 A h0 h1 h2, h0, h1, h2,
    constant, Ideal.ofBits_def, Ideal.addf_def, Ideal.subf_def, Ideal.mulf_def, Ideal.hostUnary_tanh_def, Ideal.tanh_coe, Ideal.hostConvertf_def, ofBits_zero, ofBits_one, ofBits_half, ofBits_three, ofBits_gc0, ofBits_gc1, ← EReal.coe_mul, ← EReal.coe_add, ← EReal.coe_sub, sum_coe, zero_add, add_zero, Fin.sum_univ_one, Finset.univ_unique, Finset.sum_singleton]
  rfl

include h0 h1 h2 in
theorem ref38 (i) : val_main_v38 (F := Ideal) x0 x1 x2 i = ((Real.tanh (gc0 * (A.pre (i 0) (gcol (i 1)) + gc1 * (A.pre (i 0) (gcol (i 1)) * A.pre (i 0) (gcol (i 1)) * A.pre (i 0) (gcol (i 1))))) : ℝ) : EReal) := by
  simp only [val_main_v38_apply, val_main_v37_apply, val_main_v36_apply, val_main_v35_apply, val_main_v34_apply, val_main_v33_apply, val_main_v29_apply, val_main_v28_apply, val_main_cst_2, val_main_cst_3, ref26 A h0 h1 h2, h0, h1, h2,
    constant, Ideal.ofBits_def, Ideal.addf_def, Ideal.subf_def, Ideal.mulf_def, Ideal.hostUnary_tanh_def, Ideal.tanh_coe, Ideal.hostConvertf_def, ofBits_zero, ofBits_one, ofBits_half, ofBits_three, ofBits_gc0, ofBits_gc1, ← EReal.coe_mul, ← EReal.coe_add, ← EReal.coe_sub, sum_coe, zero_add, add_zero, Fin.sum_univ_one, Finset.univ_unique, Finset.sum_singleton]

include h3 h4 in
/-- The gradient at the activation. -/
theorem ref51 (i) : val_main_v51 (F := Ideal) x3 x4 i = ((A.dact (i 0) (i 1) : ℝ) : EReal) := by
  simp only [val_main_v51_apply, h3, h4,
    constant, Ideal.ofBits_def, Ideal.addf_def, Ideal.subf_def, Ideal.mulf_def, Ideal.hostUnary_tanh_def, Ideal.tanh_coe, Ideal.hostConvertf_def, ofBits_zero, ofBits_one, ofBits_half, ofBits_three, ofBits_gc0, ofBits_gc1, ← EReal.coe_mul, ← EReal.coe_add, ← EReal.coe_sub, sum_coe, zero_add, add_zero, Fin.sum_univ_one, Finset.univ_unique, Finset.sum_singleton]
  rfl

include h0 h1 h2 h3 h4 in
/-- The gradient at the value's half. -/
theorem ref52 (i) : val_main_v52 (F := Ideal) x0 x1 x2 x3 x4 i = ((A.dv (i 0) (i 1) : ℝ) : EReal) := by
  simp only [val_main_v52_apply, val_main_v48_apply, val_main_v47_apply, val_main_v46_apply, val_main_v45_apply, val_main_v44_apply, val_main_cst_6, val_main_cst_7, ref26 A h0 h1 h2, ref38 A h0 h1 h2, ref51 A h3 h4, h0, h1, h2, h3, h4,
    constant, Ideal.ofBits_def, Ideal.addf_def, Ideal.subf_def, Ideal.mulf_def, Ideal.hostUnary_tanh_def, Ideal.tanh_coe, Ideal.hostConvertf_def, ofBits_zero, ofBits_one, ofBits_half, ofBits_three, ofBits_gc0, ofBits_gc1, ← EReal.coe_mul, ← EReal.coe_add, ← EReal.coe_sub, sum_coe, zero_add, add_zero, Fin.sum_univ_one, Finset.univ_unique, Finset.sum_singleton]
  refine congrArg (fun r : ℝ => (r : EReal)) ?_
  unfold Data.dv
  rw [sg_tanh]
  ring

include h0 h1 h2 h3 h4 in
theorem ref60 (i) : val_main_v60 (F := Ideal) x0 x1 x2 x3 x4 i = ((gc0 * (1 / 2 * (A.pre (i 0) (gcol (i 1)) * (A.dact (i 0) (i 1) * A.pre (i 0) (vcol (i 1)))) * ((1 + Real.tanh (gc0 * (A.pre (i 0) (gcol (i 1)) + gc1 * (A.pre (i 0) (gcol (i 1)) * A.pre (i 0) (gcol (i 1)) * A.pre (i 0) (gcol (i 1)))))) * (1 - Real.tanh (gc0 * (A.pre (i 0) (gcol (i 1)) + gc1 * (A.pre (i 0) (gcol (i 1)) * A.pre (i 0) (gcol (i 1)) * A.pre (i 0) (gcol (i 1)))))))) : ℝ) : EReal) := by
  simp only [val_main_v60_apply, val_main_v59_apply, val_main_v58_apply, val_main_v57_apply, val_main_v56_apply, val_main_v54_apply, val_main_v53_apply, val_main_v43_apply, val_main_v42_apply, val_main_v41_apply, val_main_v40_apply, val_main_v39_apply, val_main_cst_4, val_main_cst_5, val_main_cst_8, val_main_cst_9, ref26 A h0 h1 h2, ref27 A h0 h1 h2, ref38 A h0 h1 h2, ref51 A h3 h4, h0, h1, h2, h3, h4,
    constant, Ideal.ofBits_def, Ideal.addf_def, Ideal.subf_def, Ideal.mulf_def, Ideal.hostUnary_tanh_def, Ideal.tanh_coe, Ideal.hostConvertf_def, ofBits_zero, ofBits_one, ofBits_half, ofBits_three, ofBits_gc0, ofBits_gc1, ← EReal.coe_mul, ← EReal.coe_add, ← EReal.coe_sub, sum_coe, zero_add, add_zero, Fin.sum_univ_one, Finset.univ_unique, Finset.sum_singleton]

include h0 h1 h2 h3 h4 in
/-- The gradient at the gate's half. -/
theorem ref65 (i) : val_main_v65 (F := Ideal) x0 x1 x2 x3 x4 i = ((A.dg (i 0) (i 1) : ℝ) : EReal) := by
  simp only [val_main_v65_apply, val_main_v64_apply, val_main_v63_apply, val_main_v62_apply, val_main_v61_apply, val_main_v55_apply, val_main_v53_apply, val_main_v47_apply, val_main_v46_apply, val_main_v45_apply, val_main_v44_apply, val_main_v32_apply, val_main_v31_apply, val_main_v30_apply, val_main_cst_1, val_main_cst_6, val_main_cst_7, val_main_cst_10, ref26 A h0 h1 h2, ref27 A h0 h1 h2, ref38 A h0 h1 h2, ref51 A h3 h4, ref60 A h0 h1 h2 h3 h4, h0, h1, h2, h3, h4,
    constant, Ideal.ofBits_def, Ideal.addf_def, Ideal.subf_def, Ideal.mulf_def, Ideal.hostUnary_tanh_def, Ideal.tanh_coe, Ideal.hostConvertf_def, ofBits_zero, ofBits_one, ofBits_half, ofBits_three, ofBits_gc0, ofBits_gc1, ← EReal.coe_mul, ← EReal.coe_add, ← EReal.coe_sub, sum_coe, zero_add, add_zero, Fin.sum_univ_one, Finset.univ_unique, Finset.sum_singleton]
  refine congrArg (fun r : ℝ => (r : EReal)) ?_
  unfold Data.dg
  rw [← dgelu_ref]

include h0 h1 h2 h3 h4 in
/-- The gradient at the convolution. -/
theorem ref66 (i) : val_main_v66 (F := Ideal) x0 x1 x2 x3 x4 i = ((A.dp (i 0) (i 1) : ℝ) : EReal) := by
  unfold val_main_v66 Data.dp
  by_cases h : (i 1).val < 3072
  · rw [dif_pos h, concatenate_pair_apply_left (s₁ := S4096x3072) (s₂ := S4096x3072) 1 _ _ _ i rfl (fun b => match b with | ⟨0, _⟩ => ⟨(i 0).val, (i 0).isLt⟩ | ⟨1, _⟩ => ⟨(i 1).val, h⟩)
      (fun b => match b with | ⟨0, _⟩ => rfl | ⟨1, _⟩ => rfl)]
    exact ref65 A h0 h1 h2 h3 h4 _
  · have hi : (i 1).val < 6144 := (i 1).isLt
    rw [dif_neg h, concatenate_pair_apply_right (s₁ := S4096x3072) (s₂ := S4096x3072) 1 _ _ _ i rfl rfl (fun b => match b with | ⟨0, _⟩ => ⟨(i 0).val, (i 0).isLt⟩ | ⟨1, _⟩ => ⟨(i 1).val - 3072, by show (i 1).val - 3072 < 3072; omega⟩)
      (fun b hb => match b with | ⟨0, _⟩ => rfl | ⟨1, _⟩ => absurd rfl hb) (show (i 1).val - 3072 + 3072 = (i 1).val by omega)]
    exact ref52 A h0 h1 h2 h3 h4 _

include h0 h1 h2 h3 h4 in
/-- The bias's gradient. -/
theorem ref104 (i) : val_main_v104 (F := Ideal) x0 x1 x2 x3 x4 i = ((A.dfb (i 1) : ℝ) : EReal) := by
  simp only [val_main_v104_apply, val_main_v69_apply, val_main_v68_apply, val_main_v67_apply, val_main_cst_11, val_main_cst_12, colA68, colA104, ref66 A h0 h1 h2 h3 h4, h0, h1, h2, h3, h4,
    constant, Ideal.ofBits_def, Ideal.addf_def, Ideal.subf_def, Ideal.mulf_def, Ideal.hostUnary_tanh_def, Ideal.tanh_coe, Ideal.hostConvertf_def, ofBits_zero, ofBits_one, ofBits_half, ofBits_three, ofBits_gc0, ofBits_gc1, ← EReal.coe_mul, ← EReal.coe_add, ← EReal.coe_sub, sum_coe, zero_add, add_zero, Fin.sum_univ_one, Finset.univ_unique, Finset.sum_singleton]
  rfl

include h0 h1 h2 h3 h4 in
/-- A tap's gradient. -/
theorem ref76 (i) : val_main_v76 (F := Ideal) x0 x1 x2 x3 x4 i = ((∑ s, A.su 0 s (i 1) * A.u s (i 1) : ℝ) : EReal) := by
  simp only [val_main_v76_apply, val_main_v75_apply, val_main_v72_apply, val_main_v71_apply, val_main_v70_apply, val_main_cst_13, val_main_cst_14, colA72, ref66 A h0 h1 h2 h3 h4, ref16 A h0, h0, h1, h2, h3, h4,
    constant, Ideal.ofBits_def, Ideal.addf_def, Ideal.subf_def, Ideal.mulf_def, Ideal.hostUnary_tanh_def, Ideal.tanh_coe, Ideal.hostConvertf_def, ofBits_zero, ofBits_one, ofBits_half, ofBits_three, ofBits_gc0, ofBits_gc1, ← EReal.coe_mul, ← EReal.coe_add, ← EReal.coe_sub, sum_coe, zero_add, add_zero, Fin.sum_univ_one, Finset.univ_unique, Finset.sum_singleton]
  refine congrArg (fun r : ℝ => (r : EReal)) (Finset.sum_congr rfl fun s _ => ?_)
  exact (mul_comm _ _).trans (congrArg (fun z => z * A.u s (i 1)) (A.su_zero s (i 1)).symm)

include h0 h1 h2 h3 h4 in
/-- A tap's gradient. -/
theorem ref85 (i) : val_main_v85 (F := Ideal) x0 x1 x2 x3 x4 i = ((∑ s, A.su 1 s (i 1) * A.u s (i 1) : ℝ) : EReal) := by
  simp only [val_main_v85_apply, val_main_v84_apply, val_main_v81_apply, val_main_v80_apply, val_main_v79_apply, val_main_cst_17, val_main_cst_18, colA81, ref66 A h0 h1 h2 h3 h4, ref9 A h0, h0, h1, h2, h3, h4,
    constant, Ideal.ofBits_def, Ideal.addf_def, Ideal.subf_def, Ideal.mulf_def, Ideal.hostUnary_tanh_def, Ideal.tanh_coe, Ideal.hostConvertf_def, ofBits_zero, ofBits_one, ofBits_half, ofBits_three, ofBits_gc0, ofBits_gc1, ← EReal.coe_mul, ← EReal.coe_add, ← EReal.coe_sub, sum_coe, zero_add, add_zero, Fin.sum_univ_one, Finset.univ_unique, Finset.sum_singleton]
  exact congrArg (fun r : ℝ => (r : EReal)) (dfw_eq A 1 (i 1))

include h0 h1 h2 h3 h4 in
/-- A tap's gradient. -/
theorem ref96 (i) : val_main_v96 (F := Ideal) x0 x1 x2 x3 x4 i = ((∑ s, A.su 2 s (i 1) * A.u s (i 1) : ℝ) : EReal) := by
  simp only [val_main_v96_apply, val_main_v95_apply, val_main_v92_apply, val_main_v91_apply, val_main_v90_apply, val_main_cst_21, val_main_cst_22, colA92, ref66 A h0 h1 h2 h3 h4, ref3 A h0, h0, h1, h2, h3, h4,
    constant, Ideal.ofBits_def, Ideal.addf_def, Ideal.subf_def, Ideal.mulf_def, Ideal.hostUnary_tanh_def, Ideal.tanh_coe, Ideal.hostConvertf_def, ofBits_zero, ofBits_one, ofBits_half, ofBits_three, ofBits_gc0, ofBits_gc1, ← EReal.coe_mul, ← EReal.coe_add, ← EReal.coe_sub, sum_coe, zero_add, add_zero, Fin.sum_univ_one, Finset.univ_unique, Finset.sum_singleton]
  exact congrArg (fun r : ℝ => (r : EReal)) (dfw_eq A 2 (i 1))

/-- A row between rows of zeros. -/
theorem pad_row {lo hi : ℕ} (x : S1x6144.Idx → EReal) (v : S_.Idx → EReal) (hv : ∀ j, v j = ((0 : ℝ) : EReal)) (h : S1x6144.Pads ![lo, 0] ![hi, 0] ![0, 0] S3x6144) (hu) (i : S3x6144.Idx) :
    pad S3x6144 ![lo, 0] ![hi, 0] ![0, 0] x v h hu i = if (i 0).val = lo then x (ix2 0 (i 1)) else ((0 : ℝ) : EReal) := by
  by_cases e : (i 0).val = lo
  · rw [if_pos e]
    exact pad_apply_of_inside _ _ _ x v h hu i (ix2 0 (i 1)) (fun a => match a with
      | ⟨0, _⟩ => show (i 0).val = lo + 0 * (0 + 1) by omega
      | ⟨1, _⟩ => show (i 1).val = 0 + (i 1).val * (0 + 1) by omega)
  · rw [if_neg e, pad_apply_of_not_inside _ _ _ x v h hu i 0 (fun hh => ?_)]
    · exact hv _
    · have a1 : lo ≤ (i 0).val := hh.1
      have a2 : ((i 0).val - lo) / (0 + 1) < 1 := hh.2.2
      omega

/-- Rows between rows of zeros. -/
theorem pad_rows {lo hi : ℕ} (x : S4096x6144.Idx → EReal) (v : S_.Idx → EReal) (hv : ∀ j, v j = ((0 : ℝ) : EReal)) (h : S4096x6144.Pads ![lo, 0] ![hi, 0] ![0, 0] S4098x6144) (hu) (i : S4098x6144.Idx) :
    pad S4098x6144 ![lo, 0] ![hi, 0] ![0, 0] x v h hu i = if e : lo ≤ (i 0).val ∧ (i 0).val - lo < 4096 then x (ix2 ⟨(i 0).val - lo, e.2⟩ (i 1)) else ((0 : ℝ) : EReal) := by
  by_cases e : lo ≤ (i 0).val ∧ (i 0).val - lo < 4096
  · rw [dif_pos e]
    exact pad_apply_of_inside _ _ _ x v h hu i (ix2 ⟨(i 0).val - lo, e.2⟩ (i 1)) (fun a => match a with
      | ⟨0, _⟩ => show (i 0).val = lo + ((i 0).val - lo) * (0 + 1) by omega
      | ⟨1, _⟩ => show (i 1).val = 0 + (i 1).val * (0 + 1) by omega)
  · rw [dif_neg e, pad_apply_of_not_inside _ _ _ x v h hu i 0 (fun hh => ?_)]
    · exact hv _
    · have a1 : lo ≤ (i 0).val := hh.1
      have a2 : ((i 0).val - lo) / (0 + 1) < 4096 := hh.2.2
      exact e ⟨a1, by omega⟩

include h0 h1 h2 h3 h4 in
/-- The taps' gradient. -/
theorem ref98 (i) : val_main_v98 (F := Ideal) x0 x1 x2 x3 x4 i = ((A.dfw (i 0) (i 1) : ℝ) : EReal) := by
  have p77 : val_main_v77 (F := Ideal) x0 x1 x2 x3 x4 i = if (i 0).val = 2 then ((∑ s, A.su 0 s (i 1) * A.u s (i 1) : ℝ) : EReal) else ((0 : ℝ) : EReal) :=
    (pad_row (lo := 2) (hi := 0) (val_main_v76 (F := Ideal) x0 x1 x2 x3 x4) (val_main_cst_15 (F := Ideal)) (fun _ => ofBits_zero) _ _ i).trans (by rw [ref76 A h0 h1 h2 h3 h4]; rfl)
  have p86 : val_main_v86 (F := Ideal) x0 x1 x2 x3 x4 i = if (i 0).val = 1 then ((∑ s, A.su 1 s (i 1) * A.u s (i 1) : ℝ) : EReal) else ((0 : ℝ) : EReal) :=
    (pad_row (lo := 1) (hi := 1) (val_main_v85 (F := Ideal) x0 x1 x2 x3 x4) (val_main_cst_19 (F := Ideal)) (fun _ => ofBits_zero) _ _ i).trans (by rw [ref85 A h0 h1 h2 h3 h4]; rfl)
  have p97 : val_main_v97 (F := Ideal) x0 x1 x2 x3 x4 i = if (i 0).val = 0 then ((∑ s, A.su 2 s (i 1) * A.u s (i 1) : ℝ) : EReal) else ((0 : ℝ) : EReal) :=
    (pad_row (lo := 0) (hi := 2) (val_main_v96 (F := Ideal) x0 x1 x2 x3 x4) (val_main_cst_23 (F := Ideal)) (fun _ => ofBits_zero) _ _ i).trans (by rw [ref96 A h0 h1 h2 h3 h4]; rfl)
  simp only [val_main_v98_apply, val_main_v87_apply, p77, p86, p97, Ideal.addf_def]
  unfold Data.dfw
  have hi : (i 0).val < 3 := (i 0).isLt
  rcases (by omega : (i 0).val = 0 ∨ (i 0).val = 1 ∨ (i 0).val = 2) with e | e | e <;> simp [e]

include h0 h1 h2 h3 h4 in
/-- The gradient at the up projection. -/
theorem ref103 (i) : val_main_v103 (F := Ideal) x0 x1 x2 x3 x4 i = ((A.dup (i 0) (i 1) : ℝ) : EReal) := by
  have w2 : ∀ j : S4096x6144.Idx, val_main_v74 (F := Ideal) x0 x1 x2 x3 x4 j = ((A.dp (j 0) (j 1) * A.fw 2 (j 1) : ℝ) : EReal) := fun j => by
    simp only [val_main_v74_apply, val_main_v73_apply, val_main_v19_apply, val_main_v18_apply, val_main_v17_apply, tap18, ref66 A h0 h1 h2 h3 h4, h1, Ideal.mulf_def, ← EReal.coe_mul]
    rfl
  have w1 : ∀ j : S4096x6144.Idx, val_main_v83 (F := Ideal) x0 x1 x2 x3 x4 j = ((A.dp (j 0) (j 1) * A.fw 1 (j 1) : ℝ) : EReal) := fun j => by
    simp only [val_main_v83_apply, val_main_v82_apply, val_main_v12_apply, val_main_v11_apply, val_main_v10_apply, tap11, ref66 A h0 h1 h2 h3 h4, h1, Ideal.mulf_def, ← EReal.coe_mul]
    rfl
  have w0 : ∀ j : S4096x6144.Idx, val_main_v94 (F := Ideal) x0 x1 x2 x3 x4 j = ((A.dp (j 0) (j 1) * A.fw 0 (j 1) : ℝ) : EReal) := fun j => by
    simp only [val_main_v94_apply, val_main_v93_apply, val_main_v6_apply, val_main_v5_apply, val_main_v4_apply, tap5, ref66 A h0 h1 h2 h3 h4, h1, Ideal.mulf_def, ← EReal.coe_mul]
    rfl
  have hi : (i 0).val < 4096 := (i 0).isLt
  have p78 : val_main_v78 (F := Ideal) x0 x1 x2 x3 x4 (idx_main_v102 i) = ((A.su 0 (i 0) (i 1) * A.fw 2 (i 1) : ℝ) : EReal) := by
    refine (pad_rows (lo := 2) (hi := 0) (val_main_v74 (F := Ideal) x0 x1 x2 x3 x4) (val_main_cst_16 (F := Ideal)) (fun _ => ofBits_zero) _ _ (idx_main_v102 i)).trans ?_
    unfold Data.su
    by_cases e : (i 0).val + 0 < 4096
    · rw [dif_pos e, dif_pos (show 2 ≤ 2 + (i 0).val ∧ 2 + (i 0).val - 2 < 4096 by omega), w2]
      refine congrArg (fun s => ((A.dp s (i 1) * A.fw 2 (i 1) : ℝ) : EReal)) (Fin.ext (show 2 + (i 0).val - 2 = (i 0).val + 0 by omega))
    · rw [dif_neg e, dif_neg (show ¬(2 ≤ 2 + (i 0).val ∧ 2 + (i 0).val - 2 < 4096) by omega), zero_mul]
  have p88 : val_main_v88 (F := Ideal) x0 x1 x2 x3 x4 (idx_main_v102 i) = ((A.su 1 (i 0) (i 1) * A.fw 1 (i 1) : ℝ) : EReal) := by
    refine (pad_rows (lo := 1) (hi := 1) (val_main_v83 (F := Ideal) x0 x1 x2 x3 x4) (val_main_cst_20 (F := Ideal)) (fun _ => ofBits_zero) _ _ (idx_main_v102 i)).trans ?_
    unfold Data.su
    by_cases e : (i 0).val + 1 < 4096
    · rw [dif_pos e, dif_pos (show 1 ≤ 2 + (i 0).val ∧ 2 + (i 0).val - 1 < 4096 by omega), w1]
      refine congrArg (fun s => ((A.dp s (i 1) * A.fw 1 (i 1) : ℝ) : EReal)) (Fin.ext (show 2 + (i 0).val - 1 = (i 0).val + 1 by omega))
    · rw [dif_neg e, dif_neg (show ¬(1 ≤ 2 + (i 0).val ∧ 2 + (i 0).val - 1 < 4096) by omega), zero_mul]
  have p99 : val_main_v99 (F := Ideal) x0 x1 x2 x3 x4 (idx_main_v102 i) = ((A.su 2 (i 0) (i 1) * A.fw 0 (i 1) : ℝ) : EReal) := by
    refine (pad_rows (lo := 0) (hi := 2) (val_main_v94 (F := Ideal) x0 x1 x2 x3 x4) (val_main_cst_24 (F := Ideal)) (fun _ => ofBits_zero) _ _ (idx_main_v102 i)).trans ?_
    unfold Data.su
    by_cases e : (i 0).val + 2 < 4096
    · rw [dif_pos e, dif_pos (show 0 ≤ 2 + (i 0).val ∧ 2 + (i 0).val - 0 < 4096 by omega), w0]
      refine congrArg (fun s => ((A.dp s (i 1) * A.fw 0 (i 1) : ℝ) : EReal)) (Fin.ext (show 2 + (i 0).val - 0 = (i 0).val + 2 by omega))
    · rw [dif_neg e, dif_neg (show ¬(0 ≤ 2 + (i 0).val ∧ 2 + (i 0).val - 0 < 4096) by omega), zero_mul]
  simp only [val_main_v103_apply, val_main_v102_apply, val_main_v100_apply, val_main_v89_apply, p78, p88, p99, Ideal.addf_def, Ideal.hostConvertf_def, ← EReal.coe_add]
  refine congrArg (fun r : ℝ => (r : EReal)) ?_
  refine Eq.trans ?_ (show A.fw 2 (i 1) * A.dp (i 0) (i 1) + A.fw 1 (i 1) * A.su 1 (i 0) (i 1) + A.fw 0 (i 1) * A.su 2 (i 0) (i 1) = A.dup (i 0) (i 1) from rfl)
  rw [← A.su_zero (i 0) (i 1)]
  ring

end Cert.Proof.FfnA
-- ==== Proof.FfnAEntry.lean ====
/- What the kernel of the gate's backward call finds in its input blocks, on finite arguments: 256 rows of the row operands at
   each point, from the last block to the first, the weights, the taps and the two shift matrices. -/
module

public import proofs.«01_k».proof.Proof.Gen.KernelAIdeal.Frame
public import proofs.«01_k».proof.Proof.FfnARef
public import proofs.«01_k».proof.Proof.FfnATile

@[expose] public section

noncomputable section

namespace Cert.Proof.FfnA

open Cert.KernelAIdeal Cert.KernelAIdeal.Gen Idealize.ShloMosaic Idealize.ShloMosaic.TcCoe Idealize.SL.Sem Cert.Proof.Lift Cert.Proof.FfnF

/-- The argument arrays hold the data. -/
structure Holds (A : Data) (x0 : (⟨S4096x6144, .f32⟩ : BufTy).Contents (Elt Ideal)) (x1 : (⟨S3x6144, .f32⟩ : BufTy).Contents (Elt Ideal)) (x2 : (⟨S6144, .f32⟩ : BufTy).Contents (Elt Ideal)) (x3 : (⟨S3072x1024, .f32⟩ : BufTy).Contents (Elt Ideal)) (x4 : (⟨S4096x1024, .f32⟩ : BufTy).Contents (Elt Ideal)) : Prop where
  h0 : ∀ i, x0 i = ((A.u (i 0) (i 1) : ℝ) : EReal)
  h1 : ∀ i, x1 i = ((A.fw (i 0) (i 1) : ℝ) : EReal)
  h2 : ∀ i, x2 i = ((A.fb (i 0) : ℝ) : EReal)
  h3 : ∀ i, x3 i = ((A.wd (i 0) (i 1) : ℝ) : EReal)
  h4 : ∀ i, x4 i = ((A.dy (i 0) (i 1) : ℝ) : EReal)

/-- One shift matrix: a one where the column is the row plus `k`. -/
def eye (k : BitVec 32) : Vec Ideal S1x256x256 .bf16 :=
  broadcastInDim S1x256x256 ![1, 2] bcast_S256x256_S1x256x256_1_2 (uitofp (F := Ideal) .bf16 (cmpi .eq (addi (iotaInDim S256x256 32 0) (broadcastInDim S256x256 ![] bcast_S_S256x256 (constantI S_ 32 k))) (iotaInDim S256x256 32 1)))

/-- The two shift matrices the program builds. -/
def um : Vec Ideal S2x256x256 .bf16 := concatenate S2x256x256 0 [⟨S1x256x256, eye 1#32⟩, ⟨S1x256x256, eye 2#32⟩] concatenates_S1x256x256_S1x256x256_S2x256x256_d0

theorem eye_bit (k : ℕ) (hk : k ≤ 2) (a b : Fin 256) :
    FloatOps.uitofp (F := Ideal) FTy.bf16 (IntOp.cmpi CmpIPredicate.eq (IntOp.addi (BitVec.ofNat 32 a.val) (BitVec.ofNat 32 k)) (BitVec.ofNat 32 b.val))
      = ((if a.val + k = b.val then 1 else 0 : ℝ) : EReal) := by
  have h : (BitVec.ofNat 32 a.val + BitVec.ofNat 32 k = BitVec.ofNat 32 b.val) ↔ a.val + k = b.val := by
    rw [← BitVec.toNat_inj, BitVec.toNat_add]
    simp only [BitVec.toNat_ofNat]
    omega
  by_cases e : a.val + k = b.val
  · rw [if_pos e]; simp [IntOp.cmpi, IntOp.addi, h.2 e, FloatOps.uitofp]
  · rw [if_neg e]; simp [IntOp.cmpi, IntOp.addi, beq_eq_false_iff_ne.2 (mt h.1 e), FloatOps.uitofp]

theorem um_entry (k : Fin 2) (a b : Fin 256) : um (ix3 k a b)
    = (((if a.val + (k.val + 1) = b.val then 1 else 0 : ℝ)) : EReal) := by
  unfold um
  pointwise
  match k with
  | ⟨0, _⟩ =>
    rw [dif_pos (show (0 : ℕ) < 1 by decide)]
    unfold eye
    pointwise
    exact eye_bit 1 (by decide) a b
  | ⟨1, _⟩ =>
    rw [dif_neg (show ¬(1 : ℕ) < 1 by decide)]
    unfold eye
    pointwise
    exact eye_bit 2 (by decide) a b

/-- The block of rows that point `t` works on. -/
def bk (t : ℕ) : Fin 16 := ⟨15 - t, by omega⟩

/-- Which block of each operand a point reads. -/
theorem idx_in : ∀ t : Fin cfg0.N, (win0_0.index t (0 : Fin 2) = 15 - t.val ∧ win0_0.index t (1 : Fin 2) = 0)
    ∧ (win0_1.index t (0 : Fin 2) = 15 - t.val ∧ win0_1.index t (1 : Fin 2) = 0)
    ∧ (win0_2.index t (0 : Fin 2) = 15 - t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = 0 ∧ win0_5.index t (1 : Fin 3) = 0 ∧ win0_5.index t (2 : Fin 3) = 0) :=
  (by decide +kernel : ∀ t : Fin grid0.N, _)

variable (m : (ℓ : Loc nD τ sig) → Buf (Elt Ideal) ℓ) (c : Dev nD) (A : Data)

/-- … on device `c`. -/
abbrev HoldsAt : Prop := Holds A (m ((c : Thread nD τ).loc main_arg0)) (m ((c : Thread nD τ).loc main_arg1)) (m ((c : Thread nD τ).loc main_arg2)) (m ((c : Thread nD τ).loc main_arg3)) (m ((c : Thread nD τ).loc main_arg4))

variable {m c A} (H : HoldsAt m c A)
include H

theorem blk0 (t : Fin cfg0.N) (r : Fin 256) (d : Fin 1024) : (iblk m c 0 t : Vec Ideal S256x1024 .bf16) (ix2 r d) = ((A.dy (rw_ (bk t.val) r) d : ℝ) : EReal) := by
  obtain ⟨a0, a1⟩ := (idx_in t).1
  have e : (V m c main_v25 : S4096x1024.Idx → EReal) = m ((c : Thread nD τ).loc main_arg4) := by
    unfold_abbrev_sides
    after_results
    rfl
  unfold iblk
  rw [View.read_apply]
  show (V m c main_v25 : S4096x1024.Idx → EReal) _ = _
  refine Eq.trans (congrArg _ (?_ : _ = (ix2 (rw_ (bk t.val) r) d : S4096x1024.Idx))) ((congrFun e _).trans (H.h4 _))
  funext z
  apply Fin.ext
  match z with
  | ⟨0, _⟩ => show win0_0.index t 0 * 256 + 1 * r.val = (15 - t.val) * 256 + r.val; rw [a0]; omega
  | ⟨1, _⟩ => show win0_0.index t 1 * 1024 + 1 * d.val = d.val; rw [a1]; omega

theorem blk1 (t : Fin cfg0.N) (r : Fin 256) (d : Fin 6144) : (iblk m c 1 t : Vec Ideal S256x6144 .bf16) (ix2 r d) = ((A.pre (rw_ (bk t.val) r) d : ℝ) : EReal) := by
  obtain ⟨a0, a1⟩ := (idx_in t).2.1
  have e : (V m c main_v26 : S4096x6144.Idx → EReal) = Cert.ReferenceAIdeal.Read.val_main_v25 (F := Ideal) (m ((c : Thread nD τ).loc main_arg0)) (m ((c : Thread nD τ).loc main_arg1)) (m ((c : Thread nD τ).loc main_arg2)) := by
    unfold_abbrev_sides
    after_results
    rfl
  unfold iblk
  rw [View.read_apply]
  show (V m c main_v26 : S4096x6144.Idx → EReal) _ = _
  refine Eq.trans (congrArg _ (?_ : _ = (ix2 (rw_ (bk t.val) r) d : S4096x6144.Idx))) ((congrFun e _).trans (ref25 A H.h0 H.h1 H.h2 _))
  funext z
  apply Fin.ext
  match z with
  | ⟨0, _⟩ => show win0_1.index t 0 * 256 + 1 * r.val = (15 - t.val) * 256 + r.val; rw [a0]; omega
  | ⟨1, _⟩ => show win0_1.index t 1 * 6144 + 1 * d.val = d.val; rw [a1]; omega

theorem blk2 (t : Fin cfg0.N) (r : Fin 256) (d : Fin 6144) : (iblk m c 2 t : Vec Ideal S256x6144 .bf16) (ix2 r d) = ((A.u (rw_ (bk t.val) r) d : ℝ) : EReal) := by
  obtain ⟨a0, a1⟩ := (idx_in t).2.2.1
  have e : (V m c main_v27 : S4096x6144.Idx → EReal) = m ((c : Thread nD τ).loc main_arg0) := by
    unfold_abbrev_sides
    after_results
    rfl
  unfold iblk
  rw [View.read_apply]
  show (V m c main_v27 : S4096x6144.Idx → EReal) _ = _
  refine Eq.trans (congrArg _ (?_ : _ = (ix2 (rw_ (bk t.val) r) d : S4096x6144.Idx))) ((congrFun e _).trans (H.h0 _))
  funext z
  apply Fin.ext
  match z with
  | ⟨0, _⟩ => show win0_2.index t 0 * 256 + 1 * r.val = (15 - t.val) * 256 + r.val; rw [a0]; omega
  | ⟨1, _⟩ => show win0_2.index t 1 * 6144 + 1 * d.val = d.val; rw [a1]; omega

theorem blk3 (t : Fin cfg0.N) (r : Fin 3072) (d : Fin 1024) : (iblk m c 3 t : Vec Ideal S3072x1024 .bf16) (ix2 r d) = ((A.wd r d : ℝ) : EReal) := by
  obtain ⟨a0, a1⟩ := (idx_in t).2.2.2.1
  have e : (V m c main_v28 : S3072x1024.Idx → EReal) = m ((c : Thread nD τ).loc main_arg3) := by
    unfold_abbrev_sides
    after_results
    rfl
  unfold iblk
  rw [View.read_apply]
  show (V m c main_v28 : S3072x1024.Idx → EReal) _ = _
  refine Eq.trans (congrArg _ (?_ : _ = (ix2 r d : S3072x1024.Idx))) ((congrFun e _).trans (H.h3 _))
  funext z
  apply Fin.ext
  match z with
  | ⟨0, _⟩ => show win0_3.index t 0 * 3072 + 1 * r.val = r.val; rw [a0]; omega
  | ⟨1, _⟩ => show win0_3.index t 1 * 1024 + 1 * d.val = d.val; rw [a1]; omega

theorem blk4 (t : Fin cfg0.N) (r : Fin 3) (d : Fin 6144) : (iblk m c 4 t : Vec Ideal S3x6144 .f32) (ix2 r d) = ((A.fw r d : ℝ) : EReal) := by
  obtain ⟨a0, a1⟩ := (idx_in t).2.2.2.2.1
  have e : (V m c main_arg1 : S3x6144.Idx → EReal) = m ((c : Thread nD τ).loc main_arg1) := V_main_arg1 m c
  unfold iblk
  rw [View.read_apply]
  show (V m c main_arg1 : S3x6144.Idx → EReal) _ = _
  refine Eq.trans (congrArg _ (?_ : _ = (ix2 r d : S3x6144.Idx))) ((congrFun e _).trans (H.h1 _))
  funext z
  apply Fin.ext
  match z with
  | ⟨0, _⟩ => show win0_4.index t 0 * 3 + 1 * r.val = r.val; rw [a0]; omega
  | ⟨1, _⟩ => show win0_4.index t 1 * 6144 + 1 * d.val = d.val; rw [a1]; omega

theorem blk5 (t : Fin cfg0.N) (k : Fin 2) (a b : Fin 256) : (iblk m c 5 t : Vec Ideal S2x256x256 .bf16) (ix3 k a b) = ((if a.val + (k.val + 1) = b.val then 1 else 0 : ℝ) : EReal) := by
  obtain ⟨a0, a1, a2⟩ := (idx_in t).2.2.2.2.2
  have e : (V m c main_v43 : S2x256x256.Idx → EReal) = um := by
    unfold_abbrev_sides
    after_results
    rfl
  unfold iblk
  rw [View.read_apply]
  show (V m c main_v43 : S2x256x256.Idx → EReal) _ = _
  refine Eq.trans (congrArg _ (?_ : _ = (ix3 k a b : S2x256x256.Idx))) ((congrFun e _).trans (um_entry k a b))
  funext z
  apply Fin.ext
  match z with
  | ⟨0, _⟩ => show win0_5.index t 0 * 2 + 1 * k.val = k.val; rw [a0]; omega
  | ⟨1, _⟩ => show win0_5.index t 1 * 256 + 1 * a.val = a.val; rw [a1]; omega
  | ⟨2, _⟩ => show win0_5.index t 2 * 256 + 1 * b.val = b.val; rw [a2]; omega

end Cert.Proof.FfnA
-- ==== Proof.FfnASum.lean ====
/- The grid of the gate's backward call: each point leaves its block's rows and carries the block's first eight rows of the
   gradient to the next; the column sums run over the blocks done so far, from the last. -/
module

public import proofs.«01_k».proof.Proof.FfnABlockA
public import proofs.«01_k».proof.Proof.FfnABlockB
public import proofs.«01_k».proof.Proof.FfnAEntry

@[expose] public section

noncomputable section

namespace Cert.Proof.FfnA

open Cert.KernelAIdeal Cert.KernelAIdeal.Gen Idealize.ShloMosaic Idealize.ShloMosaic.TcCoe Idealize.SL.Sem Cert.Proof.Lift Cert.Proof.FfnF

/-- The sum over the first `n` points. -/
def part (g : Fin 16 → ℝ) (n : ℕ) : ℝ := ∑ t ∈ Finset.range n, g (bk t)

theorem part_succ (g : Fin 16 → ℝ) (n : ℕ) : part g (n + 1) = part g n + g (bk n) := Finset.sum_range_succ _ _
theorem part_one (g : Fin 16 → ℝ) : part g 1 = 0 + g (bk 0) := by rw [part_succ, part, Finset.sum_range_zero]

/-- All sixteen points see every position once. -/
theorem part_all (f : Fin 4096 → ℝ) : part (fun n => ∑ r, f (rw_ n r)) 16 = ∑ s, f s := by
  unfold part
  rw [Finset.sum_range]
  refine (Equiv.sum_comp Fin.revPerm (fun n : Fin 16 => ∑ r, f (rw_ n r)) |> Eq.trans (Finset.sum_congr rfl fun n _ => ?_)).trans ?_
  · exact congrArg (fun n : Fin 16 => ∑ r, f (rw_ n r)) (Fin.ext (show 15 - n.val = 16 - (n.val + 1) by omega))
  · rw [← Equiv.sum_comp (finProdFinEquiv (m := 16) (n := 256)) f, Fintype.sum_prod_type]
    exact Finset.sum_congr rfl fun n _ => Finset.sum_congr rfl fun r _ => congrArg f (Fin.ext (show n.val * 256 + r.val = r.val + 256 * n.val by omega))

/-- The rows carried into a point are the first eight of the block after its own. -/
theorem nx_succ (A : Data) (n : ℕ) (h : n + 1 < cfg0.N) (i : Fin 8) (c : Fin 6144) : A.dp (rw_ (bk n) ⟨i.val, by omega⟩) c = A.nx (bk (n + 1)) i c := by
  have h16 := lt_of_lt_of_eq h (show cfg0.N = 16 from N_0)
  unfold Data.nx
  rw [dif_neg (show ¬(bk (n + 1)).val = 15 by show ¬15 - (n + 1) = 15; omega)]
  refine congrArg (fun s => A.dp s c) (Fin.ext ?_)
  show (15 - n) * 256 + i.val = (15 - (n + 1)) * 256 + 256 + i.val
  omega

variable {m : (ℓ : Loc nD τ sig) → Buf (Elt Ideal) ℓ} {c : Dev nD} {A : Data} (H : HoldsAt m c A)
include H

theorem outsS : ∀ (n : ℕ) (hn : n < cfg0.N) (i : Fin 8) (q : Fin 6144),
    (outsAt0 m c n hn).2.2.2 (ix2 i q) = ((A.dp (rw_ (bk n) ⟨i.val, by omega⟩) q : ℝ) : EReal)
  | 0, hn, i, q => by
    rw [outsAt0_A m c ⟨0, hn⟩ rfl]
    dsimp only
    exact oAs (A := A) (n := bk (0)) (e0 := blk0 H ⟨0, hn⟩) (e1 := blk1 H ⟨0, hn⟩) (e3 := blk3 H ⟨0, hn⟩) (i0 := i) (c0 := q) ..
  | n + 1, hn, i, q => by
    have hb : ¬(n + 1) % 16 = 0 := by have := lt_of_lt_of_eq hn (show cfg0.N = 16 from N_0); omega
    rw [outsAt0_B m c ⟨n + 1, hn⟩ hb]
    dsimp only
    exact oBs (A := A) (n := bk (n + 1)) (e0 := blk0 H ⟨n + 1, hn⟩) (e1 := blk1 H ⟨n + 1, hn⟩) (e3 := blk3 H ⟨n + 1, hn⟩) (i0 := i) (c0 := q) ..

theorem outs6 : ∀ (n : ℕ) (hn : n < cfg0.N) (i : Fin 256) (q : Fin 6144),
    (outsAt0 m c n hn).1 (ix2 i q) = ((A.dup (rw_ (bk n) i) q : ℝ) : EReal)
  | 0, hn, i, q => by
    rw [outsAt0_A m c ⟨0, hn⟩ rfl]
    dsimp only
    exact oA6 (A := A) (n := bk (0)) (e0 := blk0 H ⟨0, hn⟩) (e1 := blk1 H ⟨0, hn⟩) (e3 := blk3 H ⟨0, hn⟩) (e4 := blk4 H ⟨0, hn⟩) (e5 := blk5 H ⟨0, hn⟩) (hn := rfl) (i0 := i) (c0 := q) ..
  | n + 1, hn, i, q => by
    have hb : ¬(n + 1) % 16 = 0 := by have := lt_of_lt_of_eq hn (show cfg0.N = 16 from N_0); omega
    rw [outsAt0_B m c ⟨n + 1, hn⟩ hb]
    dsimp only
    exact oB6 (A := A) (n := bk (n + 1)) (e0 := blk0 H ⟨n + 1, hn⟩) (e1 := blk1 H ⟨n + 1, hn⟩) (e3 := blk3 H ⟨n + 1, hn⟩) (e4 := blk4 H ⟨n + 1, hn⟩) (e5 := blk5 H ⟨n + 1, hn⟩) (es := fun i q => (outsS H n (Nat.lt_of_succ_lt hn) i q).trans (congrArg (fun r : ℝ => (r : EReal)) (nx_succ A n hn i q))) (i0 := i) (c0 := q) ..

theorem outs7 : ∀ (n : ℕ) (hn : n < cfg0.N) (i : Fin 3) (q : Fin 6144),
    (outsAt0 m c n hn).2.1 (ix2 i q) = ((part (fun b => A.dfwB b i q) (n + 1) : ℝ) : EReal)
  | 0, hn, i, q => by
    rw [outsAt0_A m c ⟨0, hn⟩ rfl]
    dsimp only
    exact Eq.trans (oA7 (A := A) (n := bk (0)) (e0 := blk0 H ⟨0, hn⟩) (e1 := blk1 H ⟨0, hn⟩) (e2 := blk2 H ⟨0, hn⟩) (e3 := blk3 H ⟨0, hn⟩) (e5 := blk5 H ⟨0, hn⟩) (hn := rfl) (i0 := i) (c0 := q) ..) (congrArg (fun r : ℝ => (r : EReal)) (part_one (fun b => A.dfwB b i q)).symm)
  | n + 1, hn, i, q => by
    have hb : ¬(n + 1) % 16 = 0 := by have := lt_of_lt_of_eq hn (show cfg0.N = 16 from N_0); omega
    rw [outsAt0_B m c ⟨n + 1, hn⟩ hb]
    dsimp only
    exact Eq.trans (oB7 (A := A) (n := bk (n + 1)) (e0 := blk0 H ⟨n + 1, hn⟩) (e1 := blk1 H ⟨n + 1, hn⟩) (e2 := blk2 H ⟨n + 1, hn⟩) (e3 := blk3 H ⟨n + 1, hn⟩) (e5 := blk5 H ⟨n + 1, hn⟩) (es := fun i q => (outsS H n (Nat.lt_of_succ_lt hn) i q).trans (congrArg (fun r : ℝ => (r : EReal)) (nx_succ A n hn i q))) (FW := fun i q => part (fun b => A.dfwB b i q) (n + 1)) (e7 := outs7 n (Nat.lt_of_succ_lt hn)) (i0 := i) (c0 := q) ..) (congrArg (fun r : ℝ => (r : EReal)) (part_succ (fun b => A.dfwB b i q) (n + 1)).symm)

theorem outs8 : ∀ (n : ℕ) (hn : n < cfg0.N) (i : Fin 1) (q : Fin 6144),
    (outsAt0 m c n hn).2.2.1 (ix2 i q) = ((part (fun b => A.dfbB b q) (n + 1) : ℝ) : EReal)
  | 0, hn, i, q => by
    rw [outsAt0_A m c ⟨0, hn⟩ rfl]
    dsimp only
    exact Eq.trans (oA8 (A := A) (n := bk (0)) (e0 := blk0 H ⟨0, hn⟩) (e1 := blk1 H ⟨0, hn⟩) (e3 := blk3 H ⟨0, hn⟩) (i0 := i) (c0 := q) ..) (congrArg (fun r : ℝ => (r : EReal)) (part_one (fun b => A.dfbB b q)).symm)
  | n + 1, hn, i, q => by
    have hb : ¬(n + 1) % 16 = 0 := by have := lt_of_lt_of_eq hn (show cfg0.N = 16 from N_0); omega
    rw [outsAt0_B m c ⟨n + 1, hn⟩ hb]
    dsimp only
    exact Eq.trans (oB8 (A := A) (n := bk (n + 1)) (e0 := blk0 H ⟨n + 1, hn⟩) (e1 := blk1 H ⟨n + 1, hn⟩) (e3 := blk3 H ⟨n + 1, hn⟩) (FB := fun q => part (fun b => A.dfbB b q) (n + 1)) (e8 := outs8 n (Nat.lt_of_succ_lt hn) 0) (i0 := i) (c0 := q) ..) (congrArg (fun r : ℝ => (r : EReal)) (part_succ (fun b => A.dfbB b q) (n + 1)).symm)

end Cert.Proof.FfnA
-- ==== Proof.FfnAValue.lean ====
/- The gate's backward call, closed: the arrays the kernel's run leaves are the reference's, on finite arguments. -/
module

public import proofs.«01_k».proof.Defs
public import proofs.«01_k».proof.Proof.Gen.KernelAIdeal.Value
public import proofs.«01_k».proof.Proof.Gen.Pre_finite_a
public import proofs.«01_k».proof.Proof.Gen.ReferenceAIdeal
public import proofs.«01_k».proof.Proof.Finite
public import proofs.«01_k».proof.Proof.FfnASum

@[expose] public section

noncomputable section

namespace Cert.Proof.FfnA

open Cert.KernelAIdeal Cert.KernelAIdeal.Gen Cert.KernelAIdeal.Value Idealize.ShloMosaic Idealize.ShloMosaic.TcCoe Idealize.SL.Sem Cert.Proof.Lift Cert.Proof.FfnF Cert.Proof.Finite

section Arrays
variable {m : (ℓ : Loc nD τ sig) → Buf (Elt Ideal) ℓ} {c : Dev nD} {A : Data} (H : HoldsAt m c A)

theorem idx6 : ∀ t : Fin cfg0.N, win0_6.index t (0 : Fin 2) = 15 - t.val ∧ win0_6.index t (1 : Fin 2) = 0 ∧ win0_6.flush t = true :=
  (by decide +kernel : ∀ t : Fin grid0.N, _)

include H in
theorem arr6 : (dats m 0 c).arrAt 6 cfg0.N = fun i : S4096x6144.Idx => ((A.dup (i 0) (i 1) : ℝ) : EReal) := by
  refine (dats m 0 c).arrAt_eq_of_cover 6 _ (fun t hf => ?_) (fun i => ?_)
  · rw [flushed6]
    obtain ⟨a0, a1, -⟩ := idx6 t
    funext y
    show (outsAt0 m c t.val t.isLt).1 ((cfg0.win 6).xinj (grid0.coords t) y) = _
    refine ((congrArg _ (eq_ix2 _)).trans (outs6 H t.val t.isLt _ _)).trans (congrArg (fun r : ℝ => (r : EReal)) (congrArg₂ A.dup (Fin.ext ?_) (Fin.ext ?_)))
    · show (15 - t.val) * 256 + (y 0).val = win0_6.index t 0 * 256 + 1 * (y 0).val
      rw [a0]; omega
    · show (y 1).val = win0_6.index t 1 * 6144 + 1 * (y 1).val
      rw [a1]; omega
  · have h0 : (i 0).val < 4096 := (i 0).isLt
    have h1 : (i 1).val < 6144 := (i 1).isLt
    let t : Fin cfg0.N := ⟨15 - (i 0).val / 256, lt_of_lt_of_eq (by omega) N_0.symm⟩
    have ht : 15 - t.val = (i 0).val / 256 := by show 15 - (15 - (i 0).val / 256) = _; omega
    obtain ⟨a0, a1, hf⟩ := idx6 t
    refine ⟨t, hf, ?_⟩
    show i ∈ ((View.whole main_v44_0).slice (win0_6.rect t)).set
    rw [View.set_slice_whole, Rect.mem_set_unit]
    intro a
    match a with
    | ⟨0, _⟩ => show win0_6.index t 0 * 256 ≤ (i 0).val ∧ (i 0).val < win0_6.index t 0 * 256 + 256; rw [a0, ht]; omega
    | ⟨1, _⟩ => show win0_6.index t 1 * 6144 ≤ (i 1).val ∧ (i 1).val < win0_6.index t 1 * 6144 + 6144; rw [a1]; omega

theorem all7 (A : Data) (i : Fin 3) (q : Fin 6144) : part (fun b => A.dfwB b i q) 16 = A.dfw i q := part_all (fun s => A.su (2 - i.val) s q * A.u s q)

theorem idx7 : ∀ t : Fin cfg0.N, win0_7.index t (0 : Fin 2) = 0 ∧ win0_7.index t (1 : Fin 2) = 0 ∧ (win0_7.flush t = true ↔ t.val = 15) :=
  (by decide +kernel : ∀ t : Fin grid0.N, _)

include H in
theorem arr7 : (dats m 0 c).arrAt 7 cfg0.N = fun i : S3x6144.Idx => ((A.dfw (i 0) (i 1) : ℝ) : EReal) := by
  refine (dats m 0 c).arrAt_eq_of_cover 7 _ (fun t hf => ?_) (fun i => ?_)
  · rw [flushed7]
    obtain ⟨a0, a1, a2⟩ := idx7 t
    have h7 : t.val = 15 := a2.1 hf
    funext y
    show (outsAt0 m c t.val t.isLt).2.1 ((cfg0.win 7).xinj (grid0.coords t) y) = _
    refine (congrArg _ (eq_ix2 _)).trans ((outs7 H t.val t.isLt _ _).trans (congrArg (fun r : ℝ => (r : EReal)) ?_))
    rw [show t.val + 1 = 16 by omega]
    refine (all7 A _ _).trans ?_
    refine congrArg₂ A.dfw (Fin.ext ?_) (Fin.ext ?_)
    · show (y 0).val = win0_7.index t 0 * 3 + 1 * (y 0).val
      rw [a0]; omega
    · show (y 1).val = win0_7.index t 1 * 6144 + 1 * (y 1).val
      rw [a1]; omega
  · have h0 : (i 0).val < 3 := (i 0).isLt
    have h1 : (i 1).val < 6144 := (i 1).isLt
    let t : Fin cfg0.N := ⟨15, lt_of_lt_of_eq (by omega) N_0.symm⟩
    obtain ⟨a0, a1, a2⟩ := idx7 t
    refine ⟨t, a2.2 rfl, ?_⟩
    show i ∈ ((View.whole main_v44_1).slice (win0_7.rect t)).set
    rw [View.set_slice_whole, Rect.mem_set_unit]
    intro a
    match a with
    | ⟨0, _⟩ => show win0_7.index t 0 * 3 ≤ (i 0).val ∧ (i 0).val < win0_7.index t 0 * 3 + 3; rw [a0]; omega
    | ⟨1, _⟩ => show win0_7.index t 1 * 6144 ≤ (i 1).val ∧ (i 1).val < win0_7.index t 1 * 6144 + 6144; rw [a1]; omega

theorem all8 (A : Data) (i : Fin 1) (q : Fin 6144) : part (fun b => A.dfbB b q) 16 = A.dfb q := part_all (fun s => A.dp s q)

theorem idx8 : ∀ t : Fin cfg0.N, win0_8.index t (0 : Fin 2) = 0 ∧ win0_8.index t (1 : Fin 2) = 0 ∧ (win0_8.flush t = true ↔ t.val = 15) :=
  (by decide +kernel : ∀ t : Fin grid0.N, _)

include H in
theorem arr8 : (dats m 0 c).arrAt 8 cfg0.N = fun i : S1x6144.Idx => ((A.dfb (i 1) : ℝ) : EReal) := by
  refine (dats m 0 c).arrAt_eq_of_cover 8 _ (fun t hf => ?_) (fun i => ?_)
  · rw [flushed8]
    obtain ⟨a0, a1, a2⟩ := idx8 t
    have h7 : t.val = 15 := a2.1 hf
    funext y
    show (outsAt0 m c t.val t.isLt).2.2.1 ((cfg0.win 8).xinj (grid0.coords t) y) = _
    refine (congrArg _ (eq_ix2 _)).trans ((outs8 H t.val t.isLt _ _).trans (congrArg (fun r : ℝ => (r : EReal)) ?_))
    rw [show t.val + 1 = 16 by omega]
    refine (all8 A 0 _).trans ?_
    refine congrArg A.dfb (Fin.ext ?_)
    show (y 1).val = win0_8.index t 1 * 6144 + 1 * (y 1).val
    rw [a1]; omega
  · have h0 : (i 0).val < 1 := (i 0).isLt
    have h1 : (i 1).val < 6144 := (i 1).isLt
    let t : Fin cfg0.N := ⟨15, lt_of_lt_of_eq (by omega) N_0.symm⟩
    obtain ⟨a0, a1, a2⟩ := idx8 t
    refine ⟨t, a2.2 rfl, ?_⟩
    show i ∈ ((View.whole main_v44_2).slice (win0_8.rect t)).set
    rw [View.set_slice_whole, Rect.mem_set_unit]
    intro a
    match a with
    | ⟨0, _⟩ => show win0_8.index t 0 * 1 ≤ (i 0).val ∧ (i 0).val < win0_8.index t 0 * 1 + 1; rw [a0]; omega
    | ⟨1, _⟩ => show win0_8.index t 1 * 6144 ≤ (i 1).val ∧ (i 1).val < win0_8.index t 1 * 6144 + 6144; rw [a1]; omega

end Arrays

/-- The real numbers that the argument arrays hold on device `c`. -/
def dataOf (m : (ℓ : Loc nD τ sig) → Buf (Elt Ideal) ℓ) (c : Dev nD) : Data where
  u r d := ((m ((c : Thread nD τ).loc main_arg0) : S4096x6144.Idx → EReal) (ix2 r d)).toReal
  fw r d := ((m ((c : Thread nD τ).loc main_arg1) : S3x6144.Idx → EReal) (ix2 r d)).toReal
  fb d := ((m ((c : Thread nD τ).loc main_arg2) : S6144.Idx → EReal) (ix1 d)).toReal
  wd r d := ((m ((c : Thread nD τ).loc main_arg3) : S3072x1024.Idx → EReal) (ix2 r d)).toReal
  dy r d := ((m ((c : Thread nD τ).loc main_arg4) : S4096x1024.Idx → EReal) (ix2 r d)).toReal

instance : Subsingleton Cert.Pre_finite_a.S_.Idx := ⟨fun _ _ => funext fun x => x.elim0⟩

theorem eq_row {n : ℕ} (i : (⟨1, ![n]⟩ : Shape).Idx) : i = ix1 (i 0) := by
  funext a
  match a with
  | ⟨0, _⟩ => rfl

/-- The precondition gives the data. -/
theorem holds (m : (ℓ : Loc nD τ sig) → Buf (Elt Ideal) ℓ) (h : Cert.Pre_KernelAIdeal_finite_a m) (c : Dev nD) : HoldsAt m c (dataOf m c) := by
  have e := congrFun (h c) (fun x => x.elim0)
  dsimp only [Cert.Pre_finite_a.fn, Cert.Pre_finite_a.fn_part1] at e
  obtain ⟨e, e4⟩ := and_one _ _ _ e
  obtain ⟨e, e3⟩ := and_one _ _ _ e
  obtain ⟨e, e2⟩ := and_one _ _ _ e
  obtain ⟨e, e1⟩ := and_one _ _ _ e
  obtain ⟨e, e0⟩ := and_one _ _ _ e
  exact ⟨fun i => (real_of_all _ _ _ _ _ _ e0 (fun _ => rfl) i).trans (congrArg (fun j => ((((m ((c : Thread nD τ).loc main_arg0) : S4096x6144.Idx → EReal) j).toReal : ℝ) : EReal)) (eq_ix2 i)),
    fun i => (real_of_all _ _ _ _ _ _ e1 (fun _ => rfl) i).trans (congrArg (fun j => ((((m ((c : Thread nD τ).loc main_arg1) : S3x6144.Idx → EReal) j).toReal : ℝ) : EReal)) (eq_ix2 i)),
    fun i => (real_of_all _ _ _ _ _ _ e2 (fun _ => rfl) i).trans (congrArg (fun j => ((((m ((c : Thread nD τ).loc main_arg2) : S6144.Idx → EReal) j).toReal : ℝ) : EReal)) (eq_row i)),
    fun i => (real_of_all _ _ _ _ _ _ e3 (fun _ => rfl) i).trans (congrArg (fun j => ((((m ((c : Thread nD τ).loc main_arg3) : S3072x1024.Idx → EReal) j).toReal : ℝ) : EReal)) (eq_ix2 i)),
    fun i => (real_of_all _ _ _ _ _ _ e4 (fun _ => rfl) i).trans (congrArg (fun j => ((((m ((c : Thread nD τ).loc main_arg4) : S4096x1024.Idx → EReal) j).toReal : ℝ) : EReal)) (eq_ix2 i))⟩

open Cert.ReferenceAIdeal.Read in
/-- The kernel's three results and the reference's are the same arrays of real numbers. -/
theorem algebraic : Cert.algebraic_KernelAIdeal_ReferenceAIdeal_pre_finite_a (hKernelAIdeal := Cert.KernelAIdeal.Gen.facts)
    (hReferenceAIdeal := Cert.ReferenceAIdeal.Gen.facts) (hPre_finite_a := Cert.Pre_finite_a.Gen.facts) := by
  intro m g m' g' hpre hag
  refine ⟨fun c i => (((dataOf m c).dup (i 0) (i 1) : ℝ) : EReal), fun c i => (((dataOf m c).dfw (i 0) (i 1) : ℝ) : EReal), fun c i => (((dataOf m c).dfb (i 1) : ℝ) : EReal), ?_, ?_⟩
  · refine (θ_run Cert.KernelAIdeal.defs _ _).mono (fun r h c => ?_) (Cert.KernelAIdeal.Value.run_blocks (F := Ideal) m g)
    have H := holds m hpre c
    exact ⟨(h c).1.trans (arr6 H), (h c).2.1.trans (arr7 H), (h c).2.2.1.trans (arr8 H), (h c).2.2.2⟩
  · refine (θ_run Cert.ReferenceAIdeal.defs _ _).mono (fun r h c => ?_) (Cert.ReferenceAIdeal.Value.run (F := Ideal) m' g')
    have H := holds m hpre c
    have H' : Holds (dataOf m c) (m' ((c.tc : Thread Cert.ReferenceAIdeal.nD Cert.ReferenceAIdeal.τ).loc Cert.ReferenceAIdeal.main_arg0)) (m' ((c.tc : Thread Cert.ReferenceAIdeal.nD Cert.ReferenceAIdeal.τ).loc Cert.ReferenceAIdeal.main_arg1)) (m' ((c.tc : Thread Cert.ReferenceAIdeal.nD Cert.ReferenceAIdeal.τ).loc Cert.ReferenceAIdeal.main_arg2)) (m' ((c.tc : Thread Cert.ReferenceAIdeal.nD Cert.ReferenceAIdeal.τ).loc Cert.ReferenceAIdeal.main_arg3)) (m' ((c.tc : Thread Cert.ReferenceAIdeal.nD Cert.ReferenceAIdeal.τ).loc Cert.ReferenceAIdeal.main_arg4)) :=
      ⟨fun i => (congrFun ((hag c).1) i).trans (H.h0 i), fun i => (congrFun ((hag c).2.1) i).trans (H.h1 i), fun i => (congrFun ((hag c).2.2.1) i).trans (H.h2 i), fun i => (congrFun ((hag c).2.2.2.1) i).trans (H.h3 i), fun i => (congrFun ((hag c).2.2.2.2) i).trans (H.h4 i)⟩
    exact ⟨(h c).1.trans ((val_main_v103_eq (F := Ideal) _).trans (funext fun i => ref103 (dataOf m c) H'.h0 H'.h1 H'.h2 H'.h3 H'.h4 i)),
      (h c).2.1.trans ((val_main_v98_eq (F := Ideal) _).trans (funext fun i => ref98 (dataOf m c) H'.h0 H'.h1 H'.h2 H'.h3 H'.h4 i)),
      (h c).2.2.1.trans ((val_main_v104_eq (F := Ideal) _).trans (funext fun i => ref104 (dataOf m c) H'.h0 H'.h1 H'.h2 H'.h3 H'.h4 i)), (h c).2.2.2⟩

end Cert.Proof.FfnA
-- ==== Proof.MixMPay.lean ====
/- The mixer's output product, its gated norm added to the block's input, and the modulated norm that follows: what the
   kernel stores and what the reference computes, a row at a time. -/
module

public import proofs.«01_k».proof.Proof.Gen.KernelMIdeal.Frame
public import proofs.«01_k».proof.Proof.Gen.ReferenceMIdeal.Read
public import proofs.«01_k».proof.Proof.Lift
public import Idealize.ShloMosaic.Lib.Pointwise

@[expose] public section

noncomputable section

namespace Cert.Proof.MixM

open Idealize.ShloMosaic Cert.Proof.Lift

/-- A row's product with the weights. -/
def dotRow (a : Fin 1024 → EReal) (w : Fin 1024 → Fin 1024 → EReal) (d : Fin 1024) : EReal := ∑ k, a k * w k d
/-- The reciprocal root of a row's mean square. -/
def rinvE (v : Fin 1024 → EReal) : EReal :=
  Ideal.rsqrt (Ideal.div (∑ k, v k * v k) (Ideal.ofBits .f32 0x44800000#32) + Ideal.ofBits .f32 0x358637BD#32)
/-- The gated norm of `y` added to `x`. -/
def addRow (x y gt gp : Fin 1024 → EReal) (d : Fin 1024) : EReal := x d + gt d * (y d * rinvE y * gp d)
/-- The modulated norm of `x`. -/
def modRow (x g sc sh : Fin 1024 → EReal) (d : Fin 1024) : EReal := x d * rinvE x * g d * (1 + sc d) + sh d

theorem ofBits_one' : Ideal.ofBits .f32 0x3F800000#32 = (1 : EReal) := ofBits_one
theorem ofBits_zero' : Ideal.ofBits .f32 0x00000000#32 = (0 : EReal) := ofBits_zero

section Pay
open Cert.KernelMIdeal Cert.KernelMIdeal.Gen

variable (a : Vec Ideal S256x1024 .bf16) (w : Vec Ideal S1024x1024 .bf16) (x : Vec Ideal S256x1024 .f32) (gt gp g sc sh : Vec Ideal S1x1024 .f32)

/-- A block's rows. -/
abbrev yRow (r : Fin 256) : Fin 1024 → EReal := dotRow (fun d => a (ix2 r d)) (fun k d => w (ix2 k d))
abbrev xRow (r : Fin 256) : Fin 1024 → EReal :=
  addRow (fun d => x (ix2 r d)) (yRow a w r) (fun d => gt (ix2 0 d)) (fun d => gp (ix2 0 d))

set_option maxRecDepth 16384 in
theorem pay3 (r : Fin 256) (d : Fin 1024) : k0_pay3 (F := Ideal) a w (ix2 r d) = yRow a w r d := by
  pointwise [k0_pay3]
  first | rfl | (simp only [ofBits_zero', zero_add]; rfl)

set_option maxRecDepth 16384 in
theorem pay4 (r : Fin 256) (d : Fin 1024) : k0_pay4 (F := Ideal) a w x gt gp (ix2 r d) = xRow a w x gt gp r d := by
  pointwise [k0_pay4]
  simp only [pay3]
  first | rfl | (simp only [ofBits_zero', zero_add]; rfl)

set_option maxRecDepth 16384 in
theorem pay6 (r : Fin 256) (d : Fin 1024) : k0_pay6 (F := Ideal) (k0_pay4 a w x gt gp) (k0_pay5 a w x gt gp) g sc sh (ix2 r d)
    = modRow (xRow a w x gt gp r) (fun d => g (ix2 0 d)) (fun d => sc (ix2 0 d)) (fun d => sh (ix2 0 d)) d := by
  pointwise [k0_pay6, k0_pay5]
  simp only [pay4]
  first | rfl | (simp only [ofBits_zero', zero_add]; rfl)

theorem same7 : k0_pay7 a w = k0_pay3 a w := rfl
theorem same1 : k0_pay1 (k0_pay7 a w) x (k0_pay8 gt) (k0_pay9 a w) gp = k0_pay4 a w x gt gp := rfl
theorem same2 : k0_pay2 (k0_pay7 a w) x (k0_pay8 gt) (k0_pay9 a w) gp g sc sh = k0_pay6 (k0_pay4 a w x gt gp) (k0_pay5 a w x gt gp) g sc sh := rfl

end Pay

section Ref
open Cert.ReferenceMIdeal Cert.ReferenceMIdeal.Read

variable (x0 x1 : (⟨S4096x1024, .f32⟩ : BufTy).Contents (Elt Ideal)) (x2 : (⟨S1024x1024, .f32⟩ : BufTy).Contents (Elt Ideal))
  (x3 x4 x5 x6 x7 : (⟨S1024, .f32⟩ : BufTy).Contents (Elt Ideal))

/-- The reference's rows. -/
abbrev yAt (s : Fin 4096) : Fin 1024 → EReal := dotRow (fun d => x0 (ix2 s d)) (fun k d => x2 (ix2 k d))
abbrev xAt (s : Fin 4096) : Fin 1024 → EReal := addRow (fun d => x1 (ix2 s d)) (yAt x0 x2 s) (fun d => x3 (ix1 d)) (fun d => x4 (ix1 d))
abbrev hAt (s : Fin 4096) : Fin 1024 → EReal := modRow (xAt x0 x1 x2 x3 x4 s) (fun d => x5 (ix1 d)) (fun d => x6 (ix1 d)) (fun d => x7 (ix1 d))

theorem ix_eq {n k : ℕ} (f : (⟨2, ![n, k]⟩ : Shape).Idx) (a : Fin n) (b : Fin k) (h0 : f 0 = a) (h1 : f 1 = b) : f = ix2 a b := by
  rw [← h0, ← h1]; exact eq_ix2 f

theorem refY (s : Fin 4096) (d : Fin 1024) : val_main_v0 (F := Ideal) x0 x2 (ix2 s d) = yAt x0 x2 s d := by
  rw [val_main_v0_apply]
  refine Finset.sum_congr rfl fun k _ => congrArg₂ (· * ·) (congrArg x0 ?_) (congrArg x2 ?_)
  · exact ix_eq _ _ _ rfl rfl
  · exact ix_eq _ _ _ rfl rfl

theorem ie9 (s : Fin 4096) (d : Fin 1024) : idx_main_v9 (ix2 s d) = ix2 s 0 := ix_eq _ _ _ rfl rfl
theorem ie26 (s : Fin 4096) (d : Fin 1024) : idx_main_v26 (ix2 s d) = ix2 s 0 := ix_eq _ _ _ rfl rfl
theorem ie12 (s : Fin 4096) (d : Fin 1024) : idx_main_v12 (ix2 s d) = ix2 0 d := ix_eq _ _ _ rfl rfl
theorem ie15 (s : Fin 4096) (d : Fin 1024) : idx_main_v15 (ix2 s d) = ix2 0 d := ix_eq _ _ _ rfl rfl
theorem ie29 (s : Fin 4096) (d : Fin 1024) : idx_main_v29 (ix2 s d) = ix2 0 d := ix_eq _ _ _ rfl rfl
theorem ie34 (s : Fin 4096) (d : Fin 1024) : idx_main_v34 (ix2 s d) = ix2 0 d := ix_eq _ _ _ rfl rfl
theorem ie37 (s : Fin 4096) (d : Fin 1024) : idx_main_v37 (ix2 s d) = ix2 0 d := ix_eq _ _ _ rfl rfl
theorem ie11 (d : Fin 1024) : idx_main_v11 (ix2 0 d) = ix1 d := funext fun a => match a with | ⟨0, _⟩ => rfl
theorem ie14 (d : Fin 1024) : idx_main_v14 (ix2 0 d) = ix1 d := funext fun a => match a with | ⟨0, _⟩ => rfl
theorem ie28 (d : Fin 1024) : idx_main_v28 (ix2 0 d) = ix1 d := funext fun a => match a with | ⟨0, _⟩ => rfl
theorem ie33 (d : Fin 1024) : idx_main_v33 (ix2 0 d) = ix1 d := funext fun a => match a with | ⟨0, _⟩ => rfl
theorem ie36 (d : Fin 1024) : idx_main_v36 (ix2 0 d) = ix1 d := funext fun a => match a with | ⟨0, _⟩ => rfl
theorem ie3 (s : Fin 4096) : idx_main_v3 (ix2 s 0) = ix1 s := funext fun a => match a with | ⟨0, _⟩ => rfl
theorem ie20 (s : Fin 4096) : idx_main_v20 (ix2 s 0) = ix1 s := funext fun a => match a with | ⟨0, _⟩ => rfl
theorem ie2 (s : Fin 4096) (k : Fin 1024) : idx_main_v2 (ix1 s) k = ix2 s k := ix_eq _ _ _ rfl rfl
theorem ie19 (s : Fin 4096) (k : Fin 1024) : idx_main_v19 (ix1 s) k = ix2 s k := ix_eq _ _ _ rfl rfl

theorem refX (s : Fin 4096) (d : Fin 1024) : val_main_v17 (F := Ideal) x0 x1 x2 x3 x4 (ix2 s d) = xAt x0 x1 x2 x3 x4 s d := by
  simp only [val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, ie9, ie12, ie15, ie11, ie14, ie3, ie2, refY, val_main_cst, val_main_cst_0, val_main_cst_1,
    constant, Ideal.ofBits_def, Ideal.addf_def, Ideal.mulf_def, Ideal.hostDivf_def, Ideal.hostUnary_rsqrt_def, Ideal.hostConvertf_def, ofBits_zero', ofBits_one', zero_add]
  rfl

theorem refH (s : Fin 4096) (d : Fin 1024) : val_main_v39 (F := Ideal) x0 x1 x2 x3 x4 x5 x6 x7 (ix2 s d) = hAt x0 x1 x2 x3 x4 x5 x6 x7 s d := by
  simp only [val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, ie26, ie29, ie34, ie37, ie28, ie33, ie36, ie20, ie19, refX, val_main_cst_2, val_main_cst_3, val_main_cst_4, val_main_cst_5,
    constant, Ideal.ofBits_def, Ideal.addf_def, Ideal.mulf_def, Ideal.hostDivf_def, Ideal.hostUnary_rsqrt_def, Ideal.hostConvertf_def, ofBits_zero', ofBits_one', zero_add]
  rfl

end Ref

end Cert.Proof.MixM
-- ==== Proof.MixMValue.lean ====
/- The mixer's output product and the norms behind it, closed: the arrays the kernel's run leaves are the reference's, on
   all arguments. -/
module

public import proofs.«01_k».proof.Defs
public import proofs.«01_k».proof.Proof.Gen.KernelMIdeal.Value
public import proofs.«01_k».proof.Proof.Gen.ReferenceMIdeal
public import proofs.«01_k».proof.Proof.MixMPay
public import Idealize.ShloMosaic.Lib.Pipeline.FrameBody
public import Idealize.ShloMosaic.Lib.Pipeline.Value
public import Idealize.ShloMosaic.Lib.Pipeline.ValueKit.Tiles

@[expose] public section

noncomputable section

namespace Cert.Proof.MixM

open Cert.KernelMIdeal Cert.KernelMIdeal.Gen Cert.KernelMIdeal.Value Idealize.ShloMosaic Idealize.ShloMosaic.TcCoe Idealize.SL.Sem Cert.Proof.Lift

theorem hz2 : (![0, 0] : Fin 2 → Nat) = fun _ => 0 := funext fun a => by fin_cases a <;> rfl

/-- A load of 256 rows of a block, at an element. -/
theorem ld_row {α : EltTy} (x : Vec Ideal S512x1024 α) (o : ℕ) (ho : o + 256 ≤ 512) (inb) (r : Fin 256) (d : Fin 1024) :
    (View.ld x (Rect.unit (s := S512x1024) ![o, 0] ![256, 1024] inb) : Vec Ideal S256x1024 α) (ix2 r d) = x (ix2 ⟨o + r.val, by omega⟩ d) :=
  View.ld_unit_apply_of x ![o, 0] ![256, 1024] inb (ix2 r d) (ix2 ⟨o + r.val, by omega⟩ d) (fun a => match a with
    | ⟨0, _⟩ => rfl
    | ⟨1, _⟩ => (Nat.zero_add _).symm)

/-- Element `(r, d)` of the tile at row `o` sits at row `o + r` of the block. -/
theorem place (f : Fin 512 → Fin 1024 → EReal) (o : ℕ) (ho : o + 256 ≤ 512) (r : Fin 256) (d : Fin 1024) (inb) :
    f ⟨o + r.val, by omega⟩ d = f ((Rect.unit (s := S512x1024) ![o, 0] ![256, 1024] inb).emb (ix2 r d) 0) ((Rect.unit (s := S512x1024) ![o, 0] ![256, 1024] inb).emb (ix2 r d) 1) := by
  have e0 : (⟨o + r.val, by omega⟩ : Fin 512) = (Rect.unit (s := S512x1024) ![o, 0] ![256, 1024] inb).emb (ix2 r d) 0 :=
    Fin.ext (show o + r.val = o + 1 * r.val by omega)
  have e1 : d = (Rect.unit (s := S512x1024) ![o, 0] ![256, 1024] inb).emb (ix2 r d) 1 :=
    Fin.ext (show d.val = 0 + 1 * d.val by omega)
  rw [← e0, ← e1]

section Block
variable (x0 : Vec Ideal S512x1024 .bf16) (x1 : Vec Ideal S512x1024 .f32) (x2 : Vec Ideal S1024x1024 .bf16) (x3 x4 x5 x6 x7 : Vec Ideal S1x1024 .f32)

/-- A block's rows. -/
abbrev yB (r : Fin 512) : Fin 1024 → EReal := dotRow (fun d => x0 (ix2 r d)) (fun k d => x2 (ix2 k d))
abbrev xB (r : Fin 512) : Fin 1024 → EReal := addRow (fun d => x1 (ix2 r d)) (yB x0 x2 r) (fun d => x3 (ix2 0 d)) (fun d => x4 (ix2 0 d))
abbrev hB (r : Fin 512) : Fin 1024 → EReal := modRow (xB x0 x1 x2 x3 x4 r) (fun d => x5 (ix2 0 d)) (fun d => x6 (ix2 0 d)) (fun d => x7 (ix2 0 d))

theorem tileY (o : ℕ) (ho : o + 256 ≤ 512) (inb inb') (r : Fin 256) :
    yRow (View.ld x0 (Rect.unit (s := S512x1024) ![o, 0] ![256, 1024] inb)) (View.ld x2 (Rect.unit (s := S1024x1024) ![0, 0] ![1024, 1024] inb')) r = yB x0 x2 ⟨o + r.val, by omega⟩ :=
  congrArg₂ dotRow (funext fun d => ld_row x0 o ho inb r d) (funext fun k => funext fun d => congrFun (View.ld_unit_zero (S := S1024x1024) hz2 inb' x2) (ix2 k d))

theorem tileX (o : ℕ) (ho : o + 256 ≤ 512) (inb inb' ia ib ic) (r : Fin 256) :
    xRow (View.ld x0 (Rect.unit (s := S512x1024) ![o, 0] ![256, 1024] inb)) (View.ld x2 (Rect.unit (s := S1024x1024) ![0, 0] ![1024, 1024] inb')) (View.ld x1 (Rect.unit (s := S512x1024) ![o, 0] ![256, 1024] ia))
      (View.ld x3 (Rect.unit (s := S1x1024) ![0, 0] ![1, 1024] ib)) (View.ld x4 (Rect.unit (s := S1x1024) ![0, 0] ![1, 1024] ic)) r = xB x0 x1 x2 x3 x4 ⟨o + r.val, by omega⟩ := by
  unfold xRow
  rw [tileY x0 x2 o ho inb inb' r]
  have e1 : (fun d => (View.ld x1 (Rect.unit (s := S512x1024) ![o, 0] ![256, 1024] ia) : Vec Ideal S256x1024 .f32) (ix2 r d)) = fun d => x1 (ix2 ⟨o + r.val, by omega⟩ d) :=
    funext fun d => ld_row x1 o ho ia r d
  rw [e1, View.ld_unit_zero (S := S1x1024) hz2, View.ld_unit_zero (S := S1x1024) hz2]

theorem tileH (o : ℕ) (ho : o + 256 ≤ 512) (inb inb' ia ib ic ie if' ig) (r : Fin 256) :
    modRow (xRow (View.ld x0 (Rect.unit (s := S512x1024) ![o, 0] ![256, 1024] inb)) (View.ld x2 (Rect.unit (s := S1024x1024) ![0, 0] ![1024, 1024] inb')) (View.ld x1 (Rect.unit (s := S512x1024) ![o, 0] ![256, 1024] ia))
      (View.ld x3 (Rect.unit (s := S1x1024) ![0, 0] ![1, 1024] ib)) (View.ld x4 (Rect.unit (s := S1x1024) ![0, 0] ![1, 1024] ic)) r)
      (fun d => (View.ld x5 (Rect.unit (s := S1x1024) ![0, 0] ![1, 1024] ie) : Vec Ideal S1x1024 .f32) (ix2 0 d))
      (fun d => (View.ld x6 (Rect.unit (s := S1x1024) ![0, 0] ![1, 1024] if') : Vec Ideal S1x1024 .f32) (ix2 0 d))
      (fun d => (View.ld x7 (Rect.unit (s := S1x1024) ![0, 0] ![1, 1024] ig) : Vec Ideal S1x1024 .f32) (ix2 0 d)) = hB x0 x1 x2 x3 x4 x5 x6 x7 ⟨o + r.val, by omega⟩ := by
  rw [tileX x0 x1 x2 x3 x4 o ho inb inb' ia ib ic r, View.ld_unit_zero (S := S1x1024) hz2, View.ld_unit_zero (S := S1x1024) hz2, View.ld_unit_zero (S := S1x1024) hz2]

theorem out8 (j) : out0_8 (F := Ideal) x0 x1 x2 x3 x4 x5 x6 x7 j = yB x0 x2 (j 0) (j 1) := by
  unfold_out out0_8
  refine View.canon_apply_of_pieces (Val := Elt Ideal) (S := S512x1024) (e := .f32) (fun j => yB x0 x2 (j 0) (j 1)) _ ?_ j (cover0_8 _ _ j)
  intro p hp x
  rcases List.mem_cons.mp hp with rfl | hp
  · obtain ⟨r, d, rfl⟩ : ∃ (r : Fin 256) (d : Fin 1024), (x : S256x1024.Idx) = ix2 r d := ⟨x 0, x 1, eq_ix2 x⟩
    exact ((congrFun (same7 _ _) _).trans ((pay3 _ _ r d).trans (congrFun (tileY x0 x2 256 (by omega) _ _ r) d))).trans (place (yB x0 x2) 256 (by omega) r d inb_S512x1024_S256x1024_256_0)
  · obtain rfl := List.mem_singleton.mp hp
    obtain ⟨r, d, rfl⟩ : ∃ (r : Fin 256) (d : Fin 1024), (x : S256x1024.Idx) = ix2 r d := ⟨x 0, x 1, eq_ix2 x⟩
    exact ((pay3 _ _ r d).trans (congrFun (tileY x0 x2 0 (by omega) _ _ r) d)).trans (place (yB x0 x2) 0 (by omega) r d inb_S512x1024_S256x1024_0_0)

theorem out9 (j) : out0_9 (F := Ideal) x0 x1 x2 x3 x4 x5 x6 x7 j = xB x0 x1 x2 x3 x4 (j 0) (j 1) := by
  unfold_out out0_9
  refine View.canon_apply_of_pieces (Val := Elt Ideal) (S := S512x1024) (e := .f32) (fun j => xB x0 x1 x2 x3 x4 (j 0) (j 1)) _ ?_ j (cover0_9 _ _ j)
  intro p hp x
  rcases List.mem_cons.mp hp with rfl | hp
  · obtain ⟨r, d, rfl⟩ : ∃ (r : Fin 256) (d : Fin 1024), (x : S256x1024.Idx) = ix2 r d := ⟨x 0, x 1, eq_ix2 x⟩
    exact ((congrFun (same1 _ _ _ _ _) _).trans ((pay4 _ _ _ _ _ r d).trans (congrFun (tileX x0 x1 x2 x3 x4 256 (by omega) _ _ _ _ _ r) d))).trans (place (xB x0 x1 x2 x3 x4) 256 (by omega) r d inb_S512x1024_S256x1024_256_0)
  · obtain rfl := List.mem_singleton.mp hp
    obtain ⟨r, d, rfl⟩ : ∃ (r : Fin 256) (d : Fin 1024), (x : S256x1024.Idx) = ix2 r d := ⟨x 0, x 1, eq_ix2 x⟩
    exact ((pay4 _ _ _ _ _ r d).trans (congrFun (tileX x0 x1 x2 x3 x4 0 (by omega) _ _ _ _ _ r) d)).trans (place (xB x0 x1 x2 x3 x4) 0 (by omega) r d inb_S512x1024_S256x1024_0_0)

theorem out10 (j) : out0_10 (F := Ideal) x0 x1 x2 x3 x4 x5 x6 x7 j = hB x0 x1 x2 x3 x4 x5 x6 x7 (j 0) (j 1) := by
  unfold_out out0_10
  refine View.canon_apply_of_pieces (Val := Elt Ideal) (S := S512x1024) (e := .bf16) (fun j => hB x0 x1 x2 x3 x4 x5 x6 x7 (j 0) (j 1)) _ ?_ j (cover0_10 _ _ j)
  intro p hp x
  rcases List.mem_cons.mp hp with rfl | hp
  · obtain ⟨r, d, rfl⟩ : ∃ (r : Fin 256) (d : Fin 1024), (x : S256x1024.Idx) = ix2 r d := ⟨x 0, x 1, eq_ix2 x⟩
    exact ((congrFun (same2 _ _ _ _ _ _ _ _) _).trans ((pay6 _ _ _ _ _ _ _ _ r d).trans (congrFun (tileH x0 x1 x2 x3 x4 x5 x6 x7 256 (by omega) _ _ _ _ _ _ _ _ r) d))).trans (place (hB x0 x1 x2 x3 x4 x5 x6 x7) 256 (by omega) r d inb_S512x1024_S256x1024_256_0)
  · obtain rfl := List.mem_singleton.mp hp
    obtain ⟨r, d, rfl⟩ : ∃ (r : Fin 256) (d : Fin 1024), (x : S256x1024.Idx) = ix2 r d := ⟨x 0, x 1, eq_ix2 x⟩
    exact ((pay6 _ _ _ _ _ _ _ _ r d).trans (congrFun (tileH x0 x1 x2 x3 x4 x5 x6 x7 0 (by omega) _ _ _ _ _ _ _ _ r) d)).trans (place (hB x0 x1 x2 x3 x4 x5 x6 x7) 0 (by omega) r d inb_S512x1024_S256x1024_0_0)

end Block

section Arrays
variable (m : (ℓ : Loc nD τ sig) → Buf (Elt Ideal) ℓ) (c : Dev nD)

/-- Which block of each operand a point reads and writes: the rows' operands move with the point, the others stay. -/
theorem idx_in : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0) ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0 ∧ win0_8.flush t = true)
    ∧ (win0_9.index t (0 : Fin 2) = t.val ∧ win0_9.index t (1 : Fin 2) = 0 ∧ win0_9.flush t = true)
    ∧ (win0_10.index t (0 : Fin 2) = t.val ∧ win0_10.index t (1 : Fin 2) = 0 ∧ win0_10.flush t = true) :=
  (by decide +kernel : ∀ t : Fin grid0.N, _)

/-- The position that row `r` of point `t`'s blocks is. -/
def at_ (t : Fin cfg0.N) (r : Fin 512) : Fin 4096 :=
  ⟨t.val * 512 + r.val, by have := lt_of_lt_of_eq t.isLt (show cfg0.N = 8 from N_0); omega⟩

/-- A vector laid out as one row. -/
theorem vec_cast (x : S1024.Idx → EReal) (d : Fin 1024) : shapeCast S1x1024 x shapeCasts_S1024_S1x1024 (ix2 0 d) = x (ix1 d) :=
  shapeCast_apply x _ (ix2 0 d) (ix1 d : S1024.Idx) (by rewrite [Shape.rowMajor_val_one, Shape.rowMajor_val_two]; show d.val = 0 * 1024 + d.val; omega)

theorem blk0 (t : Fin cfg0.N) (r : Fin 512) (d : Fin 1024) : (iblk m c 0 t : Vec Ideal S512x1024 .bf16) (ix2 r d) = (m ((c : Thread nD τ).loc main_arg0) : S4096x1024.Idx → EReal) (ix2 (at_ t r) d) := by
  obtain ⟨a0, a1⟩ := (idx_in t).1
  have e : (V m c main_v0 : S4096x1024.Idx → EReal) = m ((c : Thread nD τ).loc main_arg0) := by
    unfold_abbrev_sides
    after_results
    rfl
  unfold iblk
  rw [View.read_apply]
  show (V m c main_v0 : S4096x1024.Idx → EReal) _ = _
  refine Eq.trans (congrArg _ (?_ : _ = (ix2 (at_ t r) d : S4096x1024.Idx))) (congrFun e _)
  funext a
  apply Fin.ext
  match a with
  | ⟨0, _⟩ => show win0_0.index t 0 * 512 + 1 * r.val = t.val * 512 + r.val; rw [a0]; omega
  | ⟨1, _⟩ => show win0_0.index t 1 * 1024 + 1 * d.val = d.val; rw [a1]; omega

theorem blk1 (t : Fin cfg0.N) (r : Fin 512) (d : Fin 1024) : (iblk m c 1 t : Vec Ideal S512x1024 .f32) (ix2 r d) = (m ((c : Thread nD τ).loc main_arg1) : S4096x1024.Idx → EReal) (ix2 (at_ t r) d) := by
  obtain ⟨a0, a1⟩ := (idx_in t).2.1
  have e : (V m c main_arg1 : S4096x1024.Idx → EReal) = m ((c : Thread nD τ).loc main_arg1) := V_main_arg1 m c
  unfold iblk
  rw [View.read_apply]
  show (V m c main_arg1 : S4096x1024.Idx → EReal) _ = _
  refine Eq.trans (congrArg _ (?_ : _ = (ix2 (at_ t r) d : S4096x1024.Idx))) (congrFun e _)
  funext a
  apply Fin.ext
  match a with
  | ⟨0, _⟩ => show win0_1.index t 0 * 512 + 1 * r.val = t.val * 512 + r.val; rw [a0]; omega
  | ⟨1, _⟩ => show win0_1.index t 1 * 1024 + 1 * d.val = d.val; rw [a1]; omega

theorem blk2 (t : Fin cfg0.N) (k : Fin 1024) (d : Fin 1024) : (iblk m c 2 t : Vec Ideal S1024x1024 .bf16) (ix2 k d) = (m ((c : Thread nD τ).loc main_arg2) : S1024x1024.Idx → EReal) (ix2 k d) := by
  obtain ⟨a0, a1⟩ := (idx_in t).2.2.1
  have e : (V m c main_v1 : S1024x1024.Idx → EReal) = m ((c : Thread nD τ).loc main_arg2) := by
    unfold_abbrev_sides
    after_results
    rfl
  unfold iblk
  rw [View.read_apply]
  show (V m c main_v1 : S1024x1024.Idx → EReal) _ = _
  refine Eq.trans (congrArg _ (?_ : _ = (ix2 k d : S1024x1024.Idx))) (congrFun e _)
  funext a
  apply Fin.ext
  match a with
  | ⟨0, _⟩ => show win0_2.index t 0 * 1024 + 1 * k.val = k.val; rw [a0]; omega
  | ⟨1, _⟩ => show win0_2.index t 1 * 1024 + 1 * d.val = d.val; rw [a1]; omega

theorem blk3 (t : Fin cfg0.N) (d : Fin 1024) : (iblk m c 3 t : Vec Ideal S1x1024 .f32) (ix2 0 d) = (m ((c : Thread nD τ).loc main_arg3) : S1024.Idx → EReal) (ix1 d) := by
  obtain ⟨a0, a1⟩ := (idx_in t).2.2.2.1
  have e : (V m c main_v2 : S1x1024.Idx → EReal) = shapeCast S1x1024 (m ((c : Thread nD τ).loc main_arg3) : S1024.Idx → EReal) shapeCasts_S1024_S1x1024 := by
    unfold_abbrev_sides
    after_results
    rfl
  unfold iblk
  rw [View.read_apply]
  show (V m c main_v2 : S1x1024.Idx → EReal) _ = _
  refine Eq.trans (congrArg _ (?_ : _ = (ix2 0 d : S1x1024.Idx))) ((congrFun e _).trans (vec_cast _ d))
  funext a
  apply Fin.ext
  match a with
  | ⟨0, _⟩ => show win0_3.index t 0 * 1 + 1 * 0 = 0; rw [a0]
  | ⟨1, _⟩ => show win0_3.index t 1 * 1024 + 1 * d.val = d.val; rw [a1]; omega

theorem blk4 (t : Fin cfg0.N) (d : Fin 1024) : (iblk m c 4 t : Vec Ideal S1x1024 .f32) (ix2 0 d) = (m ((c : Thread nD τ).loc main_arg4) : S1024.Idx → EReal) (ix1 d) := by
  obtain ⟨a0, a1⟩ := (idx_in t).2.2.2.2.1
  have e : (V m c main_v3 : S1x1024.Idx → EReal) = shapeCast S1x1024 (m ((c : Thread nD τ).loc main_arg4) : S1024.Idx → EReal) shapeCasts_S1024_S1x1024 := by
    unfold_abbrev_sides
    after_results
    rfl
  unfold iblk
  rw [View.read_apply]
  show (V m c main_v3 : S1x1024.Idx → EReal) _ = _
  refine Eq.trans (congrArg _ (?_ : _ = (ix2 0 d : S1x1024.Idx))) ((congrFun e _).trans (vec_cast _ d))
  funext a
  apply Fin.ext
  match a with
  | ⟨0, _⟩ => show win0_4.index t 0 * 1 + 1 * 0 = 0; rw [a0]
  | ⟨1, _⟩ => show win0_4.index t 1 * 1024 + 1 * d.val = d.val; rw [a1]; omega

theorem blk5 (t : Fin cfg0.N) (d : Fin 1024) : (iblk m c 5 t : Vec Ideal S1x1024 .f32) (ix2 0 d) = (m ((c : Thread nD τ).loc main_arg5) : S1024.Idx → EReal) (ix1 d) := by
  obtain ⟨a0, a1⟩ := (idx_in t).2.2.2.2.2.1
  have e : (V m c main_v4 : S1x1024.Idx → EReal) = shapeCast S1x1024 (m ((c : Thread nD τ).loc main_arg5) : S1024.Idx → EReal) shapeCasts_S1024_S1x1024 := by
    unfold_abbrev_sides
    after_results
    rfl
  unfold iblk
  rw [View.read_apply]
  show (V m c main_v4 : S1x1024.Idx → EReal) _ = _
  refine Eq.trans (congrArg _ (?_ : _ = (ix2 0 d : S1x1024.Idx))) ((congrFun e _).trans (vec_cast _ d))
  funext a
  apply Fin.ext
  match a with
  | ⟨0, _⟩ => show win0_5.index t 0 * 1 + 1 * 0 = 0; rw [a0]
  | ⟨1, _⟩ => show win0_5.index t 1 * 1024 + 1 * d.val = d.val; rw [a1]; omega

theorem blk6 (t : Fin cfg0.N) (d : Fin 1024) : (iblk m c 6 t : Vec Ideal S1x1024 .f32) (ix2 0 d) = (m ((c : Thread nD τ).loc main_arg6) : S1024.Idx → EReal) (ix1 d) := by
  obtain ⟨a0, a1⟩ := (idx_in t).2.2.2.2.2.2.1
  have e : (V m c main_v5 : S1x1024.Idx → EReal) = shapeCast S1x1024 (m ((c : Thread nD τ).loc main_arg6) : S1024.Idx → EReal) shapeCasts_S1024_S1x1024 := by
    unfold_abbrev_sides
    after_results
    rfl
  unfold iblk
  rw [View.read_apply]
  show (V m c main_v5 : S1x1024.Idx → EReal) _ = _
  refine Eq.trans (congrArg _ (?_ : _ = (ix2 0 d : S1x1024.Idx))) ((congrFun e _).trans (vec_cast _ d))
  funext a
  apply Fin.ext
  match a with
  | ⟨0, _⟩ => show win0_6.index t 0 * 1 + 1 * 0 = 0; rw [a0]
  | ⟨1, _⟩ => show win0_6.index t 1 * 1024 + 1 * d.val = d.val; rw [a1]; omega

theorem blk7 (t : Fin cfg0.N) (d : Fin 1024) : (iblk m c 7 t : Vec Ideal S1x1024 .f32) (ix2 0 d) = (m ((c : Thread nD τ).loc main_arg7) : S1024.Idx → EReal) (ix1 d) := by
  obtain ⟨a0, a1⟩ := (idx_in t).2.2.2.2.2.2.2.1
  have e : (V m c main_v6 : S1x1024.Idx → EReal) = shapeCast S1x1024 (m ((c : Thread nD τ).loc main_arg7) : S1024.Idx → EReal) shapeCasts_S1024_S1x1024 := by
    unfold_abbrev_sides
    after_results
    rfl
  unfold iblk
  rw [View.read_apply]
  show (V m c main_v6 : S1x1024.Idx → EReal) _ = _
  refine Eq.trans (congrArg _ (?_ : _ = (ix2 0 d : S1x1024.Idx))) ((congrFun e _).trans (vec_cast _ d))
  funext a
  apply Fin.ext
  match a with
  | ⟨0, _⟩ => show win0_7.index t 0 * 1 + 1 * 0 = 0; rw [a0]
  | ⟨1, _⟩ => show win0_7.index t 1 * 1024 + 1 * d.val = d.val; rw [a1]; omega

/-- The rows of the arrays. -/
abbrev yM (s : Fin 4096) : Fin 1024 → EReal := yAt (m ((c : Thread nD τ).loc main_arg0)) (m ((c : Thread nD τ).loc main_arg2)) s
abbrev xM (s : Fin 4096) : Fin 1024 → EReal := xAt (m ((c : Thread nD τ).loc main_arg0)) (m ((c : Thread nD τ).loc main_arg1)) (m ((c : Thread nD τ).loc main_arg2))
  (m ((c : Thread nD τ).loc main_arg3)) (m ((c : Thread nD τ).loc main_arg4)) s
abbrev hM (s : Fin 4096) : Fin 1024 → EReal := hAt (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6)) (m ((c : Thread nD τ).loc main_arg7)) s

theorem yBlk (t : Fin cfg0.N) (r : Fin 512) : yB (iblk m c 0 t) (iblk m c 2 t) r = yM m c (at_ t r) :=
  congrArg₂ dotRow (funext fun d => blk0 m c t r d) (funext fun k => funext fun d => blk2 m c t k d)

theorem xBlk (t : Fin cfg0.N) (r : Fin 512) : xB (iblk m c 0 t) (iblk m c 1 t) (iblk m c 2 t) (iblk m c 3 t) (iblk m c 4 t) r = xM m c (at_ t r) := by
  unfold xB xM xAt
  rw [yBlk m c t r, show (fun d => (iblk m c 1 t : Vec Ideal S512x1024 .f32) (ix2 r d)) = _ from funext fun d => blk1 m c t r d,
    show (fun d => (iblk m c 3 t : Vec Ideal S1x1024 .f32) (ix2 0 d)) = _ from funext fun d => blk3 m c t d,
    show (fun d => (iblk m c 4 t : Vec Ideal S1x1024 .f32) (ix2 0 d)) = _ from funext fun d => blk4 m c t d]

theorem hBlk (t : Fin cfg0.N) (r : Fin 512) : hB (iblk m c 0 t) (iblk m c 1 t) (iblk m c 2 t) (iblk m c 3 t) (iblk m c 4 t) (iblk m c 5 t) (iblk m c 6 t) (iblk m c 7 t) r
    = hM m c (at_ t r) := by
  unfold hB hM hAt
  rw [xBlk m c t r, show (fun d => (iblk m c 5 t : Vec Ideal S1x1024 .f32) (ix2 0 d)) = _ from funext fun d => blk5 m c t d,
    show (fun d => (iblk m c 6 t : Vec Ideal S1x1024 .f32) (ix2 0 d)) = _ from funext fun d => blk6 m c t d,
    show (fun d => (iblk m c 7 t : Vec Ideal S1x1024 .f32) (ix2 0 d)) = _ from funext fun d => blk7 m c t d]

theorem arr8 : (dats m 0 c).arrAt 8 cfg0.N = fun i : S4096x1024.Idx => yM m c (i 0) (i 1) := by
  refine (dats m 0 c).arrAt_eq_of_cover 8 _ (fun t hf => ?_) (fun i => ?_)
  · rw [flushed8]
    obtain ⟨a0, a1, -⟩ := (idx_in t).2.2.2.2.2.2.2.2.1
    funext y
    show out0_8 (iblk m c 0 t) (iblk m c 1 t) (iblk m c 2 t) (iblk m c 3 t) (iblk m c 4 t) (iblk m c 5 t) (iblk m c 6 t) (iblk m c 7 t) ((cfg0.win 8).xinj (grid0.coords t) y) = _
    refine (out8 _ _ _ _ _ _ _ _ _).trans ((congrFun (yBlk m c t _) _).trans (congrArg₂ (yM m c) (Fin.ext ?_) (Fin.ext ?_)))
    · show t.val * 512 + (y 0).val = win0_8.index t 0 * 512 + 1 * (y 0).val
      rw [a0]; omega
    · show (y 1).val = win0_8.index t 1 * 1024 + 1 * (y 1).val
      rw [a1]; omega
  · have h0 : (i 0).val < 4096 := (i 0).isLt
    have h1 : (i 1).val < 1024 := (i 1).isLt
    let t : Fin cfg0.N := ⟨(i 0).val / 512, lt_of_lt_of_eq (by omega) N_0.symm⟩
    have ht : t.val = (i 0).val / 512 := rfl
    obtain ⟨a0, a1, a2⟩ := (idx_in t).2.2.2.2.2.2.2.2.1
    refine ⟨t, a2, ?_⟩
    show i ∈ ((View.whole main_v7_0).slice (win0_8.rect t)).set
    rw [View.set_slice_whole, Rect.mem_set_unit]
    intro a
    match a with
    | ⟨0, _⟩ => show win0_8.index t 0 * 512 ≤ (i 0).val ∧ (i 0).val < win0_8.index t 0 * 512 + 512; rw [a0, ht]; omega
    | ⟨1, _⟩ => show win0_8.index t 1 * 1024 ≤ (i 1).val ∧ (i 1).val < win0_8.index t 1 * 1024 + 1024; rw [a1]; omega

theorem arr9 : (dats m 0 c).arrAt 9 cfg0.N = fun i : S4096x1024.Idx => xM m c (i 0) (i 1) := by
  refine (dats m 0 c).arrAt_eq_of_cover 9 _ (fun t hf => ?_) (fun i => ?_)
  · rw [flushed9]
    obtain ⟨a0, a1, -⟩ := (idx_in t).2.2.2.2.2.2.2.2.2.1
    funext y
    show out0_9 (iblk m c 0 t) (iblk m c 1 t) (iblk m c 2 t) (iblk m c 3 t) (iblk m c 4 t) (iblk m c 5 t) (iblk m c 6 t) (iblk m c 7 t) ((cfg0.win 9).xinj (grid0.coords t) y) = _
    refine (out9 _ _ _ _ _ _ _ _ _).trans ((congrFun (xBlk m c t _) _).trans (congrArg₂ (xM m c) (Fin.ext ?_) (Fin.ext ?_)))
    · show t.val * 512 + (y 0).val = win0_9.index t 0 * 512 + 1 * (y 0).val
      rw [a0]; omega
    · show (y 1).val = win0_9.index t 1 * 1024 + 1 * (y 1).val
      rw [a1]; omega
  · have h0 : (i 0).val < 4096 := (i 0).isLt
    have h1 : (i 1).val < 1024 := (i 1).isLt
    let t : Fin cfg0.N := ⟨(i 0).val / 512, lt_of_lt_of_eq (by omega) N_0.symm⟩
    have ht : t.val = (i 0).val / 512 := rfl
    obtain ⟨a0, a1, a2⟩ := (idx_in t).2.2.2.2.2.2.2.2.2.1
    refine ⟨t, a2, ?_⟩
    show i ∈ ((View.whole main_v7_1).slice (win0_9.rect t)).set
    rw [View.set_slice_whole, Rect.mem_set_unit]
    intro a
    match a with
    | ⟨0, _⟩ => show win0_9.index t 0 * 512 ≤ (i 0).val ∧ (i 0).val < win0_9.index t 0 * 512 + 512; rw [a0, ht]; omega
    | ⟨1, _⟩ => show win0_9.index t 1 * 1024 ≤ (i 1).val ∧ (i 1).val < win0_9.index t 1 * 1024 + 1024; rw [a1]; omega

theorem arr10 : (dats m 0 c).arrAt 10 cfg0.N = fun i : S4096x1024.Idx => hM m c (i 0) (i 1) := by
  refine (dats m 0 c).arrAt_eq_of_cover 10 _ (fun t hf => ?_) (fun i => ?_)
  · rw [flushed10]
    obtain ⟨a0, a1, -⟩ := (idx_in t).2.2.2.2.2.2.2.2.2.2
    funext y
    show out0_10 (iblk m c 0 t) (iblk m c 1 t) (iblk m c 2 t) (iblk m c 3 t) (iblk m c 4 t) (iblk m c 5 t) (iblk m c 6 t) (iblk m c 7 t) ((cfg0.win 10).xinj (grid0.coords t) y) = _
    refine (out10 _ _ _ _ _ _ _ _ _).trans ((congrFun (hBlk m c t _) _).trans (congrArg₂ (hM m c) (Fin.ext ?_) (Fin.ext ?_)))
    · show t.val * 512 + (y 0).val = win0_10.index t 0 * 512 + 1 * (y 0).val
      rw [a0]; omega
    · show (y 1).val = win0_10.index t 1 * 1024 + 1 * (y 1).val
      rw [a1]; omega
  · have h0 : (i 0).val < 4096 := (i 0).isLt
    have h1 : (i 1).val < 1024 := (i 1).isLt
    let t : Fin cfg0.N := ⟨(i 0).val / 512, lt_of_lt_of_eq (by omega) N_0.symm⟩
    have ht : t.val = (i 0).val / 512 := rfl
    obtain ⟨a0, a1, a2⟩ := (idx_in t).2.2.2.2.2.2.2.2.2.2
    refine ⟨t, a2, ?_⟩
    show i ∈ ((View.whole main_v7_2).slice (win0_10.rect t)).set
    rw [View.set_slice_whole, Rect.mem_set_unit]
    intro a
    match a with
    | ⟨0, _⟩ => show win0_10.index t 0 * 512 ≤ (i 0).val ∧ (i 0).val < win0_10.index t 0 * 512 + 512; rw [a0, ht]; omega
    | ⟨1, _⟩ => show win0_10.index t 1 * 1024 ≤ (i 1).val ∧ (i 1).val < win0_10.index t 1 * 1024 + 1024; rw [a1]; omega

end Arrays

open Cert.ReferenceMIdeal.Read in
/-- The kernel's three results and the reference's are the same arrays. -/
theorem algebraic : Cert.algebraic_KernelMIdeal_ReferenceMIdeal (hKernelMIdeal := Cert.KernelMIdeal.Gen.facts)
    (hReferenceMIdeal := Cert.ReferenceMIdeal.Gen.facts) := by
  intro m g m' g' hpre hag
  refine ⟨fun c i => yM m c (i 0) (i 1), fun c i => xM m c (i 0) (i 1), fun c i => hM m c (i 0) (i 1), ?_, ?_⟩
  · refine (θ_run Cert.KernelMIdeal.defs _ _).mono (fun r h c => ?_) (Cert.KernelMIdeal.Value.run_blocks (F := Ideal) m g)
    exact ⟨(h c).1.trans (arr8 m c), (h c).2.1.trans (arr9 m c), (h c).2.2.1.trans (arr10 m c), (h c).2.2.2⟩
  · refine (θ_run Cert.ReferenceMIdeal.defs _ _).mono (fun r h c => ?_) (Cert.ReferenceMIdeal.Value.run (F := Ideal) m' g')
    have eY : ∀ i : S4096x1024.Idx, val_main_v0 (F := Ideal) (m' ((c.tc : Thread Cert.ReferenceMIdeal.nD Cert.ReferenceMIdeal.τ).loc Cert.ReferenceMIdeal.main_arg0)) (m' ((c.tc : Thread Cert.ReferenceMIdeal.nD Cert.ReferenceMIdeal.τ).loc Cert.ReferenceMIdeal.main_arg2)) i = yM m c (i 0) (i 1) := fun i => by
      obtain ⟨s, d, rfl⟩ : ∃ (s : Fin 4096) (d : Fin 1024), i = ix2 s d := ⟨i 0, i 1, eq_ix2 i⟩
      rw [refY]
      exact congrFun (congrFun (congrArg₂ yAt ((hag c).1) ((hag c).2.2.1)) _) _
    have eX : ∀ i : S4096x1024.Idx, val_main_v17 (F := Ideal) (m' ((c.tc : Thread Cert.ReferenceMIdeal.nD Cert.ReferenceMIdeal.τ).loc Cert.ReferenceMIdeal.main_arg0)) (m' ((c.tc : Thread Cert.ReferenceMIdeal.nD Cert.ReferenceMIdeal.τ).loc Cert.ReferenceMIdeal.main_arg1)) (m' ((c.tc : Thread Cert.ReferenceMIdeal.nD Cert.ReferenceMIdeal.τ).loc Cert.ReferenceMIdeal.main_arg2)) (m' ((c.tc : Thread Cert.ReferenceMIdeal.nD Cert.ReferenceMIdeal.τ).loc Cert.ReferenceMIdeal.main_arg3)) (m' ((c.tc : Thread Cert.ReferenceMIdeal.nD Cert.ReferenceMIdeal.τ).loc Cert.ReferenceMIdeal.main_arg4)) i = xM m c (i 0) (i 1) := fun i => by
      obtain ⟨s, d, rfl⟩ : ∃ (s : Fin 4096) (d : Fin 1024), i = ix2 s d := ⟨i 0, i 1, eq_ix2 i⟩
      rw [refX, (hag c).1, (hag c).2.1, (hag c).2.2.1, (hag c).2.2.2.1, (hag c).2.2.2.2.1]
      rfl
    have eH : ∀ i : S4096x1024.Idx, val_main_v39 (F := Ideal) (m' ((c.tc : Thread Cert.ReferenceMIdeal.nD Cert.ReferenceMIdeal.τ).loc Cert.ReferenceMIdeal.main_arg0)) (m' ((c.tc : Thread Cert.ReferenceMIdeal.nD Cert.ReferenceMIdeal.τ).loc Cert.ReferenceMIdeal.main_arg1)) (m' ((c.tc : Thread Cert.ReferenceMIdeal.nD Cert.ReferenceMIdeal.τ).loc Cert.ReferenceMIdeal.main_arg2)) (m' ((c.tc : Thread Cert.ReferenceMIdeal.nD Cert.ReferenceMIdeal.τ).loc Cert.ReferenceMIdeal.main_arg3)) (m' ((c.tc : Thread Cert.ReferenceMIdeal.nD Cert.ReferenceMIdeal.τ).loc Cert.ReferenceMIdeal.main_arg4)) (m' ((c.tc : Thread Cert.ReferenceMIdeal.nD Cert.ReferenceMIdeal.τ).loc Cert.ReferenceMIdeal.main_arg5)) (m' ((c.tc : Thread Cert.ReferenceMIdeal.nD Cert.ReferenceMIdeal.τ).loc Cert.ReferenceMIdeal.main_arg6)) (m' ((c.tc : Thread Cert.ReferenceMIdeal.nD Cert.ReferenceMIdeal.τ).loc Cert.ReferenceMIdeal.main_arg7)) i = hM m c (i 0) (i 1) := fun i => by
      obtain ⟨s, d, rfl⟩ : ∃ (s : Fin 4096) (d : Fin 1024), i = ix2 s d := ⟨i 0, i 1, eq_ix2 i⟩
      rw [refH, (hag c).1, (hag c).2.1, (hag c).2.2.1, (hag c).2.2.2.1, (hag c).2.2.2.2.1, (hag c).2.2.2.2.2.1, (hag c).2.2.2.2.2.2.1, (hag c).2.2.2.2.2.2.2]
      rfl
    exact ⟨(h c).1.trans ((val_main_v0_eq (F := Ideal) _ _).trans (funext eY)),
      (h c).2.1.trans ((val_main_v17_eq (F := Ideal) _ _ _ _ _).trans (funext eX)),
      (h c).2.2.1.trans ((val_main_v39_eq (F := Ideal) m' c).trans (funext eH)), (h c).2.2.2⟩

end Cert.Proof.MixM
-- ==== Proof.FfnFPay.lean ====
/- What the feed-forward block's forward call stores at a grid point, on finite arguments: each stored value is the
   embedding of the model's value at the point's rows. -/
module

public import proofs.«01_k».proof.Proof.Gen.KernelFIdeal.Skeleton
public import proofs.«01_k».proof.Proof.FfnFModel
public import Idealize.ShloMosaic.Lib.Pointwise

@[expose] public section

noncomputable section

namespace Cert.Proof.FfnF

open Cert.KernelFIdeal Cert.KernelFIdeal.Gen Idealize.ShloMosaic Cert.Proof.Lift

theorem ofBits_zero' : Ideal.ofBits .f32 0x00000000#32 = (0 : EReal) := ofBits_zero

/-- Row `r` of grid point `n`. -/
def rw_ (n : Fin 16) (r : Fin 256) : Fin 4096 := ⟨n.val * 256 + r.val, by omega⟩

/-- The eight rows of the first product before grid point `n`: zero before the first position. -/
def Data.tl (A : Data) (n : Fin 16) (i : Fin 8) (c : Fin 6144) : ℝ :=
  if h : n.val = 0 then 0 else A.up ⟨n.val * 256 - 8 + i.val, by omega⟩ c

/-- A row `k` positions earlier comes from the point's own rows, or from the eight rows before them. -/
theorem sh_tail (A : Data) (n : Fin 16) (k : ℕ) (hk : 0 < k) (hk8 : k ≤ 8) (r : Fin 256) (h : r.val < k) (c : Fin 6144) :
    A.tl n ⟨8 + r.val - k, by omega⟩ c = A.sh k (rw_ n r) c := by
  unfold Data.tl Data.sh rw_
  by_cases h0 : n.val = 0
  · rw [dif_pos h0, if_neg (by simp only [h0]; omega)]
  · rw [dif_neg h0, if_pos (show k ≤ n.val * 256 + r.val by omega)]
    exact congrArg (fun s => A.up s c) (Fin.ext (show n.val * 256 - 8 + (8 + r.val - k) = n.val * 256 + r.val - k by omega))

theorem sh_row (A : Data) (n : Fin 16) (k : ℕ) (r : Fin 256) (h : ¬r.val < k) (c : Fin 6144) :
    A.up (rw_ n ⟨r.val - k, by omega⟩) c = A.sh k (rw_ n r) c := by
  unfold Data.sh rw_
  rw [if_pos (show k ≤ n.val * 256 + r.val by omega)]
  exact congrArg (fun s => A.up s c) (Fin.ext (show n.val * 256 + (r.val - k) = n.val * 256 + r.val - k by omega))

variable {A : Data} {n : Fin 16}

set_option maxRecDepth 16384 in
/-- A column chunk of the first product. -/
theorem pay8 {h : Vec Ideal S256x1024 .bf16} {w : Vec Ideal S1x1024x768 .bf16} {col : Fin 768 → Fin 6144}
    (hh : ∀ r k, h (ix2 r k) = ((A.h (rw_ n r) k : ℝ) : EReal)) (hw : ∀ k q, w (ix3 0 k q) = ((A.wu k (col q) : ℝ) : EReal)) (r : Fin 256) (q : Fin 768) :
    k0_pay8 (F := Ideal) h w (ix2 r q) = ((A.up (rw_ n r) (col q) : ℝ) : EReal) := by
  pointwise [k0_pay8, k0_pay6]
  simp only [hh, hw, ofBits_zero', ofBits_1024, ofBits_eps, ofBits_one, ofBits_half, ofBits_gc0, ofBits_gc1, ofBits_inv1024, ofBits_inv2048, ← EReal.coe_one, ← EReal.coe_mul, ← EReal.coe_add, ← EReal.coe_sub, sum_coe, div_1024]
  rfl

/-- The last eight rows of a column chunk, kept for the next grid point. -/
theorem pay19 {u : FVec Ideal S256x768 .f32} {col : Fin 768 → Fin 6144} (hu : ∀ r q, u (ix2 r q) = ((A.up (rw_ n r) (col q) : ℝ) : EReal))
    (i : Fin 8) (q : Fin 768) : k0_pay19 (F := Ideal) (k0_pay18 u) (ix2 i q) = ((A.up (rw_ n ⟨248 + i.val, by omega⟩) (col q) : ℝ) : EReal) := by
  pointwise [k0_pay19, k0_pay18]
  exact hu _ q

/-- The shift by `k` rows: the rows before the point come from the kept eight. -/
def shift (k : ℕ) (u : FVec Ideal S256x768 .f32) (p : Vec Ideal S8x768 .f32) : FVec Ideal S256x768 .f32 :=
  concatenate S256x768 0 [⟨S8x768, select (cmpi .slt (iota .tc S8x768 32 [0] iota_S8x768_d0_w32) (broadcast S8x768 (BitVec.ofNat 32 k)))
      (dynamicRotate 0 (BitVec.ofNat 32 k) none p rotates_S8x768_d0) (extractStridedSlice S8x768 ![0, 0] (dynamicRotate 0 (BitVec.ofNat 32 k) none u rotates_S256x768_d0) slices_S256x768_o0_0_S8x768)⟩,
    ⟨S248x768, extractStridedSlice S248x768 ![8, 0] (dynamicRotate 0 (BitVec.ofNat 32 k) none u rotates_S256x768_d0) slices_S256x768_o8_0_S248x768⟩] concatenates_S8x768_S248x768_S256x768_d0

theorem shift1 {u : FVec Ideal S256x768 .f32} {p : Vec Ideal S8x768 .f32} {col : Fin 768 → Fin 6144}
    (hu : ∀ r q, u (ix2 r q) = ((A.up (rw_ n r) (col q) : ℝ) : EReal)) (hp : ∀ i q, p (ix2 i q) = ((A.tl n i (col q) : ℝ) : EReal)) (r : Fin 256) (q : Fin 768) :
    shift 1 u p (ix2 r q) = ((A.sh 1 (rw_ n r) (col q) : ℝ) : EReal) := by
  unfold shift
  pointwise
  have hs : ∀ i : Fin 8, IntOp.cmpi CmpIPredicate.slt (BitVec.ofNat 32 i.val) 1#32 = if i.val < 1 then 1#1 else 0#1 := by decide
  by_cases h8 : r.val < 8
  · rw [dif_pos h8, hs ⟨r.val, h8⟩]
    by_cases hk : r.val < 1
    · rw [if_pos hk, ← sh_tail A n 1 (by omega) (by omega) r hk (col q)]
      exact (congrArg (fun i => p (ix2 i q)) (Fin.ext (show (r.val + 8 - 1) % 8 = 8 + r.val - 1 by omega))).trans (hp _ q)
    · rw [if_neg hk, ← sh_row A n 1 r hk (col q)]
      exact (congrArg (fun i => u (ix2 i q)) (Fin.ext (show (r.val + 256 - 1) % 256 = r.val - 1 by omega))).trans (hu _ q)
  · rw [dif_neg h8, ← sh_row A n 1 r (by omega) (col q)]
    exact (congrArg (fun i => u (ix2 i q)) (Fin.ext (show (8 + (r.val - 8) + 256 - 1) % 256 = r.val - 1 by omega))).trans (hu _ q)

theorem shift2 {u : FVec Ideal S256x768 .f32} {p : Vec Ideal S8x768 .f32} {col : Fin 768 → Fin 6144}
    (hu : ∀ r q, u (ix2 r q) = ((A.up (rw_ n r) (col q) : ℝ) : EReal)) (hp : ∀ i q, p (ix2 i q) = ((A.tl n i (col q) : ℝ) : EReal)) (r : Fin 256) (q : Fin 768) :
    shift 2 u p (ix2 r q) = ((A.sh 2 (rw_ n r) (col q) : ℝ) : EReal) := by
  unfold shift
  pointwise
  have hs : ∀ i : Fin 8, IntOp.cmpi CmpIPredicate.slt (BitVec.ofNat 32 i.val) 2#32 = if i.val < 2 then 1#1 else 0#1 := by decide
  by_cases h8 : r.val < 8
  · rw [dif_pos h8, hs ⟨r.val, h8⟩]
    by_cases hk : r.val < 2
    · rw [if_pos hk, ← sh_tail A n 2 (by omega) (by omega) r hk (col q)]
      exact (congrArg (fun i => p (ix2 i q)) (Fin.ext (show (r.val + 8 - 2) % 8 = 8 + r.val - 2 by omega))).trans (hp _ q)
    · rw [if_neg hk, ← sh_row A n 2 r hk (col q)]
      exact (congrArg (fun i => u (ix2 i q)) (Fin.ext (show (r.val + 256 - 2) % 256 = r.val - 2 by omega))).trans (hu _ q)
  · rw [dif_neg h8, ← sh_row A n 2 r (by omega) (col q)]
    exact (congrArg (fun i => u (ix2 i q)) (Fin.ext (show (8 + (r.val - 8) + 256 - 2) % 256 = r.val - 2 by omega))).trans (hu _ q)

set_option maxRecDepth 16384 in
/-- The convolution by way of the shifts. -/
theorem conv_eq (u : FVec Ideal S256x768 .f32) (p : Vec Ideal S8x768 .f32) (f2 f1 f0 b : Vec Ideal S1x768 .f32) : k0_pay20 (F := Ideal) u p f2 f1 f0 b
    = addf (addf (addf (mulf (broadcastTo S256x768 f2 broadcasts_S1x768_S256x768) u) (mulf (broadcastTo S256x768 f1 broadcasts_S1x768_S256x768) (shift 1 u p)))
      (mulf (broadcastTo S256x768 f0 broadcasts_S1x768_S256x768) (shift 2 u p))) (broadcastTo S256x768 (shapeCast S1x768 b shapeCasts_S1x768_S1x768) broadcasts_S1x768_S256x768) := rfl

set_option maxRecDepth 16384 in
/-- A column chunk of the convolution. -/
theorem pay20 {u : FVec Ideal S256x768 .f32} {p : Vec Ideal S8x768 .f32} {f2 f1 f0 b : Vec Ideal S1x768 .f32} {col : Fin 768 → Fin 6144}
    (hu : ∀ r q, u (ix2 r q) = ((A.up (rw_ n r) (col q) : ℝ) : EReal)) (hp : ∀ i q, p (ix2 i q) = ((A.tl n i (col q) : ℝ) : EReal))
    (h2 : ∀ q, f2 (ix2 0 q) = ((A.fw 2 (col q) : ℝ) : EReal)) (h1 : ∀ q, f1 (ix2 0 q) = ((A.fw 1 (col q) : ℝ) : EReal))
    (h0 : ∀ q, f0 (ix2 0 q) = ((A.fw 0 (col q) : ℝ) : EReal)) (hb : ∀ q, b (ix2 0 q) = ((A.fb (col q) : ℝ) : EReal)) (r : Fin 256) (q : Fin 768) :
    k0_pay20 (F := Ideal) u p f2 f1 f0 b (ix2 r q) = ((A.pre (rw_ n r) (col q) : ℝ) : EReal) := by
  rw [conv_eq]
  pointwise
  simp only [hu, h2, h1, h0, hb, shift1 hu hp, shift2 hu hp, ofBits_zero', ofBits_1024, ofBits_eps, ofBits_one, ofBits_half, ofBits_gc0, ofBits_gc1, ofBits_inv1024, ofBits_inv2048, ← EReal.coe_one, ← EReal.coe_mul, ← EReal.coe_add, ← EReal.coe_sub, sum_coe, div_1024]
  rfl

set_option maxRecDepth 16384 in
/-- A column chunk of the gated activation. -/
theorem pay23 {g v : FVec Ideal S256x768 .f32} {jc : Fin 768 → Fin 3072} (hg : ∀ r q, g (ix2 r q) = ((A.pre (rw_ n r) (gcol (jc q)) : ℝ) : EReal))
    (hv : ∀ r q, v (ix2 r q) = ((A.pre (rw_ n r) (vcol (jc q)) : ℝ) : EReal)) (r : Fin 256) (q : Fin 768) :
    k0_pay23 (F := Ideal) g v (k0_pay22 g) (ix2 r q) = ((A.act (rw_ n r) (jc q) : ℝ) : EReal) := by
  pointwise [k0_pay23, k0_pay22]
  simp only [hg, hv, Ideal.tanh_coe, ofBits_zero', ofBits_1024, ofBits_eps, ofBits_one, ofBits_half, ofBits_gc0, ofBits_gc1, ofBits_inv1024, ofBits_inv2048, ← EReal.coe_one, ← EReal.coe_mul, ← EReal.coe_add, ← EReal.coe_sub, sum_coe, div_1024]
  rfl

set_option maxRecDepth 16384 in
/-- One more chunk of the second product. -/
theorem pay68 {acc : FVec Ideal S256x1024 .f32} {a : FVec Ideal S256x768 .bf16} {w : Vec Ideal S768x1024 .bf16} {jc : Fin 768 → Fin 3072}
    {C : Fin 256 → Fin 1024 → ℝ} (hc : ∀ r d, acc (ix2 r d) = ((C r d : ℝ) : EReal)) (ha : ∀ r q, a (ix2 r q) = ((A.act (rw_ n r) (jc q) : ℝ) : EReal))
    (hw : ∀ q d, w (ix2 q d) = ((A.wd (jc q) d : ℝ) : EReal)) (r : Fin 256) (d : Fin 1024) :
    k0_pay68 (F := Ideal) acc a w (ix2 r d) = ((C r d + ∑ q, A.act (rw_ n r) (jc q) * A.wd (jc q) d : ℝ) : EReal) := by
  pointwise [k0_pay68]
  simp only [hc, ha, hw, ofBits_zero', ofBits_1024, ofBits_eps, ofBits_one, ofBits_half, ofBits_gc0, ofBits_gc1, ofBits_inv1024, ofBits_inv2048, ← EReal.coe_one, ← EReal.coe_mul, ← EReal.coe_add, ← EReal.coe_sub, sum_coe, div_1024]

/-- A sum over 3072 columns is the sum of its four chunks of 768. -/
theorem sum_fourths (f : Fin 3072 → ℝ) : ∑ j, f j = 0 + ∑ q : Fin 768, f ⟨0 + q.val, by omega⟩ + ∑ q : Fin 768, f ⟨768 + q.val, by omega⟩
    + ∑ q : Fin 768, f ⟨1536 + q.val, by omega⟩ + ∑ q : Fin 768, f ⟨2304 + q.val, by omega⟩ := by
  rw [zero_add, Fin.sum_univ_add (a := 2304) (b := 768) f, Fin.sum_univ_add (a := 1536) (b := 768), Fin.sum_univ_add (a := 768) (b := 768)]
  refine congrArg (fun x => x + _ + _ + _) (Finset.sum_congr rfl fun q _ => congrArg f (Fin.ext ?_))
  exact (Nat.zero_add _).symm

section Norm
variable {acc : FVec Ideal S256x1024 .f32} {a : FVec Ideal S256x768 .bf16} {w : Vec Ideal S768x1024 .bf16} {x t : Vec Ideal S256x1024 .f32}
  {gt gp ac : Vec Ideal S1x1024 .f32} {al : Vec Ideal S1x128 .f32} {C : Fin 1024 → ℝ} {L : ℝ}
  (hy : ∀ r d, k0_pay68 (F := Ideal) acc a w (ix2 r d) = ((A.y (rw_ n r) d : ℝ) : EReal))
  (hx : ∀ r d, x (ix2 r d) = ((A.x1 (rw_ n r) d : ℝ) : EReal)) (ht : ∀ r d, t (ix2 r d) = ((A.tg (rw_ n r) d : ℝ) : EReal))
  (hg : ∀ d, gt (ix2 0 d) = ((A.gt d : ℝ) : EReal)) (hp : ∀ d, gp (ix2 0 d) = ((A.gp d : ℝ) : EReal))
  (hc : ∀ d, ac (ix2 0 d) = ((C d : ℝ) : EReal)) (hl : ∀ d, al (ix2 0 d) = ((L : ℝ) : EReal))

include hy in
set_option maxRecDepth 16384 in
/-- The reciprocal root of a row's mean square. -/
theorem pay69 (r : Fin 256) : k0_pay69 (F := Ideal) acc a w (ix2 r 0) = ((rinv (A.y (rw_ n r)) : ℝ) : EReal) := by
  pointwise [k0_pay69]
  simp only [hy, ofBits_zero', ofBits_1024, ofBits_eps, ofBits_one, ofBits_half, ofBits_gc0, ofBits_gc1, ofBits_inv1024, ofBits_inv2048, ← EReal.coe_one, ← EReal.coe_mul, ← EReal.coe_add, ← EReal.coe_sub, sum_coe, div_1024]
  exact rsqrt_msq (A.y (rw_ n r))

include hy in
set_option maxRecDepth 16384 in
/-- A normalised element. -/
theorem pay70 (r : Fin 256) (d : Fin 1024) : k0_pay70 (F := Ideal) acc a w (ix2 r d) = ((A.yn (rw_ n r) d : ℝ) : EReal) := by
  pointwise [k0_pay70]
  simp only [hy, pay69 hy, ofBits_zero', ofBits_1024, ofBits_eps, ofBits_one, ofBits_half, ofBits_gc0, ofBits_gc1, ofBits_inv1024, ofBits_inv2048, ← EReal.coe_one, ← EReal.coe_mul, ← EReal.coe_add, ← EReal.coe_sub, sum_coe, div_1024]
  rfl

include hy hp in
set_option maxRecDepth 16384 in
theorem pay71 (r : Fin 256) (d : Fin 1024) : k0_pay71 (F := Ideal) acc a w gp (ix2 r d) = ((A.yn (rw_ n r) d * A.gp d : ℝ) : EReal) := by
  pointwise [k0_pay71]
  simp only [hp, pay70 hy, ofBits_zero', ofBits_1024, ofBits_eps, ofBits_one, ofBits_half, ofBits_gc0, ofBits_gc1, ofBits_inv1024, ofBits_inv2048, ← EReal.coe_one, ← EReal.coe_mul, ← EReal.coe_add, ← EReal.coe_sub, sum_coe, div_1024]

include hy hp hx ht hg in
set_option maxRecDepth 16384 in
/-- The difference to the target. -/
theorem pay72 (r : Fin 256) (d : Fin 1024) : k0_pay72 (F := Ideal) acc a w gp x gt t (ix2 r d) = ((A.e (rw_ n r) d : ℝ) : EReal) := by
  pointwise [k0_pay72]
  simp only [hx, ht, hg, pay71 hy hp, Ideal.subf_def, ofBits_zero', ofBits_1024, ofBits_eps, ofBits_one, ofBits_half, ofBits_gc0, ofBits_gc1, ofBits_inv1024, ofBits_inv2048, ← EReal.coe_one, ← EReal.coe_mul, ← EReal.coe_add, ← EReal.coe_sub, sum_coe, div_1024]
  rfl

include hy hp hx ht hg hl in
set_option maxRecDepth 16384 in
/-- The loss after one more block. -/
theorem pay73 (d : Fin 128) : k0_pay73 (F := Ideal) acc a w gp x gt t al (ix2 0 d)
    = ((L + ∑ r, (∑ k, A.e (rw_ n r) k * A.e (rw_ n r) k) * (1 / 2048) : ℝ) : EReal) := by
  pointwise [k0_pay73]
  simp only [hl, pay72 hy hx ht hg hp, Fintype.sum_prod_type, ofBits_zero', ofBits_1024, ofBits_eps, ofBits_one, ofBits_half, ofBits_gc0, ofBits_gc1, ofBits_inv1024, ofBits_inv2048, ← EReal.coe_one, ← EReal.coe_mul, ← EReal.coe_add, ← EReal.coe_sub, sum_coe, div_1024]
  rw [Finset.sum_mul]

include hy hp hx ht hg in
set_option maxRecDepth 16384 in
/-- The gradient at the block's output. -/
theorem pay74 (r : Fin 256) (d : Fin 1024) : k0_pay74 (F := Ideal) acc a w gp x gt t (ix2 r d) = ((A.dx (rw_ n r) d : ℝ) : EReal) := by
  pointwise [k0_pay74]
  simp only [pay72 hy hx ht hg hp, ofBits_zero', ofBits_1024, ofBits_eps, ofBits_one, ofBits_half, ofBits_gc0, ofBits_gc1, ofBits_inv1024, ofBits_inv2048, ← EReal.coe_one, ← EReal.coe_mul, ← EReal.coe_add, ← EReal.coe_sub, sum_coe, div_1024]
  rfl

include hy hp hx ht hg hc in
set_option maxRecDepth 16384 in
/-- The gate's gradient after one more block. -/
theorem pay75 (d : Fin 1024) : k0_pay75 (F := Ideal) (k0_pay71 acc a w gp) (k0_pay74 acc a w gp x gt t) ac (ix2 0 d)
    = ((C d + ∑ r, A.dx (rw_ n r) d * (A.yn (rw_ n r) d * A.gp d) : ℝ) : EReal) := by
  pointwise [k0_pay75]
  simp only [hc, pay71 hy hp, pay74 hy hx ht hg hp, ofBits_zero', ofBits_1024, ofBits_eps, ofBits_one, ofBits_half, ofBits_gc0, ofBits_gc1, ofBits_inv1024, ofBits_inv2048, ← EReal.coe_one, ← EReal.coe_mul, ← EReal.coe_add, ← EReal.coe_sub, sum_coe, div_1024]

include hy hp hx ht hg in
set_option maxRecDepth 16384 in
theorem pay76 (r : Fin 256) (d : Fin 1024) : k0_pay76 (F := Ideal) (k0_pay74 acc a w gp x gt t) gt (ix2 r d) = ((A.dyn (rw_ n r) d : ℝ) : EReal) := by
  pointwise [k0_pay76]
  simp only [hg, pay74 hy hx ht hg hp, ofBits_zero', ofBits_1024, ofBits_eps, ofBits_one, ofBits_half, ofBits_gc0, ofBits_gc1, ofBits_inv1024, ofBits_inv2048, ← EReal.coe_one, ← EReal.coe_mul, ← EReal.coe_add, ← EReal.coe_sub, sum_coe, div_1024]
  rfl

include hy hp hx ht hg hc in
set_option maxRecDepth 16384 in
/-- The norm's gradient after one more block. -/
theorem pay77 (d : Fin 1024) : k0_pay77 (F := Ideal) (k0_pay70 acc a w) (k0_pay74 acc a w gp x gt t) gt ac (ix2 0 d)
    = ((C d + ∑ r, A.dyn (rw_ n r) d * A.yn (rw_ n r) d : ℝ) : EReal) := by
  pointwise [k0_pay77]
  simp only [hc, pay70 hy, pay76 hy hx ht hg hp, ofBits_zero', ofBits_1024, ofBits_eps, ofBits_one, ofBits_half, ofBits_gc0, ofBits_gc1, ofBits_inv1024, ofBits_inv2048, ← EReal.coe_one, ← EReal.coe_mul, ← EReal.coe_add, ← EReal.coe_sub, sum_coe, div_1024]

include hy hp hx ht hg in
set_option maxRecDepth 16384 in
theorem pay78 (r : Fin 256) (d : Fin 1024) : k0_pay78 (F := Ideal) (k0_pay74 acc a w gp x gt t) gt gp (ix2 r d) = ((A.dyn (rw_ n r) d * A.gp d : ℝ) : EReal) := by
  pointwise [k0_pay78]
  simp only [hp, pay76 hy hx ht hg hp, ofBits_zero', ofBits_1024, ofBits_eps, ofBits_one, ofBits_half, ofBits_gc0, ofBits_gc1, ofBits_inv1024, ofBits_inv2048, ← EReal.coe_one, ← EReal.coe_mul, ← EReal.coe_add, ← EReal.coe_sub, sum_coe, div_1024]

include hy hp hx ht hg in
set_option maxRecDepth 16384 in
/-- The gradient at the second product. -/
theorem pay1 (r : Fin 256) (d : Fin 1024) :
    k0_pay1 (F := Ideal) (k0_pay69 acc a w) (k0_pay70 acc a w) (k0_pay78 (k0_pay74 acc a w gp x gt t) gt gp)
      (k0_pay79 (k0_pay70 acc a w) (k0_pay74 acc a w gp x gt t) gt gp) k0_pay80 (ix2 r d) = ((A.dy (rw_ n r) d : ℝ) : EReal) := by
  pointwise [k0_pay1, k0_pay79, k0_pay80]
  simp only [pay69 hy, pay70 hy, pay78 hy hx ht hg hp, Ideal.subf_def, ofBits_zero', ofBits_1024, ofBits_eps, ofBits_one, ofBits_half, ofBits_gc0, ofBits_gc1, ofBits_inv1024, ofBits_inv2048, ← EReal.coe_one, ← EReal.coe_mul, ← EReal.coe_add, ← EReal.coe_sub, sum_coe, div_1024]
  rfl

end Norm

end Cert.Proof.FfnF
-- ==== Proof.FfnFTile.lean ====
/- The feed-forward forward call's tiles: the later chunks' stored values are the first chunk's functions, and each chunk of
   a grid point's blocks, on finite arguments, holds the model's values at the chunk's columns. -/
module

public import proofs.«01_k».proof.Proof.Gen.KernelFIdeal.Frame.Runs
public import proofs.«01_k».proof.Proof.FfnFPay
public import Idealize.ShloMosaic.Lib.Pipeline.FrameBody
public import Idealize.ShloMosaic.Lib.Pipeline.ReadBack
public import Idealize.ShloMosaic.Lib.Pipeline.Value
public import Idealize.ShloMosaic.Lib.Pipeline.ValueKit.Tiles

@[expose] public section

noncomputable section

namespace Cert.Proof.FfnF

open Cert.KernelFIdeal Cert.KernelFIdeal.Gen Idealize.ShloMosaic Idealize.ShloMosaic.TcCoe Idealize.SL.Sem Cert.Proof.Lift

theorem hz2 : (![0, 0] : Fin 2 → Nat) = fun _ => 0 := funext fun a => by fin_cases a <;> rfl
theorem hz2' : ∀ a, (![0, 0] : Fin 2 → Nat) a = 0 := fun a => by fin_cases a <;> rfl

/-- A load of a whole buffer right after a store of the whole buffer reads what was stored. -/
theorem readCov_last {S : Shape} {Val : EltTy → Type} [∀ e, Nonempty (Val e)] {e : EltTy} {sig : RefSig} {κ : Kind} {sp : Space} (v : View sig κ sp S e)
    {off : Fin S.rank → Nat} (h : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩), View.canon_cons_unit_zero h,
    View.ld_unit_zero h]

/-! The later chunks' values are the first chunk's functions. -/
section Same
variable (h : Vec Ideal S256x1024 .bf16) (w : Vec Ideal S1x1024x768 .bf16) (u g v : FVec Ideal S256x768 .f32) (p : Vec Ideal S8x768 .f32)
  (f2 f1 f0 b : Vec Ideal S1x768 .f32) (acc : FVec Ideal S256x1024 .f32) (wd : Vec Ideal S768x1024 .bf16)

theorem same9 : k0_pay9 (F := Ideal) h w = k0_pay8 h w := rfl
theorem same10 : k0_pay10 (F := Ideal) h w = k0_pay8 h w := rfl
theorem same11 : k0_pay11 (F := Ideal) h w = k0_pay8 h w := rfl
theorem same25 : k0_pay25 (F := Ideal) (k0_pay6 h) w = k0_pay8 h w := rfl
theorem same26 : k0_pay26 (F := Ideal) (k0_pay6 h) w = k0_pay8 h w := rfl
theorem same39 : k0_pay39 (F := Ideal) (k0_pay6 h) w = k0_pay8 h w := rfl
theorem same40 : k0_pay40 (F := Ideal) (k0_pay6 h) w = k0_pay8 h w := rfl
theorem same13 : k0_pay13 (F := Ideal) h w = k0_pay19 (k0_pay18 (k0_pay8 h w)) := rfl
theorem same28 : k0_pay28 (F := Ideal) u = k0_pay19 (k0_pay18 u) := rfl
theorem same33 : k0_pay33 (F := Ideal) u = k0_pay19 (k0_pay18 u) := rfl
theorem same42 : k0_pay42 (F := Ideal) u = k0_pay19 (k0_pay18 u) := rfl
theorem same47 : k0_pay47 (F := Ideal) u = k0_pay19 (k0_pay18 u) := rfl
theorem same54 : k0_pay54 (F := Ideal) u = k0_pay19 (k0_pay18 u) := rfl
theorem same59 : k0_pay59 (F := Ideal) u = k0_pay19 (k0_pay18 u) := rfl
theorem same15 : k0_pay15 (F := Ideal) u p (k0_pay14 f2) f1 f0 b = k0_pay20 u p f2 f1 f0 b := rfl
theorem same30 : k0_pay30 (F := Ideal) u p (k0_pay29 u f2) f1 f0 b = k0_pay20 u p f2 f1 f0 b := rfl
theorem same34 : k0_pay34 (F := Ideal) u p f2 f1 f0 b = k0_pay20 u p f2 f1 f0 b := rfl
theorem same44 : k0_pay44 (F := Ideal) u p (k0_pay43 u f2) f1 f0 b = k0_pay20 u p f2 f1 f0 b := rfl
theorem same48 : k0_pay48 (F := Ideal) u p f2 f1 f0 b = k0_pay20 u p f2 f1 f0 b := rfl
theorem same56 : k0_pay56 (F := Ideal) u p (k0_pay55 u p f2 f1) f0 b = k0_pay20 u p f2 f1 f0 b := rfl
theorem same65 : k0_pay65 (F := Ideal) u p (k0_pay60 u f2) f1 (k0_pay61 u) (k0_pay62 p) k0_pay63 (k0_pay64 u) f0 b = k0_pay20 u p f2 f1 f0 b := rfl
theorem same16 : k0_pay16 (F := Ideal) u p (k0_pay14 f2) f1 f0 b = k0_pay21 u p f2 f1 f0 b := rfl
theorem same31 : k0_pay31 (F := Ideal) u p (k0_pay29 u f2) f1 f0 b = k0_pay21 u p f2 f1 f0 b := rfl
theorem same35 : k0_pay35 (F := Ideal) u p f2 f1 f0 b = k0_pay21 u p f2 f1 f0 b := rfl
theorem same45 : k0_pay45 (F := Ideal) u p (k0_pay43 u f2) f1 f0 b = k0_pay21 u p f2 f1 f0 b := rfl
theorem same49 : k0_pay49 (F := Ideal) u p f2 f1 f0 b = k0_pay21 u p f2 f1 f0 b := rfl
theorem same57 : k0_pay57 (F := Ideal) u p (k0_pay55 u p f2 f1) f0 b = k0_pay21 u p f2 f1 f0 b := rfl
theorem same66 : k0_pay66 (F := Ideal) u p (k0_pay60 u f2) f1 (k0_pay61 u) (k0_pay62 p) k0_pay63 (k0_pay64 u) f0 b = k0_pay21 u p f2 f1 f0 b := rfl
theorem same12 : k0_pay12 (F := Ideal) h w = k0_pay17 (k0_pay8 h w) := rfl
theorem same27 : k0_pay27 (F := Ideal) u = k0_pay17 u := rfl
theorem same32 : k0_pay32 (F := Ideal) u = k0_pay17 u := rfl
theorem same41 : k0_pay41 (F := Ideal) u = k0_pay17 u := rfl
theorem same46 : k0_pay46 (F := Ideal) u = k0_pay17 u := rfl
theorem same53 : k0_pay53 (F := Ideal) u = k0_pay17 u := rfl
theorem same58 : k0_pay58 (F := Ideal) u = k0_pay17 u := rfl
theorem same37 : k0_pay37 (F := Ideal) g v (k0_pay36 g) (FloatOps.ofBits FTy.f32 0x3F4C422A#32) = k0_pay23 g v (k0_pay22 g) := rfl
theorem same51 : k0_pay51 (F := Ideal) g v (k0_pay50 g) = k0_pay23 g v (k0_pay22 g) := rfl
theorem same67 : k0_pay67 (F := Ideal) u g p (k0_pay60 u f2) f1 (k0_pay61 u) (k0_pay62 p) k0_pay63 (k0_pay64 u) f0 b = k0_pay23 g (k0_pay20 u p f2 f1 f0 b) (k0_pay22 g) := rfl
theorem same24 : k0_pay24 (F := Ideal) acc g v (k0_pay22 g) wd = k0_pay68 acc (k0_pay23 g v (k0_pay22 g)) wd := rfl
theorem same38 : k0_pay38 (F := Ideal) acc g v (k0_pay36 g) (FloatOps.ofBits FTy.f32 0x3F4C422A#32) wd = k0_pay68 acc (k0_pay23 g v (k0_pay22 g)) wd := rfl
theorem same52 : k0_pay52 (F := Ideal) acc g v (k0_pay50 g) wd = k0_pay68 acc (k0_pay23 g v (k0_pay22 g)) wd := rfl

theorem pay17 {u : FVec Ideal S256x768 .f32} (i) : k0_pay17 (F := Ideal) u i = u i := rfl
theorem pay21 {u : FVec Ideal S256x768 .f32} {p : Vec Ideal S8x768 .f32} {f2 f1 f0 b : Vec Ideal S1x768 .f32} (i) :
    k0_pay21 (F := Ideal) u p f2 f1 f0 b i = k0_pay20 (F := Ideal) u p f2 f1 f0 b i := rfl
end Same

theorem wuLt (k : Fin 4) (q : Fin 1536) : k.val * 1536 + q.val < 6144 := by omega
theorem l0 : 0 + 768 ≤ 3072 := by decide
theorem l768 : 768 + 768 ≤ 3072 := by decide
theorem l1536 : 1536 + 768 ≤ 3072 := by decide
theorem l2304 : 2304 + 768 ≤ 3072 := by decide

/-- Column `q` of a chunk of the activation. -/
def jc (k : ℕ) (hk : k + 768 ≤ 3072) (q : Fin 768) : Fin 3072 := ⟨k + q.val, by omega⟩

variable {A : Data} {n : Fin 16} {x0 : Vec Ideal S256x1024 .bf16} {x3 : Vec Ideal S4x1024x1536 .bf16} {x4 : Vec Ideal S3072x1024 .bf16}
  {x5 : Vec Ideal S3x6144 .f32} {x6 : Vec Ideal S1x6144 .f32} {xs : Vec Ideal S8x6144 .f32}
  (e0 : ∀ r d, x0 (ix2 r d) = ((A.h (rw_ n r) d : ℝ) : EReal))
  (e3 : ∀ (k : Fin 4) d (q : Fin 1536), x3 (ix3 k d q) = ((A.wu d ⟨k.val * 1536 + q.val, wuLt k q⟩ : ℝ) : EReal))
  (e4 : ∀ j d, x4 (ix2 j d) = ((A.wd j d : ℝ) : EReal)) (e5 : ∀ k c, x5 (ix2 k c) = ((A.fw k c : ℝ) : EReal))
  (e6 : ∀ c, x6 (ix2 0 c) = ((A.fb c : ℝ) : EReal)) (es : ∀ i c, xs (ix2 i c) = ((A.tl n i c : ℝ) : EReal))

include e0 e3 in
theorem upT {c k o : ℕ} (hk : k < 4) (ho : o + 768 ≤ 1536) (hc : c = k * 1536 + o) {col : Fin 768 → Fin 6144} (hcol : ∀ q, (col q).val = c + q.val) (inb)
    (r : Fin 256) (q : Fin 768) :
    k0_pay8 (F := Ideal) x0 (View.ld x3 (Rect.unit (s := S4x1024x1536) ![k, 0, o] ![1, 1024, 768] inb)) (ix2 r q) = ((A.up (rw_ n r) (col q) : ℝ) : EReal) := by
  refine pay8 e0 (fun d q => ?_) r q
  refine (View.ld_unit_apply_of x3 ![k, 0, o] ![1, 1024, 768] inb (ix3 0 d q) (ix3 ⟨k, hk⟩ d ⟨o + q.val, by omega⟩) (fun a => match a with
    | ⟨0, _⟩ => rfl
    | ⟨1, _⟩ => (Nat.zero_add _).symm
    | ⟨2, _⟩ => rfl)).trans ((e3 _ _ _).trans ?_)
  exact congrArg (fun z => ((A.wu d z : ℝ) : EReal)) (Fin.ext (show k * 1536 + (o + q.val) = (col q).val by rw [hcol]; omega))

include es in
theorem tailT {c : ℕ} (hc : c + 768 ≤ 6144) {col : Fin 768 → Fin 6144} (hcol : ∀ q, (col q).val = c + q.val) (inb) (i : Fin 8) (q : Fin 768) :
    (View.ld xs (Rect.unit (s := S8x6144) ![0, c] ![8, 768] inb) : Vec Ideal S8x768 .f32) (ix2 i q) = ((A.tl n i (col q) : ℝ) : EReal) :=
  (View.ld_unit_apply_of xs ![0, c] ![8, 768] inb (ix2 i q) (ix2 i (col q)) (fun a => match a with
    | ⟨0, _⟩ => (Nat.zero_add _).symm
    | ⟨1, _⟩ => hcol q)).trans (es _ _)

include e5 in
theorem tapT {c : ℕ} (k : Fin 3) {col : Fin 768 → Fin 6144} (hcol : ∀ q, (col q).val = c + q.val) (inb) (q : Fin 768) :
    (View.ld x5 (Rect.unit (s := S3x6144) ![k.val, c] ![1, 768] inb) : Vec Ideal S1x768 .f32) (ix2 0 q) = ((A.fw k (col q) : ℝ) : EReal) :=
  (View.ld_unit_apply_of x5 ![k.val, c] ![1, 768] inb (ix2 0 q) (ix2 k (col q)) (fun a => match a with
    | ⟨0, _⟩ => rfl
    | ⟨1, _⟩ => hcol q)).trans (e5 _ _)

include e6 in
theorem biasT {c : ℕ} {col : Fin 768 → Fin 6144} (hcol : ∀ q, (col q).val = c + q.val) (inb) (q : Fin 768) :
    (View.ld x6 (Rect.unit (s := S1x6144) ![0, c] ![1, 768] inb) : Vec Ideal S1x768 .f32) (ix2 0 q) = ((A.fb (col q) : ℝ) : EReal) :=
  (View.ld_unit_apply_of x6 ![0, c] ![1, 768] inb (ix2 0 q) (ix2 0 (col q)) (fun a => match a with
    | ⟨0, _⟩ => rfl
    | ⟨1, _⟩ => hcol q)).trans (e6 _)

include e4 in
theorem wdT {k : ℕ} (hk : k + 768 ≤ 3072) (inb) (q : Fin 768) (d : Fin 1024) :
    (View.ld x4 (Rect.unit (s := S3072x1024) ![k, 0] ![768, 1024] inb) : Vec Ideal S768x1024 .bf16) (ix2 q d) = ((A.wd (jc k hk q) d : ℝ) : EReal) :=
  (View.ld_unit_apply_of x4 ![k, 0] ![768, 1024] inb (ix2 q d) (ix2 (jc k hk q) d) (fun a => match a with
    | ⟨0, _⟩ => rfl
    | ⟨1, _⟩ => (Nat.zero_add _).symm)).trans (e4 _ _)

include e0 e3 e5 e6 in
/-- A chunk of the convolution. -/
theorem convT {c k o : ℕ} (hk : k < 4) (ho : o + 768 ≤ 1536) (hc : c = k * 1536 + o) {col : Fin 768 → Fin 6144} (hcol : ∀ q, (col q).val = c + q.val)
    {p : Vec Ideal S8x768 .f32} (hp : ∀ i q, p (ix2 i q) = ((A.tl n i (col q) : ℝ) : EReal)) (inb i2 i1 i0 ib) (r : Fin 256) (q : Fin 768) :
    k0_pay20 (F := Ideal) (k0_pay8 x0 (View.ld x3 (Rect.unit (s := S4x1024x1536) ![k, 0, o] ![1, 1024, 768] inb))) p
      (View.ld x5 (Rect.unit (s := S3x6144) ![2, c] ![1, 768] i2)) (View.ld x5 (Rect.unit (s := S3x6144) ![1, c] ![1, 768] i1))
      (View.ld x5 (Rect.unit (s := S3x6144) ![0, c] ![1, 768] i0)) (View.ld x6 (Rect.unit (s := S1x6144) ![0, c] ![1, 768] ib)) (ix2 r q)
      = ((A.pre (rw_ n r) (col q) : ℝ) : EReal) :=
  pay20 (upT e0 e3 hk ho hc hcol inb) hp (tapT e5 2 hcol i2) (tapT e5 1 hcol i1) (tapT e5 0 hcol i0) (biasT e6 hcol ib) r q

/-- A row of the zero fill. -/
theorem zeroTail (h0 : n.val = 0) (i : Fin 8) (c : Fin 6144) : (k0_pay2 (F := Ideal)) (ix2 i c) = ((A.tl n i c : ℝ) : EReal) := by
  unfold Data.tl
  rw [dif_pos h0]
  pointwise [k0_pay2]
  exact EReal.coe_zero.symm

theorem zero7 (r : Fin 256) (d : Fin 1024) : k0_pay7 (F := Ideal) (ix2 r d) = (((fun _ _ => 0 : Fin 256 → Fin 1024 → ℝ) r d : ℝ) : EReal) := by
  pointwise [k0_pay7]
  exact EReal.coe_zero.symm

/-! The chunks by name. -/
abbrev u0 (x0 : Vec Ideal S256x1024 .bf16) (x3 : Vec Ideal S4x1024x1536 .bf16) := (k0_pay8 (F := Ideal) x0 (View.ld x3 (Rect.unit (s := S4x1024x1536) ![0, 0, 0] ![1, 1024, 768] inb_S4x1024x1536_S1x1024x768_0_0_0)))
abbrev c0 (x0 : Vec Ideal S256x1024 .bf16) (x3 : Vec Ideal S4x1024x1536 .bf16) (x5 : Vec Ideal S3x6144 .f32) (x6 : Vec Ideal S1x6144 .f32) (p : Vec Ideal S8x768 .f32) := k0_pay20 (F := Ideal) (u0 x0 x3) p (View.ld x5 (Rect.unit (s := S3x6144) ![2, 0] ![1, 768] inb_S3x6144_S1x768_2_0)) (View.ld x5 (Rect.unit (s := S3x6144) ![1, 0] ![1, 768] inb_S3x6144_S1x768_1_0)) (View.ld x5 (Rect.unit (s := S3x6144) ![0, 0] ![1, 768] inb_S3x6144_S1x768_0_0)) (View.ld x6 (Rect.unit (s := S1x6144) ![0, 0] ![1, 768] inb_S1x6144_S1x768_0_0))
abbrev u1 (x0 : Vec Ideal S256x1024 .bf16) (x3 : Vec Ideal S4x1024x1536 .bf16) := (k0_pay8 (F := Ideal) x0 (View.ld x3 (Rect.unit (s := S4x1024x1536) ![0, 0, 768] ![1, 1024, 768] inb_S4x1024x1536_S1x1024x768_0_0_768)))
abbrev c1 (x0 : Vec Ideal S256x1024 .bf16) (x3 : Vec Ideal S4x1024x1536 .bf16) (x5 : Vec Ideal S3x6144 .f32) (x6 : Vec Ideal S1x6144 .f32) (p : Vec Ideal S8x768 .f32) := k0_pay20 (F := Ideal) (u1 x0 x3) p (View.ld x5 (Rect.unit (s := S3x6144) ![2, 768] ![1, 768] inb_S3x6144_S1x768_2_768)) (View.ld x5 (Rect.unit (s := S3x6144) ![1, 768] ![1, 768] inb_S3x6144_S1x768_1_768)) (View.ld x5 (Rect.unit (s := S3x6144) ![0, 768] ![1, 768] inb_S3x6144_S1x768_0_768)) (View.ld x6 (Rect.unit (s := S1x6144) ![0, 768] ![1, 768] inb_S1x6144_S1x768_0_768))
abbrev u2 (x0 : Vec Ideal S256x1024 .bf16) (x3 : Vec Ideal S4x1024x1536 .bf16) := (k0_pay8 (F := Ideal) x0 (View.ld x3 (Rect.unit (s := S4x1024x1536) ![1, 0, 0] ![1, 1024, 768] inb_S4x1024x1536_S1x1024x768_1_0_0)))
abbrev c2 (x0 : Vec Ideal S256x1024 .bf16) (x3 : Vec Ideal S4x1024x1536 .bf16) (x5 : Vec Ideal S3x6144 .f32) (x6 : Vec Ideal S1x6144 .f32) (p : Vec Ideal S8x768 .f32) := k0_pay20 (F := Ideal) (u2 x0 x3) p (View.ld x5 (Rect.unit (s := S3x6144) ![2, 1536] ![1, 768] inb_S3x6144_S1x768_2_1536)) (View.ld x5 (Rect.unit (s := S3x6144) ![1, 1536] ![1, 768] inb_S3x6144_S1x768_1_1536)) (View.ld x5 (Rect.unit (s := S3x6144) ![0, 1536] ![1, 768] inb_S3x6144_S1x768_0_1536)) (View.ld x6 (Rect.unit (s := S1x6144) ![0, 1536] ![1, 768] inb_S1x6144_S1x768_0_1536))
abbrev u3 (x0 : Vec Ideal S256x1024 .bf16) (x3 : Vec Ideal S4x1024x1536 .bf16) := (k0_pay8 (F := Ideal) x0 (View.ld x3 (Rect.unit (s := S4x1024x1536) ![1, 0, 768] ![1, 1024, 768] inb_S4x1024x1536_S1x1024x768_1_0_768)))
abbrev c3 (x0 : Vec Ideal S256x1024 .bf16) (x3 : Vec Ideal S4x1024x1536 .bf16) (x5 : Vec Ideal S3x6144 .f32) (x6 : Vec Ideal S1x6144 .f32) (p : Vec Ideal S8x768 .f32) := k0_pay20 (F := Ideal) (u3 x0 x3) p (View.ld x5 (Rect.unit (s := S3x6144) ![2, 2304] ![1, 768] inb_S3x6144_S1x768_2_2304)) (View.ld x5 (Rect.unit (s := S3x6144) ![1, 2304] ![1, 768] inb_S3x6144_S1x768_1_2304)) (View.ld x5 (Rect.unit (s := S3x6144) ![0, 2304] ![1, 768] inb_S3x6144_S1x768_0_2304)) (View.ld x6 (Rect.unit (s := S1x6144) ![0, 2304] ![1, 768] inb_S1x6144_S1x768_0_2304))
abbrev u4 (x0 : Vec Ideal S256x1024 .bf16) (x3 : Vec Ideal S4x1024x1536 .bf16) := (k0_pay8 (F := Ideal) x0 (View.ld x3 (Rect.unit (s := S4x1024x1536) ![2, 0, 0] ![1, 1024, 768] inb_S4x1024x1536_S1x1024x768_2_0_0)))
abbrev c4 (x0 : Vec Ideal S256x1024 .bf16) (x3 : Vec Ideal S4x1024x1536 .bf16) (x5 : Vec Ideal S3x6144 .f32) (x6 : Vec Ideal S1x6144 .f32) (p : Vec Ideal S8x768 .f32) := k0_pay20 (F := Ideal) (u4 x0 x3) p (View.ld x5 (Rect.unit (s := S3x6144) ![2, 3072] ![1, 768] inb_S3x6144_S1x768_2_3072)) (View.ld x5 (Rect.unit (s := S3x6144) ![1, 3072] ![1, 768] inb_S3x6144_S1x768_1_3072)) (View.ld x5 (Rect.unit (s := S3x6144) ![0, 3072] ![1, 768] inb_S3x6144_S1x768_0_3072)) (View.ld x6 (Rect.unit (s := S1x6144) ![0, 3072] ![1, 768] inb_S1x6144_S1x768_0_3072))
abbrev u5 (x0 : Vec Ideal S256x1024 .bf16) (x3 : Vec Ideal S4x1024x1536 .bf16) := (k0_pay8 (F := Ideal) x0 (View.ld x3 (Rect.unit (s := S4x1024x1536) ![2, 0, 768] ![1, 1024, 768] inb_S4x1024x1536_S1x1024x768_2_0_768)))
abbrev c5 (x0 : Vec Ideal S256x1024 .bf16) (x3 : Vec Ideal S4x1024x1536 .bf16) (x5 : Vec Ideal S3x6144 .f32) (x6 : Vec Ideal S1x6144 .f32) (p : Vec Ideal S8x768 .f32) := k0_pay20 (F := Ideal) (u5 x0 x3) p (View.ld x5 (Rect.unit (s := S3x6144) ![2, 3840] ![1, 768] inb_S3x6144_S1x768_2_3840)) (View.ld x5 (Rect.unit (s := S3x6144) ![1, 3840] ![1, 768] inb_S3x6144_S1x768_1_3840)) (View.ld x5 (Rect.unit (s := S3x6144) ![0, 3840] ![1, 768] inb_S3x6144_S1x768_0_3840)) (View.ld x6 (Rect.unit (s := S1x6144) ![0, 3840] ![1, 768] inb_S1x6144_S1x768_0_3840))
abbrev u6 (x0 : Vec Ideal S256x1024 .bf16) (x3 : Vec Ideal S4x1024x1536 .bf16) := (k0_pay8 (F := Ideal) x0 (View.ld x3 (Rect.unit (s := S4x1024x1536) ![3, 0, 0] ![1, 1024, 768] inb_S4x1024x1536_S1x1024x768_3_0_0)))
abbrev c6 (x0 : Vec Ideal S256x1024 .bf16) (x3 : Vec Ideal S4x1024x1536 .bf16) (x5 : Vec Ideal S3x6144 .f32) (x6 : Vec Ideal S1x6144 .f32) (p : Vec Ideal S8x768 .f32) := k0_pay20 (F := Ideal) (u6 x0 x3) p (View.ld x5 (Rect.unit (s := S3x6144) ![2, 4608] ![1, 768] inb_S3x6144_S1x768_2_4608)) (View.ld x5 (Rect.unit (s := S3x6144) ![1, 4608] ![1, 768] inb_S3x6144_S1x768_1_4608)) (View.ld x5 (Rect.unit (s := S3x6144) ![0, 4608] ![1, 768] inb_S3x6144_S1x768_0_4608)) (View.ld x6 (Rect.unit (s := S1x6144) ![0, 4608] ![1, 768] inb_S1x6144_S1x768_0_4608))
abbrev u7 (x0 : Vec Ideal S256x1024 .bf16) (x3 : Vec Ideal S4x1024x1536 .bf16) := (k0_pay8 (F := Ideal) x0 (View.ld x3 (Rect.unit (s := S4x1024x1536) ![3, 0, 768] ![1, 1024, 768] inb_S4x1024x1536_S1x1024x768_3_0_768)))
abbrev c7 (x0 : Vec Ideal S256x1024 .bf16) (x3 : Vec Ideal S4x1024x1536 .bf16) (x5 : Vec Ideal S3x6144 .f32) (x6 : Vec Ideal S1x6144 .f32) (p : Vec Ideal S8x768 .f32) := k0_pay20 (F := Ideal) (u7 x0 x3) p (View.ld x5 (Rect.unit (s := S3x6144) ![2, 5376] ![1, 768] inb_S3x6144_S1x768_2_5376)) (View.ld x5 (Rect.unit (s := S3x6144) ![1, 5376] ![1, 768] inb_S3x6144_S1x768_1_5376)) (View.ld x5 (Rect.unit (s := S3x6144) ![0, 5376] ![1, 768] inb_S3x6144_S1x768_0_5376)) (View.ld x6 (Rect.unit (s := S1x6144) ![0, 5376] ![1, 768] inb_S1x6144_S1x768_0_5376))
abbrev a0 (x0 : Vec Ideal S256x1024 .bf16) (x3 : Vec Ideal S4x1024x1536 .bf16) (x5 : Vec Ideal S3x6144 .f32) (x6 : Vec Ideal S1x6144 .f32) (p p' : Vec Ideal S8x768 .f32) := k0_pay23 (F := Ideal) (c0 x0 x3 x5 x6 p) (c4 x0 x3 x5 x6 p') (k0_pay22 (c0 x0 x3 x5 x6 p))
abbrev d0 (x4 : Vec Ideal S3072x1024 .bf16) : Vec Ideal S768x1024 .bf16 := View.ld x4 (Rect.unit (s := S3072x1024) ![0, 0] ![768, 1024] inb_S3072x1024_S768x1024_0_0)
abbrev a1 (x0 : Vec Ideal S256x1024 .bf16) (x3 : Vec Ideal S4x1024x1536 .bf16) (x5 : Vec Ideal S3x6144 .f32) (x6 : Vec Ideal S1x6144 .f32) (p p' : Vec Ideal S8x768 .f32) := k0_pay23 (F := Ideal) (c1 x0 x3 x5 x6 p) (c5 x0 x3 x5 x6 p') (k0_pay22 (c1 x0 x3 x5 x6 p))
abbrev d1 (x4 : Vec Ideal S3072x1024 .bf16) : Vec Ideal S768x1024 .bf16 := View.ld x4 (Rect.unit (s := S3072x1024) ![768, 0] ![768, 1024] inb_S3072x1024_S768x1024_768_0)
abbrev a2 (x0 : Vec Ideal S256x1024 .bf16) (x3 : Vec Ideal S4x1024x1536 .bf16) (x5 : Vec Ideal S3x6144 .f32) (x6 : Vec Ideal S1x6144 .f32) (p p' : Vec Ideal S8x768 .f32) := k0_pay23 (F := Ideal) (c2 x0 x3 x5 x6 p) (c6 x0 x3 x5 x6 p') (k0_pay22 (c2 x0 x3 x5 x6 p))
abbrev d2 (x4 : Vec Ideal S3072x1024 .bf16) : Vec Ideal S768x1024 .bf16 := View.ld x4 (Rect.unit (s := S3072x1024) ![1536, 0] ![768, 1024] inb_S3072x1024_S768x1024_1536_0)
abbrev a3 (x0 : Vec Ideal S256x1024 .bf16) (x3 : Vec Ideal S4x1024x1536 .bf16) (x5 : Vec Ideal S3x6144 .f32) (x6 : Vec Ideal S1x6144 .f32) (p p' : Vec Ideal S8x768 .f32) := k0_pay23 (F := Ideal) (c3 x0 x3 x5 x6 p) (c7 x0 x3 x5 x6 p') (k0_pay22 (c3 x0 x3 x5 x6 p))
abbrev d3 (x4 : Vec Ideal S3072x1024 .bf16) : Vec Ideal S768x1024 .bf16 := View.ld x4 (Rect.unit (s := S3072x1024) ![2304, 0] ![768, 1024] inb_S3072x1024_S768x1024_2304_0)
abbrev s0 (x0 : Vec Ideal S256x1024 .bf16) (x3 : Vec Ideal S4x1024x1536 .bf16) (x4 : Vec Ideal S3072x1024 .bf16) (x5 : Vec Ideal S3x6144 .f32) (x6 : Vec Ideal S1x6144 .f32) (p0 p1 p2 p3 p4 p5 p6 p7 : Vec Ideal S8x768 .f32) := k0_pay68 (F := Ideal) k0_pay7 (a0 x0 x3 x5 x6 p0 p4) (d0 x4)
abbrev s1 (x0 : Vec Ideal S256x1024 .bf16) (x3 : Vec Ideal S4x1024x1536 .bf16) (x4 : Vec Ideal S3072x1024 .bf16) (x5 : Vec Ideal S3x6144 .f32) (x6 : Vec Ideal S1x6144 .f32) (p0 p1 p2 p3 p4 p5 p6 p7 : Vec Ideal S8x768 .f32) := k0_pay68 (F := Ideal) (s0 x0 x3 x4 x5 x6 p0 p1 p2 p3 p4 p5 p6 p7) (a1 x0 x3 x5 x6 p1 p5) (d1 x4)
abbrev s2 (x0 : Vec Ideal S256x1024 .bf16) (x3 : Vec Ideal S4x1024x1536 .bf16) (x4 : Vec Ideal S3072x1024 .bf16) (x5 : Vec Ideal S3x6144 .f32) (x6 : Vec Ideal S1x6144 .f32) (p0 p1 p2 p3 p4 p5 p6 p7 : Vec Ideal S8x768 .f32) := k0_pay68 (F := Ideal) (s1 x0 x3 x4 x5 x6 p0 p1 p2 p3 p4 p5 p6 p7) (a2 x0 x3 x5 x6 p2 p6) (d2 x4)

include e0 e3 in
theorem uT0 (r : Fin 256) (q : Fin 768) : u0 x0 x3 (ix2 r q) = ((A.up (rw_ n r) (gcol (jc 0 l0 q)) : ℝ) : EReal) :=
  upT (c := 0) e0 e3 (by omega) (by omega) (by omega) (col := fun q => gcol (jc 0 l0 q)) (fun q => rfl) _ r q
include e0 e3 e5 e6 in
theorem cT0 {p : Vec Ideal S8x768 .f32} (hp : ∀ i q, p (ix2 i q) = ((A.tl n i (gcol (jc 0 l0 q)) : ℝ) : EReal)) (r : Fin 256) (q : Fin 768) :
    c0 x0 x3 x5 x6 p (ix2 r q) = ((A.pre (rw_ n r) (gcol (jc 0 l0 q)) : ℝ) : EReal) :=
  convT (c := 0) e0 e3 e5 e6 (by omega) (by omega) (by omega) (col := fun q => gcol (jc 0 l0 q)) (fun q => rfl) hp _ _ _ _ _ r q
include es in
theorem tT0 (inb) (i : Fin 8) (q : Fin 768) : (View.ld xs (Rect.unit (s := S8x6144) ![0, 0] ![8, 768] inb) : Vec Ideal S8x768 .f32) (ix2 i q) = ((A.tl n i (gcol (jc 0 l0 q)) : ℝ) : EReal) :=
  tailT es (by omega) (col := fun q => gcol (jc 0 l0 q)) (fun q => rfl) inb i q
include e0 e3 in
theorem uT1 (r : Fin 256) (q : Fin 768) : u1 x0 x3 (ix2 r q) = ((A.up (rw_ n r) (gcol (jc 768 l768 q)) : ℝ) : EReal) :=
  upT (c := 768) e0 e3 (by omega) (by omega) (by omega) (col := fun q => gcol (jc 768 l768 q)) (fun q => rfl) _ r q
include e0 e3 e5 e6 in
theorem cT1 {p : Vec Ideal S8x768 .f32} (hp : ∀ i q, p (ix2 i q) = ((A.tl n i (gcol (jc 768 l768 q)) : ℝ) : EReal)) (r : Fin 256) (q : Fin 768) :
    c1 x0 x3 x5 x6 p (ix2 r q) = ((A.pre (rw_ n r) (gcol (jc 768 l768 q)) : ℝ) : EReal) :=
  convT (c := 768) e0 e3 e5 e6 (by omega) (by omega) (by omega) (col := fun q => gcol (jc 768 l768 q)) (fun q => rfl) hp _ _ _ _ _ r q
include es in
theorem tT1 (inb) (i : Fin 8) (q : Fin 768) : (View.ld xs (Rect.unit (s := S8x6144) ![0, 768] ![8, 768] inb) : Vec Ideal S8x768 .f32) (ix2 i q) = ((A.tl n i (gcol (jc 768 l768 q)) : ℝ) : EReal) :=
  tailT es (by omega) (col := fun q => gcol (jc 768 l768 q)) (fun q => rfl) inb i q
include e0 e3 in
theorem uT2 (r : Fin 256) (q : Fin 768) : u2 x0 x3 (ix2 r q) = ((A.up (rw_ n r) (gcol (jc 1536 l1536 q)) : ℝ) : EReal) :=
  upT (c := 1536) e0 e3 (by omega) (by omega) (by omega) (col := fun q => gcol (jc 1536 l1536 q)) (fun q => rfl) _ r q
include e0 e3 e5 e6 in
theorem cT2 {p : Vec Ideal S8x768 .f32} (hp : ∀ i q, p (ix2 i q) = ((A.tl n i (gcol (jc 1536 l1536 q)) : ℝ) : EReal)) (r : Fin 256) (q : Fin 768) :
    c2 x0 x3 x5 x6 p (ix2 r q) = ((A.pre (rw_ n r) (gcol (jc 1536 l1536 q)) : ℝ) : EReal) :=
  convT (c := 1536) e0 e3 e5 e6 (by omega) (by omega) (by omega) (col := fun q => gcol (jc 1536 l1536 q)) (fun q => rfl) hp _ _ _ _ _ r q
include es in
theorem tT2 (inb) (i : Fin 8) (q : Fin 768) : (View.ld xs (Rect.unit (s := S8x6144) ![0, 1536] ![8, 768] inb) : Vec Ideal S8x768 .f32) (ix2 i q) = ((A.tl n i (gcol (jc 1536 l1536 q)) : ℝ) : EReal) :=
  tailT es (by omega) (col := fun q => gcol (jc 1536 l1536 q)) (fun q => rfl) inb i q
include e0 e3 in
theorem uT3 (r : Fin 256) (q : Fin 768) : u3 x0 x3 (ix2 r q) = ((A.up (rw_ n r) (gcol (jc 2304 l2304 q)) : ℝ) : EReal) :=
  upT (c := 2304) e0 e3 (by omega) (by omega) (by omega) (col := fun q => gcol (jc 2304 l2304 q)) (fun q => rfl) _ r q
include e0 e3 e5 e6 in
theorem cT3 {p : Vec Ideal S8x768 .f32} (hp : ∀ i q, p (ix2 i q) = ((A.tl n i (gcol (jc 2304 l2304 q)) : ℝ) : EReal)) (r : Fin 256) (q : Fin 768) :
    c3 x0 x3 x5 x6 p (ix2 r q) = ((A.pre (rw_ n r) (gcol (jc 2304 l2304 q)) : ℝ) : EReal) :=
  convT (c := 2304) e0 e3 e5 e6 (by omega) (by omega) (by omega) (col := fun q => gcol (jc 2304 l2304 q)) (fun q => rfl) hp _ _ _ _ _ r q
include es in
theorem tT3 (inb) (i : Fin 8) (q : Fin 768) : (View.ld xs (Rect.unit (s := S8x6144) ![0, 2304] ![8, 768] inb) : Vec Ideal S8x768 .f32) (ix2 i q) = ((A.tl n i (gcol (jc 2304 l2304 q)) : ℝ) : EReal) :=
  tailT es (by omega) (col := fun q => gcol (jc 2304 l2304 q)) (fun q => rfl) inb i q
include e0 e3 in
theorem uT4 (r : Fin 256) (q : Fin 768) : u4 x0 x3 (ix2 r q) = ((A.up (rw_ n r) (vcol (jc 0 l0 q)) : ℝ) : EReal) :=
  upT (c := 3072) e0 e3 (by omega) (by omega) (by omega) (col := fun q => vcol (jc 0 l0 q)) (fun q => show 3072 + (0 + q.val) = 3072 + q.val by omega) _ r q
include e0 e3 e5 e6 in
theorem cT4 {p : Vec Ideal S8x768 .f32} (hp : ∀ i q, p (ix2 i q) = ((A.tl n i (vcol (jc 0 l0 q)) : ℝ) : EReal)) (r : Fin 256) (q : Fin 768) :
    c4 x0 x3 x5 x6 p (ix2 r q) = ((A.pre (rw_ n r) (vcol (jc 0 l0 q)) : ℝ) : EReal) :=
  convT (c := 3072) e0 e3 e5 e6 (by omega) (by omega) (by omega) (col := fun q => vcol (jc 0 l0 q)) (fun q => show 3072 + (0 + q.val) = 3072 + q.val by omega) hp _ _ _ _ _ r q
include es in
theorem tT4 (inb) (i : Fin 8) (q : Fin 768) : (View.ld xs (Rect.unit (s := S8x6144) ![0, 3072] ![8, 768] inb) : Vec Ideal S8x768 .f32) (ix2 i q) = ((A.tl n i (vcol (jc 0 l0 q)) : ℝ) : EReal) :=
  tailT es (by omega) (col := fun q => vcol (jc 0 l0 q)) (fun q => show 3072 + (0 + q.val) = 3072 + q.val by omega) inb i q
include e0 e3 in
theorem uT5 (r : Fin 256) (q : Fin 768) : u5 x0 x3 (ix2 r q) = ((A.up (rw_ n r) (vcol (jc 768 l768 q)) : ℝ) : EReal) :=
  upT (c := 3840) e0 e3 (by omega) (by omega) (by omega) (col := fun q => vcol (jc 768 l768 q)) (fun q => show 3072 + (768 + q.val) = 3840 + q.val by omega) _ r q
include e0 e3 e5 e6 in
theorem cT5 {p : Vec Ideal S8x768 .f32} (hp : ∀ i q, p (ix2 i q) = ((A.tl n i (vcol (jc 768 l768 q)) : ℝ) : EReal)) (r : Fin 256) (q : Fin 768) :
    c5 x0 x3 x5 x6 p (ix2 r q) = ((A.pre (rw_ n r) (vcol (jc 768 l768 q)) : ℝ) : EReal) :=
  convT (c := 3840) e0 e3 e5 e6 (by omega) (by omega) (by omega) (col := fun q => vcol (jc 768 l768 q)) (fun q => show 3072 + (768 + q.val) = 3840 + q.val by omega) hp _ _ _ _ _ r q
include es in
theorem tT5 (inb) (i : Fin 8) (q : Fin 768) : (View.ld xs (Rect.unit (s := S8x6144) ![0, 3840] ![8, 768] inb) : Vec Ideal S8x768 .f32) (ix2 i q) = ((A.tl n i (vcol (jc 768 l768 q)) : ℝ) : EReal) :=
  tailT es (by omega) (col := fun q => vcol (jc 768 l768 q)) (fun q => show 3072 + (768 + q.val) = 3840 + q.val by omega) inb i q
include e0 e3 in
theorem uT6 (r : Fin 256) (q : Fin 768) : u6 x0 x3 (ix2 r q) = ((A.up (rw_ n r) (vcol (jc 1536 l1536 q)) : ℝ) : EReal) :=
  upT (c := 4608) e0 e3 (by omega) (by omega) (by omega) (col := fun q => vcol (jc 1536 l1536 q)) (fun q => show 3072 + (1536 + q.val) = 4608 + q.val by omega) _ r q
include e0 e3 e5 e6 in
theorem cT6 {p : Vec Ideal S8x768 .f32} (hp : ∀ i q, p (ix2 i q) = ((A.tl n i (vcol (jc 1536 l1536 q)) : ℝ) : EReal)) (r : Fin 256) (q : Fin 768) :
    c6 x0 x3 x5 x6 p (ix2 r q) = ((A.pre (rw_ n r) (vcol (jc 1536 l1536 q)) : ℝ) : EReal) :=
  convT (c := 4608) e0 e3 e5 e6 (by omega) (by omega) (by omega) (col := fun q => vcol (jc 1536 l1536 q)) (fun q => show 3072 + (1536 + q.val) = 4608 + q.val by omega) hp _ _ _ _ _ r q
include es in
theorem tT6 (inb) (i : Fin 8) (q : Fin 768) : (View.ld xs (Rect.unit (s := S8x6144) ![0, 4608] ![8, 768] inb) : Vec Ideal S8x768 .f32) (ix2 i q) = ((A.tl n i (vcol (jc 1536 l1536 q)) : ℝ) : EReal) :=
  tailT es (by omega) (col := fun q => vcol (jc 1536 l1536 q)) (fun q => show 3072 + (1536 + q.val) = 4608 + q.val by omega) inb i q
include e0 e3 in
theorem uT7 (r : Fin 256) (q : Fin 768) : u7 x0 x3 (ix2 r q) = ((A.up (rw_ n r) (vcol (jc 2304 l2304 q)) : ℝ) : EReal) :=
  upT (c := 5376) e0 e3 (by omega) (by omega) (by omega) (col := fun q => vcol (jc 2304 l2304 q)) (fun q => show 3072 + (2304 + q.val) = 5376 + q.val by omega) _ r q
include e0 e3 e5 e6 in
theorem cT7 {p : Vec Ideal S8x768 .f32} (hp : ∀ i q, p (ix2 i q) = ((A.tl n i (vcol (jc 2304 l2304 q)) : ℝ) : EReal)) (r : Fin 256) (q : Fin 768) :
    c7 x0 x3 x5 x6 p (ix2 r q) = ((A.pre (rw_ n r) (vcol (jc 2304 l2304 q)) : ℝ) : EReal) :=
  convT (c := 5376) e0 e3 e5 e6 (by omega) (by omega) (by omega) (col := fun q => vcol (jc 2304 l2304 q)) (fun q => show 3072 + (2304 + q.val) = 5376 + q.val by omega) hp _ _ _ _ _ r q
include es in
theorem tT7 (inb) (i : Fin 8) (q : Fin 768) : (View.ld xs (Rect.unit (s := S8x6144) ![0, 5376] ![8, 768] inb) : Vec Ideal S8x768 .f32) (ix2 i q) = ((A.tl n i (vcol (jc 2304 l2304 q)) : ℝ) : EReal) :=
  tailT es (by omega) (col := fun q => vcol (jc 2304 l2304 q)) (fun q => show 3072 + (2304 + q.val) = 5376 + q.val by omega) inb i q
include e0 e3 e5 e6 in
theorem aT0 {p p' : Vec Ideal S8x768 .f32} (hp : ∀ i q, p (ix2 i q) = ((A.tl n i (gcol (jc 0 l0 q)) : ℝ) : EReal))
    (hp' : ∀ i q, p' (ix2 i q) = ((A.tl n i (vcol (jc 0 l0 q)) : ℝ) : EReal)) (r : Fin 256) (q : Fin 768) :
    a0 x0 x3 x5 x6 p p' (ix2 r q) = ((A.act (rw_ n r) (jc 0 l0 q) : ℝ) : EReal) :=
  pay23 (cT0 e0 e3 e5 e6 hp) (cT4 e0 e3 e5 e6 hp') r q
include e0 e3 e5 e6 in
theorem aT1 {p p' : Vec Ideal S8x768 .f32} (hp : ∀ i q, p (ix2 i q) = ((A.tl n i (gcol (jc 768 l768 q)) : ℝ) : EReal))
    (hp' : ∀ i q, p' (ix2 i q) = ((A.tl n i (vcol (jc 768 l768 q)) : ℝ) : EReal)) (r : Fin 256) (q : Fin 768) :
    a1 x0 x3 x5 x6 p p' (ix2 r q) = ((A.act (rw_ n r) (jc 768 l768 q) : ℝ) : EReal) :=
  pay23 (cT1 e0 e3 e5 e6 hp) (cT5 e0 e3 e5 e6 hp') r q
include e0 e3 e5 e6 in
theorem aT2 {p p' : Vec Ideal S8x768 .f32} (hp : ∀ i q, p (ix2 i q) = ((A.tl n i (gcol (jc 1536 l1536 q)) : ℝ) : EReal))
    (hp' : ∀ i q, p' (ix2 i q) = ((A.tl n i (vcol (jc 1536 l1536 q)) : ℝ) : EReal)) (r : Fin 256) (q : Fin 768) :
    a2 x0 x3 x5 x6 p p' (ix2 r q) = ((A.act (rw_ n r) (jc 1536 l1536 q) : ℝ) : EReal) :=
  pay23 (cT2 e0 e3 e5 e6 hp) (cT6 e0 e3 e5 e6 hp') r q
include e0 e3 e5 e6 in
theorem aT3 {p p' : Vec Ideal S8x768 .f32} (hp : ∀ i q, p (ix2 i q) = ((A.tl n i (gcol (jc 2304 l2304 q)) : ℝ) : EReal))
    (hp' : ∀ i q, p' (ix2 i q) = ((A.tl n i (vcol (jc 2304 l2304 q)) : ℝ) : EReal)) (r : Fin 256) (q : Fin 768) :
    a3 x0 x3 x5 x6 p p' (ix2 r q) = ((A.act (rw_ n r) (jc 2304 l2304 q) : ℝ) : EReal) :=
  pay23 (cT3 e0 e3 e5 e6 hp) (cT7 e0 e3 e5 e6 hp') r q

include e0 e3 e4 e5 e6 in
/-- The second product, from the four chunks of the activation. -/
theorem yT {p0 p1 p2 p3 p4 p5 p6 p7 : Vec Ideal S8x768 .f32} (h0 : ∀ i q, p0 (ix2 i q) = ((A.tl n i (gcol (jc 0 l0 q)) : ℝ) : EReal)) (h1 : ∀ i q, p1 (ix2 i q) = ((A.tl n i (gcol (jc 768 l768 q)) : ℝ) : EReal)) (h2 : ∀ i q, p2 (ix2 i q) = ((A.tl n i (gcol (jc 1536 l1536 q)) : ℝ) : EReal)) (h3 : ∀ i q, p3 (ix2 i q) = ((A.tl n i (gcol (jc 2304 l2304 q)) : ℝ) : EReal)) (h4 : ∀ i q, p4 (ix2 i q) = ((A.tl n i (vcol (jc 0 l0 q)) : ℝ) : EReal)) (h5 : ∀ i q, p5 (ix2 i q) = ((A.tl n i (vcol (jc 768 l768 q)) : ℝ) : EReal)) (h6 : ∀ i q, p6 (ix2 i q) = ((A.tl n i (vcol (jc 1536 l1536 q)) : ℝ) : EReal)) (h7 : ∀ i q, p7 (ix2 i q) = ((A.tl n i (vcol (jc 2304 l2304 q)) : ℝ) : EReal))
    (r : Fin 256) (d : Fin 1024) : k0_pay68 (F := Ideal) (s2 x0 x3 x4 x5 x6 p0 p1 p2 p3 p4 p5 p6 p7) (a3 x0 x3 x5 x6 p3 p7) (d3 x4) (ix2 r d) = ((A.y (rw_ n r) d : ℝ) : EReal) := by
  refine (pay68 (pay68 (pay68 (pay68 zero7 (aT0 e0 e3 e5 e6 h0 h4) (wdT e4 (by omega) _)) (aT1 e0 e3 e5 e6 h1 h5) (wdT e4 (by omega) _))
    (aT2 e0 e3 e5 e6 h2 h6) (wdT e4 (by omega) _)) (aT3 e0 e3 e5 e6 h3 h7) (wdT e4 (by omega) _) r d).trans (congrArg _ ?_)
  unfold Data.y
  rw [sum_fourths]
  rfl

/-- Element `(r, q)` of the tile at column `c` sits at column `c + q` of the block. -/
theorem placeS256x6144 (f : Fin 256 → Fin 6144 → EReal) {c : ℕ} {z : Fin 6144} (r : Fin 256) (q : Fin 768) (hz : z.val = c + q.val) (inb) :
    f r z = f ((Rect.unit (s := S256x6144) ![0, c] ![256, 768] inb).emb (ix2 r q) 0) ((Rect.unit (s := S256x6144) ![0, c] ![256, 768] inb).emb (ix2 r q) 1) := by
  have e0 : r = (Rect.unit (s := S256x6144) ![0, c] ![256, 768] inb).emb (ix2 r q) 0 := Fin.ext (show r.val = 0 + 1 * r.val by omega)
  have e1 : z = (Rect.unit (s := S256x6144) ![0, c] ![256, 768] inb).emb (ix2 r q) 1 := Fin.ext (show z.val = c + 1 * q.val by omega)
  rw [← e0, ← e1]

/-- Element `(r, q)` of the tile at column `c` sits at column `c + q` of the block. -/
theorem placeS256x3072 (f : Fin 256 → Fin 3072 → EReal) {c : ℕ} {z : Fin 3072} (r : Fin 256) (q : Fin 768) (hz : z.val = c + q.val) (inb) :
    f r z = f ((Rect.unit (s := S256x3072) ![0, c] ![256, 768] inb).emb (ix2 r q) 0) ((Rect.unit (s := S256x3072) ![0, c] ![256, 768] inb).emb (ix2 r q) 1) := by
  have e0 : r = (Rect.unit (s := S256x3072) ![0, c] ![256, 768] inb).emb (ix2 r q) 0 := Fin.ext (show r.val = 0 + 1 * r.val by omega)
  have e1 : z = (Rect.unit (s := S256x3072) ![0, c] ![256, 768] inb).emb (ix2 r q) 1 := Fin.ext (show z.val = c + 1 * q.val by omega)
  rw [← e0, ← e1]

/-- Element `(r, q)` of the tile at column `c` sits at column `c + q` of the block. -/
theorem placeS8x6144 (f : Fin 8 → Fin 6144 → EReal) {c : ℕ} {z : Fin 6144} (r : Fin 8) (q : Fin 768) (hz : z.val = c + q.val) (inb) :
    f r z = f ((Rect.unit (s := S8x6144) ![0, c] ![8, 768] inb).emb (ix2 r q) 0) ((Rect.unit (s := S8x6144) ![0, c] ![8, 768] inb).emb (ix2 r q) 1) := by
  have e0 : r = (Rect.unit (s := S8x6144) ![0, c] ![8, 768] inb).emb (ix2 r q) 0 := Fin.ext (show r.val = 0 + 1 * r.val by omega)
  have e1 : z = (Rect.unit (s := S8x6144) ![0, c] ![8, 768] inb).emb (ix2 r q) 1 := Fin.ext (show z.val = c + 1 * q.val by omega)
  rw [← e0, ← e1]

end Cert.Proof.FfnF
-- ==== Proof.FfnFBlockA.lean ====
/- What a grid point of the feed-forward forward call leaves in its output blocks of a column chunk and in the carried rows, on finite
   blocks. Case A is the first point, which starts the sums and the carried rows at zero; case B is every other point. -/
module

public import proofs.«01_k».proof.Proof.Gen.KernelFIdeal.Frame
public import proofs.«01_k».proof.Proof.FfnFTile

@[expose] public section

noncomputable section

namespace Cert.Proof.FfnF

open Cert.KernelFIdeal Cert.KernelFIdeal.Gen Idealize.ShloMosaic Idealize.ShloMosaic.TcCoe Idealize.SL.Sem Cert.Proof.Lift

variable {A : Data} {n : Fin 16} {ACC : Fin 1024 → ℝ} {L : ℝ}

section
variable (c : Dev nD) (i : grid0.Coords) (a1 : Memref sig .tc .vmem S256x1024 .bf16) (h1 : a1.IsWhole) (a2 : Memref sig .tc .vmem S256x1024 .f32) (h2 : a2.IsWhole) (a3 : Memref sig .tc .vmem S256x1024 .f32) (h3 : a3.IsWhole) (a4 : Memref sig .tc .vmem S4x1024x1536 .bf16) (h4 : a4.IsWhole) (a5 : Memref sig .tc .vmem S3072x1024 .bf16) (h5 : a5.IsWhole) (a6 : Memref sig .tc .vmem S3x6144 .f32) (h6 : a6.IsWhole) (a7 : Memref sig .tc .vmem S1x6144 .f32) (h7 : a7.IsWhole) (a8 : Memref sig .tc .vmem S1x1024 .f32) (h8 : a8.IsWhole) (a9 : Memref sig .tc .vmem S1x1024 .f32) (h9 : a9.IsWhole) (a10 : Memref sig .tc .vmem S256x6144 .bf16) (h10 : a10.IsWhole) (a11 : Memref sig .tc .vmem S256x6144 .bf16) (h11 : a11.IsWhole) (a12 : Memref sig .tc .vmem S256x3072 .bf16) (h12 : a12.IsWhole) (a13 : Memref sig .tc .vmem S256x1024 .bf16) (h13 : a13.IsWhole) (a14 : Memref sig .tc .vmem S256x1024 .f32) (h14 : a14.IsWhole) (a15 : Memref sig .tc .vmem S1x128 .f32) (h15 : a15.IsWhole) (a16 : Memref sig .tc .vmem S1x1024 .f32) (h16 : a16.IsWhole) (a17 : Memref sig .tc .vmem S1x1024 .f32) (h17 : a17.IsWhole) (a18 : Memref sig .tc .vmem S8x6144 .f32) (h18 : a18.IsWhole)

theorem oA9 (hc0 : cond0_0 i) (x0 : Vec Ideal S256x1024 .bf16) (x1 : Vec Ideal S256x1024 .f32) (x2 : Vec Ideal S256x1024 .f32) (x3 : Vec Ideal S4x1024x1536 .bf16) (x4 : Vec Ideal S3072x1024 .bf16) (x5 : Vec Ideal S3x6144 .f32) (x6 : Vec Ideal S1x6144 .f32) (x7 : Vec Ideal S1x1024 .f32) (x8 : Vec Ideal S1x1024 .f32) (e0 : ∀ r d, x0 (ix2 r d) = ((A.h (rw_ n r) d : ℝ) : EReal)) (e3 : ∀ (k : Fin 4) d (q : Fin 1536), x3 (ix3 k d q) = ((A.wu d ⟨k.val * 1536 + q.val, wuLt k q⟩ : ℝ) : EReal)) (j : S256x6144.Idx) : out0_A_9 (F := Ideal) c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 j = ((A.up (rw_ n (j 0)) (j 1) : ℝ) : EReal) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8)]
  refine View.canon_apply_of_pieces (Val := Elt Ideal) (S := S256x6144) (e := .bf16) (fun j : S256x6144.Idx => ((A.up (rw_ n (j 0)) (j 1) : ℝ) : EReal)) _ ?_ j (cover0_A_9 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 j)
  unfold kernelRun0_A
  dsimp only
  sl_unfold_words
  simp only [View.readAt_eq_ld, View.canon_cons_unit_zero (S := S1x1024) hz2, View.canon_cons_unit_zero (S := S1x128) hz2, View.canon_cons_unit_zero (S := S256x1024) hz2, readCov_last (S := S1x1024) _ hz2, readCov_last (S := S1x128) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S1x1024) hz2, View.ld_unit_zero (S := S1x128) hz2, View.ld_unit_zero (S := S256x1024) hz2]
  simp only [same9, same10, same11, same25, same26, same39, same40, same13, same28, same33, same42, same47, same54, same59, same15, same30, same34, same44, same48, same56, same65, same16, same31, same35, same45, same49, same57, same66, same12, same27, same32, same41, same46, same53, same58, same37, same51, same67, same24, same38, same52]
  exact View.PiecesOf.mem (Val := Elt Ideal) (s := S256x6144) (e := .bf16) (G := (fun j : S256x6144.Idx => ((A.up (rw_ n (j 0)) (j 1) : ℝ) : EReal))) ⟨fun x => by
      obtain ⟨r, q, rfl⟩ : ∃ (r : Fin 256) (q : Fin 768), (x : S256x768.Idx) = ix2 r q := ⟨x 0, x 1, eq_ix2 x⟩
      exact ((pay17 _).trans (uT7 e0 e3 r q)).trans (placeS256x6144 (c := 5376) (z := (vcol (jc 2304 l2304 q))) (fun r c => ((A.up (rw_ n r) c : ℝ) : EReal)) r q (show 3072 + (2304 + q.val) = 5376 + q.val by omega) inb_S256x6144_S256x768_0_5376),
    fun x => by
      obtain ⟨r, q, rfl⟩ : ∃ (r : Fin 256) (q : Fin 768), (x : S256x768.Idx) = ix2 r q := ⟨x 0, x 1, eq_ix2 x⟩
      exact ((pay17 _).trans (uT3 e0 e3 r q)).trans (placeS256x6144 (c := 2304) (z := (gcol (jc 2304 l2304 q))) (fun r c => ((A.up (rw_ n r) c : ℝ) : EReal)) r q rfl inb_S256x6144_S256x768_0_2304),
    fun x => by
      obtain ⟨r, q, rfl⟩ : ∃ (r : Fin 256) (q : Fin 768), (x : S256x768.Idx) = ix2 r q := ⟨x 0, x 1, eq_ix2 x⟩
      exact ((pay17 _).trans (uT6 e0 e3 r q)).trans (placeS256x6144 (c := 4608) (z := (vcol (jc 1536 l1536 q))) (fun r c => ((A.up (rw_ n r) c : ℝ) : EReal)) r q (show 3072 + (1536 + q.val) = 4608 + q.val by omega) inb_S256x6144_S256x768_0_4608),
    fun x => by
      obtain ⟨r, q, rfl⟩ : ∃ (r : Fin 256) (q : Fin 768), (x : S256x768.Idx) = ix2 r q := ⟨x 0, x 1, eq_ix2 x⟩
      exact ((pay17 _).trans (uT2 e0 e3 r q)).trans (placeS256x6144 (c := 1536) (z := (gcol (jc 1536 l1536 q))) (fun r c => ((A.up (rw_ n r) c : ℝ) : EReal)) r q rfl inb_S256x6144_S256x768_0_1536),
    fun x => by
      obtain ⟨r, q, rfl⟩ : ∃ (r : Fin 256) (q : Fin 768), (x : S256x768.Idx) = ix2 r q := ⟨x 0, x 1, eq_ix2 x⟩
      exact ((pay17 _).trans (uT5 e0 e3 r q)).trans (placeS256x6144 (c := 3840) (z := (vcol (jc 768 l768 q))) (fun r c => ((A.up (rw_ n r) c : ℝ) : EReal)) r q (show 3072 + (768 + q.val) = 3840 + q.val by omega) inb_S256x6144_S256x768_0_3840),
    fun x => by
      obtain ⟨r, q, rfl⟩ : ∃ (r : Fin 256) (q : Fin 768), (x : S256x768.Idx) = ix2 r q := ⟨x 0, x 1, eq_ix2 x⟩
      exact ((pay17 _).trans (uT1 e0 e3 r q)).trans (placeS256x6144 (c := 768) (z := (gcol (jc 768 l768 q))) (fun r c => ((A.up (rw_ n r) c : ℝ) : EReal)) r q rfl inb_S256x6144_S256x768_0_768),
    fun x => by
      obtain ⟨r, q, rfl⟩ : ∃ (r : Fin 256) (q : Fin 768), (x : S256x768.Idx) = ix2 r q := ⟨x 0, x 1, eq_ix2 x⟩
      exact ((pay17 _).trans (uT4 e0 e3 r q)).trans (placeS256x6144 (c := 3072) (z := (vcol (jc 0 l0 q))) (fun r c => ((A.up (rw_ n r) c : ℝ) : EReal)) r q (show 3072 + (0 + q.val) = 3072 + q.val by omega) inb_S256x6144_S256x768_0_3072),
    fun x => by
      obtain ⟨r, q, rfl⟩ : ∃ (r : Fin 256) (q : Fin 768), (x : S256x768.Idx) = ix2 r q := ⟨x 0, x 1, eq_ix2 x⟩
      exact ((pay17 _).trans (uT0 e0 e3 r q)).trans (placeS256x6144 (c := 0) (z := (gcol (jc 0 l0 q))) (fun r c => ((A.up (rw_ n r) c : ℝ) : EReal)) r q rfl inb_S256x6144_S256x768_0_0), trivial⟩

theorem oB9 (hc0 : ¬cond0_0 i) (x0 : Vec Ideal S256x1024 .bf16) (x1 : Vec Ideal S256x1024 .f32) (x2 : Vec Ideal S256x1024 .f32) (x3 : Vec Ideal S4x1024x1536 .bf16) (x4 : Vec Ideal S3072x1024 .bf16) (x5 : Vec Ideal S3x6144 .f32) (x6 : Vec Ideal S1x6144 .f32) (x7 : Vec Ideal S1x1024 .f32) (x8 : Vec Ideal S1x1024 .f32) (xo14 : Vec Ideal S1x128 .f32) (xo15 : Vec Ideal S1x1024 .f32) (xo16 : Vec Ideal S1x1024 .f32) (xs0 : Vec Ideal S8x6144 .f32) (e0 : ∀ r d, x0 (ix2 r d) = ((A.h (rw_ n r) d : ℝ) : EReal)) (e3 : ∀ (k : Fin 4) d (q : Fin 1536), x3 (ix3 k d q) = ((A.wu d ⟨k.val * 1536 + q.val, wuLt k q⟩ : ℝ) : EReal)) (j : S256x6144.Idx) : out0_B_9 (F := Ideal) c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 xo14 xo15 xo16 xs0 j = ((A.up (rw_ n (j 0)) (j 1) : ℝ) : EReal) := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 xo14 xo15 xo16 xs0)]
  refine View.canon_apply_of_pieces (Val := Elt Ideal) (S := S256x6144) (e := .bf16) (fun j : S256x6144.Idx => ((A.up (rw_ n (j 0)) (j 1) : ℝ) : EReal)) _ ?_ j (cover0_B_9 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 xo14 xo15 xo16 xs0 j)
  unfold kernelRun0_B
  dsimp only
  sl_unfold_words
  simp only [View.readAt_eq_ld, View.canon_cons_unit_zero (S := S1x1024) hz2, View.canon_cons_unit_zero (S := S1x128) hz2, View.canon_cons_unit_zero (S := S256x1024) hz2, readCov_last (S := S1x1024) _ hz2, readCov_last (S := S1x128) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S1x1024) hz2, View.ld_unit_zero (S := S1x128) hz2, View.ld_unit_zero (S := S256x1024) hz2]
  simp only [same9, same10, same11, same25, same26, same39, same40, same13, same28, same33, same42, same47, same54, same59, same15, same30, same34, same44, same48, same56, same65, same16, same31, same35, same45, same49, same57, same66, same12, same27, same32, same41, same46, same53, same58, same37, same51, same67, same24, same38, same52]
  exact View.PiecesOf.mem (Val := Elt Ideal) (s := S256x6144) (e := .bf16) (G := (fun j : S256x6144.Idx => ((A.up (rw_ n (j 0)) (j 1) : ℝ) : EReal))) ⟨fun x => by
      obtain ⟨r, q, rfl⟩ : ∃ (r : Fin 256) (q : Fin 768), (x : S256x768.Idx) = ix2 r q := ⟨x 0, x 1, eq_ix2 x⟩
      exact ((pay17 _).trans (uT7 e0 e3 r q)).trans (placeS256x6144 (c := 5376) (z := (vcol (jc 2304 l2304 q))) (fun r c => ((A.up (rw_ n r) c : ℝ) : EReal)) r q (show 3072 + (2304 + q.val) = 5376 + q.val by omega) inb_S256x6144_S256x768_0_5376),
    fun x => by
      obtain ⟨r, q, rfl⟩ : ∃ (r : Fin 256) (q : Fin 768), (x : S256x768.Idx) = ix2 r q := ⟨x 0, x 1, eq_ix2 x⟩
      exact ((pay17 _).trans (uT3 e0 e3 r q)).trans (placeS256x6144 (c := 2304) (z := (gcol (jc 2304 l2304 q))) (fun r c => ((A.up (rw_ n r) c : ℝ) : EReal)) r q rfl inb_S256x6144_S256x768_0_2304),
    fun x => by
      obtain ⟨r, q, rfl⟩ : ∃ (r : Fin 256) (q : Fin 768), (x : S256x768.Idx) = ix2 r q := ⟨x 0, x 1, eq_ix2 x⟩
      exact ((pay17 _).trans (uT6 e0 e3 r q)).trans (placeS256x6144 (c := 4608) (z := (vcol (jc 1536 l1536 q))) (fun r c => ((A.up (rw_ n r) c : ℝ) : EReal)) r q (show 3072 + (1536 + q.val) = 4608 + q.val by omega) inb_S256x6144_S256x768_0_4608),
    fun x => by
      obtain ⟨r, q, rfl⟩ : ∃ (r : Fin 256) (q : Fin 768), (x : S256x768.Idx) = ix2 r q := ⟨x 0, x 1, eq_ix2 x⟩
      exact ((pay17 _).trans (uT2 e0 e3 r q)).trans (placeS256x6144 (c := 1536) (z := (gcol (jc 1536 l1536 q))) (fun r c => ((A.up (rw_ n r) c : ℝ) : EReal)) r q rfl inb_S256x6144_S256x768_0_1536),
    fun x => by
      obtain ⟨r, q, rfl⟩ : ∃ (r : Fin 256) (q : Fin 768), (x : S256x768.Idx) = ix2 r q := ⟨x 0, x 1, eq_ix2 x⟩
      exact ((pay17 _).trans (uT5 e0 e3 r q)).trans (placeS256x6144 (c := 3840) (z := (vcol (jc 768 l768 q))) (fun r c => ((A.up (rw_ n r) c : ℝ) : EReal)) r q (show 3072 + (768 + q.val) = 3840 + q.val by omega) inb_S256x6144_S256x768_0_3840),
    fun x => by
      obtain ⟨r, q, rfl⟩ : ∃ (r : Fin 256) (q : Fin 768), (x : S256x768.Idx) = ix2 r q := ⟨x 0, x 1, eq_ix2 x⟩
      exact ((pay17 _).trans (uT1 e0 e3 r q)).trans (placeS256x6144 (c := 768) (z := (gcol (jc 768 l768 q))) (fun r c => ((A.up (rw_ n r) c : ℝ) : EReal)) r q rfl inb_S256x6144_S256x768_0_768),
    fun x => by
      obtain ⟨r, q, rfl⟩ : ∃ (r : Fin 256) (q : Fin 768), (x : S256x768.Idx) = ix2 r q := ⟨x 0, x 1, eq_ix2 x⟩
      exact ((pay17 _).trans (uT4 e0 e3 r q)).trans (placeS256x6144 (c := 3072) (z := (vcol (jc 0 l0 q))) (fun r c => ((A.up (rw_ n r) c : ℝ) : EReal)) r q (show 3072 + (0 + q.val) = 3072 + q.val by omega) inb_S256x6144_S256x768_0_3072),
    fun x => by
      obtain ⟨r, q, rfl⟩ : ∃ (r : Fin 256) (q : Fin 768), (x : S256x768.Idx) = ix2 r q := ⟨x 0, x 1, eq_ix2 x⟩
      exact ((pay17 _).trans (uT0 e0 e3 r q)).trans (placeS256x6144 (c := 0) (z := (gcol (jc 0 l0 q))) (fun r c => ((A.up (rw_ n r) c : ℝ) : EReal)) r q rfl inb_S256x6144_S256x768_0_0), trivial⟩

theorem oA10 (hc0 : cond0_0 i) (x0 : Vec Ideal S256x1024 .bf16) (x1 : Vec Ideal S256x1024 .f32) (x2 : Vec Ideal S256x1024 .f32) (x3 : Vec Ideal S4x1024x1536 .bf16) (x4 : Vec Ideal S3072x1024 .bf16) (x5 : Vec Ideal S3x6144 .f32) (x6 : Vec Ideal S1x6144 .f32) (x7 : Vec Ideal S1x1024 .f32) (x8 : Vec Ideal S1x1024 .f32) (e0 : ∀ r d, x0 (ix2 r d) = ((A.h (rw_ n r) d : ℝ) : EReal)) (e3 : ∀ (k : Fin 4) d (q : Fin 1536), x3 (ix3 k d q) = ((A.wu d ⟨k.val * 1536 + q.val, wuLt k q⟩ : ℝ) : EReal)) (e5 : ∀ k c, x5 (ix2 k c) = ((A.fw k c : ℝ) : EReal)) (e6 : ∀ c, x6 (ix2 0 c) = ((A.fb c : ℝ) : EReal)) (hn : n.val = 0) (j : S256x6144.Idx) : out0_A_10 (F := Ideal) c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 j = ((A.pre (rw_ n (j 0)) (j 1) : ℝ) : EReal) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8)]
  refine View.canon_apply_of_pieces (Val := Elt Ideal) (S := S256x6144) (e := .bf16) (fun j : S256x6144.Idx => ((A.pre (rw_ n (j 0)) (j 1) : ℝ) : EReal)) _ ?_ j (cover0_A_10 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 j)
  unfold kernelRun0_A
  dsimp only
  sl_unfold_words
  simp only [View.readAt_eq_ld, View.canon_cons_unit_zero (S := S1x1024) hz2, View.canon_cons_unit_zero (S := S1x128) hz2, View.canon_cons_unit_zero (S := S256x1024) hz2, readCov_last (S := S1x1024) _ hz2, readCov_last (S := S1x128) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S1x1024) hz2, View.ld_unit_zero (S := S1x128) hz2, View.ld_unit_zero (S := S256x1024) hz2]
  simp (disch := first | exact hz2' | decide) only [↓View.readCov_skip, View.readCov_fill]
  simp only [same9, same10, same11, same25, same26, same39, same40, same13, same28, same33, same42, same47, same54, same59, same15, same30, same34, same44, same48, same56, same65, same16, same31, same35, same45, same49, same57, same66, same12, same27, same32, same41, same46, same53, same58, same37, same51, same67, same24, same38, same52]
  exact View.PiecesOf.mem (Val := Elt Ideal) (s := S256x6144) (e := .bf16) (G := (fun j : S256x6144.Idx => ((A.pre (rw_ n (j 0)) (j 1) : ℝ) : EReal))) ⟨fun x => by
      obtain ⟨r, q, rfl⟩ : ∃ (r : Fin 256) (q : Fin 768), (x : S256x768.Idx) = ix2 r q := ⟨x 0, x 1, eq_ix2 x⟩
      exact ((pay21 _).trans (cT7 e0 e3 e5 e6 (tT7 (zeroTail hn) _) r q)).trans (placeS256x6144 (c := 5376) (z := (vcol (jc 2304 l2304 q))) (fun r c => ((A.pre (rw_ n r) c : ℝ) : EReal)) r q (show 3072 + (2304 + q.val) = 5376 + q.val by omega) inb_S256x6144_S256x768_0_5376),
    fun x => by
      obtain ⟨r, q, rfl⟩ : ∃ (r : Fin 256) (q : Fin 768), (x : S256x768.Idx) = ix2 r q := ⟨x 0, x 1, eq_ix2 x⟩
      exact ((pay21 _).trans (cT3 e0 e3 e5 e6 (tT3 (zeroTail hn) _) r q)).trans (placeS256x6144 (c := 2304) (z := (gcol (jc 2304 l2304 q))) (fun r c => ((A.pre (rw_ n r) c : ℝ) : EReal)) r q rfl inb_S256x6144_S256x768_0_2304),
    fun x => by
      obtain ⟨r, q, rfl⟩ : ∃ (r : Fin 256) (q : Fin 768), (x : S256x768.Idx) = ix2 r q := ⟨x 0, x 1, eq_ix2 x⟩
      exact ((pay21 _).trans (cT6 e0 e3 e5 e6 (tT6 (zeroTail hn) _) r q)).trans (placeS256x6144 (c := 4608) (z := (vcol (jc 1536 l1536 q))) (fun r c => ((A.pre (rw_ n r) c : ℝ) : EReal)) r q (show 3072 + (1536 + q.val) = 4608 + q.val by omega) inb_S256x6144_S256x768_0_4608),
    fun x => by
      obtain ⟨r, q, rfl⟩ : ∃ (r : Fin 256) (q : Fin 768), (x : S256x768.Idx) = ix2 r q := ⟨x 0, x 1, eq_ix2 x⟩
      exact ((pay21 _).trans (cT2 e0 e3 e5 e6 (tT2 (zeroTail hn) _) r q)).trans (placeS256x6144 (c := 1536) (z := (gcol (jc 1536 l1536 q))) (fun r c => ((A.pre (rw_ n r) c : ℝ) : EReal)) r q rfl inb_S256x6144_S256x768_0_1536),
    fun x => by
      obtain ⟨r, q, rfl⟩ : ∃ (r : Fin 256) (q : Fin 768), (x : S256x768.Idx) = ix2 r q := ⟨x 0, x 1, eq_ix2 x⟩
      exact ((pay21 _).trans (cT5 e0 e3 e5 e6 (tT5 (zeroTail hn) _) r q)).trans (placeS256x6144 (c := 3840) (z := (vcol (jc 768 l768 q))) (fun r c => ((A.pre (rw_ n r) c : ℝ) : EReal)) r q (show 3072 + (768 + q.val) = 3840 + q.val by omega) inb_S256x6144_S256x768_0_3840),
    fun x => by
      obtain ⟨r, q, rfl⟩ : ∃ (r : Fin 256) (q : Fin 768), (x : S256x768.Idx) = ix2 r q := ⟨x 0, x 1, eq_ix2 x⟩
      exact ((pay21 _).trans (cT1 e0 e3 e5 e6 (tT1 (zeroTail hn) _) r q)).trans (placeS256x6144 (c := 768) (z := (gcol (jc 768 l768 q))) (fun r c => ((A.pre (rw_ n r) c : ℝ) : EReal)) r q rfl inb_S256x6144_S256x768_0_768),
    fun x => by
      obtain ⟨r, q, rfl⟩ : ∃ (r : Fin 256) (q : Fin 768), (x : S256x768.Idx) = ix2 r q := ⟨x 0, x 1, eq_ix2 x⟩
      exact ((pay21 _).trans (cT4 e0 e3 e5 e6 (tT4 (zeroTail hn) _) r q)).trans (placeS256x6144 (c := 3072) (z := (vcol (jc 0 l0 q))) (fun r c => ((A.pre (rw_ n r) c : ℝ) : EReal)) r q (show 3072 + (0 + q.val) = 3072 + q.val by omega) inb_S256x6144_S256x768_0_3072),
    fun x => by
      obtain ⟨r, q, rfl⟩ : ∃ (r : Fin 256) (q : Fin 768), (x : S256x768.Idx) = ix2 r q := ⟨x 0, x 1, eq_ix2 x⟩
      exact ((pay21 _).trans (cT0 e0 e3 e5 e6 (tT0 (zeroTail hn) _) r q)).trans (placeS256x6144 (c := 0) (z := (gcol (jc 0 l0 q))) (fun r c => ((A.pre (rw_ n r) c : ℝ) : EReal)) r q rfl inb_S256x6144_S256x768_0_0), trivial⟩

theorem oB10 (hc0 : ¬cond0_0 i) (x0 : Vec Ideal S256x1024 .bf16) (x1 : Vec Ideal S256x1024 .f32) (x2 : Vec Ideal S256x1024 .f32) (x3 : Vec Ideal S4x1024x1536 .bf16) (x4 : Vec Ideal S3072x1024 .bf16) (x5 : Vec Ideal S3x6144 .f32) (x6 : Vec Ideal S1x6144 .f32) (x7 : Vec Ideal S1x1024 .f32) (x8 : Vec Ideal S1x1024 .f32) (xo14 : Vec Ideal S1x128 .f32) (xo15 : Vec Ideal S1x1024 .f32) (xo16 : Vec Ideal S1x1024 .f32) (xs0 : Vec Ideal S8x6144 .f32) (e0 : ∀ r d, x0 (ix2 r d) = ((A.h (rw_ n r) d : ℝ) : EReal)) (e3 : ∀ (k : Fin 4) d (q : Fin 1536), x3 (ix3 k d q) = ((A.wu d ⟨k.val * 1536 + q.val, wuLt k q⟩ : ℝ) : EReal)) (e5 : ∀ k c, x5 (ix2 k c) = ((A.fw k c : ℝ) : EReal)) (e6 : ∀ c, x6 (ix2 0 c) = ((A.fb c : ℝ) : EReal)) (es : ∀ i c, xs0 (ix2 i c) = ((A.tl n i c : ℝ) : EReal)) (j : S256x6144.Idx) : out0_B_10 (F := Ideal) c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 xo14 xo15 xo16 xs0 j = ((A.pre (rw_ n (j 0)) (j 1) : ℝ) : EReal) := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 xo14 xo15 xo16 xs0)]
  refine View.canon_apply_of_pieces (Val := Elt Ideal) (S := S256x6144) (e := .bf16) (fun j : S256x6144.Idx => ((A.pre (rw_ n (j 0)) (j 1) : ℝ) : EReal)) _ ?_ j (cover0_B_10 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 xo14 xo15 xo16 xs0 j)
  unfold kernelRun0_B
  dsimp only
  sl_unfold_words
  simp only [View.readAt_eq_ld, View.canon_cons_unit_zero (S := S1x1024) hz2, View.canon_cons_unit_zero (S := S1x128) hz2, View.canon_cons_unit_zero (S := S256x1024) hz2, readCov_last (S := S1x1024) _ hz2, readCov_last (S := S1x128) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S1x1024) hz2, View.ld_unit_zero (S := S1x128) hz2, View.ld_unit_zero (S := S256x1024) hz2]
  simp only [same9, same10, same11, same25, same26, same39, same40, same13, same28, same33, same42, same47, same54, same59, same15, same30, same34, same44, same48, same56, same65, same16, same31, same35, same45, same49, same57, same66, same12, same27, same32, same41, same46, same53, same58, same37, same51, same67, same24, same38, same52]
  exact View.PiecesOf.mem (Val := Elt Ideal) (s := S256x6144) (e := .bf16) (G := (fun j : S256x6144.Idx => ((A.pre (rw_ n (j 0)) (j 1) : ℝ) : EReal))) ⟨fun x => by
      obtain ⟨r, q, rfl⟩ : ∃ (r : Fin 256) (q : Fin 768), (x : S256x768.Idx) = ix2 r q := ⟨x 0, x 1, eq_ix2 x⟩
      exact ((pay21 _).trans (cT7 e0 e3 e5 e6 (tT7 es _) r q)).trans (placeS256x6144 (c := 5376) (z := (vcol (jc 2304 l2304 q))) (fun r c => ((A.pre (rw_ n r) c : ℝ) : EReal)) r q (show 3072 + (2304 + q.val) = 5376 + q.val by omega) inb_S256x6144_S256x768_0_5376),
    fun x => by
      obtain ⟨r, q, rfl⟩ : ∃ (r : Fin 256) (q : Fin 768), (x : S256x768.Idx) = ix2 r q := ⟨x 0, x 1, eq_ix2 x⟩
      exact ((pay21 _).trans (cT3 e0 e3 e5 e6 (tT3 es _) r q)).trans (placeS256x6144 (c := 2304) (z := (gcol (jc 2304 l2304 q))) (fun r c => ((A.pre (rw_ n r) c : ℝ) : EReal)) r q rfl inb_S256x6144_S256x768_0_2304),
    fun x => by
      obtain ⟨r, q, rfl⟩ : ∃ (r : Fin 256) (q : Fin 768), (x : S256x768.Idx) = ix2 r q := ⟨x 0, x 1, eq_ix2 x⟩
      exact ((pay21 _).trans (cT6 e0 e3 e5 e6 (tT6 es _) r q)).trans (placeS256x6144 (c := 4608) (z := (vcol (jc 1536 l1536 q))) (fun r c => ((A.pre (rw_ n r) c : ℝ) : EReal)) r q (show 3072 + (1536 + q.val) = 4608 + q.val by omega) inb_S256x6144_S256x768_0_4608),
    fun x => by
      obtain ⟨r, q, rfl⟩ : ∃ (r : Fin 256) (q : Fin 768), (x : S256x768.Idx) = ix2 r q := ⟨x 0, x 1, eq_ix2 x⟩
      exact ((pay21 _).trans (cT2 e0 e3 e5 e6 (tT2 es _) r q)).trans (placeS256x6144 (c := 1536) (z := (gcol (jc 1536 l1536 q))) (fun r c => ((A.pre (rw_ n r) c : ℝ) : EReal)) r q rfl inb_S256x6144_S256x768_0_1536),
    fun x => by
      obtain ⟨r, q, rfl⟩ : ∃ (r : Fin 256) (q : Fin 768), (x : S256x768.Idx) = ix2 r q := ⟨x 0, x 1, eq_ix2 x⟩
      exact ((pay21 _).trans (cT5 e0 e3 e5 e6 (tT5 es _) r q)).trans (placeS256x6144 (c := 3840) (z := (vcol (jc 768 l768 q))) (fun r c => ((A.pre (rw_ n r) c : ℝ) : EReal)) r q (show 3072 + (768 + q.val) = 3840 + q.val by omega) inb_S256x6144_S256x768_0_3840),
    fun x => by
      obtain ⟨r, q, rfl⟩ : ∃ (r : Fin 256) (q : Fin 768), (x : S256x768.Idx) = ix2 r q := ⟨x 0, x 1, eq_ix2 x⟩
      exact ((pay21 _).trans (cT1 e0 e3 e5 e6 (tT1 es _) r q)).trans (placeS256x6144 (c := 768) (z := (gcol (jc 768 l768 q))) (fun r c => ((A.pre (rw_ n r) c : ℝ) : EReal)) r q rfl inb_S256x6144_S256x768_0_768),
    fun x => by
      obtain ⟨r, q, rfl⟩ : ∃ (r : Fin 256) (q : Fin 768), (x : S256x768.Idx) = ix2 r q := ⟨x 0, x 1, eq_ix2 x⟩
      exact ((pay21 _).trans (cT4 e0 e3 e5 e6 (tT4 es _) r q)).trans (placeS256x6144 (c := 3072) (z := (vcol (jc 0 l0 q))) (fun r c => ((A.pre (rw_ n r) c : ℝ) : EReal)) r q (show 3072 + (0 + q.val) = 3072 + q.val by omega) inb_S256x6144_S256x768_0_3072),
    fun x => by
      obtain ⟨r, q, rfl⟩ : ∃ (r : Fin 256) (q : Fin 768), (x : S256x768.Idx) = ix2 r q := ⟨x 0, x 1, eq_ix2 x⟩
      exact ((pay21 _).trans (cT0 e0 e3 e5 e6 (tT0 es _) r q)).trans (placeS256x6144 (c := 0) (z := (gcol (jc 0 l0 q))) (fun r c => ((A.pre (rw_ n r) c : ℝ) : EReal)) r q rfl inb_S256x6144_S256x768_0_0), trivial⟩

theorem oA11 (hc0 : cond0_0 i) (x0 : Vec Ideal S256x1024 .bf16) (x1 : Vec Ideal S256x1024 .f32) (x2 : Vec Ideal S256x1024 .f32) (x3 : Vec Ideal S4x1024x1536 .bf16) (x4 : Vec Ideal S3072x1024 .bf16) (x5 : Vec Ideal S3x6144 .f32) (x6 : Vec Ideal S1x6144 .f32) (x7 : Vec Ideal S1x1024 .f32) (x8 : Vec Ideal S1x1024 .f32) (e0 : ∀ r d, x0 (ix2 r d) = ((A.h (rw_ n r) d : ℝ) : EReal)) (e3 : ∀ (k : Fin 4) d (q : Fin 1536), x3 (ix3 k d q) = ((A.wu d ⟨k.val * 1536 + q.val, wuLt k q⟩ : ℝ) : EReal)) (e5 : ∀ k c, x5 (ix2 k c) = ((A.fw k c : ℝ) : EReal)) (e6 : ∀ c, x6 (ix2 0 c) = ((A.fb c : ℝ) : EReal)) (hn : n.val = 0) (j : S256x3072.Idx) : out0_A_11 (F := Ideal) c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 j = ((A.act (rw_ n (j 0)) (j 1) : ℝ) : EReal) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8)]
  refine View.canon_apply_of_pieces (Val := Elt Ideal) (S := S256x3072) (e := .bf16) (fun j : S256x3072.Idx => ((A.act (rw_ n (j 0)) (j 1) : ℝ) : EReal)) _ ?_ j (cover0_A_11 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 j)
  unfold kernelRun0_A
  dsimp only
  sl_unfold_words
  simp only [View.readAt_eq_ld, View.canon_cons_unit_zero (S := S1x1024) hz2, View.canon_cons_unit_zero (S := S1x128) hz2, View.canon_cons_unit_zero (S := S256x1024) hz2, readCov_last (S := S1x1024) _ hz2, readCov_last (S := S1x128) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S1x1024) hz2, View.ld_unit_zero (S := S1x128) hz2, View.ld_unit_zero (S := S256x1024) hz2]
  simp (disch := first | exact hz2' | decide) only [↓View.readCov_skip, View.readCov_fill]
  simp only [same9, same10, same11, same25, same26, same39, same40, same13, same28, same33, same42, same47, same54, same59, same15, same30, same34, same44, same48, same56, same65, same16, same31, same35, same45, same49, same57, same66, same12, same27, same32, same41, same46, same53, same58, same37, same51, same67, same24, same38, same52]
  exact View.PiecesOf.mem (Val := Elt Ideal) (s := S256x3072) (e := .bf16) (G := (fun j : S256x3072.Idx => ((A.act (rw_ n (j 0)) (j 1) : ℝ) : EReal))) ⟨fun x => by
      obtain ⟨r, q, rfl⟩ : ∃ (r : Fin 256) (q : Fin 768), (x : S256x768.Idx) = ix2 r q := ⟨x 0, x 1, eq_ix2 x⟩
      exact (aT3 e0 e3 e5 e6 (tT3 (zeroTail hn) _) (tT7 (zeroTail hn) _) r q).trans (placeS256x3072 (c := 2304) (z := (jc 2304 l2304 q)) (fun r c => ((A.act (rw_ n r) c : ℝ) : EReal)) r q rfl inb_S256x3072_S256x768_0_2304),
    fun x => by
      obtain ⟨r, q, rfl⟩ : ∃ (r : Fin 256) (q : Fin 768), (x : S256x768.Idx) = ix2 r q := ⟨x 0, x 1, eq_ix2 x⟩
      exact (aT2 e0 e3 e5 e6 (tT2 (zeroTail hn) _) (tT6 (zeroTail hn) _) r q).trans (placeS256x3072 (c := 1536) (z := (jc 1536 l1536 q)) (fun r c => ((A.act (rw_ n r) c : ℝ) : EReal)) r q rfl inb_S256x3072_S256x768_0_1536),
    fun x => by
      obtain ⟨r, q, rfl⟩ : ∃ (r : Fin 256) (q : Fin 768), (x : S256x768.Idx) = ix2 r q := ⟨x 0, x 1, eq_ix2 x⟩
      exact (aT1 e0 e3 e5 e6 (tT1 (zeroTail hn) _) (tT5 (zeroTail hn) _) r q).trans (placeS256x3072 (c := 768) (z := (jc 768 l768 q)) (fun r c => ((A.act (rw_ n r) c : ℝ) : EReal)) r q rfl inb_S256x3072_S256x768_0_768),
    fun x => by
      obtain ⟨r, q, rfl⟩ : ∃ (r : Fin 256) (q : Fin 768), (x : S256x768.Idx) = ix2 r q := ⟨x 0, x 1, eq_ix2 x⟩
      exact (aT0 e0 e3 e5 e6 (tT0 (zeroTail hn) _) (tT4 (zeroTail hn) _) r q).trans (placeS256x3072 (c := 0) (z := (jc 0 l0 q)) (fun r c => ((A.act (rw_ n r) c : ℝ) : EReal)) r q rfl inb_S256x3072_S256x768_0_0), trivial⟩

theorem oB11 (hc0 : ¬cond0_0 i) (x0 : Vec Ideal S256x1024 .bf16) (x1 : Vec Ideal S256x1024 .f32) (x2 : Vec Ideal S256x1024 .f32) (x3 : Vec Ideal S4x1024x1536 .bf16) (x4 : Vec Ideal S3072x1024 .bf16) (x5 : Vec Ideal S3x6144 .f32) (x6 : Vec Ideal S1x6144 .f32) (x7 : Vec Ideal S1x1024 .f32) (x8 : Vec Ideal S1x1024 .f32) (xo14 : Vec Ideal S1x128 .f32) (xo15 : Vec Ideal S1x1024 .f32) (xo16 : Vec Ideal S1x1024 .f32) (xs0 : Vec Ideal S8x6144 .f32) (e0 : ∀ r d, x0 (ix2 r d) = ((A.h (rw_ n r) d : ℝ) : EReal)) (e3 : ∀ (k : Fin 4) d (q : Fin 1536), x3 (ix3 k d q) = ((A.wu d ⟨k.val * 1536 + q.val, wuLt k q⟩ : ℝ) : EReal)) (e5 : ∀ k c, x5 (ix2 k c) = ((A.fw k c : ℝ) : EReal)) (e6 : ∀ c, x6 (ix2 0 c) = ((A.fb c : ℝ) : EReal)) (es : ∀ i c, xs0 (ix2 i c) = ((A.tl n i c : ℝ) : EReal)) (j : S256x3072.Idx) : out0_B_11 (F := Ideal) c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 xo14 xo15 xo16 xs0 j = ((A.act (rw_ n (j 0)) (j 1) : ℝ) : EReal) := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 xo14 xo15 xo16 xs0)]
  refine View.canon_apply_of_pieces (Val := Elt Ideal) (S := S256x3072) (e := .bf16) (fun j : S256x3072.Idx => ((A.act (rw_ n (j 0)) (j 1) : ℝ) : EReal)) _ ?_ j (cover0_B_11 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 xo14 xo15 xo16 xs0 j)
  unfold kernelRun0_B
  dsimp only
  sl_unfold_words
  simp only [View.readAt_eq_ld, View.canon_cons_unit_zero (S := S1x1024) hz2, View.canon_cons_unit_zero (S := S1x128) hz2, View.canon_cons_unit_zero (S := S256x1024) hz2, readCov_last (S := S1x1024) _ hz2, readCov_last (S := S1x128) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S1x1024) hz2, View.ld_unit_zero (S := S1x128) hz2, View.ld_unit_zero (S := S256x1024) hz2]
  simp only [same9, same10, same11, same25, same26, same39, same40, same13, same28, same33, same42, same47, same54, same59, same15, same30, same34, same44, same48, same56, same65, same16, same31, same35, same45, same49, same57, same66, same12, same27, same32, same41, same46, same53, same58, same37, same51, same67, same24, same38, same52]
  exact View.PiecesOf.mem (Val := Elt Ideal) (s := S256x3072) (e := .bf16) (G := (fun j : S256x3072.Idx => ((A.act (rw_ n (j 0)) (j 1) : ℝ) : EReal))) ⟨fun x => by
      obtain ⟨r, q, rfl⟩ : ∃ (r : Fin 256) (q : Fin 768), (x : S256x768.Idx) = ix2 r q := ⟨x 0, x 1, eq_ix2 x⟩
      exact (aT3 e0 e3 e5 e6 (tT3 es _) (tT7 es _) r q).trans (placeS256x3072 (c := 2304) (z := (jc 2304 l2304 q)) (fun r c => ((A.act (rw_ n r) c : ℝ) : EReal)) r q rfl inb_S256x3072_S256x768_0_2304),
    fun x => by
      obtain ⟨r, q, rfl⟩ : ∃ (r : Fin 256) (q : Fin 768), (x : S256x768.Idx) = ix2 r q := ⟨x 0, x 1, eq_ix2 x⟩
      exact (aT2 e0 e3 e5 e6 (tT2 es _) (tT6 es _) r q).trans (placeS256x3072 (c := 1536) (z := (jc 1536 l1536 q)) (fun r c => ((A.act (rw_ n r) c : ℝ) : EReal)) r q rfl inb_S256x3072_S256x768_0_1536),
    fun x => by
      obtain ⟨r, q, rfl⟩ : ∃ (r : Fin 256) (q : Fin 768), (x : S256x768.Idx) = ix2 r q := ⟨x 0, x 1, eq_ix2 x⟩
      exact (aT1 e0 e3 e5 e6 (tT1 es _) (tT5 es _) r q).trans (placeS256x3072 (c := 768) (z := (jc 768 l768 q)) (fun r c => ((A.act (rw_ n r) c : ℝ) : EReal)) r q rfl inb_S256x3072_S256x768_0_768),
    fun x => by
      obtain ⟨r, q, rfl⟩ : ∃ (r : Fin 256) (q : Fin 768), (x : S256x768.Idx) = ix2 r q := ⟨x 0, x 1, eq_ix2 x⟩
      exact (aT0 e0 e3 e5 e6 (tT0 es _) (tT4 es _) r q).trans (placeS256x3072 (c := 0) (z := (jc 0 l0 q)) (fun r c => ((A.act (rw_ n r) c : ℝ) : EReal)) r q rfl inb_S256x3072_S256x768_0_0), trivial⟩

theorem oAs (hc0 : cond0_0 i) (x0 : Vec Ideal S256x1024 .bf16) (x1 : Vec Ideal S256x1024 .f32) (x2 : Vec Ideal S256x1024 .f32) (x3 : Vec Ideal S4x1024x1536 .bf16) (x4 : Vec Ideal S3072x1024 .bf16) (x5 : Vec Ideal S3x6144 .f32) (x6 : Vec Ideal S1x6144 .f32) (x7 : Vec Ideal S1x1024 .f32) (x8 : Vec Ideal S1x1024 .f32) (e0 : ∀ r d, x0 (ix2 r d) = ((A.h (rw_ n r) d : ℝ) : EReal)) (e3 : ∀ (k : Fin 4) d (q : Fin 1536), x3 (ix3 k d q) = ((A.wu d ⟨k.val * 1536 + q.val, wuLt k q⟩ : ℝ) : EReal)) (j : S8x6144.Idx) : sout0_A_0 (F := Ideal) c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 j = ((A.up (rw_ n ⟨248 + (j 0).val, by have := (j 0).isLt; exact Nat.add_lt_add_left this 248⟩) (j 1) : ℝ) : EReal) := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8)]
  unfold kernelRun0_A
  dsimp only
  sl_unfold_words
  simp only [View.readAt_eq_ld, View.canon_cons_unit_zero (S := S1x1024) hz2, View.canon_cons_unit_zero (S := S1x128) hz2, View.canon_cons_unit_zero (S := S256x1024) hz2, readCov_last (S := S1x1024) _ hz2, readCov_last (S := S1x128) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S1x1024) hz2, View.ld_unit_zero (S := S1x128) hz2, View.ld_unit_zero (S := S256x1024) hz2]
  simp only [same9, same10, same11, same25, same26, same39, same40, same13, same28, same33, same42, same47, same54, same59, same15, same30, same34, same44, same48, same56, same65, same16, same31, same35, same45, same49, same57, same66, same12, same27, same32, same41, same46, same53, same58, same37, same51, same67, same24, same38, same52]
  refine View.canon_append_of_piecesOf (Val := Elt Ideal) (s := S8x6144) (e := .f32) (fun j : S8x6144.Idx => ((A.up (rw_ n ⟨248 + (j 0).val, by have := (j 0).isLt; exact Nat.add_lt_add_left this 248⟩) (j 1) : ℝ) : EReal)) [_] [_, _, _, _, _, _, _, _] ⟨fun x => by
      obtain ⟨r, q, rfl⟩ : ∃ (r : Fin 8) (q : Fin 768), (x : S8x768.Idx) = ix2 r q := ⟨x 0, x 1, eq_ix2 x⟩
      exact (pay19 (uT7 e0 e3) r q).trans (placeS8x6144 (c := 5376) (z := (vcol (jc 2304 l2304 q))) (fun r c => ((A.up (rw_ n ⟨248 + r.val, by omega⟩) c : ℝ) : EReal)) r q (show 3072 + (2304 + q.val) = 5376 + q.val by omega) inb_S8x6144_S8x768_0_5376),
    fun x => by
      obtain ⟨r, q, rfl⟩ : ∃ (r : Fin 8) (q : Fin 768), (x : S8x768.Idx) = ix2 r q := ⟨x 0, x 1, eq_ix2 x⟩
      exact (pay19 (uT3 e0 e3) r q).trans (placeS8x6144 (c := 2304) (z := (gcol (jc 2304 l2304 q))) (fun r c => ((A.up (rw_ n ⟨248 + r.val, by omega⟩) c : ℝ) : EReal)) r q rfl inb_S8x6144_S8x768_0_2304),
    fun x => by
      obtain ⟨r, q, rfl⟩ : ∃ (r : Fin 8) (q : Fin 768), (x : S8x768.Idx) = ix2 r q := ⟨x 0, x 1, eq_ix2 x⟩
      exact (pay19 (uT6 e0 e3) r q).trans (placeS8x6144 (c := 4608) (z := (vcol (jc 1536 l1536 q))) (fun r c => ((A.up (rw_ n ⟨248 + r.val, by omega⟩) c : ℝ) : EReal)) r q (show 3072 + (1536 + q.val) = 4608 + q.val by omega) inb_S8x6144_S8x768_0_4608),
    fun x => by
      obtain ⟨r, q, rfl⟩ : ∃ (r : Fin 8) (q : Fin 768), (x : S8x768.Idx) = ix2 r q := ⟨x 0, x 1, eq_ix2 x⟩
      exact (pay19 (uT2 e0 e3) r q).trans (placeS8x6144 (c := 1536) (z := (gcol (jc 1536 l1536 q))) (fun r c => ((A.up (rw_ n ⟨248 + r.val, by omega⟩) c : ℝ) : EReal)) r q rfl inb_S8x6144_S8x768_0_1536),
    fun x => by
      obtain ⟨r, q, rfl⟩ : ∃ (r : Fin 8) (q : Fin 768), (x : S8x768.Idx) = ix2 r q := ⟨x 0, x 1, eq_ix2 x⟩
      exact (pay19 (uT5 e0 e3) r q).trans (placeS8x6144 (c := 3840) (z := (vcol (jc 768 l768 q))) (fun r c => ((A.up (rw_ n ⟨248 + r.val, by omega⟩) c : ℝ) : EReal)) r q (show 3072 + (768 + q.val) = 3840 + q.val by omega) inb_S8x6144_S8x768_0_3840),
    fun x => by
      obtain ⟨r, q, rfl⟩ : ∃ (r : Fin 8) (q : Fin 768), (x : S8x768.Idx) = ix2 r q := ⟨x 0, x 1, eq_ix2 x⟩
      exact (pay19 (uT1 e0 e3) r q).trans (placeS8x6144 (c := 768) (z := (gcol (jc 768 l768 q))) (fun r c => ((A.up (rw_ n ⟨248 + r.val, by omega⟩) c : ℝ) : EReal)) r q rfl inb_S8x6144_S8x768_0_768),
    fun x => by
      obtain ⟨r, q, rfl⟩ : ∃ (r : Fin 8) (q : Fin 768), (x : S8x768.Idx) = ix2 r q := ⟨x 0, x 1, eq_ix2 x⟩
      exact (pay19 (uT4 e0 e3) r q).trans (placeS8x6144 (c := 3072) (z := (vcol (jc 0 l0 q))) (fun r c => ((A.up (rw_ n ⟨248 + r.val, by omega⟩) c : ℝ) : EReal)) r q (show 3072 + (0 + q.val) = 3072 + q.val by omega) inb_S8x6144_S8x768_0_3072),
    fun x => by
      obtain ⟨r, q, rfl⟩ : ∃ (r : Fin 8) (q : Fin 768), (x : S8x768.Idx) = ix2 r q := ⟨x 0, x 1, eq_ix2 x⟩
      exact (pay19 (uT0 e0 e3) r q).trans (placeS8x6144 (c := 0) (z := (gcol (jc 0 l0 q))) (fun r c => ((A.up (rw_ n ⟨248 + r.val, by omega⟩) c : ℝ) : EReal)) r q rfl inb_S8x6144_S8x768_0_0), trivial⟩ j ?_
  exact View.cover_of_tiledL (s := S8x6144) _ S8x768.size (by sl_kernel_rfl) j

theorem oBs (hc0 : ¬cond0_0 i) (x0 : Vec Ideal S256x1024 .bf16) (x1 : Vec Ideal S256x1024 .f32) (x2 : Vec Ideal S256x1024 .f32) (x3 : Vec Ideal S4x1024x1536 .bf16) (x4 : Vec Ideal S3072x1024 .bf16) (x5 : Vec Ideal S3x6144 .f32) (x6 : Vec Ideal S1x6144 .f32) (x7 : Vec Ideal S1x1024 .f32) (x8 : Vec Ideal S1x1024 .f32) (xo14 : Vec Ideal S1x128 .f32) (xo15 : Vec Ideal S1x1024 .f32) (xo16 : Vec Ideal S1x1024 .f32) (xs0 : Vec Ideal S8x6144 .f32) (e0 : ∀ r d, x0 (ix2 r d) = ((A.h (rw_ n r) d : ℝ) : EReal)) (e3 : ∀ (k : Fin 4) d (q : Fin 1536), x3 (ix3 k d q) = ((A.wu d ⟨k.val * 1536 + q.val, wuLt k q⟩ : ℝ) : EReal)) (j : S8x6144.Idx) : sout0_B_0 (F := Ideal) c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 xo14 xo15 xo16 xs0 j = ((A.up (rw_ n ⟨248 + (j 0).val, by have := (j 0).isLt; exact Nat.add_lt_add_left this 248⟩) (j 1) : ℝ) : EReal) := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 xo14 xo15 xo16 xs0)]
  refine View.canon_apply_of_pieces (Val := Elt Ideal) (S := S8x6144) (e := .f32) (fun j : S8x6144.Idx => ((A.up (rw_ n ⟨248 + (j 0).val, by have := (j 0).isLt; exact Nat.add_lt_add_left this 248⟩) (j 1) : ℝ) : EReal)) _ ?_ j (scover0_B_0 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 xo14 xo15 xo16 xs0 j)
  unfold kernelRun0_B
  dsimp only
  sl_unfold_words
  simp only [View.readAt_eq_ld, View.canon_cons_unit_zero (S := S1x1024) hz2, View.canon_cons_unit_zero (S := S1x128) hz2, View.canon_cons_unit_zero (S := S256x1024) hz2, readCov_last (S := S1x1024) _ hz2, readCov_last (S := S1x128) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S1x1024) hz2, View.ld_unit_zero (S := S1x128) hz2, View.ld_unit_zero (S := S256x1024) hz2]
  simp only [same9, same10, same11, same25, same26, same39, same40, same13, same28, same33, same42, same47, same54, same59, same15, same30, same34, same44, same48, same56, same65, same16, same31, same35, same45, same49, same57, same66, same12, same27, same32, same41, same46, same53, same58, same37, same51, same67, same24, same38, same52]
  exact View.PiecesOf.mem (Val := Elt Ideal) (s := S8x6144) (e := .f32) (G := (fun j : S8x6144.Idx => ((A.up (rw_ n ⟨248 + (j 0).val, by have := (j 0).isLt; exact Nat.add_lt_add_left this 248⟩) (j 1) : ℝ) : EReal))) ⟨fun x => by
      obtain ⟨r, q, rfl⟩ : ∃ (r : Fin 8) (q : Fin 768), (x : S8x768.Idx) = ix2 r q := ⟨x 0, x 1, eq_ix2 x⟩
      exact (pay19 (uT7 e0 e3) r q).trans (placeS8x6144 (c := 5376) (z := (vcol (jc 2304 l2304 q))) (fun r c => ((A.up (rw_ n ⟨248 + r.val, by omega⟩) c : ℝ) : EReal)) r q (show 3072 + (2304 + q.val) = 5376 + q.val by omega) inb_S8x6144_S8x768_0_5376),
    fun x => by
      obtain ⟨r, q, rfl⟩ : ∃ (r : Fin 8) (q : Fin 768), (x : S8x768.Idx) = ix2 r q := ⟨x 0, x 1, eq_ix2 x⟩
      exact (pay19 (uT3 e0 e3) r q).trans (placeS8x6144 (c := 2304) (z := (gcol (jc 2304 l2304 q))) (fun r c => ((A.up (rw_ n ⟨248 + r.val, by omega⟩) c : ℝ) : EReal)) r q rfl inb_S8x6144_S8x768_0_2304),
    fun x => by
      obtain ⟨r, q, rfl⟩ : ∃ (r : Fin 8) (q : Fin 768), (x : S8x768.Idx) = ix2 r q := ⟨x 0, x 1, eq_ix2 x⟩
      exact (pay19 (uT6 e0 e3) r q).trans (placeS8x6144 (c := 4608) (z := (vcol (jc 1536 l1536 q))) (fun r c => ((A.up (rw_ n ⟨248 + r.val, by omega⟩) c : ℝ) : EReal)) r q (show 3072 + (1536 + q.val) = 4608 + q.val by omega) inb_S8x6144_S8x768_0_4608),
    fun x => by
      obtain ⟨r, q, rfl⟩ : ∃ (r : Fin 8) (q : Fin 768), (x : S8x768.Idx) = ix2 r q := ⟨x 0, x 1, eq_ix2 x⟩
      exact (pay19 (uT2 e0 e3) r q).trans (placeS8x6144 (c := 1536) (z := (gcol (jc 1536 l1536 q))) (fun r c => ((A.up (rw_ n ⟨248 + r.val, by omega⟩) c : ℝ) : EReal)) r q rfl inb_S8x6144_S8x768_0_1536),
    fun x => by
      obtain ⟨r, q, rfl⟩ : ∃ (r : Fin 8) (q : Fin 768), (x : S8x768.Idx) = ix2 r q := ⟨x 0, x 1, eq_ix2 x⟩
      exact (pay19 (uT5 e0 e3) r q).trans (placeS8x6144 (c := 3840) (z := (vcol (jc 768 l768 q))) (fun r c => ((A.up (rw_ n ⟨248 + r.val, by omega⟩) c : ℝ) : EReal)) r q (show 3072 + (768 + q.val) = 3840 + q.val by omega) inb_S8x6144_S8x768_0_3840),
    fun x => by
      obtain ⟨r, q, rfl⟩ : ∃ (r : Fin 8) (q : Fin 768), (x : S8x768.Idx) = ix2 r q := ⟨x 0, x 1, eq_ix2 x⟩
      exact (pay19 (uT1 e0 e3) r q).trans (placeS8x6144 (c := 768) (z := (gcol (jc 768 l768 q))) (fun r c => ((A.up (rw_ n ⟨248 + r.val, by omega⟩) c : ℝ) : EReal)) r q rfl inb_S8x6144_S8x768_0_768),
    fun x => by
      obtain ⟨r, q, rfl⟩ : ∃ (r : Fin 8) (q : Fin 768), (x : S8x768.Idx) = ix2 r q := ⟨x 0, x 1, eq_ix2 x⟩
      exact (pay19 (uT4 e0 e3) r q).trans (placeS8x6144 (c := 3072) (z := (vcol (jc 0 l0 q))) (fun r c => ((A.up (rw_ n ⟨248 + r.val, by omega⟩) c : ℝ) : EReal)) r q (show 3072 + (0 + q.val) = 3072 + q.val by omega) inb_S8x6144_S8x768_0_3072),
    fun x => by
      obtain ⟨r, q, rfl⟩ : ∃ (r : Fin 8) (q : Fin 768), (x : S8x768.Idx) = ix2 r q := ⟨x 0, x 1, eq_ix2 x⟩
      exact (pay19 (uT0 e0 e3) r q).trans (placeS8x6144 (c := 0) (z := (gcol (jc 0 l0 q))) (fun r c => ((A.up (rw_ n ⟨248 + r.val, by omega⟩) c : ℝ) : EReal)) r q rfl inb_S8x6144_S8x768_0_0), trivial⟩

end

end Cert.Proof.FfnF
-- ==== Proof.FfnFBlockB.lean ====
/- What a grid point of the feed-forward forward call leaves in its output blocks of whole rows, on finite
   blocks. Case A is the first point, which starts the sums and the carried rows at zero; case B is every other point. -/
module

public import proofs.«01_k».proof.Proof.Gen.KernelFIdeal.Frame
public import proofs.«01_k».proof.Proof.FfnFTile

@[expose] public section

noncomputable section

namespace Cert.Proof.FfnF

open Cert.KernelFIdeal Cert.KernelFIdeal.Gen Idealize.ShloMosaic Idealize.ShloMosaic.TcCoe Idealize.SL.Sem Cert.Proof.Lift

variable {A : Data} {n : Fin 16} {ACC : Fin 1024 → ℝ} {L : ℝ}

/-- The starting value of a column sum. -/
theorem zeroAcc (f : Vec Ideal S1x1024 .f32) (hf : f = broadcast S1x1024 (Scalar.ofBits (F := Ideal) .f32 0x00000000#32)) (d : Fin 1024) :
    f (ix2 0 d) = ((0 : ℝ) : EReal) := by
  subst hf; exact ofBits_zero
theorem zeroLoss (f : Vec Ideal S1x128 .f32) (hf : f = broadcast S1x128 (Scalar.ofBits (F := Ideal) .f32 0x00000000#32)) (d : Fin 128) :
    f (ix2 0 d) = ((0 : ℝ) : EReal) := by
  subst hf; exact ofBits_zero

section
variable (c : Dev nD) (i : grid0.Coords) (a1 : Memref sig .tc .vmem S256x1024 .bf16) (h1 : a1.IsWhole) (a2 : Memref sig .tc .vmem S256x1024 .f32) (h2 : a2.IsWhole) (a3 : Memref sig .tc .vmem S256x1024 .f32) (h3 : a3.IsWhole) (a4 : Memref sig .tc .vmem S4x1024x1536 .bf16) (h4 : a4.IsWhole) (a5 : Memref sig .tc .vmem S3072x1024 .bf16) (h5 : a5.IsWhole) (a6 : Memref sig .tc .vmem S3x6144 .f32) (h6 : a6.IsWhole) (a7 : Memref sig .tc .vmem S1x6144 .f32) (h7 : a7.IsWhole) (a8 : Memref sig .tc .vmem S1x1024 .f32) (h8 : a8.IsWhole) (a9 : Memref sig .tc .vmem S1x1024 .f32) (h9 : a9.IsWhole) (a10 : Memref sig .tc .vmem S256x6144 .bf16) (h10 : a10.IsWhole) (a11 : Memref sig .tc .vmem S256x6144 .bf16) (h11 : a11.IsWhole) (a12 : Memref sig .tc .vmem S256x3072 .bf16) (h12 : a12.IsWhole) (a13 : Memref sig .tc .vmem S256x1024 .bf16) (h13 : a13.IsWhole) (a14 : Memref sig .tc .vmem S256x1024 .f32) (h14 : a14.IsWhole) (a15 : Memref sig .tc .vmem S1x128 .f32) (h15 : a15.IsWhole) (a16 : Memref sig .tc .vmem S1x1024 .f32) (h16 : a16.IsWhole) (a17 : Memref sig .tc .vmem S1x1024 .f32) (h17 : a17.IsWhole) (a18 : Memref sig .tc .vmem S8x6144 .f32) (h18 : a18.IsWhole)

theorem oA12 (hc0 : cond0_0 i) (x0 : Vec Ideal S256x1024 .bf16) (x1 : Vec Ideal S256x1024 .f32) (x2 : Vec Ideal S256x1024 .f32) (x3 : Vec Ideal S4x1024x1536 .bf16) (x4 : Vec Ideal S3072x1024 .bf16) (x5 : Vec Ideal S3x6144 .f32) (x6 : Vec Ideal S1x6144 .f32) (x7 : Vec Ideal S1x1024 .f32) (x8 : Vec Ideal S1x1024 .f32) (e0 : ∀ r d, x0 (ix2 r d) = ((A.h (rw_ n r) d : ℝ) : EReal)) (e1 : ∀ r d, x1 (ix2 r d) = ((A.x1 (rw_ n r) d : ℝ) : EReal)) (e2 : ∀ r d, x2 (ix2 r d) = ((A.tg (rw_ n r) d : ℝ) : EReal)) (e3 : ∀ (k : Fin 4) d (q : Fin 1536), x3 (ix3 k d q) = ((A.wu d ⟨k.val * 1536 + q.val, wuLt k q⟩ : ℝ) : EReal)) (e4 : ∀ j d, x4 (ix2 j d) = ((A.wd j d : ℝ) : EReal)) (e5 : ∀ k c, x5 (ix2 k c) = ((A.fw k c : ℝ) : EReal)) (e6 : ∀ c, x6 (ix2 0 c) = ((A.fb c : ℝ) : EReal)) (e7 : ∀ d, x7 (ix2 0 d) = ((A.gt d : ℝ) : EReal)) (e8 : ∀ d, x8 (ix2 0 d) = ((A.gp d : ℝ) : EReal)) (hn : n.val = 0) (r : Fin 256) (d : Fin 1024) : out0_A_12 (F := Ideal) c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 (ix2 r d) = ((A.dy (rw_ n r) d : ℝ) : EReal) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8)]
  unfold kernelRun0_A
  dsimp only
  sl_unfold_words
  simp only [View.readAt_eq_ld, View.canon_cons_unit_zero (S := S1x1024) hz2, View.canon_cons_unit_zero (S := S1x128) hz2, View.canon_cons_unit_zero (S := S256x1024) hz2, readCov_last (S := S1x1024) _ hz2, readCov_last (S := S1x128) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S1x1024) hz2, View.ld_unit_zero (S := S1x128) hz2, View.ld_unit_zero (S := S256x1024) hz2]
  simp (disch := first | exact hz2' | decide) only [↓View.readCov_skip, View.readCov_fill]
  simp only [same9, same10, same11, same25, same26, same39, same40, same13, same28, same33, same42, same47, same54, same59, same15, same30, same34, same44, same48, same56, same65, same16, same31, same35, same45, same49, same57, same66, same12, same27, same32, same41, same46, same53, same58, same37, same51, same67, same24, same38, same52]
  exact pay1 (yT e0 e3 e4 e5 e6 (tT0 (zeroTail hn) _) (tT1 (zeroTail hn) _) (tT2 (zeroTail hn) _) (tT3 (zeroTail hn) _) (tT4 (zeroTail hn) _) (tT5 (zeroTail hn) _) (tT6 (zeroTail hn) _) (tT7 (zeroTail hn) _)) e1 e2 e7 e8 r d

theorem oB12 (hc0 : ¬cond0_0 i) (x0 : Vec Ideal S256x1024 .bf16) (x1 : Vec Ideal S256x1024 .f32) (x2 : Vec Ideal S256x1024 .f32) (x3 : Vec Ideal S4x1024x1536 .bf16) (x4 : Vec Ideal S3072x1024 .bf16) (x5 : Vec Ideal S3x6144 .f32) (x6 : Vec Ideal S1x6144 .f32) (x7 : Vec Ideal S1x1024 .f32) (x8 : Vec Ideal S1x1024 .f32) (xo14 : Vec Ideal S1x128 .f32) (xo15 : Vec Ideal S1x1024 .f32) (xo16 : Vec Ideal S1x1024 .f32) (xs0 : Vec Ideal S8x6144 .f32) (e0 : ∀ r d, x0 (ix2 r d) = ((A.h (rw_ n r) d : ℝ) : EReal)) (e1 : ∀ r d, x1 (ix2 r d) = ((A.x1 (rw_ n r) d : ℝ) : EReal)) (e2 : ∀ r d, x2 (ix2 r d) = ((A.tg (rw_ n r) d : ℝ) : EReal)) (e3 : ∀ (k : Fin 4) d (q : Fin 1536), x3 (ix3 k d q) = ((A.wu d ⟨k.val * 1536 + q.val, wuLt k q⟩ : ℝ) : EReal)) (e4 : ∀ j d, x4 (ix2 j d) = ((A.wd j d : ℝ) : EReal)) (e5 : ∀ k c, x5 (ix2 k c) = ((A.fw k c : ℝ) : EReal)) (e6 : ∀ c, x6 (ix2 0 c) = ((A.fb c : ℝ) : EReal)) (e7 : ∀ d, x7 (ix2 0 d) = ((A.gt d : ℝ) : EReal)) (e8 : ∀ d, x8 (ix2 0 d) = ((A.gp d : ℝ) : EReal)) (es : ∀ i c, xs0 (ix2 i c) = ((A.tl n i c : ℝ) : EReal)) (r : Fin 256) (d : Fin 1024) : out0_B_12 (F := Ideal) c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 xo14 xo15 xo16 xs0 (ix2 r d) = ((A.dy (rw_ n r) d : ℝ) : EReal) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 xo14 xo15 xo16 xs0)]
  unfold kernelRun0_B
  dsimp only
  sl_unfold_words
  simp only [View.readAt_eq_ld, View.canon_cons_unit_zero (S := S1x1024) hz2, View.canon_cons_unit_zero (S := S1x128) hz2, View.canon_cons_unit_zero (S := S256x1024) hz2, readCov_last (S := S1x1024) _ hz2, readCov_last (S := S1x128) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S1x1024) hz2, View.ld_unit_zero (S := S1x128) hz2, View.ld_unit_zero (S := S256x1024) hz2]
  simp only [same9, same10, same11, same25, same26, same39, same40, same13, same28, same33, same42, same47, same54, same59, same15, same30, same34, same44, same48, same56, same65, same16, same31, same35, same45, same49, same57, same66, same12, same27, same32, same41, same46, same53, same58, same37, same51, same67, same24, same38, same52]
  exact pay1 (yT e0 e3 e4 e5 e6 (tT0 es _) (tT1 es _) (tT2 es _) (tT3 es _) (tT4 es _) (tT5 es _) (tT6 es _) (tT7 es _)) e1 e2 e7 e8 r d

theorem oA13 (hc0 : cond0_0 i) (x0 : Vec Ideal S256x1024 .bf16) (x1 : Vec Ideal S256x1024 .f32) (x2 : Vec Ideal S256x1024 .f32) (x3 : Vec Ideal S4x1024x1536 .bf16) (x4 : Vec Ideal S3072x1024 .bf16) (x5 : Vec Ideal S3x6144 .f32) (x6 : Vec Ideal S1x6144 .f32) (x7 : Vec Ideal S1x1024 .f32) (x8 : Vec Ideal S1x1024 .f32) (e0 : ∀ r d, x0 (ix2 r d) = ((A.h (rw_ n r) d : ℝ) : EReal)) (e1 : ∀ r d, x1 (ix2 r d) = ((A.x1 (rw_ n r) d : ℝ) : EReal)) (e2 : ∀ r d, x2 (ix2 r d) = ((A.tg (rw_ n r) d : ℝ) : EReal)) (e3 : ∀ (k : Fin 4) d (q : Fin 1536), x3 (ix3 k d q) = ((A.wu d ⟨k.val * 1536 + q.val, wuLt k q⟩ : ℝ) : EReal)) (e4 : ∀ j d, x4 (ix2 j d) = ((A.wd j d : ℝ) : EReal)) (e5 : ∀ k c, x5 (ix2 k c) = ((A.fw k c : ℝ) : EReal)) (e6 : ∀ c, x6 (ix2 0 c) = ((A.fb c : ℝ) : EReal)) (e7 : ∀ d, x7 (ix2 0 d) = ((A.gt d : ℝ) : EReal)) (e8 : ∀ d, x8 (ix2 0 d) = ((A.gp d : ℝ) : EReal)) (hn : n.val = 0) (r : Fin 256) (d : Fin 1024) : out0_A_13 (F := Ideal) c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 (ix2 r d) = ((A.dx (rw_ n r) d : ℝ) : EReal) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8)]
  unfold kernelRun0_A
  dsimp only
  sl_unfold_words
  simp only [View.readAt_eq_ld, View.canon_cons_unit_zero (S := S1x1024) hz2, View.canon_cons_unit_zero (S := S1x128) hz2, View.canon_cons_unit_zero (S := S256x1024) hz2, readCov_last (S := S1x1024) _ hz2, readCov_last (S := S1x128) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S1x1024) hz2, View.ld_unit_zero (S := S1x128) hz2, View.ld_unit_zero (S := S256x1024) hz2]
  simp (disch := first | exact hz2' | decide) only [↓View.readCov_skip, View.readCov_fill]
  simp only [same9, same10, same11, same25, same26, same39, same40, same13, same28, same33, same42, same47, same54, same59, same15, same30, same34, same44, same48, same56, same65, same16, same31, same35, same45, same49, same57, same66, same12, same27, same32, same41, same46, same53, same58, same37, same51, same67, same24, same38, same52]
  exact pay74 (yT e0 e3 e4 e5 e6 (tT0 (zeroTail hn) _) (tT1 (zeroTail hn) _) (tT2 (zeroTail hn) _) (tT3 (zeroTail hn) _) (tT4 (zeroTail hn) _) (tT5 (zeroTail hn) _) (tT6 (zeroTail hn) _) (tT7 (zeroTail hn) _)) e1 e2 e7 e8 r d

theorem oB13 (hc0 : ¬cond0_0 i) (x0 : Vec Ideal S256x1024 .bf16) (x1 : Vec Ideal S256x1024 .f32) (x2 : Vec Ideal S256x1024 .f32) (x3 : Vec Ideal S4x1024x1536 .bf16) (x4 : Vec Ideal S3072x1024 .bf16) (x5 : Vec Ideal S3x6144 .f32) (x6 : Vec Ideal S1x6144 .f32) (x7 : Vec Ideal S1x1024 .f32) (x8 : Vec Ideal S1x1024 .f32) (xo14 : Vec Ideal S1x128 .f32) (xo15 : Vec Ideal S1x1024 .f32) (xo16 : Vec Ideal S1x1024 .f32) (xs0 : Vec Ideal S8x6144 .f32) (e0 : ∀ r d, x0 (ix2 r d) = ((A.h (rw_ n r) d : ℝ) : EReal)) (e1 : ∀ r d, x1 (ix2 r d) = ((A.x1 (rw_ n r) d : ℝ) : EReal)) (e2 : ∀ r d, x2 (ix2 r d) = ((A.tg (rw_ n r) d : ℝ) : EReal)) (e3 : ∀ (k : Fin 4) d (q : Fin 1536), x3 (ix3 k d q) = ((A.wu d ⟨k.val * 1536 + q.val, wuLt k q⟩ : ℝ) : EReal)) (e4 : ∀ j d, x4 (ix2 j d) = ((A.wd j d : ℝ) : EReal)) (e5 : ∀ k c, x5 (ix2 k c) = ((A.fw k c : ℝ) : EReal)) (e6 : ∀ c, x6 (ix2 0 c) = ((A.fb c : ℝ) : EReal)) (e7 : ∀ d, x7 (ix2 0 d) = ((A.gt d : ℝ) : EReal)) (e8 : ∀ d, x8 (ix2 0 d) = ((A.gp d : ℝ) : EReal)) (es : ∀ i c, xs0 (ix2 i c) = ((A.tl n i c : ℝ) : EReal)) (r : Fin 256) (d : Fin 1024) : out0_B_13 (F := Ideal) c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 xo14 xo15 xo16 xs0 (ix2 r d) = ((A.dx (rw_ n r) d : ℝ) : EReal) := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 xo14 xo15 xo16 xs0)]
  unfold kernelRun0_B
  dsimp only
  sl_unfold_words
  simp only [View.readAt_eq_ld, View.canon_cons_unit_zero (S := S1x1024) hz2, View.canon_cons_unit_zero (S := S1x128) hz2, View.canon_cons_unit_zero (S := S256x1024) hz2, readCov_last (S := S1x1024) _ hz2, readCov_last (S := S1x128) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S1x1024) hz2, View.ld_unit_zero (S := S1x128) hz2, View.ld_unit_zero (S := S256x1024) hz2]
  simp only [same9, same10, same11, same25, same26, same39, same40, same13, same28, same33, same42, same47, same54, same59, same15, same30, same34, same44, same48, same56, same65, same16, same31, same35, same45, same49, same57, same66, same12, same27, same32, same41, same46, same53, same58, same37, same51, same67, same24, same38, same52]
  exact pay74 (yT e0 e3 e4 e5 e6 (tT0 es _) (tT1 es _) (tT2 es _) (tT3 es _) (tT4 es _) (tT5 es _) (tT6 es _) (tT7 es _)) e1 e2 e7 e8 r d

theorem oA14 (hc0 : cond0_0 i) (x0 : Vec Ideal S256x1024 .bf16) (x1 : Vec Ideal S256x1024 .f32) (x2 : Vec Ideal S256x1024 .f32) (x3 : Vec Ideal S4x1024x1536 .bf16) (x4 : Vec Ideal S3072x1024 .bf16) (x5 : Vec Ideal S3x6144 .f32) (x6 : Vec Ideal S1x6144 .f32) (x7 : Vec Ideal S1x1024 .f32) (x8 : Vec Ideal S1x1024 .f32) (e0 : ∀ r d, x0 (ix2 r d) = ((A.h (rw_ n r) d : ℝ) : EReal)) (e1 : ∀ r d, x1 (ix2 r d) = ((A.x1 (rw_ n r) d : ℝ) : EReal)) (e2 : ∀ r d, x2 (ix2 r d) = ((A.tg (rw_ n r) d : ℝ) : EReal)) (e3 : ∀ (k : Fin 4) d (q : Fin 1536), x3 (ix3 k d q) = ((A.wu d ⟨k.val * 1536 + q.val, wuLt k q⟩ : ℝ) : EReal)) (e4 : ∀ j d, x4 (ix2 j d) = ((A.wd j d : ℝ) : EReal)) (e5 : ∀ k c, x5 (ix2 k c) = ((A.fw k c : ℝ) : EReal)) (e6 : ∀ c, x6 (ix2 0 c) = ((A.fb c : ℝ) : EReal)) (e7 : ∀ d, x7 (ix2 0 d) = ((A.gt d : ℝ) : EReal)) (e8 : ∀ d, x8 (ix2 0 d) = ((A.gp d : ℝ) : EReal)) (hn : n.val = 0) (d : Fin 128) : out0_A_14 (F := Ideal) c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 (ix2 0 d) = ((∑ r, (∑ k, A.e (rw_ n r) k * A.e (rw_ n r) k) * (1 / 2048) : ℝ) : EReal) := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8)]
  unfold kernelRun0_A
  dsimp only
  sl_unfold_words
  simp only [View.readAt_eq_ld, View.canon_cons_unit_zero (S := S1x1024) hz2, View.canon_cons_unit_zero (S := S1x128) hz2, View.canon_cons_unit_zero (S := S256x1024) hz2, readCov_last (S := S1x1024) _ hz2, readCov_last (S := S1x128) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S1x1024) hz2, View.ld_unit_zero (S := S1x128) hz2, View.ld_unit_zero (S := S256x1024) hz2]
  simp (disch := first | exact hz2' | decide) only [↓View.readCov_skip, View.readCov_fill]
  simp only [same9, same10, same11, same25, same26, same39, same40, same13, same28, same33, same42, same47, same54, same59, same15, same30, same34, same44, same48, same56, same65, same16, same31, same35, same45, same49, same57, same66, same12, same27, same32, same41, same46, same53, same58, same37, same51, same67, same24, same38, same52]
  exact (pay73 (L := 0) (yT e0 e3 e4 e5 e6 (tT0 (zeroTail hn) _) (tT1 (zeroTail hn) _) (tT2 (zeroTail hn) _) (tT3 (zeroTail hn) _) (tT4 (zeroTail hn) _) (tT5 (zeroTail hn) _) (tT6 (zeroTail hn) _) (tT7 (zeroTail hn) _)) e1 e2 e7 e8 (zeroLoss _ rfl) d).trans (by rw [zero_add])

theorem oB14 (hc0 : ¬cond0_0 i) (x0 : Vec Ideal S256x1024 .bf16) (x1 : Vec Ideal S256x1024 .f32) (x2 : Vec Ideal S256x1024 .f32) (x3 : Vec Ideal S4x1024x1536 .bf16) (x4 : Vec Ideal S3072x1024 .bf16) (x5 : Vec Ideal S3x6144 .f32) (x6 : Vec Ideal S1x6144 .f32) (x7 : Vec Ideal S1x1024 .f32) (x8 : Vec Ideal S1x1024 .f32) (xo14 : Vec Ideal S1x128 .f32) (xo15 : Vec Ideal S1x1024 .f32) (xo16 : Vec Ideal S1x1024 .f32) (xs0 : Vec Ideal S8x6144 .f32) (e0 : ∀ r d, x0 (ix2 r d) = ((A.h (rw_ n r) d : ℝ) : EReal)) (e1 : ∀ r d, x1 (ix2 r d) = ((A.x1 (rw_ n r) d : ℝ) : EReal)) (e2 : ∀ r d, x2 (ix2 r d) = ((A.tg (rw_ n r) d : ℝ) : EReal)) (e3 : ∀ (k : Fin 4) d (q : Fin 1536), x3 (ix3 k d q) = ((A.wu d ⟨k.val * 1536 + q.val, wuLt k q⟩ : ℝ) : EReal)) (e4 : ∀ j d, x4 (ix2 j d) = ((A.wd j d : ℝ) : EReal)) (e5 : ∀ k c, x5 (ix2 k c) = ((A.fw k c : ℝ) : EReal)) (e6 : ∀ c, x6 (ix2 0 c) = ((A.fb c : ℝ) : EReal)) (e7 : ∀ d, x7 (ix2 0 d) = ((A.gt d : ℝ) : EReal)) (e8 : ∀ d, x8 (ix2 0 d) = ((A.gp d : ℝ) : EReal)) (es : ∀ i c, xs0 (ix2 i c) = ((A.tl n i c : ℝ) : EReal)) (ha : ∀ d, xo14 (ix2 0 d) = ((L : ℝ) : EReal)) (d : Fin 128) : out0_B_14 (F := Ideal) c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 xo14 xo15 xo16 xs0 (ix2 0 d) = ((L + ∑ r, (∑ k, A.e (rw_ n r) k * A.e (rw_ n r) k) * (1 / 2048) : ℝ) : EReal) := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 xo14 xo15 xo16 xs0)]
  unfold kernelRun0_B
  dsimp only
  sl_unfold_words
  simp only [View.readAt_eq_ld, View.canon_cons_unit_zero (S := S1x1024) hz2, View.canon_cons_unit_zero (S := S1x128) hz2, View.canon_cons_unit_zero (S := S256x1024) hz2, readCov_last (S := S1x1024) _ hz2, readCov_last (S := S1x128) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S1x1024) hz2, View.ld_unit_zero (S := S1x128) hz2, View.ld_unit_zero (S := S256x1024) hz2]
  simp only [same9, same10, same11, same25, same26, same39, same40, same13, same28, same33, same42, same47, same54, same59, same15, same30, same34, same44, same48, same56, same65, same16, same31, same35, same45, same49, same57, same66, same12, same27, same32, same41, same46, same53, same58, same37, same51, same67, same24, same38, same52]
  exact pay73 (yT e0 e3 e4 e5 e6 (tT0 es _) (tT1 es _) (tT2 es _) (tT3 es _) (tT4 es _) (tT5 es _) (tT6 es _) (tT7 es _)) e1 e2 e7 e8 ha d

theorem oA15 (hc0 : cond0_0 i) (x0 : Vec Ideal S256x1024 .bf16) (x1 : Vec Ideal S256x1024 .f32) (x2 : Vec Ideal S256x1024 .f32) (x3 : Vec Ideal S4x1024x1536 .bf16) (x4 : Vec Ideal S3072x1024 .bf16) (x5 : Vec Ideal S3x6144 .f32) (x6 : Vec Ideal S1x6144 .f32) (x7 : Vec Ideal S1x1024 .f32) (x8 : Vec Ideal S1x1024 .f32) (e0 : ∀ r d, x0 (ix2 r d) = ((A.h (rw_ n r) d : ℝ) : EReal)) (e1 : ∀ r d, x1 (ix2 r d) = ((A.x1 (rw_ n r) d : ℝ) : EReal)) (e2 : ∀ r d, x2 (ix2 r d) = ((A.tg (rw_ n r) d : ℝ) : EReal)) (e3 : ∀ (k : Fin 4) d (q : Fin 1536), x3 (ix3 k d q) = ((A.wu d ⟨k.val * 1536 + q.val, wuLt k q⟩ : ℝ) : EReal)) (e4 : ∀ j d, x4 (ix2 j d) = ((A.wd j d : ℝ) : EReal)) (e5 : ∀ k c, x5 (ix2 k c) = ((A.fw k c : ℝ) : EReal)) (e6 : ∀ c, x6 (ix2 0 c) = ((A.fb c : ℝ) : EReal)) (e7 : ∀ d, x7 (ix2 0 d) = ((A.gt d : ℝ) : EReal)) (e8 : ∀ d, x8 (ix2 0 d) = ((A.gp d : ℝ) : EReal)) (hn : n.val = 0) (d : Fin 1024) : out0_A_15 (F := Ideal) c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 (ix2 0 d) = ((∑ r, A.dx (rw_ n r) d * (A.yn (rw_ n r) d * A.gp d) : ℝ) : EReal) := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8)]
  unfold kernelRun0_A
  dsimp only
  sl_unfold_words
  simp only [View.readAt_eq_ld, View.canon_cons_unit_zero (S := S1x1024) hz2, View.canon_cons_unit_zero (S := S1x128) hz2, View.canon_cons_unit_zero (S := S256x1024) hz2, readCov_last (S := S1x1024) _ hz2, readCov_last (S := S1x128) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S1x1024) hz2, View.ld_unit_zero (S := S1x128) hz2, View.ld_unit_zero (S := S256x1024) hz2]
  simp (disch := first | exact hz2' | decide) only [↓View.readCov_skip, View.readCov_fill]
  simp only [same9, same10, same11, same25, same26, same39, same40, same13, same28, same33, same42, same47, same54, same59, same15, same30, same34, same44, same48, same56, same65, same16, same31, same35, same45, same49, same57, same66, same12, same27, same32, same41, same46, same53, same58, same37, same51, same67, same24, same38, same52]
  exact (pay75 (C := fun _ => 0) (yT e0 e3 e4 e5 e6 (tT0 (zeroTail hn) _) (tT1 (zeroTail hn) _) (tT2 (zeroTail hn) _) (tT3 (zeroTail hn) _) (tT4 (zeroTail hn) _) (tT5 (zeroTail hn) _) (tT6 (zeroTail hn) _) (tT7 (zeroTail hn) _)) e1 e2 e7 e8 (zeroAcc _ rfl) d).trans (by rw [zero_add])

theorem oB15 (hc0 : ¬cond0_0 i) (x0 : Vec Ideal S256x1024 .bf16) (x1 : Vec Ideal S256x1024 .f32) (x2 : Vec Ideal S256x1024 .f32) (x3 : Vec Ideal S4x1024x1536 .bf16) (x4 : Vec Ideal S3072x1024 .bf16) (x5 : Vec Ideal S3x6144 .f32) (x6 : Vec Ideal S1x6144 .f32) (x7 : Vec Ideal S1x1024 .f32) (x8 : Vec Ideal S1x1024 .f32) (xo14 : Vec Ideal S1x128 .f32) (xo15 : Vec Ideal S1x1024 .f32) (xo16 : Vec Ideal S1x1024 .f32) (xs0 : Vec Ideal S8x6144 .f32) (e0 : ∀ r d, x0 (ix2 r d) = ((A.h (rw_ n r) d : ℝ) : EReal)) (e1 : ∀ r d, x1 (ix2 r d) = ((A.x1 (rw_ n r) d : ℝ) : EReal)) (e2 : ∀ r d, x2 (ix2 r d) = ((A.tg (rw_ n r) d : ℝ) : EReal)) (e3 : ∀ (k : Fin 4) d (q : Fin 1536), x3 (ix3 k d q) = ((A.wu d ⟨k.val * 1536 + q.val, wuLt k q⟩ : ℝ) : EReal)) (e4 : ∀ j d, x4 (ix2 j d) = ((A.wd j d : ℝ) : EReal)) (e5 : ∀ k c, x5 (ix2 k c) = ((A.fw k c : ℝ) : EReal)) (e6 : ∀ c, x6 (ix2 0 c) = ((A.fb c : ℝ) : EReal)) (e7 : ∀ d, x7 (ix2 0 d) = ((A.gt d : ℝ) : EReal)) (e8 : ∀ d, x8 (ix2 0 d) = ((A.gp d : ℝ) : EReal)) (es : ∀ i c, xs0 (ix2 i c) = ((A.tl n i c : ℝ) : EReal)) (ha : ∀ d, xo15 (ix2 0 d) = ((ACC d : ℝ) : EReal)) (d : Fin 1024) : out0_B_15 (F := Ideal) c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 xo14 xo15 xo16 xs0 (ix2 0 d) = ((ACC d + ∑ r, A.dx (rw_ n r) d * (A.yn (rw_ n r) d * A.gp d) : ℝ) : EReal) := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 xo14 xo15 xo16 xs0)]
  unfold kernelRun0_B
  dsimp only
  sl_unfold_words
  simp only [View.readAt_eq_ld, View.canon_cons_unit_zero (S := S1x1024) hz2, View.canon_cons_unit_zero (S := S1x128) hz2, View.canon_cons_unit_zero (S := S256x1024) hz2, readCov_last (S := S1x1024) _ hz2, readCov_last (S := S1x128) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S1x1024) hz2, View.ld_unit_zero (S := S1x128) hz2, View.ld_unit_zero (S := S256x1024) hz2]
  simp only [same9, same10, same11, same25, same26, same39, same40, same13, same28, same33, same42, same47, same54, same59, same15, same30, same34, same44, same48, same56, same65, same16, same31, same35, same45, same49, same57, same66, same12, same27, same32, same41, same46, same53, same58, same37, same51, same67, same24, same38, same52]
  exact pay75 (yT e0 e3 e4 e5 e6 (tT0 es _) (tT1 es _) (tT2 es _) (tT3 es _) (tT4 es _) (tT5 es _) (tT6 es _) (tT7 es _)) e1 e2 e7 e8 ha d

theorem oA16 (hc0 : cond0_0 i) (x0 : Vec Ideal S256x1024 .bf16) (x1 : Vec Ideal S256x1024 .f32) (x2 : Vec Ideal S256x1024 .f32) (x3 : Vec Ideal S4x1024x1536 .bf16) (x4 : Vec Ideal S3072x1024 .bf16) (x5 : Vec Ideal S3x6144 .f32) (x6 : Vec Ideal S1x6144 .f32) (x7 : Vec Ideal S1x1024 .f32) (x8 : Vec Ideal S1x1024 .f32) (e0 : ∀ r d, x0 (ix2 r d) = ((A.h (rw_ n r) d : ℝ) : EReal)) (e1 : ∀ r d, x1 (ix2 r d) = ((A.x1 (rw_ n r) d : ℝ) : EReal)) (e2 : ∀ r d, x2 (ix2 r d) = ((A.tg (rw_ n r) d : ℝ) : EReal)) (e3 : ∀ (k : Fin 4) d (q : Fin 1536), x3 (ix3 k d q) = ((A.wu d ⟨k.val * 1536 + q.val, wuLt k q⟩ : ℝ) : EReal)) (e4 : ∀ j d, x4 (ix2 j d) = ((A.wd j d : ℝ) : EReal)) (e5 : ∀ k c, x5 (ix2 k c) = ((A.fw k c : ℝ) : EReal)) (e6 : ∀ c, x6 (ix2 0 c) = ((A.fb c : ℝ) : EReal)) (e7 : ∀ d, x7 (ix2 0 d) = ((A.gt d : ℝ) : EReal)) (e8 : ∀ d, x8 (ix2 0 d) = ((A.gp d : ℝ) : EReal)) (hn : n.val = 0) (d : Fin 1024) : out0_A_16 (F := Ideal) c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 (ix2 0 d) = ((∑ r, A.dyn (rw_ n r) d * A.yn (rw_ n r) d : ℝ) : EReal) := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8)]
  unfold kernelRun0_A
  dsimp only
  sl_unfold_words
  simp only [View.readAt_eq_ld, View.canon_cons_unit_zero (S := S1x1024) hz2, View.canon_cons_unit_zero (S := S1x128) hz2, View.canon_cons_unit_zero (S := S256x1024) hz2, readCov_last (S := S1x1024) _ hz2, readCov_last (S := S1x128) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S1x1024) hz2, View.ld_unit_zero (S := S1x128) hz2, View.ld_unit_zero (S := S256x1024) hz2]
  simp (disch := first | exact hz2' | decide) only [↓View.readCov_skip, View.readCov_fill]
  simp only [same9, same10, same11, same25, same26, same39, same40, same13, same28, same33, same42, same47, same54, same59, same15, same30, same34, same44, same48, same56, same65, same16, same31, same35, same45, same49, same57, same66, same12, same27, same32, same41, same46, same53, same58, same37, same51, same67, same24, same38, same52]
  exact (pay77 (C := fun _ => 0) (yT e0 e3 e4 e5 e6 (tT0 (zeroTail hn) _) (tT1 (zeroTail hn) _) (tT2 (zeroTail hn) _) (tT3 (zeroTail hn) _) (tT4 (zeroTail hn) _) (tT5 (zeroTail hn) _) (tT6 (zeroTail hn) _) (tT7 (zeroTail hn) _)) e1 e2 e7 e8 (zeroAcc _ rfl) d).trans (by rw [zero_add])

theorem oB16 (hc0 : ¬cond0_0 i) (x0 : Vec Ideal S256x1024 .bf16) (x1 : Vec Ideal S256x1024 .f32) (x2 : Vec Ideal S256x1024 .f32) (x3 : Vec Ideal S4x1024x1536 .bf16) (x4 : Vec Ideal S3072x1024 .bf16) (x5 : Vec Ideal S3x6144 .f32) (x6 : Vec Ideal S1x6144 .f32) (x7 : Vec Ideal S1x1024 .f32) (x8 : Vec Ideal S1x1024 .f32) (xo14 : Vec Ideal S1x128 .f32) (xo15 : Vec Ideal S1x1024 .f32) (xo16 : Vec Ideal S1x1024 .f32) (xs0 : Vec Ideal S8x6144 .f32) (e0 : ∀ r d, x0 (ix2 r d) = ((A.h (rw_ n r) d : ℝ) : EReal)) (e1 : ∀ r d, x1 (ix2 r d) = ((A.x1 (rw_ n r) d : ℝ) : EReal)) (e2 : ∀ r d, x2 (ix2 r d) = ((A.tg (rw_ n r) d : ℝ) : EReal)) (e3 : ∀ (k : Fin 4) d (q : Fin 1536), x3 (ix3 k d q) = ((A.wu d ⟨k.val * 1536 + q.val, wuLt k q⟩ : ℝ) : EReal)) (e4 : ∀ j d, x4 (ix2 j d) = ((A.wd j d : ℝ) : EReal)) (e5 : ∀ k c, x5 (ix2 k c) = ((A.fw k c : ℝ) : EReal)) (e6 : ∀ c, x6 (ix2 0 c) = ((A.fb c : ℝ) : EReal)) (e7 : ∀ d, x7 (ix2 0 d) = ((A.gt d : ℝ) : EReal)) (e8 : ∀ d, x8 (ix2 0 d) = ((A.gp d : ℝ) : EReal)) (es : ∀ i c, xs0 (ix2 i c) = ((A.tl n i c : ℝ) : EReal)) (ha : ∀ d, xo16 (ix2 0 d) = ((ACC d : ℝ) : EReal)) (d : Fin 1024) : out0_B_16 (F := Ideal) c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 xo14 xo15 xo16 xs0 (ix2 0 d) = ((ACC d + ∑ r, A.dyn (rw_ n r) d * A.yn (rw_ n r) d : ℝ) : EReal) := by
  unfold out0_B_16
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 xo14 xo15 xo16 xs0)]
  unfold kernelRun0_B
  dsimp only
  sl_unfold_words
  simp only [View.readAt_eq_ld, View.canon_cons_unit_zero (S := S1x1024) hz2, View.canon_cons_unit_zero (S := S1x128) hz2, View.canon_cons_unit_zero (S := S256x1024) hz2, readCov_last (S := S1x1024) _ hz2, readCov_last (S := S1x128) _ hz2, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S1x1024) hz2, View.ld_unit_zero (S := S1x128) hz2, View.ld_unit_zero (S := S256x1024) hz2]
  simp only [same9, same10, same11, same25, same26, same39, same40, same13, same28, same33, same42, same47, same54, same59, same15, same30, same34, same44, same48, same56, same65, same16, same31, same35, same45, same49, same57, same66, same12, same27, same32, same41, same46, same53, same58, same37, same51, same67, same24, same38, same52]
  exact pay77 (yT e0 e3 e4 e5 e6 (tT0 es _) (tT1 es _) (tT2 es _) (tT3 es _) (tT4 es _) (tT5 es _) (tT6 es _) (tT7 es _)) e1 e2 e7 e8 ha d

end

end Cert.Proof.FfnF
-- ==== Proof.FfnFRef.lean ====
/- The reference of the feed-forward block's forward pass and loss gradient, read at an index on finite arguments: each
   stage is the embedding of a real expression. -/
module

public import proofs.«01_k».proof.Proof.Gen.ReferenceFIdeal.Read
public import proofs.«01_k».proof.Proof.FfnFModel
public import Idealize.ShloMosaic.Lib.ValueIdxRank1
public import Idealize.ShloMosaic.Lib.Pointwise.SelectCore

@[expose] public section

noncomputable section

namespace Cert.Proof.FfnF

open Cert.ReferenceFIdeal Cert.ReferenceFIdeal.Read Idealize.ShloMosaic Cert.Proof.Lift

/-- A one-row array's index names its column, a one-column array's its row. -/
abbrev col (i : S1x1024.Idx) : S1024.Idx := fun a => match a with | ⟨0, _⟩ => ⟨(i 1).val, (i 1).isLt⟩
abbrev row (i : S4096x1.Idx) : S4096.Idx := fun a => match a with | ⟨0, _⟩ => ⟨(i 0).val, (i 0).isLt⟩

theorem col_eq (i : S1x1024.Idx) (f : S1024.Idx) (h : (f 0).val = (i 0).val * 1024 + (i 1).val) : f = col i := by
  funext a
  match a with
  | ⟨0, _⟩ =>
    have h0 : (i 0).val < 1 := (i 0).isLt
    exact Fin.ext (h.trans (by show (i 0).val * 1024 + (i 1).val = (i 1).val; omega))

theorem row_eq (i : S4096x1.Idx) (f : S4096.Idx) (h : (f 0).val = (i 0).val * 1 + (i 1).val) : f = row i := by
  funext a
  match a with
  | ⟨0, _⟩ =>
    have h1 : (i 1).val < 1 := (i 1).isLt
    exact Fin.ext (h.trans (by show (i 0).val * 1 + (i 1).val = (i 0).val; omega))

theorem col82 (i) : idx_main_v82 i = col i := col_eq i _ rfl
theorem col86 (i) : idx_main_v86 i = col i := col_eq i _ rfl
theorem col109 (i) : idx_main_v109 i = col i := col_eq i _ rfl
theorem col110 (i) : idx_main_v110 i = col i := col_eq i _ rfl
theorem row92 (i) : idx_main_v92 i = row i := row_eq i _ rfl

/-- A row of the convolution's taps as a vector: its place in the one-row slice. -/
abbrev tap (i : S6144.Idx) : S1x6144.Idx := fun a => match a with | ⟨0, _⟩ => ⟨0, by show 0 < 1; decide⟩ | ⟨1, _⟩ => ⟨(i 0).val, (i 0).isLt⟩
theorem tap5 (i) : idx_main_v5 i = tap i := by
  funext a
  have h : (i 0).val < 6144 := (i 0).isLt
  match a with
  | ⟨0, _⟩ => first | rfl | exact Fin.ext (by show (i 0).val / 6144 = 0; omega)
  | ⟨1, _⟩ => first | rfl | exact Fin.ext (by show (i 0).val % 6144 = (i 0).val; omega)
theorem tap11 (i) : idx_main_v11 i = tap i := by
  funext a
  have h : (i 0).val < 6144 := (i 0).isLt
  match a with
  | ⟨0, _⟩ => first | rfl | exact Fin.ext (by show (i 0).val / 6144 = 0; omega)
  | ⟨1, _⟩ => first | rfl | exact Fin.ext (by show (i 0).val % 6144 = (i 0).val; omega)
theorem tap18 (i) : idx_main_v18 i = tap i := by
  funext a
  have h : (i 0).val < 6144 := (i 0).isLt
  match a with
  | ⟨0, _⟩ => first | rfl | exact Fin.ext (by show (i 0).val / 6144 = 0; omega)
  | ⟨1, _⟩ => first | rfl | exact Fin.ext (by show (i 0).val % 6144 = (i 0).val; omega)

/-- A sum over the rows of a vector. -/
theorem sum_rows (f : Fin 4096 → ℝ) : ∑ j : S4096.Idx, f (j 0) = ∑ s, f s :=
  Fintype.sum_equiv (ValueIdx.idxEquiv1 (n := 4096)) _ _ fun _ => rfl

/-- The chain rule through the mean square, summed up over a row. -/
theorem back_eq (v g : Fin 1024 → ℝ) (d : Fin 1024) :
    g d * rinv v + v d * ((∑ k, v k * g k) * (-(1 / 2) * (rinv v / msq v)) / 1024)
      + (∑ k, v k * g k) * (-(1 / 2) * (rinv v / msq v)) / 1024 * v d = back (rinv v) (fun k => v k * rinv v) g d := by
  have e : ∑ k, g k * (v k * rinv v) = (∑ k, v k * g k) * rinv v := by
    rw [Finset.sum_mul]
    exact Finset.sum_congr rfl fun k _ => by ring
  rw [back, e, div_eq_mul_inv (rinv v) (msq v), ← rinv_sq]
  ring

variable (A : Data) {x0 x1 x2 : (⟨S4096x1024, .f32⟩ : BufTy).Contents (Elt Ideal)} {x3 : (⟨S1024x6144, .f32⟩ : BufTy).Contents (Elt Ideal)}
  {x4 : (⟨S3072x1024, .f32⟩ : BufTy).Contents (Elt Ideal)} {x5 : (⟨S3x6144, .f32⟩ : BufTy).Contents (Elt Ideal)}
  {x6 : (⟨S6144, .f32⟩ : BufTy).Contents (Elt Ideal)} {x7 x8 : (⟨S1024, .f32⟩ : BufTy).Contents (Elt Ideal)}
  (h0 : ∀ i, x0 i = ((A.h (i 0) (i 1) : ℝ) : EReal)) (h1 : ∀ i, x1 i = ((A.x1 (i 0) (i 1) : ℝ) : EReal))
  (h2 : ∀ i, x2 i = ((A.tg (i 0) (i 1) : ℝ) : EReal)) (h3 : ∀ i, x3 i = ((A.wu (i 0) (i 1) : ℝ) : EReal))
  (h4 : ∀ i, x4 i = ((A.wd (i 0) (i 1) : ℝ) : EReal)) (h5 : ∀ i, x5 i = ((A.fw (i 0) (i 1) : ℝ) : EReal))
  (h6 : ∀ i, x6 i = ((A.fb (i 0) : ℝ) : EReal)) (h7 : ∀ i, x7 i = ((A.gt (i 0) : ℝ) : EReal))
  (h8 : ∀ i, x8 i = ((A.gp (i 0) : ℝ) : EReal))

include h0 h3 in
/-- The first product. -/
theorem ref0 (i) : val_main_v0 (F := Ideal) x0 x3 i = ((A.up (i 0) (i 1) : ℝ) : EReal) := by
  simp only [val_main_v0_apply, h0, h3,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]
  rfl

/-- The first product behind two rows of zeros. -/
theorem ref2lo (i : S4098x6144.Idx) (h : (i 0).val < 2) : val_main_v2 (F := Ideal) x0 x3 i = ((0 : ℝ) : EReal) := by
  have z : ∀ j, val_main_v1 (F := Ideal) j = ((0 : ℝ) : EReal) := fun j => by
    simp only [val_main_v1_apply, val_main_cst, constant, Ideal.ofBits_def, ofBits_zero]
  unfold val_main_v2
  rw [concatenate_pair_apply_left (s₁ := S2x6144) (s₂ := S4096x6144) 0 _ _ _ i rfl (fun b => match b with | ⟨0, _⟩ => ⟨(i 0).val, h⟩ | ⟨1, _⟩ => ⟨(i 1).val, (i 1).isLt⟩)
    (fun b => match b with | ⟨0, _⟩ => rfl | ⟨1, _⟩ => rfl)]
  exact z _

include h0 h3 in
theorem ref2hi (i : S4098x6144.Idx) (s : Fin 4096) (c : Fin 6144) (h : s.val + 2 = (i 0).val) (hc : c.val = (i 1).val) :
    val_main_v2 (F := Ideal) x0 x3 i = ((A.up s c : ℝ) : EReal) := by
  unfold val_main_v2
  rw [concatenate_pair_apply_right (s₁ := S2x6144) (s₂ := S4096x6144) 0 _ _ _ i rfl rfl (fun b => match b with | ⟨0, _⟩ => ⟨s.val, s.isLt⟩ | ⟨1, _⟩ => ⟨c.val, c.isLt⟩)
    (fun b hb => match b with | ⟨0, _⟩ => absurd rfl hb | ⟨1, _⟩ => hc) h]
  exact ref0 A h0 h3 _

include h0 h3 in
theorem ref3 (i) : val_main_v3 (F := Ideal) x0 x3 i = ((A.sh 2 (i 0) (i 1) : ℝ) : EReal) := by
  rw [val_main_v3_apply]
  unfold Data.sh
  by_cases hi : 2 ≤ (i 0).val
  · rw [if_pos hi, ref2hi A h0 h3 _ ⟨(i 0).val - 2, by have h := (i 0).isLt; exact (Nat.sub_le _ _).trans_lt h⟩ (i 1) (show (i 0).val - 2 + 2 = (i 0).val by omega) rfl]
  · rw [if_neg hi, ref2lo _ (show (i 0).val < 2 by omega)]

include h0 h3 in
theorem ref9 (i) : val_main_v9 (F := Ideal) x0 x3 i = ((A.sh 1 (i 0) (i 1) : ℝ) : EReal) := by
  rw [val_main_v9_apply]
  unfold Data.sh
  by_cases hi : 1 ≤ (i 0).val
  · rw [if_pos hi, ref2hi A h0 h3 _ ⟨(i 0).val - 1, by have h := (i 0).isLt; exact (Nat.sub_le _ _).trans_lt h⟩ (i 1) (show (i 0).val - 1 + 2 = 1 + (i 0).val by omega) rfl]
  · rw [if_neg hi, ref2lo _ (show 1 + (i 0).val < 2 by omega)]

include h0 h3 in
theorem ref16 (i) : val_main_v16 (F := Ideal) x0 x3 i = ((A.up (i 0) (i 1) : ℝ) : EReal) := by
  rw [val_main_v16_apply, ref2hi A h0 h3 _ (i 0) (i 1) (Nat.add_comm _ _) rfl]

include h0 h3 h5 h6 in
/-- The causal convolution. -/
theorem ref25 (i) : val_main_v25 (F := Ideal) x0 x3 x5 x6 i = ((A.pre (i 0) (i 1) : ℝ) : EReal) := by
  simp only [val_main_v25_apply, val_main_v24_apply, val_main_v23_apply, val_main_v22_apply, val_main_v21_apply, val_main_v20_apply, val_main_v19_apply, val_main_v18_apply, val_main_v17_apply, val_main_v15_apply, val_main_v14_apply, val_main_v13_apply, val_main_v12_apply, val_main_v11_apply, val_main_v10_apply, val_main_v8_apply, val_main_v7_apply, val_main_v6_apply, val_main_v5_apply, val_main_v4_apply, tap5, tap11, tap18, ref3 A h0 h3, ref9 A h0 h3, ref16 A h0 h3, h0, h3, h5, h6,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]
  refine congrArg (fun r : ℝ => (r : EReal)) ?_
  show A.sh 2 (i 0) (i 1) * A.fw 0 (i 1) + A.sh 1 (i 0) (i 1) * A.fw 1 (i 1) + A.up (i 0) (i 1) * A.fw 2 (i 1) + A.fb (i 1) = _
  unfold Data.pre
  ring

include h0 h3 h5 h6 in
theorem ref26 (i) : val_main_v26 (F := Ideal) x0 x3 x5 x6 i = ((A.pre (i 0) (gcol (i 1)) : ℝ) : EReal) := by
  simp only [val_main_v26_apply, ref25 A h0 h3 h5 h6, h0, h3, h5, h6,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]
  rfl

include h0 h3 h5 h6 in
theorem ref27 (i) : val_main_v27 (F := Ideal) x0 x3 x5 x6 i = ((A.pre (i 0) (vcol (i 1)) : ℝ) : EReal) := by
  simp only [val_main_v27_apply, ref25 A h0 h3 h5 h6, h0, h3, h5, h6,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]
  rfl

include h0 h3 h5 h6 in
/-- The gated activation. -/
theorem ref41 (i) : val_main_v41 (F := Ideal) x0 x3 x5 x6 i = ((A.act (i 0) (i 1) : ℝ) : EReal) := by
  simp only [val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_cst_0, val_main_cst_1, val_main_cst_2, val_main_cst_3, ref26 A h0 h3 h5 h6, ref27 A h0 h3 h5 h6, h0, h3, h5, h6,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]
  refine congrArg (fun r : ℝ => (r : EReal)) ?_
  unfold Data.act
  rw [← gelu_ref]

include h0 h3 h4 h5 h6 in
/-- The second product. -/
theorem ref42 (i) : val_main_v42 (F := Ideal) x0 x3 x4 x5 x6 i = ((A.y (i 0) (i 1) : ℝ) : EReal) := by
  simp only [val_main_v42_apply, ref41 A h0 h3 h5 h6, h0, h3, h4, h5, h6,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]
  rfl

include h0 h3 h4 h5 h6 in
/-- Its mean square. -/
theorem ref49 (i) : val_main_v49 (F := Ideal) x0 x3 x4 x5 x6 i = ((msq (A.y (i 0)) : ℝ) : EReal) := by
  simp only [val_main_v49_apply, val_main_v48_apply, val_main_v47_apply, val_main_v46_apply, val_main_v45_apply, val_main_v44_apply, val_main_v43_apply, val_main_cst_4, val_main_cst_5, val_main_cst_6, ref42 A h0 h3 h4 h5 h6, h0, h3, h4, h5, h6,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]
  rfl

include h0 h3 h4 h5 h6 in
theorem ref50 (i) : val_main_v50 (F := Ideal) x0 x3 x4 x5 x6 i = ((rinv (A.y (i 0)) : ℝ) : EReal) := by
  simp only [val_main_v50_apply, ref49 A h0 h3 h4 h5 h6, h0, h3, h4, h5, h6,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]

include h0 h3 h4 h5 h6 in
theorem ref53 (i) : val_main_v53 (F := Ideal) x0 x3 x4 x5 x6 i = ((-(1 / 2) * (rinv (A.y (i 0)) / msq (A.y (i 0))) : ℝ) : EReal) := by
  simp only [val_main_v53_apply, val_main_v52_apply, val_main_v51_apply, val_main_cst_7, ref49 A h0 h3 h4 h5 h6, ref50 A h0 h3 h4 h5 h6, h0, h3, h4, h5, h6,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]

include h0 h3 h4 h5 h6 in
/-- The second product, normed. -/
theorem ref55 (i) : val_main_v55 (F := Ideal) x0 x3 x4 x5 x6 i = ((A.yn (i 0) (i 1) : ℝ) : EReal) := by
  simp only [val_main_v55_apply, val_main_v54_apply, ref42 A h0 h3 h4 h5 h6, ref50 A h0 h3 h4 h5 h6, h0, h3, h4, h5, h6,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]
  rfl

include h0 h3 h4 h5 h6 h8 in
theorem ref58 (i) : val_main_v58 (F := Ideal) x0 x3 x4 x5 x6 x8 i = ((A.yn (i 0) (i 1) * A.gp (i 1) : ℝ) : EReal) := by
  simp only [val_main_v58_apply, val_main_v57_apply, val_main_v56_apply, ref55 A h0 h3 h4 h5 h6, h0, h3, h4, h5, h6, h8,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]
  rfl

include h0 h1 h2 h3 h4 h5 h6 h7 h8 in
/-- The difference to the target. -/
theorem ref63 (i) : val_main_v63 (F := Ideal) x0 x1 x2 x3 x4 x5 x6 x7 x8 i = ((A.e (i 0) (i 1) : ℝ) : EReal) := by
  simp only [val_main_v63_apply, val_main_v62_apply, val_main_v61_apply, val_main_v60_apply, val_main_v59_apply, ref58 A h0 h3 h4 h5 h6 h8, h0, h1, h2, h3, h4, h5, h6, h7, h8,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]
  rfl

include h0 h1 h2 h3 h4 h5 h6 h7 h8 in
/-- The loss. -/
theorem ref71 (i) : val_main_v71 (F := Ideal) x0 x1 x2 x3 x4 x5 x6 x7 x8 i = ((A.loss : ℝ) : EReal) := by
  simp only [val_main_v71_apply, val_main_v70_apply, val_main_v69_apply, val_main_v68_apply, val_main_v67_apply, val_main_v64_apply, val_main_cst_9, val_main_cst_10, val_main_cst_11, val_main_cst_12, ref63 A h0 h1 h2 h3 h4 h5 h6 h7 h8, h0, h1, h2, h3, h4, h5, h6, h7, h8,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]
  refine congrArg (fun r : ℝ => (r : EReal)) ?_
  refine (congrArg _ (sum_rows (fun s => (∑ d, A.e s d * A.e s d) / 1024))).trans ?_
  rw [Data.loss, Finset.mul_sum]
  exact Finset.sum_congr rfl fun s _ => by ring

include h0 h1 h2 h3 h4 h5 h6 h7 h8 in
/-- The gradient at the output. -/
theorem ref77 (i) : val_main_v77 (F := Ideal) x0 x1 x2 x3 x4 x5 x6 x7 x8 i = ((A.dx (i 0) (i 1) : ℝ) : EReal) := by
  simp only [val_main_v77_apply, val_main_v76_apply, val_main_v75_apply, val_main_v74_apply, val_main_v73_apply, val_main_v72_apply, val_main_v66_apply, val_main_v65_apply, val_main_cst_8, val_main_cst_13, val_main_cst_14, val_main_cst_15, ref63 A h0 h1 h2 h3 h4 h5 h6 h7 h8, h0, h1, h2, h3, h4, h5, h6, h7, h8,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]
  refine congrArg (fun r : ℝ => (r : EReal)) ?_
  unfold Data.dx
  ring

include h0 h1 h2 h3 h4 h5 h6 h7 h8 in
theorem ref79 (i) : val_main_v79 (F := Ideal) x0 x1 x2 x3 x4 x5 x6 x7 x8 i = ((A.dyn (i 0) (i 1) : ℝ) : EReal) := by
  simp only [val_main_v79_apply, val_main_v78_apply, val_main_v59_apply, ref77 A h0 h1 h2 h3 h4 h5 h6 h7 h8, h0, h1, h2, h3, h4, h5, h6, h7, h8,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]
  refine congrArg (fun r : ℝ => (r : EReal)) ?_
  exact mul_comm _ _

include h0 h1 h2 h3 h4 h5 h6 h7 h8 in
/-- The gate's gradient. -/
theorem ref109 (i) : val_main_v109 (F := Ideal) x0 x1 x2 x3 x4 x5 x6 x7 x8 i = ((A.dgt (i 1) : ℝ) : EReal) := by
  simp only [val_main_v109_apply, val_main_v83_apply, val_main_v82_apply, val_main_v81_apply, val_main_v80_apply, val_main_cst_16, val_main_cst_17, col109, col82, ref77 A h0 h1 h2 h3 h4 h5 h6 h7 h8, ref58 A h0 h3 h4 h5 h6 h8, h0, h1, h2, h3, h4, h5, h6, h7, h8,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]
  rfl

include h0 h1 h2 h3 h4 h5 h6 h7 h8 in
/-- The last norm's gradient. -/
theorem ref110 (i) : val_main_v110 (F := Ideal) x0 x1 x2 x3 x4 x5 x6 x7 x8 i = ((A.dgp (i 1) : ℝ) : EReal) := by
  simp only [val_main_v110_apply, val_main_v89_apply, val_main_v86_apply, val_main_v85_apply, val_main_v84_apply, val_main_cst_18, val_main_cst_19, col110, col86, ref55 A h0 h3 h4 h5 h6, ref79 A h0 h1 h2 h3 h4 h5 h6 h7 h8, h0, h1, h2, h3, h4, h5, h6, h7, h8,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]
  refine congrArg (fun r : ℝ => (r : EReal)) (Finset.sum_congr rfl fun s _ => ?_)
  exact mul_comm _ _

include h0 h1 h2 h3 h4 h5 h6 h7 h8 in
theorem ref88 (i) : val_main_v88 (F := Ideal) x0 x1 x2 x3 x4 x5 x6 x7 x8 i = ((A.dyn (i 0) (i 1) * A.gp (i 1) : ℝ) : EReal) := by
  simp only [val_main_v88_apply, val_main_v87_apply, val_main_v56_apply, ref79 A h0 h1 h2 h3 h4 h5 h6 h7 h8, h0, h1, h2, h3, h4, h5, h6, h7, h8,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]
  rfl

include h0 h1 h2 h3 h4 h5 h6 h7 h8 in
/-- The mean square's share of the gradient. -/
theorem ref98 (i) : val_main_v98 (F := Ideal) x0 x1 x2 x3 x4 x5 x6 x7 x8 i = (((∑ k, A.y (i 0) k * (A.dyn (i 0) k * A.gp k)) * (-(1 / 2) * (rinv (A.y (i 0)) / msq (A.y (i 0)))) / 1024 : ℝ) : EReal) := by
  simp only [val_main_v98_apply, val_main_v97_apply, val_main_v96_apply, val_main_v95_apply, val_main_v92_apply, val_main_v91_apply, val_main_v90_apply, val_main_cst_20, val_main_cst_21, val_main_cst_22, row92, ref42 A h0 h3 h4 h5 h6, ref53 A h0 h3 h4 h5 h6, ref88 A h0 h1 h2 h3 h4 h5 h6 h7 h8, h0, h1, h2, h3, h4, h5, h6, h7, h8,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]
  rfl

include h0 h1 h2 h3 h4 h5 h6 h7 h8 in
/-- The gradient at the second product. -/
theorem ref103 (i) : val_main_v103 (F := Ideal) x0 x1 x2 x3 x4 x5 x6 x7 x8 i = ((A.dy (i 0) (i 1) : ℝ) : EReal) := by
  simp only [val_main_v103_apply, val_main_v102_apply, val_main_v101_apply, val_main_v100_apply, val_main_v99_apply, val_main_v94_apply, val_main_v93_apply, ref42 A h0 h3 h4 h5 h6, ref50 A h0 h3 h4 h5 h6, ref88 A h0 h1 h2 h3 h4 h5 h6 h7 h8, ref98 A h0 h1 h2 h3 h4 h5 h6 h7 h8, h0, h1, h2, h3, h4, h5, h6, h7, h8,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]
  refine congrArg (fun r : ℝ => (r : EReal)) ?_
  exact back_eq (A.y (i 0)) (fun k => A.dyn (i 0) k * A.gp k) (i 1)

include h0 h3 in
theorem ref104 (i) : val_main_v104 (F := Ideal) x0 x3 i = ((A.up (i 0) (i 1) : ℝ) : EReal) := by
  simp only [val_main_v104_apply, ref0 A h0 h3, h0, h3,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]
  rfl

include h0 h3 h5 h6 in
theorem ref105 (i) : val_main_v105 (F := Ideal) x0 x3 x5 x6 i = ((A.pre (i 0) (i 1) : ℝ) : EReal) := by
  simp only [val_main_v105_apply, ref25 A h0 h3 h5 h6, h0, h3, h5, h6,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]
  rfl

include h0 h3 h5 h6 in
theorem ref106 (i) : val_main_v106 (F := Ideal) x0 x3 x5 x6 i = ((A.act (i 0) (i 1) : ℝ) : EReal) := by
  simp only [val_main_v106_apply, ref41 A h0 h3 h5 h6, h0, h3, h5, h6,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]
  rfl

include h0 h1 h2 h3 h4 h5 h6 h7 h8 in
theorem ref107 (i) : val_main_v107 (F := Ideal) x0 x1 x2 x3 x4 x5 x6 x7 x8 i = ((A.dy (i 0) (i 1) : ℝ) : EReal) := by
  simp only [val_main_v107_apply, ref103 A h0 h1 h2 h3 h4 h5 h6 h7 h8, h0, h1, h2, h3, h4, h5, h6, h7, h8,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]
  rfl

include h0 h1 h2 h3 h4 h5 h6 h7 h8 in
theorem ref108 (i) : val_main_v108 (F := Ideal) x0 x1 x2 x3 x4 x5 x6 x7 x8 i = ((A.loss : ℝ) : EReal) := by
  simp only [val_main_v108_apply, ref71 A h0 h1 h2 h3 h4 h5 h6 h7 h8, h0, h1, h2, h3, h4, h5, h6, h7, h8,
    constant, Ideal.ofBits_def, Ideal.addf_def, Ideal.subf_def, Ideal.mulf_def, Ideal.hostDivf_def, Ideal.hostUnary_rsqrt_def, Ideal.hostUnary_tanh_def, Ideal.tanh_coe, Ideal.hostConvertf_def, ofBits_zero, ofBits_one, ofBits_two, ofBits_half, ofBits_gc0, ofBits_gc1, ofBits_1024, ofBits_eps, ofBits_neghalf, ← EReal.coe_mul, ← EReal.coe_add, ← EReal.coe_sub, sum_coe, zero_add, div_1024, div_msq, rsqrt_msq, Fin.sum_univ_one, Finset.univ_unique, Finset.sum_singleton]

end Cert.Proof.FfnF
-- ==== Proof.FfnFEntry.lean ====
/- What the kernel of the feed-forward forward call finds in its input blocks, on finite arguments: 256 rows of the three row
   operands at each point, the weights in four groups of 1536 columns, and the vectors. -/
module

public import proofs.«01_k».proof.Proof.Gen.KernelFIdeal.Frame
public import proofs.«01_k».proof.Proof.FfnFRef
public import proofs.«01_k».proof.Proof.FfnFTile

@[expose] public section

noncomputable section

namespace Cert.Proof.FfnF

open Cert.KernelFIdeal Cert.KernelFIdeal.Gen Idealize.ShloMosaic Idealize.ShloMosaic.TcCoe Idealize.SL.Sem Cert.Proof.Lift

/-- The argument arrays hold the data. -/
structure Holds (A : Data) (x0 : (⟨S4096x1024, .f32⟩ : BufTy).Contents (Elt Ideal)) (x1 : (⟨S4096x1024, .f32⟩ : BufTy).Contents (Elt Ideal)) (x2 : (⟨S4096x1024, .f32⟩ : BufTy).Contents (Elt Ideal)) (x3 : (⟨S1024x6144, .f32⟩ : BufTy).Contents (Elt Ideal)) (x4 : (⟨S3072x1024, .f32⟩ : BufTy).Contents (Elt Ideal)) (x5 : (⟨S3x6144, .f32⟩ : BufTy).Contents (Elt Ideal)) (x6 : (⟨S6144, .f32⟩ : BufTy).Contents (Elt Ideal)) (x7 : (⟨S1024, .f32⟩ : BufTy).Contents (Elt Ideal)) (x8 : (⟨S1024, .f32⟩ : BufTy).Contents (Elt Ideal)) : Prop where
  h0 : ∀ i, x0 i = ((A.h (i 0) (i 1) : ℝ) : EReal)
  h1 : ∀ i, x1 i = ((A.x1 (i 0) (i 1) : ℝ) : EReal)
  h2 : ∀ i, x2 i = ((A.tg (i 0) (i 1) : ℝ) : EReal)
  h3 : ∀ i, x3 i = ((A.wu (i 0) (i 1) : ℝ) : EReal)
  h4 : ∀ i, x4 i = ((A.wd (i 0) (i 1) : ℝ) : EReal)
  h5 : ∀ i, x5 i = ((A.fw (i 0) (i 1) : ℝ) : EReal)
  h6 : ∀ i, x6 i = ((A.fb (i 0) : ℝ) : EReal)
  h7 : ∀ i, x7 i = ((A.gt (i 0) : ℝ) : EReal)
  h8 : ∀ i, x8 i = ((A.gp (i 0) : ℝ) : EReal)

/-- A vector laid out as one row. -/
theorem vec_cast1024 {x : S1024.Idx → EReal} {f : Fin 1024 → ℝ} (hx : ∀ i, x i = ((f (i 0) : ℝ) : EReal)) (d : Fin 1024) :
    shapeCast S1x1024 x shapeCasts_S1024_S1x1024 (ix2 0 d) = ((f d : ℝ) : EReal) :=
  (shapeCast_apply x _ (ix2 0 d) (ix1 d : S1024.Idx) (by rewrite [Shape.rowMajor_val_one, Shape.rowMajor_val_two]; show d.val = 0 * 1024 + d.val; omega)).trans (hx _)

/-- A vector laid out as one row. -/
theorem vec_cast6144 {x : S6144.Idx → EReal} {f : Fin 6144 → ℝ} (hx : ∀ i, x i = ((f (i 0) : ℝ) : EReal)) (d : Fin 6144) :
    shapeCast S1x6144 x shapeCasts_S6144_S1x6144 (ix2 0 d) = ((f d : ℝ) : EReal) :=
  (shapeCast_apply x _ (ix2 0 d) (ix1 d : S6144.Idx) (by rewrite [Shape.rowMajor_val_one, Shape.rowMajor_val_two]; show d.val = 0 * 6144 + d.val; omega)).trans (hx _)

/-- The weights laid out in four groups of 1536 columns. -/
theorem w_cast {x : S1024x6144.Idx → EReal} {f : Fin 1024 → Fin 6144 → ℝ} (hx : ∀ i, x i = ((f (i 0) (i 1) : ℝ) : EReal)) (k : Fin 4) (d : Fin 1024) (q : Fin 1536) :
    transpose S4x1024x1536 [1, 0, 2] (shapeCast S1024x4x1536 x shapeCasts_S1024x6144_S1024x4x1536) transposes_S1024x4x1536_S4x1024x1536_1_0_2 (ix3 k d q)
      = ((f d ⟨k.val * 1536 + q.val, wuLt k q⟩ : ℝ) : EReal) :=
  (transpose_apply [1, 0, 2] _ transposes_S1024x4x1536_S4x1024x1536_1_0_2 (ix3 k d q) (ix3 d k q) (fun b => match b with
    | ⟨0, _⟩ => rfl
    | ⟨1, _⟩ => rfl
    | ⟨2, _⟩ => rfl)).trans
    ((shapeCast_apply x _ (ix3 d k q) (ix2 d ⟨k.val * 1536 + q.val, wuLt k q⟩ : S1024x6144.Idx) (by
      rewrite [Shape.rowMajor_val_two, Shape.rowMajor_val_three]
      show d.val * 6144 + (k.val * 1536 + q.val) = (d.val * 4 + k.val) * 1536 + q.val
      omega)).trans (hx _))

/-- Which block of each operand a point reads: the rows' operands move with the point, the others stay. -/
theorem idx_in : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- A point of the grid as one of the sixteen. -/
def pn (t : Fin cfg0.N) : Fin 16 := ⟨t.val, lt_of_lt_of_eq t.isLt N_0⟩

variable (m : (ℓ : Loc nD τ sig) → Buf (Elt Ideal) ℓ) (c : Dev nD) (A : Data)

/-- … on device `c`. -/
abbrev HoldsAt : Prop := Holds A (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

variable {m c A} (H : HoldsAt m c A)
include H

theorem blk0 (t : Fin cfg0.N) (r : Fin 256) (d : Fin 1024) : (iblk m c 0 t : Vec Ideal S256x1024 .bf16) (ix2 r d) = ((A.h (rw_ (pn t) r) d : ℝ) : EReal) := by
  obtain ⟨a0, a1⟩ := (idx_in t).1
  have e : (V m c main_v0 : S4096x1024.Idx → EReal) = m ((c : Thread nD τ).loc main_arg0) := by
    unfold_abbrev_sides
    after_results
    rfl
  unfold iblk
  rw [View.read_apply]
  show (V m c main_v0 : S4096x1024.Idx → EReal) _ = _
  refine Eq.trans (congrArg _ (?_ : _ = (ix2 (rw_ (pn t) r) d : S4096x1024.Idx))) ((congrFun e _).trans (H.h0 _))
  funext a
  apply Fin.ext
  match a with
  | ⟨0, _⟩ => show win0_0.index t 0 * 256 + 1 * r.val = t.val * 256 + r.val; rw [a0]; omega
  | ⟨1, _⟩ => show win0_0.index t 1 * 1024 + 1 * d.val = d.val; rw [a1]; omega

theorem blk1 (t : Fin cfg0.N) (r : Fin 256) (d : Fin 1024) : (iblk m c 1 t : Vec Ideal S256x1024 .f32) (ix2 r d) = ((A.x1 (rw_ (pn t) r) d : ℝ) : EReal) := by
  obtain ⟨a0, a1⟩ := (idx_in t).2.1
  have e : (V m c main_arg1 : S4096x1024.Idx → EReal) = m ((c : Thread nD τ).loc main_arg1) := V_main_arg1 m c
  unfold iblk
  rw [View.read_apply]
  show (V m c main_arg1 : S4096x1024.Idx → EReal) _ = _
  refine Eq.trans (congrArg _ (?_ : _ = (ix2 (rw_ (pn t) r) d : S4096x1024.Idx))) ((congrFun e _).trans (H.h1 _))
  funext a
  apply Fin.ext
  match a with
  | ⟨0, _⟩ => show win0_1.index t 0 * 256 + 1 * r.val = t.val * 256 + r.val; rw [a0]; omega
  | ⟨1, _⟩ => show win0_1.index t 1 * 1024 + 1 * d.val = d.val; rw [a1]; omega

theorem blk2 (t : Fin cfg0.N) (r : Fin 256) (d : Fin 1024) : (iblk m c 2 t : Vec Ideal S256x1024 .f32) (ix2 r d) = ((A.tg (rw_ (pn t) r) d : ℝ) : EReal) := by
  obtain ⟨a0, a1⟩ := (idx_in t).2.2.1
  have e : (V m c main_arg2 : S4096x1024.Idx → EReal) = m ((c : Thread nD τ).loc main_arg2) := V_main_arg2 m c
  unfold iblk
  rw [View.read_apply]
  show (V m c main_arg2 : S4096x1024.Idx → EReal) _ = _
  refine Eq.trans (congrArg _ (?_ : _ = (ix2 (rw_ (pn t) r) d : S4096x1024.Idx))) ((congrFun e _).trans (H.h2 _))
  funext a
  apply Fin.ext
  match a with
  | ⟨0, _⟩ => show win0_2.index t 0 * 256 + 1 * r.val = t.val * 256 + r.val; rw [a0]; omega
  | ⟨1, _⟩ => show win0_2.index t 1 * 1024 + 1 * d.val = d.val; rw [a1]; omega

theorem blk3 (t : Fin cfg0.N) (k : Fin 4) (d : Fin 1024) (q : Fin 1536) : (iblk m c 3 t : Vec Ideal S4x1024x1536 .bf16) (ix3 k d q) = ((A.wu d ⟨k.val * 1536 + q.val, wuLt k q⟩ : ℝ) : EReal) := by
  obtain ⟨a0, a1, a2⟩ := (idx_in t).2.2.2.1
  have e : (V m c main_v3 : S4x1024x1536.Idx → EReal) = transpose S4x1024x1536 [1, 0, 2] (shapeCast S1024x4x1536 (m ((c : Thread nD τ).loc main_arg3) : S1024x6144.Idx → EReal) shapeCasts_S1024x6144_S1024x4x1536) transposes_S1024x4x1536_S4x1024x1536_1_0_2 := by
    unfold_abbrev_sides
    after_results
    rfl
  unfold iblk
  rw [View.read_apply]
  show (V m c main_v3 : S4x1024x1536.Idx → EReal) _ = _
  refine Eq.trans (congrArg _ (?_ : _ = (ix3 k d q : S4x1024x1536.Idx))) ((congrFun e _).trans (w_cast H.h3 k d q))
  funext a
  apply Fin.ext
  match a with
  | ⟨0, _⟩ => show win0_3.index t 0 * 4 + 1 * k.val = k.val; rw [a0]; omega
  | ⟨1, _⟩ => show win0_3.index t 1 * 1024 + 1 * d.val = d.val; rw [a1]; omega
  | ⟨2, _⟩ => show win0_3.index t 2 * 1536 + 1 * q.val = q.val; rw [a2]; omega

theorem blk4 (t : Fin cfg0.N) (r : Fin 3072) (d : Fin 1024) : (iblk m c 4 t : Vec Ideal S3072x1024 .bf16) (ix2 r d) = ((A.wd r d : ℝ) : EReal) := by
  obtain ⟨a0, a1⟩ := (idx_in t).2.2.2.2.1
  have e : (V m c main_v4 : S3072x1024.Idx → EReal) = m ((c : Thread nD τ).loc main_arg4) := by
    unfold_abbrev_sides
    after_results
    rfl
  unfold iblk
  rw [View.read_apply]
  show (V m c main_v4 : S3072x1024.Idx → EReal) _ = _
  refine Eq.trans (congrArg _ (?_ : _ = (ix2 r d : S3072x1024.Idx))) ((congrFun e _).trans (H.h4 _))
  funext a
  apply Fin.ext
  match a with
  | ⟨0, _⟩ => show win0_4.index t 0 * 3072 + 1 * r.val = r.val; rw [a0]; omega
  | ⟨1, _⟩ => show win0_4.index t 1 * 1024 + 1 * d.val = d.val; rw [a1]; omega

theorem blk5 (t : Fin cfg0.N) (r : Fin 3) (d : Fin 6144) : (iblk m c 5 t : Vec Ideal S3x6144 .f32) (ix2 r d) = ((A.fw r d : ℝ) : EReal) := by
  obtain ⟨a0, a1⟩ := (idx_in t).2.2.2.2.2.1
  have e : (V m c main_arg5 : S3x6144.Idx → EReal) = m ((c : Thread nD τ).loc main_arg5) := V_main_arg5 m c
  unfold iblk
  rw [View.read_apply]
  show (V m c main_arg5 : S3x6144.Idx → EReal) _ = _
  refine Eq.trans (congrArg _ (?_ : _ = (ix2 r d : S3x6144.Idx))) ((congrFun e _).trans (H.h5 _))
  funext a
  apply Fin.ext
  match a with
  | ⟨0, _⟩ => show win0_5.index t 0 * 3 + 1 * r.val = r.val; rw [a0]; omega
  | ⟨1, _⟩ => show win0_5.index t 1 * 6144 + 1 * d.val = d.val; rw [a1]; omega

theorem blk6 (t : Fin cfg0.N) (d : Fin 6144) : (iblk m c 6 t : Vec Ideal S1x6144 .f32) (ix2 0 d) = ((A.fb d : ℝ) : EReal) := by
  obtain ⟨a0, a1⟩ := (idx_in t).2.2.2.2.2.2.1
  have e : (V m c main_v5 : S1x6144.Idx → EReal) = shapeCast S1x6144 (m ((c : Thread nD τ).loc main_arg6) : S6144.Idx → EReal) shapeCasts_S6144_S1x6144 := by
    unfold_abbrev_sides
    after_results
    rfl
  unfold iblk
  rw [View.read_apply]
  show (V m c main_v5 : S1x6144.Idx → EReal) _ = _
  refine Eq.trans (congrArg _ (?_ : _ = (ix2 0 d : S1x6144.Idx))) ((congrFun e _).trans (vec_cast6144 H.h6 d))
  funext a
  apply Fin.ext
  match a with
  | ⟨0, _⟩ => show win0_6.index t 0 * 1 + 1 * 0 = 0; rw [a0]
  | ⟨1, _⟩ => show win0_6.index t 1 * 6144 + 1 * d.val = d.val; rw [a1]; omega

theorem blk7 (t : Fin cfg0.N) (d : Fin 1024) : (iblk m c 7 t : Vec Ideal S1x1024 .f32) (ix2 0 d) = ((A.gt d : ℝ) : EReal) := by
  obtain ⟨a0, a1⟩ := (idx_in t).2.2.2.2.2.2.2.1
  have e : (V m c main_v6 : S1x1024.Idx → EReal) = shapeCast S1x1024 (m ((c : Thread nD τ).loc main_arg7) : S1024.Idx → EReal) shapeCasts_S1024_S1x1024 := by
    unfold_abbrev_sides
    after_results
    rfl
  unfold iblk
  rw [View.read_apply]
  show (V m c main_v6 : S1x1024.Idx → EReal) _ = _
  refine Eq.trans (congrArg _ (?_ : _ = (ix2 0 d : S1x1024.Idx))) ((congrFun e _).trans (vec_cast1024 H.h7 d))
  funext a
  apply Fin.ext
  match a with
  | ⟨0, _⟩ => show win0_7.index t 0 * 1 + 1 * 0 = 0; rw [a0]
  | ⟨1, _⟩ => show win0_7.index t 1 * 1024 + 1 * d.val = d.val; rw [a1]; omega

theorem blk8 (t : Fin cfg0.N) (d : Fin 1024) : (iblk m c 8 t : Vec Ideal S1x1024 .f32) (ix2 0 d) = ((A.gp d : ℝ) : EReal) := by
  obtain ⟨a0, a1⟩ := (idx_in t).2.2.2.2.2.2.2.2
  have e : (V m c main_v7 : S1x1024.Idx → EReal) = shapeCast S1x1024 (m ((c : Thread nD τ).loc main_arg8) : S1024.Idx → EReal) shapeCasts_S1024_S1x1024 := by
    unfold_abbrev_sides
    after_results
    rfl
  unfold iblk
  rw [View.read_apply]
  show (V m c main_v7 : S1x1024.Idx → EReal) _ = _
  refine Eq.trans (congrArg _ (?_ : _ = (ix2 0 d : S1x1024.Idx))) ((congrFun e _).trans (vec_cast1024 H.h8 d))
  funext a
  apply Fin.ext
  match a with
  | ⟨0, _⟩ => show win0_8.index t 0 * 1 + 1 * 0 = 0; rw [a0]
  | ⟨1, _⟩ => show win0_8.index t 1 * 1024 + 1 * d.val = d.val; rw [a1]; omega

end Cert.Proof.FfnF
-- ==== Proof.FfnFSum.lean ====
/- The grid of the feed-forward forward call: each point leaves its 256 rows of the row results and carries its last eight rows of
   the up projection to the next; the loss and the two column sums run over the first `256 (n + 1)` positions after point `n`. -/
module

public import proofs.«01_k».proof.Proof.FfnFBlockA
public import proofs.«01_k».proof.Proof.FfnFBlockB
public import proofs.«01_k».proof.Proof.FfnFEntry

@[expose] public section

noncomputable section

namespace Cert.Proof.FfnF

open Cert.KernelFIdeal Cert.KernelFIdeal.Gen Idealize.ShloMosaic Idealize.ShloMosaic.TcCoe Idealize.SL.Sem Cert.Proof.Lift

/-- The sum over the first `256 n` positions. -/
def ext (f : Fin 4096 → ℝ) (i : ℕ) : ℝ := if h : i < 4096 then f ⟨i, h⟩ else 0
def upto (f : Fin 4096 → ℝ) (n : ℕ) : ℝ := ∑ i ∈ Finset.range (n * 256), ext f i

theorem upto_succ (f : Fin 4096 → ℝ) (t : Fin cfg0.N) : upto f (t.val + 1) = upto f t.val + ∑ r, f (rw_ (pn t) r) := by
  have ht := lt_of_lt_of_eq t.isLt (show cfg0.N = 16 from N_0)
  unfold upto
  rw [show (t.val + 1) * 256 = t.val * 256 + 256 by omega, Finset.sum_range_add, Finset.sum_range (n := 256)]
  refine congrArg _ (Finset.sum_congr rfl fun r _ => ?_)
  have hr := r.isLt
  exact dif_pos (show t.val * 256 + r.val < 4096 by omega)

theorem upto_zero (f : Fin 4096 → ℝ) : upto f 0 = 0 := by simp [upto]

theorem upto_first (f : Fin 4096 → ℝ) (h : 0 < cfg0.N) : upto f 1 = ∑ r, f (rw_ (pn ⟨0, h⟩) r) :=
  (upto_succ f ⟨0, h⟩).trans (by rw [upto_zero, zero_add])

theorem upto_all (f : Fin 4096 → ℝ) : upto f 16 = ∑ s, f s := by
  unfold upto
  rw [show 16 * 256 = 4096 by norm_num, Finset.sum_range]
  exact Finset.sum_congr rfl fun s _ => dif_pos s.isLt

/-- The rows carried into a point are the last eight of the point before. -/
theorem tl_succ (A : Data) (n : ℕ) (h : n < cfg0.N) (h' : n + 1 < cfg0.N) (i : Fin 8) (c : Fin 6144) :
    A.up (rw_ (pn ⟨n, h⟩) ⟨248 + i.val, by omega⟩) c = A.tl (pn ⟨n + 1, h'⟩) i c := by
  unfold Data.tl
  rw [dif_neg (show ¬(pn ⟨n + 1, h'⟩).val = 0 from Nat.succ_ne_zero n)]
  refine congrArg (fun s => A.up s c) (Fin.ext ?_)
  show n * 256 + (248 + i.val) = (n + 1) * 256 - 8 + i.val
  omega

variable {m : (ℓ : Loc nD τ sig) → Buf (Elt Ideal) ℓ} {c : Dev nD} {A : Data} (H : HoldsAt m c A)
include H

theorem outsS : ∀ (n : ℕ) (hn : n < cfg0.N) (i : Fin 8) (q : Fin 6144),
    (outsAt0 m c n hn).2.2.2.2.2.2.2.2 (ix2 i q) = ((A.up (rw_ (pn ⟨n, hn⟩) ⟨248 + i.val, by omega⟩) q : ℝ) : EReal)
  | 0, hn, i, q => by
    rw [outsAt0_A m c ⟨0, hn⟩ rfl]
    dsimp only
    exact oAs (A := A) (n := pn ⟨0, hn⟩) (e0 := blk0 H ⟨0, hn⟩) (e3 := blk3 H ⟨0, hn⟩) (j := ix2 i q) ..
  | n + 1, hn, i, q => by
    have hb : ¬(n + 1) % 16 = 0 := by have := lt_of_lt_of_eq hn (show cfg0.N = 16 from N_0); omega
    rw [outsAt0_B m c ⟨n + 1, hn⟩ hb]
    dsimp only
    exact oBs (A := A) (n := pn ⟨n + 1, hn⟩) (e0 := blk0 H ⟨n + 1, hn⟩) (e3 := blk3 H ⟨n + 1, hn⟩) (j := ix2 i q) ..

theorem outs9 : ∀ (n : ℕ) (hn : n < cfg0.N) (j : S256x6144.Idx),
    (outsAt0 m c n hn).1 j = ((A.up (rw_ (pn ⟨n, hn⟩) (j 0)) (j 1) : ℝ) : EReal)
  | 0, hn, j => by
    rw [outsAt0_A m c ⟨0, hn⟩ rfl]
    dsimp only
    exact oA9 (A := A) (n := pn ⟨0, hn⟩) (e0 := blk0 H ⟨0, hn⟩) (e3 := blk3 H ⟨0, hn⟩) (j := j) ..
  | n + 1, hn, j => by
    have hb : ¬(n + 1) % 16 = 0 := by have := lt_of_lt_of_eq hn (show cfg0.N = 16 from N_0); omega
    rw [outsAt0_B m c ⟨n + 1, hn⟩ hb]
    dsimp only
    exact oB9 (A := A) (n := pn ⟨n + 1, hn⟩) (e0 := blk0 H ⟨n + 1, hn⟩) (e3 := blk3 H ⟨n + 1, hn⟩) (j := j) ..

theorem outs10 : ∀ (n : ℕ) (hn : n < cfg0.N) (j : S256x6144.Idx),
    (outsAt0 m c n hn).2.1 j = ((A.pre (rw_ (pn ⟨n, hn⟩) (j 0)) (j 1) : ℝ) : EReal)
  | 0, hn, j => by
    rw [outsAt0_A m c ⟨0, hn⟩ rfl]
    dsimp only
    exact oA10 (A := A) (n := pn ⟨0, hn⟩) (e0 := blk0 H ⟨0, hn⟩) (e3 := blk3 H ⟨0, hn⟩) (e5 := blk5 H ⟨0, hn⟩) (e6 := blk6 H ⟨0, hn⟩) (hn := rfl) (j := j) ..
  | n + 1, hn, j => by
    have hb : ¬(n + 1) % 16 = 0 := by have := lt_of_lt_of_eq hn (show cfg0.N = 16 from N_0); omega
    rw [outsAt0_B m c ⟨n + 1, hn⟩ hb]
    dsimp only
    exact oB10 (A := A) (n := pn ⟨n + 1, hn⟩) (e0 := blk0 H ⟨n + 1, hn⟩) (e3 := blk3 H ⟨n + 1, hn⟩) (e5 := blk5 H ⟨n + 1, hn⟩) (e6 := blk6 H ⟨n + 1, hn⟩) (es := fun i q => (outsS H n (Nat.lt_of_succ_lt hn) i q).trans (congrArg (fun r : ℝ => (r : EReal)) (tl_succ A n (Nat.lt_of_succ_lt hn) hn i q))) (j := j) ..

theorem outs11 : ∀ (n : ℕ) (hn : n < cfg0.N) (j : S256x3072.Idx),
    (outsAt0 m c n hn).2.2.1 j = ((A.act (rw_ (pn ⟨n, hn⟩) (j 0)) (j 1) : ℝ) : EReal)
  | 0, hn, j => by
    rw [outsAt0_A m c ⟨0, hn⟩ rfl]
    dsimp only
    exact oA11 (A := A) (n := pn ⟨0, hn⟩) (e0 := blk0 H ⟨0, hn⟩) (e3 := blk3 H ⟨0, hn⟩) (e5 := blk5 H ⟨0, hn⟩) (e6 := blk6 H ⟨0, hn⟩) (hn := rfl) (j := j) ..
  | n + 1, hn, j => by
    have hb : ¬(n + 1) % 16 = 0 := by have := lt_of_lt_of_eq hn (show cfg0.N = 16 from N_0); omega
    rw [outsAt0_B m c ⟨n + 1, hn⟩ hb]
    dsimp only
    exact oB11 (A := A) (n := pn ⟨n + 1, hn⟩) (e0 := blk0 H ⟨n + 1, hn⟩) (e3 := blk3 H ⟨n + 1, hn⟩) (e5 := blk5 H ⟨n + 1, hn⟩) (e6 := blk6 H ⟨n + 1, hn⟩) (es := fun i q => (outsS H n (Nat.lt_of_succ_lt hn) i q).trans (congrArg (fun r : ℝ => (r : EReal)) (tl_succ A n (Nat.lt_of_succ_lt hn) hn i q))) (j := j) ..

theorem outs12 : ∀ (n : ℕ) (hn : n < cfg0.N) (r : Fin 256) (d : Fin 1024),
    (outsAt0 m c n hn).2.2.2.1 (ix2 r d) = ((A.dy (rw_ (pn ⟨n, hn⟩) r) d : ℝ) : EReal)
  | 0, hn, r, d => by
    rw [outsAt0_A m c ⟨0, hn⟩ rfl]
    dsimp only
    exact oA12 (A := A) (n := pn ⟨0, hn⟩) (e0 := blk0 H ⟨0, hn⟩) (e1 := blk1 H ⟨0, hn⟩) (e2 := blk2 H ⟨0, hn⟩) (e3 := blk3 H ⟨0, hn⟩) (e4 := blk4 H ⟨0, hn⟩) (e5 := blk5 H ⟨0, hn⟩) (e6 := blk6 H ⟨0, hn⟩) (e7 := blk7 H ⟨0, hn⟩) (e8 := blk8 H ⟨0, hn⟩) (hn := rfl) (r := r) (d := d) ..
  | n + 1, hn, r, d => by
    have hb : ¬(n + 1) % 16 = 0 := by have := lt_of_lt_of_eq hn (show cfg0.N = 16 from N_0); omega
    rw [outsAt0_B m c ⟨n + 1, hn⟩ hb]
    dsimp only
    exact oB12 (A := A) (n := pn ⟨n + 1, hn⟩) (e0 := blk0 H ⟨n + 1, hn⟩) (e1 := blk1 H ⟨n + 1, hn⟩) (e2 := blk2 H ⟨n + 1, hn⟩) (e3 := blk3 H ⟨n + 1, hn⟩) (e4 := blk4 H ⟨n + 1, hn⟩) (e5 := blk5 H ⟨n + 1, hn⟩) (e6 := blk6 H ⟨n + 1, hn⟩) (e7 := blk7 H ⟨n + 1, hn⟩) (e8 := blk8 H ⟨n + 1, hn⟩) (es := fun i q => (outsS H n (Nat.lt_of_succ_lt hn) i q).trans (congrArg (fun r : ℝ => (r : EReal)) (tl_succ A n (Nat.lt_of_succ_lt hn) hn i q))) (r := r) (d := d) ..

theorem outs13 : ∀ (n : ℕ) (hn : n < cfg0.N) (r : Fin 256) (d : Fin 1024),
    (outsAt0 m c n hn).2.2.2.2.1 (ix2 r d) = ((A.dx (rw_ (pn ⟨n, hn⟩) r) d : ℝ) : EReal)
  | 0, hn, r, d => by
    rw [outsAt0_A m c ⟨0, hn⟩ rfl]
    dsimp only
    exact oA13 (A := A) (n := pn ⟨0, hn⟩) (e0 := blk0 H ⟨0, hn⟩) (e1 := blk1 H ⟨0, hn⟩) (e2 := blk2 H ⟨0, hn⟩) (e3 := blk3 H ⟨0, hn⟩) (e4 := blk4 H ⟨0, hn⟩) (e5 := blk5 H ⟨0, hn⟩) (e6 := blk6 H ⟨0, hn⟩) (e7 := blk7 H ⟨0, hn⟩) (e8 := blk8 H ⟨0, hn⟩) (hn := rfl) (r := r) (d := d) ..
  | n + 1, hn, r, d => by
    have hb : ¬(n + 1) % 16 = 0 := by have := lt_of_lt_of_eq hn (show cfg0.N = 16 from N_0); omega
    rw [outsAt0_B m c ⟨n + 1, hn⟩ hb]
    dsimp only
    exact oB13 (A := A) (n := pn ⟨n + 1, hn⟩) (e0 := blk0 H ⟨n + 1, hn⟩) (e1 := blk1 H ⟨n + 1, hn⟩) (e2 := blk2 H ⟨n + 1, hn⟩) (e3 := blk3 H ⟨n + 1, hn⟩) (e4 := blk4 H ⟨n + 1, hn⟩) (e5 := blk5 H ⟨n + 1, hn⟩) (e6 := blk6 H ⟨n + 1, hn⟩) (e7 := blk7 H ⟨n + 1, hn⟩) (e8 := blk8 H ⟨n + 1, hn⟩) (es := fun i q => (outsS H n (Nat.lt_of_succ_lt hn) i q).trans (congrArg (fun r : ℝ => (r : EReal)) (tl_succ A n (Nat.lt_of_succ_lt hn) hn i q))) (r := r) (d := d) ..

theorem outs14 : ∀ (n : ℕ) (hn : n < cfg0.N) (d : Fin 128),
    (outsAt0 m c n hn).2.2.2.2.2.1 (ix2 0 d) = ((upto (fun s => (∑ k, A.e s k * A.e s k) * (1 / 2048)) (n + 1) : ℝ) : EReal)
  | 0, hn, d => by
    have hs := upto_first (fun s => (∑ k, A.e s k * A.e s k) * (1 / 2048)) hn
    rw [outsAt0_A m c ⟨0, hn⟩ rfl]
    dsimp only
    exact Eq.trans (oA14 (A := A) (n := pn ⟨0, hn⟩) (e0 := blk0 H ⟨0, hn⟩) (e1 := blk1 H ⟨0, hn⟩) (e2 := blk2 H ⟨0, hn⟩) (e3 := blk3 H ⟨0, hn⟩) (e4 := blk4 H ⟨0, hn⟩) (e5 := blk5 H ⟨0, hn⟩) (e6 := blk6 H ⟨0, hn⟩) (e7 := blk7 H ⟨0, hn⟩) (e8 := blk8 H ⟨0, hn⟩) (hn := rfl) (d := d) ..) (congrArg (fun r : ℝ => (r : EReal)) hs.symm)
  | n + 1, hn, d => by
    have hb : ¬(n + 1) % 16 = 0 := by have := lt_of_lt_of_eq hn (show cfg0.N = 16 from N_0); omega
    have hs := upto_succ (fun s => (∑ k, A.e s k * A.e s k) * (1 / 2048)) (⟨n + 1, hn⟩ : Fin cfg0.N)
    rw [outsAt0_B m c ⟨n + 1, hn⟩ hb]
    dsimp only
    exact Eq.trans (oB14 (A := A) (n := pn ⟨n + 1, hn⟩) (e0 := blk0 H ⟨n + 1, hn⟩) (e1 := blk1 H ⟨n + 1, hn⟩) (e2 := blk2 H ⟨n + 1, hn⟩) (e3 := blk3 H ⟨n + 1, hn⟩) (e4 := blk4 H ⟨n + 1, hn⟩) (e5 := blk5 H ⟨n + 1, hn⟩) (e6 := blk6 H ⟨n + 1, hn⟩) (e7 := blk7 H ⟨n + 1, hn⟩) (e8 := blk8 H ⟨n + 1, hn⟩) (es := fun i q => (outsS H n (Nat.lt_of_succ_lt hn) i q).trans (congrArg (fun r : ℝ => (r : EReal)) (tl_succ A n (Nat.lt_of_succ_lt hn) hn i q))) (L := upto (fun s => (∑ k, A.e s k * A.e s k) * (1 / 2048)) (n + 1)) (ha := outs14 n (Nat.lt_of_succ_lt hn)) (d := d) ..) (congrArg (fun r : ℝ => (r : EReal)) hs.symm)

theorem outs15 : ∀ (n : ℕ) (hn : n < cfg0.N) (d : Fin 1024),
    (outsAt0 m c n hn).2.2.2.2.2.2.1 (ix2 0 d) = ((upto (fun s => A.dx s d * (A.yn s d * A.gp d)) (n + 1) : ℝ) : EReal)
  | 0, hn, d => by
    have hs := upto_first (fun s => A.dx s d * (A.yn s d * A.gp d)) hn
    rw [outsAt0_A m c ⟨0, hn⟩ rfl]
    dsimp only
    exact Eq.trans (oA15 (A := A) (n := pn ⟨0, hn⟩) (e0 := blk0 H ⟨0, hn⟩) (e1 := blk1 H ⟨0, hn⟩) (e2 := blk2 H ⟨0, hn⟩) (e3 := blk3 H ⟨0, hn⟩) (e4 := blk4 H ⟨0, hn⟩) (e5 := blk5 H ⟨0, hn⟩) (e6 := blk6 H ⟨0, hn⟩) (e7 := blk7 H ⟨0, hn⟩) (e8 := blk8 H ⟨0, hn⟩) (hn := rfl) (d := d) ..) (congrArg (fun r : ℝ => (r : EReal)) hs.symm)
  | n + 1, hn, d => by
    have hb : ¬(n + 1) % 16 = 0 := by have := lt_of_lt_of_eq hn (show cfg0.N = 16 from N_0); omega
    have hs := upto_succ (fun s => A.dx s d * (A.yn s d * A.gp d)) (⟨n + 1, hn⟩ : Fin cfg0.N)
    rw [outsAt0_B m c ⟨n + 1, hn⟩ hb]
    dsimp only
    exact Eq.trans (oB15 (A := A) (n := pn ⟨n + 1, hn⟩) (e0 := blk0 H ⟨n + 1, hn⟩) (e1 := blk1 H ⟨n + 1, hn⟩) (e2 := blk2 H ⟨n + 1, hn⟩) (e3 := blk3 H ⟨n + 1, hn⟩) (e4 := blk4 H ⟨n + 1, hn⟩) (e5 := blk5 H ⟨n + 1, hn⟩) (e6 := blk6 H ⟨n + 1, hn⟩) (e7 := blk7 H ⟨n + 1, hn⟩) (e8 := blk8 H ⟨n + 1, hn⟩) (es := fun i q => (outsS H n (Nat.lt_of_succ_lt hn) i q).trans (congrArg (fun r : ℝ => (r : EReal)) (tl_succ A n (Nat.lt_of_succ_lt hn) hn i q))) (ACC := fun d => upto (fun s => A.dx s d * (A.yn s d * A.gp d)) (n + 1)) (ha := outs15 n (Nat.lt_of_succ_lt hn)) (d := d) ..) (congrArg (fun r : ℝ => (r : EReal)) hs.symm)

theorem outs16 : ∀ (n : ℕ) (hn : n < cfg0.N) (d : Fin 1024),
    (outsAt0 m c n hn).2.2.2.2.2.2.2.1 (ix2 0 d) = ((upto (fun s => A.dyn s d * A.yn s d) (n + 1) : ℝ) : EReal)
  | 0, hn, d => by
    have hs := upto_first (fun s => A.dyn s d * A.yn s d) hn
    rw [outsAt0_A m c ⟨0, hn⟩ rfl]
    dsimp only
    exact Eq.trans (oA16 (A := A) (n := pn ⟨0, hn⟩) (e0 := blk0 H ⟨0, hn⟩) (e1 := blk1 H ⟨0, hn⟩) (e2 := blk2 H ⟨0, hn⟩) (e3 := blk3 H ⟨0, hn⟩) (e4 := blk4 H ⟨0, hn⟩) (e5 := blk5 H ⟨0, hn⟩) (e6 := blk6 H ⟨0, hn⟩) (e7 := blk7 H ⟨0, hn⟩) (e8 := blk8 H ⟨0, hn⟩) (hn := rfl) (d := d) ..) (congrArg (fun r : ℝ => (r : EReal)) hs.symm)
  | n + 1, hn, d => by
    have hb : ¬(n + 1) % 16 = 0 := by have := lt_of_lt_of_eq hn (show cfg0.N = 16 from N_0); omega
    have hs := upto_succ (fun s => A.dyn s d * A.yn s d) (⟨n + 1, hn⟩ : Fin cfg0.N)
    rw [outsAt0_B m c ⟨n + 1, hn⟩ hb]
    dsimp only
    exact Eq.trans (oB16 (A := A) (n := pn ⟨n + 1, hn⟩) (e0 := blk0 H ⟨n + 1, hn⟩) (e1 := blk1 H ⟨n + 1, hn⟩) (e2 := blk2 H ⟨n + 1, hn⟩) (e3 := blk3 H ⟨n + 1, hn⟩) (e4 := blk4 H ⟨n + 1, hn⟩) (e5 := blk5 H ⟨n + 1, hn⟩) (e6 := blk6 H ⟨n + 1, hn⟩) (e7 := blk7 H ⟨n + 1, hn⟩) (e8 := blk8 H ⟨n + 1, hn⟩) (es := fun i q => (outsS H n (Nat.lt_of_succ_lt hn) i q).trans (congrArg (fun r : ℝ => (r : EReal)) (tl_succ A n (Nat.lt_of_succ_lt hn) hn i q))) (ACC := fun d => upto (fun s => A.dyn s d * A.yn s d) (n + 1)) (ha := outs16 n (Nat.lt_of_succ_lt hn)) (d := d) ..) (congrArg (fun r : ℝ => (r : EReal)) hs.symm)

end Cert.Proof.FfnF
-- ==== Proof.FfnFValue.lean ====
/- The feed-forward forward call, closed: the arrays the kernel's run leaves are the reference's, on finite arguments. -/
module

public import proofs.«01_k».proof.Defs
public import proofs.«01_k».proof.Proof.Gen.KernelFIdeal.Value
public import proofs.«01_k».proof.Proof.Gen.Pre_finite_f
public import proofs.«01_k».proof.Proof.Gen.ReferenceFIdeal
public import proofs.«01_k».proof.Proof.Finite
public import proofs.«01_k».proof.Proof.FfnFSum

@[expose] public section

noncomputable section

namespace Cert.Proof.FfnF

open Cert.KernelFIdeal Cert.KernelFIdeal.Gen Cert.KernelFIdeal.Value Idealize.ShloMosaic Idealize.ShloMosaic.TcCoe Idealize.SL.Sem Cert.Proof.Lift Cert.Proof.Finite

section Arrays
variable {m : (ℓ : Loc nD τ sig) → Buf (Elt Ideal) ℓ} {c : Dev nD} {A : Data} (H : HoldsAt m c A)

theorem idx9 : ∀ t : Fin cfg0.N, win0_9.index t (0 : Fin 2) = t.val ∧ win0_9.index t (1 : Fin 2) = 0 ∧ win0_9.flush t = true :=
  (by decide +kernel : ∀ t : Fin grid0.N, _)

include H in
theorem arr9 : (dats m 0 c).arrAt 9 cfg0.N = fun i : S4096x6144.Idx => ((A.up (i 0) (i 1) : ℝ) : EReal) := by
  refine (dats m 0 c).arrAt_eq_of_cover 9 _ (fun t hf => ?_) (fun i => ?_)
  · rw [flushed9]
    obtain ⟨a0, a1, -⟩ := idx9 t
    funext y
    show (outsAt0 m c t.val t.isLt).1 ((cfg0.win 9).xinj (grid0.coords t) y) = _
    refine (outs9 H t.val t.isLt _).trans (congrArg (fun r : ℝ => (r : EReal)) (congrArg₂ A.up (Fin.ext ?_) (Fin.ext ?_)))
    · show t.val * 256 + (y 0).val = win0_9.index t 0 * 256 + 1 * (y 0).val
      rw [a0]; omega
    · show (y 1).val = win0_9.index t 1 * 6144 + 1 * (y 1).val
      rw [a1]; omega
  · have h0 : (i 0).val < 4096 := (i 0).isLt
    have h1 : (i 1).val < 6144 := (i 1).isLt
    let t : Fin cfg0.N := ⟨(i 0).val / 256, lt_of_lt_of_eq (by omega) N_0.symm⟩
    have ht : t.val = (i 0).val / 256 := rfl
    obtain ⟨a0, a1, hf⟩ := idx9 t
    refine ⟨t, hf, ?_⟩
    show i ∈ ((View.whole main_v8_0).slice (win0_9.rect t)).set
    rw [View.set_slice_whole, Rect.mem_set_unit]
    intro a
    match a with
    | ⟨0, _⟩ => show win0_9.index t 0 * 256 ≤ (i 0).val ∧ (i 0).val < win0_9.index t 0 * 256 + 256; rw [a0, ht]; omega
    | ⟨1, _⟩ => show win0_9.index t 1 * 6144 ≤ (i 1).val ∧ (i 1).val < win0_9.index t 1 * 6144 + 6144; rw [a1]; omega

theorem idx10 : ∀ t : Fin cfg0.N, win0_10.index t (0 : Fin 2) = t.val ∧ win0_10.index t (1 : Fin 2) = 0 ∧ win0_10.flush t = true :=
  (by decide +kernel : ∀ t : Fin grid0.N, _)

include H in
theorem arr10 : (dats m 0 c).arrAt 10 cfg0.N = fun i : S4096x6144.Idx => ((A.pre (i 0) (i 1) : ℝ) : EReal) := by
  refine (dats m 0 c).arrAt_eq_of_cover 10 _ (fun t hf => ?_) (fun i => ?_)
  · rw [flushed10]
    obtain ⟨a0, a1, -⟩ := idx10 t
    funext y
    show (outsAt0 m c t.val t.isLt).2.1 ((cfg0.win 10).xinj (grid0.coords t) y) = _
    refine (outs10 H t.val t.isLt _).trans (congrArg (fun r : ℝ => (r : EReal)) (congrArg₂ A.pre (Fin.ext ?_) (Fin.ext ?_)))
    · show t.val * 256 + (y 0).val = win0_10.index t 0 * 256 + 1 * (y 0).val
      rw [a0]; omega
    · show (y 1).val = win0_10.index t 1 * 6144 + 1 * (y 1).val
      rw [a1]; omega
  · have h0 : (i 0).val < 4096 := (i 0).isLt
    have h1 : (i 1).val < 6144 := (i 1).isLt
    let t : Fin cfg0.N := ⟨(i 0).val / 256, lt_of_lt_of_eq (by omega) N_0.symm⟩
    have ht : t.val = (i 0).val / 256 := rfl
    obtain ⟨a0, a1, hf⟩ := idx10 t
    refine ⟨t, hf, ?_⟩
    show i ∈ ((View.whole main_v8_1).slice (win0_10.rect t)).set
    rw [View.set_slice_whole, Rect.mem_set_unit]
    intro a
    match a with
    | ⟨0, _⟩ => show win0_10.index t 0 * 256 ≤ (i 0).val ∧ (i 0).val < win0_10.index t 0 * 256 + 256; rw [a0, ht]; omega
    | ⟨1, _⟩ => show win0_10.index t 1 * 6144 ≤ (i 1).val ∧ (i 1).val < win0_10.index t 1 * 6144 + 6144; rw [a1]; omega

theorem idx11 : ∀ t : Fin cfg0.N, win0_11.index t (0 : Fin 2) = t.val ∧ win0_11.index t (1 : Fin 2) = 0 ∧ win0_11.flush t = true :=
  (by decide +kernel : ∀ t : Fin grid0.N, _)

include H in
theorem arr11 : (dats m 0 c).arrAt 11 cfg0.N = fun i : S4096x3072.Idx => ((A.act (i 0) (i 1) : ℝ) : EReal) := by
  refine (dats m 0 c).arrAt_eq_of_cover 11 _ (fun t hf => ?_) (fun i => ?_)
  · rw [flushed11]
    obtain ⟨a0, a1, -⟩ := idx11 t
    funext y
    show (outsAt0 m c t.val t.isLt).2.2.1 ((cfg0.win 11).xinj (grid0.coords t) y) = _
    refine (outs11 H t.val t.isLt _).trans (congrArg (fun r : ℝ => (r : EReal)) (congrArg₂ A.act (Fin.ext ?_) (Fin.ext ?_)))
    · show t.val * 256 + (y 0).val = win0_11.index t 0 * 256 + 1 * (y 0).val
      rw [a0]; omega
    · show (y 1).val = win0_11.index t 1 * 3072 + 1 * (y 1).val
      rw [a1]; omega
  · have h0 : (i 0).val < 4096 := (i 0).isLt
    have h1 : (i 1).val < 3072 := (i 1).isLt
    let t : Fin cfg0.N := ⟨(i 0).val / 256, lt_of_lt_of_eq (by omega) N_0.symm⟩
    have ht : t.val = (i 0).val / 256 := rfl
    obtain ⟨a0, a1, hf⟩ := idx11 t
    refine ⟨t, hf, ?_⟩
    show i ∈ ((View.whole main_v8_2).slice (win0_11.rect t)).set
    rw [View.set_slice_whole, Rect.mem_set_unit]
    intro a
    match a with
    | ⟨0, _⟩ => show win0_11.index t 0 * 256 ≤ (i 0).val ∧ (i 0).val < win0_11.index t 0 * 256 + 256; rw [a0, ht]; omega
    | ⟨1, _⟩ => show win0_11.index t 1 * 3072 ≤ (i 1).val ∧ (i 1).val < win0_11.index t 1 * 3072 + 3072; rw [a1]; omega

theorem idx12 : ∀ t : Fin cfg0.N, win0_12.index t (0 : Fin 2) = t.val ∧ win0_12.index t (1 : Fin 2) = 0 ∧ win0_12.flush t = true :=
  (by decide +kernel : ∀ t : Fin grid0.N, _)

include H in
theorem arr12 : (dats m 0 c).arrAt 12 cfg0.N = fun i : S4096x1024.Idx => ((A.dy (i 0) (i 1) : ℝ) : EReal) := by
  refine (dats m 0 c).arrAt_eq_of_cover 12 _ (fun t hf => ?_) (fun i => ?_)
  · rw [flushed12]
    obtain ⟨a0, a1, -⟩ := idx12 t
    funext y
    show (outsAt0 m c t.val t.isLt).2.2.2.1 ((cfg0.win 12).xinj (grid0.coords t) y) = _
    refine ((congrArg _ (eq_ix2 _)).trans (outs12 H t.val t.isLt _ _)).trans (congrArg (fun r : ℝ => (r : EReal)) (congrArg₂ A.dy (Fin.ext ?_) (Fin.ext ?_)))
    · show t.val * 256 + (y 0).val = win0_12.index t 0 * 256 + 1 * (y 0).val
      rw [a0]; omega
    · show (y 1).val = win0_12.index t 1 * 1024 + 1 * (y 1).val
      rw [a1]; omega
  · have h0 : (i 0).val < 4096 := (i 0).isLt
    have h1 : (i 1).val < 1024 := (i 1).isLt
    let t : Fin cfg0.N := ⟨(i 0).val / 256, lt_of_lt_of_eq (by omega) N_0.symm⟩
    have ht : t.val = (i 0).val / 256 := rfl
    obtain ⟨a0, a1, hf⟩ := idx12 t
    refine ⟨t, hf, ?_⟩
    show i ∈ ((View.whole main_v8_3).slice (win0_12.rect t)).set
    rw [View.set_slice_whole, Rect.mem_set_unit]
    intro a
    match a with
    | ⟨0, _⟩ => show win0_12.index t 0 * 256 ≤ (i 0).val ∧ (i 0).val < win0_12.index t 0 * 256 + 256; rw [a0, ht]; omega
    | ⟨1, _⟩ => show win0_12.index t 1 * 1024 ≤ (i 1).val ∧ (i 1).val < win0_12.index t 1 * 1024 + 1024; rw [a1]; omega

theorem idx13 : ∀ t : Fin cfg0.N, win0_13.index t (0 : Fin 2) = t.val ∧ win0_13.index t (1 : Fin 2) = 0 ∧ win0_13.flush t = true :=
  (by decide +kernel : ∀ t : Fin grid0.N, _)

include H in
theorem arr13 : (dats m 0 c).arrAt 13 cfg0.N = fun i : S4096x1024.Idx => ((A.dx (i 0) (i 1) : ℝ) : EReal) := by
  refine (dats m 0 c).arrAt_eq_of_cover 13 _ (fun t hf => ?_) (fun i => ?_)
  · rw [flushed13]
    obtain ⟨a0, a1, -⟩ := idx13 t
    funext y
    show (outsAt0 m c t.val t.isLt).2.2.2.2.1 ((cfg0.win 13).xinj (grid0.coords t) y) = _
    refine ((congrArg _ (eq_ix2 _)).trans (outs13 H t.val t.isLt _ _)).trans (congrArg (fun r : ℝ => (r : EReal)) (congrArg₂ A.dx (Fin.ext ?_) (Fin.ext ?_)))
    · show t.val * 256 + (y 0).val = win0_13.index t 0 * 256 + 1 * (y 0).val
      rw [a0]; omega
    · show (y 1).val = win0_13.index t 1 * 1024 + 1 * (y 1).val
      rw [a1]; omega
  · have h0 : (i 0).val < 4096 := (i 0).isLt
    have h1 : (i 1).val < 1024 := (i 1).isLt
    let t : Fin cfg0.N := ⟨(i 0).val / 256, lt_of_lt_of_eq (by omega) N_0.symm⟩
    have ht : t.val = (i 0).val / 256 := rfl
    obtain ⟨a0, a1, hf⟩ := idx13 t
    refine ⟨t, hf, ?_⟩
    show i ∈ ((View.whole main_v8_4).slice (win0_13.rect t)).set
    rw [View.set_slice_whole, Rect.mem_set_unit]
    intro a
    match a with
    | ⟨0, _⟩ => show win0_13.index t 0 * 256 ≤ (i 0).val ∧ (i 0).val < win0_13.index t 0 * 256 + 256; rw [a0, ht]; omega
    | ⟨1, _⟩ => show win0_13.index t 1 * 1024 ≤ (i 1).val ∧ (i 1).val < win0_13.index t 1 * 1024 + 1024; rw [a1]; omega

theorem idx14 : ∀ t : Fin cfg0.N, win0_14.index t (0 : Fin 2) = 0 ∧ win0_14.index t (1 : Fin 2) = 0 ∧ (win0_14.flush t = true ↔ t.val = 15) :=
  (by decide +kernel : ∀ t : Fin grid0.N, _)

include H in
theorem arr14 : (dats m 0 c).arrAt 14 cfg0.N = fun i : S1x128.Idx => ((A.loss : ℝ) : EReal) := by
  refine (dats m 0 c).arrAt_eq_of_cover 14 _ (fun t hf => ?_) (fun i => ?_)
  · rw [flushed14]
    obtain ⟨a0, a1, a2⟩ := idx14 t
    have h7 : t.val = 15 := a2.1 hf
    funext y
    have hy : (y 0).val < 1 := (y 0).isLt
    show (outsAt0 m c t.val t.isLt).2.2.2.2.2.1 ((cfg0.win 14).xinj (grid0.coords t) y) = _
    have e : (cfg0.win 14).xinj (grid0.coords t) y = (ix2 0 (y 1) : S1x128.Idx) := by
      funext a
      apply Fin.ext
      match a with
      | ⟨0, _⟩ => show (y 0).val = 0; omega
      | ⟨1, _⟩ => rfl
    refine (congrArg _ e).trans ((outs14 H t.val t.isLt _).trans (congrArg (fun r : ℝ => (r : EReal)) ?_))
    rw [show t.val + 1 = 16 by omega, upto_all]
    rfl
  · have h0 : (i 0).val < 1 := (i 0).isLt
    have h1 : (i 1).val < 128 := (i 1).isLt
    let t : Fin cfg0.N := ⟨15, lt_of_lt_of_eq (by omega) N_0.symm⟩
    obtain ⟨a0, a1, a2⟩ := idx14 t
    refine ⟨t, a2.2 rfl, ?_⟩
    show i ∈ ((View.whole main_v8_5).slice (win0_14.rect t)).set
    rw [View.set_slice_whole, Rect.mem_set_unit]
    intro a
    match a with
    | ⟨0, _⟩ => show win0_14.index t 0 * 1 ≤ (i 0).val ∧ (i 0).val < win0_14.index t 0 * 1 + 1; rw [a0]; omega
    | ⟨1, _⟩ => show win0_14.index t 1 * 128 ≤ (i 1).val ∧ (i 1).val < win0_14.index t 1 * 128 + 128; rw [a1]; omega

theorem idx15 : ∀ t : Fin cfg0.N, win0_15.index t (0 : Fin 2) = 0 ∧ win0_15.index t (1 : Fin 2) = 0 ∧ (win0_15.flush t = true ↔ t.val = 15) :=
  (by decide +kernel : ∀ t : Fin grid0.N, _)

include H in
theorem arr15 : (dats m 0 c).arrAt 15 cfg0.N = fun i : S1x1024.Idx => ((A.dgt (i 1) : ℝ) : EReal) := by
  refine (dats m 0 c).arrAt_eq_of_cover 15 _ (fun t hf => ?_) (fun i => ?_)
  · rw [flushed15]
    obtain ⟨a0, a1, a2⟩ := idx15 t
    have h7 : t.val = 15 := a2.1 hf
    funext y
    have hy : (y 0).val < 1 := (y 0).isLt
    show (outsAt0 m c t.val t.isLt).2.2.2.2.2.2.1 ((cfg0.win 15).xinj (grid0.coords t) y) = _
    have e : (cfg0.win 15).xinj (grid0.coords t) y = (ix2 0 (y 1) : S1x1024.Idx) := by
      funext a
      apply Fin.ext
      match a with
      | ⟨0, _⟩ => show (y 0).val = 0; omega
      | ⟨1, _⟩ => rfl
    refine (congrArg _ e).trans ((outs15 H t.val t.isLt _).trans (congrArg (fun r : ℝ => (r : EReal)) ?_))
    rw [show t.val + 1 = 16 by omega, upto_all]
    refine congrArg A.dgt (Fin.ext ?_)
    show (y 1).val = win0_15.index t 1 * 1024 + 1 * (y 1).val
    rw [a1]; omega
  · have h0 : (i 0).val < 1 := (i 0).isLt
    have h1 : (i 1).val < 1024 := (i 1).isLt
    let t : Fin cfg0.N := ⟨15, lt_of_lt_of_eq (by omega) N_0.symm⟩
    obtain ⟨a0, a1, a2⟩ := idx15 t
    refine ⟨t, a2.2 rfl, ?_⟩
    show i ∈ ((View.whole main_v8_6).slice (win0_15.rect t)).set
    rw [View.set_slice_whole, Rect.mem_set_unit]
    intro a
    match a with
    | ⟨0, _⟩ => show win0_15.index t 0 * 1 ≤ (i 0).val ∧ (i 0).val < win0_15.index t 0 * 1 + 1; rw [a0]; omega
    | ⟨1, _⟩ => show win0_15.index t 1 * 1024 ≤ (i 1).val ∧ (i 1).val < win0_15.index t 1 * 1024 + 1024; rw [a1]; omega

theorem idx16 : ∀ t : Fin cfg0.N, win0_16.index t (0 : Fin 2) = 0 ∧ win0_16.index t (1 : Fin 2) = 0 ∧ (win0_16.flush t = true ↔ t.val = 15) :=
  (by decide +kernel : ∀ t : Fin grid0.N, _)

include H in
theorem arr16 : (dats m 0 c).arrAt 16 cfg0.N = fun i : S1x1024.Idx => ((A.dgp (i 1) : ℝ) : EReal) := by
  refine (dats m 0 c).arrAt_eq_of_cover 16 _ (fun t hf => ?_) (fun i => ?_)
  · rw [flushed16]
    obtain ⟨a0, a1, a2⟩ := idx16 t
    have h7 : t.val = 15 := a2.1 hf
    funext y
    have hy : (y 0).val < 1 := (y 0).isLt
    show (outsAt0 m c t.val t.isLt).2.2.2.2.2.2.2.1 ((cfg0.win 16).xinj (grid0.coords t) y) = _
    have e : (cfg0.win 16).xinj (grid0.coords t) y = (ix2 0 (y 1) : S1x1024.Idx) := by
      funext a
      apply Fin.ext
      match a with
      | ⟨0, _⟩ => show (y 0).val = 0; omega
      | ⟨1, _⟩ => rfl
    refine (congrArg _ e).trans ((outs16 H t.val t.isLt _).trans (congrArg (fun r : ℝ => (r : EReal)) ?_))
    rw [show t.val + 1 = 16 by omega, upto_all]
    refine congrArg A.dgp (Fin.ext ?_)
    show (y 1).val = win0_16.index t 1 * 1024 + 1 * (y 1).val
    rw [a1]; omega
  · have h0 : (i 0).val < 1 := (i 0).isLt
    have h1 : (i 1).val < 1024 := (i 1).isLt
    let t : Fin cfg0.N := ⟨15, lt_of_lt_of_eq (by omega) N_0.symm⟩
    obtain ⟨a0, a1, a2⟩ := idx16 t
    refine ⟨t, a2.2 rfl, ?_⟩
    show i ∈ ((View.whole main_v8_7).slice (win0_16.rect t)).set
    rw [View.set_slice_whole, Rect.mem_set_unit]
    intro a
    match a with
    | ⟨0, _⟩ => show win0_16.index t 0 * 1 ≤ (i 0).val ∧ (i 0).val < win0_16.index t 0 * 1 + 1; rw [a0]; omega
    | ⟨1, _⟩ => show win0_16.index t 1 * 1024 ≤ (i 1).val ∧ (i 1).val < win0_16.index t 1 * 1024 + 1024; rw [a1]; omega

end Arrays

/-- The real numbers that the argument arrays hold on device `c`. -/
def dataOf (m : (ℓ : Loc nD τ sig) → Buf (Elt Ideal) ℓ) (c : Dev nD) : Data where
  h r d := ((m ((c : Thread nD τ).loc main_arg0) : S4096x1024.Idx → EReal) (ix2 r d)).toReal
  x1 r d := ((m ((c : Thread nD τ).loc main_arg1) : S4096x1024.Idx → EReal) (ix2 r d)).toReal
  tg r d := ((m ((c : Thread nD τ).loc main_arg2) : S4096x1024.Idx → EReal) (ix2 r d)).toReal
  wu r d := ((m ((c : Thread nD τ).loc main_arg3) : S1024x6144.Idx → EReal) (ix2 r d)).toReal
  wd r d := ((m ((c : Thread nD τ).loc main_arg4) : S3072x1024.Idx → EReal) (ix2 r d)).toReal
  fw r d := ((m ((c : Thread nD τ).loc main_arg5) : S3x6144.Idx → EReal) (ix2 r d)).toReal
  fb d := ((m ((c : Thread nD τ).loc main_arg6) : S6144.Idx → EReal) (ix1 d)).toReal
  gt d := ((m ((c : Thread nD τ).loc main_arg7) : S1024.Idx → EReal) (ix1 d)).toReal
  gp d := ((m ((c : Thread nD τ).loc main_arg8) : S1024.Idx → EReal) (ix1 d)).toReal

instance : Subsingleton Cert.Pre_finite_f.S_.Idx := ⟨fun _ _ => funext fun x => x.elim0⟩

theorem eq_row {n : ℕ} (i : (⟨1, ![n]⟩ : Shape).Idx) : i = ix1 (i 0) := by
  funext a
  match a with
  | ⟨0, _⟩ => rfl

/-- The precondition gives the data. -/
theorem holds (m : (ℓ : Loc nD τ sig) → Buf (Elt Ideal) ℓ) (h : Cert.Pre_KernelFIdeal_finite_f m) (c : Dev nD) : HoldsAt m c (dataOf m c) := by
  have e := congrFun (h c) (fun x => x.elim0)
  dsimp only [Cert.Pre_finite_f.fn, Cert.Pre_finite_f.fn_part1, Cert.Pre_finite_f.fn_part2] at e
  obtain ⟨e, e8⟩ := and_one _ _ _ e
  obtain ⟨e, e7⟩ := and_one _ _ _ e
  obtain ⟨e, e6⟩ := and_one _ _ _ e
  obtain ⟨e, e5⟩ := and_one _ _ _ e
  obtain ⟨e, e4⟩ := and_one _ _ _ e
  obtain ⟨e, e3⟩ := and_one _ _ _ e
  obtain ⟨e, e2⟩ := and_one _ _ _ e
  obtain ⟨e, e1⟩ := and_one _ _ _ e
  obtain ⟨e, e0⟩ := and_one _ _ _ e
  exact ⟨fun i => (real_of_all _ _ _ _ _ _ e0 (fun _ => rfl) i).trans (congrArg (fun j => ((((m ((c : Thread nD τ).loc main_arg0) : S4096x1024.Idx → EReal) j).toReal : ℝ) : EReal)) (eq_ix2 i)),
    fun i => (real_of_all _ _ _ _ _ _ e1 (fun _ => rfl) i).trans (congrArg (fun j => ((((m ((c : Thread nD τ).loc main_arg1) : S4096x1024.Idx → EReal) j).toReal : ℝ) : EReal)) (eq_ix2 i)),
    fun i => (real_of_all _ _ _ _ _ _ e2 (fun _ => rfl) i).trans (congrArg (fun j => ((((m ((c : Thread nD τ).loc main_arg2) : S4096x1024.Idx → EReal) j).toReal : ℝ) : EReal)) (eq_ix2 i)),
    fun i => (real_of_all _ _ _ _ _ _ e3 (fun _ => rfl) i).trans (congrArg (fun j => ((((m ((c : Thread nD τ).loc main_arg3) : S1024x6144.Idx → EReal) j).toReal : ℝ) : EReal)) (eq_ix2 i)),
    fun i => (real_of_all _ _ _ _ _ _ e4 (fun _ => rfl) i).trans (congrArg (fun j => ((((m ((c : Thread nD τ).loc main_arg4) : S3072x1024.Idx → EReal) j).toReal : ℝ) : EReal)) (eq_ix2 i)),
    fun i => (real_of_all _ _ _ _ _ _ e5 (fun _ => rfl) i).trans (congrArg (fun j => ((((m ((c : Thread nD τ).loc main_arg5) : S3x6144.Idx → EReal) j).toReal : ℝ) : EReal)) (eq_ix2 i)),
    fun i => (real_of_all _ _ _ _ _ _ e6 (fun _ => rfl) i).trans (congrArg (fun j => ((((m ((c : Thread nD τ).loc main_arg6) : S6144.Idx → EReal) j).toReal : ℝ) : EReal)) (eq_row i)),
    fun i => (real_of_all _ _ _ _ _ _ e7 (fun _ => rfl) i).trans (congrArg (fun j => ((((m ((c : Thread nD τ).loc main_arg7) : S1024.Idx → EReal) j).toReal : ℝ) : EReal)) (eq_row i)),
    fun i => (real_of_all _ _ _ _ _ _ e8 (fun _ => rfl) i).trans (congrArg (fun j => ((((m ((c : Thread nD τ).loc main_arg8) : S1024.Idx → EReal) j).toReal : ℝ) : EReal)) (eq_row i))⟩

open Cert.ReferenceFIdeal.Read in
/-- The kernel's eight results and the reference's are the same arrays of real numbers. -/
theorem algebraic : Cert.algebraic_KernelFIdeal_ReferenceFIdeal_pre_finite_f (hKernelFIdeal := Cert.KernelFIdeal.Gen.facts)
    (hReferenceFIdeal := Cert.ReferenceFIdeal.Gen.facts) (hPre_finite_f := Cert.Pre_finite_f.Gen.facts) := by
  intro m g m' g' hpre hag
  refine ⟨fun c i => (((dataOf m c).up (i 0) (i 1) : ℝ) : EReal), fun c i => (((dataOf m c).pre (i 0) (i 1) : ℝ) : EReal), fun c i => (((dataOf m c).act (i 0) (i 1) : ℝ) : EReal), fun c i => (((dataOf m c).dy (i 0) (i 1) : ℝ) : EReal), fun c i => (((dataOf m c).dx (i 0) (i 1) : ℝ) : EReal), fun c _ => (((dataOf m c).loss : ℝ) : EReal), fun c i => (((dataOf m c).dgt (i 1) : ℝ) : EReal), fun c i => (((dataOf m c).dgp (i 1) : ℝ) : EReal), ?_, ?_⟩
  · refine (θ_run Cert.KernelFIdeal.defs _ _).mono (fun r h c => ?_) (Cert.KernelFIdeal.Value.run_blocks (F := Ideal) m g)
    have H := holds m hpre c
    exact ⟨(h c).1.trans (arr9 H), (h c).2.1.trans (arr10 H), (h c).2.2.1.trans (arr11 H), (h c).2.2.2.1.trans (arr12 H), (h c).2.2.2.2.1.trans (arr13 H), (h c).2.2.2.2.2.1.trans (arr14 H), (h c).2.2.2.2.2.2.1.trans (arr15 H), (h c).2.2.2.2.2.2.2.1.trans (arr16 H), (h c).2.2.2.2.2.2.2.2⟩
  · refine (θ_run Cert.ReferenceFIdeal.defs _ _).mono (fun r h c => ?_) (Cert.ReferenceFIdeal.Value.run (F := Ideal) m' g')
    have H := holds m hpre c
    have H' : Holds (dataOf m c) (m' ((c.tc : Thread Cert.ReferenceFIdeal.nD Cert.ReferenceFIdeal.τ).loc Cert.ReferenceFIdeal.main_arg0)) (m' ((c.tc : Thread Cert.ReferenceFIdeal.nD Cert.ReferenceFIdeal.τ).loc Cert.ReferenceFIdeal.main_arg1)) (m' ((c.tc : Thread Cert.ReferenceFIdeal.nD Cert.ReferenceFIdeal.τ).loc Cert.ReferenceFIdeal.main_arg2)) (m' ((c.tc : Thread Cert.ReferenceFIdeal.nD Cert.ReferenceFIdeal.τ).loc Cert.ReferenceFIdeal.main_arg3)) (m' ((c.tc : Thread Cert.ReferenceFIdeal.nD Cert.ReferenceFIdeal.τ).loc Cert.ReferenceFIdeal.main_arg4)) (m' ((c.tc : Thread Cert.ReferenceFIdeal.nD Cert.ReferenceFIdeal.τ).loc Cert.ReferenceFIdeal.main_arg5)) (m' ((c.tc : Thread Cert.ReferenceFIdeal.nD Cert.ReferenceFIdeal.τ).loc Cert.ReferenceFIdeal.main_arg6)) (m' ((c.tc : Thread Cert.ReferenceFIdeal.nD Cert.ReferenceFIdeal.τ).loc Cert.ReferenceFIdeal.main_arg7)) (m' ((c.tc : Thread Cert.ReferenceFIdeal.nD Cert.ReferenceFIdeal.τ).loc Cert.ReferenceFIdeal.main_arg8)) :=
      ⟨fun i => (congrFun ((hag c).1) i).trans (H.h0 i), fun i => (congrFun ((hag c).2.1) i).trans (H.h1 i), fun i => (congrFun ((hag c).2.2.1) i).trans (H.h2 i), fun i => (congrFun ((hag c).2.2.2.1) i).trans (H.h3 i), fun i => (congrFun ((hag c).2.2.2.2.1) i).trans (H.h4 i), fun i => (congrFun ((hag c).2.2.2.2.2.1) i).trans (H.h5 i), fun i => (congrFun ((hag c).2.2.2.2.2.2.1) i).trans (H.h6 i), fun i => (congrFun ((hag c).2.2.2.2.2.2.2.1) i).trans (H.h7 i), fun i => (congrFun ((hag c).2.2.2.2.2.2.2.2) i).trans (H.h8 i)⟩
    exact ⟨(h c).1.trans ((val_main_v104_eq (F := Ideal) _).trans (funext fun i => ref104 (dataOf m c) H'.h0 H'.h3 i)),
      (h c).2.1.trans ((val_main_v105_eq (F := Ideal) _).trans (funext fun i => ref105 (dataOf m c) H'.h0 H'.h3 H'.h5 H'.h6 i)),
      (h c).2.2.1.trans ((val_main_v106_eq (F := Ideal) _).trans (funext fun i => ref106 (dataOf m c) H'.h0 H'.h3 H'.h5 H'.h6 i)),
      (h c).2.2.2.1.trans ((val_main_v107_eq (F := Ideal) _).trans (funext fun i => ref107 (dataOf m c) H'.h0 H'.h1 H'.h2 H'.h3 H'.h4 H'.h5 H'.h6 H'.h7 H'.h8 i)),
      (h c).2.2.2.2.1.trans ((val_main_v77_eq (F := Ideal) _).trans (funext fun i => ref77 (dataOf m c) H'.h0 H'.h1 H'.h2 H'.h3 H'.h4 H'.h5 H'.h6 H'.h7 H'.h8 i)),
      (h c).2.2.2.2.2.1.trans ((val_main_v108_eq (F := Ideal) _).trans (funext fun i => ref108 (dataOf m c) H'.h0 H'.h1 H'.h2 H'.h3 H'.h4 H'.h5 H'.h6 H'.h7 H'.h8 i)),
      (h c).2.2.2.2.2.2.1.trans ((val_main_v109_eq (F := Ideal) _).trans (funext fun i => ref109 (dataOf m c) H'.h0 H'.h1 H'.h2 H'.h3 H'.h4 H'.h5 H'.h6 H'.h7 H'.h8 i)),
      (h c).2.2.2.2.2.2.2.1.trans ((val_main_v110_eq (F := Ideal) _).trans (funext fun i => ref110 (dataOf m c) H'.h0 H'.h1 H'.h2 H'.h3 H'.h4 H'.h5 H'.h6 H'.h7 H'.h8 i)), (h c).2.2.2.2.2.2.2.2⟩

end Cert.Proof.FfnF
-- ==== Proof.AdamB.lean ====
/- The optimiser's step for the conditioning product's bias: the kernel's single block does the reference's operations one by one. -/
module

public import proofs.«01_k».proof.Defs
public import proofs.«01_k».proof.Proof.Gen.KernelOIdeal.Value
public import proofs.«01_k».proof.Proof.Gen.ReferenceOIdeal.Read

@[expose] public section

noncomputable section

namespace Cert.Proof.AdamB

open Cert.KernelOIdeal Cert.KernelOIdeal.Value Idealize.ShloMosaic Idealize.ShloMosaic.TcCoe Idealize.SL.Sem

/-- The update, the new first and the new second moment are the reference's, for every weight, gradient and moments. -/
theorem algebraic : Cert.algebraic_KernelOIdeal_ReferenceOIdeal (hKernelOIdeal := Cert.KernelOIdeal.Gen.facts)
    (hReferenceOIdeal := Cert.ReferenceOIdeal.Gen.facts) := by
  intro m g m' g' _ hag
  refine ⟨_, _, _, Cert.KernelOIdeal.Value.run (F := Ideal) m g, ?_⟩
  refine (θ_run Cert.ReferenceOIdeal.defs _ _).mono (fun r h c => ?_) (Cert.ReferenceOIdeal.Value.run (F := Ideal) m' g')
  obtain ⟨a0, a1, a2, a3⟩ := hag c
  obtain ⟨h0, h1, h2, hk⟩ := h c
  rw [a0, a1, a2, a3] at h0
  rw [a1, a2] at h1
  rw [a1, a3] at h2
  exact ⟨h0.trans rfl, h1.trans rfl, h2.trans rfl, hk⟩

end Cert.Proof.AdamB
-- ==== Proof.AdaPay.lean ====
/- The backward call of the conditioning product with its optimiser step: what the kernel stores, an element at a time, and what the
   reference computes. The chip's index comes from a one-word table that the host sets to zero. -/
module

public import proofs.«01_k».proof.Proof.Gen.KernelE.Frame
public import proofs.«01_k».proof.Proof.Gen.KernelEIdeal.Frame
public import proofs.«01_k».proof.Proof.Gen.ReferenceEIdeal.Read
public import proofs.«01_k».proof.Proof.Lift
public import Idealize.ShloMosaic.Lib.Pointwise

@[expose] public section

noncomputable section

namespace Cert.Proof.AdaBwd

open Idealize.ShloMosaic Idealize.ShloMosaic.TcCoe Cert.Proof.Lift

/-- The gate: `x` times the logistic of `x`. -/
def sil (x : EReal) : EReal := x * Ideal.div 1 (1 + Ideal.exp (-x))
/-- An element of the weight's gradient, from a column of the gated input's source and a column of the cotangent. -/
def gS (a d : Fin 8 → EReal) : EReal := ∑ k, sil (a k) * d k
/-- The new first and second moment, and the update. -/
def mS (g m : EReal) : EReal := Ideal.ofBits .f32 0x3F666666#32 * m + Ideal.ofBits .f32 0x3DCCCCCD#32 * g
def vS (g v : EReal) : EReal := Ideal.ofBits .f32 0x3F7FBE77#32 * v + Ideal.ofBits .f32 0x3A83126F#32 * (g * g)
def dS (w g m v : EReal) : EReal := Ideal.ofBits .f32 0xBA83126F#32 *
  (Ideal.div (Ideal.div (mS g m) (Ideal.ofBits .f32 0x3F26BD02#32)) (Ideal.sqrt (Ideal.div (vS g v) (Ideal.ofBits .f32 0x3C231ACC#32)) + Ideal.ofBits .f32 0x322BCC77#32)
    + Ideal.ofBits .f32 0x3C23D70A#32 * w)

section Pay
open Cert.KernelEIdeal Cert.KernelEIdeal.Gen

variable (x0 : Vec Ideal S8x512 .f32) (x1 : Vec Ideal S8x1536 .f32) (w m v : Vec Ideal S512x1536 .f32)

/-- A block's gradient. -/
abbrev gB (r : Fin 512) (j : Fin 1536) : EReal := gS (fun k => x0 (ix2 k r)) (fun k => x1 (ix2 k j))

set_option maxRecDepth 16384 in
theorem pay3 (r : Fin 512) (j : Fin 1536) : k0_pay3 (F := Ideal) x0 x1 (ix2 r j) = gB x0 x1 r j := by
  pointwise [k0_pay3]
  simp only [ofBits_zero, ofBits_one, zero_add, zero_sub]
  rfl

set_option maxRecDepth 16384 in
theorem pay4 (r : Fin 512) (j : Fin 1536) : k0_pay4 (F := Ideal) x0 x1 m (ix2 r j) = mS (gB x0 x1 r j) (m (ix2 r j)) := by
  pointwise [k0_pay4]
  simp only [pay3]
  rfl

set_option maxRecDepth 16384 in
theorem pay5 (r : Fin 512) (j : Fin 1536) : k0_pay5 (F := Ideal) x0 x1 v (ix2 r j) = vS (gB x0 x1 r j) (v (ix2 r j)) := by
  pointwise [k0_pay5]
  simp only [pay3]
  rfl

set_option maxRecDepth 16384 in
theorem pay1 (r : Fin 512) (j : Fin 1536) : k0_pay1 (F := Ideal) w (k0_pay6 x0 x1 m v) (Scalar.ofBits .f32 0x3C23D70A#32) (ix2 r j)
    = dS (w (ix2 r j)) (gB x0 x1 r j) (m (ix2 r j)) (v (ix2 r j)) := by
  pointwise [k0_pay1, k0_pay6]
  simp only [pay4, pay5]
  rfl

set_option maxRecDepth 16384 in
theorem pay2 (a b c d e f g h : Vec Ideal S1x6144 .f32) (j : Fin 6144) : k0_pay2 (F := Ideal) a b c d e f g h (ix2 0 j)
    = a (ix2 0 j) + b (ix2 0 j) + c (ix2 0 j) + d (ix2 0 j) + e (ix2 0 j) + f (ix2 0 j) + g (ix2 0 j) + h (ix2 0 j) := by
  pointwise [k0_pay2]

end Pay

section Ref
open Cert.ReferenceEIdeal Cert.ReferenceEIdeal.Read

variable (x0 : (⟨S8x1024, .f32⟩ : BufTy).Contents (Elt Ideal)) (x1 : (⟨S8x6144, .f32⟩ : BufTy).Contents (Elt Ideal))
  (x2 x3 x4 : (⟨S1024x1536, .f32⟩ : BufTy).Contents (Elt Ideal))

/-- The arrays' gradient: the chip's columns are the first 1536. -/
abbrev gA (i : Fin 1024) (j : Fin 1536) : EReal := gS (fun k => x0 (ix2 k i)) (fun k => x1 (ix2 k ⟨j.val, by omega⟩))

theorem ix_eq {n k : ℕ} (f : (⟨2, ![n, k]⟩ : Shape).Idx) (a : Fin n) (b : Fin k) (h0 : f 0 = a) (h1 : f 1 = b) : f = ix2 a b := by
  rw [← h0, ← h1]; exact eq_ix2 f

theorem refSil (i : S8x1024.Idx) : val_main_v1 (F := Ideal) x0 i = sil (x0 i) := by
  show x0 i * Ideal.div (Ideal.ofBits .f32 0x3F800000#32) (Ideal.ofBits .f32 0x3F800000#32 + Ideal.exp (-(x0 i))) = _
  rw [ofBits_one]
  rfl

theorem refG (i : Fin 1024) (j : Fin 1536) : val_main_v8 (F := Ideal) x0 x1 (ix2 i j) = gA x0 x1 i j := by
  rw [val_main_v8_apply, val_main_v7_apply]
  refine Finset.sum_congr rfl fun k _ => ?_
  rw [val_main_v4_apply, refSil, mul_comm]
  refine congrArg₂ (· * ·) (congrArg sil (congrArg x0 ?_)) (congrArg x1 ?_)
  · exact ix_eq _ _ _ rfl rfl
  · exact ix_eq _ _ _ rfl (Fin.ext (by simp))

theorem refM (i : Fin 1024) (j : Fin 1536) : val_main_v13 (F := Ideal) x0 x1 x3 (ix2 i j) = mS (gA x0 x1 i j) (x3 (ix2 i j)) :=
  (show _ = mS (val_main_v8 (F := Ideal) x0 x1 (ix2 i j)) (x3 (ix2 i j)) from rfl).trans (by rw [refG])

theorem refV (i : Fin 1024) (j : Fin 1536) : val_main_v19 (F := Ideal) x0 x1 x4 (ix2 i j) = vS (gA x0 x1 i j) (x4 (ix2 i j)) :=
  (show _ = vS (val_main_v8 (F := Ideal) x0 x1 (ix2 i j)) (x4 (ix2 i j)) from rfl).trans (by rw [refG])

theorem refD (i : Fin 1024) (j : Fin 1536) : val_main_v32 (F := Ideal) x0 x1 x2 x3 x4 (ix2 i j)
    = dS (x2 (ix2 i j)) (gA x0 x1 i j) (x3 (ix2 i j)) (x4 (ix2 i j)) :=
  (show _ = dS (x2 (ix2 i j)) (val_main_v8 (F := Ideal) x0 x1 (ix2 i j)) (x3 (ix2 i j)) (x4 (ix2 i j)) from rfl).trans (by rw [refG])

theorem refB (z : Fin 1) (j : Fin 6144) : val_main_v6 (F := Ideal) x1 (ix2 z j) = ∑ k : Fin 8, x1 (ix2 k j) := by
  rw [val_main_v6_apply, val_main_v5_apply]
  refine (congrArg₂ (· + ·) ofBits_zero (Finset.sum_congr rfl fun k _ => congrArg x1 ?_)).trans (zero_add _)
  exact ix_eq _ _ _ rfl rfl

end Ref

end Cert.Proof.AdaBwd
-- ==== Proof.AdaBlock.lean ====
/- The backward call of the conditioning product: its table is in range, and what a point of its grid leaves in the outputs' blocks. -/
module

public import proofs.«01_k».proof.Proof.AdaPay
public import Idealize.ShloMosaic.Lib.Pipeline.FrameBody
public import Idealize.ShloMosaic.Lib.Pipeline.Value
public import Idealize.ShloMosaic.Lib.Pipeline.ValueKit.Tiles

@[expose] public section

noncomputable section

namespace Cert.Proof.AdaBwd

open Idealize.ShloMosaic Idealize.ShloMosaic.TcCoe Idealize.SL.Sem Cert.Proof.Lift

section
open Cert.KernelE Cert.KernelE.Gen

/-- The table's word is zero, so every block the kernel asks for is inside its array. -/
theorem ok_bits (m : (ℓ : Loc nD τ sig) → Buf (Elt Bits) ℓ) : Ok m := by
  have e : (tbl m 0 : S1.Idx → BitVec 32) = fun _ => 0#32 := by
    unfold tbl
    show (V m 0 main_v0 : S1.Idx → BitVec 32) = _
    unfold_abbrev_sides
    after_results
    rfl
  intro i
  refine ⟨fun a => ?_, Or.inl rfl⟩
  have e1 : cc0_transform_1 inb_S1_S1_0 numel1_S1 (tbl m) i = ![0, 0] := by
    have e2 : (tbl m).at 0 (Rect.unit (s := S1) ![0] S1.size inb_S1_S1_0) numel1_S1 = 0#32 := congrFun e _
    unfold cc0_transform_1
    rw [e2]
    rfl
  rw [e1]
  match a with
  | ⟨0, _⟩ => show (0 + 1) * 8 ≤ 8; omega
  | ⟨1, _⟩ => show (0 + 1) * 1536 ≤ 6144; omega

end

open Cert.KernelEIdeal Cert.KernelEIdeal.Gen

theorem tbl_zero (m : (ℓ : Loc nD τ sig) → Buf (Elt Ideal) ℓ) (i : grid0.Coords) : cc0_transform_1 inb_S1_S1_0 numel1_S1 (tbl m) i = ![0, 0] := by
  have e : (tbl m 0 : S1.Idx → BitVec 32) = fun _ => 0#32 := by
    unfold tbl
    show (V m 0 main_v0 : S1.Idx → BitVec 32) = _
    unfold_abbrev_sides
    after_results
    rfl
  have e2 : (tbl m).at 0 (Rect.unit (s := S1) ![0] S1.size inb_S1_S1_0) numel1_S1 = 0#32 := congrFun e _
  unfold cc0_transform_1
  rw [e2]
  rfl

/-- The table's word is zero, so every block the kernel asks for is inside its array. -/
theorem ok_ideal (m : (ℓ : Loc nD τ sig) → Buf (Elt Ideal) ℓ) : Ok m := by
  intro i
  refine ⟨fun a => ?_, Or.inl rfl⟩
  rw [tbl_zero m i]
  match a with
  | ⟨0, _⟩ => show (0 + 1) * 8 ≤ 8; omega
  | ⟨1, _⟩ => show (0 + 1) * 1536 ≤ 6144; omega

theorem hz2 : (![0, 0] : Fin 2 → Nat) = fun _ => 0 := funext fun a => by fin_cases a <;> rfl

section Block
variable (c : Dev nD) (i : grid0.Coords) (a2 : Memref sig .tc .vmem S8x512 .f32) (h2 : a2.IsWhole) (a3 : Memref sig .tc .vmem S8x1536 .f32) (h3 : a3.IsWhole) (a4 : Memref sig .tc .vmem S8x6144 .f32) (h4 : a4.IsWhole) (a5 : Memref sig .tc .vmem S512x1536 .f32) (h5 : a5.IsWhole) (a6 : Memref sig .tc .vmem S512x1536 .f32) (h6 : a6.IsWhole) (a7 : Memref sig .tc .vmem S512x1536 .f32) (h7 : a7.IsWhole) (a8 : Memref sig .tc .vmem S512x1536 .f32) (h8 : a8.IsWhole) (a9 : Memref sig .tc .vmem S512x1536 .f32) (h9 : a9.IsWhole) (a10 : Memref sig .tc .vmem S512x1536 .f32) (h10 : a10.IsWhole) (a11 : Memref sig .tc .vmem S512x1536 .f32) (h11 : a11.IsWhole) (a12 : Memref sig .tc .vmem S1x6144 .f32) (h12 : a12.IsWhole)
  (x0 : Vec Ideal S8x512 .f32) (x1 : Vec Ideal S8x1536 .f32) (x2 : Vec Ideal S8x6144 .f32) (x3 x4 x5 : Vec Ideal S512x1536 .f32) (xt0 : TbBuf0 (F := Ideal) c tbM0_0)

theorem o6 (j : S512x1536.Idx) : out0_A_6 (F := Ideal) c i a2 h2 a3 h3 a4 h4 a5 h5 a6 h6 a7 h7 a8 h8 a9 h9 a10 h10 a11 h11 a12 h12 x0 x1 x2 x3 x4 x5 xt0 j = gB x0 x1 (j 0) (j 1) := by
  unfold out0_A_6
  rw [View.read_writes_eq_canon _ _ _ (cover0_A_6 c i a2 h2 a3 h3 a4 h4 a5 h5 a6 h6 a7 h7 a8 h8 a9 h9 a10 h10 a11 h11 a12 h12 x0 x1 x2 x3 x4 x5 xt0)]
  unfold kernelRun0_A
  dsimp only
  sl_unfold_words
  simp only [View.readAt_eq_ld, View.canon_cons_unit_zero (S := S512x1536) hz2, h2.read_unread, h3.read_unread, h4.read_unread, h5.read_unread, h6.read_unread, h7.read_unread, h8.read_unread, h9.read_unread, h10.read_unread, h11.read_unread, h12.read_unread, View.ld_unit_zero (S := S512x1536) hz2, View.ld_unit_zero (S := S8x512) hz2, View.ld_unit_zero (S := S8x1536) hz2]
  obtain ⟨r, d, rfl⟩ : ∃ (r : Fin 512) (d : Fin 1536), j = ix2 r d := ⟨j 0, j 1, eq_ix2 j⟩
  exact pay3 x0 x1 r d

theorem o7 (j : S512x1536.Idx) : out0_A_7 (F := Ideal) c i a2 h2 a3 h3 a4 h4 a5 h5 a6 h6 a7 h7 a8 h8 a9 h9 a10 h10 a11 h11 a12 h12 x0 x1 x2 x3 x4 x5 xt0 j = dS (x3 j) (gB x0 x1 (j 0) (j 1)) (x4 j) (x5 j) := by
  unfold out0_A_7
  rw [View.read_writes_eq_canon _ _ _ (cover0_A_7 c i a2 h2 a3 h3 a4 h4 a5 h5 a6 h6 a7 h7 a8 h8 a9 h9 a10 h10 a11 h11 a12 h12 x0 x1 x2 x3 x4 x5 xt0)]
  unfold kernelRun0_A
  dsimp only
  sl_unfold_words
  simp only [View.readAt_eq_ld, View.canon_cons_unit_zero (S := S512x1536) hz2, h2.read_unread, h3.read_unread, h4.read_unread, h5.read_unread, h6.read_unread, h7.read_unread, h8.read_unread, h9.read_unread, h10.read_unread, h11.read_unread, h12.read_unread, View.ld_unit_zero (S := S512x1536) hz2, View.ld_unit_zero (S := S8x512) hz2, View.ld_unit_zero (S := S8x1536) hz2]
  obtain ⟨r, d, rfl⟩ : ∃ (r : Fin 512) (d : Fin 1536), j = ix2 r d := ⟨j 0, j 1, eq_ix2 j⟩
  exact pay1 x0 x1 x3 x4 x5 r d

theorem o8 (j : S512x1536.Idx) : out0_A_8 (F := Ideal) c i a2 h2 a3 h3 a4 h4 a5 h5 a6 h6 a7 h7 a8 h8 a9 h9 a10 h10 a11 h11 a12 h12 x0 x1 x2 x3 x4 x5 xt0 j = mS (gB x0 x1 (j 0) (j 1)) (x4 j) := by
  unfold out0_A_8
  rw [View.read_writes_eq_canon _ _ _ (cover0_A_8 c i a2 h2 a3 h3 a4 h4 a5 h5 a6 h6 a7 h7 a8 h8 a9 h9 a10 h10 a11 h11 a12 h12 x0 x1 x2 x3 x4 x5 xt0)]
  unfold kernelRun0_A
  dsimp only
  sl_unfold_words
  simp only [View.readAt_eq_ld, View.canon_cons_unit_zero (S := S512x1536) hz2, h2.read_unread, h3.read_unread, h4.read_unread, h5.read_unread, h6.read_unread, h7.read_unread, h8.read_unread, h9.read_unread, h10.read_unread, h11.read_unread, h12.read_unread, View.ld_unit_zero (S := S512x1536) hz2, View.ld_unit_zero (S := S8x512) hz2, View.ld_unit_zero (S := S8x1536) hz2]
  obtain ⟨r, d, rfl⟩ : ∃ (r : Fin 512) (d : Fin 1536), j = ix2 r d := ⟨j 0, j 1, eq_ix2 j⟩
  exact pay4 x0 x1 x4 r d

theorem o9 (j : S512x1536.Idx) : out0_A_9 (F := Ideal) c i a2 h2 a3 h3 a4 h4 a5 h5 a6 h6 a7 h7 a8 h8 a9 h9 a10 h10 a11 h11 a12 h12 x0 x1 x2 x3 x4 x5 xt0 j = vS (gB x0 x1 (j 0) (j 1)) (x5 j) := by
  unfold out0_A_9
  rw [View.read_writes_eq_canon _ _ _ (cover0_A_9 c i a2 h2 a3 h3 a4 h4 a5 h5 a6 h6 a7 h7 a8 h8 a9 h9 a10 h10 a11 h11 a12 h12 x0 x1 x2 x3 x4 x5 xt0)]
  unfold kernelRun0_A
  dsimp only
  sl_unfold_words
  simp only [View.readAt_eq_ld, View.canon_cons_unit_zero (S := S512x1536) hz2, h2.read_unread, h3.read_unread, h4.read_unread, h5.read_unread, h6.read_unread, h7.read_unread, h8.read_unread, h9.read_unread, h10.read_unread, h11.read_unread, h12.read_unread, View.ld_unit_zero (S := S512x1536) hz2, View.ld_unit_zero (S := S8x512) hz2, View.ld_unit_zero (S := S8x1536) hz2]
  obtain ⟨r, d, rfl⟩ : ∃ (r : Fin 512) (d : Fin 1536), j = ix2 r d := ⟨j 0, j 1, eq_ix2 j⟩
  exact pay5 x0 x1 x5 r d

/-- A row of the block, at an element. -/
theorem ld_one (o : ℕ) (ho : o < 8) (inb) (j : Fin 6144) :
    (View.ld x2 (Rect.unit (s := S8x6144) ![o, 0] ![1, 6144] inb) : Vec Ideal S1x6144 .f32) (ix2 0 j) = x2 (ix2 ⟨o, ho⟩ j) :=
  View.ld_unit_apply_of x2 ![o, 0] ![1, 6144] inb (ix2 0 j) (ix2 ⟨o, ho⟩ j) (fun a => match a with
    | ⟨0, _⟩ => rfl
    | ⟨1, _⟩ => (Nat.zero_add _).symm)

theorem o10 (j : S1x6144.Idx) : out0_A_10 (F := Ideal) c i a2 h2 a3 h3 a4 h4 a5 h5 a6 h6 a7 h7 a8 h8 a9 h9 a10 h10 a11 h11 a12 h12 x0 x1 x2 x3 x4 x5 xt0 j = ∑ k : Fin 8, x2 (ix2 k (j 1)) := by
  unfold out0_A_10
  rw [View.read_writes_eq_canon _ _ _ (cover0_A_10 c i a2 h2 a3 h3 a4 h4 a5 h5 a6 h6 a7 h7 a8 h8 a9 h9 a10 h10 a11 h11 a12 h12 x0 x1 x2 x3 x4 x5 xt0)]
  unfold kernelRun0_A
  dsimp only
  sl_unfold_words
  simp only [View.readAt_eq_ld, View.canon_cons_unit_zero (S := S1x6144) hz2, h2.read_unread, h3.read_unread, h4.read_unread, h5.read_unread, h6.read_unread, h7.read_unread, h8.read_unread, h9.read_unread, h10.read_unread, h11.read_unread, h12.read_unread]
  obtain ⟨z, d, rfl⟩ : ∃ (z : Fin 1) (d : Fin 6144), j = ix2 z d := ⟨j 0, j 1, eq_ix2 j⟩
  obtain rfl : z = 0 := Subsingleton.elim _ _
  refine (pay2 _ _ _ _ _ _ _ _ d).trans ?_
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact ld_one x2 0 (by omega) _ d
  · exact ld_one x2 1 (by omega) _ d
  · exact ld_one x2 2 (by omega) _ d
  · exact ld_one x2 3 (by omega) _ d
  · exact ld_one x2 4 (by omega) _ d
  · exact ld_one x2 5 (by omega) _ d
  · exact ld_one x2 6 (by omega) _ d
  · exact ld_one x2 7 (by omega) _ d

end Block

end Cert.Proof.AdaBwd
-- ==== Proof.AdaValue.lean ====
/- The backward call of the conditioning product, closed: the five arrays the kernel's run leaves are the reference's, on all arguments. -/
module

public import proofs.«01_k».proof.Defs
public import proofs.«01_k».proof.Proof.Gen.ReferenceEIdeal
public import proofs.«01_k».proof.Proof.AdaBlock

@[expose] public section

noncomputable section

namespace Cert.Proof.AdaBwd

open Cert.KernelEIdeal Cert.KernelEIdeal.Gen Idealize.ShloMosaic Idealize.ShloMosaic.TcCoe Idealize.SL.Sem Cert.Proof.Lift

section Arrays
variable (m : (ℓ : Loc nD τ sig) → Buf (Elt Ideal) ℓ) (c : Dev nD) (hO : Ok m)

theorem ix_rows : ∀ t : Fin grid0.N, cc0_transform_3 (grid0.coords t) (0 : Fin 2) = t.val ∧ cc0_transform_3 (grid0.coords t) (1 : Fin 2) = 0 := by decide +kernel
theorem ix_cols : ∀ t : Fin grid0.N, cc0_transform_0 (grid0.coords t) (0 : Fin 2) = 0 ∧ cc0_transform_0 (grid0.coords t) (1 : Fin 2) = t.val := by decide +kernel
theorem flush_rows : ∀ t : Fin grid0.N, Pipeline.Window.flushOf grid0 true cc0_transform_3 t = true := by decide +kernel
theorem flush_whole : ∀ t : Fin grid0.N, t.val = 1 → Pipeline.Window.flushOf grid0 true cc0_transform_2 t = true := by decide +kernel

/-- The row that row `r` of point `t`'s blocks is. -/
def at_ (t : Fin grid0.N) (r : Fin 512) : Fin 1024 := ⟨t.val * 512 + r.val, by have := lt_of_lt_of_eq t.isLt N_0; omega⟩

theorem blk0 (t : Fin grid0.N) (k : Fin 8) (r : Fin 512) : (iblk m hO c 0 t : Vec Ideal S8x512 .f32) (ix2 k r) = (m ((c : Thread nD τ).loc main_arg0) : S8x1024.Idx → EReal) (ix2 k (at_ t r)) := by
  obtain ⟨a0, a1⟩ := ix_cols t
  have e : (V m c main_arg0 : S8x1024.Idx → EReal) = m ((c : Thread nD τ).loc main_arg0) := V_main_arg0 m c
  show (V m c main_arg0 : S8x1024.Idx → EReal) _ = _
  refine Eq.trans (congrArg _ (?_ : _ = (ix2 k (at_ t r) : S8x1024.Idx))) (congrFun e _)
  funext a
  apply Fin.ext
  match a with
  | ⟨0, _⟩ => show cc0_transform_0 (grid0.coords t) (0 : Fin 2) * 8 + 1 * k.val = k.val; rw [a0]; omega
  | ⟨1, _⟩ => show cc0_transform_0 (grid0.coords t) (1 : Fin 2) * 512 + 1 * r.val = t.val * 512 + r.val; rw [a1]; omega

theorem blk1 (t : Fin grid0.N) (k : Fin 8) (j : Fin 1536) : (iblk m hO c 1 t : Vec Ideal S8x1536 .f32) (ix2 k j) = (m ((c : Thread nD τ).loc main_arg1) : S8x6144.Idx → EReal) (ix2 k ⟨j.val, by omega⟩) := by
  have a := tbl_zero m (grid0.coords t)
  have e : (V m c main_arg1 : S8x6144.Idx → EReal) = m ((c : Thread nD τ).loc main_arg1) := V_main_arg1 m c
  show (V m c main_arg1 : S8x6144.Idx → EReal) _ = _
  refine Eq.trans (congrArg _ (?_ : _ = (ix2 k ⟨j.val, by omega⟩ : S8x6144.Idx))) (congrFun e _)
  funext b
  apply Fin.ext
  match b with
  | ⟨0, _⟩ => show cc0_transform_1 inb_S1_S1_0 numel1_S1 (tbl m) (grid0.coords t) (0 : Fin 2) * 8 + 1 * k.val = k.val; rw [a]; show 0 * 8 + 1 * k.val = k.val; omega
  | ⟨1, _⟩ => show cc0_transform_1 inb_S1_S1_0 numel1_S1 (tbl m) (grid0.coords t) (1 : Fin 2) * 1536 + 1 * j.val = j.val; rw [a]; show 0 * 1536 + 1 * j.val = j.val; omega

theorem blk2 (t : Fin grid0.N) (k : Fin 8) (j : Fin 6144) : (iblk m hO c 2 t : Vec Ideal S8x6144 .f32) (ix2 k j) = (m ((c : Thread nD τ).loc main_arg1) : S8x6144.Idx → EReal) (ix2 k j) := by
  have e : (V m c main_arg1 : S8x6144.Idx → EReal) = m ((c : Thread nD τ).loc main_arg1) := V_main_arg1 m c
  show (V m c main_arg1 : S8x6144.Idx → EReal) _ = _
  refine Eq.trans (congrArg _ (?_ : _ = (ix2 k j : S8x6144.Idx))) (congrFun e _)
  funext b
  apply Fin.ext
  match b with
  | ⟨0, _⟩ => show 0 * 8 + 1 * k.val = k.val; omega
  | ⟨1, _⟩ => show 0 * 6144 + 1 * j.val = j.val; omega

theorem blk3 (t : Fin grid0.N) (r : Fin 512) (j : Fin 1536) : (iblk m hO c 3 t : Vec Ideal S512x1536 .f32) (ix2 r j) = (m ((c : Thread nD τ).loc main_arg2) : S1024x1536.Idx → EReal) (ix2 (at_ t r) j) := by
  obtain ⟨a0, a1⟩ := ix_rows t
  have e : (V m c main_arg2 : S1024x1536.Idx → EReal) = m ((c : Thread nD τ).loc main_arg2) := V_main_arg2 m c
  show (V m c main_arg2 : S1024x1536.Idx → EReal) _ = _
  refine Eq.trans (congrArg _ (?_ : _ = (ix2 (at_ t r) j : S1024x1536.Idx))) (congrFun e _)
  funext a
  apply Fin.ext
  match a with
  | ⟨0, _⟩ => show cc0_transform_3 (grid0.coords t) (0 : Fin 2) * 512 + 1 * r.val = t.val * 512 + r.val; rw [a0]; omega
  | ⟨1, _⟩ => show cc0_transform_3 (grid0.coords t) (1 : Fin 2) * 1536 + 1 * j.val = j.val; rw [a1]; omega

theorem blk4 (t : Fin grid0.N) (r : Fin 512) (j : Fin 1536) : (iblk m hO c 4 t : Vec Ideal S512x1536 .f32) (ix2 r j) = (m ((c : Thread nD τ).loc main_arg3) : S1024x1536.Idx → EReal) (ix2 (at_ t r) j) := by
  obtain ⟨a0, a1⟩ := ix_rows t
  have e : (V m c main_arg3 : S1024x1536.Idx → EReal) = m ((c : Thread nD τ).loc main_arg3) := V_main_arg3 m c
  show (V m c main_arg3 : S1024x1536.Idx → EReal) _ = _
  refine Eq.trans (congrArg _ (?_ : _ = (ix2 (at_ t r) j : S1024x1536.Idx))) (congrFun e _)
  funext a
  apply Fin.ext
  match a with
  | ⟨0, _⟩ => show cc0_transform_3 (grid0.coords t) (0 : Fin 2) * 512 + 1 * r.val = t.val * 512 + r.val; rw [a0]; omega
  | ⟨1, _⟩ => show cc0_transform_3 (grid0.coords t) (1 : Fin 2) * 1536 + 1 * j.val = j.val; rw [a1]; omega

theorem blk5 (t : Fin grid0.N) (r : Fin 512) (j : Fin 1536) : (iblk m hO c 5 t : Vec Ideal S512x1536 .f32) (ix2 r j) = (m ((c : Thread nD τ).loc main_arg4) : S1024x1536.Idx → EReal) (ix2 (at_ t r) j) := by
  obtain ⟨a0, a1⟩ := ix_rows t
  have e : (V m c main_arg4 : S1024x1536.Idx → EReal) = m ((c : Thread nD τ).loc main_arg4) := V_main_arg4 m c
  show (V m c main_arg4 : S1024x1536.Idx → EReal) _ = _
  refine Eq.trans (congrArg _ (?_ : _ = (ix2 (at_ t r) j : S1024x1536.Idx))) (congrFun e _)
  funext a
  apply Fin.ext
  match a with
  | ⟨0, _⟩ => show cc0_transform_3 (grid0.coords t) (0 : Fin 2) * 512 + 1 * r.val = t.val * 512 + r.val; rw [a0]; omega
  | ⟨1, _⟩ => show cc0_transform_3 (grid0.coords t) (1 : Fin 2) * 1536 + 1 * j.val = j.val; rw [a1]; omega

/-- The five arrays. -/
abbrev aG (i : S1024x1536.Idx) : EReal := gA (m ((c : Thread nD τ).loc main_arg0)) (m ((c : Thread nD τ).loc main_arg1)) (i 0) (i 1)
abbrev aD (i : S1024x1536.Idx) : EReal := dS ((m ((c : Thread nD τ).loc main_arg2) : S1024x1536.Idx → EReal) i) (aG m c i) ((m ((c : Thread nD τ).loc main_arg3) : S1024x1536.Idx → EReal) i) ((m ((c : Thread nD τ).loc main_arg4) : S1024x1536.Idx → EReal) i)
abbrev aM (i : S1024x1536.Idx) : EReal := mS (aG m c i) ((m ((c : Thread nD τ).loc main_arg3) : S1024x1536.Idx → EReal) i)
abbrev aV (i : S1024x1536.Idx) : EReal := vS (aG m c i) ((m ((c : Thread nD τ).loc main_arg4) : S1024x1536.Idx → EReal) i)
abbrev aB (i : S1x6144.Idx) : EReal := ∑ k : Fin 8, (m ((c : Thread nD τ).loc main_arg1) : S8x6144.Idx → EReal) (ix2 k (i 1))

theorem gBlk (t : Fin grid0.N) (r : Fin 512) (j : Fin 1536) : gB (iblk m hO c 0 t) (iblk m hO c 1 t) r j = aG m c (ix2 (at_ t r) j) :=
  congrArg₂ gS (funext fun k => blk0 m c hO t k r) (funext fun k => blk1 m c hO t k j)

set_option maxRecDepth 16384

theorem b6 (t : Fin (cfgM m hO).N) (r : Fin 512) (j : Fin 1536) : (outsAt0 m hO c t).1 (ix2 r j) = aG m c (ix2 (at_ t r) j) := by
  have h := o6 c (grid0.coords t) _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) _ (hs0_9 m hO t) _ (hs0_10 m hO t) (iblk m hO c 0 t) (iblk m hO c 1 t) (iblk m hO c 2 t) (iblk m hO c 3 t) (iblk m hO c 4 t) (iblk m hO c 5 t) (tbl m 0) (ix2 r j)
  delta outsAt0
  dsimp only
  exact h.trans (gBlk m c hO t r j)

theorem b7 (t : Fin (cfgM m hO).N) (r : Fin 512) (j : Fin 1536) : (outsAt0 m hO c t).2.1 (ix2 r j) = aD m c (ix2 (at_ t r) j) := by
  have h := o7 c (grid0.coords t) _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) _ (hs0_9 m hO t) _ (hs0_10 m hO t) (iblk m hO c 0 t) (iblk m hO c 1 t) (iblk m hO c 2 t) (iblk m hO c 3 t) (iblk m hO c 4 t) (iblk m hO c 5 t) (tbl m 0) (ix2 r j)
  delta outsAt0
  dsimp only
  refine h.trans ?_
  show dS _ (gB (iblk m hO c 0 t) (iblk m hO c 1 t) r j) _ _ = _
  rw [gBlk m c hO t r j, blk3 m c hO t r j, blk4 m c hO t r j, blk5 m c hO t r j]

theorem b8 (t : Fin (cfgM m hO).N) (r : Fin 512) (j : Fin 1536) : (outsAt0 m hO c t).2.2.1 (ix2 r j) = aM m c (ix2 (at_ t r) j) := by
  have h := o8 c (grid0.coords t) _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) _ (hs0_9 m hO t) _ (hs0_10 m hO t) (iblk m hO c 0 t) (iblk m hO c 1 t) (iblk m hO c 2 t) (iblk m hO c 3 t) (iblk m hO c 4 t) (iblk m hO c 5 t) (tbl m 0) (ix2 r j)
  delta outsAt0
  dsimp only
  refine h.trans ?_
  show mS (gB (iblk m hO c 0 t) (iblk m hO c 1 t) r j) _ = _
  rw [gBlk m c hO t r j, blk4 m c hO t r j]

theorem b9 (t : Fin (cfgM m hO).N) (r : Fin 512) (j : Fin 1536) : (outsAt0 m hO c t).2.2.2.1 (ix2 r j) = aV m c (ix2 (at_ t r) j) := by
  have h := o9 c (grid0.coords t) _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) _ (hs0_9 m hO t) _ (hs0_10 m hO t) (iblk m hO c 0 t) (iblk m hO c 1 t) (iblk m hO c 2 t) (iblk m hO c 3 t) (iblk m hO c 4 t) (iblk m hO c 5 t) (tbl m 0) (ix2 r j)
  delta outsAt0
  dsimp only
  refine h.trans ?_
  show vS (gB (iblk m hO c 0 t) (iblk m hO c 1 t) r j) _ = _
  rw [gBlk m c hO t r j, blk5 m c hO t r j]

theorem b10 (t : Fin (cfgM m hO).N) (z : Fin 1) (j : Fin 6144) : (outsAt0 m hO c t).2.2.2.2 (ix2 z j) = aB m c (ix2 z j) := by
  have h := o10 c (grid0.coords t) _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) _ (hs0_9 m hO t) _ (hs0_10 m hO t) (iblk m hO c 0 t) (iblk m hO c 1 t) (iblk m hO c 2 t) (iblk m hO c 3 t) (iblk m hO c 4 t) (iblk m hO c 5 t) (tbl m 0) (ix2 z j)
  delta outsAt0
  dsimp only
  refine h.trans ?_
  exact Finset.sum_congr rfl fun k _ => blk2 m c hO t k j

theorem arr6 : (dats m hO 0 c).arrAt 6 (cfgM m hO).N = aG m c := by
  refine (dats m hO 0 c).arrAt_eq_of_cover 6 _ (fun t hf => ?_) (fun (i : S1024x1536.Idx) => ?_)
  · obtain ⟨a0, a1⟩ := ix_rows t
    show ((cfgM m hO).win 6).cut (grid0.coords t) ((dats m hO 0 c).after 6 t) = _
    rw [after0_6]
    refine funext fun (y : S512x1536.Idx) => ?_
    show (outsAt0 m hO c t).1 (((cfgM m hO).win 6).xinj (grid0.coords t) y) = _
    refine (congrArg (outsAt0 m hO c t).1 (eq_ix2 (((cfgM m hO).win 6).xinj (grid0.coords t) y : S512x1536.Idx))).trans ((b6 m c hO t _ _).trans (congrArg (aG m c) ?_))
    funext a
    apply Fin.ext
    match a with
    | ⟨0, _⟩ => show t.val * 512 + (y 0).val = cc0_transform_3 (grid0.coords t) (0 : Fin 2) * 512 + 1 * (y 0).val; rw [a0]; omega
    | ⟨1, _⟩ => show (y 1).val = cc0_transform_3 (grid0.coords t) (1 : Fin 2) * 1536 + 1 * (y 1).val; rw [a1]; omega
  · have h0 : (i 0).val < 1024 := (i 0).isLt
    have h1 : (i 1).val < 1536 := (i 1).isLt
    let t : Fin grid0.N := ⟨(i 0).val / 512, lt_of_lt_of_eq (by omega) N_0.symm⟩
    have ht : t.val = (i 0).val / 512 := rfl
    obtain ⟨a0, a1⟩ := ix_rows t
    refine ⟨t, flush_rows t, ?_⟩
    show i ∈ ((View.whole main_v1_0).slice (((cfgM m hO).win 6).rect t)).set
    refine (Finset.ext_iff.mp (View.set_slice_whole _ _) i).mpr ?_
    refine Rect.mem_set_unit.mpr ?_
    intro a
    match a with
    | ⟨0, _⟩ => show cc0_transform_3 (grid0.coords t) (0 : Fin 2) * 512 ≤ (i 0).val ∧ (i 0).val < cc0_transform_3 (grid0.coords t) (0 : Fin 2) * 512 + 512; rw [a0, ht]; omega
    | ⟨1, _⟩ => show cc0_transform_3 (grid0.coords t) (1 : Fin 2) * 1536 ≤ (i 1).val ∧ (i 1).val < cc0_transform_3 (grid0.coords t) (1 : Fin 2) * 1536 + 1536; rw [a1]; omega

theorem arr7 : (dats m hO 0 c).arrAt 7 (cfgM m hO).N = aD m c := by
  refine (dats m hO 0 c).arrAt_eq_of_cover 7 _ (fun t hf => ?_) (fun (i : S1024x1536.Idx) => ?_)
  · obtain ⟨a0, a1⟩ := ix_rows t
    show ((cfgM m hO).win 7).cut (grid0.coords t) ((dats m hO 0 c).after 7 t) = _
    rw [after0_7]
    refine funext fun (y : S512x1536.Idx) => ?_
    show (outsAt0 m hO c t).2.1 (((cfgM m hO).win 7).xinj (grid0.coords t) y) = _
    refine (congrArg (outsAt0 m hO c t).2.1 (eq_ix2 (((cfgM m hO).win 7).xinj (grid0.coords t) y : S512x1536.Idx))).trans ((b7 m c hO t _ _).trans (congrArg (aD m c) ?_))
    funext a
    apply Fin.ext
    match a with
    | ⟨0, _⟩ => show t.val * 512 + (y 0).val = cc0_transform_3 (grid0.coords t) (0 : Fin 2) * 512 + 1 * (y 0).val; rw [a0]; omega
    | ⟨1, _⟩ => show (y 1).val = cc0_transform_3 (grid0.coords t) (1 : Fin 2) * 1536 + 1 * (y 1).val; rw [a1]; omega
  · have h0 : (i 0).val < 1024 := (i 0).isLt
    have h1 : (i 1).val < 1536 := (i 1).isLt
    let t : Fin grid0.N := ⟨(i 0).val / 512, lt_of_lt_of_eq (by omega) N_0.symm⟩
    have ht : t.val = (i 0).val / 512 := rfl
    obtain ⟨a0, a1⟩ := ix_rows t
    refine ⟨t, flush_rows t, ?_⟩
    show i ∈ ((View.whole main_v1_1).slice (((cfgM m hO).win 7).rect t)).set
    refine (Finset.ext_iff.mp (View.set_slice_whole _ _) i).mpr ?_
    refine Rect.mem_set_unit.mpr ?_
    intro a
    match a with
    | ⟨0, _⟩ => show cc0_transform_3 (grid0.coords t) (0 : Fin 2) * 512 ≤ (i 0).val ∧ (i 0).val < cc0_transform_3 (grid0.coords t) (0 : Fin 2) * 512 + 512; rw [a0, ht]; omega
    | ⟨1, _⟩ => show cc0_transform_3 (grid0.coords t) (1 : Fin 2) * 1536 ≤ (i 1).val ∧ (i 1).val < cc0_transform_3 (grid0.coords t) (1 : Fin 2) * 1536 + 1536; rw [a1]; omega

theorem arr8 : (dats m hO 0 c).arrAt 8 (cfgM m hO).N = aM m c := by
  refine (dats m hO 0 c).arrAt_eq_of_cover 8 _ (fun t hf => ?_) (fun (i : S1024x1536.Idx) => ?_)
  · obtain ⟨a0, a1⟩ := ix_rows t
    show ((cfgM m hO).win 8).cut (grid0.coords t) ((dats m hO 0 c).after 8 t) = _
    rw [after0_8]
    refine funext fun (y : S512x1536.Idx) => ?_
    show (outsAt0 m hO c t).2.2.1 (((cfgM m hO).win 8).xinj (grid0.coords t) y) = _
    refine (congrArg (outsAt0 m hO c t).2.2.1 (eq_ix2 (((cfgM m hO).win 8).xinj (grid0.coords t) y : S512x1536.Idx))).trans ((b8 m c hO t _ _).trans (congrArg (aM m c) ?_))
    funext a
    apply Fin.ext
    match a with
    | ⟨0, _⟩ => show t.val * 512 + (y 0).val = cc0_transform_3 (grid0.coords t) (0 : Fin 2) * 512 + 1 * (y 0).val; rw [a0]; omega
    | ⟨1, _⟩ => show (y 1).val = cc0_transform_3 (grid0.coords t) (1 : Fin 2) * 1536 + 1 * (y 1).val; rw [a1]; omega
  · have h0 : (i 0).val < 1024 := (i 0).isLt
    have h1 : (i 1).val < 1536 := (i 1).isLt
    let t : Fin grid0.N := ⟨(i 0).val / 512, lt_of_lt_of_eq (by omega) N_0.symm⟩
    have ht : t.val = (i 0).val / 512 := rfl
    obtain ⟨a0, a1⟩ := ix_rows t
    refine ⟨t, flush_rows t, ?_⟩
    show i ∈ ((View.whole main_v1_2).slice (((cfgM m hO).win 8).rect t)).set
    refine (Finset.ext_iff.mp (View.set_slice_whole _ _) i).mpr ?_
    refine Rect.mem_set_unit.mpr ?_
    intro a
    match a with
    | ⟨0, _⟩ => show cc0_transform_3 (grid0.coords t) (0 : Fin 2) * 512 ≤ (i 0).val ∧ (i 0).val < cc0_transform_3 (grid0.coords t) (0 : Fin 2) * 512 + 512; rw [a0, ht]; omega
    | ⟨1, _⟩ => show cc0_transform_3 (grid0.coords t) (1 : Fin 2) * 1536 ≤ (i 1).val ∧ (i 1).val < cc0_transform_3 (grid0.coords t) (1 : Fin 2) * 1536 + 1536; rw [a1]; omega

theorem arr9 : (dats m hO 0 c).arrAt 9 (cfgM m hO).N = aV m c := by
  refine (dats m hO 0 c).arrAt_eq_of_cover 9 _ (fun t hf => ?_) (fun (i : S1024x1536.Idx) => ?_)
  · obtain ⟨a0, a1⟩ := ix_rows t
    show ((cfgM m hO).win 9).cut (grid0.coords t) ((dats m hO 0 c).after 9 t) = _
    rw [after0_9]
    refine funext fun (y : S512x1536.Idx) => ?_
    show (outsAt0 m hO c t).2.2.2.1 (((cfgM m hO).win 9).xinj (grid0.coords t) y) = _
    refine (congrArg (outsAt0 m hO c t).2.2.2.1 (eq_ix2 (((cfgM m hO).win 9).xinj (grid0.coords t) y : S512x1536.Idx))).trans ((b9 m c hO t _ _).trans (congrArg (aV m c) ?_))
    funext a
    apply Fin.ext
    match a with
    | ⟨0, _⟩ => show t.val * 512 + (y 0).val = cc0_transform_3 (grid0.coords t) (0 : Fin 2) * 512 + 1 * (y 0).val; rw [a0]; omega
    | ⟨1, _⟩ => show (y 1).val = cc0_transform_3 (grid0.coords t) (1 : Fin 2) * 1536 + 1 * (y 1).val; rw [a1]; omega
  · have h0 : (i 0).val < 1024 := (i 0).isLt
    have h1 : (i 1).val < 1536 := (i 1).isLt
    let t : Fin grid0.N := ⟨(i 0).val / 512, lt_of_lt_of_eq (by omega) N_0.symm⟩
    have ht : t.val = (i 0).val / 512 := rfl
    obtain ⟨a0, a1⟩ := ix_rows t
    refine ⟨t, flush_rows t, ?_⟩
    show i ∈ ((View.whole main_v1_3).slice (((cfgM m hO).win 9).rect t)).set
    refine (Finset.ext_iff.mp (View.set_slice_whole _ _) i).mpr ?_
    refine Rect.mem_set_unit.mpr ?_
    intro a
    match a with
    | ⟨0, _⟩ => show cc0_transform_3 (grid0.coords t) (0 : Fin 2) * 512 ≤ (i 0).val ∧ (i 0).val < cc0_transform_3 (grid0.coords t) (0 : Fin 2) * 512 + 512; rw [a0, ht]; omega
    | ⟨1, _⟩ => show cc0_transform_3 (grid0.coords t) (1 : Fin 2) * 1536 ≤ (i 1).val ∧ (i 1).val < cc0_transform_3 (grid0.coords t) (1 : Fin 2) * 1536 + 1536; rw [a1]; omega

theorem arr10 : (dats m hO 0 c).arrAt 10 (cfgM m hO).N = aB m c := by
  refine (dats m hO 0 c).arrAt_eq_of_cover 10 _ (fun t hf => ?_) (fun (i : S1x6144.Idx) => ?_)
  · show ((cfgM m hO).win 10).cut (grid0.coords t) ((dats m hO 0 c).after 10 t) = _
    rw [after0_10]
    refine funext fun (y : S1x6144.Idx) => ?_
    show (outsAt0 m hO c t).2.2.2.2 (((cfgM m hO).win 10).xinj (grid0.coords t) y) = _
    refine (congrArg (outsAt0 m hO c t).2.2.2.2 (eq_ix2 (((cfgM m hO).win 10).xinj (grid0.coords t) y : S1x6144.Idx))).trans ((b10 m c hO t _ _).trans (congrArg (aB m c) ?_))
    funext a
    apply Fin.ext
    match a with
    | ⟨0, _⟩ => show (y 0).val = 0 * 1 + 1 * (y 0).val; omega
    | ⟨1, _⟩ => show (y 1).val = 0 * 6144 + 1 * (y 1).val; omega
  · have h0 : (i 0).val < 1 := (i 0).isLt
    have h1 : (i 1).val < 6144 := (i 1).isLt
    let t : Fin grid0.N := ⟨1, lt_of_lt_of_eq (by omega) N_0.symm⟩
    refine ⟨t, flush_whole t rfl, ?_⟩
    show i ∈ ((View.whole main_v1_4).slice (((cfgM m hO).win 10).rect t)).set
    refine (Finset.ext_iff.mp (View.set_slice_whole _ _) i).mpr ?_
    refine Rect.mem_set_unit.mpr ?_
    intro a
    match a with
    | ⟨0, _⟩ => show 0 * 1 ≤ (i 0).val ∧ (i 0).val < 0 * 1 + 1; omega
    | ⟨1, _⟩ => show 0 * 6144 ≤ (i 1).val ∧ (i 1).val < 0 * 6144 + 6144; omega

end Arrays

open Cert.ReferenceEIdeal.Read in
/-- The kernel's five results and the reference's are the same arrays. -/
theorem algebraic : Cert.algebraic_KernelEIdeal_ReferenceEIdeal (hKernelEIdeal := Cert.KernelEIdeal.Gen.facts)
    (hReferenceEIdeal := Cert.ReferenceEIdeal.Gen.facts) := by
  intro m g m' g' _ hag
  refine ⟨fun c => aG m c, fun c => aD m c, fun c => aM m c, fun c => aV m c, fun c => aB m c, ?_, ?_⟩
  · refine (θ_run Cert.KernelEIdeal.defs _ _).mono (fun r h c => ?_) (run_main (F := Ideal) m g (ok_ideal m))
    exact ⟨((h c).1 6).trans (arr6 m c _), ((h c).1 7).trans (arr7 m c _), ((h c).1 8).trans (arr8 m c _), ((h c).1 9).trans (arr9 m c _), ((h c).1 10).trans (arr10 m c _),
      ((h c).1 0).trans (((dats m (ok_ideal m) 0 c).arrAt_in 0 rfl _).trans ((A_eq m (ok_ideal m) c 0).trans (V_main_arg0 m c))),
      ((h c).1 2).trans (((dats m (ok_ideal m) 0 c).arrAt_in 2 rfl _).trans ((A_eq m (ok_ideal m) c 2).trans (V_main_arg1 m c))),
      ((h c).1 3).trans (((dats m (ok_ideal m) 0 c).arrAt_in 3 rfl _).trans ((A_eq m (ok_ideal m) c 3).trans (V_main_arg2 m c))),
      ((h c).1 4).trans (((dats m (ok_ideal m) 0 c).arrAt_in 4 rfl _).trans ((A_eq m (ok_ideal m) c 4).trans (V_main_arg3 m c))),
      ((h c).1 5).trans (((dats m (ok_ideal m) 0 c).arrAt_in 5 rfl _).trans ((A_eq m (ok_ideal m) c 5).trans (V_main_arg4 m c)))⟩
  · refine (θ_run Cert.ReferenceEIdeal.defs _ _).mono (fun r h c => ?_) (Cert.ReferenceEIdeal.Value.run (F := Ideal) m' g')
    obtain ⟨a0, a1, a2, a3, a4⟩ := hag c
    obtain ⟨h0, h1, h2, h3, h4, hk⟩ := h c
    rw [a0, a1] at h0
    rw [a0, a1, a2, a3, a4] at h1
    rw [a0, a1, a3] at h2
    rw [a0, a1, a4] at h3
    rw [a1] at h4
    refine ⟨h0.trans ((val_main_v8_eq (F := Ideal) _ _).trans (funext fun i => ?_)), h1.trans ((val_main_v32_eq (F := Ideal) _ _ _ _ _).trans (funext fun i => ?_)),
      h2.trans ((val_main_v13_eq (F := Ideal) _ _ _).trans (funext fun i => ?_)), h3.trans ((val_main_v19_eq (F := Ideal) _ _ _).trans (funext fun i => ?_)),
      h4.trans ((val_main_v6_eq (F := Ideal) _).trans (funext fun i => ?_)), hk⟩
    all_goals obtain ⟨r, d, rfl⟩ : ∃ r d, i = ix2 r d := ⟨i 0, i 1, eq_ix2 i⟩
    · exact refG _ _ r d
    · exact refD _ _ _ _ _ r d
    · exact refM _ _ _ r d
    · exact refV _ _ _ r d
    · exact refB _ r d

end Cert.Proof.AdaBwd
-- ==== Proof.Claims.lean ====
/- The claims of the certificate, each proved from the generated frame, the generated run or a value module. -/
module

public import proofs.«01_k».proof.Defs
public import proofs.«01_k».proof.Proof.Gen.KernelUp
public import proofs.«01_k».proof.Proof.Gen.KernelUp.Frame
public import proofs.«01_k».proof.Proof.Gen.KernelUpIdeal
public import proofs.«01_k».proof.Proof.Gen.KernelUpIdeal.Frame
public import proofs.«01_k».proof.Proof.Gen.ReferenceUpIdeal
public import proofs.«01_k».proof.Proof.Gen.ReferenceUpIdeal.Run
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Frame
public import proofs.«01_k».proof.Proof.Gen.ReferenceDownIdeal
public import proofs.«01_k».proof.Proof.Gen.ReferenceDownIdeal.Run
public import proofs.«01_k».proof.Proof.Gen.KernelIn
public import proofs.«01_k».proof.Proof.Gen.KernelIn.Frame
public import proofs.«01_k».proof.Proof.Gen.KernelInIdeal
public import proofs.«01_k».proof.Proof.Gen.KernelInIdeal.Frame
public import proofs.«01_k».proof.Proof.Gen.ReferenceInIdeal
public import proofs.«01_k».proof.Proof.Gen.ReferenceInIdeal.Run
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.ReferenceOutIdeal
public import proofs.«01_k».proof.Proof.Gen.ReferenceOutIdeal.Run
public import proofs.«01_k».proof.Proof.Gen.KernelB
public import proofs.«01_k».proof.Proof.Gen.KernelB.Frame
public import proofs.«01_k».proof.Proof.Gen.KernelBIdeal
public import proofs.«01_k».proof.Proof.Gen.KernelBIdeal.Frame
public import proofs.«01_k».proof.Proof.Gen.ReferenceBIdeal
public import proofs.«01_k».proof.Proof.Gen.ReferenceBIdeal.Run
public import proofs.«01_k».proof.Proof.Gen.KernelA
public import proofs.«01_k».proof.Proof.Gen.KernelA.Frame
public import proofs.«01_k».proof.Proof.Gen.KernelAIdeal
public import proofs.«01_k».proof.Proof.Gen.KernelAIdeal.Frame
public import proofs.«01_k».proof.Proof.Gen.ReferenceAIdeal
public import proofs.«01_k».proof.Proof.Gen.ReferenceAIdeal.Run
public import proofs.«01_k».proof.Proof.Gen.KernelM
public import proofs.«01_k».proof.Proof.Gen.KernelM.Frame
public import proofs.«01_k».proof.Proof.Gen.KernelMIdeal
public import proofs.«01_k».proof.Proof.Gen.KernelMIdeal.Frame
public import proofs.«01_k».proof.Proof.Gen.ReferenceMIdeal
public import proofs.«01_k».proof.Proof.Gen.ReferenceMIdeal.Run
public import proofs.«01_k».proof.Proof.Gen.KernelF
public import proofs.«01_k».proof.Proof.Gen.KernelF.Frame
public import proofs.«01_k».proof.Proof.Gen.KernelFIdeal
public import proofs.«01_k».proof.Proof.Gen.KernelFIdeal.Frame
public import proofs.«01_k».proof.Proof.Gen.ReferenceFIdeal
public import proofs.«01_k».proof.Proof.Gen.ReferenceFIdeal.Run
public import proofs.«01_k».proof.Proof.Gen.KernelO
public import proofs.«01_k».proof.Proof.Gen.KernelO.Frame
public import proofs.«01_k».proof.Proof.Gen.KernelOIdeal
public import proofs.«01_k».proof.Proof.Gen.KernelOIdeal.Frame
public import proofs.«01_k».proof.Proof.Gen.ReferenceOIdeal
public import proofs.«01_k».proof.Proof.Gen.ReferenceOIdeal.Run
public import proofs.«01_k».proof.Proof.Gen.KernelE
public import proofs.«01_k».proof.Proof.Gen.KernelE.Frame
public import proofs.«01_k».proof.Proof.Gen.KernelEIdeal
public import proofs.«01_k».proof.Proof.Gen.KernelEIdeal.Frame
public import proofs.«01_k».proof.Proof.Gen.ReferenceEIdeal
public import proofs.«01_k».proof.Proof.Gen.ReferenceEIdeal.Run
public import proofs.«01_k».proof.Proof.Gen.Pre_finite_b
public import proofs.«01_k».proof.Proof.Gen.Pre_finite_a
public import proofs.«01_k».proof.Proof.Gen.Pre_finite_f
public import proofs.«01_k».proof.Proof.WgradUp
public import proofs.«01_k».proof.Proof.WgradIn
public import proofs.«01_k».proof.Proof.WgradDown
public import proofs.«01_k».proof.Proof.WgradOut
public import proofs.«01_k».proof.Proof.FfnBValue
public import proofs.«01_k».proof.Proof.FfnAValue
public import proofs.«01_k».proof.Proof.MixMValue
public import proofs.«01_k».proof.Proof.FfnFValue
public import proofs.«01_k».proof.Proof.AdamB
public import proofs.«01_k».proof.Proof.AdaValue

@[expose] public section

noncomputable section

namespace Cert.Proof

open Idealize.ShloMosaic Idealize.SL.Sem

theorem frame_KernelUp : Cert.quiescent_KernelUp (hKernelUp := Cert.KernelUp.Gen.facts) := fun m ρ _ => Cert.KernelUp.Gen.frame m ρ

theorem frame_KernelUpIdeal : Cert.quiescent_KernelUpIdeal (hKernelUpIdeal := Cert.KernelUpIdeal.Gen.facts) := fun m ρ _ => Cert.KernelUpIdeal.Gen.frame m ρ

theorem frame_ReferenceUpIdeal : Cert.quiescent_ReferenceUpIdeal (hReferenceUpIdeal := Cert.ReferenceUpIdeal.Gen.facts) := fun m ρ _ =>
  (θ_run Cert.ReferenceUpIdeal.defs _ _).mono (fun r h => ⟨fun c => (h c).2,
      Idealize.ShloMosaic.sem_eq_zero_of_no_sems (by decide) r.2⟩)
    (Cert.ReferenceUpIdeal.Value.run (F := Ideal) m ρ)

theorem frame_KernelDown : Cert.quiescent_KernelDown (hKernelDown := Cert.KernelDown.Gen.facts) := fun m ρ _ => Cert.KernelDown.Gen.frame m ρ

theorem frame_KernelDownIdeal : Cert.quiescent_KernelDownIdeal (hKernelDownIdeal := Cert.KernelDownIdeal.Gen.facts) := fun m ρ _ => Cert.KernelDownIdeal.Gen.frame m ρ

theorem frame_ReferenceDownIdeal : Cert.quiescent_ReferenceDownIdeal (hReferenceDownIdeal := Cert.ReferenceDownIdeal.Gen.facts) := fun m ρ _ =>
  (θ_run Cert.ReferenceDownIdeal.defs _ _).mono (fun r h => ⟨fun c => (h c).2,
      Idealize.ShloMosaic.sem_eq_zero_of_no_sems (by decide) r.2⟩)
    (Cert.ReferenceDownIdeal.Value.run (F := Ideal) m ρ)

theorem frame_KernelIn : Cert.quiescent_KernelIn (hKernelIn := Cert.KernelIn.Gen.facts) := fun m ρ _ => Cert.KernelIn.Gen.frame m ρ

theorem frame_KernelInIdeal : Cert.quiescent_KernelInIdeal (hKernelInIdeal := Cert.KernelInIdeal.Gen.facts) := fun m ρ _ => Cert.KernelInIdeal.Gen.frame m ρ

theorem frame_ReferenceInIdeal : Cert.quiescent_ReferenceInIdeal (hReferenceInIdeal := Cert.ReferenceInIdeal.Gen.facts) := fun m ρ _ =>
  (θ_run Cert.ReferenceInIdeal.defs _ _).mono (fun r h => ⟨fun c => (h c).2,
      Idealize.ShloMosaic.sem_eq_zero_of_no_sems (by decide) r.2⟩)
    (Cert.ReferenceInIdeal.Value.run (F := Ideal) m ρ)

theorem frame_KernelOut : Cert.quiescent_KernelOut (hKernelOut := Cert.KernelOut.Gen.facts) := fun m ρ _ => Cert.KernelOut.Gen.frame m ρ

theorem frame_KernelOutIdeal : Cert.quiescent_KernelOutIdeal (hKernelOutIdeal := Cert.KernelOutIdeal.Gen.facts) := fun m ρ _ => Cert.KernelOutIdeal.Gen.frame m ρ

theorem frame_ReferenceOutIdeal : Cert.quiescent_ReferenceOutIdeal (hReferenceOutIdeal := Cert.ReferenceOutIdeal.Gen.facts) := fun m ρ _ =>
  (θ_run Cert.ReferenceOutIdeal.defs _ _).mono (fun r h => ⟨fun c => (h c).2,
      Idealize.ShloMosaic.sem_eq_zero_of_no_sems (by decide) r.2⟩)
    (Cert.ReferenceOutIdeal.Value.run (F := Ideal) m ρ)

theorem frame_KernelB : Cert.quiescent_KernelB (hKernelB := Cert.KernelB.Gen.facts) := fun m ρ _ => Cert.KernelB.Gen.frame m ρ

theorem frame_KernelBIdeal : Cert.quiescent_KernelBIdeal (hKernelBIdeal := Cert.KernelBIdeal.Gen.facts) := fun m ρ _ => Cert.KernelBIdeal.Gen.frame m ρ

theorem frame_KernelBIdeal_finite : Cert.quiescent_KernelBIdeal_pre_finite_b (hKernelBIdeal := Cert.KernelBIdeal.Gen.facts) (hPre_finite_b := Cert.Pre_finite_b.Gen.facts) := fun m ρ _ => frame_KernelBIdeal m ρ trivial

theorem frame_ReferenceBIdeal : Cert.quiescent_ReferenceBIdeal (hReferenceBIdeal := Cert.ReferenceBIdeal.Gen.facts) := fun m ρ _ =>
  (θ_run Cert.ReferenceBIdeal.defs _ _).mono (fun r h => ⟨fun c => (h c).2.2.2.2.2.2.2,
      Idealize.ShloMosaic.sem_eq_zero_of_no_sems (by decide) r.2⟩)
    (Cert.ReferenceBIdeal.Value.run (F := Ideal) m ρ)

theorem frame_ReferenceBIdeal_finite : Cert.quiescent_ReferenceBIdeal_pre_finite_b (hReferenceBIdeal := Cert.ReferenceBIdeal.Gen.facts) (hPre_finite_b := Cert.Pre_finite_b.Gen.facts) := fun m ρ _ => frame_ReferenceBIdeal m ρ trivial

theorem frame_KernelA : Cert.quiescent_KernelA (hKernelA := Cert.KernelA.Gen.facts) := fun m ρ _ => Cert.KernelA.Gen.frame m ρ

theorem frame_KernelAIdeal : Cert.quiescent_KernelAIdeal (hKernelAIdeal := Cert.KernelAIdeal.Gen.facts) := fun m ρ _ => Cert.KernelAIdeal.Gen.frame m ρ

theorem frame_KernelAIdeal_finite : Cert.quiescent_KernelAIdeal_pre_finite_a (hKernelAIdeal := Cert.KernelAIdeal.Gen.facts) (hPre_finite_a := Cert.Pre_finite_a.Gen.facts) := fun m ρ _ => frame_KernelAIdeal m ρ trivial

theorem frame_ReferenceAIdeal : Cert.quiescent_ReferenceAIdeal (hReferenceAIdeal := Cert.ReferenceAIdeal.Gen.facts) := fun m ρ _ =>
  (θ_run Cert.ReferenceAIdeal.defs _ _).mono (fun r h => ⟨fun c => (h c).2.2.2,
      Idealize.ShloMosaic.sem_eq_zero_of_no_sems (by decide) r.2⟩)
    (Cert.ReferenceAIdeal.Value.run (F := Ideal) m ρ)

theorem frame_ReferenceAIdeal_finite : Cert.quiescent_ReferenceAIdeal_pre_finite_a (hReferenceAIdeal := Cert.ReferenceAIdeal.Gen.facts) (hPre_finite_a := Cert.Pre_finite_a.Gen.facts) := fun m ρ _ => frame_ReferenceAIdeal m ρ trivial

theorem frame_KernelM : Cert.quiescent_KernelM (hKernelM := Cert.KernelM.Gen.facts) := fun m ρ _ => Cert.KernelM.Gen.frame m ρ

theorem frame_KernelMIdeal : Cert.quiescent_KernelMIdeal (hKernelMIdeal := Cert.KernelMIdeal.Gen.facts) := fun m ρ _ => Cert.KernelMIdeal.Gen.frame m ρ

theorem frame_ReferenceMIdeal : Cert.quiescent_ReferenceMIdeal (hReferenceMIdeal := Cert.ReferenceMIdeal.Gen.facts) := fun m ρ _ =>
  (θ_run Cert.ReferenceMIdeal.defs _ _).mono (fun r h => ⟨fun c => (h c).2.2.2,
      Idealize.ShloMosaic.sem_eq_zero_of_no_sems (by decide) r.2⟩)
    (Cert.ReferenceMIdeal.Value.run (F := Ideal) m ρ)

theorem frame_KernelF : Cert.quiescent_KernelF (hKernelF := Cert.KernelF.Gen.facts) := fun m ρ _ => Cert.KernelF.Gen.frame m ρ

theorem frame_KernelFIdeal : Cert.quiescent_KernelFIdeal (hKernelFIdeal := Cert.KernelFIdeal.Gen.facts) := fun m ρ _ => Cert.KernelFIdeal.Gen.frame m ρ

theorem frame_KernelFIdeal_finite : Cert.quiescent_KernelFIdeal_pre_finite_f (hKernelFIdeal := Cert.KernelFIdeal.Gen.facts) (hPre_finite_f := Cert.Pre_finite_f.Gen.facts) := fun m ρ _ => frame_KernelFIdeal m ρ trivial

theorem frame_ReferenceFIdeal : Cert.quiescent_ReferenceFIdeal (hReferenceFIdeal := Cert.ReferenceFIdeal.Gen.facts) := fun m ρ _ =>
  (θ_run Cert.ReferenceFIdeal.defs _ _).mono (fun r h => ⟨fun c => (h c).2.2.2.2.2.2.2.2,
      Idealize.ShloMosaic.sem_eq_zero_of_no_sems (by decide) r.2⟩)
    (Cert.ReferenceFIdeal.Value.run (F := Ideal) m ρ)

theorem frame_ReferenceFIdeal_finite : Cert.quiescent_ReferenceFIdeal_pre_finite_f (hReferenceFIdeal := Cert.ReferenceFIdeal.Gen.facts) (hPre_finite_f := Cert.Pre_finite_f.Gen.facts) := fun m ρ _ => frame_ReferenceFIdeal m ρ trivial

theorem frame_KernelO : Cert.quiescent_KernelO (hKernelO := Cert.KernelO.Gen.facts) := fun m ρ _ => Cert.KernelO.Gen.frame m ρ

theorem frame_KernelOIdeal : Cert.quiescent_KernelOIdeal (hKernelOIdeal := Cert.KernelOIdeal.Gen.facts) := fun m ρ _ => Cert.KernelOIdeal.Gen.frame m ρ

theorem frame_ReferenceOIdeal : Cert.quiescent_ReferenceOIdeal (hReferenceOIdeal := Cert.ReferenceOIdeal.Gen.facts) := fun m ρ _ =>
  (θ_run Cert.ReferenceOIdeal.defs _ _).mono (fun r h => ⟨fun c => (h c).2.2.2,
      Idealize.ShloMosaic.sem_eq_zero_of_no_sems (by decide) r.2⟩)
    (Cert.ReferenceOIdeal.Value.run (F := Ideal) m ρ)

theorem frame_KernelE : Cert.quiescent_KernelE (hKernelE := Cert.KernelE.Gen.facts) := fun m ρ _ => Cert.KernelE.Gen.frame m ρ (Cert.Proof.AdaBwd.ok_bits m)

theorem frame_KernelEIdeal : Cert.quiescent_KernelEIdeal (hKernelEIdeal := Cert.KernelEIdeal.Gen.facts) := fun m ρ _ => Cert.KernelEIdeal.Gen.frame m ρ (Cert.Proof.AdaBwd.ok_ideal m)

theorem frame_ReferenceEIdeal : Cert.quiescent_ReferenceEIdeal (hReferenceEIdeal := Cert.ReferenceEIdeal.Gen.facts) := fun m ρ _ =>
  (θ_run Cert.ReferenceEIdeal.defs _ _).mono (fun r h => ⟨fun c => (h c).2.2.2.2.2,
      Idealize.ShloMosaic.sem_eq_zero_of_no_sems (by decide) r.2⟩)
    (Cert.ReferenceEIdeal.Value.run (F := Ideal) m ρ)

theorem preserves_KernelA_KernelAIdeal : Cert.preserves_KernelA_KernelAIdeal :=
  ⟨IdealRules.named_const.statement Cert.KernelAIdeal.κ "gate_cubic" .f32 0x3D922279#32 ((80338380498831 / 1125899906842624 : ℝ) : EReal) rfl,
    IdealRules.named_const.statement Cert.KernelAIdeal.κ "gate_slope" .f32 0x3E5B33B6#32 ((241015141496493 / 1125899906842624 : ℝ) : EReal) rfl⟩

/-- The kernel's result array and the reference's are one array of sums. -/
theorem algebraic_Up : Cert.algebraic_KernelUpIdeal_ReferenceUpIdeal (hKernelUpIdeal := Cert.KernelUpIdeal.Gen.facts) (hReferenceUpIdeal := Cert.ReferenceUpIdeal.Gen.facts) := by
  intro m g m' g' _ hag
  refine ⟨fun c => Cert.KernelUpIdeal.Value.G2 (F := Ideal) m c, Cert.KernelUpIdeal.Value.run (F := Ideal) m g, ?_⟩
  refine (θ_run Cert.ReferenceUpIdeal.defs _ _).mono (fun r h c => ⟨(h c).1.trans ?_, (h c).2⟩)
    (Cert.ReferenceUpIdeal.Value.run (F := Ideal) m' g')
  exact (Cert.ReferenceUpIdeal.Read.val_main_v6_eq (F := Ideal) _ _).trans
    (Cert.Proof.Up.value_eq m c _ _ (hag c).1 (hag c).2)

/-- The kernel's result array and the reference's are one array of sums. -/
theorem algebraic_Down : Cert.algebraic_KernelDownIdeal_ReferenceDownIdeal (hKernelDownIdeal := Cert.KernelDownIdeal.Gen.facts) (hReferenceDownIdeal := Cert.ReferenceDownIdeal.Gen.facts) := by
  intro m g m' g' _ hag
  refine ⟨fun c => Cert.KernelDownIdeal.Value.G2 (F := Ideal) m c, Cert.KernelDownIdeal.Value.run (F := Ideal) m g, ?_⟩
  refine (θ_run Cert.ReferenceDownIdeal.defs _ _).mono (fun r h c => ⟨(h c).1.trans ?_, (h c).2⟩)
    (Cert.ReferenceDownIdeal.Value.run (F := Ideal) m' g')
  exact (Cert.ReferenceDownIdeal.Read.val_main_v4_eq (F := Ideal) _ _).trans
    (Cert.Proof.Down.value_eq m c _ _ (hag c).1 (hag c).2)

/-- The kernel's result array and the reference's are one array of sums. -/
theorem algebraic_In : Cert.algebraic_KernelInIdeal_ReferenceInIdeal (hKernelInIdeal := Cert.KernelInIdeal.Gen.facts) (hReferenceInIdeal := Cert.ReferenceInIdeal.Gen.facts) := by
  intro m g m' g' _ hag
  refine ⟨fun c => Cert.KernelInIdeal.Value.G2 (F := Ideal) m c, Cert.KernelInIdeal.Value.run (F := Ideal) m g, ?_⟩
  refine (θ_run Cert.ReferenceInIdeal.defs _ _).mono (fun r h c => ⟨(h c).1.trans ?_, (h c).2⟩)
    (Cert.ReferenceInIdeal.Value.run (F := Ideal) m' g')
  exact (Cert.ReferenceInIdeal.Read.val_main_v6_eq (F := Ideal) _ _).trans
    (Cert.Proof.In.value_eq m c _ _ (hag c).1 (hag c).2)

/-- The kernel's result array and the reference's are one array of sums. -/
theorem algebraic_Out : Cert.algebraic_KernelOutIdeal_ReferenceOutIdeal (hKernelOutIdeal := Cert.KernelOutIdeal.Gen.facts) (hReferenceOutIdeal := Cert.ReferenceOutIdeal.Gen.facts) := by
  intro m g m' g' _ hag
  refine ⟨fun c => Cert.KernelOutIdeal.Value.G2 (F := Ideal) m c, Cert.KernelOutIdeal.Value.run (F := Ideal) m g, ?_⟩
  refine (θ_run Cert.ReferenceOutIdeal.defs _ _).mono (fun r h c => ⟨(h c).1.trans ?_, (h c).2⟩)
    (Cert.ReferenceOutIdeal.Value.run (F := Ideal) m' g')
  exact (Cert.ReferenceOutIdeal.Read.val_main_v4_eq (F := Ideal) _ _).trans
    (Cert.Proof.Out.value_eq m c _ _ (hag c).1 (hag c).2)

end Cert.Proof

end
-- ==== Proof.lean ====
/- The certificate: every claim of `Cert.Claim`, in the order the statement lists them. -/
module

public import proofs.«01_k».proof.Defs
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.ReferenceUpIdeal
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.ReferenceDownIdeal
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.Gen.KernelB
public import proofs.«01_k».proof.Proof.Gen.KernelB.Skeleton
public import proofs.«01_k».proof.Proof.Gen.KernelB.Launch
public import proofs.«01_k».proof.Proof.Gen.KernelB.Points
public import proofs.«01_k».proof.Proof.Gen.KernelB.Frame
public import proofs.«01_k».proof.Proof.Gen.KernelBIdeal
public import proofs.«01_k».proof.Proof.Gen.KernelBIdeal.Skeleton
public import proofs.«01_k».proof.Proof.Gen.KernelBIdeal.Launch
public import proofs.«01_k».proof.Proof.Gen.KernelBIdeal.Points
public import proofs.«01_k».proof.Proof.Gen.KernelBIdeal.Frame
public import proofs.«01_k».proof.Proof.Gen.ReferenceBIdeal
public import proofs.«01_k».proof.Proof.Gen.KernelA
public import proofs.«01_k».proof.Proof.Gen.KernelA.Skeleton
public import proofs.«01_k».proof.Proof.Gen.KernelA.Launch
public import proofs.«01_k».proof.Proof.Gen.KernelA.Points
public import proofs.«01_k».proof.Proof.Gen.KernelA.Frame
public import proofs.«01_k».proof.Proof.Gen.KernelAIdeal
public import proofs.«01_k».proof.Proof.Gen.KernelAIdeal.Skeleton
public import proofs.«01_k».proof.Proof.Gen.KernelAIdeal.Launch
public import proofs.«01_k».proof.Proof.Gen.KernelAIdeal.Points
public import proofs.«01_k».proof.Proof.Gen.KernelAIdeal.Frame
public import proofs.«01_k».proof.Proof.Gen.ReferenceAIdeal
public import proofs.«01_k».proof.Proof.Gen.KernelUpIdeal.Value
public import proofs.«01_k».proof.Proof.Gen.ReferenceUpIdeal.Run
public import proofs.«01_k».proof.Proof.Gen.ReferenceUpIdeal.Read
public import proofs.«01_k».proof.Proof.Gen.KernelDownIdeal.Value
public import proofs.«01_k».proof.Proof.Gen.ReferenceDownIdeal.Run
public import proofs.«01_k».proof.Proof.Gen.ReferenceDownIdeal.Read
public import proofs.«01_k».proof.Proof.Gen.KernelInIdeal.Value
public import proofs.«01_k».proof.Proof.Gen.ReferenceInIdeal.Run
public import proofs.«01_k».proof.Proof.Gen.ReferenceInIdeal.Read
public import proofs.«01_k».proof.Proof.Gen.KernelOutIdeal.Value
public import proofs.«01_k».proof.Proof.Gen.ReferenceOutIdeal.Run
public import proofs.«01_k».proof.Proof.Gen.ReferenceOutIdeal.Read
public import proofs.«01_k».proof.Proof.Gen.KernelBIdeal.Value
public import proofs.«01_k».proof.Proof.Gen.ReferenceBIdeal.Run
public import proofs.«01_k».proof.Proof.Gen.ReferenceBIdeal.Read
public import proofs.«01_k».proof.Proof.Gen.KernelAIdeal.Value
public import proofs.«01_k».proof.Proof.Gen.ReferenceAIdeal.Run
public import proofs.«01_k».proof.Proof.Gen.ReferenceAIdeal.Read
public import proofs.«01_k».proof.Proof.Claims
public import Idealize.ShloMosaic.Adequacy
public import Idealize.ShloMosaic.Init

@[expose] public section

noncomputable section

namespace Cert.Proof

open Idealize.ShloMosaic Idealize.SL.Sem Cert.KernelUp

theorem claim : Cert.Claim :=
  ⟨Cert.KernelUp.Gen.facts, Cert.KernelUpIdeal.Gen.facts, Cert.ReferenceUpIdeal.Gen.facts, Cert.KernelDown.Gen.facts, Cert.KernelDownIdeal.Gen.facts, Cert.ReferenceDownIdeal.Gen.facts, Cert.KernelIn.Gen.facts, Cert.KernelInIdeal.Gen.facts, Cert.ReferenceInIdeal.Gen.facts, Cert.KernelOut.Gen.facts, Cert.KernelOutIdeal.Gen.facts, Cert.ReferenceOutIdeal.Gen.facts, Cert.KernelB.Gen.facts, Cert.KernelBIdeal.Gen.facts, Cert.ReferenceBIdeal.Gen.facts, Cert.KernelA.Gen.facts, Cert.KernelAIdeal.Gen.facts, Cert.ReferenceAIdeal.Gen.facts, Cert.KernelM.Gen.facts, Cert.KernelMIdeal.Gen.facts, Cert.ReferenceMIdeal.Gen.facts, Cert.KernelF.Gen.facts, Cert.KernelFIdeal.Gen.facts, Cert.ReferenceFIdeal.Gen.facts, Cert.KernelO.Gen.facts, Cert.KernelOIdeal.Gen.facts, Cert.ReferenceOIdeal.Gen.facts, Cert.KernelE.Gen.facts, Cert.KernelEIdeal.Gen.facts, Cert.ReferenceEIdeal.Gen.facts, Cert.Pre_finite_b.Gen.facts, Cert.Pre_finite_a.Gen.facts, Cert.Pre_finite_f.Gen.facts,
    frame_KernelUp, frame_KernelUpIdeal, frame_ReferenceUpIdeal, frame_KernelDown, frame_KernelDownIdeal, frame_ReferenceDownIdeal, frame_KernelIn, frame_KernelInIdeal, frame_ReferenceInIdeal, frame_KernelOut, frame_KernelOutIdeal, frame_ReferenceOutIdeal, frame_KernelB, frame_KernelBIdeal, frame_KernelBIdeal_finite, frame_ReferenceBIdeal, frame_ReferenceBIdeal_finite, frame_KernelA, frame_KernelAIdeal, frame_KernelAIdeal_finite, frame_ReferenceAIdeal, frame_ReferenceAIdeal_finite, frame_KernelM, frame_KernelMIdeal, frame_ReferenceMIdeal, frame_KernelF, frame_KernelFIdeal, frame_KernelFIdeal_finite, frame_ReferenceFIdeal, frame_ReferenceFIdeal_finite, frame_KernelO, frame_KernelOIdeal, frame_ReferenceOIdeal, frame_KernelE, frame_KernelEIdeal, frame_ReferenceEIdeal, trivial, trivial, trivial, trivial, trivial, preserves_KernelA_KernelAIdeal, trivial, trivial, trivial, trivial, algebraic_Up, algebraic_Down, algebraic_In, algebraic_Out, Cert.Proof.FfnB.algebraic, Cert.Proof.FfnA.algebraic, Cert.Proof.MixM.algebraic, Cert.Proof.FfnF.algebraic, Cert.Proof.AdamB.algebraic, Cert.Proof.AdaBwd.algebraic⟩

end Cert.Proof

end
